-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v75) = v3 c
          ∧ r.2.mem ((c.tc : Thread Cert.Reference2Ideal.nD Cert.Reference2Ideal.τ).loc Cert.Reference2Ideal.main_v76) = v4 c
          ∧ r.2.mem ((c.tc : Thread Cert.Reference2Ideal.nD Cert.Reference2Ideal.τ).loc Cert.Reference2Ideal.main_v55) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_v22) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v106) = v0 c
          ∧ r.2.mem ((c.tc : Thread Cert.Reference8Ideal.nD Cert.Reference8Ideal.τ).loc Cert.Reference8Ideal.main_v107) = v1 c
          ∧ r.2.mem ((c.tc : Thread Cert.Reference8Ideal.nD Cert.Reference8Ideal.τ).loc Cert.Reference8Ideal.main_v108) = v2 c
          ∧ r.2.mem ((c.tc : Thread Cert.Reference8Ideal.nD Cert.Reference8Ideal.τ).loc Cert.Reference8Ideal.main_v109) = v3 c
          ∧ r.2.mem ((c.tc : Thread Cert.Reference8Ideal.nD Cert.Reference8Ideal.τ).loc Cert.Reference8Ideal.main_v84) = v4 c
          ∧ r.2.mem ((c.tc : Thread Cert.Reference8Ideal.nD Cert.Reference8Ideal.τ).loc Cert.Reference8Ideal.main_v89) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_v39) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_v21) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_v51) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v27) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v73) = v0 c
          ∧ r.2.mem ((c.tc : Thread Cert.Reference14Ideal.nD Cert.Reference14Ideal.τ).loc Cert.Reference14Ideal.main_v54) = v1 c
          ∧ r.2.mem ((c.tc : Thread Cert.Reference14Ideal.nD Cert.Reference14Ideal.τ).loc Cert.Reference14Ideal.main_v99) = v2 c
          ∧ r.2.mem ((c.tc : Thread Cert.Reference14Ideal.nD Cert.Reference14Ideal.τ).loc Cert.Reference14Ideal.main_v57) = v3 c
          ∧ r.2.mem ((c.tc : Thread Cert.Reference14Ideal.nD Cert.Reference14Ideal.τ).loc Cert.Reference14Ideal.main_v38) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S4096x512 : Shape := ⟨2, ![4096, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S_ : Shape := ⟨0, ![]⟩

class Facts : Prop where
  bcast_S_S4096x512 : S_.BroadcastsInDim S4096x512 (![] : Fin 0 → Fin S4096x512.rank)
  bcast_S_S32x64 : S_.BroadcastsInDim S32x64 (![] : Fin 0 → Fin S32x64.rank)
  bcast_S_S32 : S_.BroadcastsInDim S32 (![] : Fin 0 → Fin S32.rank)
  bcast_S_S32x16x64 : S_.BroadcastsInDim S32x16x64 (![] : Fin 0 → Fin S32x16x64.rank)

variable [Facts]

def fn {F : FTy → Type} [FloatOps F] (main_arg0 : FVec F S4096x512 .f32) (main_arg1 : FVec F S32x64 .f32) (main_arg2 : FVec F S32x64 .f32) (main_arg3 : FVec F S32 .f32) (main_arg4 : FVec F S32x64x16 .f32) (main_arg5 : FVec F S32x64x16 .f32) (main_arg6 : FVec F S32x16x64 .f32) (main_arg7 : FVec F S32x16x64 .f32) : IVec S4096x512 1 × IVec S32x64 1 × IVec S32x64 1 × IVec S32 1 × IVec S32x16x64 1 × IVec S32x16x64 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S32x64 .f32 := Host.absf main_arg1
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S32x64 .f32 := Host.absf main_arg2
  let main_cst_1 : FVec F S_ .f32 := constant S_ .f32 0x7F800000#32
  let main_v7 : FVec F S32x64 .f32 := broadcastInDim S32x64 ![] bcast_S_S32x64 main_cst_1
  let main_v8 : IVec S32x64 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32x16x64 .f32 := Host.absf main_arg6
  let main_cst_3 : FVec F S_ .f32 := constant S_ .f32 0x7F800000#32
  let main_v13 : FVec F S32x16x64 .f32 := broadcastInDim S32x16x64 ![] bcast_S_S32x16x64 main_cst_3
  let main_v14 : IVec S32x16x64 1 := cmpf .olt main_v12 main_v13
  let main_v15 : FVec F S32x16x64 .f32 := Host.absf main_arg7
  let main_cst_4 : FVec F S_ .f32 := constant S_ .f32 0x7F800000#32
  let main_v16 : FVec F S32x16x64 .f32 := broadcastInDim S32x16x64 ![] bcast_S_S32x16x64 main_cst_4
  let main_v17 : IVec S32x16x64 1 := cmpf .olt main_v15 main_v16
  (main_v2, main_v5, main_v8, main_v11, main_v14, main_v17)
-- ==== Pre_finite2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bitsLt_bf16_f32 : FTy.bits .bf16 < FTy.bits .f32
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .bf16) (main_arg4 : FVec F S1024x2816 .bf16) (main_arg5 : FVec F S2816x1024 .bf16) : IVec S4096x1024 1 × IVec S1x1024 1 × IVec S1024x2816 1 × IVec S2816x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := (extf .f32 · bitsLt_bf16_f32) main_arg4
  let main_v7 : FVec F S1024x2816 .f32 := Host.absf main_v6
  let main_cst_1 : FVec F S_ .f32 := constant S_ .f32 0x7F800000#32
  let main_v8 : FVec F S1024x2816 .f32 := broadcastInDim S1024x2816 ![] bcast_S_S1024x2816 main_cst_1
  let main_v9 : IVec S1024x2816 1 := cmpf .olt main_v7 main_v8
  let main_v10 : FVec F S2816x1024 .f32 := (extf .f32 · bitsLt_bf16_f32) main_arg5
  let main_v11 : FVec F S2816x1024 .f32 := Host.absf main_v10
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  (main_v2, main_v5, main_v9, main_v13)
-- ==== Pre_finite8.lean ====
abbrev S4096x1024 : Shape := ⟨2, ![4096, 1024]⟩
abbrev S1x1024 : Shape := ⟨2, ![1, 1024]⟩
abbrev S1024x1024 : Shape := ⟨2, ![1024, 1024]⟩
abbrev S8x256x256 : Shape := ⟨3, ![8, 256, 256]⟩
abbrev S4x256x256 : Shape := ⟨3, ![4, 256, 256]⟩
abbrev S_ : Shape := ⟨0, ![]⟩

class Facts : Prop where
  slices_S8x256x256_S4x256x256_0_0_0 : S8x256x256.Slices ![0, 0, 0] S4x256x256
  bcast_S_S1x1024 : S_.BroadcastsInDim S1x1024 (![] : Fin 0 → Fin S1x1024.rank)
  bitsLt_bf16_f32 : FTy.bits .bf16 < FTy.bits .f32
  bcast_S_S1024x1024 : S_.BroadcastsInDim S1024x1024 (![] : Fin 0 → Fin S1024x1024.rank)
  bcast_S_S4x256x256 : S_.BroadcastsInDim S4x256x256 (![] : Fin 0 → Fin S4x256x256.rank)

variable [Facts]

def fn {F : FTy → Type} [FloatOps F] (main_arg0 : FVec F S4096x1024 .f32) (main_arg1 : FVec F S4096x1024 .f32) (main_arg2 : FVec F S1x1024 .f32) (main_arg3 : FVec F S1024x1024 .bf16) (main_arg4 : FVec F S8x256x256 .bf16) (main_arg5 : FVec F S1024x1024 .bf16) : IVec S1x1024 1 × IVec S1024x1024 1 × IVec S4x256x256 1 :=
  let main_v0 : FVec F S4x256x256 .bf16 := (extractStridedSlice S4x256x256 ![0, 0, 0] · slices_S8x256x256_S4x256x256_0_0_0) main_arg4
  let main_v1 : FVec F S1x1024 .f32 := Host.absf main_arg2
  let main_cst : FVec F S_ .f32 := constant S_ .f32 0x7F800000#32
  let main_v2 : FVec F S1x1024 .f32 := broadcastInDim S1x1024 ![] bcast_S_S1x1024 main_cst
  let main_v3 : IVec S1x1024 1 := cmpf .olt main_v1 main_v2
  let main_v4 : FVec F S1024x1024 .f32 := (extf .f32 · bitsLt_bf16_f32) main_arg3
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S4x256x256 .f32 := (extf .f32 · bitsLt_bf16_f32) main_v0
  let main_v9 : FVec F S4x256x256 .f32 := Host.absf main_v8
  let main_cst_1 : FVec F S_ .f32 := constant S_ .f32 0x7F800000#32
  let main_v10 : FVec F S4x256x256 .f32 := broadcastInDim S4x256x256 ![] bcast_S_S4x256x256 main_cst_1
  let main_v11 : IVec S4x256x256 1 := cmpf .olt main_v9 main_v10
  (main_v3, main_v7, main_v11)
-- ==== Kernel.lean ====
abbrev S4096x512 : Shape := ⟨2, ![4096, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S32x64x1 : Shape := ⟨3, ![32, 64, 1]⟩
abbrev S8x8 : Shape := ⟨2, ![8, 8]⟩
abbrev S1x8x1x8x1 : Shape := ⟨5, ![1, 8, 1, 8, 1]⟩
abbrev S16x1x128 : Shape := ⟨3, ![16, 1, 128]⟩
abbrev S4x8x64x16 : Shape := ⟨4, ![4, 8, 64, 16]⟩
abbrev S4x16x8x64 : Shape := ⟨4, ![4, 16, 8, 64]⟩
abbrev S4x1x16x8x64 : Shape := ⟨5, ![4, 1, 16, 8, 64]⟩
abbrev S4x8x16x8x64 : Shape := ⟨5, ![4, 8, 16, 8, 64]⟩
abbrev S4x128x512 : Shape := ⟨3, ![4, 128, 512]⟩
abbrev S4x8x16x64 : Shape := ⟨4, ![4, 8, 16, 64]⟩
abbrev S4x64x8x16 : Shape := ⟨4, ![4, 64, 8, 16]⟩
abbrev S4x1x64x8x16 : Shape := ⟨5, ![4, 1, 64, 8, 16]⟩
abbrev S4x8x64x8x16 : Shape := ⟨5, ![4, 8, 64, 8, 16]⟩
abbrev S4x512x128 : Shape := ⟨3, ![4, 512, 128]⟩
abbrev S8x512x512 : Shape := ⟨3, ![8, 512, 512]⟩
abbrev S512x8x512 : Shape := ⟨3, ![512, 8, 512]⟩
abbrev S16x4096x128 : Shape := ⟨3, ![16, 4096, 128]⟩
abbrev S4096x128 : Shape := ⟨2, ![4096, 128]⟩
abbrev S1x512x128 : Shape := ⟨3, ![1, 512, 128]⟩
abbrev S4x1x128 : Shape := ⟨3, ![4, 1, 128]⟩
abbrev S4x4096x128 : Shape := ⟨3, ![4, 4096, 128]⟩
abbrev S512x128 : Shape := ⟨2, ![512, 128]⟩
abbrev S512x512 : Shape := ⟨2, ![512, 512]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩
abbrev S16x128 : Shape := ⟨2, ![16, 128]⟩
abbrev S1x16x128 : Shape := ⟨3, ![1, 16, 128]⟩

abbrev nBuf : Space → Nat
  | .hbm => 90
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32, .f32⟩
  | .hbm, ⟨9, _⟩ => ⟨S32x1, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S32x64x1, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64x1, .f32⟩
  | .hbm, ⟨35, _⟩ => ⟨S32x64x16, .f32⟩
  | .hbm, ⟨36, _⟩ => ⟨S32x64x16, .f32⟩
  | .hbm, ⟨37, _⟩ => ⟨S32x64x16, .f32⟩
  | .hbm, ⟨38, _⟩ => ⟨S32x64x16, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x16, .f32⟩
  | .hbm, ⟨43, _⟩ => ⟨S32x64x16, .f32⟩
  | .hbm, ⟨44, _⟩ => ⟨S32x64x16, .f32⟩
  | .hbm, ⟨45, _⟩ => ⟨S8x8, .i32⟩
  | .hbm, ⟨46, _⟩ => ⟨S8x8, .i32⟩
  | .hbm, ⟨47, _⟩ => ⟨S_, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S8x8, .f32⟩
  | .hbm, ⟨52, _⟩ => ⟨S1x8x1x8x1, .f32⟩
  | .hbm, ⟨53, _⟩ => ⟨S16x1x128, .f32⟩
  | .hbm, ⟨54, _⟩ => ⟨S16x1x128, .f32⟩
  | .hbm, ⟨55, _⟩ => ⟨S4x8x64x16, .f32⟩
  | .hbm, ⟨56, _⟩ => ⟨S4x16x8x64, .f32⟩
  | .hbm, ⟨57, _⟩ => ⟨S4x1x16x8x64, .f32⟩
  | .hbm, ⟨58, _⟩ => ⟨S4x8x16x8x64, .f32⟩
  | .hbm, ⟨59, _⟩ => ⟨S4x8x16x8x64, .f32⟩
  | .hbm, ⟨60, _⟩ => ⟨S4x8x16x8x64, .f32⟩
  | .hbm, ⟨61, _⟩ => ⟨S4x128x512, .f32⟩
  | .hbm, ⟨62, _⟩ => ⟨S4x8x64x16, .f32⟩
  | .hbm, ⟨63, _⟩ => ⟨S4x16x8x64, .f32⟩
  | .hbm, ⟨64, _⟩ => ⟨S4x1x16x8x64, .f32⟩
  | .hbm, ⟨65, _⟩ => ⟨S4x8x16x8x64, .f32⟩
  | .hbm, ⟨66, _⟩ => ⟨S4x8x16x8x64, .f32⟩
  | .hbm, ⟨67, _⟩ => ⟨S4x8x16x8x64, .f32⟩
  | .hbm, ⟨68, _⟩ => ⟨S4x128x512, .f32⟩
  | .hbm, ⟨69, _⟩ => ⟨S4x8x16x64, .f32⟩
  | .hbm, ⟨70, _⟩ => ⟨S4x64x8x16, .f32⟩
  | .hbm, ⟨71, _⟩ => ⟨S4x1x64x8x16, .f32⟩
  | .hbm, ⟨72, _⟩ => ⟨S4x8x64x8x16, .f32⟩
  | .hbm, ⟨73, _⟩ => ⟨S4x8x64x8x16, .f32⟩
  | .hbm, ⟨74, _⟩ => ⟨S4x8x64x8x16, .f32⟩
  | .hbm, ⟨75, _⟩ => ⟨S4x512x128, .f32⟩
  | .hbm, ⟨76, _⟩ => ⟨S4x8x16x64, .f32⟩
  | .hbm, ⟨77, _⟩ => ⟨S4x64x8x16, .f32⟩
  | .hbm, ⟨78, _⟩ => ⟨S4x1x64x8x16, .f32⟩
  | .hbm, ⟨79, _⟩ => ⟨S4x8x64x8x16, .f32⟩
  | .hbm, ⟨80, _⟩ => ⟨S4x8x64x8x16, .f32⟩
  | .hbm, ⟨81, _⟩ => ⟨S4x8x64x8x16, .f32⟩
  | .hbm, ⟨82, _⟩ => ⟨S4x512x128, .f32⟩
  | .hbm, ⟨83, _⟩ => ⟨S4x512x128, .f32⟩
  | .hbm, ⟨84, _⟩ => ⟨S8x512x512, .f32⟩
  | .hbm, ⟨85, _⟩ => ⟨S512x8x512, .f32⟩
  | .hbm, ⟨86, _⟩ => ⟨S4096x512, .f32⟩
  | .hbm, ⟨87, _⟩ => ⟨S16x1x128, .f32⟩
  | .hbm, ⟨88, _⟩ => ⟨S16x4096x128, .bf16⟩
  | .hbm, ⟨89, _⟩ => ⟨S16x4096x128, .bf16⟩
  | .local _ .vmem, ⟨0, _⟩ => ⟨S4096x128, .f32⟩
  | .local _ .vmem, ⟨1, _⟩ => ⟨S4096x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S4x1x128, .f32⟩
  | .local _ .vmem, ⟨7, _⟩ => ⟨S4x1x128, .f32⟩
  | .local _ .vmem, ⟨8, _⟩ => ⟨S4x1x128, .f32⟩
  | .local _ .vmem, ⟨9, _⟩ => ⟨S4x1x128, .f32⟩
  | .local _ .vmem, ⟨10, _⟩ => ⟨S4x4096x128, .bf16⟩
  | .local _ .vmem, ⟨11, _⟩ => ⟨S4x4096x128, .bf16⟩
  | .local _ .vmem, ⟨12, _⟩ => ⟨S4x4096x128, .bf16⟩
  | .local _ .vmem, ⟨13, _⟩ => ⟨S4x4096x128, .bf16⟩
  | .local _ .vmem, ⟨14, _⟩ => ⟨S4x4096x128, .f32⟩
  | .local _ .vmem, ⟨15, _⟩ => ⟨S4x4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78_0 : Ref sig .tc := ⟨.hbm, 88, rfl⟩
abbrev main_v78_1 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c512_i32_120 : BitVec 32 := 512#32
  let v559 : BitVec 32 := Scalar.muli arg10 c512_i32_120
  v559
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32_120 : BitVec 32 := 512#32
  let v559 : BitVec 32 := Scalar.muli arg10 c512_i32_120
  let v560 : BitVec 32 := v559
  let v561 : Index := Scalar.indexCast v560
  let c0_121 : Index := 0#32
  ![v561.toNat, 0]
def k0_off2 (k0_t1 : Fin k0_t1_loop.trips) : Fin 3 → Nat :=
  let c0_130 : Index := 0#32
  let c0_i32 : BitVec 32 := 0#32
  let c1_i32 : BitVec 32 := 1#32
  let arg10 : BitVec 32 := Scf.iv c0_i32 c1_i32 k0_t1
  let c512_i32_120 : BitVec 32 := 512#32
  let v559 : BitVec 32 := Scalar.muli arg10 c512_i32_120
  let v560 : BitVec 32 := v559
  let v575 : Index := Scalar.indexCast v560
  let c0_131 : Index := 0#32
  ![0, v575.toNat, 0]
def k0_off3 (k0_t1 : Fin k0_t1_loop.trips) : Fin 3 → Nat :=
  let c1_134 : Index := 1#32
  let c0_i32 : BitVec 32 := 0#32
  let c1_i32 : BitVec 32 := 1#32
  let arg10 : BitVec 32 := Scf.iv c0_i32 c1_i32 k0_t1
  let c512_i32_120 : BitVec 32 := 512#32
  let v559 : BitVec 32 := Scalar.muli arg10 c512_i32_120
  let v560 : BitVec 32 := v559
  let v585 : Index := Scalar.indexCast v560
  let c0_135 : Index := 0#32
  ![1, v585.toNat, 0]
def k0_off4 (k0_t1 : Fin k0_t1_loop.trips) : Fin 3 → Nat :=
  let c2_138 : Index := 2#32
  let c0_i32 : BitVec 32 := 0#32
  let c1_i32 : BitVec 32 := 1#32
  let arg10 : BitVec 32 := Scf.iv c0_i32 c1_i32 k0_t1
  let c512_i32_120 : BitVec 32 := 512#32
  let v559 : BitVec 32 := Scalar.muli arg10 c512_i32_120
  let v560 : BitVec 32 := v559
  let v595 : Index := Scalar.indexCast v560
  let c0_139 : Index := 0#32
  ![2, v595.toNat, 0]
def k0_off5 (k0_t1 : Fin k0_t1_loop.trips) : Fin 3 → Nat :=
  let c3_142 : Index := 3#32
  let c0_i32 : BitVec 32 := 0#32
  let c1_i32 : BitVec 32 := 1#32
  let arg10 : BitVec 32 := Scf.iv c0_i32 c1_i32 k0_t1
  let c512_i32_120 : BitVec 32 := 512#32
  let v559 : BitVec 32 := Scalar.muli arg10 c512_i32_120
  let v560 : BitVec 32 := v559
  let v605 : Index := Scalar.indexCast v560
  let c0_143 : Index := 0#32
  ![3, v605.toNat, 0]
@[reducible] def k0_t2_loop : Scf.Loop 32 :=
  let c0_i32_21 : BitVec 32 := 0#32
  let c512_i32 : BitVec 32 := 512#32
  let v35 : BitVec 32 := Scalar.addi c0_i32_21 c512_i32
  let c1_i32_22 : BitVec 32 := 1#32
  ⟨c0_i32_21, v35, c1_i32_22⟩
def k0_mult2 (k0_t2 : Fin k0_t2_loop.trips) : BitVec 32 :=
  let c511_i32 : BitVec 32 := 511#32
  let c0_i32_21 : BitVec 32 := 0#32
  let c1_i32_22 : BitVec 32 := 1#32
  let arg10 : BitVec 32 := Scf.iv c0_i32_21 c1_i32_22 k0_t2
  let v565 : BitVec 32 := Scalar.subi c511_i32 arg10
  let c8_i32_120 : BitVec 32 := 8#32
  let v566 : BitVec 32 := Scalar.muli v565 c8_i32_120
  v566
def k0_off6 (k0_t2 : Fin k0_t2_loop.trips) : Fin 3 → Nat :=
  let c0_121 : Index := 0#32
  let c511_i32 : BitVec 32 := 511#32
  let c0_i32_21 : BitVec 32 := 0#32
  let c1_i32_22 : BitVec 32 := 1#32
  let arg10 : BitVec 32 := Scf.iv c0_i32_21 c1_i32_22 k0_t2
  let v565 : BitVec 32 := Scalar.subi c511_i32 arg10
  let c8_i32_120 : BitVec 32 := 8#32
  let v566 : BitVec 32 := Scalar.muli v565 c8_i32_120
  let v567 : BitVec 32 := v566
  let v568 : Index := Scalar.indexCast v567
  let c0_122 : Index := 0#32
  ![0, v568.toNat, 0]
def k0_mult3 (k0_t2 : Fin k0_t2_loop.trips) : BitVec 32 :=
  let c511_i32_123 : BitVec 32 := 511#32
  let c0_i32_21 : BitVec 32 := 0#32
  let c1_i32_22 : BitVec 32 := 1#32
  let arg10 : BitVec 32 := Scf.iv c0_i32_21 c1_i32_22 k0_t2
  let v572 : BitVec 32 := Scalar.subi c511_i32_123 arg10
  let c8_i32_124 : BitVec 32 := 8#32
  let v573 : BitVec 32 := Scalar.muli v572 c8_i32_124
  v573
def k0_mult4 (k0_t2 : Fin k0_t2_loop.trips) : BitVec 32 :=
  let c511_i32_127 : BitVec 32 := 511#32
  let c0_i32_21 : BitVec 32 := 0#32
  let c1_i32_22 : BitVec 32 := 1#32
  let arg10 : BitVec 32 := Scf.iv c0_i32_21 c1_i32_22 k0_t2
  let v579 : BitVec 32 := Scalar.subi c511_i32_127 arg10
  let c8_i32_128 : BitVec 32 := 8#32
  let v580 : BitVec 32 := Scalar.muli v579 c8_i32_128
  v580
def k0_mult5 (k0_t2 : Fin k0_t2_loop.trips) : BitVec 32 :=
  let c511_i32_131 : BitVec 32 := 511#32
  let c0_i32_21 : BitVec 32 := 0#32
  let c1_i32_22 : BitVec 32 := 1#32
  let arg10 : BitVec 32 := Scf.iv c0_i32_21 c1_i32_22 k0_t2
  let v586 : BitVec 32 := Scalar.subi c511_i32_131 arg10
  let c8_i32_132 : BitVec 32 := 8#32
  let v587 : BitVec 32 := Scalar.muli v586 c8_i32_132
  v587
def k0_mult6 (k0_t2 : Fin k0_t2_loop.trips) : BitVec 32 :=
  let c511_i32_135 : BitVec 32 := 511#32
  let c0_i32_21 : BitVec 32 := 0#32
  let c1_i32_22 : BitVec 32 := 1#32
  let arg10 : BitVec 32 := Scf.iv c0_i32_21 c1_i32_22 k0_t2
  let v599 : BitVec 32 := Scalar.subi c511_i32_135 arg10
  let c8_i32_136 : BitVec 32 := 8#32
  let v600 : BitVec 32 := Scalar.muli v599 c8_i32_136
  v600
def k0_off7 (k0_t2 : Fin k0_t2_loop.trips) : Fin 3 → Nat :=
  let c1_137 : Index := 1#32
  let c511_i32_135 : BitVec 32 := 511#32
  let c0_i32_21 : BitVec 32 := 0#32
  let c1_i32_22 : BitVec 32 := 1#32
  let arg10 : BitVec 32 := Scf.iv c0_i32_21 c1_i32_22 k0_t2
  let v599 : BitVec 32 := Scalar.subi c511_i32_135 arg10
  let c8_i32_136 : BitVec 32 := 8#32
  let v600 : BitVec 32 := Scalar.muli v599 c8_i32_136
  let v601 : BitVec 32 := v600
  let v602 : Index := Scalar.indexCast v601
  let c0_138 : Index := 0#32
  ![1, v602.toNat, 0]
def k0_mult7 (k0_t2 : Fin k0_t2_loop.trips) : BitVec 32 :=
  let c511_i32_139 : BitVec 32 := 511#32
  let c0_i32_21 : BitVec 32 := 0#32
  let c1_i32_22 : BitVec 32 := 1#32
  let arg10 : BitVec 32 := Scf.iv c0_i32_21 c1_i32_22 k0_t2
  let v606 : BitVec 32 := Scalar.subi c511_i32_139 arg10
  let c8_i32_140 : BitVec 32 := 8#32
  let v607 : BitVec 32 := Scalar.muli v606 c8_i32_140
  v607
def k0_mult8 (k0_t2 : Fin k0_t2_loop.trips) : BitVec 32 :=
  let c511_i32_143 : BitVec 32 := 511#32
  let c0_i32_21 : BitVec 32 := 0#32
  let c1_i32_22 : BitVec 32 := 1#32
  let arg10 : BitVec 32 := Scf.iv c0_i32_21 c1_i32_22 k0_t2
  let v613 : BitVec 32 := Scalar.subi c511_i32_143 arg10
  let c8_i32_144 : BitVec 32 := 8#32
  let v614 : BitVec 32 := Scalar.muli v613 c8_i32_144
  v614
def k0_mult9 (k0_t2 : Fin k0_t2_loop.trips) : BitVec 32 :=
  let c511_i32_147 : BitVec 32 := 511#32
  let c0_i32_21 : BitVec 32 := 0#32
  let c1_i32_22 : BitVec 32 := 1#32
  let arg10 : BitVec 32 := Scf.iv c0_i32_21 c1_i32_22 k0_t2
  let v620 : BitVec 32 := Scalar.subi c511_i32_147 arg10
  let c8_i32_148 : BitVec 32 := 8#32
  let v621 : BitVec 32 := Scalar.muli v620 c8_i32_148
  v621
def k0_mult10 (k0_t2 : Fin k0_t2_loop.trips) : BitVec 32 :=
  let c511_i32_151 : BitVec 32 := 511#32
  let c0_i32_21 : BitVec 32 := 0#32
  let c1_i32_22 : BitVec 32 := 1#32
  let arg10 : BitVec 32 := Scf.iv c0_i32_21 c1_i32_22 k0_t2
  let v633 : BitVec 32 := Scalar.subi c511_i32_151 arg10
  let c8_i32_152 : BitVec 32 := 8#32
  let v634 : BitVec 32 := Scalar.muli v633 c8_i32_152
  v634
def k0_off8 (k0_t2 : Fin k0_t2_loop.trips) : Fin 3 → Nat :=
  let c2_153 : Index := 2#32
  let c511_i32_151 : BitVec 32 := 511#32
  let c0_i32_21 : BitVec 32 := 0#32
  let c1_i32_22 : BitVec 32 := 1#32
  let arg10 : BitVec 32 := Scf.iv c0_i32_21 c1_i32_22 k0_t2
  let v633 : BitVec 32 := Scalar.subi c511_i32_151 arg10
  let c8_i32_152 : BitVec 32 := 8#32
  let v634 : BitVec 32 := Scalar.muli v633 c8_i32_152
  let v635 : BitVec 32 := v634
  let v636 : Index := Scalar.indexCast v635
  let c0_154 : Index := 0#32
  ![2, v636.toNat, 0]
def k0_mult11 (k0_t2 : Fin k0_t2_loop.trips) : BitVec 32 :=
  let c511_i32_155 : BitVec 32 := 511#32
  let c0_i32_21 : BitVec 32 := 0#32
  let c1_i32_22 : BitVec 32 := 1#32
  let arg10 : BitVec 32 := Scf.iv c0_i32_21 c1_i32_22 k0_t2
  let v640 : BitVec 32 := Scalar.subi c511_i32_155 arg10
  let c8_i32_156 : BitVec 32 := 8#32
  let v641 : BitVec 32 := Scalar.muli v640 c8_i32_156
  v641
def k0_mult12 (k0_t2 : Fin k0_t2_loop.trips) : BitVec 32 :=
  let c511_i32_159 : BitVec 32 := 511#32
  let c0_i32_21 : BitVec 32 := 0#32
  let c1_i32_22 : BitVec 32 := 1#32
  let arg10 : BitVec 32 := Scf.iv c0_i32_21 c1_i32_22 k0_t2
  let v647 : BitVec 32 := Scalar.subi c511_i32_159 arg10
  let c8_i32_160 : BitVec 32 := 8#32
  let v648 : BitVec 32 := Scalar.muli v647 c8_i32_160
  v648
def k0_mult13 (k0_t2 : Fin k0_t2_loop.trips) : BitVec 32 :=
  let c511_i32_163 : BitVec 32 := 511#32
  let c0_i32_21 : BitVec 32 := 0#32
  let c1_i32_22 : BitVec 32 := 1#32
  let arg10 : BitVec 32 := Scf.iv c0_i32_21 c1_i32_22 k0_t2
  let v654 : BitVec 32 := Scalar.subi c511_i32_163 arg10
  let c8_i32_164 : BitVec 32 := 8#32
  let v655 : BitVec 32 := Scalar.muli v654 c8_i32_164
  v655
def k0_mult14 (k0_t2 : Fin k0_t2_loop.trips) : BitVec 32 :=
  let c511_i32_167 : BitVec 32 := 511#32
  let c0_i32_21 : BitVec 32 := 0#32
  let c1_i32_22 : BitVec 32 := 1#32
  let arg10 : BitVec 32 := Scf.iv c0_i32_21 c1_i32_22 k0_t2
  let v667 : BitVec 32 := Scalar.subi c511_i32_167 arg10
  let c8_i32_168 : BitVec 32 := 8#32
  let v668 : BitVec 32 := Scalar.muli v667 c8_i32_168
  v668
def k0_off9 (k0_t2 : Fin k0_t2_loop.trips) : Fin 3 → Nat :=
  let c3_169 : Index := 3#32
  let c511_i32_167 : BitVec 32 := 511#32
  let c0_i32_21 : BitVec 32 := 0#32
  let c1_i32_22 : BitVec 32 := 1#32
  let arg10 : BitVec 32 := Scf.iv c0_i32_21 c1_i32_22 k0_t2
  let v667 : BitVec 32 := Scalar.subi c511_i32_167 arg10
  let c8_i32_168 : BitVec 32 := 8#32
  let v668 : BitVec 32 := Scalar.muli v667 c8_i32_168
  let v669 : BitVec 32 := v668
  let v670 : Index := Scalar.indexCast v669
  let c0_170 : Index := 0#32
  ![3, v670.toNat, 0]
def k0_mult15 (k0_t2 : Fin k0_t2_loop.trips) : BitVec 32 :=
  let c511_i32_171 : BitVec 32 := 511#32
  let c0_i32_21 : BitVec 32 := 0#32
  let c1_i32_22 : BitVec 32 := 1#32
  let arg10 : BitVec 32 := Scf.iv c0_i32_21 c1_i32_22 k0_t2
  let v674 : BitVec 32 := Scalar.subi c511_i32_171 arg10
  let c8_i32_172 : BitVec 32 := 8#32
  let v675 : BitVec 32 := Scalar.muli v674 c8_i32_172
  v675
def k0_mult16 (k0_t2 : Fin k0_t2_loop.trips) : BitVec 32 :=
  let c511_i32_175 : BitVec 32 := 511#32
  let c0_i32_21 : BitVec 32 := 0#32
  let c1_i32_22 : BitVec 32 := 1#32
  let arg10 : BitVec 32 := Scf.iv c0_i32_21 c1_i32_22 k0_t2
  let v681 : BitVec 32 := Scalar.subi c511_i32_175 arg10
  let c8_i32_176 : BitVec 32 := 8#32
  let v682 : BitVec 32 := Scalar.muli v681 c8_i32_176
  v682
def k0_mult17 (k0_t2 : Fin k0_t2_loop.trips) : BitVec 32 :=
  let c511_i32_179 : BitVec 32 := 511#32
  let c0_i32_21 : BitVec 32 := 0#32
  let c1_i32_22 : BitVec 32 := 1#32
  let arg10 : BitVec 32 := Scf.iv c0_i32_21 c1_i32_22 k0_t2
  let v688 : BitVec 32 := Scalar.subi c511_i32_179 arg10
  let c8_i32_180 : BitVec 32 := 8#32
  let v689 : BitVec 32 := Scalar.muli v688 c8_i32_180
  v689
@[reducible] def k0_t3_loop : Scf.Loop 32 :=
  let c0_i32_117 : BitVec 32 := 0#32
  let c256_i32 : BitVec 32 := 256#32
  let v557 : BitVec 32 := Scalar.addi c0_i32_117 c256_i32
  let c1_i32_118 : BitVec 32 := 1#32
  ⟨c0_i32_117, v557, c1_i32_118⟩
def k0_mult18 (k0_t3 : Fin k0_t3_loop.trips) : BitVec 32 :=
  let c255_i32 : BitVec 32 := 255#32
  let c0_i32_117 : BitVec 32 := 0#32
  let c1_i32_118 : BitVec 32 := 1#32
  let arg10 : BitVec 32 := Scf.iv c0_i32_117 c1_i32_118 k0_t3
  let v562 : BitVec 32 := Scalar.subi c255_i32 arg10
  let c16_i32 : BitVec 32 := 16#32
  let v563 : BitVec 32 := Scalar.muli v562 c16_i32
  v563
def k0_mult19 (k0_t3 : Fin k0_t3_loop.trips) : BitVec 32 :=
  let c511_i32 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v583 : BitVec 32 := Scalar.subi c511_i32 v559
  let c8_i32_122 : BitVec 32 := 8#32
  let v584 : BitVec 32 := Scalar.muli v583 c8_i32_122
  v584
def k0_off10 (k0_t3 : Fin k0_t3_loop.trips) : Fin 3 → Nat :=
  let c0_123 : Index := 0#32
  let c511_i32 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v583 : BitVec 32 := Scalar.subi c511_i32 v559
  let c8_i32_122 : BitVec 32 := 8#32
  let v584 : BitVec 32 := Scalar.muli v583 c8_i32_122
  let v585 : BitVec 32 := v584
  let v586 : Index := Scalar.indexCast v585
  let c0_124 : Index := 0#32
  ![0, v586.toNat, 0]
def k0_mult20 (k0_t3 : Fin k0_t3_loop.trips) : BitVec 32 :=
  let c511_i32_125 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v590 : BitVec 32 := Scalar.subi c511_i32_125 v559
  let c8_i32_126 : BitVec 32 := 8#32
  let v591 : BitVec 32 := Scalar.muli v590 c8_i32_126
  v591
def k0_mult21 (k0_t3 : Fin k0_t3_loop.trips) : BitVec 32 :=
  let c511_i32_129 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v597 : BitVec 32 := Scalar.subi c511_i32_129 v561
  let c8_i32_130 : BitVec 32 := 8#32
  let v598 : BitVec 32 := Scalar.muli v597 c8_i32_130
  v598
def k0_off11 (k0_t3 : Fin k0_t3_loop.trips) : Fin 3 → Nat :=
  let c0_131 : Index := 0#32
  let c511_i32_129 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v597 : BitVec 32 := Scalar.subi c511_i32_129 v561
  let c8_i32_130 : BitVec 32 := 8#32
  let v598 : BitVec 32 := Scalar.muli v597 c8_i32_130
  let v599 : BitVec 32 := v598
  let v600 : Index := Scalar.indexCast v599
  let c0_132 : Index := 0#32
  ![0, v600.toNat, 0]
def k0_mult22 (k0_t3 : Fin k0_t3_loop.trips) : BitVec 32 :=
  let c511_i32_133 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v604 : BitVec 32 := Scalar.subi c511_i32_133 v561
  let c8_i32_134 : BitVec 32 := 8#32
  let v605 : BitVec 32 := Scalar.muli v604 c8_i32_134
  v605
def k0_off12 (k0_t3 : Fin k0_t3_loop.trips) : Fin 3 → Nat :=
  let c0_137 : Index := 0#32
  let c255_i32 : BitVec 32 := 255#32
  let c0_i32_117 : BitVec 32 := 0#32
  let c1_i32_118 : BitVec 32 := 1#32
  let arg10 : BitVec 32 := Scf.iv c0_i32_117 c1_i32_118 k0_t3
  let v562 : BitVec 32 := Scalar.subi c255_i32 arg10
  let c16_i32 : BitVec 32 := 16#32
  let v563 : BitVec 32 := Scalar.muli v562 c16_i32
  let v564 : BitVec 32 := v563
  let v613 : Index := Scalar.indexCast v564
  let c0_138 : Index := 0#32
  ![0, v613.toNat, 0]
def k0_mult23 (k0_t3 : Fin k0_t3_loop.trips) : BitVec 32 :=
  let c511_i32_141 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v647 : BitVec 32 := Scalar.subi c511_i32_141 v559
  let c8_i32_142 : BitVec 32 := 8#32
  let v648 : BitVec 32 := Scalar.muli v647 c8_i32_142
  v648
def k0_off13 (k0_t3 : Fin k0_t3_loop.trips) : Fin 3 → Nat :=
  let c1_143 : Index := 1#32
  let c511_i32_141 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v647 : BitVec 32 := Scalar.subi c511_i32_141 v559
  let c8_i32_142 : BitVec 32 := 8#32
  let v648 : BitVec 32 := Scalar.muli v647 c8_i32_142
  let v649 : BitVec 32 := v648
  let v650 : Index := Scalar.indexCast v649
  let c0_144 : Index := 0#32
  ![1, v650.toNat, 0]
def k0_mult24 (k0_t3 : Fin k0_t3_loop.trips) : BitVec 32 :=
  let c511_i32_145 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v654 : BitVec 32 := Scalar.subi c511_i32_145 v559
  let c8_i32_146 : BitVec 32 := 8#32
  let v655 : BitVec 32 := Scalar.muli v654 c8_i32_146
  v655
def k0_mult25 (k0_t3 : Fin k0_t3_loop.trips) : BitVec 32 :=
  let c511_i32_149 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v661 : BitVec 32 := Scalar.subi c511_i32_149 v561
  let c8_i32_150 : BitVec 32 := 8#32
  let v662 : BitVec 32 := Scalar.muli v661 c8_i32_150
  v662
def k0_off14 (k0_t3 : Fin k0_t3_loop.trips) : Fin 3 → Nat :=
  let c1_151 : Index := 1#32
  let c511_i32_149 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v661 : BitVec 32 := Scalar.subi c511_i32_149 v561
  let c8_i32_150 : BitVec 32 := 8#32
  let v662 : BitVec 32 := Scalar.muli v661 c8_i32_150
  let v663 : BitVec 32 := v662
  let v664 : Index := Scalar.indexCast v663
  let c0_152 : Index := 0#32
  ![1, v664.toNat, 0]
def k0_mult26 (k0_t3 : Fin k0_t3_loop.trips) : BitVec 32 :=
  let c511_i32_153 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v668 : BitVec 32 := Scalar.subi c511_i32_153 v561
  let c8_i32_154 : BitVec 32 := 8#32
  let v669 : BitVec 32 := Scalar.muli v668 c8_i32_154
  v669
def k0_off15 (k0_t3 : Fin k0_t3_loop.trips) : Fin 3 → Nat :=
  let c1_157 : Index := 1#32
  let c255_i32 : BitVec 32 := 255#32
  let c0_i32_117 : BitVec 32 := 0#32
  let c1_i32_118 : BitVec 32 := 1#32
  let arg10 : BitVec 32 := Scf.iv c0_i32_117 c1_i32_118 k0_t3
  let v562 : BitVec 32 := Scalar.subi c255_i32 arg10
  let c16_i32 : BitVec 32 := 16#32
  let v563 : BitVec 32 := Scalar.muli v562 c16_i32
  let v564 : BitVec 32 := v563
  let v677 : Index := Scalar.indexCast v564
  let c0_158 : Index := 0#32
  ![1, v677.toNat, 0]
def k0_mult27 (k0_t3 : Fin k0_t3_loop.trips) : BitVec 32 :=
  let c511_i32_161 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v711 : BitVec 32 := Scalar.subi c511_i32_161 v559
  let c8_i32_162 : BitVec 32 := 8#32
  let v712 : BitVec 32 := Scalar.muli v711 c8_i32_162
  v712
def k0_off16 (k0_t3 : Fin k0_t3_loop.trips) : Fin 3 → Nat :=
  let c2_163 : Index := 2#32
  let c511_i32_161 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v711 : BitVec 32 := Scalar.subi c511_i32_161 v559
  let c8_i32_162 : BitVec 32 := 8#32
  let v712 : BitVec 32 := Scalar.muli v711 c8_i32_162
  let v713 : BitVec 32 := v712
  let v714 : Index := Scalar.indexCast v713
  let c0_164 : Index := 0#32
  ![2, v714.toNat, 0]
def k0_mult28 (k0_t3 : Fin k0_t3_loop.trips) : BitVec 32 :=
  let c511_i32_165 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v718 : BitVec 32 := Scalar.subi c511_i32_165 v559
  let c8_i32_166 : BitVec 32 := 8#32
  let v719 : BitVec 32 := Scalar.muli v718 c8_i32_166
  v719
def k0_mult29 (k0_t3 : Fin k0_t3_loop.trips) : BitVec 32 :=
  let c511_i32_169 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v725 : BitVec 32 := Scalar.subi c511_i32_169 v561
  let c8_i32_170 : BitVec 32 := 8#32
  let v726 : BitVec 32 := Scalar.muli v725 c8_i32_170
  v726
def k0_off17 (k0_t3 : Fin k0_t3_loop.trips) : Fin 3 → Nat :=
  let c2_171 : Index := 2#32
  let c511_i32_169 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v725 : BitVec 32 := Scalar.subi c511_i32_169 v561
  let c8_i32_170 : BitVec 32 := 8#32
  let v726 : BitVec 32 := Scalar.muli v725 c8_i32_170
  let v727 : BitVec 32 := v726
  let v728 : Index := Scalar.indexCast v727
  let c0_172 : Index := 0#32
  ![2, v728.toNat, 0]
def k0_mult30 (k0_t3 : Fin k0_t3_loop.trips) : BitVec 32 :=
  let c511_i32_173 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v732 : BitVec 32 := Scalar.subi c511_i32_173 v561
  let c8_i32_174 : BitVec 32 := 8#32
  let v733 : BitVec 32 := Scalar.muli v732 c8_i32_174
  v733
def k0_off18 (k0_t3 : Fin k0_t3_loop.trips) : Fin 3 → Nat :=
  let c2_177 : Index := 2#32
  let c255_i32 : BitVec 32 := 255#32
  let c0_i32_117 : BitVec 32 := 0#32
  let c1_i32_118 : BitVec 32 := 1#32
  let arg10 : BitVec 32 := Scf.iv c0_i32_117 c1_i32_118 k0_t3
  let v562 : BitVec 32 := Scalar.subi c255_i32 arg10
  let c16_i32 : BitVec 32 := 16#32
  let v563 : BitVec 32 := Scalar.muli v562 c16_i32
  let v564 : BitVec 32 := v563
  let v741 : Index := Scalar.indexCast v564
  let c0_178 : Index := 0#32
  ![2, v741.toNat, 0]
def k0_mult31 (k0_t3 : Fin k0_t3_loop.trips) : BitVec 32 :=
  let c511_i32_181 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v775 : BitVec 32 := Scalar.subi c511_i32_181 v559
  let c8_i32_182 : BitVec 32 := 8#32
  let v776 : BitVec 32 := Scalar.muli v775 c8_i32_182
  v776
def k0_off19 (k0_t3 : Fin k0_t3_loop.trips) : Fin 3 → Nat :=
  let c3_183 : Index := 3#32
  let c511_i32_181 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v775 : BitVec 32 := Scalar.subi c511_i32_181 v559
  let c8_i32_182 : BitVec 32 := 8#32
  let v776 : BitVec 32 := Scalar.muli v775 c8_i32_182
  let v777 : BitVec 32 := v776
  let v778 : Index := Scalar.indexCast v777
  let c0_184 : Index := 0#32
  ![3, v778.toNat, 0]
def k0_mult32 (k0_t3 : Fin k0_t3_loop.trips) : BitVec 32 :=
  let c511_i32_185 : BitVec 32 := 511#32
  let c2_i32 : BitVec 32 := 2#32
  let c0_i32_117 : BitVec 32 := 0#32
  let c1_i32_118 : BitVec 32 := 1#32
  let arg10 : BitVec 32 := Scf.iv c0_i32_117 c1_i32_118 k0_t3
  let v559 : BitVec 32 := Scalar.muli c2_i32 arg10
  let v782 : BitVec 32 := Scalar.subi c511_i32_185 v559
  let c8_i32_186 : BitVec 32 := 8#32
  let v783 : BitVec 32 := Scalar.muli v782 c8_i32_186
  v783
def k0_mult33 (k0_t3 : Fin k0_t3_loop.trips) : BitVec 32 :=
  let c511_i32_189 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v789 : BitVec 32 := Scalar.subi c511_i32_189 v561
  let c8_i32_190 : BitVec 32 := 8#32
  let v790 : BitVec 32 := Scalar.muli v789 c8_i32_190
  v790
def k0_off20 (k0_t3 : Fin k0_t3_loop.trips) : Fin 3 → Nat :=
  let c3_191 : Index := 3#32
  let c511_i32_189 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v789 : BitVec 32 := Scalar.subi c511_i32_189 v561
  let c8_i32_190 : BitVec 32 := 8#32
  let v790 : BitVec 32 := Scalar.muli v789 c8_i32_190
  let v791 : BitVec 32 := v790
  let v792 : Index := Scalar.indexCast v791
  let c0_192 : Index := 0#32
  ![3, v792.toNat, 0]
def k0_mult34 (k0_t3 : Fin k0_t3_loop.trips) : BitVec 32 :=
  let c511_i32_193 : BitVec 32 := 511#32
  let c2_i32_120 : BitVec 32 := 2#32
  let c0_i32_117 : BitVec 32 := 0#32
  let c1_i32_118 : BitVec 32 := 1#32
  let arg10 : BitVec 32 := Scf.iv c0_i32_117 c1_i32_118 k0_t3
  let v560 : BitVec 32 := Scalar.muli c2_i32_120 arg10
  let c1_i32_121 : BitVec 32 := 1#32
  let v561 : BitVec 32 := Scalar.addi v560 c1_i32_121
  let v796 : BitVec 32 := Scalar.subi c511_i32_193 v561
  let c8_i32_194 : BitVec 32 := 8#32
  let v797 : BitVec 32 := Scalar.muli v796 c8_i32_194
  v797
def k0_off21 (k0_t3 : Fin k0_t3_loop.trips) : Fin 3 → Nat :=
  let c3_197 : Index := 3#32
  let c255_i32 : BitVec 32 := 255#32
  let c0_i32_117 : BitVec 32 := 0#32
  let c1_i32_118 : BitVec 32 := 1#32
  let arg10 : BitVec 32 := Scf.iv c0_i32_117 c1_i32_118 k0_t3
  let v562 : BitVec 32 := Scalar.subi c255_i32 arg10
  let c16_i32 : BitVec 32 := 16#32
  let v563 : BitVec 32 := Scalar.muli v562 c16_i32
  let v564 : BitVec 32 := v563
  let v805 : Index := Scalar.indexCast v564
  let c0_198 : Index := 0#32
  ![3, v805.toNat, 0]
def cc0_transform_0 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![c0_i32_5.toNat, v16.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4096x512 : Shape := ⟨2, ![4096, 512]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x1 : Shape := ⟨2, ![32, 1]⟩
abbrev S_ : Shape := ⟨0, ![]⟩
abbrev S4096x32x64 : Shape := ⟨3, ![4096, 32, 64]⟩
abbrev S4096x32x16 : Shape := ⟨3, ![4096, 32, 16]⟩
abbrev S32x16x4096 : Shape := ⟨3, ![32, 16, 4096]⟩
abbrev S32x4096x64 : Shape := ⟨3, ![32, 4096, 64]⟩
abbrev S1x32x64 : Shape := ⟨3, ![1, 32, 64]⟩
abbrev S8x512x16x128 : Shape := ⟨4, ![8, 512, 16, 128]⟩
abbrev S16x512x8x128 : Shape := ⟨4, ![16, 512, 8, 128]⟩
abbrev S16x4096x128 : Shape := ⟨3, ![16, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S32x64, .f32⟩
  | .hbm, ⟨2, _⟩ => ⟨S32x64, .f32⟩
  | .hbm, ⟨3, _⟩ => ⟨S32, .f32⟩
  | .hbm, ⟨4, _⟩ => ⟨S32x64x16, .f32⟩
  | .hbm, ⟨5, _⟩ => ⟨S32x64x16, .f32⟩
  | .hbm, ⟨6, _⟩ => ⟨S32x16x64, .f32⟩
  | .hbm, ⟨7, _⟩ => ⟨S32x16x64, .f32⟩
  | .hbm, ⟨8, _⟩ => ⟨S32, .f32⟩
  | .hbm, ⟨9, _⟩ => ⟨S32x1, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S4096x32x64, .f32⟩
  | .hbm, ⟨23, _⟩ => ⟨S_, .f32⟩
  | .hbm, ⟨24, _⟩ => ⟨S32x64, .f32⟩
  | .hbm, ⟨25, _⟩ => ⟨S4096x32x16, .f32⟩
  | .hbm, ⟨26, _⟩ => ⟨S4096x32x16, .f32⟩
  | .hbm, ⟨27, _⟩ => ⟨S32x16x4096, .f32⟩
  | .hbm, ⟨28, _⟩ => ⟨S32x4096x64, .f32⟩
  | .hbm, ⟨29, _⟩ => ⟨S4096x32x64, .f32⟩
  | .hbm, ⟨30, _⟩ => ⟨S32x16x4096, .f32⟩
  | .hbm, ⟨31, _⟩ => ⟨S32x4096x64, .f32⟩
  | .hbm, ⟨32, _⟩ => ⟨S4096x32x64, .f32⟩
  | .hbm, ⟨33, _⟩ => ⟨S_, .f32⟩
  | .hbm, ⟨34, _⟩ => ⟨S32x64, .f32⟩
  | .hbm, ⟨35, _⟩ => ⟨S_, .f32⟩
  | .hbm, ⟨36, _⟩ => ⟨S32x64, .f32⟩
  | .hbm, ⟨37, _⟩ => ⟨S_, .f32⟩
  | .hbm, ⟨38, _⟩ => ⟨S4096x32x64, .f32⟩
  | .hbm, ⟨39, _⟩ => ⟨S_, .f32⟩
  | .hbm, ⟨40, _⟩ => ⟨S4096x32x64, .f32⟩
  | .hbm, ⟨41, _⟩ => ⟨S_, .i32⟩
  | .hbm, ⟨42, _⟩ => ⟨S4096x32x64, .f32⟩
  | .hbm, ⟨43, _⟩ => ⟨S4096x32x64, .f32⟩
  | .hbm, ⟨44, _⟩ => ⟨S32x64, .f32⟩
  | .hbm, ⟨45, _⟩ => ⟨S32x64, .f32⟩
  | .hbm, ⟨46, _⟩ => ⟨S_, .i32⟩
  | .hbm, ⟨47, _⟩ => ⟨S32x64, .f32⟩
  | .hbm, ⟨48, _⟩ => ⟨S32x64, .f32⟩
  | .hbm, ⟨49, _⟩ => ⟨S4096x32x64, .f32⟩
  | .hbm, ⟨50, _⟩ => ⟨S4096x32x64, .f32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x32x64, .f32⟩
  | .hbm, ⟨60, _⟩ => ⟨S32x64, .f32⟩
  | .hbm, ⟨61, _⟩ => ⟨S_, .i32⟩
  | .hbm, ⟨62, _⟩ => ⟨S_, .i32⟩
  | .hbm, ⟨63, _⟩ => ⟨S1x32x64, .f32⟩
  | .hbm, ⟨64, _⟩ => ⟨S32x64, .f32⟩
  | .hbm, ⟨65, _⟩ => ⟨S32x64, .f32⟩
  | .hbm, ⟨66, _⟩ => ⟨S32x64, .f32⟩
  | .hbm, ⟨67, _⟩ => ⟨S32x64, .f32⟩
  | .hbm, ⟨68, _⟩ => ⟨S32x64, .f32⟩
  | .hbm, ⟨69, _⟩ => ⟨S32x64, .f32⟩
  | .hbm, ⟨70, _⟩ => ⟨S32x64, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S1x32x64, .f32⟩
  | .hbm, ⟨75, _⟩ => ⟨S_, .i32⟩
  | .hbm, ⟨76, _⟩ => ⟨S_, .i32⟩
  | .hbm, ⟨77, _⟩ => ⟨S4096x32x64, .f32⟩
  | .hbm, ⟨78, _⟩ => ⟨S1x32x64, .f32⟩
  | .hbm, ⟨79, _⟩ => ⟨S_, .i32⟩
  | .hbm, ⟨80, _⟩ => ⟨S_, .i32⟩
  | .hbm, ⟨81, _⟩ => ⟨S4096x32x64, .f32⟩
  | .hbm, ⟨82, _⟩ => ⟨S_, .i32⟩
  | .hbm, ⟨83, _⟩ => ⟨S_, .i32⟩
  | .hbm, ⟨84, _⟩ => ⟨S8x512x16x128, .f32⟩
  | .hbm, ⟨85, _⟩ => ⟨S16x512x8x128, .f32⟩
  | .hbm, ⟨86, _⟩ => ⟨S16x4096x128, .f32⟩
  | .hbm, ⟨87, _⟩ => ⟨S16x4096x128, .bf16⟩
  | .hbm, ⟨88, _⟩ => ⟨S8x512x16x128, .f32⟩
  | .hbm, ⟨89, _⟩ => ⟨S16x512x8x128, .f32⟩
  | .hbm, ⟨90, _⟩ => ⟨S16x4096x128, .f32⟩
  | .hbm, ⟨91, _⟩ => ⟨S16x4096x128, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_c : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v27_3 : Ref sig .tc := ⟨.hbm, 45, rfl⟩
abbrev main_v27_4 : Ref sig .tc := ⟨.hbm, 46, rfl⟩
abbrev main_v27_5 : Ref sig .tc := ⟨.hbm, 47, rfl⟩
abbrev main_v27_6 : Ref sig .tc := ⟨.hbm, 48, rfl⟩
abbrev main_v27_7 : Ref sig .tc := ⟨.hbm, 49, rfl⟩
abbrev main_v27_8 : Ref sig .tc := ⟨.hbm, 50, rfl⟩
abbrev main_while0c_c_13 : Ref sig .tc := ⟨.hbm, 51, rfl⟩
abbrev main_while0c_v36 : Ref sig .tc := ⟨.hbm, 52, rfl⟩
abbrev main_while0b_c_13 : Ref sig .tc := ⟨.hbm, 53, rfl⟩
abbrev main_while0b_v36 : Ref sig .tc := ⟨.hbm, 54, rfl⟩
abbrev main_while0b_c_14 : Ref sig .tc := ⟨.hbm, 55, rfl⟩
abbrev main_while0b_v37 : Ref sig .tc := ⟨.hbm, 56, rfl⟩
abbrev main_while0b_call0_c : Ref sig .tc := ⟨.hbm, 57, rfl⟩
abbrev main_while0b_call0_c_0 : Ref sig .tc := ⟨.hbm, 58, rfl⟩
abbrev main_while0b_call0_v0 : Ref sig .tc := ⟨.hbm, 59, rfl⟩
abbrev main_while0b_v38 : Ref sig .tc := ⟨.hbm, 60, rfl⟩
abbrev main_while0b_call1_c : Ref sig .tc := ⟨.hbm, 61, rfl⟩
abbrev main_while0b_call1_c_0 : Ref sig .tc := ⟨.hbm, 62, rfl⟩
abbrev main_while0b_call1_v0 : Ref sig .tc := ⟨.hbm, 63, rfl⟩
abbrev main_while0b_v39 : Ref sig .tc := ⟨.hbm, 64, rfl⟩
abbrev main_while0b_v40 : Ref sig .tc := ⟨.hbm, 65, rfl⟩
abbrev main_while0b_v41 : Ref sig .tc := ⟨.hbm, 66, rfl⟩
abbrev main_while0b_v42 : Ref sig .tc := ⟨.hbm, 67, rfl⟩
abbrev main_while0b_v43 : Ref sig .tc := ⟨.hbm, 68, rfl⟩
abbrev main_while0b_v44 : Ref sig .tc := ⟨.hbm, 69, rfl⟩
abbrev main_while0b_v45 : Ref sig .tc := ⟨.hbm, 70, rfl⟩
abbrev main_while0b_v46 : Ref sig .tc := ⟨.hbm, 71, rfl⟩
abbrev main_while0b_v47 : Ref sig .tc := ⟨.hbm, 72, rfl⟩
abbrev main_while0b_v48 : Ref sig .tc := ⟨.hbm, 73, rfl⟩
abbrev main_while0b_call2_v0 : Ref sig .tc := ⟨.hbm, 74, rfl⟩
abbrev main_while0b_call2_c : Ref sig .tc := ⟨.hbm, 75, rfl⟩
abbrev main_while0b_call2_c_0 : Ref sig .tc := ⟨.hbm, 76, rfl⟩
abbrev main_while0b_v49 : Ref sig .tc := ⟨.hbm, 77, rfl⟩
abbrev main_while0b_call3_v0 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_v50 : Ref sig .tc := ⟨.hbm, 81, rfl⟩
abbrev main_while0b_c_15 : Ref sig .tc := ⟨.hbm, 82, rfl⟩
abbrev main_while0b_v51 : Ref sig .tc := ⟨.hbm, 83, rfl⟩
abbrev main_v28 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x1408 : Shape := ⟨2, ![256, 1408]⟩
abbrev S1408x1024 : Shape := ⟨2, ![1408, 1024]⟩
abbrev S1024x1408 : Shape := ⟨2, ![1024, 1408]⟩
abbrev S1024 : Shape := ⟨1, ![1024]⟩

abbrev nBuf : Space → Nat
  | .hbm => 33
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S1024x2816, .f32⟩
  | .hbm, ⟨22, _⟩ => ⟨S4096x2816, .f32⟩
  | .hbm, ⟨23, _⟩ => ⟨S4096x2816, .bf16⟩
  | .hbm, ⟨24, _⟩ => ⟨S1024x2816, .f32⟩
  | .hbm, ⟨25, _⟩ => ⟨S4096x2816, .f32⟩
  | .hbm, ⟨26, _⟩ => ⟨S4096x2816, .bf16⟩
  | .hbm, ⟨27, _⟩ => ⟨S4096x1024, .f32⟩
  | .hbm, ⟨28, _⟩ => ⟨S4096x1024, .bf16⟩
  | .hbm, ⟨29, _⟩ => ⟨S4096x2816, .bf16⟩
  | .hbm, ⟨30, _⟩ => ⟨S4096x2816, .bf16⟩
  | .hbm, ⟨31, _⟩ => ⟨S4096x2816, .bf16⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v107 : BitVec 1 := Scalar.cmpi .eq arg0 c0_i32
  let v108 : BitVec 32 := Scalar.extui v107
  let c0_i32_48 : BitVec 32 := 0#32
  let v109 : BitVec 1 := Scalar.cmpi .ne v108 c0_i32_48
  v109

def k0_cond2 (i : grid0.Coords) : BitVec 1 :=
  let arg0 : BitVec 32 := BitVec.ofNat 32 (i 0).val
  let c0_i32_49 : BitVec 32 := 0#32
  let v110 : BitVec 1 := Scalar.cmpi .ne arg0 c0_i32_49
  let v111 : BitVec 32 := Scalar.extui v110
  let c0_i32_50 : BitVec 32 := 0#32
  let v112 : BitVec 1 := Scalar.cmpi .ne v111 c0_i32_50
  v112

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S1024x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S_, .f32⟩
  | .hbm, ⟨72, _⟩ => ⟨S4096x2816, .f32⟩
  | .hbm, ⟨73, _⟩ => ⟨S4096x2816, .f32⟩
  | .hbm, ⟨74, _⟩ => ⟨S_, .f32⟩
  | .hbm, ⟨75, _⟩ => ⟨S4096x2816, .f32⟩
  | .hbm, ⟨76, _⟩ => ⟨S4096x2816, .f32⟩
  | .hbm, ⟨77, _⟩ => ⟨S_, .f32⟩
  | .hbm, ⟨78, _⟩ => ⟨S4096x2816, .f32⟩
  | .hbm, ⟨79, _⟩ => ⟨S4096x2816, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x2816, .f32⟩
  | .hbm, ⟨87, _⟩ => ⟨S4096x2816, .f32⟩
  | .hbm, ⟨88, _⟩ => ⟨S4096x2816, .f32⟩
  | .hbm, ⟨89, _⟩ => ⟨S4096x2816, .f32⟩
  | .hbm, ⟨90, _⟩ => ⟨S4096x2816, .f32⟩
  | .hbm, ⟨91, _⟩ => ⟨S4096x2816, .f32⟩
  | .hbm, ⟨92, _⟩ => ⟨S4096x2816, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096, .f32⟩
  | .hbm, ⟨105, _⟩ => ⟨S4096x1, .f32⟩
  | .hbm, ⟨106, _⟩ => ⟨S4096x1024, .f32⟩
  | .hbm, ⟨107, _⟩ => ⟨S4096x1024, .f32⟩
  | .hbm, ⟨108, _⟩ => ⟨S4096x1024, .f32⟩
  | .hbm, ⟨109, _⟩ => ⟨S4096x1, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S_, .f32⟩
  | .hbm, ⟨114, _⟩ => ⟨S4096, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x1024, .f32⟩
  | .hbm, ⟨119, _⟩ => ⟨S4096x1024, .f32⟩
  | .hbm, ⟨120, _⟩ => ⟨S4096x1024, .bf16⟩
  | .hbm, ⟨121, _⟩ => ⟨S4096x2816, .bf16⟩
  | .hbm, ⟨122, _⟩ => ⟨S4096x2816, .bf16⟩
  | .hbm, ⟨123, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v17_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v17_1 : Ref sig .tc := ⟨.hbm, 37, rfl⟩
abbrev main_v17_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_v24 : Ref sig .tc := ⟨.hbm, 48, rfl⟩
abbrev main_cst_2 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_cst_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_v41_2 : Ref sig .tc := ⟨.hbm, 76, rfl⟩
abbrev main_call2_cst_1 : Ref sig .tc := ⟨.hbm, 77, rfl⟩
abbrev main_call2_v6 : Ref sig .tc := ⟨.hbm, 78, rfl⟩
abbrev main_call2_v7 : Ref sig .tc := ⟨.hbm, 79, rfl⟩
abbrev main_v41_1 : Ref sig .tc := ⟨.hbm, 80, rfl⟩
abbrev main_v41_0 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_6 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_7 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_8 : Ref sig .tc := ⟨.hbm, 110, rfl⟩
abbrev main_v65 : Ref sig .tc := ⟨.hbm, 111, rfl⟩
abbrev main_v66 : Ref sig .tc := ⟨.hbm, 112, rfl⟩
abbrev main_cst_9 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩

abbrev nD : Nat := 1
abbrev τ : Topo := Topo.v7x

variable {F : FTy → Type} [FloatOps F]
-- ==== Kernel3.lean ====
abbrev S4096x1024 : Shape := ⟨2, ![4096, 1024]⟩
abbrev S4096x2816 : Shape := ⟨2, ![4096, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S4096x2816, .bf16⟩
  | .hbm, ⟨7, _⟩ => ⟨S4096x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x2816, .f32⟩
  | .hbm, ⟨21, _⟩ => ⟨S4096x2816, .f32⟩
  | .hbm, ⟨22, _⟩ => ⟨S1024x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S2816x1024, .f32⟩
  | .hbm, ⟨35, _⟩ => ⟨S4096x1024, .f32⟩
  | .hbm, ⟨36, _⟩ => ⟨S4096x1024, .f32⟩
  | .hbm, ⟨37, _⟩ => ⟨S4096x2816, .bf16⟩
  | .hbm, ⟨38, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x1024 : Shape := ⟨2, ![1024, 1024]⟩
abbrev S8x256x256 : Shape := ⟨3, ![8, 256, 256]⟩
abbrev S512x1024 : Shape := ⟨2, ![512, 1024]⟩
abbrev S512 : Shape := ⟨1, ![512]⟩
abbrev S512x1 : Shape := ⟨2, ![512, 1]⟩
abbrev S1x256x256 : Shape := ⟨3, ![1, 256, 256]⟩
abbrev S256x256 : Shape := ⟨2, ![256, 256]⟩
abbrev S512x256 : Shape := ⟨2, ![512, 256]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .bf16⟩
  | .hbm, ⟨4, _⟩ => ⟨S8x256x256, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S8x256x256, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S8x256x256, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x256x256, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v211 : BitVec 1 := Scalar.cmpi .eq arg0 c0_i32
  let v212 : BitVec 32 := Scalar.extui v211
  let c0_i32_90 : BitVec 32 := 0#32
  let v213 : BitVec 1 := Scalar.cmpi .ne v212 c0_i32_90
  v213

def k0_cond2 (i : grid0.Coords) : BitVec 1 :=
  let arg0 : BitVec 32 := BitVec.ofNat 32 (i 0).val
  let c0_i32_91 : BitVec 32 := 0#32
  let v214 : BitVec 1 := Scalar.cmpi .ne arg0 c0_i32_91
  let v215 : BitVec 32 := Scalar.extui v214
  let c0_i32_92 : BitVec 32 := 0#32
  let v216 : BitVec 1 := Scalar.cmpi .ne v215 c0_i32_92
  v216

def k0_cond3 (i : grid0.Coords) : BitVec 1 :=
  let arg0 : BitVec 32 := BitVec.ofNat 32 (i 0).val
  let c0_i32_93 : BitVec 32 := 0#32
  let v217 : BitVec 1 := Scalar.cmpi .eq arg0 c0_i32_93
  let v218 : BitVec 32 := Scalar.extui v217
  let c0_i32_94 : BitVec 32 := 0#32
  let v219 : BitVec 1 := Scalar.cmpi .ne v218 c0_i32_94
  v219

def k0_cond4 (i : grid0.Coords) : BitVec 1 :=
  let arg0 : BitVec 32 := BitVec.ofNat 32 (i 0).val
  let c0_i32_95 : BitVec 32 := 0#32
  let v220 : BitVec 1 := Scalar.cmpi .ne arg0 c0_i32_95
  let v221 : BitVec 32 := Scalar.extui v220
  let c0_i32_96 : BitVec 32 := 0#32
  let v222 : BitVec 1 := Scalar.cmpi .ne v221 c0_i32_96
  v222

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference8Ideal.lean ====
abbrev S4096x1024 : Shape := ⟨2, ![4096, 1024]⟩
abbrev S1x1024 : Shape := ⟨2, ![1, 1024]⟩
abbrev S1024x1024 : Shape := ⟨2, ![1024, 1024]⟩
abbrev S8x256x256 : Shape := ⟨3, ![8, 256, 256]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S4x256x256 : Shape := ⟨3, ![4, 256, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S1024 : Shape := ⟨1, ![1024]⟩

abbrev nBuf : Space → Nat
  | .hbm => 140
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x1024, .bf16⟩
  | 4 => ⟨S8x256x256, .bf16⟩
  | 5 => ⟨S1024x1024, .bf16⟩
  | 6 => ⟨S1024x1024, .f32⟩
  | 7 => ⟨S1024x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x1024, .f32⟩
  | 28 => ⟨S8x256x256, .f32⟩
  | 29 => ⟨S4096x4x256, .f32⟩
  | 30 => ⟨S4x256x256, .f32⟩
  | 31 => ⟨S4x256x256, .f32⟩
  | 32 => ⟨S4x4096x256, .f32⟩
  | 33 => ⟨S_, .f32⟩
  | 34 => ⟨S4x4096x256, .f32⟩
  | 35 => ⟨S4x4096x256, .f32⟩
  | 36 => ⟨S_, .f32⟩
  | 37 => ⟨S4x4096, .f32⟩
  | 38 => ⟨S4x4096x1, .f32⟩
  | 39 => ⟨S4x4096x256, .f32⟩
  | 40 => ⟨S4x4096x256, .i1⟩
  | 41 => ⟨S4x4096x256, .f32⟩
  | 42 => ⟨S_, .f32⟩
  | 43 => ⟨S4x4096, .f32⟩
  | 44 => ⟨S_, .f32⟩
  | 45 => ⟨S4x4096, .f32⟩
  | 46 => ⟨S4x4096, .f32⟩
  | 47 => ⟨S_, .f32⟩
  | 48 => ⟨S4x4096, .f32⟩
  | 49 => ⟨S4x4096, .i1⟩
  | 50 => ⟨S_, .f32⟩
  | 51 => ⟨S4x4096, .f32⟩
  | 52 => ⟨S4x4096, .i1⟩
  | 53 => ⟨S_, .f32⟩
  | 54 => ⟨S4x4096, .f32⟩
  | 55 => ⟨S_, .f32⟩
  | 56 => ⟨S4x4096, .f32⟩
  | 57 => ⟨S_, .f32⟩
  | 58 => ⟨S4x4096, .f32⟩
  | 59 => ⟨S4x4096, .f32⟩
  | 60 => ⟨S4x4096, .f32⟩
  | 61 => ⟨S4x4096x1, .f32⟩
  | 62 => ⟨S4x4096x256, .f32⟩
  | 63 => ⟨S4x4096x256, .f32⟩
  | 64 => ⟨S4x4096x256, .f32⟩
  | 65 => ⟨S_, .f32⟩
  | 66 => ⟨S4x4096, .f32⟩
  | 67 => ⟨S4x4096x1, .f32⟩
  | 68 => ⟨S4x4096x256, .f32⟩
  | 69 => ⟨S4x4096x256, .f32⟩
  | 70 => ⟨S4x4096x1, .f32⟩
  | 71 => ⟨S_, .f32⟩
  | 72 => ⟨S4x4096x1, .f32⟩
  | 73 => ⟨S4x4096x1, .f32⟩
  | 74 => ⟨S4x256x4096, .f32⟩
  | 75 => ⟨S4096x4x256, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x4x256, .f32⟩
  | 82 => ⟨S4x256x4096, .f32⟩
  | 83 => ⟨S4x4096x256, .f32⟩
  | 84 => ⟨S4x256x256, .f32⟩
  | 85 => ⟨S4x256x256, .f32⟩
  | 86 => ⟨S4x4096x256, .f32⟩
  | 87 => ⟨S4x4096x256, .f32⟩
  | 88 => ⟨S4x4096x256, .f32⟩
  | 89 => ⟨S_, .f32⟩
  | 90 => ⟨S4x4096, .f32⟩
  | 91 => ⟨S4x4096x1, .f32⟩
  | 92 => ⟨S4x4096x1, .f32⟩
  | 93 => ⟨S4x4096x256, .f32⟩
  | 94 => ⟨S4x4096x256, .f32⟩
  | 95 => ⟨S_, .f32⟩
  | 96 => ⟨S4x4096, .f32⟩
  | 97 => ⟨S4x4096x256, .f32⟩
  | 98 => ⟨S4x4096x256, .f32⟩
  | 99 => ⟨S4x4096x256, .f32⟩
  | 100 => ⟨S_, .f32⟩
  | 101 => ⟨S4x4096x256, .f32⟩
  | 102 => ⟨S4x4096x256, .f32⟩
  | 103 => ⟨S4x256x256, .f32⟩
  | 104 => ⟨S4x4096x256, .f32⟩
  | 105 => ⟨S4096x4x256, .f32⟩
  | 106 => ⟨S_, .f32⟩
  | 107 => ⟨S8x256x256, .f32⟩
  | 108 => ⟨S_, .f32⟩
  | 109 => ⟨S8x256x256, .f32⟩
  | 110 => ⟨S8x256x256, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .bf16⟩
  | 10 => ⟨S4096x1024, .bf16⟩
  | 11 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_21 : Ref sig .tc := ⟨.hbm, 126, rfl⟩
abbrev main_v98 : Ref sig .tc := ⟨.hbm, 127, rfl⟩
abbrev main_v99 : Ref sig .tc := ⟨.hbm, 128, rfl⟩
abbrev main_cst_22 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x1024 : Shape := ⟨2, ![1024, 1024]⟩
abbrev S8x256x256 : Shape := ⟨3, ![8, 256, 256]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S8x256x256, .bf16⟩
  | .hbm, ⟨4, _⟩ => ⟨S1024x1024, .bf16⟩
  | .hbm, ⟨5, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S8x256x256, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S4096x1024 : Shape := ⟨2, ![4096, 1024]⟩
abbrev S1x1024 : Shape := ⟨2, ![1, 1024]⟩
abbrev S1024x1024 : Shape := ⟨2, ![1024, 1024]⟩
abbrev S8x256x256 : Shape := ⟨3, ![8, 256, 256]⟩
abbrev S_ : Shape := ⟨0, ![]⟩
abbrev S4096 : Shape := ⟨1, ![4096]⟩
abbrev S4096x1 : Shape := ⟨2, ![4096, 1]⟩
abbrev S4096x4x256 : Shape := ⟨3, ![4096, 4, 256]⟩
abbrev S4x256x256 : Shape := ⟨3, ![4, 256, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S8x256x256, .bf16⟩
  | .hbm, ⟨4, _⟩ => ⟨S1024x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x4x256, .f32⟩
  | .hbm, ⟨23, _⟩ => ⟨S8x256x256, .f32⟩
  | .hbm, ⟨24, _⟩ => ⟨S4x256x256, .f32⟩
  | .hbm, ⟨25, _⟩ => ⟨S4x4096x256, .f32⟩
  | .hbm, ⟨26, _⟩ => ⟨S_, .f32⟩
  | .hbm, ⟨27, _⟩ => ⟨S4x4096x256, .f32⟩
  | .hbm, ⟨28, _⟩ => ⟨S4x4096x256, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x256, .f32⟩
  | .hbm, ⟨36, _⟩ => ⟨S4x4096x256, .f32⟩
  | .hbm, ⟨37, _⟩ => ⟨S4x4096x256, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x256x256, .f32⟩
  | .hbm, ⟨44, _⟩ => ⟨S4x256x4096, .f32⟩
  | .hbm, ⟨45, _⟩ => ⟨S4096x4x256, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x512, .f32⟩
  | .hbm, ⟨4, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x512 : Shape := ⟨2, ![4096, 512]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S4096x512, .f32⟩
  | .hbm, ⟨21, _⟩ => ⟨S4096x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel11.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_25 : BitVec 32 := 0#32
  let v50 : BitVec 1 := Scalar.cmpi .ne v49 c0_i32_25
  v50

def k0_cond2 (i : grid0.Coords) : BitVec 1 :=
  let arg0 : BitVec 32 := BitVec.ofNat 32 (i 0).val
  let c0_i32_26 : BitVec 32 := 0#32
  let v51 : BitVec 1 := Scalar.cmpi .ne arg0 c0_i32_26
  let v52 : BitVec 32 := Scalar.extui v51
  let c0_i32_27 : BitVec 32 := 0#32
  let v53 : BitVec 1 := Scalar.cmpi .ne v52 c0_i32_27
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference11Ideal.lean ====
abbrev S4096x1024 : Shape := ⟨2, ![4096, 1024]⟩
abbrev S4096x512 : Shape := ⟨2, ![4096, 512]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel12.lean ====
abbrev S4096x1024 : Shape := ⟨2, ![4096, 1024]⟩
abbrev S1x4096x1024 : Shape := ⟨3, ![1, 4096, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v55 : BitVec 1 := Scalar.cmpi .eq arg0 c0_i32
  let v56 : BitVec 32 := Scalar.extui v55
  let c0_i32_19 : BitVec 32 := 0#32
  let v57 : BitVec 1 := Scalar.cmpi .ne v56 c0_i32_19
  v57

def k0_cond2 (i : grid0.Coords) : BitVec 1 :=
  let arg0 : BitVec 32 := BitVec.ofNat 32 (i 0).val
  let c0_i32_20 : BitVec 32 := 0#32
  let v58 : BitVec 1 := Scalar.cmpi .ne arg0 c0_i32_20
  let v59 : BitVec 32 := Scalar.extui v58
  let c0_i32_21 : BitVec 32 := 0#32
  let v60 : BitVec 1 := Scalar.cmpi .ne v59 c0_i32_21
  v60

def k0_cond3 (i : grid0.Coords) : BitVec 1 :=
  let arg0 : BitVec 32 := BitVec.ofNat 32 (i 0).val
  let c0_i32_22 : BitVec 32 := 0#32
  let v61 : BitVec 1 := Scalar.cmpi .eq arg0 c0_i32_22
  let v62 : BitVec 32 := Scalar.extui v61
  let c0_i32_23 : BitVec 32 := 0#32
  let v63 : BitVec 1 := Scalar.cmpi .ne v62 c0_i32_23
  v63

def k0_cond4 (i : grid0.Coords) : BitVec 1 :=
  let arg0 : BitVec 32 := BitVec.ofNat 32 (i 0).val
  let c0_i32_24 : BitVec 32 := 0#32
  let v64 : BitVec 1 := Scalar.cmpi .ne arg0 c0_i32_24
  let v65 : BitVec 32 := Scalar.extui v64
  let c0_i32_25 : BitVec 32 := 0#32
  let v66 : BitVec 1 := Scalar.cmpi .ne v65 c0_i32_25
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference12Ideal.lean ====
abbrev S4096x1024 : Shape := ⟨2, ![4096, 1024]⟩
abbrev S1x4096x1024 : Shape := ⟨3, ![1, 4096, 1024]⟩
abbrev S1024 : Shape := ⟨1, ![1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel13.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S4096x1024 : Shape := ⟨2, ![4096, 1024]⟩
abbrev S4096x512 : Shape := ⟨2, ![4096, 512]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel14.lean ====
abbrev S4096x512 : Shape := ⟨2, ![4096, 512]⟩
abbrev S4096x1024 : Shape := ⟨2, ![4096, 1024]⟩
abbrev S1x512 : Shape := ⟨2, ![1, 512]⟩
abbrev S1024x1024 : Shape := ⟨2, ![1024, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x512, .f32⟩
  | .hbm, ⟨7, _⟩ => ⟨S4096x512, .f32⟩
  | .hbm, ⟨8, _⟩ => ⟨S4096x1024, .bf16⟩
  | .hbm, ⟨9, _⟩ => ⟨S1x512, .f32⟩
  | .hbm, ⟨10, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S1x512, .f32⟩
  | .local _ .vmem, ⟨16, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v83 : BitVec 1 := Scalar.cmpi .eq arg0 c0_i32
  let v84 : BitVec 32 := Scalar.extui v83
  let c0_i32_33 : BitVec 32 := 0#32
  let v85 : BitVec 1 := Scalar.cmpi .ne v84 c0_i32_33
  v85

def k0_cond2 (i : grid0.Coords) : BitVec 1 :=
  let arg0 : BitVec 32 := BitVec.ofNat 32 (i 0).val
  let c0_i32_34 : BitVec 32 := 0#32
  let v86 : BitVec 1 := Scalar.cmpi .ne arg0 c0_i32_34
  let v87 : BitVec 32 := Scalar.extui v86
  let c0_i32_35 : BitVec 32 := 0#32
  let v88 : BitVec 1 := Scalar.cmpi .ne v87 c0_i32_35
  v88

def k0_cond3 (i : grid0.Coords) : BitVec 1 :=
  let arg0 : BitVec 32 := BitVec.ofNat 32 (i 0).val
  let c0_i32_36 : BitVec 32 := 0#32
  let v89 : BitVec 1 := Scalar.cmpi .eq arg0 c0_i32_36
  let v90 : BitVec 32 := Scalar.extui v89
  let c0_i32_37 : BitVec 32 := 0#32
  let v91 : BitVec 1 := Scalar.cmpi .ne v90 c0_i32_37
  v91

def k0_cond4 (i : grid0.Coords) : BitVec 1 :=
  let arg0 : BitVec 32 := BitVec.ofNat 32 (i 0).val
  let c0_i32_38 : BitVec 32 := 0#32
  let v92 : BitVec 1 := Scalar.cmpi .ne arg0 c0_i32_38
  let v93 : BitVec 32 := Scalar.extui v92
  let c0_i32_39 : BitVec 32 := 0#32
  let v94 : BitVec 1 := Scalar.cmpi .ne v93 c0_i32_39
  v94

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference14Ideal.lean ====
abbrev S4096x512 : Shape := ⟨2, ![4096, 512]⟩
abbrev S4096x1024 : Shape := ⟨2, ![4096, 1024]⟩
abbrev S1x512 : Shape := ⟨2, ![1, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S512 : Shape := ⟨1, ![512]⟩

abbrev nBuf : Space → Nat
  | .hbm => 128
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S1x512, .f32⟩
  | .hbm, ⟨4, _⟩ => ⟨S1x512, .f32⟩
  | .hbm, ⟨5, _⟩ => ⟨S1024x1024, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x1024, .f32⟩
  | .hbm, ⟨45, _⟩ => ⟨S1024x1024, .f32⟩
  | .hbm, ⟨46, _⟩ => ⟨S4096x1024, .f32⟩
  | .hbm, ⟨47, _⟩ => ⟨S4096x1024, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S512, .f32⟩
  | .hbm, ⟨53, _⟩ => ⟨S1x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x512, .f32⟩
  | .hbm, ⟨61, _⟩ => ⟨S4096x512, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x512, .f32⟩
  | .hbm, ⟨69, _⟩ => ⟨S4096x512, .f32⟩
  | .hbm, ⟨70, _⟩ => ⟨S4096x512, .f32⟩
  | .hbm, ⟨71, _⟩ => ⟨S4096x512, .f32⟩
  | .hbm, ⟨72, _⟩ => ⟨S4096x512, .f32⟩
  | .hbm, ⟨73, _⟩ => ⟨S4096x512, .f32⟩
  | .hbm, ⟨74, _⟩ => ⟨S_, .f32⟩
  | .hbm, ⟨75, _⟩ => ⟨S512, .f32⟩
  | .hbm, ⟨76, _⟩ => ⟨S1x512, .f32⟩
  | .hbm, ⟨77, _⟩ => ⟨S4096x512, .f32⟩
  | .hbm, ⟨78, _⟩ => ⟨S4096x512, .f32⟩
  | .hbm, ⟨79, _⟩ => ⟨S4096x512, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x512, .f32⟩
  | .hbm, ⟨84, _⟩ => ⟨S4096x512, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x512, .f32⟩
  | .hbm, ⟨92, _⟩ => ⟨S4096x512, .f32⟩
  | .hbm, ⟨93, _⟩ => ⟨S4096x512, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S_, .f32⟩
  | .hbm, ⟨98, _⟩ => ⟨S4096, .f32⟩
  | .hbm, ⟨99, _⟩ => ⟨S4096x1, .f32⟩
  | .hbm, ⟨100, _⟩ => ⟨S_, .f32⟩
  | .hbm, ⟨101, _⟩ => ⟨S4096x1, .f32⟩
  | .hbm, ⟨102, _⟩ => ⟨S4096x1, .f32⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S4096x1, .f32⟩
  | .hbm, ⟨107, _⟩ => ⟨S4096x512, .f32⟩
  | .hbm, ⟨108, _⟩ => ⟨S4096x512, .f32⟩
  | .hbm, ⟨109, _⟩ => ⟨S4096x512, .f32⟩
  | .hbm, ⟨110, _⟩ => ⟨S4096x512, .f32⟩
  | .hbm, ⟨111, _⟩ => ⟨S4096x512, .f32⟩
  | .hbm, ⟨112, _⟩ => ⟨S_, .f32⟩
  | .hbm, ⟨113, _⟩ => ⟨S4096, .f32⟩
  | .hbm, ⟨114, _⟩ => ⟨S4096x1, .f32⟩
  | .hbm, ⟨115, _⟩ => ⟨S_, .f32⟩
  | .hbm, ⟨116, _⟩ => ⟨S4096x1, .f32⟩
  | .hbm, ⟨117, _⟩ => ⟨S4096x1, .f32⟩
  | .hbm, ⟨118, _⟩ => ⟨S_, .f32⟩
  | .hbm, ⟨119, _⟩ => ⟨S4096x1, .f32⟩
  | .hbm, ⟨120, _⟩ => ⟨S4096x1, .f32⟩
  | .hbm, ⟨121, _⟩ => ⟨S4096x1, .f32⟩
  | .hbm, ⟨122, _⟩ => ⟨S4096x512, .f32⟩
  | .hbm, ⟨123, _⟩ => ⟨S4096x512, .f32⟩
  | .hbm, ⟨124, _⟩ => ⟨S4096x512, .f32⟩
  | .hbm, ⟨125, _⟩ => ⟨S4096x512, .f32⟩
  | .hbm, ⟨126, _⟩ => ⟨S4096x1024, .f32⟩
  | .hbm, ⟨127, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_12 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_15 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_cst_20 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩

abbrev nD : Nat := 1
abbrev τ : Topo := Topo.v7x

variable {F : FTy → Type} [FloatOps F]
-- ==== Proof.RStep.lean ====
/- One trip of the reference's loop as standalone definitions, after the generated module of the same content, whose last lemmas do not go through. -/
module

public import proofs.«01_k».proof.ReferenceIdeal
public import proofs.«01_k».proof.Proof.Gen.ReferenceIdeal

@[expose] public section

noncomputable section

namespace Cert.ReferenceIdeal.RStep

open Idealize.ShloMosaic Cert.ReferenceIdeal Cert.ReferenceIdeal.Gen

variable {F : FTy → Type} [FloatOps F]

/-- What a trip hands the next. -/
structure State (F : FTy → Type) [FloatOps F] where
  main_v27_5 : (⟨S32x64, .f32⟩ : BufTy).Contents (Elt F)
  main_v27_6 : (⟨S32x64, .f32⟩ : BufTy).Contents (Elt F)
  main_v27_7 : (⟨S4096x32x64, .f32⟩ : BufTy).Contents (Elt F)
  main_v27_8 : (⟨S4096x32x64, .f32⟩ : BufTy).Contents (Elt F)
  main_v27_0 : (⟨S4096x32x64, .f32⟩ : BufTy).Contents (Elt F)
  main_v27_1 : (⟨S4096x32x64, .f32⟩ : BufTy).Contents (Elt F)
  main_v27_2 : (⟨S32x64, .f32⟩ : BufTy).Contents (Elt F)
  main_v27_3 : (⟨S32x64, .f32⟩ : BufTy).Contents (Elt F)

/-! What @main computes before the loop without reading an argument. -/

def K_main_cst : (⟨S_, .f32⟩ : BufTy).Contents (Elt F) := constant S_ .f32 0x00000000#32
def K_main_v13 : (⟨S4096x32x64, .f32⟩ : BufTy).Contents (Elt F) := broadcastInDim S4096x32x64 ![] bcast_S_S4096x32x64 ((K_main_cst (F := F)))
def K_main_cst_0 : (⟨S_, .f32⟩ : BufTy).Contents (Elt F) := constant S_ .f32 0x00000000#32
def K_main_v14 : (⟨S32x64, .f32⟩ : BufTy).Contents (Elt F) := broadcastInDim S32x64 ![] bcast_S_S32x64 ((K_main_cst_0 (F := F)))
def K_main_cst_1 : (⟨S_, .f32⟩ : BufTy).Contents (Elt F) := constant S_ .f32 0x00000000#32
def K_main_v23 : (⟨S32x64, .f32⟩ : BufTy).Contents (Elt F) := broadcastInDim S32x64 ![] bcast_S_S32x64 ((K_main_cst_1 (F := F)))
def K_main_cst_2 : (⟨S_, .f32⟩ : BufTy).Contents (Elt F) := constant S_ .f32 0x00000000#32
def K_main_v24 : (⟨S32x64, .f32⟩ : BufTy).Contents (Elt F) := broadcastInDim S32x64 ![] bcast_S_S32x64 ((K_main_cst_2 (F := F)))
def K_main_cst_3 : (⟨S_, .f32⟩ : BufTy).Contents (Elt F) := constant S_ .f32 0x00000000#32
def K_main_v25 : (⟨S4096x32x64, .f32⟩ : BufTy).Contents (Elt F) := broadcastInDim S4096x32x64 ![] bcast_S_S4096x32x64 ((K_main_cst_3 (F := F)))
def K_main_cst_4 : (⟨S_, .f32⟩ : BufTy).Contents (Elt F) := constant S_ .f32 0x00000000#32
def K_main_v26 : (⟨S4096x32x64, .f32⟩ : BufTy).Contents (Elt F) := broadcastInDim S4096x32x64 ![] bcast_S_S4096x32x64 ((K_main_cst_4 (F := F)))
def K_main_c : (⟨S_, .i32⟩ : BufTy).Contents (Elt F) := constantI S_ 32 0#32

/-! What @main computes before the loop from its arguments, as functions of them. -/

def A_main_v0 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32, .f32⟩ : BufTy).Contents (Elt F) := Host.exp (main_arg3)
def A_main_v1 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x1, .f32⟩ : BufTy).Contents (Elt F) := broadcastInDim S32x1 ![0] bcast_S32_S32x1_0 ((A_main_v0 main_arg0 main_arg1 main_arg2 main_arg3 main_arg6 main_arg7))
def A_main_v2 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := broadcastInDim S32x64 ![0, 1] bcast_S32x1_S32x64_0_1 ((A_main_v1 main_arg0 main_arg1 main_arg2 main_arg3 main_arg6 main_arg7))
def A_main_v3 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := mulf (main_arg1) ((A_main_v2 main_arg0 main_arg1 main_arg2 main_arg3 main_arg6 main_arg7))
def A_main_v4 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := Host.exp ((A_main_v3 main_arg0 main_arg1 main_arg2 main_arg3 main_arg6 main_arg7))
def A_main_v5 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := broadcastInDim S32x64 ![0, 1] bcast_S32x1_S32x64_0_1 ((A_main_v1 main_arg0 main_arg1 main_arg2 main_arg3 main_arg6 main_arg7))
def A_main_v6 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := mulf (main_arg2) ((A_main_v5 main_arg0 main_arg1 main_arg2 main_arg3 main_arg6 main_arg7))
def A_main_v7 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := Host.cos ((A_main_v6 main_arg0 main_arg1 main_arg2 main_arg3 main_arg6 main_arg7))
def A_main_v8 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := mulf ((A_main_v4 main_arg0 main_arg1 main_arg2 main_arg3 main_arg6 main_arg7)) ((A_main_v7 main_arg0 main_arg1 main_arg2 main_arg3 main_arg6 main_arg7))
def A_main_v9 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := broadcastInDim S32x64 ![0, 1] bcast_S32x1_S32x64_0_1 ((A_main_v1 main_arg0 main_arg1 main_arg2 main_arg3 main_arg6 main_arg7))
def A_main_v10 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := mulf (main_arg2) ((A_main_v9 main_arg0 main_arg1 main_arg2 main_arg3 main_arg6 main_arg7))
def A_main_v11 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := Host.sin ((A_main_v10 main_arg0 main_arg1 main_arg2 main_arg3 main_arg6 main_arg7))
def A_main_v12 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x64, .f32⟩ : BufTy).Contents (Elt F) := mulf ((A_main_v4 main_arg0 main_arg1 main_arg2 main_arg3 main_arg6 main_arg7)) ((A_main_v11 main_arg0 main_arg1 main_arg2 main_arg3 main_arg6 main_arg7))
def A_main_v15 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S4096x32x16, .f32⟩ : BufTy).Contents (Elt F) := shapeCast _ (main_arg0) shapeCasts_S4096x512_S4096x32x16
def A_main_v16 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S4096x32x16, .f32⟩ : BufTy).Contents (Elt F) := Host.negf ((A_main_v15 main_arg0 main_arg1 main_arg2 main_arg3 main_arg6 main_arg7))
def A_main_v17 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x16x4096, .f32⟩ : BufTy).Contents (Elt F) := transpose S32x16x4096 [1, 2, 0] ((A_main_v16 main_arg0 main_arg1 main_arg2 main_arg3 main_arg6 main_arg7)) transposes_S4096x32x16_S32x16x4096_1_2_0
def A_main_v18 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x4096x64, .f32⟩ : BufTy).Contents (Elt F) := Host.dotGeneral dot_S32x16x4096_S32x16x64_S32x4096x64_1_1_2_2_0_0 none ((A_main_v17 main_arg0 main_arg1 main_arg2 main_arg3 main_arg6 main_arg7)) (main_arg7)
def A_main_v19 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S4096x32x64, .f32⟩ : BufTy).Contents (Elt F) := transpose S4096x32x64 [1, 0, 2] ((A_main_v18 main_arg0 main_arg1 main_arg2 main_arg3 main_arg6 main_arg7)) transposes_S32x4096x64_S4096x32x64_1_0_2
def A_main_v20 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x16x4096, .f32⟩ : BufTy).Contents (Elt F) := transpose S32x16x4096 [1, 2, 0] ((A_main_v15 main_arg0 main_arg1 main_arg2 main_arg3 main_arg6 main_arg7)) transposes_S4096x32x16_S32x16x4096_1_2_0
def A_main_v21 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S32x4096x64, .f32⟩ : BufTy).Contents (Elt F) := Host.dotGeneral dot_S32x16x4096_S32x16x64_S32x4096x64_1_1_2_2_0_0 none ((A_main_v20 main_arg0 main_arg1 main_arg2 main_arg3 main_arg6 main_arg7)) (main_arg6)
def A_main_v22 (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : (⟨S4096x32x64, .f32⟩ : BufTy).Contents (Elt F) := transpose S4096x32x64 [1, 0, 2] ((A_main_v21 main_arg0 main_arg1 main_arg2 main_arg3 main_arg6 main_arg7)) transposes_S32x4096x64_S4096x32x64_1_0_2

/-! One trip's values, in the body's order. -/

def b0 (j : ℕ) (s : State F) : (⟨S_, .i32⟩ : BufTy).Contents (Elt F) :=
  constantI S_ 32 4096#32
def b1 (j : ℕ) (s : State F) : (⟨S_, .i32⟩ : BufTy).Contents (Elt F) :=
  subi ((b0 j s)) ((constantI S_ 32 (BitVec.ofNat 32 j) : (⟨S_, .i32⟩ : BufTy).Contents (Elt F)))
def b2 (j : ℕ) (s : State F) : (⟨S_, .i32⟩ : BufTy).Contents (Elt F) :=
  constantI S_ 32 1#32
def b3 (j : ℕ) (s : State F) : (⟨S_, .i32⟩ : BufTy).Contents (Elt F) :=
  subi ((b1 j s)) ((b2 j s))
def b4 (j : ℕ) (s : State F) : (⟨S_, .i32⟩ : BufTy).Contents (Elt F) :=
  constantI S_ 32 0#32
def b5 (j : ℕ) (s : State F) : (⟨S_, .i32⟩ : BufTy).Contents (Elt F) :=
  constantI S_ 32 0#32
def b6 (j : ℕ) (s : State F) : (⟨S1x32x64, .f32⟩ : BufTy).Contents (Elt F) :=
  Host.dynamicSlice S1x32x64 (s.main_v27_0) (fun k => (((![(b3 j s), (b4 j s), (b5 j s)] : Fin 3 → (⟨S_, .i32⟩ : BufTy).Contents (Elt F))) k (Shape.Idx.first h_S_)).toInt) sliceFits_S4096x32x64_S1x32x64
def b7 (j : ℕ) (s : State F) : (⟨S32x64, .f32⟩ : BufTy).Contents (Elt F) :=
  shapeCast S32x64 ((b6 j s)) shapeCasts_S1x32x64_S32x64
def b8 (j : ℕ) (s : State F) : (⟨S_, .i32⟩ : BufTy).Contents (Elt F) :=
  constantI S_ 32 0#32
def b9 (j : ℕ) (s : State F) : (⟨S_, .i32⟩ : BufTy).Contents (Elt F) :=
  constantI S_ 32 0#32
def b10 (j : ℕ) (s : State F) : (⟨S1x32x64, .f32⟩ : BufTy).Contents (Elt F) :=
  Host.dynamicSlice S1x32x64 (s.main_v27_1) (fun k => (((![(b3 j s), (b8 j s), (b9 j s)] : Fin 3 → (⟨S_, .i32⟩ : BufTy).Contents (Elt F))) k (Shape.Idx.first h_S_)).toInt) sliceFits_S4096x32x64_S1x32x64
def b11 (j : ℕ) (s : State F) : (⟨S32x64, .f32⟩ : BufTy).Contents (Elt F) :=
  shapeCast S32x64 ((b10 j s)) shapeCasts_S1x32x64_S32x64
def b12 (j : ℕ) (s : State F) : (⟨S32x64, .f32⟩ : BufTy).Contents (Elt F) :=
  addf (s.main_v27_5) ((b7 j s))
def b13 (j : ℕ) (s : State F) : (⟨S32x64, .f32⟩ : BufTy).Contents (Elt F) :=
  addf (s.main_v27_6) ((b11 j s))
def b14 (j : ℕ) (s : State F) : (⟨S32x64, .f32⟩ : BufTy).Contents (Elt F) :=
  mulf (s.main_v27_3) ((b13 j s))
def b15 (j : ℕ) (s : State F) : (⟨S32x64, .f32⟩ : BufTy).Contents (Elt F) :=
  mulf (s.main_v27_2) ((b13 j s))
def b16 (j : ℕ) (s : State F) : (⟨S32x64, .f32⟩ : BufTy).Contents (Elt F) :=
  Host.negf ((b12 j s))
def b17 (j : ℕ) (s : State F) : (⟨S32x64, .f32⟩ : BufTy).Contents (Elt F) :=
  mulf (s.main_v27_3) ((b16 j s))
def b18 (j : ℕ) (s : State F) : (⟨S32x64, .f32⟩ : BufTy).Contents (Elt F) :=
  addf ((b15 j s)) ((b17 j s))
def b19 (j : ℕ) (s : State F) : (⟨S32x64, .f32⟩ : BufTy).Contents (Elt F) :=
  mulf (s.main_v27_2) ((b12 j s))
def b20 (j : ℕ) (s : State F) : (⟨S32x64, .f32⟩ : BufTy).Contents (Elt F) :=
  addf ((b14 j s)) ((b19 j s))
def b21 (j : ℕ) (s : State F) : (⟨S1x32x64, .f32⟩ : BufTy).Contents (Elt F) :=
  broadcastInDim S1x32x64 ![1, 2] bcast_S32x64_S1x32x64_1_2 ((b12 j s))
def b22 (j : ℕ) (s : State F) : (⟨S_, .i32⟩ : BufTy).Contents (Elt F) :=
  constantI S_ 32 0#32
def b23 (j : ℕ) (s : State F) : (⟨S_, .i32⟩ : BufTy).Contents (Elt F) :=
  constantI S_ 32 0#32
def b24 (j : ℕ) (s : State F) : (⟨S4096x32x64, .f32⟩ : BufTy).Contents (Elt F) :=
  Host.dynamicUpdateSlice (s.main_v27_7) ((b21 j s)) (fun k => (((![(b3 j s), (b22 j s), (b23 j s)] : Fin 3 → (⟨S_, .i32⟩ : BufTy).Contents (Elt F))) k (Shape.Idx.first h_S_)).toInt) updateFits_S4096x32x64_S1x32x64
def b25 (j : ℕ) (s : State F) : (⟨S1x32x64, .f32⟩ : BufTy).Contents (Elt F) :=
  broadcastInDim S1x32x64 ![1, 2] bcast_S32x64_S1x32x64_1_2 ((b13 j s))
def b26 (j : ℕ) (s : State F) : (⟨S_, .i32⟩ : BufTy).Contents (Elt F) :=
  constantI S_ 32 0#32
def b27 (j : ℕ) (s : State F) : (⟨S_, .i32⟩ : BufTy).Contents (Elt F) :=
  constantI S_ 32 0#32
def b28 (j : ℕ) (s : State F) : (⟨S4096x32x64, .f32⟩ : BufTy).Contents (Elt F) :=
  Host.dynamicUpdateSlice (s.main_v27_8) ((b25 j s)) (fun k => (((![(b3 j s), (b26 j s), (b27 j s)] : Fin 3 → (⟨S_, .i32⟩ : BufTy).Contents (Elt F))) k (Shape.Idx.first h_S_)).toInt) updateFits_S4096x32x64_S1x32x64

/-- The state @main hands the first trip, of the arguments it copies in or computes from. -/
def init (main_arg0 : (⟨S4096x512, .f32⟩ : BufTy).Contents (Elt F)) (main_arg1 : (⟨S32x64, .f32⟩ : BufTy).Contents (Elt F)) (main_arg2 : (⟨S32x64, .f32⟩ : BufTy).Contents (Elt F)) (main_arg3 : (⟨S32, .f32⟩ : BufTy).Contents (Elt F)) (main_arg6 : (⟨S32x16x64, .f32⟩ : BufTy).Contents (Elt F)) (main_arg7 : (⟨S32x16x64, .f32⟩ : BufTy).Contents (Elt F)) : State F :=
  { main_v27_5 := K_main_v23 (F := F), main_v27_6 := K_main_v24 (F := F), main_v27_7 := K_main_v25 (F := F), main_v27_8 := K_main_v26 (F := F), main_v27_0 := A_main_v22 main_arg0 main_arg1 main_arg2 main_arg3 main_arg6 main_arg7, main_v27_1 := A_main_v19 main_arg0 main_arg1 main_arg2 main_arg3 main_arg6 main_arg7, main_v27_2 := A_main_v8 main_arg0 main_arg1 main_arg2 main_arg3 main_arg6 main_arg7, main_v27_3 := A_main_v12 main_arg0 main_arg1 main_arg2 main_arg3 main_arg6 main_arg7 }

/-- One trip. -/
def step (j : ℕ) (s : State F) : State F :=
  { main_v27_5 := b20 j s, main_v27_6 := b18 j s, main_v27_7 := b24 j s, main_v27_8 := b28 j s, main_v27_0 := s.main_v27_0, main_v27_1 := s.main_v27_1, main_v27_2 := s.main_v27_2, main_v27_3 := s.main_v27_3 }
theorem step_main_v27_5 (j : ℕ) (s : State F) : (step j s).main_v27_5 = b20 j s := by simp only [step]
theorem step_main_v27_6 (j : ℕ) (s : State F) : (step j s).main_v27_6 = b18 j s := by simp only [step]
theorem step_main_v27_7 (j : ℕ) (s : State F) : (step j s).main_v27_7 = b24 j s := by simp only [step]
theorem step_main_v27_8 (j : ℕ) (s : State F) : (step j s).main_v27_8 = b28 j s := by simp only [step]

/-- `main_v31`, which the operations after the loop make, of the loop's last state. -/
def R_main_v31 (s : State F) : (⟨S16x4096x128, .bf16⟩ : BufTy).Contents (Elt F) :=
  truncf .bf16 (shapeCast _ (transpose S16x512x8x128 [2, 1, 0, 3] (shapeCast _ (s.main_v27_7) shapeCasts_S4096x32x64_S8x512x16x128) transposes_S8x512x16x128_S16x512x8x128_2_1_0_3) shapeCasts_S16x512x8x128_S16x4096x128) bitsLt_bf16_f32

/-- `main_v35`, which the operations after the loop make, of the loop's last state. -/
def R_main_v35 (s : State F) : (⟨S16x4096x128, .bf16⟩ : BufTy).Contents (Elt F) :=
  truncf .bf16 (shapeCast _ (transpose S16x512x8x128 [2, 1, 0, 3] (shapeCast _ (s.main_v27_8) shapeCasts_S4096x32x64_S8x512x16x128) transposes_S8x512x16x128_S16x512x8x128_2_1_0_3) shapeCasts_S16x512x8x128_S16x4096x128) bitsLt_bf16_f32

end Cert.ReferenceIdeal.RStep

end
-- ==== Proof.RStepRun.lean ====
/- The reference's run stated over the trip of RStep.lean, after the generated module of the same content. -/
module

public import proofs.«01_k».proof.Proof.Gen.ReferenceIdeal.Run
public import proofs.«01_k».proof.Proof.RStep
public import Idealize.ShloMosaic.Lib.Tactic.CleanTypes

@[expose] public section

noncomputable section

namespace Cert.ReferenceIdeal.RStepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.RStep (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v27_5) = s.main_v27_5
  f_6 : V0 (Proc.devRef .tc main_v27_6) = s.main_v27_6
  f_7 : V0 (Proc.devRef .tc main_v27_7) = s.main_v27_7
  f_8 : V0 (Proc.devRef .tc main_v27_8) = s.main_v27_8
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  n_4 : V0 (Proc.devRef .tc main_v27_4) = constantI S_ 32 (BitVec.ofNat 32 j)

variable {V0 s j}

set_option maxRecDepth 8192 in
theorem al_0 (h : Holds V0 s j) : (constantI S_ 32 4096#32 : (Proc.devRef .tc main_while0b_c_13 : DevRef τ sig).ty.Contents (Elt F)) = Cert.ReferenceIdeal.RStep.b0 j s := by
  unfold Cert.ReferenceIdeal.RStep.b0
  rfl
set_option maxRecDepth 8192 in
theorem al_1 (h : Holds V0 s j) : (subi (constantI S_ 32 4096#32) (V0 (Proc.devRef .tc main_v27_4)) : (Proc.devRef .tc main_while0b_v36 : DevRef τ sig).ty.Contents (Elt F)) = Cert.ReferenceIdeal.RStep.b1 j s := by
  unfold Cert.ReferenceIdeal.RStep.b1
  rw [← al_0 h, h.n_4]
  try rfl
set_option maxRecDepth 8192 in
theorem al_2 (h : Holds V0 s j) : (constantI S_ 32 1#32 : (Proc.devRef .tc main_while0b_c_14 : DevRef τ sig).ty.Contents (Elt F)) = Cert.ReferenceIdeal.RStep.b2 j s := by
  unfold Cert.ReferenceIdeal.RStep.b2
  rfl
set_option maxRecDepth 8192 in
theorem al_3 (h : Holds V0 s j) : (res_main_while0b_v37 V0 : (Proc.devRef .tc main_while0b_v37 : DevRef τ sig).ty.Contents (Elt F)) = Cert.ReferenceIdeal.RStep.b3 j s := by
  unfold res_main_while0b_v37 Cert.ReferenceIdeal.RStep.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.RStep.b4 j s := by
  unfold Cert.ReferenceIdeal.RStep.b4
  rfl
set_option maxRecDepth 8192 in
theorem al_5 (h : Holds V0 s j) : (constantI S_ 32 0#32 : (Proc.devRef .tc main_while0b_call0_c_0 : DevRef τ sig).ty.Contents (Elt F)) = Cert.ReferenceIdeal.RStep.b5 j s := by
  unfold Cert.ReferenceIdeal.RStep.b5
  rfl
set_option maxRecDepth 8192 in
theorem al_6 (h : Holds V0 s j) : (Host.dynamicSlice S1x32x64 (V0 (Proc.devRef .tc main_v27_0)) (fun k => (((![res_main_while0b_v37 V0, constantI S_ 32 0#32, constantI S_ 32 0#32] : Fin 3 → (⟨S_, .i32⟩ : BufTy).Contents (Elt F))) k (Shape.Idx.first h_S_)).toInt) sliceFits_S4096x32x64_S1x32x64 : (Proc.devRef .tc main_while0b_call0_v0 : DevRef τ sig).ty.Contents (Elt F)) = Cert.ReferenceIdeal.RStep.b6 j s := by
  unfold Cert.ReferenceIdeal.RStep.b6
  rw [← al_3 h, ← al_4 h, ← al_5 h, h.f_0]
  try rfl
set_option maxRecDepth 8192 in
theorem al_7 (h : Holds V0 s j) : (shapeCast S32x64 (Host.dynamicSlice S1x32x64 (V0 (Proc.devRef .tc main_v27_0)) (fun k => (((![res_main_while0b_v37 V0, constantI S_ 32 0#32, constantI S_ 32 0#32] : Fin 3 → (⟨S_, .i32⟩ : BufTy).Contents (Elt F))) k (Shape.Idx.first h_S_)).toInt) sliceFits_S4096x32x64_S1x32x64) shapeCasts_S1x32x64_S32x64 : (Proc.devRef .tc main_while0b_v38 : DevRef τ sig).ty.Contents (Elt F)) = Cert.ReferenceIdeal.RStep.b7 j s := by
  unfold Cert.ReferenceIdeal.RStep.b7
  rw [← al_6 h]
  try rfl
set_option maxRecDepth 8192 in
theorem al_8 (h : Holds V0 s j) : (constantI S_ 32 0#32 : (Proc.devRef .tc main_while0b_call1_c : DevRef τ sig).ty.Contents (Elt F)) = Cert.ReferenceIdeal.RStep.b8 j s := by
  unfold Cert.ReferenceIdeal.RStep.b8
  rfl
set_option maxRecDepth 8192 in
theorem al_9 (h : Holds V0 s j) : (constantI S_ 32 0#32 : (Proc.devRef .tc main_while0b_call1_c_0 : DevRef τ sig).ty.Contents (Elt F)) = Cert.ReferenceIdeal.RStep.b9 j s := by
  unfold Cert.ReferenceIdeal.RStep.b9
  rfl
set_option maxRecDepth 8192 in
theorem al_10 (h : Holds V0 s j) : (Host.dynamicSlice S1x32x64 (V0 (Proc.devRef .tc main_v27_1)) (fun k => (((![res_main_while0b_v37 V0, constantI S_ 32 0#32, constantI S_ 32 0#32] : Fin 3 → (⟨S_, .i32⟩ : BufTy).Contents (Elt F))) k (Shape.Idx.first h_S_)).toInt) sliceFits_S4096x32x64_S1x32x64 : (Proc.devRef .tc main_while0b_call1_v0 : DevRef τ sig).ty.Contents (Elt F)) = Cert.ReferenceIdeal.RStep.b10 j s := by
  unfold Cert.ReferenceIdeal.RStep.b10
  rw [← al_3 h, ← al_8 h, ← al_9 h, h.f_1]
  try rfl
set_option maxRecDepth 8192 in
theorem al_11 (h : Holds V0 s j) : (shapeCast S32x64 (Host.dynamicSlice S1x32x64 (V0 (Proc.devRef .tc main_v27_1)) (fun k => (((![res_main_while0b_v37 V0, constantI S_ 32 0#32, constantI S_ 32 0#32] : Fin 3 → (⟨S_, .i32⟩ : BufTy).Contents (Elt F))) k (Shape.Idx.first h_S_)).toInt) sliceFits_S4096x32x64_S1x32x64) shapeCasts_S1x32x64_S32x64 : (Proc.devRef .tc main_while0b_v39 : DevRef τ sig).ty.Contents (Elt F)) = Cert.ReferenceIdeal.RStep.b11 j s := by
  unfold Cert.ReferenceIdeal.RStep.b11
  rw [← al_10 h]
  try rfl
set_option maxRecDepth 8192 in
theorem al_12 (h : Holds V0 s j) : (res_main_while0b_v40 V0 : (Proc.devRef .tc main_while0b_v40 : DevRef τ sig).ty.Contents (Elt F)) = Cert.ReferenceIdeal.RStep.b12 j s := by
  unfold res_main_while0b_v40 Cert.ReferenceIdeal.RStep.b12
  rw [← al_7 h, h.f_5]
  try rfl
set_option maxRecDepth 8192 in
theorem al_13 (h : Holds V0 s j) : (res_main_while0b_v41 V0 : (Proc.devRef .tc main_while0b_v41 : DevRef τ sig).ty.Contents (Elt F)) = Cert.ReferenceIdeal.RStep.b13 j s := by
  unfold res_main_while0b_v41 Cert.ReferenceIdeal.RStep.b13
  rw [← al_11 h, h.f_6]
  try rfl
set_option maxRecDepth 8192 in
theorem al_14 (h : Holds V0 s j) : (mulf (V0 (Proc.devRef .tc main_v27_3)) (res_main_while0b_v41 V0) : (Proc.devRef .tc main_while0b_v42 : DevRef τ sig).ty.Contents (Elt F)) = Cert.ReferenceIdeal.RStep.b14 j s := by
  unfold Cert.ReferenceIdeal.RStep.b14
  rw [← al_13 h, h.f_3]
  try rfl
set_option maxRecDepth 8192 in
theorem al_15 (h : Holds V0 s j) : (mulf (V0 (Proc.devRef .tc main_v27_2)) (res_main_while0b_v41 V0) : (Proc.devRef .tc main_while0b_v43 : DevRef τ sig).ty.Contents (Elt F)) = Cert.ReferenceIdeal.RStep.b15 j s := by
  unfold Cert.ReferenceIdeal.RStep.b15
  rw [← al_13 h, h.f_2]
  try rfl
set_option maxRecDepth 8192 in
theorem al_16 (h : Holds V0 s j) : (Host.negf (res_main_while0b_v40 V0) : (Proc.devRef .tc main_while0b_v44 : DevRef τ sig).ty.Contents (Elt F)) = Cert.ReferenceIdeal.RStep.b16 j s := by
  unfold Cert.ReferenceIdeal.RStep.b16
  rw [← al_12 h]
  try rfl
set_option maxRecDepth 8192 in
theorem al_17 (h : Holds V0 s j) : (mulf (V0 (Proc.devRef .tc main_v27_3)) (Host.negf (res_main_while0b_v40 V0)) : (Proc.devRef .tc main_while0b_v45 : DevRef τ sig).ty.Contents (Elt F)) = Cert.ReferenceIdeal.RStep.b17 j s := by
  unfold Cert.ReferenceIdeal.RStep.b17
  rw [← al_16 h, h.f_3]
  try rfl
set_option maxRecDepth 8192 in
theorem al_18 (h : Holds V0 s j) : (addf (mulf (V0 (Proc.devRef .tc main_v27_2)) (res_main_while0b_v41 V0)) (mulf (V0 (Proc.devRef .tc main_v27_3)) (Host.negf (res_main_while0b_v40 V0))) : (Proc.devRef .tc main_while0b_v46 : DevRef τ sig).ty.Contents (Elt F)) = Cert.ReferenceIdeal.RStep.b18 j s := by
  unfold Cert.ReferenceIdeal.RStep.b18
  rw [← al_15 h, ← al_17 h]
  try rfl
set_option maxRecDepth 8192 in
theorem al_19 (h : Holds V0 s j) : (mulf (V0 (Proc.devRef .tc main_v27_2)) (res_main_while0b_v40 V0) : (Proc.devRef .tc main_while0b_v47 : DevRef τ sig).ty.Contents (Elt F)) = Cert.ReferenceIdeal.RStep.b19 j s := by
  unfold Cert.ReferenceIdeal.RStep.b19
  rw [← al_12 h, h.f_2]
  try rfl
set_option maxRecDepth 8192 in
theorem al_20 (h : Holds V0 s j) : (addf (mulf (V0 (Proc.devRef .tc main_v27_3)) (res_main_while0b_v41 V0)) (mulf (V0 (Proc.devRef .tc main_v27_2)) (res_main_while0b_v40 V0)) : (Proc.devRef .tc main_while0b_v48 : DevRef τ sig).ty.Contents (Elt F)) = Cert.ReferenceIdeal.RStep.b20 j s := by
  unfold Cert.ReferenceIdeal.RStep.b20
  rw [← al_14 h, ← al_19 h]
  try rfl
set_option maxRecDepth 8192 in
theorem al_21 (h : Holds V0 s j) : (broadcastInDim S1x32x64 ![1, 2] bcast_S32x64_S1x32x64_1_2 (res_main_while0b_v40 V0) : (Proc.devRef .tc main_while0b_call2_v0 : DevRef τ sig).ty.Contents (Elt F)) = Cert.ReferenceIdeal.RStep.b21 j s := by
  unfold Cert.ReferenceIdeal.RStep.b21
  rw [← al_12 h]
  try rfl
set_option maxRecDepth 8192 in
theorem al_22 (h : Holds V0 s j) : (constantI S_ 32 0#32 : (Proc.devRef .tc main_while0b_call2_c : DevRef τ sig).ty.Contents (Elt F)) = Cert.ReferenceIdeal.RStep.b22 j s := by
  unfold Cert.ReferenceIdeal.RStep.b22
  rfl
set_option maxRecDepth 8192 in
theorem al_23 (h : Holds V0 s j) : (constantI S_ 32 0#32 : (Proc.devRef .tc main_while0b_call2_c_0 : DevRef τ sig).ty.Contents (Elt F)) = Cert.ReferenceIdeal.RStep.b23 j s := by
  unfold Cert.ReferenceIdeal.RStep.b23
  rfl
set_option maxRecDepth 8192 in
theorem al_24 (h : Holds V0 s j) : (Host.dynamicUpdateSlice (V0 (Proc.devRef .tc main_v27_7)) (broadcastInDim S1x32x64 ![1, 2] bcast_S32x64_S1x32x64_1_2 (res_main_while0b_v40 V0)) (fun k => (((![res_main_while0b_v37 V0, constantI S_ 32 0#32, constantI S_ 32 0#32] : Fin 3 → (⟨S_, .i32⟩ : BufTy).Contents (Elt F))) k (Shape.Idx.first h_S_)).toInt) updateFits_S4096x32x64_S1x32x64 : (Proc.devRef .tc main_while0b_v49 : DevRef τ sig).ty.Contents (Elt F)) = Cert.ReferenceIdeal.RStep.b24 j s := by
  unfold Cert.ReferenceIdeal.RStep.b24
  rw [← al_21 h, ← al_3 h, ← al_22 h, ← al_23 h, h.f_7]
  try rfl
set_option maxRecDepth 8192 in
theorem al_25 (h : Holds V0 s j) : (broadcastInDim S1x32x64 ![1, 2] bcast_S32x64_S1x32x64_1_2 (res_main_while0b_v41 V0) : (Proc.devRef .tc main_while0b_call3_v0 : DevRef τ sig).ty.Contents (Elt F)) = Cert.ReferenceIdeal.RStep.b25 j s := by
  unfold Cert.ReferenceIdeal.RStep.b25
  rw [← al_13 h]
  try rfl
set_option maxRecDepth 8192 in
theorem al_26 (h : Holds V0 s j) : (constantI S_ 32 0#32 : (Proc.devRef .tc main_while0b_call3_c : DevRef τ sig).ty.Contents (Elt F)) = Cert.ReferenceIdeal.RStep.b26 j s := by
  unfold Cert.ReferenceIdeal.RStep.b26
  rfl
set_option maxRecDepth 8192 in
theorem al_27 (h : Holds V0 s j) : (constantI S_ 32 0#32 : (Proc.devRef .tc main_while0b_call3_c_0 : DevRef τ sig).ty.Contents (Elt F)) = Cert.ReferenceIdeal.RStep.b27 j s := by
  unfold Cert.ReferenceIdeal.RStep.b27
  rfl
set_option maxRecDepth 8192 in
theorem al_28 (h : Holds V0 s j) : (Host.dynamicUpdateSlice (V0 (Proc.devRef .tc main_v27_8)) (broadcastInDim S1x32x64 ![1, 2] bcast_S32x64_S1x32x64_1_2 (res_main_while0b_v41 V0)) (fun k => (((![res_main_while0b_v37 V0, constantI S_ 32 0#32, constantI S_ 32 0#32] : Fin 3 → (⟨S_, .i32⟩ : BufTy).Contents (Elt F))) k (Shape.Idx.first h_S_)).toInt) updateFits_S4096x32x64_S1x32x64 : (Proc.devRef .tc main_while0b_v50 : DevRef τ sig).ty.Contents (Elt F)) = Cert.ReferenceIdeal.RStep.b28 j s := by
  unfold Cert.ReferenceIdeal.RStep.b28
  rw [← al_25 h, ← al_3 h, ← al_26 h, ← al_27 h, h.f_8]
  try rfl

/-! One trip's step of the carried values is `step`, field by field; a counter steps to the next number. -/

theorem step_5 (h : Holds V0 s j) : step_main_v27_5 V0 = (step j s).main_v27_5 := by
  unfold step_main_v27_5 Cert.ReferenceIdeal.RStep.step
  show id (addf (mulf (V0 (Proc.devRef .tc main_v27_3)) (res_main_while0b_v41 V0)) (mulf (V0 (Proc.devRef .tc main_v27_2)) (res_main_while0b_v40 V0))) = _
  rw [al_20 h]
  try rfl
theorem step_6 (h : Holds V0 s j) : step_main_v27_6 V0 = (step j s).main_v27_6 := by
  unfold step_main_v27_6 Cert.ReferenceIdeal.RStep.step
  show id (addf (mulf (V0 (Proc.devRef .tc main_v27_2)) (res_main_while0b_v41 V0)) (mulf (V0 (Proc.devRef .tc main_v27_3)) (Host.negf (res_main_while0b_v40 V0)))) = _
  rw [al_18 h]
  try rfl
theorem step_7 (h : Holds V0 s j) : step_main_v27_7 V0 = (step j s).main_v27_7 := by
  rw [RStep.step_main_v27_7, ← al_24 h]
  unfold step_main_v27_7
  try dsimp only [id]
  try clean_types
  with_reducible rfl
theorem step_8 (h : Holds V0 s j) : step_main_v27_8 V0 = (step j s).main_v27_8 := by
  rw [RStep.step_main_v27_8, ← al_28 h]
  unfold step_main_v27_8
  try dsimp only [id]
  try clean_types
  with_reducible rfl
theorem step_4 (h : Holds V0 s j) : step_main_v27_4 V0 = constantI S_ 32 (BitVec.ofNat 32 (j + 1)) := by
  unfold step_main_v27_4
  rw [h.n_4]
  funext i
  show BitVec.ofNat 32 j + 1#32 = BitVec.ofNat 32 (j + 1)
  simp only [BitVec.ofNat_add]

set_option maxRecDepth 8192 in
theorem out_main_v31_holds (h : Holds V0 s j) : out_main_v31 V0 = Cert.ReferenceIdeal.RStep.R_main_v31 s := by
  unfold out_main_v31 Cert.ReferenceIdeal.RStep.R_main_v31
  rw [h.f_7]
  try rfl

set_option maxRecDepth 8192 in
theorem out_main_v35_holds (h : Holds V0 s j) : out_main_v35 V0 = Cert.ReferenceIdeal.RStep.R_main_v35 s := by
  unfold out_main_v35 Cert.ReferenceIdeal.RStep.R_main_v35
  rw [h.f_8]
  try rfl

/-- One trip keeps the valuation holding: `step` of the state, the same set-up values, the next number. -/
theorem holds_step (h : Holds V0 s j) : Holds (STEP V0) (step j s) (j + 1) where
  f_5 := (STEP_main_v27_5 V0).trans (step_5 h)
  f_6 := (STEP_main_v27_6 V0).trans (step_6 h)
  f_7 := (STEP_main_v27_7 V0).trans (step_7 h)
  f_8 := (STEP_main_v27_8 V0).trans (step_8 h)
  n_4 := (STEP_main_v27_4 V0).trans (step_4 h)
  f_0 := (STEP_main_v27_0 V0).trans h.f_0
  f_1 := (STEP_main_v27_1 V0).trans h.f_1
  f_2 := (STEP_main_v27_2 V0).trans h.f_2
  f_3 := (STEP_main_v27_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v31) = Cert.ReferenceIdeal.RStep.R_main_v31 (it c 4096)
      ∧ r.2.mem ((c.tc : Thread nD τ).loc main_v35) = Cert.ReferenceIdeal.RStep.R_main_v35 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 4096
    ⟨(h c).1.trans (out_main_v31_holds hk), (h c).2.1.trans (out_main_v35_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.RStepRun

end
-- ==== Proof.KRun.lean ====
module

public import proofs.«01_k».proof.Proof.Gen.KernelIdeal.Frame.Runs

@[expose] public section

/- The run of the kernel's body, in three stages. `tailProg` is the body after its second loop: the
   combination of the eight chunks' last values, and the third loop. Its run is stated for any values
   of the registers it reads, so that the pieces it leaves in the two results are small functions of
   them (`tailRun`); the body's run applies it at the values the first two loops leave. -/

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)

/-- The body after its second loop, over the registers it reads. -/
noncomputable def tailProg (v1 : IVec S8x128 32) (v5 : FVec F S8x128 .f32) (v9 : FVec F S8x128 .f32) (v13 : FVec F S8x128 .f32) (v17 : FVec F S8x128 .f32) (v21 : FVec F S8x128 .f32) (v25 : FVec F S8x128 .f32) (v29 : FVec F S8x128 .f32) (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32) (v84 : FVec F S8x128 .f32) :
    Prog (TpuEff nD τ sig (Elt F) Λ₀ .tc) PUnit := do
  let ⟨v111, v114, v131, v132⟩ : Σ' (v111 : FVec F S8x128 .f32) (v114 : FVec F S8x128 .f32) (v131 : FVec F S8x128 .f32), FVec F S8x128 .f32 ← k0_part13 i arg1 harg1 arg2 harg2 arg3 harg3 arg4 harg4 arg5 harg5 arg6 harg6 arg7 harg7 arg8 harg8 arg9 harg9 v1 v36_0 v36_1 v81 v84
  let ⟨v161, v166, v175, v178, v179, v180⟩ : Σ' (v161 : FVec F S8x128 .f32) (v166 : FVec F S8x128 .f32) (v175 : FVec F S8x128 .f32) (v178 : FVec F S8x128 .f32) (v179 : FVec F S8x128 .f32), FVec F S8x128 .f32 ← k0_part14 i arg1 harg1 arg2 harg2 arg3 harg3 arg4 harg4 arg5 harg5 arg6 harg6 arg7 harg7 arg8 harg8 arg9 harg9 v1 v9 v25 v111 v114 v131 v132
  let ⟨v217, v220, v225, v233, v234⟩ : Σ' (v217 : FVec F S8x128 .f32) (v220 : FVec F S8x128 .f32) (v225 : FVec F S8x128 .f32) (v233 : FVec F S8x128 .f32), FVec F S8x128 .f32 ← k0_part15 i arg1 harg1 arg2 harg2 arg3 harg3 arg4 harg4 arg5 harg5 arg6 harg6 arg7 harg7 arg8 harg8 arg9 harg9 v1 v36_2 v36_3 v175 v178 v179 v180
  let ⟨v261, v262, v268, v273, v281, v282⟩ : Σ' (v261 : FVec F S8x128 .f32) (v262 : FVec F S8x128 .f32) (v268 : FVec F S8x128 .f32) (v273 : FVec F S8x128 .f32) (v281 : FVec F S8x128 .f32), FVec F S8x128 .f32 ← k0_part16 i arg1 harg1 arg2 harg2 arg3 harg3 arg4 harg4 arg5 harg5 arg6 harg6 arg7 harg7 arg8 harg8 arg9 harg9 v1 v36_2 v36_3 v217 v220 v225 v233 v234
  let ⟨v291, v296, v329, v332, v335, v336⟩ : Σ' (v291 : FVec F S8x128 .f32) (v296 : FVec F S8x128 .f32) (v329 : FVec F S8x128 .f32) (v332 : FVec F S8x128 .f32) (v335 : FVec F S8x128 .f32), FVec F S8x128 .f32 ← k0_part17 i arg1 harg1 arg2 harg2 arg3 harg3 arg4 harg4 arg5 harg5 arg6 harg6 arg7 harg7 arg8 harg8 arg9 harg9 v1 v13 v29 v261 v262 v268 v273 v281 v282
  let ⟨v367, v368, v371, v374, v379, v384⟩ : Σ' (v367 : FVec F S8x128 .f32) (v368 : FVec F S8x128 .f32) (v371 : FVec F S8x128 .f32) (v374 : FVec F S8x128 .f32) (v379 : FVec F S8x128 .f32), FVec F S8x128 .f32 ← k0_part18 i arg1 harg1 arg2 harg2 arg3 harg3 arg4 harg4 arg5 harg5 arg6 harg6 arg7 harg7 arg8 harg8 arg9 harg9 v1 v36_4 v36_5 v329 v332 v335 v336
  let ⟨v421, v426, v429, v432⟩ : Σ' (v421 : FVec F S8x128 .f32) (v426 : FVec F S8x128 .f32) (v429 : FVec F S8x128 .f32), FVec F S8x128 .f32 ← k0_part19 i arg1 harg1 arg2 harg2 arg3 harg3 arg4 harg4 arg5 harg5 arg6 harg6 arg7 harg7 arg8 harg8 arg9 harg9 v1 v17 v33 v367 v368 v371 v374 v379 v384
  let ⟨v477, v480, v485, v487, c7_i32_97⟩ : Σ' (v477 : FVec F S8x128 .f32) (v480 : FVec F S8x128 .f32) (v485 : FVec F S8x128 .f32) (v487 : IVec S8x128 1), BitVec 32 ← k0_part20 i arg1 harg1 arg2 harg2 arg3 harg3 arg4 harg4 arg5 harg5 arg6 harg6 arg7 harg7 arg8 harg8 arg9 harg9 v1 v36_6 v429 v432
  let ⟨v521, v522, v525, v528, v533, v535, c4_i32_109⟩ : Σ' (v521 : FVec F S8x128 .f32) (v522 : FVec F S8x128 .f32) (v525 : FVec F S8x128 .f32) (v528 : FVec F S8x128 .f32) (v533 : FVec F S8x128 .f32) (v535 : IVec S8x128 1), BitVec 32 ← k0_part21 i arg1 harg1 arg2 harg2 arg3 harg3 arg4 harg4 arg5 harg5 arg6 harg6 arg7 harg7 arg8 harg8 arg9 harg9 v1 v36_6 v36_7 v477 v480 v485 v487 c7_i32_97
  let (v558_0, v558_1, v558_2, v558_3, v558_4, v558_5, v558_6, v558_7) ← Scf.Loop.for k0_t3_loop k0_t3_ok (v5, v21, v9, v25, v13, v29, v17, v33) (k0_t3_body i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109)
  pure ⟨⟩

/-- The body is its first two parts followed by `tailProg`. -/
theorem body_split :
    cc0_s5_scan_rev (F := F) i arg1 harg1 arg2 harg2 arg3 harg3 arg4 harg4 arg5 harg5 arg6 harg6 arg7 harg7 arg8 harg8 arg9 harg9 = (
  k0_part11 i arg1 harg1 arg2 harg2 arg3 harg3 arg4 harg4 arg5 harg5 arg6 harg6 arg7 harg7 arg8 harg8 arg9 harg9 >>= fun r =>
  k0_part12 i arg1 harg1 arg2 harg2 arg3 harg3 arg4 harg4 arg5 harg5 arg6 harg6 arg7 harg7 arg8 harg8 arg9 harg9 r.2.1 r.2.2.1 r.2.2.2.1 r.2.2.2.2.1 r.2.2.2.2.2.1 r.2.2.2.2.2.2.1 r.2.2.2.2.2.2.2 >>= fun q =>
  tailProg i arg1 harg1 arg2 harg2 arg3 harg3 arg4 harg4 arg5 harg5 arg6 harg6 arg7 harg7 arg8 harg8 arg9 harg9 r.1 r.2.1 r.2.2.1 r.2.2.2.1 r.2.2.2.2.1 r.2.2.2.2.2.1 r.2.2.2.2.2.2.1 r.2.2.2.2.2.2.2 q.1 q.2.1 q.2.2.1 q.2.2.2.1 q.2.2.2.2.1 q.2.2.2.2.2.1 q.2.2.2.2.2.2.1 q.2.2.2.2.2.2.2.1 q.2.2.2.2.2.2.2.2.1 q.2.2.2.2.2.2.2.2.2.1 q.2.2.2.2.2.2.2.2.2.2) := by
  rw [cc0_s5_scan_rev_eq_skeleton]
  rfl

attribute [irreducible] tailProg

/-- The run of `tailProg`: the pieces it leaves in the two results, and that it leaves them. -/
noncomputable def tailRun
    (X8 : BufTy.Contents (Elt F) arg8.view.ty) (X9 : BufTy.Contents (Elt F) arg9.view.ty)
    (v1 : IVec S8x128 32) (v5 : FVec F S8x128 .f32) (v9 : FVec F S8x128 .f32) (v13 : FVec F S8x128 .f32) (v17 : FVec F S8x128 .f32) (v21 : FVec F S8x128 .f32) (v25 : FVec F S8x128 .f32) (v29 : FVec F S8x128 .f32) (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32) (v84 : FVec F S8x128 .f32) :
    Σ' (L5 : List (View.Piece (Elt F) S4x4096x128 .bf16)), { L6 : List (View.Piece (Elt F) S4x4096x128 .bf16) //
      ∀ (E : Set ℕ) (f6 : BufTy.Contents (Elt F) arg6.view.ty) (f7 : BufTy.Contents (Elt F) arg7.view.ty) (K : PUnit → sProp 𝕄),
        iprop((arg8.view.loc (c : Thread nD τ) ↦[arg8.view.set]{fullShare} X8) ∗ (arg9.view.loc (c : Thread nD τ) ↦[arg9.view.set]{fullShare} X9)
            ∗ (arg6.view.loc (c : Thread nD τ) ↦[arg6.view.set]{fullShare} f6) ∗ (arg7.view.loc (c : Thread nD τ) ↦[arg7.view.set]{fullShare} f7)
            ∗ (iprop((arg8.view.loc (c : Thread nD τ) ↦[arg8.view.set]{fullShare} X8) ∗ (arg9.view.loc (c : Thread nD τ) ↦[arg9.view.set]{fullShare} X9)
                ∗ (arg6.view.loc (c : Thread nD τ) ↦[arg6.view.set]{fullShare} arg6.view.writes (Elt F) f6 L5) ∗ (arg7.view.loc (c : Thread nD τ) ↦[arg7.view.set]{fullShare} arg7.view.writes (Elt F) f7 L6)) -∗ K ⟨⟩))
          ⊢ wp frame (wpE (defs₀ (F := F)) Variants.none c none) E (tailProg i arg1 harg1 arg2 harg2 arg3 harg3 arg4 harg4 arg5 harg5 arg6 harg6 arg7 harg7 arg8 harg8 arg9 harg9 v1 v5 v9 v13 v17 v21 v25 v29 v33 v36_0 v36_1 v36_2 v36_3 v36_4 v36_5 v36_6 v36_7 v81 v84) K } := by
  refine ⟨?_, ?_, fun E f6 f7 K => ?run⟩
  case run =>
    unfold tailProg
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    iintro ⟨HS0, HS1, H5, H6, Hk⟩
    sl_exec
    sl_step
    iapply Hk
    isplitl [HS0]; · iexact HS0
    isplitl [HS1]; · iexact HS1
    isplitl [H5]; · iexact H5
    iexact H6

/-- The run of the first part: the registers it returns, and the pieces the projection loop leaves in
    the two scratch buffers. -/
noncomputable def headRun
    (x0 : Vec F S4096x128 .f32) (x1 : Vec F S1x512x128 .f32) (x2 : Vec F S1x512x128 .f32) (x3 : Vec F S4x1x128 .f32) (x4 : Vec F S4x1x128 .f32) :
    Σ' (V : (Σ' (v1 : IVec S8x128 32) (v5 : FVec F S8x128 .f32) (v9 : FVec F S8x128 .f32) (v13 : FVec F S8x128 .f32) (v17 : FVec F S8x128 .f32) (v21 : FVec F S8x128 .f32) (v25 : FVec F S8x128 .f32), FVec F S8x128 .f32)) (L8 : List (View.Piece (Elt F) S4x4096x128 .f32)), { L9 : List (View.Piece (Elt F) S4x4096x128 .f32) //
      ∀ (E : Set ℕ) (f8 : BufTy.Contents (Elt F) arg8.view.ty) (f9 : BufTy.Contents (Elt F) arg9.view.ty) (K : (Σ' (v1 : IVec S8x128 32) (v5 : FVec F S8x128 .f32) (v9 : FVec F S8x128 .f32) (v13 : FVec F S8x128 .f32) (v17 : FVec F S8x128 .f32) (v21 : FVec F S8x128 .f32) (v25 : FVec F S8x128 .f32), FVec F S8x128 .f32) → sProp 𝕄),
        iprop((arg1.view.loc (c : Thread nD τ) ↦[arg1.view.set]{fullShare} harg1.unread x0) ∗ (arg2.view.loc (c : Thread nD τ) ↦[arg2.view.set]{fullShare} harg2.unread x1)
            ∗ (arg3.view.loc (c : Thread nD τ) ↦[arg3.view.set]{fullShare} harg3.unread x2) ∗ (arg4.view.loc (c : Thread nD τ) ↦[arg4.view.set]{fullShare} harg4.unread x3)
            ∗ (arg5.view.loc (c : Thread nD τ) ↦[arg5.view.set]{fullShare} harg5.unread x4)
            ∗ (arg8.view.loc (c : Thread nD τ) ↦[arg8.view.set]{fullShare} f8) ∗ (arg9.view.loc (c : Thread nD τ) ↦[arg9.view.set]{fullShare} f9)
            ∗ (iprop((arg1.view.loc (c : Thread nD τ) ↦[arg1.view.set]{fullShare} harg1.unread x0) ∗ (arg2.view.loc (c : Thread nD τ) ↦[arg2.view.set]{fullShare} harg2.unread x1)
                ∗ (arg3.view.loc (c : Thread nD τ) ↦[arg3.view.set]{fullShare} harg3.unread x2) ∗ (arg4.view.loc (c : Thread nD τ) ↦[arg4.view.set]{fullShare} harg4.unread x3)
                ∗ (arg5.view.loc (c : Thread nD τ) ↦[arg5.view.set]{fullShare} harg5.unread x4)
                ∗ (arg8.view.loc (c : Thread nD τ) ↦[arg8.view.set]{fullShare} arg8.view.writes (Elt F) f8 L8) ∗ (arg9.view.loc (c : Thread nD τ) ↦[arg9.view.set]{fullShare} arg9.view.writes (Elt F) f9 L9)) -∗ K V))
          ⊢ wp frame (wpE (defs₀ (F := F)) Variants.none c none) E (k0_part11 i arg1 harg1 arg2 harg2 arg3 harg3 arg4 harg4 arg5 harg5 arg6 harg6 arg7 harg7 arg8 harg8 arg9 harg9) K } := by
  refine ⟨?_, ?_, ?_, fun E f8 f9 K => ?run⟩
  case run =>
    simp only [k0_part11_eq_skeleton]
    iintro ⟨H0, H1, H2, H3, H4, HS0, HS1, Hk⟩
    sl_exec
    sl_step
    iapply Hk
    isplitl [H0]; · iexact H0
    isplitl [H1]; · iexact H1
    isplitl [H2]; · iexact H2
    isplitl [H3]; · iexact H3
    isplitl [H4]; · iexact H4
    isplitl [HS0]; · iexact HS0
    iexact HS1

/-- The run of the second part, over the registers it reads and the contents of the scratch buffers: the
    registers it returns, and the pieces the local scan leaves in the two scratch buffers. -/
noncomputable def midRun
    (X8 : BufTy.Contents (Elt F) arg8.view.ty) (X9 : BufTy.Contents (Elt F) arg9.view.ty) (x4 : Vec F S4x1x128 .f32)
    (v5 : FVec F S8x128 .f32) (v9 : FVec F S8x128 .f32) (v13 : FVec F S8x128 .f32) (v17 : FVec F S8x128 .f32) (v21 : FVec F S8x128 .f32) (v25 : FVec F S8x128 .f32) (v29 : FVec F S8x128 .f32) :
    Σ' (V : (Σ' (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32), FVec F S8x128 .f32)) (L8 : List (View.Piece (Elt F) S4x4096x128 .f32)), { L9 : List (View.Piece (Elt F) S4x4096x128 .f32) //
      ∀ (E : Set ℕ) (K : (Σ' (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32), FVec F S8x128 .f32) → sProp 𝕄),
        iprop((arg5.view.loc (c : Thread nD τ) ↦[arg5.view.set]{fullShare} harg5.unread x4)
            ∗ (arg8.view.loc (c : Thread nD τ) ↦[arg8.view.set]{fullShare} X8) ∗ (arg9.view.loc (c : Thread nD τ) ↦[arg9.view.set]{fullShare} X9)
            ∗ (iprop((arg5.view.loc (c : Thread nD τ) ↦[arg5.view.set]{fullShare} harg5.unread x4)
                ∗ (arg8.view.loc (c : Thread nD τ) ↦[arg8.view.set]{fullShare} arg8.view.writes (Elt F) X8 L8) ∗ (arg9.view.loc (c : Thread nD τ) ↦[arg9.view.set]{fullShare} arg9.view.writes (Elt F) X9 L9)) -∗ K V))
          ⊢ wp frame (wpE (defs₀ (F := F)) Variants.none c none) E (k0_part12 i arg1 harg1 arg2 harg2 arg3 harg3 arg4 harg4 arg5 harg5 arg6 harg6 arg7 harg7 arg8 harg8 arg9 harg9 v5 v9 v13 v17 v21 v25 v29) K } := by
  refine ⟨?_, ?_, ?_, fun E K => ?run⟩
  case run =>
    simp only [k0_part12_eq_skeleton]
    iintro ⟨H4, HS0, HS1, Hk⟩
    sl_exec
    sl_step
    iapply Hk
    isplitl [H4]; · iexact H4
    isplitl [HS0]; · iexact HS0
    iexact HS1

/-- The view the scratch buffers' contents are read through. -/
abbrev VO8 := scM0_0.view

/-- The projection loop's pieces cover scratch buffer 8. -/
theorem head_cover8
    (x0 : Vec F S4096x128 .f32) (x1 : Vec F S1x512x128 .f32) (x2 : Vec F S1x512x128 .f32) (x3 : Vec F S4x1x128 .f32) (x4 : Vec F S4x1x128 .f32) (y : S4x4096x128.Idx) :
    ∃ pc ∈ (headRun c i arg1 harg1 arg2 harg2 arg3 harg3 arg4 harg4 arg5 harg5 arg6 harg6 arg7 harg7 arg8 harg8 arg9 harg9 x0 x1 x2 x3 x4).2.1, y ∈ pc.1.set :=
  View.cover_of_tiledL (headRun c i arg1 harg1 arg2 harg2 arg3 harg3 arg4 harg4 arg5 harg5 arg6 harg6 arg7 harg7 arg8 harg8 arg9 harg9 x0 x1 x2 x3 x4).2.1 S1x512x128.size (by sl_kernel_rfl) y

/-- The projection loop's pieces cover scratch buffer 9. -/
theorem head_cover9
    (x0 : Vec F S4096x128 .f32) (x1 : Vec F S1x512x128 .f32) (x2 : Vec F S1x512x128 .f32) (x3 : Vec F S4x1x128 .f32) (x4 : Vec F S4x1x128 .f32) (y : S4x4096x128.Idx) :
    ∃ pc ∈ (headRun c i arg1 harg1 arg2 harg2 arg3 harg3 arg4 harg4 arg5 harg5 arg6 harg6 arg7 harg7 arg8 harg8 arg9 harg9 x0 x1 x2 x3 x4).2.2.1, y ∈ pc.1.set :=
  View.cover_of_tiledL (headRun c i arg1 harg1 arg2 harg2 arg3 harg3 arg4 harg4 arg5 harg5 arg6 harg6 arg7 harg7 arg8 harg8 arg9 harg9 x0 x1 x2 x3 x4).2.2.1 S1x512x128.size (by sl_kernel_rfl) y

/-- The registers the first part returns. -/
def regs
    (x0 : Vec F S4096x128 .f32) (x1 : Vec F S1x512x128 .f32) (x2 : Vec F S1x512x128 .f32) (x3 : Vec F S4x1x128 .f32) (x4 : Vec F S4x1x128 .f32) : (Σ' (v1 : IVec S8x128 32) (v5 : FVec F S8x128 .f32) (v9 : FVec F S8x128 .f32) (v13 : FVec F S8x128 .f32) (v17 : FVec F S8x128 .f32) (v21 : FVec F S8x128 .f32) (v25 : FVec F S8x128 .f32), FVec F S8x128 .f32) := (headRun c i arg1 harg1 arg2 harg2 arg3 harg3 arg4 harg4 arg5 harg5 arg6 harg6 arg7 harg7 arg8 harg8 arg9 harg9 x0 x1 x2 x3 x4).1
/-- What the projection loop leaves in the first scratch buffer. -/
def scr8
    (x0 : Vec F S4096x128 .f32) (x1 : Vec F S1x512x128 .f32) (x2 : Vec F S1x512x128 .f32) (x3 : Vec F S4x1x128 .f32) (x4 : Vec F S4x1x128 .f32) : Vec F S4x4096x128 .f32 := VO8.read (Elt F) (VO8.writes (Elt F) VO8.junk (headRun c i arg1 harg1 arg2 harg2 arg3 harg3 arg4 harg4 arg5 harg5 arg6 harg6 arg7 harg7 arg8 harg8 arg9 harg9 x0 x1 x2 x3 x4).2.1)
/-- What the projection loop leaves in the second scratch buffer. -/
def scr9
    (x0 : Vec F S4096x128 .f32) (x1 : Vec F S1x512x128 .f32) (x2 : Vec F S1x512x128 .f32) (x3 : Vec F S4x1x128 .f32) (x4 : Vec F S4x1x128 .f32) : Vec F S4x4096x128 .f32 := VO8.read (Elt F) (VO8.writes (Elt F) VO8.junk (headRun c i arg1 harg1 arg2 harg2 arg3 harg3 arg4 harg4 arg5 harg5 arg6 harg6 arg7 harg7 arg8 harg8 arg9 harg9 x0 x1 x2 x3 x4).2.2.1)

theorem head_eq8
    (x0 : Vec F S4096x128 .f32) (x1 : Vec F S1x512x128 .f32) (x2 : Vec F S1x512x128 .f32) (x3 : Vec F S4x1x128 .f32) (x4 : Vec F S4x1x128 .f32) (f8 : BufTy.Contents (Elt F) arg8.view.ty) :
    arg8.view.writes (Elt F) f8 (headRun c i arg1 harg1 arg2 harg2 arg3 harg3 arg4 harg4 arg5 harg5 arg6 harg6 arg7 harg7 arg8 harg8 arg9 harg9 x0 x1 x2 x3 x4).2.1 = harg8.unread (scr8 c i arg1 harg1 arg2 harg2 arg3 harg3 arg4 harg4 arg5 harg5 arg6 harg6 arg7 harg7 arg8 harg8 arg9 harg9 x0 x1 x2 x3 x4) :=
  harg8.eq_unread (View.read_writes_of_cover arg8.view f8 VO8 VO8.junk _ (head_cover8 c i arg1 harg1 arg2 harg2 arg3 harg3 arg4 harg4 arg5 harg5 arg6 harg6 arg7 harg7 arg8 harg8 arg9 harg9 x0 x1 x2 x3 x4))
theorem head_eq9
    (x0 : Vec F S4096x128 .f32) (x1 : Vec F S1x512x128 .f32) (x2 : Vec F S1x512x128 .f32) (x3 : Vec F S4x1x128 .f32) (x4 : Vec F S4x1x128 .f32) (f9 : BufTy.Contents (Elt F) arg9.view.ty) :
    arg9.view.writes (Elt F) f9 (headRun c i arg1 harg1 arg2 harg2 arg3 harg3 arg4 harg4 arg5 harg5 arg6 harg6 arg7 harg7 arg8 harg8 arg9 harg9 x0 x1 x2 x3 x4).2.2.1 = harg9.unread (scr9 c i arg1 harg1 arg2 harg2 arg3 harg3 arg4 harg4 arg5 harg5 arg6 harg6 arg7 harg7 arg8 harg8 arg9 harg9 x0 x1 x2 x3 x4) :=
  harg9.eq_unread (View.read_writes_of_cover arg9.view f9 VO8 VO8.junk _ (head_cover9 c i arg1 harg1 arg2 harg2 arg3 harg3 arg4 harg4 arg5 harg5 arg6 harg6 arg7 harg7 arg8 harg8 arg9 harg9 x0 x1 x2 x3 x4))

/-- The registers the second part returns. -/
def mids (u8 u9 : Vec F S4x4096x128 .f32) (x4 : Vec F S4x1x128 .f32) (v5 : FVec F S8x128 .f32) (v9 : FVec F S8x128 .f32) (v13 : FVec F S8x128 .f32) (v17 : FVec F S8x128 .f32) (v21 : FVec F S8x128 .f32) (v25 : FVec F S8x128 .f32) (v29 : FVec F S8x128 .f32) : (Σ' (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32), FVec F S8x128 .f32) :=
  (midRun c i arg1 harg1 arg2 harg2 arg3 harg3 arg4 harg4 arg5 harg5 arg6 harg6 arg7 harg7 arg8 harg8 arg9 harg9 (harg8.unread u8) (harg9.unread u9) x4 v5 v9 v13 v17 v21 v25 v29).1
/-- What the local scan leaves in the first scratch buffer. -/
def loc8 (u8 u9 : Vec F S4x4096x128 .f32) (x4 : Vec F S4x1x128 .f32) (v5 : FVec F S8x128 .f32) (v9 : FVec F S8x128 .f32) (v13 : FVec F S8x128 .f32) (v17 : FVec F S8x128 .f32) (v21 : FVec F S8x128 .f32) (v25 : FVec F S8x128 .f32) (v29 : FVec F S8x128 .f32) : BufTy.Contents (Elt F) arg8.view.ty :=
  arg8.view.writes (Elt F) (harg8.unread u8) (midRun c i arg1 harg1 arg2 harg2 arg3 harg3 arg4 harg4 arg5 harg5 arg6 harg6 arg7 harg7 arg8 harg8 arg9 harg9 (harg8.unread u8) (harg9.unread u9) x4 v5 v9 v13 v17 v21 v25 v29).2.1
/-- What the local scan leaves in the second scratch buffer. -/
def loc9 (u8 u9 : Vec F S4x4096x128 .f32) (x4 : Vec F S4x1x128 .f32) (v5 : FVec F S8x128 .f32) (v9 : FVec F S8x128 .f32) (v13 : FVec F S8x128 .f32) (v17 : FVec F S8x128 .f32) (v21 : FVec F S8x128 .f32) (v25 : FVec F S8x128 .f32) (v29 : FVec F S8x128 .f32) : BufTy.Contents (Elt F) arg9.view.ty :=
  arg9.view.writes (Elt F) (harg9.unread u9) (midRun c i arg1 harg1 arg2 harg2 arg3 harg3 arg4 harg4 arg5 harg5 arg6 harg6 arg7 harg7 arg8 harg8 arg9 harg9 (harg8.unread u8) (harg9.unread u9) x4 v5 v9 v13 v17 v21 v25 v29).2.2.1

/-- The pieces the body leaves in its first result. -/
def pieces5
    (x0 : Vec F S4096x128 .f32) (x1 : Vec F S1x512x128 .f32) (x2 : Vec F S1x512x128 .f32) (x3 : Vec F S4x1x128 .f32) (x4 : Vec F S4x1x128 .f32) : List (View.Piece (Elt F) S4x4096x128 .bf16) :=
  let r := regs c i arg1 harg1 arg2 harg2 arg3 harg3 arg4 harg4 arg5 harg5 arg6 harg6 arg7 harg7 arg8 harg8 arg9 harg9 x0 x1 x2 x3 x4
  let u8 := scr8 c i arg1 harg1 arg2 harg2 arg3 harg3 arg4 harg4 arg5 harg5 arg6 harg6 arg7 harg7 arg8 harg8 arg9 harg9 x0 x1 x2 x3 x4
  let u9 := scr9 c i arg1 harg1 arg2 harg2 arg3 harg3 arg4 harg4 arg5 harg5 arg6 harg6 arg7 harg7 arg8 harg8 arg9 harg9 x0 x1 x2 x3 x4
  let q := mids c i arg1 harg1 arg2 harg2 arg3 harg3 arg4 harg4 arg5 harg5 arg6 harg6 arg7 harg7 arg8 harg8 arg9 harg9 u8 u9 x4 r.2.1 r.2.2.1 r.2.2.2.1 r.2.2.2.2.1 r.2.2.2.2.2.1 r.2.2.2.2.2.2.1 r.2.2.2.2.2.2.2
  (tailRun c i arg1 harg1 arg2 harg2 arg3 harg3 arg4 harg4 arg5 harg5 arg6 harg6 arg7 harg7 arg8 harg8 arg9 harg9 (loc8 c i arg1 harg1 arg2 harg2 arg3 harg3 arg4 harg4 arg5 harg5 arg6 harg6 arg7 harg7 arg8 harg8 arg9 harg9 u8 u9 x4 r.2.1 r.2.2.1 r.2.2.2.1 r.2.2.2.2.1 r.2.2.2.2.2.1 r.2.2.2.2.2.2.1 r.2.2.2.2.2.2.2) (loc9 c i arg1 harg1 arg2 harg2 arg3 harg3 arg4 harg4 arg5 harg5 arg6 harg6 arg7 harg7 arg8 harg8 arg9 harg9 u8 u9 x4 r.2.1 r.2.2.1 r.2.2.2.1 r.2.2.2.2.1 r.2.2.2.2.2.1 r.2.2.2.2.2.2.1 r.2.2.2.2.2.2.2) r.1 r.2.1 r.2.2.1 r.2.2.2.1 r.2.2.2.2.1 r.2.2.2.2.2.1 r.2.2.2.2.2.2.1 r.2.2.2.2.2.2.2 q.1 q.2.1 q.2.2.1 q.2.2.2.1 q.2.2.2.2.1 q.2.2.2.2.2.1 q.2.2.2.2.2.2.1 q.2.2.2.2.2.2.2.1 q.2.2.2.2.2.2.2.2.1 q.2.2.2.2.2.2.2.2.2.1 q.2.2.2.2.2.2.2.2.2.2).1
/-- The pieces the body leaves in its second result. -/
def pieces6
    (x0 : Vec F S4096x128 .f32) (x1 : Vec F S1x512x128 .f32) (x2 : Vec F S1x512x128 .f32) (x3 : Vec F S4x1x128 .f32) (x4 : Vec F S4x1x128 .f32) : List (View.Piece (Elt F) S4x4096x128 .bf16) :=
  let r := regs c i arg1 harg1 arg2 harg2 arg3 harg3 arg4 harg4 arg5 harg5 arg6 harg6 arg7 harg7 arg8 harg8 arg9 harg9 x0 x1 x2 x3 x4
  let u8 := scr8 c i arg1 harg1 arg2 harg2 arg3 harg3 arg4 harg4 arg5 harg5 arg6 harg6 arg7 harg7 arg8 harg8 arg9 harg9 x0 x1 x2 x3 x4
  let u9 := scr9 c i arg1 harg1 arg2 harg2 arg3 harg3 arg4 harg4 arg5 harg5 arg6 harg6 arg7 harg7 arg8 harg8 arg9 harg9 x0 x1 x2 x3 x4
  let q := mids c i arg1 harg1 arg2 harg2 arg3 harg3 arg4 harg4 arg5 harg5 arg6 harg6 arg7 harg7 arg8 harg8 arg9 harg9 u8 u9 x4 r.2.1 r.2.2.1 r.2.2.2.1 r.2.2.2.2.1 r.2.2.2.2.2.1 r.2.2.2.2.2.2.1 r.2.2.2.2.2.2.2
  (tailRun c i arg1 harg1 arg2 harg2 arg3 harg3 arg4 harg4 arg5 harg5 arg6 harg6 arg7 harg7 arg8 harg8 arg9 harg9 (loc8 c i arg1 harg1 arg2 harg2 arg3 harg3 arg4 harg4 arg5 harg5 arg6 harg6 arg7 harg7 arg8 harg8 arg9 harg9 u8 u9 x4 r.2.1 r.2.2.1 r.2.2.2.1 r.2.2.2.2.1 r.2.2.2.2.2.1 r.2.2.2.2.2.2.1 r.2.2.2.2.2.2.2) (loc9 c i arg1 harg1 arg2 harg2 arg3 harg3 arg4 harg4 arg5 harg5 arg6 harg6 arg7 harg7 arg8 harg8 arg9 harg9 u8 u9 x4 r.2.1 r.2.2.1 r.2.2.2.1 r.2.2.2.2.1 r.2.2.2.2.2.1 r.2.2.2.2.2.2.1 r.2.2.2.2.2.2.2) r.1 r.2.1 r.2.2.1 r.2.2.2.1 r.2.2.2.2.1 r.2.2.2.2.2.1 r.2.2.2.2.2.2.1 r.2.2.2.2.2.2.2 q.1 q.2.1 q.2.2.1 q.2.2.2.1 q.2.2.2.2.1 q.2.2.2.2.2.1 q.2.2.2.2.2.2.1 q.2.2.2.2.2.2.2.1 q.2.2.2.2.2.2.2.2.1 q.2.2.2.2.2.2.2.2.2.1 q.2.2.2.2.2.2.2.2.2.2).2.1

attribute [irreducible] headRun midRun tailRun

/-- A whole memref held at some contents is held at the buffer contents that read so. -/
theorem owns_unread (c : Dev nD) {s : Shape} {e : EltTy} {M : Memref sig .tc .vmem s e} (h : M.IsWhole) (X : Vec F s e) :
    (owns (c : Thread nD τ) M fullShare X : sProp 𝕄) ⊢ (M.view.loc (c : Thread nD τ) ↦[M.view.set]{fullShare} h.unread X) := by
  unfold owns
  iintro ⟨%f, %hf, H⟩
  rw [h.eq_unread hf]
  iexact H

/-- and conversely. -/
theorem unread_owns (c : Dev nD) {s : Shape} {e : EltTy} {M : Memref sig .tc .vmem s e} (h : M.IsWhole) (X : Vec F s e) :
    (M.view.loc (c : Thread nD τ) ↦[M.view.set]{fullShare} h.unread X : sProp 𝕄) ⊢ owns (c : Thread nD τ) M fullShare X := by
  unfold owns
  iintro H
  iexists _; isplitr; · ipureintro; exact h.read_unread _
  iexact H

/-- The body's run from the runs of its three stages. -/
theorem run_of_stages
    (x0 : Vec F S4096x128 .f32) (x1 : Vec F S1x512x128 .f32) (x2 : Vec F S1x512x128 .f32) (x3 : Vec F S4x1x128 .f32) (x4 : Vec F S4x1x128 .f32) (E : Set ℕ)
    (R : (Σ' (v1 : IVec S8x128 32) (v5 : FVec F S8x128 .f32) (v9 : FVec F S8x128 .f32) (v13 : FVec F S8x128 .f32) (v17 : FVec F S8x128 .f32) (v21 : FVec F S8x128 .f32) (v25 : FVec F S8x128 .f32), FVec F S8x128 .f32)) (s8 l8 : BufTy.Contents (Elt F) arg8.view.ty) (s9 l9 : BufTy.Contents (Elt F) arg9.view.ty)
    (Q : (Σ' (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32), FVec F S8x128 .f32)) (p5 p6 : List (View.Piece (Elt F) S4x4096x128 .bf16))
    (hH : ∀ (f8 : BufTy.Contents (Elt F) arg8.view.ty) (f9 : BufTy.Contents (Elt F) arg9.view.ty) (K : (Σ' (v1 : IVec S8x128 32) (v5 : FVec F S8x128 .f32) (v9 : FVec F S8x128 .f32) (v13 : FVec F S8x128 .f32) (v17 : FVec F S8x128 .f32) (v21 : FVec F S8x128 .f32) (v25 : FVec F S8x128 .f32), FVec F S8x128 .f32) → sProp 𝕄),
      iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg8.view.loc (c : Thread nD τ) ↦[arg8.view.set]{fullShare} f8) ∗ (arg9.view.loc (c : Thread nD τ) ↦[arg9.view.set]{fullShare} f9) ∗ (iprop((arg1.view.loc (c : Thread nD τ) ↦[arg1.view.set]{fullShare} harg1.unread x0) ∗ (arg2.view.loc (c : Thread nD τ) ↦[arg2.view.set]{fullShare} harg2.unread x1) ∗ (arg3.view.loc (c : Thread nD τ) ↦[arg3.view.set]{fullShare} harg3.unread x2) ∗ (arg4.view.loc (c : Thread nD τ) ↦[arg4.view.set]{fullShare} harg4.unread x3) ∗ (arg5.view.loc (c : Thread nD τ) ↦[arg5.view.set]{fullShare} harg5.unread x4) ∗ (arg8.view.loc (c : Thread nD τ) ↦[arg8.view.set]{fullShare} s8) ∗ (arg9.view.loc (c : Thread nD τ) ↦[arg9.view.set]{fullShare} s9)) -∗ K R))
        ⊢ wp frame (wpE (defs₀ (F := F)) Variants.none c none) E (k0_part11 i arg1 harg1 arg2 harg2 arg3 harg3 arg4 harg4 arg5 harg5 arg6 harg6 arg7 harg7 arg8 harg8 arg9 harg9) K)
    (hM : ∀ (K : (Σ' (v33 : FVec F S8x128 .f32) (v36_0 : FVec F S8x128 .f32) (v36_1 : FVec F S8x128 .f32) (v36_2 : FVec F S8x128 .f32) (v36_3 : FVec F S8x128 .f32) (v36_4 : FVec F S8x128 .f32) (v36_5 : FVec F S8x128 .f32) (v36_6 : FVec F S8x128 .f32) (v36_7 : FVec F S8x128 .f32) (v81 : FVec F S8x128 .f32), FVec F S8x128 .f32) → sProp 𝕄),
      iprop((arg5.view.loc (c : Thread nD τ) ↦[arg5.view.set]{fullShare} harg5.unread x4) ∗ (arg8.view.loc (c : Thread nD τ) ↦[arg8.view.set]{fullShare} s8) ∗ (arg9.view.loc (c : Thread nD τ) ↦[arg9.view.set]{fullShare} s9) ∗ (iprop((arg5.view.loc (c : Thread nD τ) ↦[arg5.view.set]{fullShare} harg5.unread x4) ∗ (arg8.view.loc (c : Thread nD τ) ↦[arg8.view.set]{fullShare} l8) ∗ (arg9.view.loc (c : Thread nD τ) ↦[arg9.view.set]{fullShare} l9)) -∗ K Q))
        ⊢ wp frame (wpE (defs₀ (F := F)) Variants.none c none) E (k0_part12 i arg1 harg1 arg2 harg2 arg3 harg3 arg4 harg4 arg5 harg5 arg6 harg6 arg7 harg7 arg8 harg8 arg9 harg9 R.2.1 R.2.2.1 R.2.2.2.1 R.2.2.2.2.1 R.2.2.2.2.2.1 R.2.2.2.2.2.2.1 R.2.2.2.2.2.2.2) K)
    (hT : ∀ (f6 : BufTy.Contents (Elt F) arg6.view.ty) (f7 : BufTy.Contents (Elt F) arg7.view.ty) (K : PUnit → sProp 𝕄),
      iprop((arg8.view.loc (c : Thread nD τ) ↦[arg8.view.set]{fullShare} l8) ∗ (arg9.view.loc (c : Thread nD τ) ↦[arg9.view.set]{fullShare} l9) ∗ (arg6.view.loc (c : Thread nD τ) ↦[arg6.view.set]{fullShare} f6) ∗ (arg7.view.loc (c : Thread nD τ) ↦[arg7.view.set]{fullShare} f7) ∗ (iprop((arg8.view.loc (c : Thread nD τ) ↦[arg8.view.set]{fullShare} l8) ∗ (arg9.view.loc (c : Thread nD τ) ↦[arg9.view.set]{fullShare} l9) ∗ (arg6.view.loc (c : Thread nD τ) ↦[arg6.view.set]{fullShare} arg6.view.writes (Elt F) f6 p5) ∗ (arg7.view.loc (c : Thread nD τ) ↦[arg7.view.set]{fullShare} arg7.view.writes (Elt F) f7 p6)) -∗ K ⟨⟩))
        ⊢ wp frame (wpE (defs₀ (F := F)) Variants.none c none) E (tailProg i arg1 harg1 arg2 harg2 arg3 harg3 arg4 harg4 arg5 harg5 arg6 harg6 arg7 harg7 arg8 harg8 arg9 harg9 R.1 R.2.1 R.2.2.1 R.2.2.2.1 R.2.2.2.2.1 R.2.2.2.2.2.1 R.2.2.2.2.2.2.1 R.2.2.2.2.2.2.2 Q.1 Q.2.1 Q.2.2.1 Q.2.2.2.1 Q.2.2.2.2.1 Q.2.2.2.2.2.1 Q.2.2.2.2.2.2.1 Q.2.2.2.2.2.2.2.1 Q.2.2.2.2.2.2.2.2.1 Q.2.2.2.2.2.2.2.2.2.1 Q.2.2.2.2.2.2.2.2.2.2) K) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f p5) ∗ (∃ f, arg7.view.loc (c : Thread nD τ) ↦[arg7.view.set]{fullShare} arg7.view.writes (Elt F) f p6) ∗ (∃ d, owns (c : Thread nD τ) arg8 fullShare d) ∗ (∃ d, owns (c : Thread nD τ) arg9 fullShare d)) -∗ K ⟨⟩))
          ⊢ wp frame (wpE (defs₀ (F := F)) Variants.none c none) E (cc0_s5_scan_rev i arg1 harg1 arg2 harg2 arg3 harg3 arg4 harg4 arg5 harg5 arg6 harg6 arg7 harg7 arg8 harg8 arg9 harg9) K := by
    iintro ⟨H0, H1, H2, H3, H4, ⟨%d5, H5⟩, ⟨%d6, H6⟩, ⟨%ds0, HS0⟩, ⟨%ds1, HS1⟩, Hk⟩
    ihave H0 := (owns_unread c harg1 x0) $$ H0
    ihave H1 := (owns_unread c harg2 x1) $$ H1
    ihave H2 := (owns_unread c harg3 x2) $$ H2
    ihave H3 := (owns_unread c harg4 x3) $$ H3
    ihave H4 := (owns_unread c harg5 x4) $$ H4
    ihave H5 := (owns_unread c harg6 d5) $$ H5
    ihave H6 := (owns_unread c harg7 d6) $$ H6
    ihave HS0 := (owns_unread c harg8 ds0) $$ HS0
    ihave HS1 := (owns_unread c harg9 ds1) $$ HS1
    rw [body_split, wp_bind]
    iapply (hH (harg8.unread ds0) (harg9.unread ds1) _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    rw [wp_bind]
    iapply (hM _)
    isplitl [H4]; · iexact H4
    isplitl [HS0]; · iexact HS0
    isplitl [HS1]; · iexact HS1
    iintro ⟨H4, HS0, HS1⟩
    iapply (hT (harg6.unread d5) (harg7.unread d6) K)
    isplitl [HS0]; · iexact HS0
    isplitl [HS1]; · iexact HS1
    isplitl [H5]; · iexact H5
    isplitl [H6]; · iexact H6
    iintro ⟨HS0, HS1, H5, H6⟩
    iapply Hk
    isplitl [H0]; · iapply (unread_owns c harg1 x0); iexact H0
    isplitl [H1]; · iapply (unread_owns c harg2 x1); iexact H1
    isplitl [H2]; · iapply (unread_owns c harg3 x2); iexact H2
    isplitl [H3]; · iapply (unread_owns c harg4 x3); iexact H3
    isplitl [H4]; · iapply (unread_owns c harg5 x4); iexact H4
    isplitl [H5]; · iexists _; iexact H5
    isplitl [H6]; · iexists _; iexact H6
    isplitl [HS0]
    · iexists _; rw [← harg8.unread_read l8]; iapply (unread_owns c harg8 _); iexact HS0
    iexists _; rw [← harg9.unread_read l9]; iapply (unread_owns c harg9 _); iexact HS1

set_option maxHeartbeats 1600000 in
/-- The body's run: the inputs' memrefs come back at their contents, the scratch buffers at some, and the
    two results' memrefs with their pieces written. -/
theorem bodyRun
    (x0 : Vec F S4096x128 .f32) (x1 : Vec F S1x512x128 .f32) (x2 : Vec F S1x512x128 .f32) (x3 : Vec F S4x1x128 .f32) (x4 : Vec F S4x1x128 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f (pieces5 c i arg1 harg1 arg2 harg2 arg3 harg3 arg4 harg4 arg5 harg5 arg6 harg6 arg7 harg7 arg8 harg8 arg9 harg9 x0 x1 x2 x3 x4)) ∗ (∃ f, arg7.view.loc (c : Thread nD τ) ↦[arg7.view.set]{fullShare} arg7.view.writes (Elt F) f (pieces6 c i arg1 harg1 arg2 harg2 arg3 harg3 arg4 harg4 arg5 harg5 arg6 harg6 arg7 harg7 arg8 harg8 arg9 harg9 x0 x1 x2 x3 x4)) ∗ (∃ d, owns (c : Thread nD τ) arg8 fullShare d) ∗ (∃ d, owns (c : Thread nD τ) arg9 fullShare d)) -∗ K ⟨⟩))
          ⊢ wp frame (wpE (defs₀ (F := F)) Variants.none c none) E (cc0_s5_scan_rev i arg1 harg1 arg2 harg2 arg3 harg3 arg4 harg4 arg5 harg5 arg6 harg6 arg7 harg7 arg8 harg8 arg9 harg9) K := by
  refine run_of_stages c i arg1 harg1 arg2 harg2 arg3 harg3 arg4 harg4 arg5 harg5 arg6 harg6 arg7 harg7 arg8 harg8 arg9 harg9 x0 x1 x2 x3 x4 E (regs c i arg1 harg1 arg2 harg2 arg3 harg3 arg4 harg4 arg5 harg5 arg6 harg6 arg7 harg7 arg8 harg8 arg9 harg9 x0 x1 x2 x3 x4) (harg8.unread (scr8 c i arg1 harg1 arg2 harg2 arg3 harg3 arg4 harg4 arg5 harg5 arg6 harg6 arg7 harg7 arg8 harg8 arg9 harg9 x0 x1 x2 x3 x4)) (loc8 c i arg1 harg1 arg2 harg2 arg3 harg3 arg4 harg4 arg5 harg5 arg6 harg6 arg7 harg7 arg8 harg8 arg9 harg9 (scr8 c i arg1 harg1 arg2 harg2 arg3 harg3 arg4 harg4 arg5 harg5 arg6 harg6 arg7 harg7 arg8 harg8 arg9 harg9 x0 x1 x2 x3 x4) (scr9 c i arg1 harg1 arg2 harg2 arg3 harg3 arg4 harg4 arg5 harg5 arg6 harg6 arg7 harg7 arg8 harg8 arg9 harg9 x0 x1 x2 x3 x4) x4 (regs c i arg1 harg1 arg2 harg2 arg3 harg3 arg4 harg4 arg5 harg5 arg6 harg6 arg7 harg7 arg8 harg8 arg9 harg9 x0 x1 x2 x3 x4).2.1 (regs c i arg1 harg1 arg2 harg2 arg3 harg3 arg4 harg4 arg5 harg5 arg6 harg6 arg7 harg7 arg8 harg8 arg9 harg9 x0 x1 x2 x3 x4).2.2.1 (regs c i arg1 harg1 arg2 harg2 arg3 harg3 arg4 harg4 arg5 harg5 arg6 harg6 arg7 harg7 arg8 harg8 arg9 harg9 x0 x1 x2 x3 x4).2.2.2.1 (regs c i arg1 harg1 arg2 harg2 arg3 harg3 arg4 harg4 arg5 harg5 arg6 harg6 arg7 harg7 arg8 harg8 arg9 harg9 x0 x1 x2 x3 x4).2.2.2.2.1 (regs c i arg1 harg1 arg2 harg2 arg3 harg3 arg4 harg4 arg5 harg5 arg6 harg6 arg7 harg7 arg8 harg8 arg9 harg9 x0 x1 x2 x3 x4).2.2.2.2.2.1 (regs c i arg1 harg1 arg2 harg2 arg3 harg3 arg4 harg4 arg5 harg5 arg6 harg6 arg7 harg7 arg8 harg8 arg9 harg9 x0 x1 x2 x3 x4).2.2.2.2.2.2.1 (regs c i arg1 harg1 arg2 harg2 arg3 harg3 arg4 harg4 arg5 harg5 arg6 harg6 arg7 harg7 arg8 harg8 arg9 harg9 x0 x1 x2 x3 x4).2.2.2.2.2.2.2) (harg9.unread (scr9 c i arg1 harg1 arg2 harg2 arg3 harg3 arg4 harg4 arg5 harg5 arg6 harg6 arg7 harg7 arg8 harg8 arg9 harg9 x0 x1 x2 x3 x4)) (loc9 c i arg1 harg1 arg2 harg2 arg3 harg3 arg4 harg4 arg5 harg5 arg6 harg6 arg7 harg7 arg8 harg8 arg9 harg9 (scr8 c i arg1 harg1 arg2 harg2 arg3 harg3 arg4 harg4 arg5 harg5 arg6 harg6 arg7 harg7 arg8 harg8 arg9 harg9 x0 x1 x2 x3 x4) (scr9 c i arg1 harg1 arg2 harg2 arg3 harg3 arg4 harg4 arg5 harg5 arg6 harg6 arg7 harg7 arg8 harg8 arg9 harg9 x0 x1 x2 x3 x4) x4 (regs c i arg1 harg1 arg2 harg2 arg3 harg3 arg4 harg4 arg5 harg5 arg6 harg6 arg7 harg7 arg8 harg8 arg9 harg9 x0 x1 x2 x3 x4).2.1 (regs c i arg1 harg1 arg2 harg2 arg3 harg3 arg4 harg4 arg5 harg5 arg6 harg6 arg7 harg7 arg8 harg8 arg9 harg9 x0 x1 x2 x3 x4).2.2.1 (regs c i arg1 harg1 arg2 harg2 arg3 harg3 arg4 harg4 arg5 harg5 arg6 harg6 arg7 harg7 arg8 harg8 arg9 harg9 x0 x1 x2 x3 x4).2.2.2.1 (regs c i arg1 harg1 arg2 harg2 arg3 harg3 arg4 harg4 arg5 harg5 arg6 harg6 arg7 harg7 arg8 harg8 arg9 harg9 x0 x1 x2 x3 x4).2.2.2.2.1 (regs c i arg1 harg1 arg2 harg2 arg3 harg3 arg4 harg4 arg5 harg5 arg6 harg6 arg7 harg7 arg8 harg8 arg9 harg9 x0 x1 x2 x3 x4).2.2.2.2.2.1 (regs c i arg1 harg1 arg2 harg2 arg3 harg3 arg4 harg4 arg5 harg5 arg6 harg6 arg7 harg7 arg8 harg8 arg9 harg9 x0 x1 x2 x3 x4).2.2.2.2.2.2.1 (regs c i arg1 harg1 arg2 harg2 arg3 harg3 arg4 harg4 arg5 harg5 arg6 harg6 arg7 harg7 arg8 harg8 arg9 harg9 x0 x1 x2 x3 x4).2.2.2.2.2.2.2) (mids c i arg1 harg1 arg2 harg2 arg3 harg3 arg4 harg4 arg5 harg5 arg6 harg6 arg7 harg7 arg8 harg8 arg9 harg9 (scr8 c i arg1 harg1 arg2 harg2 arg3 harg3 arg4 harg4 arg5 harg5 arg6 harg6 arg7 harg7 arg8 harg8 arg9 harg9 x0 x1 x2 x3 x4) (scr9 c i arg1 harg1 arg2 harg2 arg3 harg3 arg4 harg4 arg5 harg5 arg6 harg6 arg7 harg7 arg8 harg8 arg9 harg9 x0 x1 x2 x3 x4) x4 (regs c i arg1 harg1 arg2 harg2 arg3 harg3 arg4 harg4 arg5 harg5 arg6 harg6 arg7 harg7 arg8 harg8 arg9 harg9 x0 x1 x2 x3 x4).2.1 (regs c i arg1 harg1 arg2 harg2 arg3 harg3 arg4 harg4 arg5 harg5 arg6 harg6 arg7 harg7 arg8 harg8 arg9 harg9 x0 x1 x2 x3 x4).2.2.1 (regs c i arg1 harg1 arg2 harg2 arg3 harg3 arg4 harg4 arg5 harg5 arg6 harg6 arg7 harg7 arg8 harg8 arg9 harg9 x0 x1 x2 x3 x4).2.2.2.1 (regs c i arg1 harg1 arg2 harg2 arg3 harg3 arg4 harg4 arg5 harg5 arg6 harg6 arg7 harg7 arg8 harg8 arg9 harg9 x0 x1 x2 x3 x4).2.2.2.2.1 (regs c i arg1 harg1 arg2 harg2 arg3 harg3 arg4 harg4 arg5 harg5 arg6 harg6 arg7 harg7 arg8 harg8 arg9 harg9 x0 x1 x2 x3 x4).2.2.2.2.2.1 (regs c i arg1 harg1 arg2 harg2 arg3 harg3 arg4 harg4 arg5 harg5 arg6 harg6 arg7 harg7 arg8 harg8 arg9 harg9 x0 x1 x2 x3 x4).2.2.2.2.2.2.1 (regs c i arg1 harg1 arg2 harg2 arg3 harg3 arg4 harg4 arg5 harg5 arg6 harg6 arg7 harg7 arg8 harg8 arg9 harg9 x0 x1 x2 x3 x4).2.2.2.2.2.2.2) _ _ ?_ ?_ ?_ K
  · intro f8 f9 K
    rw [← head_eq8 c i arg1 harg1 arg2 harg2 arg3 harg3 arg4 harg4 arg5 harg5 arg6 harg6 arg7 harg7 arg8 harg8 arg9 harg9 x0 x1 x2 x3 x4 f8, ← head_eq9 c i arg1 harg1 arg2 harg2 arg3 harg3 arg4 harg4 arg5 harg5 arg6 harg6 arg7 harg7 arg8 harg8 arg9 harg9 x0 x1 x2 x3 x4 f9]
    exact (headRun c i arg1 harg1 arg2 harg2 arg3 harg3 arg4 harg4 arg5 harg5 arg6 harg6 arg7 harg7 arg8 harg8 arg9 harg9 x0 x1 x2 x3 x4).2.2.2 E f8 f9 K
  · intro K
    exact (midRun c i arg1 harg1 arg2 harg2 arg3 harg3 arg4 harg4 arg5 harg5 arg6 harg6 arg7 harg7 arg8 harg8 arg9 harg9 _ _ _ _ _ _ _ _ _ _).2.2.2 E K
  · intro f6 f7 K
    exact (tailRun c i arg1 harg1 arg2 harg2 arg3 harg3 arg4 harg4 arg5 harg5 arg6 harg6 arg7 harg7 arg8 harg8 arg9 harg9 _ _ _ _ _ _ _ _ _ _ _ _ _ _ _ _ _ _ _ _ _).2.2 E f6 f7 K

end Cert.KernelIdeal.Scan

end
-- ==== Proof.KFrame.lean ====
module

public import proofs.«01_k».proof.Proof.KRun
public import Idealize.ShloMosaic.Lib.Claim

@[expose] public section

/- The frame of the kernel at any values, from the body's run: what each launch point leaves in the two
   results is `outsAt0`. -/

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The first result's pieces cover its block. -/
theorem cover5 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec F S4096x128 .f32) (x1 : Vec F S1x512x128 .f32) (x2 : Vec F S1x512x128 .f32) (x3 : Vec F S4x1x128 .f32) (x4 : Vec F S4x1x128 .f32) (y : S4x4096x128.Idx) :
    ∃ pc ∈ (pieces5 c i arg1 harg1 arg2 harg2 arg3 harg3 arg4 harg4 arg5 harg5 arg6 harg6 arg7 harg7 arg8 harg8 arg9 harg9 x0 x1 x2 x3 x4), y ∈ pc.1.set :=
  View.cover_of_tiledL (pieces5 c i arg1 harg1 arg2 harg2 arg3 harg3 arg4 harg4 arg5 harg5 arg6 harg6 arg7 harg7 arg8 harg8 arg9 harg9 x0 x1 x2 x3 x4) S1x16x128.size (by sl_kernel_rfl) y

/-- The first result's block after the body: its pieces, read back. -/
def out5 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec F S4096x128 .f32) (x1 : Vec F S1x512x128 .f32) (x2 : Vec F S1x512x128 .f32) (x3 : Vec F S4x1x128 .f32) (x4 : Vec F S4x1x128 .f32) : Vec F S4x4096x128 .bf16 :=
  VO0_5.read (Elt F) (VO0_5.writes (Elt F) VO0_5.junk (pieces5 c i arg1 harg1 arg2 harg2 arg3 harg3 arg4 harg4 arg5 harg5 arg6 harg6 arg7 harg7 arg8 harg8 arg9 harg9 x0 x1 x2 x3 x4))

/-- The second result's pieces cover its block. -/
theorem cover6 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec F S4096x128 .f32) (x1 : Vec F S1x512x128 .f32) (x2 : Vec F S1x512x128 .f32) (x3 : Vec F S4x1x128 .f32) (x4 : Vec F S4x1x128 .f32) (y : S4x4096x128.Idx) :
    ∃ pc ∈ (pieces6 c i arg1 harg1 arg2 harg2 arg3 harg3 arg4 harg4 arg5 harg5 arg6 harg6 arg7 harg7 arg8 harg8 arg9 harg9 x0 x1 x2 x3 x4), y ∈ pc.1.set :=
  View.cover_of_tiledL (pieces6 c i arg1 harg1 arg2 harg2 arg3 harg3 arg4 harg4 arg5 harg5 arg6 harg6 arg7 harg7 arg8 harg8 arg9 harg9 x0 x1 x2 x3 x4) S1x16x128.size (by sl_kernel_rfl) y

/-- The second result's block after the body: its pieces, read back. -/
def out6 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec F S4096x128 .f32) (x1 : Vec F S1x512x128 .f32) (x2 : Vec F S1x512x128 .f32) (x3 : Vec F S4x1x128 .f32) (x4 : Vec F S4x1x128 .f32) : Vec F S4x4096x128 .bf16 :=
  VO0_6.read (Elt F) (VO0_6.writes (Elt F) VO0_6.junk (pieces6 c i arg1 harg1 arg2 harg2 arg3 harg3 arg4 harg4 arg5 harg5 arg6 harg6 arg7 harg7 arg8 harg8 arg9 harg9 x0 x1 x2 x3 x4))

/-- The two results' blocks after the body at point `t`. -/
def outsAt0 (c : Dev nD) (t : Fin cfg0.N) : Vec F S4x4096x128 .bf16 × Vec F S4x4096x128 .bf16 :=
  (out5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t), out6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) (iblk m c 4 t))

/-- The pipeline's data on device `c`: every input's buffer keeps its block, the results' buffers hold `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t).1
    | ⟨6, _⟩ => (outsAt0 m c t).2
  Φ _ := Pipeline.ΦA spec0 c
  q _ := fullShare
  owed _ := 0

/-- The pipeline's arrays are those the launch finds. -/
theorem A_eq (c : Dev nD) (w : Fin cfg0.W) : (dats m 0 c).A w = V m c (Pipeline.arrRef spec0 w) := by
  dsimp only [dats]

/-! What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t).1 := by dsimp only [dats]
theorem after0_6 (c : Dev nD) (t : Fin cfg0.N) : (dats m 0 c).after 6 t = (outsAt0 m c t).2 := by dsimp only [dats]

/-! Each input's buffer holds its block before the body. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body starts from at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body ends with at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body's run at point `t`, between those two. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out5 out6; (try dsimp only)
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  isplitl [HS1]; · iexact HS1
  iintro ⟨H0, H1, H2, H3, H4, ⟨%e5, H5⟩, ⟨%e6, H6⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 c _ _ _ _ _ _ _ _ _ _ _ _ _ _ _ _ _ _ _ _ _ _ _ _)
  unfold owns; iexists _; isplitr
  swap; · iexact H6
  ipureintro; exact View.read_writes_of_cover _ _ _ _ _ (cover6 c _ _ _ _ _ _ _ _ _ _ _ _ _ _ _ _ _ _ _ _ _ _ _ _)

/-- The body that the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the arrays as the pipeline's data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments come back unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame claim, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Scan

end
-- ==== Proof.Same.lean ====
module

public import proofs.«01_k».proof.Defs
public import proofs.«01_k».proof.Proof.Gen.Kernel
public import proofs.«01_k».proof.Proof.KFrame

@[expose] public section

/- The kernel's program and the idealized kernel's have one text: the frame proved for any float
   values is the kernel's too. -/

noncomputable section

namespace Cert.Proof

open Idealize.ShloMosaic Idealize.SL.Sem

section
variable [hk : Cert.Kernel.Facts] [hi : Cert.KernelIdeal.Facts]

/-- The two body tables are one. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun x => match x with | (t, s) => rfl
  | ⟨_ + 1, h⟩ => exact absurd h (Nat.not_lt.2 (Nat.le_add_left _ _))

/-- And with the pipelines' entries. -/
theorem defs_eq : Cert.Kernel.defs (F := Bits) = Cert.KernelIdeal.defs (F := Bits) :=
  congrArg (Pipeline.defs (Cert.KernelIdeal.pcfgs (F := Bits))) bodies_eq

set_option maxHeartbeats 4000000 in
/-- The host code's first part. -/
theorem part0_eq : Cert.Kernel.main_part0 (F := Bits) = Cert.KernelIdeal.main_part0 (F := Bits) := rfl

set_option maxHeartbeats 4000000 in
/-- The host code's second part. -/
theorem part1_eq : Cert.Kernel.main_part1 (F := Bits) = Cert.KernelIdeal.main_part1 (F := Bits) := rfl

/-- The host code. -/
theorem main_eq : Cert.Kernel.main (F := Bits) = Cert.KernelIdeal.main (F := Bits) := by
  unfold Cert.Kernel.main Cert.KernelIdeal.main
  rw [part0_eq, part1_eq]
  rfl

end

theorem kernel_quiet : Cert.quiescent_Kernel (hKernel := Cert.Kernel.Gen.facts) := by
  intro m ρ _
  have h := Cert.KernelIdeal.Scan.frame (F := Bits) m ρ
  rw [← defs_eq (hk := Cert.Kernel.Gen.facts) (hi := Cert.KernelIdeal.Gen.facts), ← main_eq (hk := Cert.Kernel.Gen.facts) (hi := Cert.KernelIdeal.Gen.facts)] at h
  exact h

end Cert.Proof

end
-- ==== Proof.KValue.lean ====
module

public import proofs.«01_k».proof.Proof.KFrame
public import Idealize.ShloMosaic.Lib.Pipeline.Value

@[expose] public section

noncomputable section

namespace Cert.KernelIdeal.Scan

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! What each point writes back, and the final arrays block by block. -/

/-- What point `t` writes back to window 5. -/
theorem flushed5 (c : Dev nD) (t : Fin cfg0.N) :
    (dats m 0 c).flushed 5 t = (cfg0.win 5).cut (grid0.coords t) ((outsAt0 m c t).1) := by
  show (cfg0.win 5).cut (grid0.coords t) ((dats m 0 c).after 5 t) = _
  rw [after0_5]

/-- Distinct points have distinct blocks. -/
theorem idx_inj5 : ∀ t t' : Fin cfg0.N, win0_5.index t = win0_5.index t' → t = t' :=
  (by decide +kernel : ∀ t t' : Fin grid0.N, win0_5.index t = win0_5.index t' → t = t')

/-- Distinct points' blocks do not meet. -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- What point `t` writes back to window 6. -/
theorem flushed6 (c : Dev nD) (t : Fin cfg0.N) :
    (dats m 0 c).flushed 6 t = (cfg0.win 6).cut (grid0.coords t) ((outsAt0 m c t).2) := by
  show (cfg0.win 6).cut (grid0.coords t) ((dats m 0 c).after 6 t) = _
  rw [after0_6]

/-- Distinct points have distinct blocks. -/
theorem idx_inj6 : ∀ t t' : Fin cfg0.N, win0_6.index t = win0_6.index t' → t = t' :=
  (by decide +kernel : ∀ t t' : Fin grid0.N, win0_6.index t = win0_6.index t' → t = t')

/-- Distinct points' blocks do not meet. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array is what point `t` wrote. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- A result after the run. -/
theorem post5 (r : PUnit × MemSt nD τ sig (Elt F)) (h : Pipeline.FramePost cfgs (dats m) 0 (V m) r) (c : Dev nD) :
    r.2.mem ((c : Thread nD τ).loc main_v78_0) = (dats m 0 c).arrAt 5 cfg0.N :=
  (h c).1 5

/-- A result after the run. -/
theorem post6 (r : PUnit × MemSt nD τ sig (Elt F)) (h : Pipeline.FramePost cfgs (dats m) 0 (V m) r) (c : Dev nD) :
    r.2.mem ((c : Thread nD τ).loc main_v78_1) = (dats m 0 c).arrAt 6 cfg0.N :=
  (h c).1 6

/-- An argument is as it was. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- An argument is as it was. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- An argument is as it was. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- An argument is as it was. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- An argument is as it was. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- An argument is as it was. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- An argument is as it was. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- An argument is as it was. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The run with each result named, the arguments unchanged. -/
theorem run_blocks : θ_run defs (onTc (τ := τ) (main (F := F))) ⟨m, fun _ => 0, ρ⟩ fun r => ∀ c : Dev nD,
      r.2.mem ((c : Thread nD τ).loc main_v78_0) = (dats m 0 c).arrAt 5 cfg0.N
      ∧ r.2.mem ((c : Thread nD τ).loc main_v78_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Scan

end
-- ==== Proof.KPieces.lean ====
module

public import proofs.«01_k».proof.Proof.KFrame
public import Idealize.ShloMosaic.Lib.Pointwise

@[expose] public section

/- Reading the scratch arrays and the blocks at an index: a store of one group's rows, a load of one group's rows. -/

set_option maxRecDepth 16384

noncomputable section

namespace Cert.KernelIdeal.Scan

open Cert.KernelIdeal Cert.KernelIdeal.Gen
open Idealize.ShloMosaic Idealize.ShloMosaic.TcCoe

variable {Val : EltTy → Type} {e : EltTy}

/-- One of four, by group. -/
def sel4 {α : Type} (g : Fin 4) (x0 x1 x2 x3 : α) : α := ![x0, x1, x2, x3] g

/-- A store of one group's rows, read at another group. -/
theorem miss_group {κ : Kind} {sp : Space} (v : View sig κ sp S4x4096x128 e) (f : v.ty.Contents Val) (n o p : ℕ)
    (inb : ∀ a, (![p, o, 0] : Fin 3 → ℕ) a + (![1, n, 128] : Fin 3 → ℕ) a ≤ S4x4096x128.size a)
    (w : (⟨3, ![1, n, 128]⟩ : Shape).Idx → Val e) (L : List (View.Piece Val S4x4096x128 e))
    (g : Fin 4) (r : Fin 4096) (l : Fin 128) (h : g.val < p) :
    v.read Val (v.writes Val f (⟨Rect.unit ![p, o, 0] ![1, n, 128] inb, w⟩ :: L)) (ix3 g r l)
      = v.read Val (v.writes Val f L) (ix3 g r l) :=
  View.read_writes_cons_miss_of_axis v f _ _ (ix3 g r l) (0 : Fin 3) p 1 rfl rfl rfl (Or.inl h)

/-- A store of some rows, read at another row. -/
theorem miss_rows {κ : Kind} {sp : Space} (v : View sig κ sp S4x4096x128 e) (f : v.ty.Contents Val) (n o p : ℕ)
    (inb : ∀ a, (![p, o, 0] : Fin 3 → ℕ) a + (![1, n, 128] : Fin 3 → ℕ) a ≤ S4x4096x128.size a)
    (w : (⟨3, ![1, n, 128]⟩ : Shape).Idx → Val e) (L : List (View.Piece Val S4x4096x128 e))
    (g : Fin 4) (r : Fin 4096) (l : Fin 128) (h : r.val < o ∨ o + n ≤ r.val) :
    v.read Val (v.writes Val f (⟨Rect.unit ![p, o, 0] ![1, n, 128] inb, w⟩ :: L)) (ix3 g r l)
      = v.read Val (v.writes Val f L) (ix3 g r l) :=
  View.read_writes_cons_miss_of_axis v f _ _ (ix3 g r l) (1 : Fin 3) o n rfl rfl rfl h

/-- A store of one group's rows, read there. -/
theorem hit_rows {κ : Kind} {sp : Space} (v : View sig κ sp S4x4096x128 e) (f : v.ty.Contents Val) (n o p : ℕ)
    (inb : ∀ a, (![p, o, 0] : Fin 3 → ℕ) a + (![1, n, 128] : Fin 3 → ℕ) a ≤ S4x4096x128.size a)
    (w : (⟨3, ![1, n, 128]⟩ : Shape).Idx → Val e) (L : List (View.Piece Val S4x4096x128 e))
    (g : Fin 4) (r : Fin 4096) (l : Fin 128) (hg : g.val = p) (h : o ≤ r.val ∧ r.val < o + n) :
    v.read Val (v.writes Val f (⟨Rect.unit ![p, o, 0] ![1, n, 128] inb, w⟩ :: L)) (ix3 g r l)
      = w (ix3 0 ⟨r.val - o, by omega⟩ l) := by
  refine View.read_writes_cons_hit_of_coords v f (Rect.unit ![p, o, 0] ![1, n, 128] inb) w L
    (ix3 0 ⟨r.val - o, by omega⟩ l : (⟨3, ![1, n, 128]⟩ : Shape).Idx) (ix3 g r l) ?_
  intro a
  match a with
  | ⟨0, _⟩ => show g.val = p + 1 * 0; omega
  | ⟨1, _⟩ => show r.val = o + 1 * (r.val - o); omega
  | ⟨2, _⟩ => show l.val = 0 + 1 * l.val; omega

/-- Four stores of the same rows, one per group, read at an index. -/
theorem four_pieces {κ : Kind} {sp : Space} (v : View sig κ sp S4x4096x128 e) (f : v.ty.Contents Val) (n o : ℕ)
    (off3 off2 off1 off0 : Fin 3 → ℕ)
    (inb3 : ∀ a, off3 a + (![1, n, 128] : Fin 3 → ℕ) a ≤ S4x4096x128.size a) (inb2 : ∀ a, off2 a + (![1, n, 128] : Fin 3 → ℕ) a ≤ S4x4096x128.size a)
    (inb1 : ∀ a, off1 a + (![1, n, 128] : Fin 3 → ℕ) a ≤ S4x4096x128.size a) (inb0 : ∀ a, off0 a + (![1, n, 128] : Fin 3 → ℕ) a ≤ S4x4096x128.size a)
    (h3 : off3 = ![3, o, 0]) (h2 : off2 = ![2, o, 0]) (h1 : off1 = ![1, o, 0]) (h0 : off0 = ![0, o, 0])
    (w3 w2 w1 w0 : (⟨3, ![1, n, 128]⟩ : Shape).Idx → Val e) (g : Fin 4) (r : Fin 4096) (l : Fin 128) :
    v.read Val (v.writes Val f [⟨Rect.unit off3 ![1, n, 128] inb3, w3⟩, ⟨Rect.unit off2 ![1, n, 128] inb2, w2⟩,
        ⟨Rect.unit off1 ![1, n, 128] inb1, w1⟩, ⟨Rect.unit off0 ![1, n, 128] inb0, w0⟩]) (ix3 g r l)
      = if h : o ≤ r.val ∧ r.val < o + n then
          (sel4 g w0 w1 w2 w3) (ix3 0 ⟨r.val - o, by omega⟩ l)
        else v.read Val f (ix3 g r l) := by
  subst h3 h2 h1 h0
  by_cases h : o ≤ r.val ∧ r.val < o + n
  · rw [dif_pos h]
    obtain rfl | rfl | rfl | rfl : g = 0 ∨ g = 1 ∨ g = 2 ∨ g = 3 := by omega
    · rw [miss_group v f n o 3 _ _ _ _ _ _ (by decide), miss_group v f n o 2 _ _ _ _ _ _ (by decide),
        miss_group v f n o 1 _ _ _ _ _ _ (by decide), hit_rows v f n o 0 _ _ _ _ _ _ (by decide) h]
      rfl
    · rw [miss_group v f n o 3 _ _ _ _ _ _ (by decide), miss_group v f n o 2 _ _ _ _ _ _ (by decide),
        hit_rows v f n o 1 _ _ _ _ _ _ (by decide) h]
      rfl
    · rw [miss_group v f n o 3 _ _ _ _ _ _ (by decide), hit_rows v f n o 2 _ _ _ _ _ _ (by decide) h]
      rfl
    · rw [hit_rows v f n o 3 _ _ _ _ _ _ (by decide) h]
      rfl
  · rw [dif_neg h]
    have hr : (r.val < o ∨ o + n ≤ r.val) := by omega
    rw [miss_rows v f n o 3 _ _ _ _ _ _ hr, miss_rows v f n o 2 _ _ _ _ _ _ hr,
      miss_rows v f n o 1 _ _ _ _ _ _ hr, miss_rows v f n o 0 _ _ _ _ _ _ hr]
    rfl

/-- A load of rows `o, …, o + n - 1` of group `g`, read at an index. -/
theorem load_rows {κ : Kind} {sp : Space} (v : View sig κ sp S4x4096x128 e) (f : v.ty.Contents Val) (n o : ℕ)
    (off : Fin 3 → ℕ) (inb : ∀ a, off a + (![1, n, 128] : Fin 3 → ℕ) a ≤ S4x4096x128.size a) (G : Fin 4) (h : off = ![G.val, o, 0])
    (s : Fin n) (l : Fin 128) (hs : o + s.val < 4096) :
    View.readAt Val v (Rect.unit (s := S4x4096x128) off ![1, n, 128] inb).toLoadRect f (ix3 0 s l : (⟨3, ![1, n, 128]⟩ : Shape).Idx) = v.read Val f (ix3 G ⟨o + s.val, hs⟩ l) := by
  subst h
  rw [View.readAt_eq_ld]
  show v.read Val f _ = _
  congr 1
  funext a
  apply Fin.ext
  match a with
  | ⟨0, _⟩ => show G.val + 1 * 0 = G.val; omega
  | ⟨1, _⟩ => show o + 1 * s.val = o + s.val; omega
  | ⟨2, _⟩ => show 0 + 1 * l.val = l.val; omega

end Cert.KernelIdeal.Scan

end
-- ==== Proof.KLocal.lean ====
module

public import proofs.«01_k».proof.Proof.KPieces
public import Idealize.ShloMosaic.Lib.Pointwise

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

abbrev V8 : Type := (FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32)
abbrev VV := FVec Ideal S8x128 .f32

/-- The real and the imaginary parts a loop carries, by group. -/
def reOf (A : V8) (g : Fin 4) : VV := sel4 g A.1 A.2.2.1 A.2.2.2.2.1 A.2.2.2.2.2.2.1
def imOf (A : V8) (g : Fin 4) : VV := sel4 g A.2.1 A.2.2.2.1 A.2.2.2.2.2.1 A.2.2.2.2.2.2.2

theorem row_t2 (k : Fin k0_t2_loop.trips) : (511 - k.val) * 8 + 8 ≤ 4096 := by omega

theorem off_t2 : ∀ k : Fin 512, BitVec.toNat (Scalar.indexCast (Scalar.muli (Scalar.subi 511#32 (Scf.iv 0#32 1#32 k.val)) 8#32)) = (511 - k.val) * 8 := by
  decide +kernel

theorem yield0_re (ar ai x y : VV) (X : Vec Ideal S1x8x128 .f32) (s : Fin 8) (l : Fin 128) : k0_pay13 ar ai x y X (ix2 s l) = ar (ix2 s l) * x (ix2 s l) - ai (ix2 s l) * y (ix2 s l) + X (ix3 0 s l) := by
  pointwise! [k0_pay13]

theorem store0_re (ar ai x y : VV) (X : Vec Ideal S1x8x128 .f32) (s : Fin 8) (l : Fin 128) : k0_pay15 ar ai x y X (ix3 0 s l) = k0_pay13 ar ai x y X (ix2 s l) := by
  pointwise! [k0_pay13, k0_pay15]

theorem yield0_im (ar ai x y : VV) (X : Vec Ideal S1x8x128 .f32) (s : Fin 8) (l : Fin 128) : k0_pay14 ar ai x y X (ix2 s l) = ar (ix2 s l) * y (ix2 s l) + ai (ix2 s l) * x (ix2 s l) + X (ix3 0 s l) := by
  pointwise! [k0_pay14]

theorem store0_im (ar ai x y : VV) (X : Vec Ideal S1x8x128 .f32) (s : Fin 8) (l : Fin 128) : k0_pay16 ar ai x y X (ix3 0 s l) = k0_pay14 ar ai x y X (ix2 s l) := by
  pointwise! [k0_pay14, k0_pay16]

theorem yield1_re (ar ai x y : VV) (X : Vec Ideal S1x8x128 .f32) (s : Fin 8) (l : Fin 128) : k0_pay19 (k0_pay17 ar ai x y) X (ix2 s l) = ar (ix2 s l) * x (ix2 s l) - ai (ix2 s l) * y (ix2 s l) + X (ix3 0 s l) := by
  pointwise! [k0_pay19, k0_pay17]

theorem store1_re (ar ai x y : VV) (X : Vec Ideal S1x8x128 .f32) (s : Fin 8) (l : Fin 128) : k0_pay21 (k0_pay17 ar ai x y) X (ix3 0 s l) = k0_pay19 (k0_pay17 ar ai x y) X (ix2 s l) := by
  pointwise! [k0_pay17, k0_pay19, k0_pay21]

theorem yield1_im (ar ai x y : VV) (X : Vec Ideal S1x8x128 .f32) (s : Fin 8) (l : Fin 128) : k0_pay20 (k0_pay18 ar ai x y) X (ix2 s l) = ar (ix2 s l) * y (ix2 s l) + ai (ix2 s l) * x (ix2 s l) + X (ix3 0 s l) := by
  pointwise! [k0_pay20, k0_pay18]

theorem store1_im (ar ai x y : VV) (X : Vec Ideal S1x8x128 .f32) (s : Fin 8) (l : Fin 128) : k0_pay22 (k0_pay18 ar ai x y) X (ix3 0 s l) = k0_pay20 (k0_pay18 ar ai x y) X (ix2 s l) := by
  pointwise! [k0_pay18, k0_pay20, k0_pay22]

theorem yield2_re (ar ai x y : VV) (X : Vec Ideal S1x8x128 .f32) (s : Fin 8) (l : Fin 128) : k0_pay25 (k0_pay23 ar ai x y) X (ix2 s l) = ar (ix2 s l) * x (ix2 s l) - ai (ix2 s l) * y (ix2 s l) + X (ix3 0 s l) := by
  pointwise! [k0_pay25, k0_pay23]

theorem store2_re (ar ai x y : VV) (X : Vec Ideal S1x8x128 .f32) (s : Fin 8) (l : Fin 128) : k0_pay27 (k0_pay23 ar ai x y) X (ix3 0 s l) = k0_pay25 (k0_pay23 ar ai x y) X (ix2 s l) := by
  pointwise! [k0_pay23, k0_pay25, k0_pay27]

theorem yield2_im (ar ai x y : VV) (X : Vec Ideal S1x8x128 .f32) (s : Fin 8) (l : Fin 128) : k0_pay26 (k0_pay24 ar ai x y) X (ix2 s l) = ar (ix2 s l) * y (ix2 s l) + ai (ix2 s l) * x (ix2 s l) + X (ix3 0 s l) := by
  pointwise! [k0_pay26, k0_pay24]

theorem store2_im (ar ai x y : VV) (X : Vec Ideal S1x8x128 .f32) (s : Fin 8) (l : Fin 128) : k0_pay28 (k0_pay24 ar ai x y) X (ix3 0 s l) = k0_pay26 (k0_pay24 ar ai x y) X (ix2 s l) := by
  pointwise! [k0_pay24, k0_pay26, k0_pay28]

theorem yield3_re (ar ai x y : VV) (X : Vec Ideal S1x8x128 .f32) (s : Fin 8) (l : Fin 128) : k0_pay30 ar ai x y X (ix2 s l) = ar (ix2 s l) * x (ix2 s l) - ai (ix2 s l) * y (ix2 s l) + X (ix3 0 s l) := by
  pointwise! [k0_pay30]

theorem store3_re (ar ai x y : VV) (X : Vec Ideal S1x8x128 .f32) (s : Fin 8) (l : Fin 128) : k0_pay88 (k0_pay30 ar ai x y X) (ix3 0 s l) = k0_pay30 ar ai x y X (ix2 s l) := by
  pointwise! [k0_pay30, k0_pay88]

theorem yield3_im (ar ai x y : VV) (X : Vec Ideal S1x8x128 .f32) (s : Fin 8) (l : Fin 128) : k0_pay87 (k0_pay29 ar ai x y) X (ix2 s l) = ar (ix2 s l) * y (ix2 s l) + ai (ix2 s l) * x (ix2 s l) + X (ix3 0 s l) := by
  pointwise! [k0_pay87, k0_pay29]

theorem store3_im (ar ai x y : VV) (X : Vec Ideal S1x8x128 .f32) (s : Fin 8) (l : Fin 128) : k0_pay89 (k0_pay29 ar ai x y) X (ix3 0 s l) = k0_pay87 (k0_pay29 ar ai x y) X (ix2 s l) := by
  pointwise! [k0_pay29, k0_pay87, k0_pay89]

theorem t2_re (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v30 : Vec Ideal S1x1x128 .f32)  (k : Fin k0_t2_loop.trips) (acc : V8) (f8 : BufTy.Contents (Elt Ideal) arg8.view.ty) (f9 : BufTy.Contents (Elt Ideal) arg9.view.ty)
    (g : Fin 4) (s : Fin 8) (l : Fin 128) :
    reOf ((trip_k0_t2 (F := Ideal) 𝒱 c bd i arg1 harg1 arg2 harg2 arg3 harg3 arg4 harg4 arg5 harg5 arg6 harg6 arg7 harg7 arg8 harg8 arg9 harg9 v5 v9 v13 v17 v21 v25 v29 v30 k).1 acc f8 f9) g (ix2 s l)
      = (sel4 g v5 v9 v13 v17) (ix2 s l) * (reOf acc g) (ix2 s l) - (sel4 g v21 v25 v29 (k0_pay85 v30)) (ix2 s l) * (imOf acc g) (ix2 s l)
        + arg8.view.read (Elt Ideal) f8 (ix3 g ⟨(511 - k.val) * 8 + s.val, by have := k.isLt; omega⟩ l) := by
  have hk : k.val < 512 := k.isLt
  unfold trip_k0_t2; dsimp only; sl_unfold_words
  obtain rfl | rfl | rfl | rfl : g = 0 ∨ g = 1 ∨ g = 2 ∨ g = 3 := by omega
  · exact (yield0_re v5 v21 acc.1 acc.2.1 _ s l).trans (congrArg (fun z : EReal => _ + z)
      (load_rows arg8.view f8 8 ((511 - k.val) * 8) _ _ 0 (congrArg (fun z : ℕ => (![0, z, 0] : Fin 3 → ℕ)) (off_t2 ⟨k.val, hk⟩)) s l (by omega)))
  · exact (yield1_re v9 v25 acc.2.2.1 acc.2.2.2.1 _ s l).trans (congrArg (fun z : EReal => _ + z)
      (load_rows arg8.view f8 8 ((511 - k.val) * 8) _ _ 1 (congrArg (fun z : ℕ => (![1, z, 0] : Fin 3 → ℕ)) (off_t2 ⟨k.val, hk⟩)) s l (by omega)))
  · exact (yield2_re v13 v29 acc.2.2.2.2.1 acc.2.2.2.2.2.1 _ s l).trans (congrArg (fun z : EReal => _ + z)
      (load_rows arg8.view f8 8 ((511 - k.val) * 8) _ _ 2 (congrArg (fun z : ℕ => (![2, z, 0] : Fin 3 → ℕ)) (off_t2 ⟨k.val, hk⟩)) s l (by omega)))
  · exact (yield3_re v17 (k0_pay85 v30) acc.2.2.2.2.2.2.1 acc.2.2.2.2.2.2.2 _ s l).trans (congrArg (fun z : EReal => _ + z)
      (load_rows arg8.view f8 8 ((511 - k.val) * 8) _ _ 3 (congrArg (fun z : ℕ => (![3, z, 0] : Fin 3 → ℕ)) (off_t2 ⟨k.val, hk⟩)) s l (by omega)))

theorem t2_wre (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v30 : Vec Ideal S1x1x128 .f32)  (k : Fin k0_t2_loop.trips) (acc : V8) (f8 : BufTy.Contents (Elt Ideal) arg8.view.ty) (f9 : BufTy.Contents (Elt Ideal) arg9.view.ty)
    (g : Fin 4) (r : Fin 4096) (l : Fin 128) :
    arg8.view.read (Elt Ideal) (arg8.view.writes (Elt Ideal) f8 ((trip_k0_t2 (F := Ideal) 𝒱 c bd i arg1 harg1 arg2 harg2 arg3 harg3 arg4 harg4 arg5 harg5 arg6 harg6 arg7 harg7 arg8 harg8 arg9 harg9 v5 v9 v13 v17 v21 v25 v29 v30 k).2.1 acc f8 f9)) (ix3 g r l)
      = if h : (511 - k.val) * 8 ≤ r.val ∧ r.val < (511 - k.val) * 8 + 8 then
          reOf ((trip_k0_t2 (F := Ideal) 𝒱 c bd i arg1 harg1 arg2 harg2 arg3 harg3 arg4 harg4 arg5 harg5 arg6 harg6 arg7 harg7 arg8 harg8 arg9 harg9 v5 v9 v13 v17 v21 v25 v29 v30 k).1 acc f8 f9) g (ix2 ⟨r.val - (511 - k.val) * 8, by omega⟩ l)
        else arg8.view.read (Elt Ideal) f8 (ix3 g r l) := by
  have hk : k.val < 512 := k.isLt
  unfold trip_k0_t2; dsimp only; sl_unfold_words
  refine (four_pieces arg8.view f8 8 ((511 - k.val) * 8) _ _ _ _ _ _ _ _ (congrArg (fun z : ℕ => (![3, z, 0] : Fin 3 → ℕ)) (off_t2 ⟨k.val, hk⟩)) (congrArg (fun z : ℕ => (![2, z, 0] : Fin 3 → ℕ)) (off_t2 ⟨k.val, hk⟩)) (congrArg (fun z : ℕ => (![1, z, 0] : Fin 3 → ℕ)) (off_t2 ⟨k.val, hk⟩)) (congrArg (fun z : ℕ => (![0, z, 0] : Fin 3 → ℕ)) (off_t2 ⟨k.val, hk⟩)) _ _ _ _ g r l).trans ?_
  by_cases h : (511 - k.val) * 8 ≤ r.val ∧ r.val < (511 - k.val) * 8 + 8
  · rw [dif_pos h, dif_pos h]
    obtain rfl | rfl | rfl | rfl : g = 0 ∨ g = 1 ∨ g = 2 ∨ g = 3 := by omega
    · exact store0_re v5 v21 acc.1 acc.2.1 _ _ l
    · exact store1_re v9 v25 acc.2.2.1 acc.2.2.2.1 _ _ l
    · exact store2_re v13 v29 acc.2.2.2.2.1 acc.2.2.2.2.2.1 _ _ l
    · exact store3_re v17 (k0_pay85 v30) acc.2.2.2.2.2.2.1 acc.2.2.2.2.2.2.2 _ _ l
  · rw [dif_neg h, dif_neg h]

theorem t2_im (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v30 : Vec Ideal S1x1x128 .f32)  (k : Fin k0_t2_loop.trips) (acc : V8) (f8 : BufTy.Contents (Elt Ideal) arg8.view.ty) (f9 : BufTy.Contents (Elt Ideal) arg9.view.ty)
    (g : Fin 4) (s : Fin 8) (l : Fin 128) :
    imOf ((trip_k0_t2 (F := Ideal) 𝒱 c bd i arg1 harg1 arg2 harg2 arg3 harg3 arg4 harg4 arg5 harg5 arg6 harg6 arg7 harg7 arg8 harg8 arg9 harg9 v5 v9 v13 v17 v21 v25 v29 v30 k).1 acc f8 f9) g (ix2 s l)
      = (sel4 g v5 v9 v13 v17) (ix2 s l) * (imOf acc g) (ix2 s l) + (sel4 g v21 v25 v29 (k0_pay85 v30)) (ix2 s l) * (reOf acc g) (ix2 s l)
        + arg9.view.read (Elt Ideal) f9 (ix3 g ⟨(511 - k.val) * 8 + s.val, by have := k.isLt; omega⟩ l) := by
  have hk : k.val < 512 := k.isLt
  unfold trip_k0_t2; dsimp only; sl_unfold_words
  obtain rfl | rfl | rfl | rfl : g = 0 ∨ g = 1 ∨ g = 2 ∨ g = 3 := by omega
  · exact (yield0_im v5 v21 acc.1 acc.2.1 _ s l).trans (congrArg (fun z : EReal => _ + z)
      (load_rows arg9.view f9 8 ((511 - k.val) * 8) _ _ 0 (congrArg (fun z : ℕ => (![0, z, 0] : Fin 3 → ℕ)) (off_t2 ⟨k.val, hk⟩)) s l (by omega)))
  · exact (yield1_im v9 v25 acc.2.2.1 acc.2.2.2.1 _ s l).trans (congrArg (fun z : EReal => _ + z)
      (load_rows arg9.view f9 8 ((511 - k.val) * 8) _ _ 1 (congrArg (fun z : ℕ => (![1, z, 0] : Fin 3 → ℕ)) (off_t2 ⟨k.val, hk⟩)) s l (by omega)))
  · exact (yield2_im v13 v29 acc.2.2.2.2.1 acc.2.2.2.2.2.1 _ s l).trans (congrArg (fun z : EReal => _ + z)
      (load_rows arg9.view f9 8 ((511 - k.val) * 8) _ _ 2 (congrArg (fun z : ℕ => (![2, z, 0] : Fin 3 → ℕ)) (off_t2 ⟨k.val, hk⟩)) s l (by omega)))
  · exact (yield3_im v17 (k0_pay85 v30) acc.2.2.2.2.2.2.1 acc.2.2.2.2.2.2.2 _ s l).trans (congrArg (fun z : EReal => _ + z)
      (load_rows arg9.view f9 8 ((511 - k.val) * 8) _ _ 3 (congrArg (fun z : ℕ => (![3, z, 0] : Fin 3 → ℕ)) (off_t2 ⟨k.val, hk⟩)) s l (by omega)))

theorem t2_wim (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v30 : Vec Ideal S1x1x128 .f32)  (k : Fin k0_t2_loop.trips) (acc : V8) (f8 : BufTy.Contents (Elt Ideal) arg8.view.ty) (f9 : BufTy.Contents (Elt Ideal) arg9.view.ty)
    (g : Fin 4) (r : Fin 4096) (l : Fin 128) :
    arg9.view.read (Elt Ideal) (arg9.view.writes (Elt Ideal) f9 ((trip_k0_t2 (F := Ideal) 𝒱 c bd i arg1 harg1 arg2 harg2 arg3 harg3 arg4 harg4 arg5 harg5 arg6 harg6 arg7 harg7 arg8 harg8 arg9 harg9 v5 v9 v13 v17 v21 v25 v29 v30 k).2.2.1 acc f8 f9)) (ix3 g r l)
      = if h : (511 - k.val) * 8 ≤ r.val ∧ r.val < (511 - k.val) * 8 + 8 then
          imOf ((trip_k0_t2 (F := Ideal) 𝒱 c bd i arg1 harg1 arg2 harg2 arg3 harg3 arg4 harg4 arg5 harg5 arg6 harg6 arg7 harg7 arg8 harg8 arg9 harg9 v5 v9 v13 v17 v21 v25 v29 v30 k).1 acc f8 f9) g (ix2 ⟨r.val - (511 - k.val) * 8, by omega⟩ l)
        else arg9.view.read (Elt Ideal) f9 (ix3 g r l) := by
  have hk : k.val < 512 := k.isLt
  unfold trip_k0_t2; dsimp only; sl_unfold_words
  refine (four_pieces arg9.view f9 8 ((511 - k.val) * 8) _ _ _ _ _ _ _ _ (congrArg (fun z : ℕ => (![3, z, 0] : Fin 3 → ℕ)) (off_t2 ⟨k.val, hk⟩)) (congrArg (fun z : ℕ => (![2, z, 0] : Fin 3 → ℕ)) (off_t2 ⟨k.val, hk⟩)) (congrArg (fun z : ℕ => (![1, z, 0] : Fin 3 → ℕ)) (off_t2 ⟨k.val, hk⟩)) (congrArg (fun z : ℕ => (![0, z, 0] : Fin 3 → ℕ)) (off_t2 ⟨k.val, hk⟩)) _ _ _ _ g r l).trans ?_
  by_cases h : (511 - k.val) * 8 ≤ r.val ∧ r.val < (511 - k.val) * 8 + 8
  · rw [dif_pos h, dif_pos h]
    obtain rfl | rfl | rfl | rfl : g = 0 ∨ g = 1 ∨ g = 2 ∨ g = 3 := by omega
    · exact store0_im v5 v21 acc.1 acc.2.1 _ _ l
    · exact store1_im v9 v25 acc.2.2.1 acc.2.2.2.1 _ _ l
    · exact store2_im v13 v29 acc.2.2.2.2.1 acc.2.2.2.2.2.1 _ _ l
    · exact store3_im v17 (k0_pay85 v30) acc.2.2.2.2.2.2.1 acc.2.2.2.2.2.2.2 _ _ l
  · rw [dif_neg h, dif_neg h]

end Cert.KernelIdeal.Scan

end
-- ==== Proof.Scan.lean ====
/-
  The complex recurrence behind the reversed scan, apart from any program: a first order recurrence over eight stretches of
  512 steps each run from zero, the stretches' ends combined by three doubling steps, and each stretch corrected by
  the state that enters it.
-/
module

public import Mathlib.Data.Complex.Basic
public import Mathlib.Tactic.Ring
public import Mathlib.Tactic.NormNum
public import Mathlib.Tactic.IntervalCases

@[expose] public section

noncomputable section

namespace Cert.Scan

/-- The recurrence `x ← a·x + w j` from zero, before step `n`. -/
def S (a : ℂ) (w : ℕ → ℂ) : ℕ → ℂ
  | 0 => 0
  | n + 1 => a * S a w n + w n

theorem S_split (a : ℂ) (w : ℕ → ℂ) (k n : ℕ) :
    S a w (k + n) = S a (fun i => w (k + i)) n + a ^ n * S a w k := by
  induction n with
  | zero => simp [S]
  | succ n ih =>
    show a * S a w (k + n) + w (k + n) = a * S a (fun i => w (k + i)) n + w (k + n) + _
    rw [ih]; ring

/-- The end of stretch `c` run from zero. -/
def F (a : ℂ) (w : ℕ → ℂ) (c : ℕ) : ℂ := S a (fun i => w (512 * c + i)) 512

theorem S_chunk (a : ℂ) (w : ℕ → ℂ) (c : ℕ) :
    S a w (512 * (c + 1)) = F a w c + a ^ 512 * S a w (512 * c) := S_split a w (512 * c) 512

/-- `f` by doubling: at stretch `c`, `f c + q · f (c - k)` when there is a stretch `k` before. -/
def dbl (k : ℕ) (q : ℂ) (f : ℕ → ℂ) (c : ℕ) : ℂ := f c + q * (if k ≤ c then f (c - k) else 0)

theorem T_dbl (q : ℂ) (f t : ℕ → ℂ) (h0 : t 0 = 0) (h : ∀ c, t (c + 1) = f c + q * t c) (c : ℕ) (hc : c < 8) :
    dbl 4 (q ^ 4) (dbl 2 (q ^ 2) (dbl 1 q f)) c = t (c + 1) := by
  interval_cases c <;> simp [dbl, h, h0] <;> ring

theorem S_dbl (a : ℂ) (w : ℕ → ℂ) (c : ℕ) (hc : c < 8) :
    dbl 4 ((a ^ 512) ^ 4) (dbl 2 ((a ^ 512) ^ 2) (dbl 1 (a ^ 512) (F a w))) c = S a w (512 * (c + 1)) :=
  T_dbl (a ^ 512) (F a w) (fun c => S a w (512 * c)) rfl (S_chunk a w) c hc

end Cert.Scan
end
-- ==== Proof.KLocalInv.lean ====
module

public import proofs.«01_k».proof.Proof.KLocal
public import proofs.«01_k».proof.Proof.Scan
public import Idealize.ShloMosaic.Lib.Pointwise

@[expose] public section

set_option maxRecDepth 16384

/- The second loop's state before each trip, at one group and one lane: the registers hold each chunk's recurrence so far,
   the scratch rows already passed hold its values and the others are as they were. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

open Cert.Scan

/-- Chunk `s`'s inputs in the order in which the reversed scan takes them. -/
def wloc (U : ℕ → ℂ) (s j : ℕ) : ℂ := U ((511 - j) * 8 + s)

theorem local_inv (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v30 : Vec Ideal S1x1x128 .f32)  (G8 : BufTy.Contents (Elt Ideal) arg8.view.ty) (G9 : BufTy.Contents (Elt Ideal) arg9.view.ty) (init : V8)
    (g : Fin 4) (l : Fin 128) (a : ℂ) (U : ℕ → ℂ)
    (har : ∀ s, sel4 g v5 v9 v13 v17 (ix2 s l) = (a.re : EReal))
    (hai : ∀ s, sel4 g v21 v25 v29 (k0_pay85 v30) (ix2 s l) = (a.im : EReal))
    (h8 : ∀ r : Fin 4096, arg8.view.read (Elt Ideal) G8 (ix3 g r l) = ((U r).re : EReal))
    (h9 : ∀ r : Fin 4096, arg9.view.read (Elt Ideal) G9 (ix3 g r l) = ((U r).im : EReal))
    (hr0 : ∀ s, reOf init g (ix2 s l) = 0) (hi0 : ∀ s, imOf init g (ix2 s l) = 0) (k : ℕ) (hk : k ≤ 512) :
    (∀ s : Fin 8, reOf (st_k0_t2 (F := Ideal) 𝒱 c bd i arg1 harg1 arg2 harg2 arg3 harg3 arg4 harg4 arg5 harg5 arg6 harg6 arg7 harg7 arg8 harg8 arg9 harg9 v5 v9 v13 v17 v21 v25 v29 v30 G8 G9 init k).1 g (ix2 s l) = ((S a (wloc U s) k).re : EReal)) ∧
    (∀ s : Fin 8, imOf (st_k0_t2 (F := Ideal) 𝒱 c bd i arg1 harg1 arg2 harg2 arg3 harg3 arg4 harg4 arg5 harg5 arg6 harg6 arg7 harg7 arg8 harg8 arg9 harg9 v5 v9 v13 v17 v21 v25 v29 v30 G8 G9 init k).1 g (ix2 s l) = ((S a (wloc U s) k).im : EReal)) ∧
    (∀ r : Fin 4096, arg8.view.read (Elt Ideal) (arg8.view.writes (Elt Ideal) G8 (st_k0_t2 (F := Ideal) 𝒱 c bd i arg1 harg1 arg2 harg2 arg3 harg3 arg4 harg4 arg5 harg5 arg6 harg6 arg7 harg7 arg8 harg8 arg9 harg9 v5 v9 v13 v17 v21 v25 v29 v30 G8 G9 init k).2.1) (ix3 g r l)
      = if 512 - k ≤ r.val / 8 then ((S a (wloc U (r.val % 8)) (512 - r.val / 8)).re : EReal) else ((U r).re : EReal)) ∧
    (∀ r : Fin 4096, arg9.view.read (Elt Ideal) (arg9.view.writes (Elt Ideal) G9 (st_k0_t2 (F := Ideal) 𝒱 c bd i arg1 harg1 arg2 harg2 arg3 harg3 arg4 harg4 arg5 harg5 arg6 harg6 arg7 harg7 arg8 harg8 arg9 harg9 v5 v9 v13 v17 v21 v25 v29 v30 G8 G9 init k).2.2) (ix3 g r l)
      = if 512 - k ≤ r.val / 8 then ((S a (wloc U (r.val % 8)) (512 - r.val / 8)).im : EReal) else ((U r).im : EReal)) := by
  induction k with
  | zero =>
    have hn : ∀ r : Fin 4096, ¬ (512 - 0 ≤ r.val / 8) := by intro r; omega
    refine ⟨fun s => ?_, fun s => ?_, fun r => ?_, fun r => ?_⟩
    · exact (hr0 s).trans (by simp [S])
    · exact (hi0 s).trans (by simp [S])
    · rw [if_neg (hn r)]; exact h8 r
    · rw [if_neg (hn r)]; exact h9 r
  | succ k ih =>
    have hk' : k < 512 := hk
    obtain ⟨i1, i2, i3, i4⟩ := ih (by omega)
    have e := st_k0_t2_succ (F := Ideal) 𝒱 c bd i arg1 harg1 arg2 harg2 arg3 harg3 arg4 harg4 arg5 harg5 arg6 harg6 arg7 harg7 arg8 harg8 arg9 harg9 v5 v9 v13 v17 v21 v25 v29 v30 G8 G9 init ⟨k, hk'⟩
    dsimp only at e
    have j1 : ∀ s : Fin 8, reOf (st_k0_t2 (F := Ideal) 𝒱 c bd i arg1 harg1 arg2 harg2 arg3 harg3 arg4 harg4 arg5 harg5 arg6 harg6 arg7 harg7 arg8 harg8 arg9 harg9 v5 v9 v13 v17 v21 v25 v29 v30 G8 G9 init (k + 1)).1 g (ix2 s l) = ((S a (wloc U s) (k + 1)).re : EReal) := by
      intro s
      rw [e]
      refine (t2_re 𝒱 c bd i arg1 harg1 arg2 harg2 arg3 harg3 arg4 harg4 arg5 harg5 arg6 harg6 arg7 harg7 arg8 harg8 arg9 harg9 v5 v9 v13 v17 v21 v25 v29 v30 ⟨k, hk'⟩ _ _ _ g s l).trans ?_
      rw [i1, i2, i3, har, hai, if_neg (by dsimp only; omega)]
      show _ = ((a * S a (wloc U s) k + wloc U s k).re : EReal)
      simp only [Complex.add_re, Complex.mul_re, EReal.coe_add, EReal.coe_sub, EReal.coe_mul]
      rfl
    have j2 : ∀ s : Fin 8, imOf (st_k0_t2 (F := Ideal) 𝒱 c bd i arg1 harg1 arg2 harg2 arg3 harg3 arg4 harg4 arg5 harg5 arg6 harg6 arg7 harg7 arg8 harg8 arg9 harg9 v5 v9 v13 v17 v21 v25 v29 v30 G8 G9 init (k + 1)).1 g (ix2 s l) = ((S a (wloc U s) (k + 1)).im : EReal) := by
      intro s
      rw [e]
      refine (t2_im 𝒱 c bd i arg1 harg1 arg2 harg2 arg3 harg3 arg4 harg4 arg5 harg5 arg6 harg6 arg7 harg7 arg8 harg8 arg9 harg9 v5 v9 v13 v17 v21 v25 v29 v30 ⟨k, hk'⟩ _ _ _ g s l).trans ?_
      rw [i1, i2, i4, har, hai, if_neg (by dsimp only; omega)]
      show _ = ((a * S a (wloc U s) k + wloc U s k).im : EReal)
      simp only [Complex.add_im, Complex.mul_im, EReal.coe_add, EReal.coe_mul]
      rfl
    have q : ∀ r : Fin 4096, ((511 - k) * 8 ≤ r.val ∧ r.val < (511 - k) * 8 + 8) → (512 - (k + 1) ≤ r.val / 8) ∧ k + 1 = 512 - r.val / 8
        ∧ r.val - (511 - k) * 8 = r.val % 8 := by
      intro r h; omega
    have q' : ∀ r : Fin 4096, ¬ ((511 - k) * 8 ≤ r.val ∧ r.val < (511 - k) * 8 + 8) → ((512 - (k + 1) ≤ r.val / 8) ↔ (512 - k ≤ r.val / 8)) := by
      intro r h; omega
    refine ⟨j1, j2, fun r => ?_, fun r => ?_⟩
    · rw [e] at j1 ⊢
      rw [View.writes_append]
      refine (t2_wre 𝒱 c bd i arg1 harg1 arg2 harg2 arg3 harg3 arg4 harg4 arg5 harg5 arg6 harg6 arg7 harg7 arg8 harg8 arg9 harg9 v5 v9 v13 v17 v21 v25 v29 v30 ⟨k, hk'⟩ _ _ _ g r l).trans ?_
      by_cases h : (511 - k) * 8 ≤ r.val ∧ r.val < (511 - k) * 8 + 8
      · rw [dif_pos h, if_pos (q r h).1]
        refine (j1 _).trans ?_
        rw [← (q r h).2.1, ← (q r h).2.2]
      · rw [dif_neg h]
        refine (i3 r).trans ?_
        simp only [q' r h]
    · rw [e] at j2 ⊢
      rw [View.writes_append]
      refine (t2_wim 𝒱 c bd i arg1 harg1 arg2 harg2 arg3 harg3 arg4 harg4 arg5 harg5 arg6 harg6 arg7 harg7 arg8 harg8 arg9 harg9 v5 v9 v13 v17 v21 v25 v29 v30 ⟨k, hk'⟩ _ _ _ g r l).trans ?_
      by_cases h : (511 - k) * 8 ≤ r.val ∧ r.val < (511 - k) * 8 + 8
      · rw [dif_pos h, if_pos (q r h).1]
        refine (j2 _).trans ?_
        rw [← (q r h).2.1, ← (q r h).2.2]
      · rw [dif_neg h]
        refine (i4 r).trans ?_
        simp only [q' r h]

end Cert.KernelIdeal.Scan

end
-- ==== Proof.KFix.lean ====
module

public import proofs.«01_k».proof.Proof.KLocal
public import Idealize.ShloMosaic.Lib.Pointwise

@[expose] public section

set_option maxRecDepth 16384

/- One trip of the third loop, read at an index: the powers it carries, and the sixteen rows it stores in each result. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

theorem off_t3 : ∀ k : Fin 256, BitVec.toNat (Scalar.indexCast (Scalar.muli (Scalar.subi 255#32 (Scf.iv 0#32 1#32 k.val)) 16#32)) = (255 - k.val) * 16 := by
  decide +kernel

theorem off_t3a : ∀ k : Fin 256, BitVec.toNat (Scalar.indexCast (Scalar.muli (Scalar.subi 511#32 (Scalar.muli 2#32 (Scf.iv 0#32 1#32 k.val))) 8#32)) = (255 - k.val) * 16 + 8 := by
  decide +kernel

theorem off_t3b : ∀ k : Fin 256, BitVec.toNat (Scalar.indexCast (Scalar.muli (Scalar.subi 511#32 (Scalar.addi (Scalar.muli 2#32 (Scf.iv 0#32 1#32 k.val)) 1#32)) 8#32)) = (255 - k.val) * 16 := by
  decide +kernel

theorem fix0_re (ar ai cr ci x y : VV) (A B : Vec Ideal S1x8x128 .f32) (j : Fin 16) (l : Fin 128) : (k0_pay37 (k0_pay33 ar ai cr ci x y) (k0_pay35 cr ci x y A) B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * cr (ix2 ⟨j.val, h⟩ l) - (x (ix2 ⟨j.val, h⟩ l) * ai (ix2 ⟨j.val, h⟩ l) + y (ix2 ⟨j.val, h⟩ l) * ar (ix2 ⟨j.val, h⟩ l)) * ci (ix2 ⟨j.val, h⟩ l))
      else A (ix3 0 ⟨j.val - 8, by omega⟩ l) + (x (ix2 ⟨j.val - 8, by omega⟩ l) * cr (ix2 ⟨j.val - 8, by omega⟩ l) - y (ix2 ⟨j.val - 8, by omega⟩ l) * ci (ix2 ⟨j.val - 8, by omega⟩ l)) := by
  pointwise! [k0_pay31, k0_pay32, k0_pay33, k0_pay35, k0_pay37]

theorem pow0_re (ar ai x y : VV) (s : Fin 8) (l : Fin 128) : (k0_pay39 ar ai (k0_pay31 ar ai x y) (k0_pay32 ar ai x y)) (ix2 s l) = (x (ix2 s l) * ar (ix2 s l) - y (ix2 s l) * ai (ix2 s l)) * ar (ix2 s l) - (x (ix2 s l) * ai (ix2 s l) + y (ix2 s l) * ar (ix2 s l)) * ai (ix2 s l) := by
  pointwise! [k0_pay31, k0_pay32, k0_pay39]

theorem fix0_im (ar ai cr ci x y : VV) (A B : Vec Ideal S1x8x128 .f32) (j : Fin 16) (l : Fin 128) : (k0_pay38 (k0_pay34 ar ai cr ci x y) (k0_pay36 cr ci x y A) B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * ci (ix2 ⟨j.val, h⟩ l) + (x (ix2 ⟨j.val, h⟩ l) * ai (ix2 ⟨j.val, h⟩ l) + y (ix2 ⟨j.val, h⟩ l) * ar (ix2 ⟨j.val, h⟩ l)) * cr (ix2 ⟨j.val, h⟩ l))
      else A (ix3 0 ⟨j.val - 8, by omega⟩ l) + (x (ix2 ⟨j.val - 8, by omega⟩ l) * ci (ix2 ⟨j.val - 8, by omega⟩ l) + y (ix2 ⟨j.val - 8, by omega⟩ l) * cr (ix2 ⟨j.val - 8, by omega⟩ l)) := by
  pointwise! [k0_pay31, k0_pay32, k0_pay34, k0_pay36, k0_pay38]

theorem pow0_im (ar ai x y : VV) (s : Fin 8) (l : Fin 128) : (k0_pay40 ar ai (k0_pay31 ar ai x y) (k0_pay32 ar ai x y)) (ix2 s l) = (x (ix2 s l) * ar (ix2 s l) - y (ix2 s l) * ai (ix2 s l)) * ai (ix2 s l) + (x (ix2 s l) * ai (ix2 s l) + y (ix2 s l) * ar (ix2 s l)) * ar (ix2 s l) := by
  pointwise! [k0_pay31, k0_pay32, k0_pay40]

theorem fix1_re (ar ai cr ci x y : VV) (A B : Vec Ideal S1x8x128 .f32) (j : Fin 16) (l : Fin 128) : (k0_pay47 (k0_pay43 cr ci x y) (k0_pay45 ar ai cr ci x y) A B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * cr (ix2 ⟨j.val, h⟩ l) - (x (ix2 ⟨j.val, h⟩ l) * ai (ix2 ⟨j.val, h⟩ l) + y (ix2 ⟨j.val, h⟩ l) * ar (ix2 ⟨j.val, h⟩ l)) * ci (ix2 ⟨j.val, h⟩ l))
      else A (ix3 0 ⟨j.val - 8, by omega⟩ l) + (x (ix2 ⟨j.val - 8, by omega⟩ l) * cr (ix2 ⟨j.val - 8, by omega⟩ l) - y (ix2 ⟨j.val - 8, by omega⟩ l) * ci (ix2 ⟨j.val - 8, by omega⟩ l)) := by
  pointwise! [k0_pay41, k0_pay42, k0_pay43, k0_pay45, k0_pay47]

theorem pow1_re (ar ai x y : VV) (s : Fin 8) (l : Fin 128) : (k0_pay51 (k0_pay49 ar (k0_pay41 ar ai x y)) (k0_pay50 ai (k0_pay42 ar ai x y))) (ix2 s l) = (x (ix2 s l) * ar (ix2 s l) - y (ix2 s l) * ai (ix2 s l)) * ar (ix2 s l) - (x (ix2 s l) * ai (ix2 s l) + y (ix2 s l) * ar (ix2 s l)) * ai (ix2 s l) := by
  pointwise! [k0_pay41, k0_pay42, k0_pay49, k0_pay50, k0_pay51]

theorem fix1_im (ar ai cr ci x y : VV) (A B : Vec Ideal S1x8x128 .f32) (j : Fin 16) (l : Fin 128) : (k0_pay48 (k0_pay44 cr ci x y) (k0_pay46 ar ai cr ci x y) A B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * ci (ix2 ⟨j.val, h⟩ l) + (x (ix2 ⟨j.val, h⟩ l) * ai (ix2 ⟨j.val, h⟩ l) + y (ix2 ⟨j.val, h⟩ l) * ar (ix2 ⟨j.val, h⟩ l)) * cr (ix2 ⟨j.val, h⟩ l))
      else A (ix3 0 ⟨j.val - 8, by omega⟩ l) + (x (ix2 ⟨j.val - 8, by omega⟩ l) * ci (ix2 ⟨j.val - 8, by omega⟩ l) + y (ix2 ⟨j.val - 8, by omega⟩ l) * cr (ix2 ⟨j.val - 8, by omega⟩ l)) := by
  pointwise! [k0_pay41, k0_pay42, k0_pay44, k0_pay46, k0_pay48]

theorem pow1_im (ar ai x y : VV) (s : Fin 8) (l : Fin 128) : (k0_pay52 ar ai (k0_pay41 ar ai x y) (k0_pay42 ar ai x y)) (ix2 s l) = (x (ix2 s l) * ar (ix2 s l) - y (ix2 s l) * ai (ix2 s l)) * ai (ix2 s l) + (x (ix2 s l) * ai (ix2 s l) + y (ix2 s l) * ar (ix2 s l)) * ar (ix2 s l) := by
  pointwise! [k0_pay41, k0_pay42, k0_pay52]

theorem fix2_re (ar ai cr ci x y : VV) (A B : Vec Ideal S1x8x128 .f32) (j : Fin 16) (l : Fin 128) : (k0_pay59 (k0_pay56 cr ci x y A) (k0_pay58 ar ai cr ci x y B)) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * cr (ix2 ⟨j.val, h⟩ l) - (x (ix2 ⟨j.val, h⟩ l) * ai (ix2 ⟨j.val, h⟩ l) + y (ix2 ⟨j.val, h⟩ l) * ar (ix2 ⟨j.val, h⟩ l)) * ci (ix2 ⟨j.val, h⟩ l))
      else A (ix3 0 ⟨j.val - 8, by omega⟩ l) + (x (ix2 ⟨j.val - 8, by omega⟩ l) * cr (ix2 ⟨j.val - 8, by omega⟩ l) - y (ix2 ⟨j.val - 8, by omega⟩ l) * ci (ix2 ⟨j.val - 8, by omega⟩ l)) := by
  pointwise! [k0_pay53, k0_pay54, k0_pay56, k0_pay58, k0_pay59]

theorem pow2_re (ar ai x y : VV) (s : Fin 8) (l : Fin 128) : (k0_pay61 ar ai (k0_pay53 ar ai x y) (k0_pay54 ar ai x y)) (ix2 s l) = (x (ix2 s l) * ar (ix2 s l) - y (ix2 s l) * ai (ix2 s l)) * ar (ix2 s l) - (x (ix2 s l) * ai (ix2 s l) + y (ix2 s l) * ar (ix2 s l)) * ai (ix2 s l) := by
  pointwise! [k0_pay53, k0_pay54, k0_pay61]

theorem fix2_im (ar ai cr ci x y : VV) (A B : Vec Ideal S1x8x128 .f32) (j : Fin 16) (l : Fin 128) : (k0_pay60 (k0_pay55 ar ai cr ci x y) (k0_pay57 cr ci x y A) B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * ci (ix2 ⟨j.val, h⟩ l) + (x (ix2 ⟨j.val, h⟩ l) * ai (ix2 ⟨j.val, h⟩ l) + y (ix2 ⟨j.val, h⟩ l) * ar (ix2 ⟨j.val, h⟩ l)) * cr (ix2 ⟨j.val, h⟩ l))
      else A (ix3 0 ⟨j.val - 8, by omega⟩ l) + (x (ix2 ⟨j.val - 8, by omega⟩ l) * ci (ix2 ⟨j.val - 8, by omega⟩ l) + y (ix2 ⟨j.val - 8, by omega⟩ l) * cr (ix2 ⟨j.val - 8, by omega⟩ l)) := by
  pointwise! [k0_pay53, k0_pay54, k0_pay55, k0_pay57, k0_pay60]

theorem pow2_im (ar ai x y : VV) (s : Fin 8) (l : Fin 128) : (k0_pay62 ar ai (k0_pay53 ar ai x y) (k0_pay54 ar ai x y)) (ix2 s l) = (x (ix2 s l) * ar (ix2 s l) - y (ix2 s l) * ai (ix2 s l)) * ai (ix2 s l) + (x (ix2 s l) * ai (ix2 s l) + y (ix2 s l) * ar (ix2 s l)) * ar (ix2 s l) := by
  pointwise! [k0_pay53, k0_pay54, k0_pay62]

theorem fix3_re (ar ai cr ci x y : VV) (A B : Vec Ideal S1x8x128 .f32) (j : Fin 16) (l : Fin 128) : (k0_pay69 (k0_pay66 ar ai cr ci x y) (k0_pay68 cr ci x y A) B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * cr (ix2 ⟨j.val, h⟩ l) - (x (ix2 ⟨j.val, h⟩ l) * ai (ix2 ⟨j.val, h⟩ l) + y (ix2 ⟨j.val, h⟩ l) * ar (ix2 ⟨j.val, h⟩ l)) * ci (ix2 ⟨j.val, h⟩ l))
      else A (ix3 0 ⟨j.val - 8, by omega⟩ l) + (x (ix2 ⟨j.val - 8, by omega⟩ l) * cr (ix2 ⟨j.val - 8, by omega⟩ l) - y (ix2 ⟨j.val - 8, by omega⟩ l) * ci (ix2 ⟨j.val - 8, by omega⟩ l)) := by
  pointwise! [k0_pay63, k0_pay64, k0_pay66, k0_pay68, k0_pay69]

theorem pow3_re (ar ai x y : VV) (s : Fin 8) (l : Fin 128) : (k0_pay71 ar ai (k0_pay63 ar ai x y) (k0_pay64 ar ai x y)) (ix2 s l) = (x (ix2 s l) * ar (ix2 s l) - y (ix2 s l) * ai (ix2 s l)) * ar (ix2 s l) - (x (ix2 s l) * ai (ix2 s l) + y (ix2 s l) * ar (ix2 s l)) * ai (ix2 s l) := by
  pointwise! [k0_pay63, k0_pay64, k0_pay71]

theorem fix3_im (ar ai cr ci x y : VV) (A B : Vec Ideal S1x8x128 .f32) (j : Fin 16) (l : Fin 128) : (k0_pay70 (k0_pay65 cr ci x y) (k0_pay67 ar ai cr ci x y) A B) (ix3 0 j l)
    = if h : j.val < 8 then B (ix3 0 ⟨j.val, h⟩ l) + ((x (ix2 ⟨j.val, h⟩ l) * ar (ix2 ⟨j.val, h⟩ l) - y (ix2 ⟨j.val, h⟩ l) * ai (ix2 ⟨j.val, h⟩ l)) * ci (ix2 ⟨j.val, h⟩ l) + (x (ix2 ⟨j.val, h⟩ l) * ai (ix2 ⟨j.val, h⟩ l) + y (ix2 ⟨j.val, h⟩ l) * ar (ix2 ⟨j.val, h⟩ l)) * cr (ix2 ⟨j.val, h⟩ l))
      else A (ix3 0 ⟨j.val - 8, by omega⟩ l) + (x (ix2 ⟨j.val - 8, by omega⟩ l) * ci (ix2 ⟨j.val - 8, by omega⟩ l) + y (ix2 ⟨j.val - 8, by omega⟩ l) * cr (ix2 ⟨j.val - 8, by omega⟩ l)) := by
  pointwise! [k0_pay63, k0_pay64, k0_pay65, k0_pay67, k0_pay70]

theorem pow3_im (ar ai x y : VV) (s : Fin 8) (l : Fin 128) : (k0_pay4 (k0_pay72 ai (k0_pay63 ar ai x y)) (k0_pay73 ar (k0_pay64 ar ai x y))) (ix2 s l) = (x (ix2 s l) * ar (ix2 s l) - y (ix2 s l) * ai (ix2 s l)) * ai (ix2 s l) + (x (ix2 s l) * ai (ix2 s l) + y (ix2 s l) * ar (ix2 s l)) * ar (ix2 s l) := by
  pointwise! [k0_pay4, k0_pay63, k0_pay64, k0_pay72, k0_pay73]

theorem t3_re (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v1 : IVec S8x128 32) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v33 : FVec Ideal S8x128 .f32) (v161 : FVec Ideal S8x128 .f32) (v166 : FVec Ideal S8x128 .f32) (v291 : FVec Ideal S8x128 .f32) (v296 : FVec Ideal S8x128 .f32) (v421 : FVec Ideal S8x128 .f32) (v426 : FVec Ideal S8x128 .f32) (v521 : FVec Ideal S8x128 .f32) (v522 : FVec Ideal S8x128 .f32) (v525 : FVec Ideal S8x128 .f32) (v528 : FVec Ideal S8x128 .f32) (v533 : FVec Ideal S8x128 .f32) (v535 : IVec S8x128 1) (c4_i32_109 : BitVec 32) (X_arg8 : BufTy.Contents (Elt Ideal) arg8.view.ty) (X_arg9 : BufTy.Contents (Elt Ideal) arg9.view.ty)  (k : Fin k0_t3_loop.trips) (acc : V8) (g : Fin 4) (s : Fin 8) (l : Fin 128) :
    reOf ((trip_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 k).1 acc) g (ix2 s l)
      = (reOf acc g (ix2 s l) * (sel4 g v5 v9 v13 v17) (ix2 s l) - imOf acc g (ix2 s l) * (sel4 g v21 v25 v29 v33) (ix2 s l)) * (sel4 g v5 v9 v13 v17) (ix2 s l) - (reOf acc g (ix2 s l) * (sel4 g v21 v25 v29 v33) (ix2 s l) + imOf acc g (ix2 s l) * (sel4 g v5 v9 v13 v17) (ix2 s l)) * (sel4 g v21 v25 v29 v33) (ix2 s l) := by
  have hk : k.val < 256 := k.isLt
  unfold trip_k0_t3; dsimp only; sl_unfold_words
  obtain rfl | rfl | rfl | rfl : g = 0 ∨ g = 1 ∨ g = 2 ∨ g = 3 := by omega
  · exact pow0_re v5 v21 acc.1 acc.2.1 s l
  · exact pow1_re v9 v25 acc.2.2.1 acc.2.2.2.1 s l
  · exact pow2_re v13 v29 acc.2.2.2.2.1 acc.2.2.2.2.2.1 s l
  · exact pow3_re v17 v33 acc.2.2.2.2.2.2.1 acc.2.2.2.2.2.2.2 s l

theorem t3_wre (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v1 : IVec S8x128 32) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v33 : FVec Ideal S8x128 .f32) (v161 : FVec Ideal S8x128 .f32) (v166 : FVec Ideal S8x128 .f32) (v291 : FVec Ideal S8x128 .f32) (v296 : FVec Ideal S8x128 .f32) (v421 : FVec Ideal S8x128 .f32) (v426 : FVec Ideal S8x128 .f32) (v521 : FVec Ideal S8x128 .f32) (v522 : FVec Ideal S8x128 .f32) (v525 : FVec Ideal S8x128 .f32) (v528 : FVec Ideal S8x128 .f32) (v533 : FVec Ideal S8x128 .f32) (v535 : IVec S8x128 1) (c4_i32_109 : BitVec 32) (X_arg8 : BufTy.Contents (Elt Ideal) arg8.view.ty) (X_arg9 : BufTy.Contents (Elt Ideal) arg9.view.ty)  (k : Fin k0_t3_loop.trips) (acc : V8) (f : BufTy.Contents (Elt Ideal) arg6.view.ty)
    (g : Fin 4) (r : Fin 4096) (l : Fin 128) :
    arg6.view.read (Elt Ideal) (arg6.view.writes (Elt Ideal) f ((trip_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 k).2.1 acc)) (ix3 g r l)
      = if h : (255 - k.val) * 16 ≤ r.val ∧ r.val < (255 - k.val) * 16 + 16 then
          if h' : r.val - (255 - k.val) * 16 < 8 then
            arg8.view.read (Elt Ideal) X_arg8 (ix3 g r l) + (((reOf acc g) (ix2 ⟨r.val - (255 - k.val) * 16, h'⟩ l) * (sel4 g v5 v9 v13 v17) (ix2 ⟨r.val - (255 - k.val) * 16, h'⟩ l) - (imOf acc g) (ix2 ⟨r.val - (255 - k.val) * 16, h'⟩ l) * (sel4 g v21 v25 v29 v33) (ix2 ⟨r.val - (255 - k.val) * 16, h'⟩ l)) * (sel4 g v161 v291 v421 (k0_pay2 v1 v521 v522 v525 v528 v533 v535 c4_i32_109)) (ix2 ⟨r.val - (255 - k.val) * 16, h'⟩ l) - ((reOf acc g) (ix2 ⟨r.val - (255 - k.val) * 16, h'⟩ l) * (sel4 g v21 v25 v29 v33) (ix2 ⟨r.val - (255 - k.val) * 16, h'⟩ l) + (imOf acc g) (ix2 ⟨r.val - (255 - k.val) * 16, h'⟩ l) * (sel4 g v5 v9 v13 v17) (ix2 ⟨r.val - (255 - k.val) * 16, h'⟩ l)) * (sel4 g v166 v296 v426 (k0_pay3 v1 v522 v525 v528 v533 v535 c4_i32_109)) (ix2 ⟨r.val - (255 - k.val) * 16, h'⟩ l))
          else arg8.view.read (Elt Ideal) X_arg8 (ix3 g r l) + ((reOf acc g) (ix2 ⟨r.val - (255 - k.val) * 16 - 8, by omega⟩ l) * (sel4 g v161 v291 v421 (k0_pay2 v1 v521 v522 v525 v528 v533 v535 c4_i32_109)) (ix2 ⟨r.val - (255 - k.val) * 16 - 8, by omega⟩ l) - (imOf acc g) (ix2 ⟨r.val - (255 - k.val) * 16 - 8, by omega⟩ l) * (sel4 g v166 v296 v426 (k0_pay3 v1 v522 v525 v528 v533 v535 c4_i32_109)) (ix2 ⟨r.val - (255 - k.val) * 16 - 8, by omega⟩ l))
        else arg6.view.read (Elt Ideal) f (ix3 g r l) := by
  have hk : k.val < 256 := k.isLt
  unfold trip_k0_t3; dsimp only; sl_unfold_words
  refine (four_pieces arg6.view f 16 ((255 - k.val) * 16) _ _ _ _ _ _ _ _ (congrArg (fun z : ℕ => (![3, z, 0] : Fin 3 → ℕ)) (off_t3 ⟨k.val, hk⟩)) (congrArg (fun z : ℕ => (![2, z, 0] : Fin 3 → ℕ)) (off_t3 ⟨k.val, hk⟩)) (congrArg (fun z : ℕ => (![1, z, 0] : Fin 3 → ℕ)) (off_t3 ⟨k.val, hk⟩)) (congrArg (fun z : ℕ => (![0, z, 0] : Fin 3 → ℕ)) (off_t3 ⟨k.val, hk⟩)) _ _ _ _ g r l).trans ?_
  by_cases h : (255 - k.val) * 16 ≤ r.val ∧ r.val < (255 - k.val) * 16 + 16
  · rw [dif_pos h, dif_pos h]
    obtain rfl | rfl | rfl | rfl : g = 0 ∨ g = 1 ∨ g = 2 ∨ g = 3 := by omega
    · refine (fix0_re v5 v21 v161 v166 acc.1 acc.2.1 _ _ _ l).trans ?_
      by_cases h' : r.val - (255 - k.val) * 16 < 8
      · rw [dif_pos h', dif_pos h']
        refine congrArg (fun z : EReal => z + _) ((load_rows arg8.view X_arg8 8 ((255 - k.val) * 16) _ _ 0 (congrArg (fun z : ℕ => (![0, z, 0] : Fin 3 → ℕ)) (off_t3b ⟨k.val, hk⟩)) ⟨_, h'⟩ l (by dsimp only; omega)).trans ?_)
        exact congrArg (fun z => arg8.view.read (Elt Ideal) X_arg8 (ix3 0 z l)) (Fin.ext (by dsimp only; omega))
      · rw [dif_neg h', dif_neg h']
        refine congrArg (fun z : EReal => z + _) ((load_rows arg8.view X_arg8 8 (((255 - k.val) * 16) + 8) _ _ 0 (congrArg (fun z : ℕ => (![0, z, 0] : Fin 3 → ℕ)) (off_t3a ⟨k.val, hk⟩)) ⟨_, by omega⟩ l (by dsimp only; omega)).trans ?_)
        exact congrArg (fun z => arg8.view.read (Elt Ideal) X_arg8 (ix3 0 z l)) (Fin.ext (by dsimp only; omega))
    · refine (fix1_re v9 v25 v291 v296 acc.2.2.1 acc.2.2.2.1 _ _ _ l).trans ?_
      by_cases h' : r.val - (255 - k.val) * 16 < 8
      · rw [dif_pos h', dif_pos h']
        refine congrArg (fun z : EReal => z + _) ((load_rows arg8.view X_arg8 8 ((255 - k.val) * 16) _ _ 1 (congrArg (fun z : ℕ => (![1, z, 0] : Fin 3 → ℕ)) (off_t3b ⟨k.val, hk⟩)) ⟨_, h'⟩ l (by dsimp only; omega)).trans ?_)
        exact congrArg (fun z => arg8.view.read (Elt Ideal) X_arg8 (ix3 1 z l)) (Fin.ext (by dsimp only; omega))
      · rw [dif_neg h', dif_neg h']
        refine congrArg (fun z : EReal => z + _) ((load_rows arg8.view X_arg8 8 (((255 - k.val) * 16) + 8) _ _ 1 (congrArg (fun z : ℕ => (![1, z, 0] : Fin 3 → ℕ)) (off_t3a ⟨k.val, hk⟩)) ⟨_, by omega⟩ l (by dsimp only; omega)).trans ?_)
        exact congrArg (fun z => arg8.view.read (Elt Ideal) X_arg8 (ix3 1 z l)) (Fin.ext (by dsimp only; omega))
    · refine (fix2_re v13 v29 v421 v426 acc.2.2.2.2.1 acc.2.2.2.2.2.1 _ _ _ l).trans ?_
      by_cases h' : r.val - (255 - k.val) * 16 < 8
      · rw [dif_pos h', dif_pos h']
        refine congrArg (fun z : EReal => z + _) ((load_rows arg8.view X_arg8 8 ((255 - k.val) * 16) _ _ 2 (congrArg (fun z : ℕ => (![2, z, 0] : Fin 3 → ℕ)) (off_t3b ⟨k.val, hk⟩)) ⟨_, h'⟩ l (by dsimp only; omega)).trans ?_)
        exact congrArg (fun z => arg8.view.read (Elt Ideal) X_arg8 (ix3 2 z l)) (Fin.ext (by dsimp only; omega))
      · rw [dif_neg h', dif_neg h']
        refine congrArg (fun z : EReal => z + _) ((load_rows arg8.view X_arg8 8 (((255 - k.val) * 16) + 8) _ _ 2 (congrArg (fun z : ℕ => (![2, z, 0] : Fin 3 → ℕ)) (off_t3a ⟨k.val, hk⟩)) ⟨_, by omega⟩ l (by dsimp only; omega)).trans ?_)
        exact congrArg (fun z => arg8.view.read (Elt Ideal) X_arg8 (ix3 2 z l)) (Fin.ext (by dsimp only; omega))
    · refine (fix3_re v17 v33 (k0_pay2 v1 v521 v522 v525 v528 v533 v535 c4_i32_109) (k0_pay3 v1 v522 v525 v528 v533 v535 c4_i32_109) acc.2.2.2.2.2.2.1 acc.2.2.2.2.2.2.2 _ _ _ l).trans ?_
      by_cases h' : r.val - (255 - k.val) * 16 < 8
      · rw [dif_pos h', dif_pos h']
        refine congrArg (fun z : EReal => z + _) ((load_rows arg8.view X_arg8 8 ((255 - k.val) * 16) _ _ 3 (congrArg (fun z : ℕ => (![3, z, 0] : Fin 3 → ℕ)) (off_t3b ⟨k.val, hk⟩)) ⟨_, h'⟩ l (by dsimp only; omega)).trans ?_)
        exact congrArg (fun z => arg8.view.read (Elt Ideal) X_arg8 (ix3 3 z l)) (Fin.ext (by dsimp only; omega))
      · rw [dif_neg h', dif_neg h']
        refine congrArg (fun z : EReal => z + _) ((load_rows arg8.view X_arg8 8 (((255 - k.val) * 16) + 8) _ _ 3 (congrArg (fun z : ℕ => (![3, z, 0] : Fin 3 → ℕ)) (off_t3a ⟨k.val, hk⟩)) ⟨_, by omega⟩ l (by dsimp only; omega)).trans ?_)
        exact congrArg (fun z => arg8.view.read (Elt Ideal) X_arg8 (ix3 3 z l)) (Fin.ext (by dsimp only; omega))
  · rw [dif_neg h, dif_neg h]

theorem t3_im (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v1 : IVec S8x128 32) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v33 : FVec Ideal S8x128 .f32) (v161 : FVec Ideal S8x128 .f32) (v166 : FVec Ideal S8x128 .f32) (v291 : FVec Ideal S8x128 .f32) (v296 : FVec Ideal S8x128 .f32) (v421 : FVec Ideal S8x128 .f32) (v426 : FVec Ideal S8x128 .f32) (v521 : FVec Ideal S8x128 .f32) (v522 : FVec Ideal S8x128 .f32) (v525 : FVec Ideal S8x128 .f32) (v528 : FVec Ideal S8x128 .f32) (v533 : FVec Ideal S8x128 .f32) (v535 : IVec S8x128 1) (c4_i32_109 : BitVec 32) (X_arg8 : BufTy.Contents (Elt Ideal) arg8.view.ty) (X_arg9 : BufTy.Contents (Elt Ideal) arg9.view.ty)  (k : Fin k0_t3_loop.trips) (acc : V8) (g : Fin 4) (s : Fin 8) (l : Fin 128) :
    imOf ((trip_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 k).1 acc) g (ix2 s l)
      = (reOf acc g (ix2 s l) * (sel4 g v5 v9 v13 v17) (ix2 s l) - imOf acc g (ix2 s l) * (sel4 g v21 v25 v29 v33) (ix2 s l)) * (sel4 g v21 v25 v29 v33) (ix2 s l) + (reOf acc g (ix2 s l) * (sel4 g v21 v25 v29 v33) (ix2 s l) + imOf acc g (ix2 s l) * (sel4 g v5 v9 v13 v17) (ix2 s l)) * (sel4 g v5 v9 v13 v17) (ix2 s l) := by
  have hk : k.val < 256 := k.isLt
  unfold trip_k0_t3; dsimp only; sl_unfold_words
  obtain rfl | rfl | rfl | rfl : g = 0 ∨ g = 1 ∨ g = 2 ∨ g = 3 := by omega
  · exact pow0_im v5 v21 acc.1 acc.2.1 s l
  · exact pow1_im v9 v25 acc.2.2.1 acc.2.2.2.1 s l
  · exact pow2_im v13 v29 acc.2.2.2.2.1 acc.2.2.2.2.2.1 s l
  · exact pow3_im v17 v33 acc.2.2.2.2.2.2.1 acc.2.2.2.2.2.2.2 s l

theorem t3_wim (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v1 : IVec S8x128 32) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v33 : FVec Ideal S8x128 .f32) (v161 : FVec Ideal S8x128 .f32) (v166 : FVec Ideal S8x128 .f32) (v291 : FVec Ideal S8x128 .f32) (v296 : FVec Ideal S8x128 .f32) (v421 : FVec Ideal S8x128 .f32) (v426 : FVec Ideal S8x128 .f32) (v521 : FVec Ideal S8x128 .f32) (v522 : FVec Ideal S8x128 .f32) (v525 : FVec Ideal S8x128 .f32) (v528 : FVec Ideal S8x128 .f32) (v533 : FVec Ideal S8x128 .f32) (v535 : IVec S8x128 1) (c4_i32_109 : BitVec 32) (X_arg8 : BufTy.Contents (Elt Ideal) arg8.view.ty) (X_arg9 : BufTy.Contents (Elt Ideal) arg9.view.ty)  (k : Fin k0_t3_loop.trips) (acc : V8) (f : BufTy.Contents (Elt Ideal) arg7.view.ty)
    (g : Fin 4) (r : Fin 4096) (l : Fin 128) :
    arg7.view.read (Elt Ideal) (arg7.view.writes (Elt Ideal) f ((trip_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 k).2.2.1 acc)) (ix3 g r l)
      = if h : (255 - k.val) * 16 ≤ r.val ∧ r.val < (255 - k.val) * 16 + 16 then
          if h' : r.val - (255 - k.val) * 16 < 8 then
            arg9.view.read (Elt Ideal) X_arg9 (ix3 g r l) + (((reOf acc g) (ix2 ⟨r.val - (255 - k.val) * 16, h'⟩ l) * (sel4 g v5 v9 v13 v17) (ix2 ⟨r.val - (255 - k.val) * 16, h'⟩ l) - (imOf acc g) (ix2 ⟨r.val - (255 - k.val) * 16, h'⟩ l) * (sel4 g v21 v25 v29 v33) (ix2 ⟨r.val - (255 - k.val) * 16, h'⟩ l)) * (sel4 g v166 v296 v426 (k0_pay3 v1 v522 v525 v528 v533 v535 c4_i32_109)) (ix2 ⟨r.val - (255 - k.val) * 16, h'⟩ l) + ((reOf acc g) (ix2 ⟨r.val - (255 - k.val) * 16, h'⟩ l) * (sel4 g v21 v25 v29 v33) (ix2 ⟨r.val - (255 - k.val) * 16, h'⟩ l) + (imOf acc g) (ix2 ⟨r.val - (255 - k.val) * 16, h'⟩ l) * (sel4 g v5 v9 v13 v17) (ix2 ⟨r.val - (255 - k.val) * 16, h'⟩ l)) * (sel4 g v161 v291 v421 (k0_pay2 v1 v521 v522 v525 v528 v533 v535 c4_i32_109)) (ix2 ⟨r.val - (255 - k.val) * 16, h'⟩ l))
          else arg9.view.read (Elt Ideal) X_arg9 (ix3 g r l) + ((reOf acc g) (ix2 ⟨r.val - (255 - k.val) * 16 - 8, by omega⟩ l) * (sel4 g v166 v296 v426 (k0_pay3 v1 v522 v525 v528 v533 v535 c4_i32_109)) (ix2 ⟨r.val - (255 - k.val) * 16 - 8, by omega⟩ l) + (imOf acc g) (ix2 ⟨r.val - (255 - k.val) * 16 - 8, by omega⟩ l) * (sel4 g v161 v291 v421 (k0_pay2 v1 v521 v522 v525 v528 v533 v535 c4_i32_109)) (ix2 ⟨r.val - (255 - k.val) * 16 - 8, by omega⟩ l))
        else arg7.view.read (Elt Ideal) f (ix3 g r l) := by
  have hk : k.val < 256 := k.isLt
  unfold trip_k0_t3; dsimp only; sl_unfold_words
  refine (four_pieces arg7.view f 16 ((255 - k.val) * 16) _ _ _ _ _ _ _ _ (congrArg (fun z : ℕ => (![3, z, 0] : Fin 3 → ℕ)) (off_t3 ⟨k.val, hk⟩)) (congrArg (fun z : ℕ => (![2, z, 0] : Fin 3 → ℕ)) (off_t3 ⟨k.val, hk⟩)) (congrArg (fun z : ℕ => (![1, z, 0] : Fin 3 → ℕ)) (off_t3 ⟨k.val, hk⟩)) (congrArg (fun z : ℕ => (![0, z, 0] : Fin 3 → ℕ)) (off_t3 ⟨k.val, hk⟩)) _ _ _ _ g r l).trans ?_
  by_cases h : (255 - k.val) * 16 ≤ r.val ∧ r.val < (255 - k.val) * 16 + 16
  · rw [dif_pos h, dif_pos h]
    obtain rfl | rfl | rfl | rfl : g = 0 ∨ g = 1 ∨ g = 2 ∨ g = 3 := by omega
    · refine (fix0_im v5 v21 v161 v166 acc.1 acc.2.1 _ _ _ l).trans ?_
      by_cases h' : r.val - (255 - k.val) * 16 < 8
      · rw [dif_pos h', dif_pos h']
        refine congrArg (fun z : EReal => z + _) ((load_rows arg9.view X_arg9 8 ((255 - k.val) * 16) _ _ 0 (congrArg (fun z : ℕ => (![0, z, 0] : Fin 3 → ℕ)) (off_t3b ⟨k.val, hk⟩)) ⟨_, h'⟩ l (by dsimp only; omega)).trans ?_)
        exact congrArg (fun z => arg9.view.read (Elt Ideal) X_arg9 (ix3 0 z l)) (Fin.ext (by dsimp only; omega))
      · rw [dif_neg h', dif_neg h']
        refine congrArg (fun z : EReal => z + _) ((load_rows arg9.view X_arg9 8 (((255 - k.val) * 16) + 8) _ _ 0 (congrArg (fun z : ℕ => (![0, z, 0] : Fin 3 → ℕ)) (off_t3a ⟨k.val, hk⟩)) ⟨_, by omega⟩ l (by dsimp only; omega)).trans ?_)
        exact congrArg (fun z => arg9.view.read (Elt Ideal) X_arg9 (ix3 0 z l)) (Fin.ext (by dsimp only; omega))
    · refine (fix1_im v9 v25 v291 v296 acc.2.2.1 acc.2.2.2.1 _ _ _ l).trans ?_
      by_cases h' : r.val - (255 - k.val) * 16 < 8
      · rw [dif_pos h', dif_pos h']
        refine congrArg (fun z : EReal => z + _) ((load_rows arg9.view X_arg9 8 ((255 - k.val) * 16) _ _ 1 (congrArg (fun z : ℕ => (![1, z, 0] : Fin 3 → ℕ)) (off_t3b ⟨k.val, hk⟩)) ⟨_, h'⟩ l (by dsimp only; omega)).trans ?_)
        exact congrArg (fun z => arg9.view.read (Elt Ideal) X_arg9 (ix3 1 z l)) (Fin.ext (by dsimp only; omega))
      · rw [dif_neg h', dif_neg h']
        refine congrArg (fun z : EReal => z + _) ((load_rows arg9.view X_arg9 8 (((255 - k.val) * 16) + 8) _ _ 1 (congrArg (fun z : ℕ => (![1, z, 0] : Fin 3 → ℕ)) (off_t3a ⟨k.val, hk⟩)) ⟨_, by omega⟩ l (by dsimp only; omega)).trans ?_)
        exact congrArg (fun z => arg9.view.read (Elt Ideal) X_arg9 (ix3 1 z l)) (Fin.ext (by dsimp only; omega))
    · refine (fix2_im v13 v29 v421 v426 acc.2.2.2.2.1 acc.2.2.2.2.2.1 _ _ _ l).trans ?_
      by_cases h' : r.val - (255 - k.val) * 16 < 8
      · rw [dif_pos h', dif_pos h']
        refine congrArg (fun z : EReal => z + _) ((load_rows arg9.view X_arg9 8 ((255 - k.val) * 16) _ _ 2 (congrArg (fun z : ℕ => (![2, z, 0] : Fin 3 → ℕ)) (off_t3b ⟨k.val, hk⟩)) ⟨_, h'⟩ l (by dsimp only; omega)).trans ?_)
        exact congrArg (fun z => arg9.view.read (Elt Ideal) X_arg9 (ix3 2 z l)) (Fin.ext (by dsimp only; omega))
      · rw [dif_neg h', dif_neg h']
        refine congrArg (fun z : EReal => z + _) ((load_rows arg9.view X_arg9 8 (((255 - k.val) * 16) + 8) _ _ 2 (congrArg (fun z : ℕ => (![2, z, 0] : Fin 3 → ℕ)) (off_t3a ⟨k.val, hk⟩)) ⟨_, by omega⟩ l (by dsimp only; omega)).trans ?_)
        exact congrArg (fun z => arg9.view.read (Elt Ideal) X_arg9 (ix3 2 z l)) (Fin.ext (by dsimp only; omega))
    · refine (fix3_im v17 v33 (k0_pay2 v1 v521 v522 v525 v528 v533 v535 c4_i32_109) (k0_pay3 v1 v522 v525 v528 v533 v535 c4_i32_109) acc.2.2.2.2.2.2.1 acc.2.2.2.2.2.2.2 _ _ _ l).trans ?_
      by_cases h' : r.val - (255 - k.val) * 16 < 8
      · rw [dif_pos h', dif_pos h']
        refine congrArg (fun z : EReal => z + _) ((load_rows arg9.view X_arg9 8 ((255 - k.val) * 16) _ _ 3 (congrArg (fun z : ℕ => (![3, z, 0] : Fin 3 → ℕ)) (off_t3b ⟨k.val, hk⟩)) ⟨_, h'⟩ l (by dsimp only; omega)).trans ?_)
        exact congrArg (fun z => arg9.view.read (Elt Ideal) X_arg9 (ix3 3 z l)) (Fin.ext (by dsimp only; omega))
      · rw [dif_neg h', dif_neg h']
        refine congrArg (fun z : EReal => z + _) ((load_rows arg9.view X_arg9 8 (((255 - k.val) * 16) + 8) _ _ 3 (congrArg (fun z : ℕ => (![3, z, 0] : Fin 3 → ℕ)) (off_t3a ⟨k.val, hk⟩)) ⟨_, by omega⟩ l (by dsimp only; omega)).trans ?_)
        exact congrArg (fun z => arg9.view.read (Elt Ideal) X_arg9 (ix3 3 z l)) (Fin.ext (by dsimp only; omega))
  · rw [dif_neg h, dif_neg h]

end Cert.KernelIdeal.Scan

end
-- ==== Proof.KFixInv.lean ====
module

public import proofs.«01_k».proof.Proof.KLocalInv
public import proofs.«01_k».proof.Proof.KFix
public import Idealize.ShloMosaic.Lib.Pointwise

@[expose] public section

set_option maxRecDepth 16384

/- The third loop, read at one group and one lane: the registers hold the odd powers, the rows passed hold the corrected values. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

open Cert.Scan

/-- The corrected value of row `r`: the local value, and the entering state carried to it. -/
def vfix (a : ℂ) (U C : ℕ → ℂ) (r : ℕ) : ℂ :=
  S a (wloc U (r % 8)) (512 - r / 8) + a ^ (512 - r / 8) * C (r % 8)

theorem pow_re (p a : ℂ) : ((p * a * a).re : EReal)
    = ((p.re : EReal) * a.re - p.im * a.im) * a.re - ((p.re : EReal) * a.im + p.im * a.re) * a.im := by
  simp only [Complex.mul_re, Complex.mul_im, EReal.coe_sub, EReal.coe_add, EReal.coe_mul]

theorem pow_im (p a : ℂ) : ((p * a * a).im : EReal)
    = ((p.re : EReal) * a.re - p.im * a.im) * a.im + ((p.re : EReal) * a.im + p.im * a.re) * a.re := by
  simp only [Complex.mul_re, Complex.mul_im, EReal.coe_sub, EReal.coe_add, EReal.coe_mul]

theorem fix_inv (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (v1 : IVec S8x128 32) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v33 : FVec Ideal S8x128 .f32) (v161 : FVec Ideal S8x128 .f32) (v166 : FVec Ideal S8x128 .f32) (v291 : FVec Ideal S8x128 .f32) (v296 : FVec Ideal S8x128 .f32) (v421 : FVec Ideal S8x128 .f32) (v426 : FVec Ideal S8x128 .f32) (v521 : FVec Ideal S8x128 .f32) (v522 : FVec Ideal S8x128 .f32) (v525 : FVec Ideal S8x128 .f32) (v528 : FVec Ideal S8x128 .f32) (v533 : FVec Ideal S8x128 .f32) (v535 : IVec S8x128 1) (c4_i32_109 : BitVec 32) (X_arg8 : BufTy.Contents (Elt Ideal) arg8.view.ty) (X_arg9 : BufTy.Contents (Elt Ideal) arg9.view.ty)  (init : V8)
    (f6 : BufTy.Contents (Elt Ideal) arg6.view.ty) (f7 : BufTy.Contents (Elt Ideal) arg7.view.ty)
    (g : Fin 4) (l : Fin 128) (a : ℂ) (U C : ℕ → ℂ)
    (har : ∀ s, (sel4 g v5 v9 v13 v17) (ix2 s l) = (a.re : EReal))
    (hai : ∀ s, (sel4 g v21 v25 v29 v33) (ix2 s l) = (a.im : EReal))
    (hcr : ∀ s : Fin 8, (sel4 g v161 v291 v421 (k0_pay2 v1 v521 v522 v525 v528 v533 v535 c4_i32_109)) (ix2 s l) = ((C s).re : EReal))
    (hci : ∀ s : Fin 8, (sel4 g v166 v296 v426 (k0_pay3 v1 v522 v525 v528 v533 v535 c4_i32_109)) (ix2 s l) = ((C s).im : EReal))
    (h8 : ∀ r : Fin 4096, arg8.view.read (Elt Ideal) X_arg8 (ix3 g r l) = ((S a (wloc U (r.val % 8)) (512 - r.val / 8)).re : EReal))
    (h9 : ∀ r : Fin 4096, arg9.view.read (Elt Ideal) X_arg9 (ix3 g r l) = ((S a (wloc U (r.val % 8)) (512 - r.val / 8)).im : EReal))
    (hr0 : ∀ s, reOf init g (ix2 s l) = (a.re : EReal)) (hi0 : ∀ s, imOf init g (ix2 s l) = (a.im : EReal)) (k : ℕ) (hk : k ≤ 256) :
    (∀ s : Fin 8, reOf (st_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 init k).1 g (ix2 s l) = ((a ^ (2 * k + 1)).re : EReal)) ∧
    (∀ s : Fin 8, imOf (st_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 init k).1 g (ix2 s l) = ((a ^ (2 * k + 1)).im : EReal)) ∧
    (∀ r : Fin 4096, 256 - k ≤ r.val / 16 → arg6.view.read (Elt Ideal) (arg6.view.writes (Elt Ideal) f6 (st_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 init k).2.1) (ix3 g r l)
      = ((vfix a U C r).re : EReal)) ∧
    (∀ r : Fin 4096, 256 - k ≤ r.val / 16 → arg7.view.read (Elt Ideal) (arg7.view.writes (Elt Ideal) f7 (st_k0_t3 (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 init k).2.2) (ix3 g r l)
      = ((vfix a U C r).im : EReal)) := by
  induction k with
  | zero =>
    refine ⟨fun s => ?_, fun s => ?_, fun r hr => ?_, fun r hr => ?_⟩
    · exact (hr0 s).trans (by simp)
    · exact (hi0 s).trans (by simp)
    · omega
    · omega
  | succ k ih =>
    have hk' : k < 256 := hk
    obtain ⟨i1, i2, i3, i4⟩ := ih (by omega)
    have e := st_k0_t3_succ (F := Ideal) 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 init ⟨k, hk'⟩
    dsimp only at e
    have ep : a ^ (2 * (k + 1) + 1) = a ^ (2 * k + 1) * a * a := by ring
    refine ⟨fun s => ?_, fun s => ?_, fun r hr => ?_, fun r hr => ?_⟩
    · rw [e]
      refine (t3_re 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 ⟨k, hk'⟩ _ g s l).trans ?_
      rw [i1, i2, har, hai, ep, pow_re]
    · rw [e]
      refine (t3_im 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 ⟨k, hk'⟩ _ g s l).trans ?_
      rw [i1, i2, har, hai, ep, pow_im]
    · rw [e, View.writes_append]
      refine (t3_wre 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 ⟨k, hk'⟩ _ _ g r l).trans ?_
      by_cases h : (255 - k) * 16 ≤ r.val ∧ r.val < (255 - k) * 16 + 16
      · rw [dif_pos h]
        by_cases h' : r.val - (255 - k) * 16 < 8
        · have er : r.val - (255 - k) * 16 = r.val % 8 := by omega
          have en : 512 - r.val / 8 = 2 * k + 1 + 1 := by omega
          rw [dif_pos h', h8, har, hai, hcr, hci, i1, i2]
          unfold vfix
          rw [en, pow_succ a (2 * k + 1)]
          dsimp only
          rw [er]
          simp only [Complex.add_re, Complex.mul_re, Complex.mul_im, EReal.coe_add, EReal.coe_sub, EReal.coe_mul]
        · have er : r.val - (255 - k) * 16 - 8 = r.val % 8 := by omega
          have en : 512 - r.val / 8 = 2 * k + 1 := by omega
          rw [dif_neg h', h8, hcr, hci, i1, i2]
          unfold vfix
          rw [en]
          dsimp only
          rw [er]
          simp only [Complex.add_re, Complex.mul_re, Complex.mul_im, EReal.coe_add, EReal.coe_sub, EReal.coe_mul]
      · rw [dif_neg h]
        exact i3 r (by omega)
    · rw [e, View.writes_append]
      refine (t3_wim 𝒱 c bd i arg1 harg1 arg2 harg2 arg3 harg3 arg4 harg4 arg5 harg5 arg6 harg6 arg7 harg7 arg8 harg8 arg9 harg9 v1 v5 v9 v13 v17 v21 v25 v29 v33 v161 v166 v291 v296 v421 v426 v521 v522 v525 v528 v533 v535 c4_i32_109 X_arg8 X_arg9 ⟨k, hk'⟩ _ _ g r l).trans ?_
      by_cases h : (255 - k) * 16 ≤ r.val ∧ r.val < (255 - k) * 16 + 16
      · rw [dif_pos h]
        by_cases h' : r.val - (255 - k) * 16 < 8
        · have er : r.val - (255 - k) * 16 = r.val % 8 := by omega
          have en : 512 - r.val / 8 = 2 * k + 1 + 1 := by omega
          rw [dif_pos h', h9, har, hai, hcr, hci, i1, i2]
          unfold vfix
          rw [en, pow_succ a (2 * k + 1)]
          dsimp only
          rw [er]
          simp only [Complex.add_im, Complex.mul_re, Complex.mul_im, EReal.coe_add, EReal.coe_sub, EReal.coe_mul]
        · have er : r.val - (255 - k) * 16 - 8 = r.val % 8 := by omega
          have en : 512 - r.val / 8 = 2 * k + 1 := by omega
          rw [dif_neg h', h9, hcr, hci, i1, i2]
          unfold vfix
          rw [en]
          dsimp only
          rw [er]
          simp only [Complex.add_im, Complex.mul_re, Complex.mul_im, EReal.coe_add, EReal.coe_sub, EReal.coe_mul]
      · rw [dif_neg h]
        exact i4 r (by omega)

end Cert.KernelIdeal.Scan

end
-- ==== Proof.KCarry.lean ====
module

public import proofs.«01_k».proof.Proof.KFixInv
public import Mathlib.Tactic.FinCases
public import Idealize.ShloMosaic.Lib.Pointwise
public import Idealize.ShloMosaic.Lib.Pointwise

@[expose] public section

set_option maxRecDepth 16384

/- The combination of the eight chunks' last values, read at one lane: powers by squaring, three doubling steps, and the
   shift by one chunk. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

open Cert.Scan

/-- The chunk number of each entry of a register. -/
abbrev vio : IVec S8x128 32 := iota .tc S8x128 32 [0] iota_S8x128_d0_w32

/-- A pair of registers holds one complex number in every chunk of lane `l`. -/
def Rp (l : Fin 128) (p q : VV) (z : ℂ) : Prop := ∀ s : Fin 8, p (ix2 s l) = (z.re : EReal) ∧ q (ix2 s l) = (z.im : EReal)

/-- A pair of registers holds, in chunk `s` of lane `l`, the value `f` has at the chunk counted from the last. -/
def Rx (l : Fin 128) (x y : VV) (f : ℕ → ℂ) : Prop :=
  ∀ s : Fin 8, x (ix2 s l) = ((f (7 - s.val)).re : EReal) ∧ y (ix2 s l) = ((f (7 - s.val)).im : EReal)

/-- The shift of a register by some chunks, zeros coming in. -/
def shv (m : BitVec 32) (x : VV) : VV :=
  select (cmpi .slt vio (broadcast S8x128 m)) (dynamicRotate 0 m none x rotates_S8x128_d0) (broadcast S8x128 (Scalar.ofBits .f32 0x00000000#32))

theorem shv_1 (x : VV) (s : Fin 8) (l : Fin 128) :
    shv 7#32 x (ix2 s l) = if h : s.val + 1 < 8 then x (ix2 ⟨s.val + 1, h⟩ l) else 0 := by
  pointwise! [shv]
  fin_cases s <;> rfl

theorem shv_2 (x : VV) (s : Fin 8) (l : Fin 128) :
    shv 6#32 x (ix2 s l) = if h : s.val + 2 < 8 then x (ix2 ⟨s.val + 2, h⟩ l) else 0 := by
  pointwise! [shv]
  fin_cases s <;> rfl

theorem shv_4 (x : VV) (s : Fin 8) (l : Fin 128) :
    shv 4#32 x (ix2 s l) = if h : s.val + 4 < 8 then x (ix2 ⟨s.val + 4, h⟩ l) else 0 := by
  pointwise! [shv]
  fin_cases s <;> rfl

theorem sq_rep {l : Fin 128} {p q : VV} {z : ℂ} (h : Rp l p q z) :
    Rp l (subf (mulf p p) (mulf q q)) (addf (mulf p q) (mulf q p)) (z * z) := by
  intro s
  obtain ⟨h1, h2⟩ := h s
  constructor
  · show p (ix2 s l) * p (ix2 s l) - q (ix2 s l) * q (ix2 s l) = _
    rw [h1, h2]
    simp only [Complex.mul_re, EReal.coe_sub, EReal.coe_mul]
  · show p (ix2 s l) * q (ix2 s l) + q (ix2 s l) * p (ix2 s l) = _
    rw [h1, h2]
    simp only [Complex.mul_im, EReal.coe_add, EReal.coe_mul]

/-- The doubling step and the shift, given what the shift by `k` chunks reads. -/
theorem sh_rep {l : Fin 128} {x y : VV} {f : ℕ → ℂ} (m : BitVec 32) (k : ℕ)
    (hs : ∀ (x : VV) (s : Fin 8), shv m x (ix2 s l) = if h : s.val + k < 8 then x (ix2 ⟨s.val + k, h⟩ l) else 0)
    (h : Rx l x y f) : Rx l (shv m x) (shv m y) (fun c => if k ≤ c then f (c - k) else 0) := by
  intro s
  rw [hs, hs]
  by_cases hk : s.val + k < 8
  · have e : 7 - (s.val + k) = 7 - s.val - k := by omega
    have := h ⟨s.val + k, hk⟩
    dsimp only at this ⊢
    rw [dif_pos hk, dif_pos hk, if_pos (by omega), ← e]
    exact this
  · dsimp only
    rw [dif_neg hk, dif_neg hk, if_neg (by omega)]
    exact ⟨rfl, rfl⟩

theorem st_rep {l : Fin 128} {p q x y x' y' : VV} {z : ℂ} {f f' : ℕ → ℂ} (hp : Rp l p q z) (h : Rx l x y f) (h' : Rx l x' y' f') :
    Rx l (addf x (subf (mulf p x') (mulf q y'))) (addf y (addf (mulf p y') (mulf q x'))) (fun c => f c + z * f' c) := by
  intro s
  obtain ⟨p1, p2⟩ := hp s
  obtain ⟨h1, h2⟩ := h s
  obtain ⟨k1, k2⟩ := h' s
  constructor
  · show x (ix2 s l) + (p (ix2 s l) * x' (ix2 s l) - q (ix2 s l) * y' (ix2 s l)) = _
    rw [p1, p2, h1, k1, k2]
    simp only [Complex.add_re, Complex.mul_re, EReal.coe_add, EReal.coe_sub, EReal.coe_mul]
  · show y (ix2 s l) + (p (ix2 s l) * y' (ix2 s l) + q (ix2 s l) * x' (ix2 s l)) = _
    rw [p1, p2, h2, k1, k2]
    simp only [Complex.add_im, Complex.mul_im, EReal.coe_add, EReal.coe_mul]

theorem st1_rep {l : Fin 128} {p q x y : VV} {z : ℂ} {f : ℕ → ℂ} (hp : Rp l p q z) (h : Rx l x y f) :
    Rx l (addf x (subf (mulf p (shv 7#32 x)) (mulf q (shv 7#32 y)))) (addf y (addf (mulf p (shv 7#32 y)) (mulf q (shv 7#32 x)))) (dbl 1 z f) :=
  st_rep hp h (sh_rep 7#32 1 (fun x s => shv_1 x s l) h)

theorem st2_rep {l : Fin 128} {p q x y : VV} {z : ℂ} {f : ℕ → ℂ} (hp : Rp l p q z) (h : Rx l x y f) :
    Rx l (addf x (subf (mulf p (shv 6#32 x)) (mulf q (shv 6#32 y)))) (addf y (addf (mulf p (shv 6#32 y)) (mulf q (shv 6#32 x)))) (dbl 2 z f) :=
  st_rep hp h (sh_rep 6#32 2 (fun x s => shv_2 x s l) h)

theorem st4_rep {l : Fin 128} {p q x y : VV} {z : ℂ} {f : ℕ → ℂ} (hp : Rp l p q z) (h : Rx l x y f) :
    Rx l (addf x (subf (mulf p (shv 4#32 x)) (mulf q (shv 4#32 y)))) (addf y (addf (mulf p (shv 4#32 y)) (mulf q (shv 4#32 x)))) (dbl 4 z f) :=
  st_rep hp h (sh_rep 4#32 4 (fun x s => shv_4 x s l) h)

theorem fin_rep {l : Fin 128} {x y : VV} {f : ℕ → ℂ} (h : Rx l x y f) :
    Rx l (shv 7#32 x) (shv 7#32 y) (fun c => if 1 ≤ c then f (c - 1) else 0) :=
  sh_rep 7#32 1 (fun x s => shv_1 x s l) h

/-- Repeated squaring. -/
def pw (a : ℂ) : ℕ → ℂ
  | 0 => a
  | n + 1 => pw a n * pw a n

theorem pw_eq (a : ℂ) (n : ℕ) : pw a n = a ^ 2 ^ n := by
  induction n with
  | zero => simp [pw]
  | succ n ih => rw [pw, ih, ← pow_add]; congr 1; rw [Nat.pow_succ]; omega

/-- The state that enters each chunk, from the chunks' last values. -/
def carryOf (a : ℂ) (f : ℕ → ℂ) (c : ℕ) : ℂ :=
  if 1 ≤ c then dbl 4 (pw a 11) (dbl 2 (pw a 10) (dbl 1 (pw a 9) f)) (c - 1) else 0

theorem carry0 (l : Fin 128) (v5 v21 v36_0 v36_1 : VV) (a : ℂ) (f : ℕ → ℂ) (ha : Rp l v5 v21 a) (hx : Rx l v36_0 v36_1 f) :
    Rx l (k0_pay122 vio (k0_pay112 (k0_pay104 v5 v21) (k0_pay105 v5 v21)) (k0_pay113 (k0_pay104 v5 v21) (k0_pay105 v5 v21)) (k0_pay116 vio v36_0 v36_1 (k0_pay104 v5 v21) (k0_pay105 v5 v21)) (k0_pay117 vio v36_0 v36_1 (k0_pay104 v5 v21) (k0_pay105 v5 v21)))
      (k0_pay123 vio (k0_pay112 (k0_pay104 v5 v21) (k0_pay105 v5 v21)) (k0_pay113 (k0_pay104 v5 v21) (k0_pay105 v5 v21)) (k0_pay116 vio v36_0 v36_1 (k0_pay104 v5 v21) (k0_pay105 v5 v21)) (k0_pay117 vio v36_0 v36_1 (k0_pay104 v5 v21) (k0_pay105 v5 v21))) (carryOf a f) := by
  have q0 : Rp l v5 v21 (pw a 0) := ha
  have q1 : Rp l (k0_pay90 v5 v21) (k0_pay91 v5 v21) (pw a 1) := sq_rep q0
  have q2 : Rp l (k0_pay92 v5 v21) (k0_pay93 v5 v21) (pw a 2) := sq_rep q1
  have q3 : Rp l (k0_pay94 v5 v21) (k0_pay95 v5 v21) (pw a 3) := sq_rep q2
  have q4 : Rp l (k0_pay96 v5 v21) (k0_pay97 v5 v21) (pw a 4) := sq_rep q3
  have q5 : Rp l (k0_pay98 v5 v21) (k0_pay99 v5 v21) (pw a 5) := sq_rep q4
  have q6 : Rp l (k0_pay100 v5 v21) (k0_pay101 v5 v21) (pw a 6) := sq_rep q5
  have q7 : Rp l (k0_pay102 v5 v21) (k0_pay103 v5 v21) (pw a 7) := sq_rep q6
  have q8 : Rp l (k0_pay104 v5 v21) (k0_pay105 v5 v21) (pw a 8) := sq_rep q7
  have q9 : Rp l (k0_pay106 (k0_pay104 v5 v21) (k0_pay105 v5 v21)) (k0_pay107 (k0_pay104 v5 v21) (k0_pay105 v5 v21)) (pw a 9) := sq_rep q8
  have q10 : Rp l (k0_pay112 (k0_pay104 v5 v21) (k0_pay105 v5 v21)) (k0_pay113 (k0_pay104 v5 v21) (k0_pay105 v5 v21)) (pw a 10) := sq_rep q9
  have q11 : Rp l (k0_pay118 (k0_pay112 (k0_pay104 v5 v21) (k0_pay105 v5 v21)) (k0_pay113 (k0_pay104 v5 v21) (k0_pay105 v5 v21))) (k0_pay119 (k0_pay112 (k0_pay104 v5 v21) (k0_pay105 v5 v21)) (k0_pay113 (k0_pay104 v5 v21) (k0_pay105 v5 v21))) (pw a 11) := sq_rep q10
  have x1 : Rx l (k0_pay110 vio v36_0 v36_1 (k0_pay104 v5 v21) (k0_pay105 v5 v21)) (k0_pay111 vio v36_0 v36_1 (k0_pay104 v5 v21) (k0_pay105 v5 v21)) (dbl 1 (pw a 9) f) := st1_rep q9 hx
  have x2 : Rx l (k0_pay116 vio v36_0 v36_1 (k0_pay104 v5 v21) (k0_pay105 v5 v21)) (k0_pay117 vio v36_0 v36_1 (k0_pay104 v5 v21) (k0_pay105 v5 v21)) (dbl 2 (pw a 10) (dbl 1 (pw a 9) f)) := st2_rep q10 x1
  exact fin_rep (st4_rep q11 x2)

theorem carry1 (l : Fin 128) (v9 v25 v36_2 v36_3 : VV) (a : ℂ) (f : ℕ → ℂ) (ha : Rp l v9 v25 a) (hx : Rx l v36_2 v36_3 f) :
    Rx l (k0_pay162 vio (k0_pay154 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay160 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))))
      (k0_pay163 vio (k0_pay155 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay157 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (k0_pay158 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay161 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25)))) (carryOf a f) := by
  have q0 : Rp l v9 v25 (pw a 0) := ha
  have q1 : Rp l (k0_pay124 v9 v25) (k0_pay125 v9 v25) (pw a 1) := sq_rep q0
  have q2 : Rp l (k0_pay126 v9 v25) (k0_pay127 v9 v25) (pw a 2) := sq_rep q1
  have q3 : Rp l (k0_pay130 (k0_pay128 v9 v25) (k0_pay129 v9 v25)) (k0_pay131 (k0_pay126 v9 v25) (k0_pay127 v9 v25)) (pw a 3) := sq_rep q2
  have q4 : Rp l (k0_pay132 (k0_pay126 v9 v25) (k0_pay127 v9 v25) (k0_pay128 v9 v25) (k0_pay129 v9 v25)) (k0_pay133 (k0_pay126 v9 v25) (k0_pay127 v9 v25) (k0_pay128 v9 v25) (k0_pay129 v9 v25)) (pw a 4) := sq_rep q3
  have q5 : Rp l (k0_pay134 (k0_pay126 v9 v25) (k0_pay127 v9 v25) (k0_pay128 v9 v25) (k0_pay129 v9 v25)) (k0_pay135 (k0_pay126 v9 v25) (k0_pay127 v9 v25) (k0_pay128 v9 v25) (k0_pay129 v9 v25)) (pw a 5) := sq_rep q4
  have q6 : Rp l (k0_pay136 (k0_pay126 v9 v25) (k0_pay127 v9 v25) (k0_pay128 v9 v25) (k0_pay129 v9 v25)) (k0_pay137 (k0_pay126 v9 v25) (k0_pay127 v9 v25) (k0_pay128 v9 v25) (k0_pay129 v9 v25)) (pw a 6) := sq_rep q5
  have q7 : Rp l (k0_pay138 (k0_pay126 v9 v25) (k0_pay127 v9 v25) (k0_pay128 v9 v25) (k0_pay129 v9 v25)) (k0_pay139 (k0_pay126 v9 v25) (k0_pay127 v9 v25) (k0_pay128 v9 v25) (k0_pay129 v9 v25)) (pw a 7) := sq_rep q6
  have q8 : Rp l (k0_pay140 (k0_pay126 v9 v25) (k0_pay127 v9 v25) (k0_pay128 v9 v25) (k0_pay129 v9 v25)) (k0_pay141 (k0_pay126 v9 v25) (k0_pay127 v9 v25) (k0_pay128 v9 v25) (k0_pay129 v9 v25)) (pw a 8) := sq_rep q7
  have q9 : Rp l (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (pw a 9) := sq_rep q8
  have q10 : Rp l (k0_pay150 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (k0_pay151 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (pw a 10) := sq_rep q9
  have q11 : Rp l (k0_pay156 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (k0_pay157 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (pw a 11) := sq_rep q10
  have x1 : Rx l (k0_pay148 v36_2 (k0_pay146 vio v36_2 v36_3 (k0_pay126 v9 v25) (k0_pay127 v9 v25) (k0_pay128 v9 v25) (k0_pay129 v9 v25))) (k0_pay149 v36_3 (k0_pay143 (k0_pay126 v9 v25) (k0_pay127 v9 v25) (k0_pay128 v9 v25) (k0_pay129 v9 v25)) (k0_pay144 vio v36_2) (k0_pay147 vio v36_3 (k0_pay126 v9 v25) (k0_pay127 v9 v25) (k0_pay128 v9 v25) (k0_pay129 v9 v25))) (dbl 1 (pw a 9) f) := st1_rep q9 hx
  have x2 : Rx l (k0_pay154 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay155 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (dbl 2 (pw a 10) (dbl 1 (pw a 9) f)) := st2_rep q10 x1
  exact fin_rep (st4_rep q11 x2)

theorem carry2 (l : Fin 128) (v13 v29 v36_4 v36_5 : VV) (a : ℂ) (f : ℕ → ℂ) (ha : Rp l v13 v29 a) (hx : Rx l v36_4 v36_5 f) :
    Rx l (k0_pay197 vio (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29)))
      (k0_pay198 vio (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (carryOf a f) := by
  have q0 : Rp l v13 v29 (pw a 0) := ha
  have q1 : Rp l (k0_pay164 v13 v29) (k0_pay165 v13 v29) (pw a 1) := sq_rep q0
  have q2 : Rp l (k0_pay166 v13 v29) (k0_pay167 v13 v29) (pw a 2) := sq_rep q1
  have q3 : Rp l (k0_pay168 v13 v29) (k0_pay169 v13 v29) (pw a 3) := sq_rep q2
  have q4 : Rp l (k0_pay170 v13 v29) (k0_pay171 v13 v29) (pw a 4) := sq_rep q3
  have q5 : Rp l (k0_pay172 v13 v29) (k0_pay173 v13 v29) (pw a 5) := sq_rep q4
  have q6 : Rp l (k0_pay174 v13 v29) (k0_pay175 v13 v29) (pw a 6) := sq_rep q5
  have q7 : Rp l (k0_pay176 v13 v29) (k0_pay178 (k0_pay174 v13 v29) (k0_pay175 v13 v29) (k0_pay177 v13 v29)) (pw a 7) := sq_rep q6
  have q8 : Rp l (k0_pay179 (k0_pay174 v13 v29) (k0_pay175 v13 v29) (k0_pay176 v13 v29) (k0_pay177 v13 v29)) (k0_pay180 (k0_pay174 v13 v29) (k0_pay175 v13 v29) (k0_pay176 v13 v29) (k0_pay177 v13 v29)) (pw a 8) := sq_rep q7
  have q9 : Rp l (k0_pay181 (k0_pay174 v13 v29) (k0_pay175 v13 v29) (k0_pay176 v13 v29) (k0_pay177 v13 v29)) (k0_pay182 (k0_pay174 v13 v29) (k0_pay175 v13 v29) (k0_pay176 v13 v29) (k0_pay177 v13 v29)) (pw a 9) := sq_rep q8
  have q10 : Rp l (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (pw a 10) := sq_rep q9
  have q11 : Rp l (k0_pay193 (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29))) (k0_pay194 (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29))) (pw a 11) := sq_rep q10
  have x1 : Rx l (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (dbl 1 (pw a 9) f) := st1_rep q9 hx
  have x2 : Rx l (k0_pay191 (k0_pay185 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (k0_pay192 (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (dbl 2 (pw a 10) (dbl 1 (pw a 9) f)) := st2_rep q10 x1
  exact fin_rep (st4_rep q11 x2)

theorem carry3 (l : Fin 128) (v17 v33 v36_6 v36_7 : VV) (a : ℂ) (f : ℕ → ℂ) (ha : Rp l v17 v33 a) (hx : Rx l v36_6 v36_7 f) :
    Rx l (k0_pay2 vio (k0_pay226 vio v36_6 v36_7 (k0_pay215 (k0_pay199 v17 v33) (k0_pay200 v17 v33)) (k0_pay216 (k0_pay199 v17 v33) (k0_pay200 v17 v33)) (k0_pay217 vio v36_6) (k0_pay218 vio) 7#32) (k0_pay227 vio v36_6 v36_7 (k0_pay215 (k0_pay199 v17 v33) (k0_pay200 v17 v33)) (k0_pay216 (k0_pay199 v17 v33) (k0_pay200 v17 v33)) (k0_pay217 vio v36_6) (k0_pay218 vio) 7#32) (k0_pay228 (k0_pay215 (k0_pay199 v17 v33) (k0_pay200 v17 v33)) (k0_pay216 (k0_pay199 v17 v33) (k0_pay200 v17 v33))) (k0_pay229 (k0_pay215 (k0_pay199 v17 v33) (k0_pay200 v17 v33)) (k0_pay216 (k0_pay199 v17 v33) (k0_pay200 v17 v33))) (k0_pay230 vio v36_6 v36_7 (k0_pay215 (k0_pay199 v17 v33) (k0_pay200 v17 v33)) (k0_pay216 (k0_pay199 v17 v33) (k0_pay200 v17 v33)) (k0_pay217 vio v36_6) (k0_pay218 vio) 7#32) (k0_pay231 vio) 4#32)
      (k0_pay3 vio (k0_pay227 vio v36_6 v36_7 (k0_pay215 (k0_pay199 v17 v33) (k0_pay200 v17 v33)) (k0_pay216 (k0_pay199 v17 v33) (k0_pay200 v17 v33)) (k0_pay217 vio v36_6) (k0_pay218 vio) 7#32) (k0_pay228 (k0_pay215 (k0_pay199 v17 v33) (k0_pay200 v17 v33)) (k0_pay216 (k0_pay199 v17 v33) (k0_pay200 v17 v33))) (k0_pay229 (k0_pay215 (k0_pay199 v17 v33) (k0_pay200 v17 v33)) (k0_pay216 (k0_pay199 v17 v33) (k0_pay200 v17 v33))) (k0_pay230 vio v36_6 v36_7 (k0_pay215 (k0_pay199 v17 v33) (k0_pay200 v17 v33)) (k0_pay216 (k0_pay199 v17 v33) (k0_pay200 v17 v33)) (k0_pay217 vio v36_6) (k0_pay218 vio) 7#32) (k0_pay231 vio) 4#32) (carryOf a f) := by
  have q0 : Rp l v17 v33 (pw a 0) := ha
  have q1 : Rp l (k0_pay199 v17 v33) (k0_pay200 v17 v33) (pw a 1) := sq_rep q0
  have q2 : Rp l (k0_pay201 (k0_pay199 v17 v33) (k0_pay200 v17 v33)) (k0_pay202 (k0_pay199 v17 v33) (k0_pay200 v17 v33)) (pw a 2) := sq_rep q1
  have q3 : Rp l (k0_pay203 (k0_pay199 v17 v33) (k0_pay200 v17 v33)) (k0_pay204 (k0_pay199 v17 v33) (k0_pay200 v17 v33)) (pw a 3) := sq_rep q2
  have q4 : Rp l (k0_pay205 (k0_pay199 v17 v33) (k0_pay200 v17 v33)) (k0_pay206 (k0_pay199 v17 v33) (k0_pay200 v17 v33)) (pw a 4) := sq_rep q3
  have q5 : Rp l (k0_pay207 (k0_pay199 v17 v33) (k0_pay200 v17 v33)) (k0_pay208 (k0_pay199 v17 v33) (k0_pay200 v17 v33)) (pw a 5) := sq_rep q4
  have q6 : Rp l (k0_pay209 (k0_pay199 v17 v33) (k0_pay200 v17 v33)) (k0_pay210 (k0_pay199 v17 v33) (k0_pay200 v17 v33)) (pw a 6) := sq_rep q5
  have q7 : Rp l (k0_pay211 (k0_pay199 v17 v33) (k0_pay200 v17 v33)) (k0_pay212 (k0_pay199 v17 v33) (k0_pay200 v17 v33)) (pw a 7) := sq_rep q6
  have q8 : Rp l (k0_pay213 (k0_pay199 v17 v33) (k0_pay200 v17 v33)) (k0_pay214 (k0_pay199 v17 v33) (k0_pay200 v17 v33)) (pw a 8) := sq_rep q7
  have q9 : Rp l (k0_pay215 (k0_pay199 v17 v33) (k0_pay200 v17 v33)) (k0_pay216 (k0_pay199 v17 v33) (k0_pay200 v17 v33)) (pw a 9) := sq_rep q8
  have q10 : Rp l (k0_pay222 (k0_pay215 (k0_pay199 v17 v33) (k0_pay200 v17 v33)) (k0_pay216 (k0_pay199 v17 v33) (k0_pay200 v17 v33))) (k0_pay223 (k0_pay215 (k0_pay199 v17 v33) (k0_pay200 v17 v33)) (k0_pay216 (k0_pay199 v17 v33) (k0_pay200 v17 v33))) (pw a 10) := sq_rep q9
  have q11 : Rp l (k0_pay228 (k0_pay215 (k0_pay199 v17 v33) (k0_pay200 v17 v33)) (k0_pay216 (k0_pay199 v17 v33) (k0_pay200 v17 v33))) (k0_pay229 (k0_pay215 (k0_pay199 v17 v33) (k0_pay200 v17 v33)) (k0_pay216 (k0_pay199 v17 v33) (k0_pay200 v17 v33))) (pw a 11) := sq_rep q10
  have x1 : Rx l (k0_pay220 v36_6 v36_7 (k0_pay215 (k0_pay199 v17 v33) (k0_pay200 v17 v33)) (k0_pay216 (k0_pay199 v17 v33) (k0_pay200 v17 v33)) (k0_pay217 vio v36_6) (k0_pay218 vio) 7#32) (k0_pay221 v36_7 (k0_pay215 (k0_pay199 v17 v33) (k0_pay200 v17 v33)) (k0_pay216 (k0_pay199 v17 v33) (k0_pay200 v17 v33)) (k0_pay217 vio v36_6) (k0_pay218 vio) 7#32) (dbl 1 (pw a 9) f) := st1_rep q9 hx
  have x2 : Rx l (k0_pay226 vio v36_6 v36_7 (k0_pay215 (k0_pay199 v17 v33) (k0_pay200 v17 v33)) (k0_pay216 (k0_pay199 v17 v33) (k0_pay200 v17 v33)) (k0_pay217 vio v36_6) (k0_pay218 vio) 7#32) (k0_pay227 vio v36_6 v36_7 (k0_pay215 (k0_pay199 v17 v33) (k0_pay200 v17 v33)) (k0_pay216 (k0_pay199 v17 v33) (k0_pay200 v17 v33)) (k0_pay217 vio v36_6) (k0_pay218 vio) 7#32) (dbl 2 (pw a 10) (dbl 1 (pw a 9) f)) := st2_rep q10 x1
  exact fin_rep (st4_rep q11 x2)

theorem dbl_congr {f g : ℕ → ℂ} (k : ℕ) (q : ℂ) (h : ∀ c, c < 8 → f c = g c) : ∀ c, c < 8 → dbl k q f c = dbl k q g c := by
  intro c hc
  unfold dbl
  rw [h c hc]
  split
  · rw [h _ (by omega)]
  · rfl

/-- The state that enters chunk `c`, counted from the last, when `f` holds the chunks' own last values. -/
theorem carryOf_eq (a : ℂ) (w : ℕ → ℂ) (f : ℕ → ℂ) (hf : ∀ c, c < 8 → f c = F a w c) (c : ℕ) (hc : c < 8) :
    carryOf a f c = S a w (512 * c) := by
  unfold carryOf
  match c with
  | 0 => rfl
  | c + 1 =>
    rw [if_pos (by omega), Nat.add_sub_cancel, ← S_dbl a w c (by omega)]
    have e9 : pw a 9 = a ^ 512 := by rw [pw_eq]; norm_num
    have e10 : pw a 10 = (a ^ 512) ^ 2 := by rw [pw_eq, ← pow_mul]; norm_num
    have e11 : pw a 11 = (a ^ 512) ^ 4 := by rw [pw_eq, ← pow_mul]; norm_num
    rw [e9, e10, e11]
    exact dbl_congr _ _ (dbl_congr _ _ (dbl_congr _ _ hf)) c (by omega)

end Cert.KernelIdeal.Scan

end
-- ==== Proof.KProj.lean ====
module

public import proofs.«01_k».proof.Proof.KPieces
public import Idealize.ShloMosaic.Lib.Pointwise

@[expose] public section

set_option maxRecDepth 16384

/- The first loop, read at an index: the scratch arrays hold the products of the source rows with the two weight blocks. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

theorem off_t1 : ∀ k : Fin 8, BitVec.toNat (Scalar.indexCast (Scalar.muli (Scf.iv 0#32 1#32 k.val) 512#32)) = k.val * 512 := by
  decide +kernel

variable {Val : EltTy → Type} {e : EltTy}

theorem load_src {κ : Kind} {sp : Space} (v : View sig κ sp S4096x128 e) (f : v.ty.Contents Val) (o : ℕ)
    (off : Fin 2 → ℕ) (inb : ∀ a, off a + (![512, 128] : Fin 2 → ℕ) a ≤ S4096x128.size a) (h : off = ![o, 0])
    (s : Fin 512) (l : Fin 128) (hs : o + s.val < 4096) :
    View.readAt Val v (Rect.unit (s := S4096x128) off ![512, 128] inb).toLoadRect f (ix2 s l : (⟨2, ![512, 128]⟩ : Shape).Idx)
      = v.read Val f (ix2 ⟨o + s.val, hs⟩ l) := by
  subst h
  rw [View.readAt_eq_ld]
  show v.read Val f _ = _
  congr 1
  funext a
  apply Fin.ext
  match a with
  | ⟨0, _⟩ => show o + 1 * s.val = o + s.val; omega
  | ⟨1, _⟩ => show 0 + 1 * l.val = l.val; omega

theorem load_wgt {κ : Kind} {sp : Space} (v : View sig κ sp S1x512x128 e) (f : v.ty.Contents Val)
    (inb : ∀ a, (![0, 0, 0] : Fin 3 → ℕ) a + (![1, 512, 128] : Fin 3 → ℕ) a ≤ S1x512x128.size a)
    (m : Fin 512) (l : Fin 128) :
    View.readAt Val v (Rect.unit (s := S1x512x128) ![0, 0, 0] ![1, 512, 128] inb).toLoadRect f (ix3 0 m l : (⟨3, ![1, 512, 128]⟩ : Shape).Idx)
      = v.read Val f (ix3 0 m l) := by
  rw [View.readAt_eq_ld]
  show v.read Val f _ = _
  congr 1
  funext a
  apply Fin.ext
  match a with
  | ⟨0, _⟩ => rfl
  | ⟨1, _⟩ => show 0 + 1 * m.val = m.val; omega
  | ⟨2, _⟩ => show 0 + 1 * l.val = l.val; omega

theorem proj0_re (x : Vec Ideal S512x128 .f32) (w : Vec Ideal S1x512x128 .f32) (s : Fin 512) (l : Fin 128) :
    (k0_pay8 x w) (ix3 0 s l) = ∑ j : Fin 128, x (ix2 s j) * w (ix3 0 ⟨0 + l.val, by omega⟩ j) := by
  pointwise! [k0_pay5, k0_pay6, k0_pay7, k0_pay8]

theorem proj0_im (x : Vec Ideal S512x128 .f32) (w : Vec Ideal S1x512x128 .f32) (s : Fin 512) (l : Fin 128) :
    (k0_pay9 x w) (ix3 0 s l) = ∑ j : Fin 128, x (ix2 s j) * w (ix3 0 ⟨0 + l.val, by omega⟩ j) := by
  pointwise! [k0_pay5, k0_pay6, k0_pay7, k0_pay9]

theorem proj1_re (x : Vec Ideal S512x128 .f32) (w : Vec Ideal S1x512x128 .f32) (s : Fin 512) (l : Fin 128) :
    (k0_pay10 x w) (ix3 0 s l) = ∑ j : Fin 128, x (ix2 s j) * w (ix3 0 ⟨128 + l.val, by omega⟩ j) := by
  pointwise! [k0_pay10, k0_pay5, k0_pay6, k0_pay7]

theorem proj1_im (x : Vec Ideal S512x128 .f32) (w : Vec Ideal S1x512x128 .f32) (s : Fin 512) (l : Fin 128) :
    (k0_pay11 x w) (ix3 0 s l) = ∑ j : Fin 128, x (ix2 s j) * w (ix3 0 ⟨128 + l.val, by omega⟩ j) := by
  pointwise! [k0_pay11, k0_pay5, k0_pay6, k0_pay7]

theorem proj2_re (x : Vec Ideal S512x128 .f32) (w : Vec Ideal S1x512x128 .f32) (s : Fin 512) (l : Fin 128) :
    (k0_pay74 (k0_pay12 x w)) (ix3 0 s l) = ∑ j : Fin 128, x (ix2 s j) * w (ix3 0 ⟨256 + l.val, by omega⟩ j) := by
  pointwise! [k0_pay12, k0_pay5, k0_pay6, k0_pay7, k0_pay74]

theorem proj2_im (x : Vec Ideal S512x128 .f32) (w : Vec Ideal S1x512x128 .f32) (s : Fin 512) (l : Fin 128) :
    (k0_pay75 (k0_pay7 x w)) (ix3 0 s l) = ∑ j : Fin 128, x (ix2 s j) * w (ix3 0 ⟨256 + l.val, by omega⟩ j) := by
  pointwise! [k0_pay5, k0_pay6, k0_pay7, k0_pay75]

theorem proj3_re (x : Vec Ideal S512x128 .f32) (w : Vec Ideal S1x512x128 .f32) (s : Fin 512) (l : Fin 128) :
    (k0_pay76 (k0_pay6 x w)) (ix3 0 s l) = ∑ j : Fin 128, x (ix2 s j) * w (ix3 0 ⟨384 + l.val, by omega⟩ j) := by
  pointwise! [k0_pay5, k0_pay6, k0_pay7, k0_pay76]

theorem proj3_im (x : Vec Ideal S512x128 .f32) (w : Vec Ideal S1x512x128 .f32) (s : Fin 512) (l : Fin 128) :
    (k0_pay77 (k0_pay7 x w)) (ix3 0 s l) = ∑ j : Fin 128, x (ix2 s j) * w (ix3 0 ⟨384 + l.val, by omega⟩ j) := by
  pointwise! [k0_pay5, k0_pay6, k0_pay7, k0_pay77]

theorem t1_wre (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (X_arg1 : BufTy.Contents (Elt Ideal) arg1.view.ty) (X_arg2 : BufTy.Contents (Elt Ideal) arg2.view.ty) (X_arg3 : BufTy.Contents (Elt Ideal) arg3.view.ty)  (k : Fin k0_t1_loop.trips) (f : BufTy.Contents (Elt Ideal) arg8.view.ty)
    (g : Fin 4) (r : Fin 4096) (l : Fin 128) :
    arg8.view.read (Elt Ideal) (arg8.view.writes (Elt Ideal) f ((trip_k0_t1 (F := Ideal) 𝒱 c bd i arg1 harg1 arg2 harg2 arg3 harg3 arg4 harg4 arg5 harg5 arg6 harg6 arg7 harg7 arg8 harg8 arg9 harg9 X_arg1 X_arg2 X_arg3 k).1)) (ix3 g r l)
      = if h : k.val * 512 ≤ r.val ∧ r.val < k.val * 512 + 512 then
          ∑ j : Fin 128, arg1.view.read (Elt Ideal) X_arg1 (ix2 r j) * arg2.view.read (Elt Ideal) X_arg2 (ix3 0 ⟨128 * g.val + l.val, by omega⟩ j)
        else arg8.view.read (Elt Ideal) f (ix3 g r l) := by
  have hk : k.val < 8 := k.isLt
  unfold trip_k0_t1; dsimp only; sl_unfold_words
  refine (four_pieces arg8.view f 512 (k.val * 512) _ _ _ _ _ _ _ _ (congrArg (fun z : ℕ => (![3, z, 0] : Fin 3 → ℕ)) (off_t1 ⟨k.val, hk⟩)) (congrArg (fun z : ℕ => (![2, z, 0] : Fin 3 → ℕ)) (off_t1 ⟨k.val, hk⟩)) (congrArg (fun z : ℕ => (![1, z, 0] : Fin 3 → ℕ)) (off_t1 ⟨k.val, hk⟩)) (congrArg (fun z : ℕ => (![0, z, 0] : Fin 3 → ℕ)) (off_t1 ⟨k.val, hk⟩)) _ _ _ _ g r l).trans ?_
  by_cases h : k.val * 512 ≤ r.val ∧ r.val < k.val * 512 + 512
  · rw [dif_pos h, dif_pos h]
    obtain rfl | rfl | rfl | rfl : g = 0 ∨ g = 1 ∨ g = 2 ∨ g = 3 := by omega
    · refine (proj0_re _ _ _ l).trans (Finset.sum_congr rfl fun j _ => ?_)
      refine Ideal.mul_congr ?_ (load_wgt arg2.view X_arg2 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
    · refine (proj1_re _ _ _ l).trans (Finset.sum_congr rfl fun j _ => ?_)
      refine Ideal.mul_congr ?_ (load_wgt arg2.view X_arg2 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
    · refine (proj2_re _ _ _ l).trans (Finset.sum_congr rfl fun j _ => ?_)
      refine Ideal.mul_congr ?_ (load_wgt arg2.view X_arg2 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
    · refine (proj3_re _ _ _ l).trans (Finset.sum_congr rfl fun j _ => ?_)
      refine Ideal.mul_congr ?_ (load_wgt arg2.view X_arg2 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
  · rw [dif_neg h, dif_neg h]

theorem t1_wim (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (X_arg1 : BufTy.Contents (Elt Ideal) arg1.view.ty) (X_arg2 : BufTy.Contents (Elt Ideal) arg2.view.ty) (X_arg3 : BufTy.Contents (Elt Ideal) arg3.view.ty)  (k : Fin k0_t1_loop.trips) (f : BufTy.Contents (Elt Ideal) arg9.view.ty)
    (g : Fin 4) (r : Fin 4096) (l : Fin 128) :
    arg9.view.read (Elt Ideal) (arg9.view.writes (Elt Ideal) f ((trip_k0_t1 (F := Ideal) 𝒱 c bd i arg1 harg1 arg2 harg2 arg3 harg3 arg4 harg4 arg5 harg5 arg6 harg6 arg7 harg7 arg8 harg8 arg9 harg9 X_arg1 X_arg2 X_arg3 k).2.1)) (ix3 g r l)
      = if h : k.val * 512 ≤ r.val ∧ r.val < k.val * 512 + 512 then
          ∑ j : Fin 128, arg1.view.read (Elt Ideal) X_arg1 (ix2 r j) * arg3.view.read (Elt Ideal) X_arg3 (ix3 0 ⟨128 * g.val + l.val, by omega⟩ j)
        else arg9.view.read (Elt Ideal) f (ix3 g r l) := by
  have hk : k.val < 8 := k.isLt
  unfold trip_k0_t1; dsimp only; sl_unfold_words
  refine (four_pieces arg9.view f 512 (k.val * 512) _ _ _ _ _ _ _ _ (congrArg (fun z : ℕ => (![3, z, 0] : Fin 3 → ℕ)) (off_t1 ⟨k.val, hk⟩)) (congrArg (fun z : ℕ => (![2, z, 0] : Fin 3 → ℕ)) (off_t1 ⟨k.val, hk⟩)) (congrArg (fun z : ℕ => (![1, z, 0] : Fin 3 → ℕ)) (off_t1 ⟨k.val, hk⟩)) (congrArg (fun z : ℕ => (![0, z, 0] : Fin 3 → ℕ)) (off_t1 ⟨k.val, hk⟩)) _ _ _ _ g r l).trans ?_
  by_cases h : k.val * 512 ≤ r.val ∧ r.val < k.val * 512 + 512
  · rw [dif_pos h, dif_pos h]
    obtain rfl | rfl | rfl | rfl : g = 0 ∨ g = 1 ∨ g = 2 ∨ g = 3 := by omega
    · refine (proj0_im _ _ _ l).trans (Finset.sum_congr rfl fun j _ => ?_)
      refine Ideal.mul_congr ?_ (load_wgt arg3.view X_arg3 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
    · refine (proj1_im _ _ _ l).trans (Finset.sum_congr rfl fun j _ => ?_)
      refine Ideal.mul_congr ?_ (load_wgt arg3.view X_arg3 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
    · refine (proj2_im _ _ _ l).trans (Finset.sum_congr rfl fun j _ => ?_)
      refine Ideal.mul_congr ?_ (load_wgt arg3.view X_arg3 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
    · refine (proj3_im _ _ _ l).trans (Finset.sum_congr rfl fun j _ => ?_)
      refine Ideal.mul_congr ?_ (load_wgt arg3.view X_arg3 _ _ j)
      refine (load_src arg1.view X_arg1 (k.val * 512) _ _ (congrArg (fun z : ℕ => (![z, 0] : Fin 2 → ℕ)) (off_t1 ⟨k.val, hk⟩)) _ j (by dsimp only; omega)).trans ?_
      exact congrArg (fun z => arg1.view.read (Elt Ideal) X_arg1 (ix2 z j)) (Fin.ext (by dsimp only; omega))
  · rw [dif_neg h, dif_neg h]

theorem proj_inv (𝒱 : Variants) (c : Dev nD) (bd : Option 𝒱.V) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole) (X_arg1 : BufTy.Contents (Elt Ideal) arg1.view.ty) (X_arg2 : BufTy.Contents (Elt Ideal) arg2.view.ty) (X_arg3 : BufTy.Contents (Elt Ideal) arg3.view.ty)  (f8 : BufTy.Contents (Elt Ideal) arg8.view.ty) (f9 : BufTy.Contents (Elt Ideal) arg9.view.ty) (k : ℕ) (hk : k ≤ 8) :
    (∀ (g : Fin 4) (r : Fin 4096) (l : Fin 128), r.val < k * 512 → arg8.view.read (Elt Ideal) (arg8.view.writes (Elt Ideal) f8 (pb_k0_t1 (F := Ideal) 𝒱 c bd i arg1 harg1 arg2 harg2 arg3 harg3 arg4 harg4 arg5 harg5 arg6 harg6 arg7 harg7 arg8 harg8 arg9 harg9 X_arg1 X_arg2 X_arg3 k).1) (ix3 g r l)
      = ∑ j : Fin 128, arg1.view.read (Elt Ideal) X_arg1 (ix2 r j) * arg2.view.read (Elt Ideal) X_arg2 (ix3 0 ⟨128 * g.val + l.val, by omega⟩ j)) ∧
    (∀ (g : Fin 4) (r : Fin 4096) (l : Fin 128), r.val < k * 512 → arg9.view.read (Elt Ideal) (arg9.view.writes (Elt Ideal) f9 (pb_k0_t1 (F := Ideal) 𝒱 c bd i arg1 harg1 arg2 harg2 arg3 harg3 arg4 harg4 arg5 harg5 arg6 harg6 arg7 harg7 arg8 harg8 arg9 harg9 X_arg1 X_arg2 X_arg3 k).2) (ix3 g r l)
      = ∑ j : Fin 128, arg1.view.read (Elt Ideal) X_arg1 (ix2 r j) * arg3.view.read (Elt Ideal) X_arg3 (ix3 0 ⟨128 * g.val + l.val, by omega⟩ j)) := by
  induction k with
  | zero => exact ⟨fun g r l h => by omega, fun g r l h => by omega⟩
  | succ k ih =>
    have hk' : k < 8 := hk
    obtain ⟨i1, i2⟩ := ih (by omega)
    have e := pb_k0_t1_succ (F := Ideal) 𝒱 c bd i arg1 harg1 arg2 harg2 arg3 harg3 arg4 harg4 arg5 harg5 arg6 harg6 arg7 harg7 arg8 harg8 arg9 harg9 X_arg1 X_arg2 X_arg3 ⟨k, hk'⟩
    dsimp only at e
    refine ⟨fun g r l h => ?_, fun g r l h => ?_⟩
    · rw [e, View.writes_append]
      refine (t1_wre 𝒱 c bd i arg1 harg1 arg2 harg2 arg3 harg3 arg4 harg4 arg5 harg5 arg6 harg6 arg7 harg7 arg8 harg8 arg9 harg9 X_arg1 X_arg2 X_arg3 ⟨k, hk'⟩ _ g r l).trans ?_
      by_cases h' : k * 512 ≤ r.val ∧ r.val < k * 512 + 512
      · rw [dif_pos h']
      · rw [dif_neg h']; exact i1 g r l (by omega)
    · rw [e, View.writes_append]
      refine (t1_wim 𝒱 c bd i arg1 harg1 arg2 harg2 arg3 harg3 arg4 harg4 arg5 harg5 arg6 harg6 arg7 harg7 arg8 harg8 arg9 harg9 X_arg1 X_arg2 X_arg3 ⟨k, hk'⟩ _ g r l).trans ?_
      by_cases h' : k * 512 ≤ r.val ∧ r.val < k * 512 + 512
      · rw [dif_pos h']
      · rw [dif_neg h']; exact i2 g r l (by omega)

end Cert.KernelIdeal.Scan

end
-- ==== Proof.KOut.lean ====
module

public import proofs.«01_k».proof.Proof.KCarry
public import proofs.«01_k».proof.Proof.KProj
public import proofs.«01_k».proof.Proof.KRun
public import Idealize.ShloMosaic.Lib.Pointwise
public import Idealize.ShloMosaic.Lib.Pointwise

@[expose] public section

set_option maxRecDepth 16384

/- The body read at an index: the blocks it leaves hold the backward recurrence over all 4096 rows in time order. -/

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.Sem

open Cert.Scan

/-- The row that holds a time. -/
def rowOf (t : ℕ) : ℕ := t % 512 * 8 + t / 512

/-- The inputs of the recurrence in its own order, last time first. -/
def wrev (U : ℕ → ℂ) (j : ℕ) : ℂ := U (rowOf (4095 - j))

/-- The time a row holds. -/
def timeOf (r : ℕ) : ℕ := r % 8 * 512 + r / 8

theorem wloc_eq (U : ℕ → ℂ) (s : ℕ) (hs : s < 8) (j : ℕ) (hj : j < 512) : wloc U s j = wrev U (512 * (7 - s) + j) := by
  unfold wloc wrev rowOf
  congr 1
  omega

theorem S_congr (a : ℂ) {w w' : ℕ → ℂ} (n : ℕ) (h : ∀ j, j < n → w j = w' j) : S a w n = S a w' n := by
  induction n with
  | zero => rfl
  | succ n ih => simp only [S]; rw [ih (fun j hj => h j (by omega)), h n (by omega)]

/-- The corrected row is the recurrence run to that row's time. -/
theorem vfix_eq (a : ℂ) (U : ℕ → ℂ) (r : ℕ) (hr : r < 4096) :
    vfix a U (fun s => S a (wrev U) (512 * (7 - s))) r = S a (wrev U) (4096 - timeOf r) := by
  unfold vfix timeOf
  rw [S_congr a (w' := fun j => wrev U (512 * (7 - r % 8) + j)) _ (fun j hj => wloc_eq U _ (by omega) j (by omega)), ← S_split]
  congr 1
  omega

theorem sel4_0 {α : Type} (x0 x1 x2 x3 : α) : sel4 0 x0 x1 x2 x3 = x0 := rfl
theorem sel4_1 {α : Type} (x0 x1 x2 x3 : α) : sel4 1 x0 x1 x2 x3 = x1 := rfl
theorem sel4_2 {α : Type} (x0 x1 x2 x3 : α) : sel4 2 x0 x1 x2 x3 = x2 := rfl
theorem sel4_3 {α : Type} (x0 x1 x2 x3 : α) : sel4 3 x0 x1 x2 x3 = x3 := rfl

theorem zero_86 (j : S8x128.Idx) : k0_pay86 (F := Ideal) j = 0 := by
  pointwise! [k0_pay86]

theorem head_v1 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec Ideal S4096x128 .f32) (x1 : Vec Ideal S1x512x128 .f32) (x2 : Vec Ideal S1x512x128 .f32) (x3 : Vec Ideal S4x1x128 .f32) (x4 : Vec Ideal S4x1x128 .f32) : (headRun (F := Ideal) c i arg1 harg1 arg2 harg2 arg3 harg3 arg4 harg4 arg5 harg5 arg6 harg6 arg7 harg7 arg8 harg8 arg9 harg9 x0 x1 x2 x3 x4).1.1 = vio := by
  unfold headRun; rfl

theorem head_re (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec Ideal S4096x128 .f32) (x1 : Vec Ideal S1x512x128 .f32) (x2 : Vec Ideal S1x512x128 .f32) (x3 : Vec Ideal S4x1x128 .f32) (x4 : Vec Ideal S4x1x128 .f32) (g : Fin 4) (l : Fin 128) (s : Fin 8) :
    sel4 g (headRun (F := Ideal) c i arg1 harg1 arg2 harg2 arg3 harg3 arg4 harg4 arg5 harg5 arg6 harg6 arg7 harg7 arg8 harg8 arg9 harg9 x0 x1 x2 x3 x4).1.2.1 (headRun (F := Ideal) c i arg1 harg1 arg2 harg2 arg3 harg3 arg4 harg4 arg5 harg5 arg6 harg6 arg7 harg7 arg8 harg8 arg9 harg9 x0 x1 x2 x3 x4).1.2.2.1 (headRun (F := Ideal) c i arg1 harg1 arg2 harg2 arg3 harg3 arg4 harg4 arg5 harg5 arg6 harg6 arg7 harg7 arg8 harg8 arg9 harg9 x0 x1 x2 x3 x4).1.2.2.2.1 (headRun (F := Ideal) c i arg1 harg1 arg2 harg2 arg3 harg3 arg4 harg4 arg5 harg5 arg6 harg6 arg7 harg7 arg8 harg8 arg9 harg9 x0 x1 x2 x3 x4).1.2.2.2.2.1 (ix2 s l) = x3 (ix3 g 0 l) := by
  unfold headRun; dsimp only; sl_unfold_words
  simp only [View.readAt_eq_ld, harg4.read_unread]
  obtain rfl | rfl | rfl | rfl := (by omega : g = 0 ∨ g = 1 ∨ g = 2 ∨ g = 3)
  · rw [sel4_0]
    pointwise! [k0_pay78]
  · rw [sel4_1]
    pointwise! [k0_pay79]
  · rw [sel4_2]
    pointwise! [k0_pay80]
  · rw [sel4_3]
    pointwise! [k0_pay81]

theorem head_im (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec Ideal S4096x128 .f32) (x1 : Vec Ideal S1x512x128 .f32) (x2 : Vec Ideal S1x512x128 .f32) (x3 : Vec Ideal S4x1x128 .f32) (x4 : Vec Ideal S4x1x128 .f32) (g : Fin 4) (l : Fin 128) (s : Fin 8) :
    sel4 g (headRun (F := Ideal) c i arg1 harg1 arg2 harg2 arg3 harg3 arg4 harg4 arg5 harg5 arg6 harg6 arg7 harg7 arg8 harg8 arg9 harg9 x0 x1 x2 x3 x4).1.2.2.2.2.2.1 (headRun (F := Ideal) c i arg1 harg1 arg2 harg2 arg3 harg3 arg4 harg4 arg5 harg5 arg6 harg6 arg7 harg7 arg8 harg8 arg9 harg9 x0 x1 x2 x3 x4).1.2.2.2.2.2.2.1 (headRun (F := Ideal) c i arg1 harg1 arg2 harg2 arg3 harg3 arg4 harg4 arg5 harg5 arg6 harg6 arg7 harg7 arg8 harg8 arg9 harg9 x0 x1 x2 x3 x4).1.2.2.2.2.2.2.2
      (k0_pay85 (View.readAt (Elt Ideal) arg5.view (Rect.unit (s := S4x1x128) ![3, 0, 0] ![1, 1, 128] inb_S4x1x128_S1x1x128_3_0_0).toLoadRect (harg5.unread x4))) (ix2 s l) = x4 (ix3 g 0 l) := by
  unfold headRun; dsimp only; sl_unfold_words
  simp only [View.readAt_eq_ld, harg5.read_unread]
  obtain rfl | rfl | rfl | rfl := (by omega : g = 0 ∨ g = 1 ∨ g = 2 ∨ g = 3)
  · rw [sel4_0]
    pointwise! [k0_pay82]
  · rw [sel4_1]
    pointwise! [k0_pay83]
  · rw [sel4_2]
    pointwise! [k0_pay84]
  · rw [sel4_3]
    pointwise! [k0_pay85]

theorem head_8 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec Ideal S4096x128 .f32) (x1 : Vec Ideal S1x512x128 .f32) (x2 : Vec Ideal S1x512x128 .f32) (x3 : Vec Ideal S4x1x128 .f32) (x4 : Vec Ideal S4x1x128 .f32) (f : BufTy.Contents (Elt Ideal) arg8.view.ty) (g : Fin 4) (r : Fin 4096) (l : Fin 128) :
    arg8.view.read (Elt Ideal) (arg8.view.writes (Elt Ideal) f (headRun (F := Ideal) c i arg1 harg1 arg2 harg2 arg3 harg3 arg4 harg4 arg5 harg5 arg6 harg6 arg7 harg7 arg8 harg8 arg9 harg9 x0 x1 x2 x3 x4).2.1) (ix3 g r l)
      = ∑ j : Fin 128, x0 (ix2 r j) * x1 (ix3 0 ⟨128 * g.val + l.val, by omega⟩ j) := by
  unfold headRun; dsimp only; sl_unfold_words
  have h := (proj_inv Variants.none c none i arg1 harg1 arg2 harg2 arg3 harg3 arg4 harg4 arg5 harg5 arg6 harg6 arg7 harg7 arg8 harg8 arg9 harg9 (harg1.unread x0) (harg2.unread x1) (harg3.unread x2) f (harg9.unread (fun _ => (0 : EReal))) 8 le_rfl).1 g r l (by omega)
  simp only [harg1.read_unread, harg2.read_unread] at h
  exact h

theorem head_9 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec Ideal S4096x128 .f32) (x1 : Vec Ideal S1x512x128 .f32) (x2 : Vec Ideal S1x512x128 .f32) (x3 : Vec Ideal S4x1x128 .f32) (x4 : Vec Ideal S4x1x128 .f32) (f : BufTy.Contents (Elt Ideal) arg9.view.ty) (g : Fin 4) (r : Fin 4096) (l : Fin 128) :
    arg9.view.read (Elt Ideal) (arg9.view.writes (Elt Ideal) f (headRun (F := Ideal) c i arg1 harg1 arg2 harg2 arg3 harg3 arg4 harg4 arg5 harg5 arg6 harg6 arg7 harg7 arg8 harg8 arg9 harg9 x0 x1 x2 x3 x4).2.2.1) (ix3 g r l)
      = ∑ j : Fin 128, x0 (ix2 r j) * x2 (ix3 0 ⟨128 * g.val + l.val, by omega⟩ j) := by
  unfold headRun; dsimp only; sl_unfold_words
  have h := (proj_inv Variants.none c none i arg1 harg1 arg2 harg2 arg3 harg3 arg4 harg4 arg5 harg5 arg6 harg6 arg7 harg7 arg8 harg8 arg9 harg9 (harg1.unread x0) (harg2.unread x1) (harg3.unread x2) (harg8.unread (fun _ => (0 : EReal))) f 8 le_rfl).2 g r l (by omega)
  simp only [harg1.read_unread, harg3.read_unread] at h
  exact h

/-- The local recurrence in every chunk. -/
theorem mid_out (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
        (X8 : BufTy.Contents (Elt Ideal) arg8.view.ty) (X9 : BufTy.Contents (Elt Ideal) arg9.view.ty) (x4 : Vec Ideal S4x1x128 .f32)    (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (g : Fin 4) (l : Fin 128) (a : ℂ) (U : ℕ → ℂ)
    (har : ∀ s, sel4 g v5 v9 v13 v17 (ix2 s l) = (a.re : EReal))
    (hai : ∀ s, sel4 g v21 v25 v29 (k0_pay85 (View.readAt (Elt Ideal) arg5.view (Rect.unit (s := S4x1x128) ![3, 0, 0] ![1, 1, 128] inb_S4x1x128_S1x1x128_3_0_0).toLoadRect (harg5.unread x4))) (ix2 s l) = (a.im : EReal))
    (h8 : ∀ r : Fin 4096, arg8.view.read (Elt Ideal) X8 (ix3 g r l) = ((U r).re : EReal))
    (h9 : ∀ r : Fin 4096, arg9.view.read (Elt Ideal) X9 (ix3 g r l) = ((U r).im : EReal)) :
    (∀ s : Fin 8, sel4 g (midRun (F := Ideal) c i arg1 harg1 arg2 harg2 arg3 harg3 arg4 harg4 arg5 harg5 arg6 harg6 arg7 harg7 arg8 harg8 arg9 harg9 X8 X9 x4 v5 v9 v13 v17 v21 v25 v29).1.2.1 (midRun (F := Ideal) c i arg1 harg1 arg2 harg2 arg3 harg3 arg4 harg4 arg5 harg5 arg6 harg6 arg7 harg7 arg8 harg8 arg9 harg9 X8 X9 x4 v5 v9 v13 v17 v21 v25 v29).1.2.2.2.1 (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.2.1 (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.2.2.2.1 (ix2 s l) = ((S a (wloc U s) 512).re : EReal)) ∧
    (∀ s : Fin 8, sel4 g (midRun (F := Ideal) c i arg1 harg1 arg2 harg2 arg3 harg3 arg4 harg4 arg5 harg5 arg6 harg6 arg7 harg7 arg8 harg8 arg9 harg9 X8 X9 x4 v5 v9 v13 v17 v21 v25 v29).1.2.2.1 (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.1 (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.2.2.1 (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.2.2.2.2.1 (ix2 s l) = ((S a (wloc U s) 512).im : EReal)) ∧
    (∀ r : Fin 4096, arg8.view.read (Elt Ideal) (arg8.view.writes (Elt Ideal) X8 (midRun (F := Ideal) c i arg1 harg1 arg2 harg2 arg3 harg3 arg4 harg4 arg5 harg5 arg6 harg6 arg7 harg7 arg8 harg8 arg9 harg9 X8 X9 x4 v5 v9 v13 v17 v21 v25 v29).2.1) (ix3 g r l)
      = ((S a (wloc U (r.val % 8)) (512 - r.val / 8)).re : EReal)) ∧
    (∀ r : Fin 4096, arg9.view.read (Elt Ideal) (arg9.view.writes (Elt Ideal) X9 (midRun (F := Ideal) c i arg1 harg1 arg2 harg2 arg3 harg3 arg4 harg4 arg5 harg5 arg6 harg6 arg7 harg7 arg8 harg8 arg9 harg9 X8 X9 x4 v5 v9 v13 v17 v21 v25 v29).2.2.1) (ix3 g r l)
      = ((S a (wloc U (r.val % 8)) (512 - r.val / 8)).im : EReal)) := by
  unfold midRun; dsimp only; sl_unfold_words
  obtain ⟨i1, i2, i3, i4⟩ := local_inv Variants.none c none i arg1 harg1 arg2 harg2 arg3 harg3 arg4 harg4 arg5 harg5 arg6 harg6 arg7 harg7 arg8 harg8 arg9 harg9 v5 v9 v13 v17 v21 v25 v29 (View.readAt (Elt Ideal) arg5.view (Rect.unit (s := S4x1x128) ![3, 0, 0] ![1, 1, 128] inb_S4x1x128_S1x1x128_3_0_0).toLoadRect (harg5.unread x4)) X8 X9
    (k0_pay86, k0_pay86, k0_pay86, k0_pay86, k0_pay86, k0_pay86, k0_pay86, k0_pay86) g l a U har hai h8 h9
    (fun s => by obtain rfl | rfl | rfl | rfl := (by omega : g = 0 ∨ g = 1 ∨ g = 2 ∨ g = 3) <;> exact zero_86 (ix2 s l)) (fun s => by obtain rfl | rfl | rfl | rfl := (by omega : g = 0 ∨ g = 1 ∨ g = 2 ∨ g = 3) <;> exact zero_86 (ix2 s l)) 512 le_rfl
  exact ⟨i1, i2, fun r => (i3 r).trans (if_pos (by omega)), fun r => (i4 r).trans (if_pos (by omega))⟩

theorem mid_33 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
        (X8 : BufTy.Contents (Elt Ideal) arg8.view.ty) (X9 : BufTy.Contents (Elt Ideal) arg9.view.ty) (x4 : Vec Ideal S4x1x128 .f32)    (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) : (midRun (F := Ideal) c i arg1 harg1 arg2 harg2 arg3 harg3 arg4 harg4 arg5 harg5 arg6 harg6 arg7 harg7 arg8 harg8 arg9 harg9 X8 X9 x4 v5 v9 v13 v17 v21 v25 v29).1.1 = k0_pay85 (View.readAt (Elt Ideal) arg5.view (Rect.unit (s := S4x1x128) ![3, 0, 0] ![1, 1, 128] inb_S4x1x128_S1x1x128_3_0_0).toLoadRect (harg5.unread x4)) := by
  unfold midRun; rfl
theorem mid_81 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
        (X8 : BufTy.Contents (Elt Ideal) arg8.view.ty) (X9 : BufTy.Contents (Elt Ideal) arg9.view.ty) (x4 : Vec Ideal S4x1x128 .f32)    (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) : (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.2.2.2.2.2.1 = k0_pay104 v5 v21 := by
  unfold midRun; rfl
theorem mid_84 (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
        (X8 : BufTy.Contents (Elt Ideal) arg8.view.ty) (X9 : BufTy.Contents (Elt Ideal) arg9.view.ty) (x4 : Vec Ideal S4x1x128 .f32)    (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) : (midRun (F := Ideal) c i arg1 harg1 arg2 harg2 arg3 harg3 arg4 harg4 arg5 harg5 arg6 harg6 arg7 harg7 arg8 harg8 arg9 harg9 X8 X9 x4 v5 v9 v13 v17 v21 v25 v29).1.2.2.2.2.2.2.2.2.2.2 = k0_pay105 v5 v21 := by
  unfold midRun; rfl

/-- The corrected rows. -/
theorem tail_out (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
        (X8 : BufTy.Contents (Elt Ideal) arg8.view.ty) (X9 : BufTy.Contents (Elt Ideal) arg9.view.ty)    (v1 : IVec S8x128 32) (v5 : FVec Ideal S8x128 .f32) (v9 : FVec Ideal S8x128 .f32) (v13 : FVec Ideal S8x128 .f32) (v17 : FVec Ideal S8x128 .f32) (v21 : FVec Ideal S8x128 .f32) (v25 : FVec Ideal S8x128 .f32) (v29 : FVec Ideal S8x128 .f32) (v33 : FVec Ideal S8x128 .f32) (v36_0 : FVec Ideal S8x128 .f32) (v36_1 : FVec Ideal S8x128 .f32) (v36_2 : FVec Ideal S8x128 .f32) (v36_3 : FVec Ideal S8x128 .f32) (v36_4 : FVec Ideal S8x128 .f32) (v36_5 : FVec Ideal S8x128 .f32) (v36_6 : FVec Ideal S8x128 .f32) (v36_7 : FVec Ideal S8x128 .f32) (v81 : FVec Ideal S8x128 .f32) (v84 : FVec Ideal S8x128 .f32) (hv1 : v1 = vio) (h81 : v81 = k0_pay104 v5 v21) (h84 : v84 = k0_pay105 v5 v21) (f6 : BufTy.Contents (Elt Ideal) arg6.view.ty) (f7 : BufTy.Contents (Elt Ideal) arg7.view.ty)
    (g : Fin 4) (l : Fin 128) (a : ℂ) (U : ℕ → ℂ)
    (har : ∀ s, sel4 g v5 v9 v13 v17 (ix2 s l) = (a.re : EReal))
    (hai : ∀ s, sel4 g v21 v25 v29 v33 (ix2 s l) = (a.im : EReal))
    (hxr : ∀ s : Fin 8, sel4 g v36_0 v36_2 v36_4 v36_6 (ix2 s l) = ((S a (wloc U s) 512).re : EReal))
    (hxi : ∀ s : Fin 8, sel4 g v36_1 v36_3 v36_5 v36_7 (ix2 s l) = ((S a (wloc U s) 512).im : EReal))
    (h8 : ∀ r : Fin 4096, arg8.view.read (Elt Ideal) X8 (ix3 g r l) = ((S a (wloc U (r.val % 8)) (512 - r.val / 8)).re : EReal))
    (h9 : ∀ r : Fin 4096, arg9.view.read (Elt Ideal) X9 (ix3 g r l) = ((S a (wloc U (r.val % 8)) (512 - r.val / 8)).im : EReal)) :
    (∀ r : Fin 4096, arg6.view.read (Elt Ideal) (arg6.view.writes (Elt Ideal) f6 (tailRun (F := Ideal) c i arg1 harg1 arg2 harg2 arg3 harg3 arg4 harg4 arg5 harg5 arg6 harg6 arg7 harg7 arg8 harg8 arg9 harg9 X8 X9 v1 v5 v9 v13 v17 v21 v25 v29 v33 v36_0 v36_1 v36_2 v36_3 v36_4 v36_5 v36_6 v36_7 v81 v84).1) (ix3 g r l)
      = ((S a (wrev U) (4096 - timeOf r)).re : EReal)) ∧
    (∀ r : Fin 4096, arg7.view.read (Elt Ideal) (arg7.view.writes (Elt Ideal) f7 (tailRun (F := Ideal) c i arg1 harg1 arg2 harg2 arg3 harg3 arg4 harg4 arg5 harg5 arg6 harg6 arg7 harg7 arg8 harg8 arg9 harg9 X8 X9 v1 v5 v9 v13 v17 v21 v25 v29 v33 v36_0 v36_1 v36_2 v36_3 v36_4 v36_5 v36_6 v36_7 v81 v84).2.1) (ix3 g r l)
      = ((S a (wrev U) (4096 - timeOf r)).im : EReal)) := by
  subst hv1 h81 h84
  have hf : ∀ c, c < 8 → (fun c => S a (wloc U (7 - c)) 512) c = F a (wrev U) c := by
    intro c hc
    show S a (wloc U (7 - c)) 512 = S a (fun i => wrev U (512 * c + i)) 512
    refine S_congr a 512 fun j hj => ?_
    rw [wloc_eq U _ (by omega) j hj]
    congr 1
    omega
  have hC : Rx l (sel4 g (k0_pay122 vio (k0_pay112 (k0_pay104 v5 v21) (k0_pay105 v5 v21)) (k0_pay113 (k0_pay104 v5 v21) (k0_pay105 v5 v21)) (k0_pay116 vio v36_0 v36_1 (k0_pay104 v5 v21) (k0_pay105 v5 v21)) (k0_pay117 vio v36_0 v36_1 (k0_pay104 v5 v21) (k0_pay105 v5 v21))) (k0_pay162 vio (k0_pay154 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay160 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25)))) (k0_pay197 vio (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (k0_pay2 vio (k0_pay226 vio v36_6 v36_7 (k0_pay215 (k0_pay199 v17 v33) (k0_pay200 v17 v33)) (k0_pay216 (k0_pay199 v17 v33) (k0_pay200 v17 v33)) (k0_pay217 vio v36_6) (k0_pay218 vio) 7#32) (k0_pay227 vio v36_6 v36_7 (k0_pay215 (k0_pay199 v17 v33) (k0_pay200 v17 v33)) (k0_pay216 (k0_pay199 v17 v33) (k0_pay200 v17 v33)) (k0_pay217 vio v36_6) (k0_pay218 vio) 7#32) (k0_pay228 (k0_pay215 (k0_pay199 v17 v33) (k0_pay200 v17 v33)) (k0_pay216 (k0_pay199 v17 v33) (k0_pay200 v17 v33))) (k0_pay229 (k0_pay215 (k0_pay199 v17 v33) (k0_pay200 v17 v33)) (k0_pay216 (k0_pay199 v17 v33) (k0_pay200 v17 v33))) (k0_pay230 vio v36_6 v36_7 (k0_pay215 (k0_pay199 v17 v33) (k0_pay200 v17 v33)) (k0_pay216 (k0_pay199 v17 v33) (k0_pay200 v17 v33)) (k0_pay217 vio v36_6) (k0_pay218 vio) 7#32) (k0_pay231 vio) 4#32))
      (sel4 g (k0_pay123 vio (k0_pay112 (k0_pay104 v5 v21) (k0_pay105 v5 v21)) (k0_pay113 (k0_pay104 v5 v21) (k0_pay105 v5 v21)) (k0_pay116 vio v36_0 v36_1 (k0_pay104 v5 v21) (k0_pay105 v5 v21)) (k0_pay117 vio v36_0 v36_1 (k0_pay104 v5 v21) (k0_pay105 v5 v21))) (k0_pay163 vio (k0_pay155 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay157 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (k0_pay158 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay161 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25)))) (k0_pay198 vio (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (k0_pay3 vio (k0_pay227 vio v36_6 v36_7 (k0_pay215 (k0_pay199 v17 v33) (k0_pay200 v17 v33)) (k0_pay216 (k0_pay199 v17 v33) (k0_pay200 v17 v33)) (k0_pay217 vio v36_6) (k0_pay218 vio) 7#32) (k0_pay228 (k0_pay215 (k0_pay199 v17 v33) (k0_pay200 v17 v33)) (k0_pay216 (k0_pay199 v17 v33) (k0_pay200 v17 v33))) (k0_pay229 (k0_pay215 (k0_pay199 v17 v33) (k0_pay200 v17 v33)) (k0_pay216 (k0_pay199 v17 v33) (k0_pay200 v17 v33))) (k0_pay230 vio v36_6 v36_7 (k0_pay215 (k0_pay199 v17 v33) (k0_pay200 v17 v33)) (k0_pay216 (k0_pay199 v17 v33) (k0_pay200 v17 v33)) (k0_pay217 vio v36_6) (k0_pay218 vio) 7#32) (k0_pay231 vio) 4#32))
      (carryOf a (fun c => S a (wloc U (7 - c)) 512)) := by
    have ha : Rp l (sel4 g v5 v9 v13 v17) (sel4 g v21 v25 v29 v33) a := fun s => ⟨har s, hai s⟩
    have hx : Rx l (sel4 g v36_0 v36_2 v36_4 v36_6) (sel4 g v36_1 v36_3 v36_5 v36_7) (fun c => S a (wloc U (7 - c)) 512) := fun s => by
      have e : 7 - (7 - s.val) = s.val := by omega
      dsimp only
      rw [e]
      exact ⟨hxr s, hxi s⟩
    clear har hai hxr hxi h8 h9 hf
    obtain rfl | rfl | rfl | rfl := (by omega : g = 0 ∨ g = 1 ∨ g = 2 ∨ g = 3)
    · exact carry0 l v5 v21 v36_0 v36_1 a _ ha hx
    · exact carry1 l v9 v25 v36_2 v36_3 a _ ha hx
    · exact carry2 l v13 v29 v36_4 v36_5 a _ ha hx
    · exact carry3 l v17 v33 v36_6 v36_7 a _ ha hx
  have hC' : ∀ s : Fin 8, carryOf a (fun c => S a (wloc U (7 - c)) 512) (7 - s.val) = (fun s => S a (wrev U) (512 * (7 - s))) s.val :=
    fun s => carryOf_eq a (wrev U) _ hf _ (by omega)
  have hcr := fun s : Fin 8 => (hC s).1
  have hci := fun s : Fin 8 => (hC s).2
  simp only [hC'] at hcr hci
  unfold tailRun; dsimp only; sl_unfold_words
  obtain ⟨-, -, i3, i4⟩ := fix_inv Variants.none c none i arg1 harg1 arg2 harg2 arg3 harg3 arg4 harg4 arg5 harg5 arg6 harg6 arg7 harg7 arg8 harg8 arg9 harg9 vio v5 v9 v13 v17 v21 v25 v29 v33 (k0_pay122 vio (k0_pay112 (k0_pay104 v5 v21) (k0_pay105 v5 v21)) (k0_pay113 (k0_pay104 v5 v21) (k0_pay105 v5 v21)) (k0_pay116 vio v36_0 v36_1 (k0_pay104 v5 v21) (k0_pay105 v5 v21)) (k0_pay117 vio v36_0 v36_1 (k0_pay104 v5 v21) (k0_pay105 v5 v21))) (k0_pay123 vio (k0_pay112 (k0_pay104 v5 v21) (k0_pay105 v5 v21)) (k0_pay113 (k0_pay104 v5 v21) (k0_pay105 v5 v21)) (k0_pay116 vio v36_0 v36_1 (k0_pay104 v5 v21) (k0_pay105 v5 v21)) (k0_pay117 vio v36_0 v36_1 (k0_pay104 v5 v21) (k0_pay105 v5 v21))) (k0_pay162 vio (k0_pay154 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay160 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25)))) (k0_pay163 vio (k0_pay155 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay157 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25))) (k0_pay158 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25))) (k0_pay161 vio v36_2 v36_3 (k0_pay142 (k0_pay126 v9 v25) (k0_pay127 v9 v25) (k0_pay128 v9 v25) (k0_pay129 v9 v25)) (k0_pay143 (k0_pay126 v9 v25) (k0_pay127 v9 v25) (k0_pay128 v9 v25) (k0_pay129 v9 v25)) (k0_pay144 vio v36_2) (k0_pay146 vio v36_2 v36_3 (k0_pay126 v9 v25) (k0_pay127 v9 v25) (k0_pay128 v9 v25) (k0_pay129 v9 v25)) (k0_pay147 vio v36_3 (k0_pay126 v9 v25) (k0_pay127 v9 v25) (k0_pay128 v9 v25) (k0_pay129 v9 v25)))) (k0_pay197 vio (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (k0_pay198 vio (k0_pay185 vio v36_4 v36_5 (k0_pay174 v13 v29) (k0_pay175 v13 v29) (k0_pay176 v13 v29) (k0_pay177 v13 v29)) (k0_pay186 vio v36_4 v36_5 (k0_pay174 v13 v29) (k0_pay175 v13 v29) (k0_pay176 v13 v29) (k0_pay177 v13 v29)) (k0_pay187 (k0_pay174 v13 v29) (k0_pay175 v13 v29) (k0_pay176 v13 v29) (k0_pay177 v13 v29)) (k0_pay188 (k0_pay174 v13 v29) (k0_pay175 v13 v29) (k0_pay176 v13 v29) (k0_pay177 v13 v29)) (k0_pay189 vio v36_4 v36_5 (k0_pay174 v13 v29) (k0_pay175 v13 v29) (k0_pay176 v13 v29) (k0_pay177 v13 v29)) (k0_pay190 vio v36_4 v36_5 (k0_pay174 v13 v29) (k0_pay175 v13 v29) (k0_pay176 v13 v29) (k0_pay177 v13 v29))) (k0_pay226 vio v36_6 v36_7 (k0_pay215 (k0_pay199 v17 v33) (k0_pay200 v17 v33)) (k0_pay216 (k0_pay199 v17 v33) (k0_pay200 v17 v33)) (k0_pay217 vio v36_6) (k0_pay218 vio) 7#32) (k0_pay227 vio v36_6 v36_7 (k0_pay215 (k0_pay199 v17 v33) (k0_pay200 v17 v33)) (k0_pay216 (k0_pay199 v17 v33) (k0_pay200 v17 v33)) (k0_pay217 vio v36_6) (k0_pay218 vio) 7#32) (k0_pay228 (k0_pay215 (k0_pay199 v17 v33) (k0_pay200 v17 v33)) (k0_pay216 (k0_pay199 v17 v33) (k0_pay200 v17 v33))) (k0_pay229 (k0_pay215 (k0_pay199 v17 v33) (k0_pay200 v17 v33)) (k0_pay216 (k0_pay199 v17 v33) (k0_pay200 v17 v33))) (k0_pay230 vio v36_6 v36_7 (k0_pay215 (k0_pay199 v17 v33) (k0_pay200 v17 v33)) (k0_pay216 (k0_pay199 v17 v33) (k0_pay200 v17 v33)) (k0_pay217 vio v36_6) (k0_pay218 vio) 7#32) (k0_pay231 vio) 4#32 X8 X9
    (v5, v21, v9, v25, v13, v29, v17, v33) f6 f7 g l a U (fun s => S a (wrev U) (512 * (7 - s))) har hai hcr hci h8 h9
    (by clear * - har; obtain rfl | rfl | rfl | rfl := (by omega : g = 0 ∨ g = 1 ∨ g = 2 ∨ g = 3) <;> exact har) (by clear * - hai; obtain rfl | rfl | rfl | rfl := (by omega : g = 0 ∨ g = 1 ∨ g = 2 ∨ g = 3) <;> exact hai) 256 le_rfl
  exact ⟨fun r => ((i3 r (by omega)).trans (by rw [vfix_eq a U r r.isLt])), fun r => ((i4 r (by omega)).trans (by rw [vfix_eq a U r r.isLt]))⟩

/-- The two result blocks at a row and a lane: the backward recurrence run from the last time to the row's own. -/
theorem out_eq (c : Dev nD) (i : grid0.Coords) (arg1 : Memref sig .tc .vmem S4096x128 .f32) (harg1 : arg1.IsWhole) (arg2 : Memref sig .tc .vmem S1x512x128 .f32) (harg2 : arg2.IsWhole) (arg3 : Memref sig .tc .vmem S1x512x128 .f32) (harg3 : arg3.IsWhole) (arg4 : Memref sig .tc .vmem S4x1x128 .f32) (harg4 : arg4.IsWhole) (arg5 : Memref sig .tc .vmem S4x1x128 .f32) (harg5 : arg5.IsWhole) (arg6 : Memref sig .tc .vmem S4x4096x128 .bf16) (harg6 : arg6.IsWhole) (arg7 : Memref sig .tc .vmem S4x4096x128 .bf16) (harg7 : arg7.IsWhole) (arg8 : Memref sig .tc .vmem S4x4096x128 .f32) (harg8 : arg8.IsWhole) (arg9 : Memref sig .tc .vmem S4x4096x128 .f32) (harg9 : arg9.IsWhole)
    (x0 : Vec Ideal S4096x128 .f32) (x1 : Vec Ideal S1x512x128 .f32) (x2 : Vec Ideal S1x512x128 .f32) (x3 : Vec Ideal S4x1x128 .f32) (x4 : Vec Ideal S4x1x128 .f32) (g : Fin 4) (l : Fin 128) (a : ℂ) (U : ℕ → ℂ)
    (h3 : x3 (ix3 g 0 l) = (a.re : EReal)) (h4 : x4 (ix3 g 0 l) = (a.im : EReal))
    (hu : ∀ r : Fin 4096, ∑ j : Fin 128, x0 (ix2 r j) * x1 (ix3 0 ⟨128 * g.val + l.val, by omega⟩ j) = ((U r).re : EReal))
    (hv : ∀ r : Fin 4096, ∑ j : Fin 128, x0 (ix2 r j) * x2 (ix3 0 ⟨128 * g.val + l.val, by omega⟩ j) = ((U r).im : EReal)) (r : Fin 4096) :
    out5 (F := Ideal) c i arg1 harg1 arg2 harg2 arg3 harg3 arg4 harg4 arg5 harg5 arg6 harg6 arg7 harg7 arg8 harg8 arg9 harg9 x0 x1 x2 x3 x4 (ix3 g r l) = ((S a (wrev U) (4096 - timeOf r)).re : EReal) ∧
    out6 (F := Ideal) c i arg1 harg1 arg2 harg2 arg3 harg3 arg4 harg4 arg5 harg5 arg6 harg6 arg7 harg7 arg8 harg8 arg9 harg9 x0 x1 x2 x3 x4 (ix3 g r l) = ((S a (wrev U) (4096 - timeOf r)).im : EReal) := by
  have har : ∀ s, sel4 g (regs (F := Ideal) c i arg1 harg1 arg2 harg2 arg3 harg3 arg4 harg4 arg5 harg5 arg6 harg6 arg7 harg7 arg8 harg8 arg9 harg9 x0 x1 x2 x3 x4).2.1 (regs (F := Ideal) c i arg1 harg1 arg2 harg2 arg3 harg3 arg4 harg4 arg5 harg5 arg6 harg6 arg7 harg7 arg8 harg8 arg9 harg9 x0 x1 x2 x3 x4).2.2.1 (regs (F := Ideal) c i arg1 harg1 arg2 harg2 arg3 harg3 arg4 harg4 arg5 harg5 arg6 harg6 arg7 harg7 arg8 harg8 arg9 harg9 x0 x1 x2 x3 x4).2.2.2.1 (regs (F := Ideal) c i arg1 harg1 arg2 harg2 arg3 harg3 arg4 harg4 arg5 harg5 arg6 harg6 arg7 harg7 arg8 harg8 arg9 harg9 x0 x1 x2 x3 x4).2.2.2.2.1 (ix2 s l) = (a.re : EReal) :=
    fun s => (head_re c i arg1 harg1 arg2 harg2 arg3 harg3 arg4 harg4 arg5 harg5 arg6 harg6 arg7 harg7 arg8 harg8 arg9 harg9 x0 x1 x2 x3 x4 g l s).trans h3
  have hai : ∀ s, sel4 g (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2 (k0_pay85 (View.readAt (Elt Ideal) arg5.view (Rect.unit (s := S4x1x128) ![3, 0, 0] ![1, 1, 128] inb_S4x1x128_S1x1x128_3_0_0).toLoadRect (harg5.unread x4))) (ix2 s l) = (a.im : EReal) :=
    fun s => (head_im c i arg1 harg1 arg2 harg2 arg3 harg3 arg4 harg4 arg5 harg5 arg6 harg6 arg7 harg7 arg8 harg8 arg9 harg9 x0 x1 x2 x3 x4 g l s).trans h4
  have h8 : ∀ r : Fin 4096, arg8.view.read (Elt Ideal) (harg8.unread (scr8 (F := Ideal) c i arg1 harg1 arg2 harg2 arg3 harg3 arg4 harg4 arg5 harg5 arg6 harg6 arg7 harg7 arg8 harg8 arg9 harg9 x0 x1 x2 x3 x4)) (ix3 g r l) = ((U r).re : EReal) := fun r => by
    rw [← head_eq8 c i arg1 harg1 arg2 harg2 arg3 harg3 arg4 harg4 arg5 harg5 arg6 harg6 arg7 harg7 arg8 harg8 arg9 harg9 x0 x1 x2 x3 x4 (harg8.unread (fun _ => (0 : EReal)))]
    exact (head_8 c i arg1 harg1 arg2 harg2 arg3 harg3 arg4 harg4 arg5 harg5 arg6 harg6 arg7 harg7 arg8 harg8 arg9 harg9 x0 x1 x2 x3 x4 _ g r l).trans (hu r)
  have h9 : ∀ r : Fin 4096, arg9.view.read (Elt Ideal) (harg9.unread (scr9 (F := Ideal) c i arg1 harg1 arg2 harg2 arg3 harg3 arg4 harg4 arg5 harg5 arg6 harg6 arg7 harg7 arg8 harg8 arg9 harg9 x0 x1 x2 x3 x4)) (ix3 g r l) = ((U r).im : EReal) := fun r => by
    rw [← head_eq9 c i arg1 harg1 arg2 harg2 arg3 harg3 arg4 harg4 arg5 harg5 arg6 harg6 arg7 harg7 arg8 harg8 arg9 harg9 x0 x1 x2 x3 x4 (harg9.unread (fun _ => (0 : EReal)))]
    exact (head_9 c i arg1 harg1 arg2 harg2 arg3 harg3 arg4 harg4 arg5 harg5 arg6 harg6 arg7 harg7 arg8 harg8 arg9 harg9 x0 x1 x2 x3 x4 _ g r l).trans (hv r)
  obtain ⟨m1, m2, m3, m4⟩ := mid_out c i arg1 harg1 arg2 harg2 arg3 harg3 arg4 harg4 arg5 harg5 arg6 harg6 arg7 harg7 arg8 harg8 arg9 harg9 (harg8.unread (scr8 (F := Ideal) c i arg1 harg1 arg2 harg2 arg3 harg3 arg4 harg4 arg5 harg5 arg6 harg6 arg7 harg7 arg8 harg8 arg9 harg9 x0 x1 x2 x3 x4)) (harg9.unread (scr9 (F := Ideal) c i arg1 harg1 arg2 harg2 arg3 harg3 arg4 harg4 arg5 harg5 arg6 harg6 arg7 harg7 arg8 harg8 arg9 harg9 x0 x1 x2 x3 x4)) x4 (regs (F := Ideal) c i arg1 harg1 arg2 harg2 arg3 harg3 arg4 harg4 arg5 harg5 arg6 harg6 arg7 harg7 arg8 harg8 arg9 harg9 x0 x1 x2 x3 x4).2.1 (regs (F := Ideal) c i arg1 harg1 arg2 harg2 arg3 harg3 arg4 harg4 arg5 harg5 arg6 harg6 arg7 harg7 arg8 harg8 arg9 harg9 x0 x1 x2 x3 x4).2.2.1 (regs (F := Ideal) c i arg1 harg1 arg2 harg2 arg3 harg3 arg4 harg4 arg5 harg5 arg6 harg6 arg7 harg7 arg8 harg8 arg9 harg9 x0 x1 x2 x3 x4).2.2.2.1 (regs (F := Ideal) c i arg1 harg1 arg2 harg2 arg3 harg3 arg4 harg4 arg5 harg5 arg6 harg6 arg7 harg7 arg8 harg8 arg9 harg9 x0 x1 x2 x3 x4).2.2.2.2.1 (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2 g l a U har hai h8 h9
  have hai' : ∀ s, sel4 g (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2 (midRun (F := Ideal) c i arg1 harg1 arg2 harg2 arg3 harg3 arg4 harg4 arg5 harg5 arg6 harg6 arg7 harg7 arg8 harg8 arg9 harg9 (harg8.unread (scr8 (F := Ideal) c i arg1 harg1 arg2 harg2 arg3 harg3 arg4 harg4 arg5 harg5 arg6 harg6 arg7 harg7 arg8 harg8 arg9 harg9 x0 x1 x2 x3 x4)) (harg9.unread (scr9 (F := Ideal) c i arg1 harg1 arg2 harg2 arg3 harg3 arg4 harg4 arg5 harg5 arg6 harg6 arg7 harg7 arg8 harg8 arg9 harg9 x0 x1 x2 x3 x4)) x4 (regs (F := Ideal) c i arg1 harg1 arg2 harg2 arg3 harg3 arg4 harg4 arg5 harg5 arg6 harg6 arg7 harg7 arg8 harg8 arg9 harg9 x0 x1 x2 x3 x4).2.1 (regs (F := Ideal) c i arg1 harg1 arg2 harg2 arg3 harg3 arg4 harg4 arg5 harg5 arg6 harg6 arg7 harg7 arg8 harg8 arg9 harg9 x0 x1 x2 x3 x4).2.2.1 (regs (F := Ideal) c i arg1 harg1 arg2 harg2 arg3 harg3 arg4 harg4 arg5 harg5 arg6 harg6 arg7 harg7 arg8 harg8 arg9 harg9 x0 x1 x2 x3 x4).2.2.2.1 (regs (F := Ideal) c i arg1 harg1 arg2 harg2 arg3 harg3 arg4 harg4 arg5 harg5 arg6 harg6 arg7 harg7 arg8 harg8 arg9 harg9 x0 x1 x2 x3 x4).2.2.2.2.1 (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2).1.1 (ix2 s l) = (a.im : EReal) := fun s =>
    (congrArg (fun v => sel4 g (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2 v (ix2 s l)) (mid_33 c i arg1 harg1 arg2 harg2 arg3 harg3 arg4 harg4 arg5 harg5 arg6 harg6 arg7 harg7 arg8 harg8 arg9 harg9 (harg8.unread (scr8 (F := Ideal) c i arg1 harg1 arg2 harg2 arg3 harg3 arg4 harg4 arg5 harg5 arg6 harg6 arg7 harg7 arg8 harg8 arg9 harg9 x0 x1 x2 x3 x4)) (harg9.unread (scr9 (F := Ideal) c i arg1 harg1 arg2 harg2 arg3 harg3 arg4 harg4 arg5 harg5 arg6 harg6 arg7 harg7 arg8 harg8 arg9 harg9 x0 x1 x2 x3 x4)) x4 (regs (F := Ideal) c i arg1 harg1 arg2 harg2 arg3 harg3 arg4 harg4 arg5 harg5 arg6 harg6 arg7 harg7 arg8 harg8 arg9 harg9 x0 x1 x2 x3 x4).2.1 (regs (F := Ideal) c i arg1 harg1 arg2 harg2 arg3 harg3 arg4 harg4 arg5 harg5 arg6 harg6 arg7 harg7 arg8 harg8 arg9 harg9 x0 x1 x2 x3 x4).2.2.1 (regs (F := Ideal) c i arg1 harg1 arg2 harg2 arg3 harg3 arg4 harg4 arg5 harg5 arg6 harg6 arg7 harg7 arg8 harg8 arg9 harg9 x0 x1 x2 x3 x4).2.2.2.1 (regs (F := Ideal) c i arg1 harg1 arg2 harg2 arg3 harg3 arg4 harg4 arg5 harg5 arg6 harg6 arg7 harg7 arg8 harg8 arg9 harg9 x0 x1 x2 x3 x4).2.2.2.2.1 (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2)).trans (hai s)
  obtain ⟨t5, t6⟩ := tail_out c i arg1 harg1 arg2 harg2 arg3 harg3 arg4 harg4 arg5 harg5 arg6 harg6 arg7 harg7 arg8 harg8 arg9 harg9 _ _ _ _ _ _ _ _ _ _ _ _ _ _ _ _ _ _ _ _ _ (head_v1 c i arg1 harg1 arg2 harg2 arg3 harg3 arg4 harg4 arg5 harg5 arg6 harg6 arg7 harg7 arg8 harg8 arg9 harg9 x0 x1 x2 x3 x4)
    (mid_81 c i arg1 harg1 arg2 harg2 arg3 harg3 arg4 harg4 arg5 harg5 arg6 harg6 arg7 harg7 arg8 harg8 arg9 harg9 (harg8.unread (scr8 (F := Ideal) c i arg1 harg1 arg2 harg2 arg3 harg3 arg4 harg4 arg5 harg5 arg6 harg6 arg7 harg7 arg8 harg8 arg9 harg9 x0 x1 x2 x3 x4)) (harg9.unread (scr9 (F := Ideal) c i arg1 harg1 arg2 harg2 arg3 harg3 arg4 harg4 arg5 harg5 arg6 harg6 arg7 harg7 arg8 harg8 arg9 harg9 x0 x1 x2 x3 x4)) x4 (regs (F := Ideal) c i arg1 harg1 arg2 harg2 arg3 harg3 arg4 harg4 arg5 harg5 arg6 harg6 arg7 harg7 arg8 harg8 arg9 harg9 x0 x1 x2 x3 x4).2.1 (regs (F := Ideal) c i arg1 harg1 arg2 harg2 arg3 harg3 arg4 harg4 arg5 harg5 arg6 harg6 arg7 harg7 arg8 harg8 arg9 harg9 x0 x1 x2 x3 x4).2.2.1 (regs (F := Ideal) c i arg1 harg1 arg2 harg2 arg3 harg3 arg4 harg4 arg5 harg5 arg6 harg6 arg7 harg7 arg8 harg8 arg9 harg9 x0 x1 x2 x3 x4).2.2.2.1 (regs (F := Ideal) c i arg1 harg1 arg2 harg2 arg3 harg3 arg4 harg4 arg5 harg5 arg6 harg6 arg7 harg7 arg8 harg8 arg9 harg9 x0 x1 x2 x3 x4).2.2.2.2.1 (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2) (mid_84 c i arg1 harg1 arg2 harg2 arg3 harg3 arg4 harg4 arg5 harg5 arg6 harg6 arg7 harg7 arg8 harg8 arg9 harg9 (harg8.unread (scr8 (F := Ideal) c i arg1 harg1 arg2 harg2 arg3 harg3 arg4 harg4 arg5 harg5 arg6 harg6 arg7 harg7 arg8 harg8 arg9 harg9 x0 x1 x2 x3 x4)) (harg9.unread (scr9 (F := Ideal) c i arg1 harg1 arg2 harg2 arg3 harg3 arg4 harg4 arg5 harg5 arg6 harg6 arg7 harg7 arg8 harg8 arg9 harg9 x0 x1 x2 x3 x4)) x4 (regs (F := Ideal) c i arg1 harg1 arg2 harg2 arg3 harg3 arg4 harg4 arg5 harg5 arg6 harg6 arg7 harg7 arg8 harg8 arg9 harg9 x0 x1 x2 x3 x4).2.1 (regs (F := Ideal) c i arg1 harg1 arg2 harg2 arg3 harg3 arg4 harg4 arg5 harg5 arg6 harg6 arg7 harg7 arg8 harg8 arg9 harg9 x0 x1 x2 x3 x4).2.2.1 (regs (F := Ideal) c i arg1 harg1 arg2 harg2 arg3 harg3 arg4 harg4 arg5 harg5 arg6 harg6 arg7 harg7 arg8 harg8 arg9 harg9 x0 x1 x2 x3 x4).2.2.2.1 (regs (F := Ideal) c i arg1 harg1 arg2 harg2 arg3 harg3 arg4 harg4 arg5 harg5 arg6 harg6 arg7 harg7 arg8 harg8 arg9 harg9 x0 x1 x2 x3 x4).2.2.2.2.1 (regs (F := Ideal) c i arg1 harg1 arg2 harg2 arg3 harg3 arg4 harg4 arg5 harg5 arg6 harg6 arg7 harg7 arg8 harg8 arg9 harg9 x0 x1 x2 x3 x4).2.2.2.2.2.1 (regs (F := Ideal) c i arg1 harg1 arg2 harg2 arg3 harg3 arg4 harg4 arg5 harg5 arg6 harg6 arg7 harg7 arg8 harg8 arg9 harg9 x0 x1 x2 x3 x4).2.2.2.2.2.2.1 (regs (F := Ideal) c i arg1 harg1 arg2 harg2 arg3 harg3 arg4 harg4 arg5 harg5 arg6 harg6 arg7 harg7 arg8 harg8 arg9 harg9 x0 x1 x2 x3 x4).2.2.2.2.2.2.2)
    (harg6.unread (fun _ => (0 : EReal))) (harg7.unread (fun _ => (0 : EReal))) g l a U har hai' m1 m2 m3 m4
  constructor
  · unfold out5
    rw [View.read_writes_of_cover VO0_5 VO0_5.junk arg6.view (harg6.unread (fun _ => (0 : EReal))) _ (cover5 c i arg1 harg1 arg2 harg2 arg3 harg3 arg4 harg4 arg5 harg5 arg6 harg6 arg7 harg7 arg8 harg8 arg9 harg9 x0 x1 x2 x3 x4)]
    exact t5 r
  · unfold out6
    rw [View.read_writes_of_cover VO0_6 VO0_6.junk arg7.view (harg7.unread (fun _ => (0 : EReal))) _ (cover6 c i arg1 harg1 arg2 harg2 arg3 harg3 arg4 harg4 arg5 harg5 arg6 harg6 arg7 harg7 arg8 harg8 arg9 harg9 x0 x1 x2 x3 x4)]
    exact t6 r

end Cert.KernelIdeal.Scan

end
-- ==== Proof.KBlocks.lean ====
module

public import proofs.«01_k».proof.Proof.KValue
public import proofs.«01_k».proof.Proof.KOut
public import Idealize.ShloMosaic.Lib.Pointwise
public import Idealize.ShloMosaic.Lib.Tactic.CleanTypes

@[expose] public section

/- The windows' blocks at an index: which entries of the arrays they are. -/

set_option maxRecDepth 16384

noncomputable section

namespace Cert.KernelIdeal.Scan

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem lt4 (t : Fin cfg0.N) : t.val < 4 := t.isLt.trans_eq N_0

theorem index0 : ∀ t : Fin cfg0.N, win0_0.index t 0 = 0 ∧ win0_0.index t 1 = t.val :=
  (by decide +kernel : ∀ t : Fin grid0.N, win0_0.index t 0 = 0 ∧ win0_0.index t 1 = t.val)

theorem iblk0 (c : Dev nD) (t : Fin cfg0.N) (a : Fin 4096) (b : Fin 128) :
    iblk m c 0 t (ix2 a b) = V m c main_v76 (ix2 a ⟨128 * t.val + b.val, by have := lt4 t; omega⟩) := by
  obtain ⟨e0, e1⟩ := index0 t
  refine congrArg (V m c main_v76) (funext fun ax => Fin.ext ?_)
  match ax with
  | ⟨0, _⟩ => show win0_0.index t 0 * 4096 + 1 * a.val = a.val; rw [e0]; omega
  | ⟨1, _⟩ => show win0_0.index t 1 * 128 + 1 * b.val = 128 * t.val + b.val; rw [e1]; omega

theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

theorem iblk1 (c : Dev nD) (t : Fin cfg0.N) (a : Fin 1) (b : Fin 512) (d : Fin 128) :
    iblk m c 1 t (ix3 a b d) = V m c main_v65 (ix3 ⟨1 * t.val + a.val, by have := lt4 t; omega⟩ b d) := by
  obtain ⟨e0, e1, e2⟩ := index1 t
  refine congrArg (V m c main_v65) (funext fun ax => Fin.ext ?_)
  match ax with
  | ⟨0, _⟩ => show win0_1.index t 0 * 1 + 1 * a.val = 1 * t.val + a.val; rw [e0]; omega
  | ⟨1, _⟩ => show win0_1.index t 1 * 512 + 1 * b.val = b.val; rw [e1]; omega
  | ⟨2, _⟩ => show win0_1.index t 2 * 128 + 1 * d.val = d.val; rw [e2]; omega

theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem iblk2 (c : Dev nD) (t : Fin cfg0.N) (a : Fin 1) (b : Fin 512) (d : Fin 128) :
    iblk m c 2 t (ix3 a b d) = V m c main_v73 (ix3 ⟨1 * t.val + a.val, by have := lt4 t; omega⟩ b d) := by
  obtain ⟨e0, e1, e2⟩ := index2 t
  refine congrArg (V m c main_v73) (funext fun ax => Fin.ext ?_)
  match ax with
  | ⟨0, _⟩ => show win0_2.index t 0 * 1 + 1 * a.val = 1 * t.val + a.val; rw [e0]; omega
  | ⟨1, _⟩ => show win0_2.index t 1 * 512 + 1 * b.val = b.val; rw [e1]; omega
  | ⟨2, _⟩ => show win0_2.index t 2 * 128 + 1 * d.val = d.val; rw [e2]; omega

theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem iblk3 (c : Dev nD) (t : Fin cfg0.N) (a : Fin 4) (b : Fin 1) (d : Fin 128) :
    iblk m c 3 t (ix3 a b d) = V m c main_v43 (ix3 ⟨4 * t.val + a.val, by have := lt4 t; omega⟩ b d) := by
  obtain ⟨e0, e1, e2⟩ := index3 t
  refine congrArg (V m c main_v43) (funext fun ax => Fin.ext ?_)
  match ax with
  | ⟨0, _⟩ => show win0_3.index t 0 * 4 + 1 * a.val = 4 * t.val + a.val; rw [e0]; omega
  | ⟨1, _⟩ => show win0_3.index t 1 * 1 + 1 * b.val = b.val; rw [e1]; omega
  | ⟨2, _⟩ => show win0_3.index t 2 * 128 + 1 * d.val = d.val; rw [e2]; omega

theorem index4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)

theorem iblk4 (c : Dev nD) (t : Fin cfg0.N) (a : Fin 4) (b : Fin 1) (d : Fin 128) :
    iblk m c 4 t (ix3 a b d) = V m c main_v77 (ix3 ⟨4 * t.val + a.val, by have := lt4 t; omega⟩ b d) := by
  obtain ⟨e0, e1, e2⟩ := index4 t
  refine congrArg (V m c main_v77) (funext fun ax => Fin.ext ?_)
  match ax with
  | ⟨0, _⟩ => show win0_4.index t 0 * 4 + 1 * a.val = 4 * t.val + a.val; rw [e0]; omega
  | ⟨1, _⟩ => show win0_4.index t 1 * 1 + 1 * b.val = b.val; rw [e1]; omega
  | ⟨2, _⟩ => show win0_4.index t 2 * 128 + 1 * d.val = d.val; rw [e2]; omega

theorem index5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

theorem arr5 (c : Dev nD) (t : Fin cfg0.N) (a : Fin 4) (b : Fin 4096) (d : Fin 128) :
    (dats m 0 c).arrAt 5 cfg0.N (ix3 ⟨4 * t.val + a.val, by have := lt4 t; omega⟩ b d) = (outsAt0 m c t).1 (ix3 a b d) := by
  obtain ⟨e0, e1, e2⟩ := index5 t
  have h := congrFun ((blocks5 m c t (flush0_5 t)).trans (flushed5 m c t)) (ix3 a b d)
  refine Eq.trans (congrArg ((dats m 0 c).arrAt 5 cfg0.N) (funext fun ax => Fin.ext ?_)) h
  symm
  match ax with
  | ⟨0, _⟩ => show win0_5.index t 0 * 4 + 1 * a.val = 4 * t.val + a.val; rw [e0]; omega
  | ⟨1, _⟩ => show win0_5.index t 1 * 4096 + 1 * b.val = b.val; rw [e1]; omega
  | ⟨2, _⟩ => show win0_5.index t 2 * 128 + 1 * d.val = d.val; rw [e2]; omega

theorem index6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

theorem arr6 (c : Dev nD) (t : Fin cfg0.N) (a : Fin 4) (b : Fin 4096) (d : Fin 128) :
    (dats m 0 c).arrAt 6 cfg0.N (ix3 ⟨4 * t.val + a.val, by have := lt4 t; omega⟩ b d) = (outsAt0 m c t).2 (ix3 a b d) := by
  obtain ⟨e0, e1, e2⟩ := index6 t
  have h := congrFun ((blocks6 m c t (flush0_6 t)).trans (flushed6 m c t)) (ix3 a b d)
  refine Eq.trans (congrArg ((dats m 0 c).arrAt 6 cfg0.N) (funext fun ax => Fin.ext ?_)) h
  symm
  match ax with
  | ⟨0, _⟩ => show win0_6.index t 0 * 4 + 1 * a.val = 4 * t.val + a.val; rw [e0]; omega
  | ⟨1, _⟩ => show win0_6.index t 1 * 4096 + 1 * b.val = b.val; rw [e1]; omega
  | ⟨2, _⟩ => show win0_6.index t 2 * 128 + 1 * d.val = d.val; rw [e2]; omega

end Cert.KernelIdeal.Scan

end
-- ==== Proof.KHost.lean ====
module

public import proofs.«01_k».proof.Proof.KBlocks

@[expose] public section

/- The arrays the kernel's windows read, in terms of the arguments. -/

set_option maxRecDepth 16384

noncomputable section

namespace Cert.KernelIdeal.Scan

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- Argument 0 at the start. -/
abbrev X0 (c : Dev nD) : S4096x512.Idx → EReal := m ((c : Thread nD τ).loc main_arg0)
/-- Argument 1 at the start. -/
abbrev X1 (c : Dev nD) : S32x64.Idx → EReal := m ((c : Thread nD τ).loc main_arg1)
/-- Argument 2 at the start. -/
abbrev X2 (c : Dev nD) : S32x64.Idx → EReal := m ((c : Thread nD τ).loc main_arg2)
/-- Argument 3 at the start. -/
abbrev X3 (c : Dev nD) : S32.Idx → EReal := m ((c : Thread nD τ).loc main_arg3)
/-- Argument 6 at the start. -/
abbrev X6 (c : Dev nD) : S32x16x64.Idx → EReal := m ((c : Thread nD τ).loc main_arg6)
/-- Argument 7 at the start. -/
abbrev X7 (c : Dev nD) : S32x16x64.Idx → EReal := m ((c : Thread nD τ).loc main_arg7)

theorem V76 (c : Dev nD) (r : Fin 4096) (q : Fin 512) :
    (V m c main_v76 (ix2 r q) : EReal) = X0 m c (ix2 ⟨r.val % 8 * 512 + r.val / 8, by omega⟩ q) := by
  unfold_abbrev_sides
  after_results
  clean_types
  pointwise
  try rfl

theorem V43 (c : Dev nD) (q : Fin 16) (l : Fin 128) :
    (V m c main_v43 (ix3 q 0 l) : EReal)
      = Ideal.exp (X1 m c (ix2 ⟨q.val * 2 + l.val / 64, by omega⟩ ⟨l.val % 64, by omega⟩)
          * Ideal.exp (X3 m c (ix1 ⟨q.val * 2 + l.val / 64, by omega⟩)))
        * Ideal.cos (X2 m c (ix2 ⟨q.val * 2 + l.val / 64, by omega⟩ ⟨l.val % 64, by omega⟩)
          * Ideal.exp (X3 m c (ix1 ⟨q.val * 2 + l.val / 64, by omega⟩))) := by
  unfold_abbrev_sides
  after_results
  clean_types
  pointwise
  try rfl

theorem V77 (c : Dev nD) (q : Fin 16) (l : Fin 128) :
    (V m c main_v77 (ix3 q 0 l) : EReal)
      = -(Ideal.exp (X1 m c (ix2 ⟨q.val * 2 + l.val / 64, by omega⟩ ⟨l.val % 64, by omega⟩)
          * Ideal.exp (X3 m c (ix1 ⟨q.val * 2 + l.val / 64, by omega⟩)))
        * Ideal.sin (X2 m c (ix2 ⟨q.val * 2 + l.val / 64, by omega⟩ ⟨l.val % 64, by omega⟩)
          * Ideal.exp (X3 m c (ix1 ⟨q.val * 2 + l.val / 64, by omega⟩)))) := by
  unfold_abbrev_sides
  after_results
  clean_types
  pointwise
  try rfl

theorem eye_bit : ∀ a b : Fin 8,
    IntOp.cmpi CmpIPredicate.eq (IntOp.addi (BitVec.ofNat 32 a.val) 0#32) (BitVec.ofNat 32 b.val) = if a = b then 1#1 else 0#1 := by
  decide

theorem eye_at (a b : ℕ) (ha : a < 8) (hb : b < 8) :
    FloatOps.uitofp (F := Ideal) FTy.f32 (IntOp.cmpi CmpIPredicate.eq (IntOp.addi (BitVec.ofNat 32 a) 0#32) (BitVec.ofNat 32 b))
      = ((if a = b then 1 else 0 : ℝ) : EReal) := by
  rw [eye_bit ⟨a, ha⟩ ⟨b, hb⟩]
  show (((if (⟨a, ha⟩ : Fin 8) = ⟨b, hb⟩ then 1#1 else 0#1 : BitVec 1).toNat : ℝ) : EReal) = _
  by_cases h : a = b
  · subst h; simp
  · rw [if_neg h, if_neg (by intro e; exact h (Fin.mk.inj e))]; simp

theorem V65 (c : Dev nD) (t : Fin 4) (i : Fin 512) (j : Fin 128) :
    (V m c main_v65 (ix3 t i j) : EReal) = ((if i.val / 64 = j.val / 16 then 1 else 0 : ℝ) : EReal)
      * X6 m c (ix3 ⟨t.val * 8 + j.val / 16, by omega⟩ ⟨j.val % 16, by omega⟩ ⟨i.val % 64, by omega⟩) := by
  rw [← eye_at (i.val / 64) (j.val / 16) (by omega) (by omega)]
  unfold_abbrev_sides
  after_results
  clean_types
  pointwise
  try rfl

theorem V73 (c : Dev nD) (t : Fin 4) (i : Fin 512) (j : Fin 128) :
    (V m c main_v73 (ix3 t i j) : EReal) = -(((if i.val / 64 = j.val / 16 then 1 else 0 : ℝ) : EReal)
      * X7 m c (ix3 ⟨t.val * 8 + j.val / 16, by omega⟩ ⟨j.val % 16, by omega⟩ ⟨i.val % 64, by omega⟩)) := by
  rw [← eye_at (i.val / 64) (j.val / 16) (by omega) (by omega)]
  unfold_abbrev_sides
  after_results
  clean_types
  pointwise
  try rfl

end Cert.KernelIdeal.Scan

end
-- ==== Proof.RValue.lean ====
module

public import proofs.«01_k».proof.Proof.RStepRun
public import proofs.«01_k».proof.Proof.Scan
public import Idealize.ShloMosaic.Lib.Pointwise
public import Idealize.ShloMosaic.Lib.WordCmp
public import Idealize.ShloMosaic.Lib.Tactic.CleanTypes

@[expose] public section

/- The reference's loop, one entry at a time: the recurrence of Scan.lean run from the last time step to the first. -/

set_option maxRecDepth 16384

noncomputable section

namespace Cert.ReferenceIdeal.Scan

open Cert.ReferenceIdeal Cert.ReferenceIdeal.Gen Cert.ReferenceIdeal.RStep
open Idealize.ShloMosaic Idealize.ShloMosaic.TcCoe
open Cert.Scan (S)
open Idealize.ShloMosaic.WordCmp

theorem start_eq (j : ℕ) (hj : j < 4096) :
    (IntOp.subi (IntOp.subi 4096#32 (BitVec.ofNat 32 j)) 1#32).toInt = ((4095 - j : ℕ) : ℤ) := by
  have e : IntOp.subi (IntOp.subi 4096#32 (BitVec.ofNat 32 j)) 1#32 = BitVec.ofNat 32 (4095 - j) := by
    apply BitVec.eq_of_toNat_eq
    show (4096#32 - BitVec.ofNat 32 j - 1#32).toNat = _
    simp only [BitVec.toNat_sub, BitVec.toNat_ofNat]
    omega
  rw [e, BitVec.toInt_eq_toNat_of_lt (by simp only [BitVec.toNat_ofNat]; omega)]
  simp only [BitVec.toNat_ofNat]
  omega

theorem fits (p : ℕ) (hp : p < 4096) : S4096x32x64.Slices ![p, 0, 0] S1x32x64 := by
  refine ⟨rfl, fun a => ?_⟩
  match a with
  | ⟨0, _⟩ => show p + 1 ≤ 4096; omega
  | ⟨1, _⟩ => exact Nat.le_refl 32
  | ⟨2, _⟩ => exact Nat.le_refl 64

theorem starts (j p : ℕ) (hp : p + j = 4095) (s : State Ideal) (a : Fin 3) :
    (((![(b3 j s), (b4 j s), (b5 j s)] : Fin 3 → (⟨S_, .i32⟩ : BufTy).Contents (Elt Ideal))) a (Shape.Idx.first h_S_)).toInt
      = ((![p, 0, 0] : Fin 3 → ℕ) a : ℤ) := by
  match a with
  | ⟨0, _⟩ =>
    show (IntOp.subi (IntOp.subi 4096#32 (BitVec.ofNat 32 j)) 1#32).toInt = (p : ℤ)
    rw [start_eq j (by omega)]; omega
  | ⟨1, _⟩ => rfl
  | ⟨2, _⟩ => rfl

theorem slice_at (X : S4096x32x64.Idx → EReal) (p : Fin 4096) (h : Fin 32) (n : Fin 64) (hs) :
    shapeCast S32x64 (extractStridedSlice S1x32x64 ![p.val, 0, 0] X hs) shapeCasts_S1x32x64_S32x64 (ix2 h n) = X (ix3 p h n) := by
  pointwise

theorem update_at (X : S4096x32x64.Idx → EReal) (Y : S32x64.Idx → EReal) (p t : Fin 4096) (h : Fin 32) (n : Fin 64) (hs) :
    updateSlice X (broadcastInDim S1x32x64 ![1, 2] bcast_S32x64_S1x32x64_1_2 Y) ![p.val, 0, 0] hs (ix3 t h n)
      = if t = p then Y (ix2 h n) else X (ix3 t h n) := by
  pointwise
  refine dite_eq_ite.trans (if_congr ?_ rfl rfl)
  rw [Fin.ext_iff]; omega

theorem b7_at (j : ℕ) (p : Fin 4096) (hp : p.val + j = 4095) (s : State Ideal) (h : Fin 32) (n : Fin 64) :
    b7 j s (ix2 h n) = s.main_v27_0 (ix3 p h n) := by
  unfold b7 b6
  rw [dynamicSlice_eq_extract _ _ _ _ ![p.val, 0, 0] (fits p.val p.isLt) (starts j p.val hp s)]
  exact slice_at _ p h n _

theorem b11_at (j : ℕ) (p : Fin 4096) (hp : p.val + j = 4095) (s : State Ideal) (h : Fin 32) (n : Fin 64) :
    b11 j s (ix2 h n) = s.main_v27_1 (ix3 p h n) := by
  unfold b11 b10
  rw [dynamicSlice_eq_extract _ _ _ _ ![p.val, 0, 0] (fits p.val p.isLt) (starts j p.val hp s)]
  exact slice_at _ p h n _

theorem b24_at (j : ℕ) (p : Fin 4096) (hp : p.val + j = 4095) (s : State Ideal) (t : Fin 4096) (h : Fin 32) (n : Fin 64) :
    b24 j s (ix3 t h n) = if t = p then b12 j s (ix2 h n) else s.main_v27_7 (ix3 t h n) := by
  unfold b24 b21
  rw [dynamicUpdateSlice_eq_update _ _ _ _ ![p.val, 0, 0] (fits p.val p.isLt) (starts j p.val hp s)]
  exact update_at _ _ p t h n _

theorem b28_at (j : ℕ) (p : Fin 4096) (hp : p.val + j = 4095) (s : State Ideal) (t : Fin 4096) (h : Fin 32) (n : Fin 64) :
    b28 j s (ix3 t h n) = if t = p then b13 j s (ix2 h n) else s.main_v27_8 (ix3 t h n) := by
  unfold b28 b25
  rw [dynamicUpdateSlice_eq_update _ _ _ _ ![p.val, 0, 0] (fits p.val p.isLt) (starts j p.val hp s)]
  exact update_at _ _ p t h n _

theorem b20_at (j : ℕ) (p : Fin 4096) (hp : p.val + j = 4095) (s : State Ideal) (h : Fin 32) (n : Fin 64) :
    b20 j s (ix2 h n) = s.main_v27_3 (ix2 h n) * b13 j s (ix2 h n) + s.main_v27_2 (ix2 h n) * b12 j s (ix2 h n) := rfl

theorem b18_at (j : ℕ) (p : Fin 4096) (hp : p.val + j = 4095) (s : State Ideal) (h : Fin 32) (n : Fin 64) :
    b18 j s (ix2 h n) = s.main_v27_2 (ix2 h n) * b13 j s (ix2 h n) + s.main_v27_3 (ix2 h n) * -(b12 j s (ix2 h n)) := rfl

theorem b12_at (j : ℕ) (p : Fin 4096) (hp : p.val + j = 4095) (s : State Ideal) (h : Fin 32) (n : Fin 64) :
    b12 j s (ix2 h n) = s.main_v27_5 (ix2 h n) + s.main_v27_0 (ix3 p h n) := by
  rw [← b7_at j p hp s h n]; rfl

theorem b13_at (j : ℕ) (p : Fin 4096) (hp : p.val + j = 4095) (s : State Ideal) (h : Fin 32) (n : Fin 64) :
    b13 j s (ix2 h n) = s.main_v27_6 (ix2 h n) + s.main_v27_1 (ix3 p h n) := by
  rw [← b11_at j p hp s h n]; rfl

theorem R31_at (s : State Ideal) (q : Fin 16) (r : Fin 4096) (l : Fin 128) :
    R_main_v31 s (ix3 q r l) = s.main_v27_7 (ix3 ⟨r.val % 8 * 512 + r.val / 8, by omega⟩ ⟨q.val * 2 + l.val / 64, by omega⟩ ⟨l.val % 64, by omega⟩) := by
  unfold R_main_v31
  pointwise

theorem R35_at (s : State Ideal) (q : Fin 16) (r : Fin 4096) (l : Fin 128) :
    R_main_v35 s (ix3 q r l) = s.main_v27_8 (ix3 ⟨r.val % 8 * 512 + r.val / 8, by omega⟩ ⟨q.val * 2 + l.val / 64, by omega⟩ ⟨l.val % 64, by omega⟩) := by
  unfold R_main_v35
  pointwise

section Args

variable (x0 : (⟨S4096x512, .f32⟩ : BufTy).Contents (Elt Ideal)) (x1 x2 : (⟨S32x64, .f32⟩ : BufTy).Contents (Elt Ideal))
  (x3 : (⟨S32, .f32⟩ : BufTy).Contents (Elt Ideal)) (x6 x7 : (⟨S32x16x64, .f32⟩ : BufTy).Contents (Elt Ideal))

theorem A19_at (t : Fin 4096) (h : Fin 32) (n : Fin 64) :
    A_main_v19 (F := Ideal) x0 x1 x2 x3 x6 x7 (ix3 t h n)
      = ∑ p : Fin 16, -x0 (ix2 t ⟨h.val * 16 + p.val, by omega⟩) * x7 (ix3 h p n) := by
  unfold A_main_v19 A_main_v18 A_main_v17 A_main_v16 A_main_v15
  pointwise

theorem A22_at (t : Fin 4096) (h : Fin 32) (n : Fin 64) :
    A_main_v22 (F := Ideal) x0 x1 x2 x3 x6 x7 (ix3 t h n)
      = ∑ p : Fin 16, x0 (ix2 t ⟨h.val * 16 + p.val, by omega⟩) * x6 (ix3 h p n) := by
  unfold A_main_v22 A_main_v21 A_main_v20 A_main_v15
  pointwise

theorem A8_at (h : Fin 32) (n : Fin 64) :
    A_main_v8 (F := Ideal) x0 x1 x2 x3 x6 x7 (ix2 h n)
      = Ideal.exp (x1 (ix2 h n) * Ideal.exp (x3 (ix1 h))) * Ideal.cos (x2 (ix2 h n) * Ideal.exp (x3 (ix1 h))) := by
  unfold A_main_v8 A_main_v7 A_main_v6 A_main_v5 A_main_v4 A_main_v3 A_main_v2 A_main_v1 A_main_v0
  pointwise

theorem A12_at (h : Fin 32) (n : Fin 64) :
    A_main_v12 (F := Ideal) x0 x1 x2 x3 x6 x7 (ix2 h n)
      = Ideal.exp (x1 (ix2 h n) * Ideal.exp (x3 (ix1 h))) * Ideal.sin (x2 (ix2 h n) * Ideal.exp (x3 (ix1 h))) := by
  unfold A_main_v12 A_main_v11 A_main_v10 A_main_v9 A_main_v4 A_main_v3 A_main_v2 A_main_v1 A_main_v0
  pointwise

/-- The loop's states. -/
def refIter : ℕ → State Ideal
  | 0 => init x0 x1 x2 x3 x6 x7
  | n + 1 => step n (refIter n)

theorem ref_consts : ∀ n, (refIter x0 x1 x2 x3 x6 x7 n).main_v27_0 = A_main_v22 x0 x1 x2 x3 x6 x7
    ∧ (refIter x0 x1 x2 x3 x6 x7 n).main_v27_1 = A_main_v19 x0 x1 x2 x3 x6 x7
    ∧ (refIter x0 x1 x2 x3 x6 x7 n).main_v27_2 = A_main_v8 x0 x1 x2 x3 x6 x7
    ∧ (refIter x0 x1 x2 x3 x6 x7 n).main_v27_3 = A_main_v12 x0 x1 x2 x3 x6 x7
  | 0 => ⟨rfl, rfl, rfl, rfl⟩
  | n + 1 => ref_consts n

theorem K23_at (i : S32x64.Idx) : K_main_v23 (F := Ideal) i = (0 : EReal) := by
  unfold K_main_v23 K_main_cst_1
  pointwise

theorem K24_at (i : S32x64.Idx) : K_main_v24 (F := Ideal) i = (0 : EReal) := by
  unfold K_main_v24 K_main_cst_2
  pointwise

/-- What the loop holds after `j` trips, at one entry of the state: the carried pair, and the outputs from the last `j` times. -/
theorem ref_inv (a : ℂ) (w : ℕ → ℂ) (h : Fin 32) (n : Fin 64)
    (ha : A_main_v8 x0 x1 x2 x3 x6 x7 (ix2 h n) = (a.re : EReal))
    (hb : A_main_v12 x0 x1 x2 x3 x6 x7 (ix2 h n) = ((-a.im : ℝ) : EReal))
    (hu : ∀ p : Fin 4096, A_main_v22 x0 x1 x2 x3 x6 x7 (ix3 p h n) = ((w (4095 - p.val)).re : EReal))
    (hv : ∀ p : Fin 4096, A_main_v19 x0 x1 x2 x3 x6 x7 (ix3 p h n) = ((w (4095 - p.val)).im : EReal)) :
    ∀ j, j ≤ 4096 → (refIter x0 x1 x2 x3 x6 x7 j).main_v27_5 (ix2 h n) = ((a * S a w j).re : EReal)
      ∧ (refIter x0 x1 x2 x3 x6 x7 j).main_v27_6 (ix2 h n) = ((a * S a w j).im : EReal)
      ∧ ∀ t : Fin 4096, 4096 ≤ t.val + j →
        (refIter x0 x1 x2 x3 x6 x7 j).main_v27_7 (ix3 t h n) = ((S a w (4096 - t.val)).re : EReal)
        ∧ (refIter x0 x1 x2 x3 x6 x7 j).main_v27_8 (ix3 t h n) = ((S a w (4096 - t.val)).im : EReal) := by
  intro j
  induction j with
  | zero =>
    intro _
    refine ⟨(K23_at (ix2 h n)).trans ?_, (K24_at (ix2 h n)).trans ?_, fun t ht => by omega⟩
    · simp [S]
    · simp [S]
  | succ j ih =>
    intro hj
    obtain ⟨i5, i6, i7⟩ := ih (by omega)
    obtain ⟨c0, c1, c2, c3⟩ := ref_consts x0 x1 x2 x3 x6 x7 j
    obtain ⟨p, hp⟩ : ∃ p : Fin 4096, p.val + j = 4095 := ⟨⟨4095 - j, by omega⟩, by show 4095 - j + j = 4095; omega⟩
    have ej : 4095 - p.val = j := by omega
    have e12 : b12 j (refIter x0 x1 x2 x3 x6 x7 j) (ix2 h n) = ((S a w (j + 1)).re : EReal) := by
      rw [b12_at j p hp, i5, c0, hu p, ej, ← EReal.coe_add]; rfl
    have e13 : b13 j (refIter x0 x1 x2 x3 x6 x7 j) (ix2 h n) = ((S a w (j + 1)).im : EReal) := by
      rw [b13_at j p hp, i6, c1, hv p, ej, ← EReal.coe_add]; rfl
    refine ⟨?_, ?_, fun t ht => ?_⟩
    · show b20 j (refIter x0 x1 x2 x3 x6 x7 j) (ix2 h n) = _
      rw [b20_at j p hp, e12, e13, c2, c3, ha, hb, ← EReal.coe_mul, ← EReal.coe_mul, ← EReal.coe_add]
      refine congrArg _ ?_
      rw [Complex.mul_re]; ring
    · show b18 j (refIter x0 x1 x2 x3 x6 x7 j) (ix2 h n) = _
      rw [b18_at j p hp, e12, e13, c2, c3, ha, hb, ← EReal.coe_neg, ← EReal.coe_mul, ← EReal.coe_mul, ← EReal.coe_add]
      refine congrArg _ ?_
      rw [Complex.mul_im]; ring
    · have k7 : (refIter x0 x1 x2 x3 x6 x7 (j + 1)).main_v27_7 (ix3 t h n) = b24 j (refIter x0 x1 x2 x3 x6 x7 j) (ix3 t h n) :=
        congrFun (step_main_v27_7 j _) _
      have k8 : (refIter x0 x1 x2 x3 x6 x7 (j + 1)).main_v27_8 (ix3 t h n) = b28 j (refIter x0 x1 x2 x3 x6 x7 j) (ix3 t h n) :=
        congrFun (step_main_v27_8 j _) _
      rw [k7, k8, b24_at j p hp, b28_at j p hp]
      by_cases htp : t = p
      · rw [if_pos htp, if_pos htp, e12, e13, htp, show 4096 - p.val = j + 1 by omega]
        exact ⟨rfl, rfl⟩
      · rw [if_neg htp, if_neg htp]
        exact i7 t (by have : t.val ≠ p.val := fun e => htp (Fin.ext e); omega)

end Args

end Cert.ReferenceIdeal.Scan

end
-- ==== Proof.Reals.lean ====
module

public import proofs.«01_k».proof.Pre_finite
public import Idealize.ShloMosaic.Lib.Pointwise

@[expose] public section

/- What the precondition says, entry by entry, and sums of real numbers read in the extended reals. -/

set_option maxRecDepth 16384

noncomputable section

namespace Cert.Scan

open Idealize.ShloMosaic

theorem coe_sum {n : ℕ} (f : Fin n → ℝ) : ((∑ j, f j : ℝ) : EReal) = ∑ j, (f j : EReal) :=
  map_sum (⟨⟨Real.toEReal, EReal.coe_zero⟩, EReal.coe_add⟩ : ℝ →+ EReal) f Finset.univ

/-- A sum over 128 whose terms vanish off one stretch of sixteen. -/
theorem sum_block (f : Fin 128 → ℝ) (h : ℕ) (hh : h < 8) (hz : ∀ j : Fin 128, h ≠ j.val / 16 → f j = 0) :
    ∑ j, f j = ∑ p : Fin 16, f ⟨16 * h + p.val, by omega⟩ := by
  have hinj : Function.Injective (fun p : Fin 16 => (⟨16 * h + p.val, by omega⟩ : Fin 128)) := by
    intro p q e
    have := Fin.mk.inj e
    exact Fin.ext (by omega)
  symm
  refine (Finset.sum_map Finset.univ ⟨_, hinj⟩ f).symm.trans ?_
  refine Finset.sum_subset (Finset.subset_univ _) (fun j _ hj => hz j fun e => hj ?_)
  rw [Finset.mem_map]
  exact ⟨⟨j.val % 16, by omega⟩, Finset.mem_univ _, Fin.ext (by show 16 * h + j.val % 16 = j.val; omega)⟩

theorem top_word : Ideal.ofBits .f32 0x7F800000#32 = ⊤ := by simp [Ideal.ofBits, Ideal.ieee]

theorem real_of (x : EReal) (h : Ideal.cmp .olt (max x (-x)) (Ideal.ofBits .f32 0x7F800000#32) = 1#1) : x = (x.toReal : EReal) := by
  rw [top_word] at h
  have h' : max x (-x) < ⊤ := by
    by_contra hn
    simp [Ideal.cmp, hn] at h
  refine (EReal.coe_toReal ?_ ?_).symm
  · rintro rfl; simp at h'
  · rintro rfl; simp at h'

end Cert.Scan

namespace Cert.Pre_finite

open Idealize.ShloMosaic

theorem facts : Facts where
  bcast_S_S4096x512 := by decide
  bcast_S_S32x64 := by decide
  bcast_S_S32 := by decide
  bcast_S_S32x16x64 := by decide

section
variable [Facts] (x0 : FVec Ideal S4096x512 .f32) (x1 x2 : FVec Ideal S32x64 .f32) (x3 : FVec Ideal S32 .f32)
  (x4 x5 : FVec Ideal S32x64x16 .f32) (x6 x7 : FVec Ideal S32x16x64 .f32)

theorem real0 (h : (fn x0 x1 x2 x3 x4 x5 x6 x7).1 = fun _ => 1#1) (i) : x0 i = ((x0 i : EReal).toReal : EReal) :=
  Scan.real_of _ (congrFun h i)
theorem real1 (h : (fn x0 x1 x2 x3 x4 x5 x6 x7).2.1 = fun _ => 1#1) (i) : x1 i = ((x1 i : EReal).toReal : EReal) :=
  Scan.real_of _ (congrFun h i)
theorem real2 (h : (fn x0 x1 x2 x3 x4 x5 x6 x7).2.2.1 = fun _ => 1#1) (i) : x2 i = ((x2 i : EReal).toReal : EReal) :=
  Scan.real_of _ (congrFun h i)
theorem real3 (h : (fn x0 x1 x2 x3 x4 x5 x6 x7).2.2.2.1 = fun _ => 1#1) (i) : x3 i = ((x3 i : EReal).toReal : EReal) :=
  Scan.real_of _ (congrFun h i)
theorem real6 (h : (fn x0 x1 x2 x3 x4 x5 x6 x7).2.2.2.2.1 = fun _ => 1#1) (i) : x6 i = ((x6 i : EReal).toReal : EReal) :=
  Scan.real_of _ (congrFun h i)
theorem real7 (h : (fn x0 x1 x2 x3 x4 x5 x6 x7).2.2.2.2.2 = fun _ => 1#1) (i) : x7 i = ((x7 i : EReal).toReal : EReal) :=
  Scan.real_of _ (congrFun h i)

end

end Cert.Pre_finite

end
-- ==== Proof.Final.lean ====
module

public import proofs.«01_k».proof.Proof.KHost
public import proofs.«01_k».proof.Proof.RValue
public import proofs.«01_k».proof.Proof.Reals

@[expose] public section

/- The kernel's results and the reference's, entry by entry. -/

set_option maxRecDepth 16384

noncomputable section

namespace Cert.KernelIdeal.Scan

open Cert.KernelIdeal Cert.KernelIdeal.Gen
open Idealize.ShloMosaic Idealize.ShloMosaic.TcCoe Idealize.SL.Sem
open Idealize.ShloMosaic.Pipeline (Dat)
open Cert.Scan (S coe_sum sum_block)

variable (m : (ℓ : Loc nD τ sig) → Buf (Elt Ideal) ℓ) (c : Dev nD)

/-- What the precondition gives. -/
structure Finite : Prop where
  r0 : ∀ i, X0 m c i = ((X0 m c i).toReal : EReal)
  r1 : ∀ i, X1 m c i = ((X1 m c i).toReal : EReal)
  r2 : ∀ i, X2 m c i = ((X2 m c i).toReal : EReal)
  r3 : ∀ i, X3 m c i = ((X3 m c i).toReal : EReal)
  r6 : ∀ i, X6 m c i = ((X6 m c i).toReal : EReal)
  r7 : ∀ i, X7 m c i = ((X7 m c i).toReal : EReal)

/-- The decay of state `n` of group `h`, conjugated. -/
def decay (h : Fin 32) (n : Fin 64) : ℂ :=
  ⟨Real.exp ((X1 m c (ix2 h n)).toReal * Real.exp (X3 m c (ix1 h)).toReal) * Real.cos ((X2 m c (ix2 h n)).toReal * Real.exp (X3 m c (ix1 h)).toReal),
    -(Real.exp ((X1 m c (ix2 h n)).toReal * Real.exp (X3 m c (ix1 h)).toReal) * Real.sin ((X2 m c (ix2 h n)).toReal * Real.exp (X3 m c (ix1 h)).toReal))⟩

/-- What enters state `n` of group `h` at time `t`. -/
def drive (h : Fin 32) (n : Fin 64) (t : ℕ) : ℂ :=
  ⟨∑ p : Fin 16, (X0 m c (ix2 ⟨t % 4096, by omega⟩ ⟨h.val * 16 + p.val, by omega⟩)).toReal * (X6 m c (ix3 h p n)).toReal,
    ∑ p : Fin 16, -(X0 m c (ix2 ⟨t % 4096, by omega⟩ ⟨h.val * 16 + p.val, by omega⟩)).toReal * (X7 m c (ix3 h p n)).toReal⟩

theorem decay_re (hf : Finite m c) (h : Fin 32) (n : Fin 64) :
    Ideal.exp (X1 m c (ix2 h n) * Ideal.exp (X3 m c (ix1 h))) * Ideal.cos (X2 m c (ix2 h n) * Ideal.exp (X3 m c (ix1 h)))
      = ((decay m c h n).re : EReal) := by
  rw [hf.r1 (ix2 h n), hf.r2 (ix2 h n), hf.r3 (ix1 h), Ideal.exp_coe, ← EReal.coe_mul, ← EReal.coe_mul, Ideal.exp_coe, Ideal.cos_coe, ← EReal.coe_mul]
  rfl

theorem decay_im (hf : Finite m c) (h : Fin 32) (n : Fin 64) :
    Ideal.exp (X1 m c (ix2 h n) * Ideal.exp (X3 m c (ix1 h))) * Ideal.sin (X2 m c (ix2 h n) * Ideal.exp (X3 m c (ix1 h)))
      = ((-(decay m c h n).im : ℝ) : EReal) := by
  rw [hf.r1 (ix2 h n), hf.r2 (ix2 h n), hf.r3 (ix1 h), Ideal.exp_coe, ← EReal.coe_mul, ← EReal.coe_mul, Ideal.exp_coe, Ideal.sin_coe, ← EReal.coe_mul]
  refine congrArg _ ?_
  unfold decay
  exact (neg_neg _).symm

theorem drive_re (hf : Finite m c) (h : Fin 32) (n : Fin 64) (p : Fin 4096) :
    ∑ k : Fin 16, X0 m c (ix2 p ⟨h.val * 16 + k.val, by omega⟩) * X6 m c (ix3 h k n) = ((drive m c h n p.val).re : EReal) := by
  have e : (⟨p.val % 4096, by omega⟩ : Fin 4096) = p := Fin.ext (Nat.mod_eq_of_lt p.isLt)
  unfold drive
  rw [e, coe_sum]
  refine Finset.sum_congr rfl fun k _ => ?_
  rw [EReal.coe_mul, ← hf.r0, ← hf.r6]

theorem drive_im (hf : Finite m c) (h : Fin 32) (n : Fin 64) (p : Fin 4096) :
    ∑ k : Fin 16, -X0 m c (ix2 p ⟨h.val * 16 + k.val, by omega⟩) * X7 m c (ix3 h k n) = ((drive m c h n p.val).im : EReal) := by
  have e : (⟨p.val % 4096, by omega⟩ : Fin 4096) = p := Fin.ext (Nat.mod_eq_of_lt p.isLt)
  unfold drive
  rw [e, coe_sum]
  refine Finset.sum_congr rfl fun k _ => ?_
  rw [EReal.coe_mul, EReal.coe_neg, ← hf.r0, ← hf.r7]

/-- What the kernel's recurrence at entry `(q, l)` takes at row `r` of its layout. -/
def inAt (h : Fin 32) (n : Fin 64) (r : ℕ) : ℂ := drive m c h n (timeOf r)

theorem wrev_inAt (h : Fin 32) (n : Fin 64) (p : Fin 4096) : wrev (inAt m c h n) (4095 - p.val) = drive m c h n p.val := by
  unfold wrev inAt
  refine congrArg _ ?_
  unfold timeOf rowOf
  omega

/-- Block `t` of input 0. -/
def B0 (t : Fin cfg0.N) : Vec Ideal S4096x128 .f32 := iblk m c 0 t
/-- Block `t` of input 1. -/
def B1 (t : Fin cfg0.N) : Vec Ideal S1x512x128 .f32 := iblk m c 1 t
/-- Block `t` of input 2. -/
def B2 (t : Fin cfg0.N) : Vec Ideal S1x512x128 .f32 := iblk m c 2 t
/-- Block `t` of input 3. -/
def B3 (t : Fin cfg0.N) : Vec Ideal S4x1x128 .f32 := iblk m c 3 t
/-- Block `t` of input 4. -/
def B4 (t : Fin cfg0.N) : Vec Ideal S4x1x128 .f32 := iblk m c 4 t

theorem outs_eq (t : Fin cfg0.N) : outsAt0 m c t =
    (out5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (B0 m c t) (B1 m c t) (B2 m c t) (B3 m c t) (B4 m c t),
      out6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (B0 m c t) (B1 m c t) (B2 m c t) (B3 m c t) (B4 m c t)) := by
  unfold outsAt0 B0 B1 B2 B3 B4
  rfl

theorem B0_at (t : Fin cfg0.N) (r : Fin 4096) (j : Fin 128) :
    (B0 m c t (ix2 r j) : EReal) = X0 m c (ix2 ⟨r.val % 8 * 512 + r.val / 8, by omega⟩ ⟨128 * t.val + j.val, by have := lt4 t; omega⟩) := by
  unfold B0
  rw [iblk0, V76]

theorem B1_at (t : Fin cfg0.N) (i : Fin 512) (j : Fin 128) :
    (B1 m c t (ix3 0 i j) : EReal) = ((if i.val / 64 = j.val / 16 then 1 else 0 : ℝ) : EReal)
      * X6 m c (ix3 ⟨t.val * 8 + j.val / 16, by have := lt4 t; omega⟩ ⟨j.val % 16, by omega⟩ ⟨i.val % 64, by omega⟩) := by
  unfold B1
  rw [iblk1]
  refine Eq.trans ?_ (V65 m c ⟨t.val, lt4 t⟩ i j)
  refine congrArg (V m c main_v65) ?_
  refine congrArg (fun x => ix3 x i j) (Fin.ext ?_)
  show 1 * t.val + 0 = t.val
  omega

theorem B2_at (t : Fin cfg0.N) (i : Fin 512) (j : Fin 128) :
    (B2 m c t (ix3 0 i j) : EReal) = -(((if i.val / 64 = j.val / 16 then 1 else 0 : ℝ) : EReal)
      * X7 m c (ix3 ⟨t.val * 8 + j.val / 16, by have := lt4 t; omega⟩ ⟨j.val % 16, by omega⟩ ⟨i.val % 64, by omega⟩)) := by
  unfold B2
  rw [iblk2]
  refine Eq.trans ?_ (V73 m c ⟨t.val, lt4 t⟩ i j)
  refine congrArg (V m c main_v73) ?_
  refine congrArg (fun x => ix3 x i j) (Fin.ext ?_)
  show 1 * t.val + 0 = t.val
  omega

theorem B3_at (hf : Finite m c) (t : Fin cfg0.N) (g : Fin 4) (l : Fin 128) (h : Fin 32) (n : Fin 64)
    (hh : h.val = 8 * t.val + (2 * g.val + l.val / 64)) (hn : n.val = l.val % 64) :
    (B3 m c t (ix3 g 0 l) : EReal) = ((decay m c h n).re : EReal) := by
  have ht := lt4 t
  have eh : (⟨(4 * t.val + g.val) * 2 + l.val / 64, by omega⟩ : Fin 32) = h := Fin.ext (by show (4 * t.val + g.val) * 2 + l.val / 64 = h.val; omega)
  have en : (⟨l.val % 64, by omega⟩ : Fin 64) = n := Fin.ext hn.symm
  unfold B3
  rw [iblk3]
  refine (V43 m c ⟨4 * t.val + g.val, by omega⟩ l).trans ?_
  dsimp only
  rw [eh, en]
  exact decay_re m c hf h n

theorem B4_at (hf : Finite m c) (t : Fin cfg0.N) (g : Fin 4) (l : Fin 128) (h : Fin 32) (n : Fin 64)
    (hh : h.val = 8 * t.val + (2 * g.val + l.val / 64)) (hn : n.val = l.val % 64) :
    (B4 m c t (ix3 g 0 l) : EReal) = ((decay m c h n).im : EReal) := by
  have ht := lt4 t
  have eh : (⟨(4 * t.val + g.val) * 2 + l.val / 64, by omega⟩ : Fin 32) = h := Fin.ext (by show (4 * t.val + g.val) * 2 + l.val / 64 = h.val; omega)
  have en : (⟨l.val % 64, by omega⟩ : Fin 64) = n := Fin.ext hn.symm
  unfold B4
  rw [iblk4]
  refine (V77 m c ⟨4 * t.val + g.val, by omega⟩ l).trans ?_
  dsimp only
  rw [eh, en, decay_im m c hf h n, ← EReal.coe_neg, neg_neg]

theorem proj_re (hf : Finite m c) (t : Fin cfg0.N) (g : Fin 4) (l : Fin 128) (h : Fin 32) (n : Fin 64)
    (hh : h.val = 8 * t.val + (2 * g.val + l.val / 64)) (hn : n.val = l.val % 64) (r : Fin 4096) :
    ∑ j : Fin 128, B0 m c t (ix2 r j) * B1 m c t (ix3 0 ⟨128 * g.val + l.val, by omega⟩ j)
      = ((inAt m c h n r.val).re : EReal) := by
  have ht := lt4 t
  have e : ∀ j : Fin 128, B0 m c t (ix2 r j) * B1 m c t (ix3 0 ⟨128 * g.val + l.val, by omega⟩ j)
      = (((X0 m c (ix2 ⟨r.val % 8 * 512 + r.val / 8, by omega⟩ ⟨128 * t.val + j.val, by omega⟩)).toReal
        * ((if (128 * g.val + l.val) / 64 = j.val / 16 then 1 else 0)
          * (X6 m c (ix3 ⟨t.val * 8 + j.val / 16, by omega⟩ ⟨j.val % 16, by omega⟩ ⟨(128 * g.val + l.val) % 64, by omega⟩)).toReal) : ℝ) : EReal) := by
    intro j
    rw [EReal.coe_mul, EReal.coe_mul, ← hf.r0, ← hf.r6, B0_at, B1_at]
  refine (Finset.sum_congr rfl fun j _ => e j).trans ?_
  rw [← coe_sum, sum_block _ (2 * g.val + l.val / 64) (by omega)]
  · refine congrArg Real.toEReal ?_
    unfold inAt drive
    dsimp only
    refine Finset.sum_congr rfl fun p _ => ?_
    have e1 : (⟨r.val % 8 * 512 + r.val / 8, by omega⟩ : Fin 4096) = ⟨timeOf r.val % 4096, by omega⟩ := Fin.ext (by show r.val % 8 * 512 + r.val / 8 = timeOf r.val % 4096; unfold timeOf; omega)
    have e2 : (⟨128 * t.val + (16 * (2 * g.val + l.val / 64) + p.val), by omega⟩ : Fin 512) = ⟨h.val * 16 + p.val, by omega⟩ := Fin.ext (by show 128 * t.val + (16 * (2 * g.val + l.val / 64) + p.val) = h.val * 16 + p.val; omega)
    have e3 : (⟨t.val * 8 + (16 * (2 * g.val + l.val / 64) + p.val) / 16, by omega⟩ : Fin 32) = h := Fin.ext (by show t.val * 8 + (16 * (2 * g.val + l.val / 64) + p.val) / 16 = h.val; omega)
    have e4 : (⟨(16 * (2 * g.val + l.val / 64) + p.val) % 16, by omega⟩ : Fin 16) = p := Fin.ext (by show (16 * (2 * g.val + l.val / 64) + p.val) % 16 = p.val; omega)
    have e5 : (⟨(128 * g.val + l.val) % 64, by omega⟩ : Fin 64) = n := Fin.ext (by show (128 * g.val + l.val) % 64 = n.val; omega)
    rw [e1, e2, e3, e4, e5, if_pos (by omega), one_mul]
  · intro j hj
    rw [if_neg (by omega), zero_mul, mul_zero]

theorem proj_im (hf : Finite m c) (t : Fin cfg0.N) (g : Fin 4) (l : Fin 128) (h : Fin 32) (n : Fin 64)
    (hh : h.val = 8 * t.val + (2 * g.val + l.val / 64)) (hn : n.val = l.val % 64) (r : Fin 4096) :
    ∑ j : Fin 128, B0 m c t (ix2 r j) * B2 m c t (ix3 0 ⟨128 * g.val + l.val, by omega⟩ j)
      = ((inAt m c h n r.val).im : EReal) := by
  have ht := lt4 t
  have e : ∀ j : Fin 128, B0 m c t (ix2 r j) * B2 m c t (ix3 0 ⟨128 * g.val + l.val, by omega⟩ j)
      = (((X0 m c (ix2 ⟨r.val % 8 * 512 + r.val / 8, by omega⟩ ⟨128 * t.val + j.val, by omega⟩)).toReal
        * -((if (128 * g.val + l.val) / 64 = j.val / 16 then 1 else 0)
          * (X7 m c (ix3 ⟨t.val * 8 + j.val / 16, by omega⟩ ⟨j.val % 16, by omega⟩ ⟨(128 * g.val + l.val) % 64, by omega⟩)).toReal) : ℝ) : EReal) := by
    intro j
    rw [EReal.coe_mul, EReal.coe_neg, EReal.coe_mul, ← hf.r0, ← hf.r7, B0_at, B2_at]
  refine (Finset.sum_congr rfl fun j _ => e j).trans ?_
  rw [← coe_sum, sum_block _ (2 * g.val + l.val / 64) (by omega)]
  · refine congrArg Real.toEReal ?_
    unfold inAt drive
    dsimp only
    refine Finset.sum_congr rfl fun p _ => ?_
    have e1 : (⟨r.val % 8 * 512 + r.val / 8, by omega⟩ : Fin 4096) = ⟨timeOf r.val % 4096, by omega⟩ := Fin.ext (by show r.val % 8 * 512 + r.val / 8 = timeOf r.val % 4096; unfold timeOf; omega)
    have e2 : (⟨128 * t.val + (16 * (2 * g.val + l.val / 64) + p.val), by omega⟩ : Fin 512) = ⟨h.val * 16 + p.val, by omega⟩ := Fin.ext (by show 128 * t.val + (16 * (2 * g.val + l.val / 64) + p.val) = h.val * 16 + p.val; omega)
    have e3 : (⟨t.val * 8 + (16 * (2 * g.val + l.val / 64) + p.val) / 16, by omega⟩ : Fin 32) = h := Fin.ext (by show t.val * 8 + (16 * (2 * g.val + l.val / 64) + p.val) / 16 = h.val; omega)
    have e4 : (⟨(16 * (2 * g.val + l.val / 64) + p.val) % 16, by omega⟩ : Fin 16) = p := Fin.ext (by show (16 * (2 * g.val + l.val / 64) + p.val) % 16 = p.val; omega)
    have e5 : (⟨(128 * g.val + l.val) % 64, by omega⟩ : Fin 64) = n := Fin.ext (by show (128 * g.val + l.val) % 64 = n.val; omega)
    rw [e1, e2, e3, e4, e5, if_pos (by omega), one_mul, mul_neg, neg_mul]
  · intro j hj
    rw [if_neg (by omega), zero_mul, neg_zero, mul_zero]

/-- The kernel's two results at entry `(4t + g, r, l)`. -/
theorem kernel_at (hf : Finite m c) (t : Fin cfg0.N) (g : Fin 4) (l : Fin 128) (h : Fin 32) (n : Fin 64)
    (hh : h.val = 8 * t.val + (2 * g.val + l.val / 64)) (hn : n.val = l.val % 64) (r : Fin 4096) :
    (outsAt0 m c t).1 (ix3 g r l) = ((S (decay m c h n) (wrev (inAt m c h n)) (4096 - timeOf r)).re : EReal)
    ∧ (outsAt0 m c t).2 (ix3 g r l) = ((S (decay m c h n) (wrev (inAt m c h n)) (4096 - timeOf r)).im : EReal) := by
  rw [outs_eq]
  exact out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (B0 m c t) (B1 m c t) (B2 m c t) (B3 m c t) (B4 m c t)
    g l (decay m c h n) (inAt m c h n) (B3_at m c hf t g l h n hh hn) (B4_at m c hf t g l h n hh hn) (proj_re m c hf t g l h n hh hn) (proj_im m c hf t g l h n hh hn) r

open Cert.ReferenceIdeal.RStep Cert.ReferenceIdeal.Scan in
/-- The reference's loop's outputs at time `t`. -/
theorem ref_at (hf : Finite m c) (h : Fin 32) (n : Fin 64) (t : Fin 4096) :
    (refIter (X0 m c) (X1 m c) (X2 m c) (X3 m c) (X6 m c) (X7 m c) 4096).main_v27_7 (ix3 t h n)
      = ((S (decay m c h n) (wrev (inAt m c h n)) (4096 - t.val)).re : EReal)
    ∧ (refIter (X0 m c) (X1 m c) (X2 m c) (X3 m c) (X6 m c) (X7 m c) 4096).main_v27_8 (ix3 t h n)
      = ((S (decay m c h n) (wrev (inAt m c h n)) (4096 - t.val)).im : EReal) := by
  refine (ref_inv (X0 m c) (X1 m c) (X2 m c) (X3 m c) (X6 m c) (X7 m c) (decay m c h n) (wrev (inAt m c h n)) h n
    ?_ ?_ ?_ ?_ 4096 (Nat.le_refl _)).2.2 t (by omega)
  · exact (A8_at _ _ _ _ _ _ h n).trans (decay_re m c hf h n)
  · exact (A12_at _ _ _ _ _ _ h n).trans (decay_im m c hf h n)
  · intro p
    rw [wrev_inAt]
    exact (A22_at _ _ _ _ _ _ p h n).trans (drive_re m c hf h n p)
  · intro p
    rw [wrev_inAt]
    exact (A19_at _ _ _ _ _ _ p h n).trans (drive_im m c hf h n p)

open Cert.ReferenceIdeal.RStep Cert.ReferenceIdeal.Scan in
/-- The results agree. -/
theorem results_at (hf : Finite m c) (q : Fin 16) (r : Fin 4096) (l : Fin 128) :
    R_main_v31 (refIter (X0 m c) (X1 m c) (X2 m c) (X3 m c) (X6 m c) (X7 m c) 4096) (ix3 q r l) = ((dats m 0 c).arrAt 5 cfg0.N (ix3 q r l) : EReal)
    ∧ R_main_v35 (refIter (X0 m c) (X1 m c) (X2 m c) (X3 m c) (X6 m c) (X7 m c) 4096) (ix3 q r l) = ((dats m 0 c).arrAt 6 cfg0.N (ix3 q r l) : EReal) := by
  have hq := q.isLt
  obtain ⟨t, g, e⟩ : ∃ (t : Fin cfg0.N) (g : Fin 4), q.val = 4 * t.val + g.val :=
    ⟨⟨q.val / 4, by rw [show cfg0.N = 4 from N_0]; omega⟩, ⟨q.val % 4, by omega⟩, by show q.val = 4 * (q.val / 4) + q.val % 4; omega⟩
  have ht := lt4 t
  obtain ⟨qv, hqv⟩ := q
  dsimp only at e
  subst e
  rw [R31_at, R35_at, arr5, arr6]
  have hr := ref_at m c hf ⟨(4 * t.val + g.val) * 2 + l.val / 64, by omega⟩ ⟨l.val % 64, by omega⟩ ⟨r.val % 8 * 512 + r.val / 8, by omega⟩
  have hk := kernel_at m c hf t g l ⟨(4 * t.val + g.val) * 2 + l.val / 64, by omega⟩ ⟨l.val % 64, by omega⟩ (by show (4 * t.val + g.val) * 2 + l.val / 64 = _; omega) rfl r
  exact ⟨hr.1.trans hk.1.symm, hr.2.trans hk.2.symm⟩

end Cert.KernelIdeal.Scan

end
-- ==== Proof.Mixer.lean ====
module

public import proofs.«01_k».proof.Defs
public import Idealize.ShloMosaic.Lib.Pointwise
public import Idealize.ShloMosaic.Lib.ValueIdx

@[expose] public section

/- The SwiGLU mixer on one row, over the extended reals. -/

noncomputable section

namespace Cert.Mixer

open Idealize.ShloMosaic

/-- The reciprocal root of a row's mean square, the mean kept off zero. -/
def root (x : Fin 1024 → EReal) : EReal :=
  Ideal.rsqrt (Ideal.div (∑ j, x j * x j) (Ideal.ofBits FTy.f32 0x44800000#32) + Ideal.ofBits FTy.f32 0x358637BD#32)

/-- The RMS norm of a row, with the gain. -/
def norm (x g : Fin 1024 → EReal) (k : Fin 1024) : EReal := x k * root x * g k

/-- The normed row times a matrix of weights. -/
def proj (x g : Fin 1024 → EReal) (w : Fin 1024 → Fin 2816 → EReal) (f : Fin 2816) : EReal :=
  ∑ k, norm x g k * w k f

/-- The activation: silu of the gate times up. -/
def act (gate up : EReal) : EReal := gate * Ideal.logistic gate * up

/-- The row after the mixer. -/
def out (x g : Fin 1024 → EReal) (wg wu : Fin 1024 → Fin 2816 → EReal) (wd : Fin 2816 → Fin 1024 → EReal) (q : Fin 1024) : EReal :=
  x q + ∑ f, act (proj x g wg f) (proj x g wu f) * wd f q

end Cert.Mixer

end
-- ==== Proof.MixerBwd.lean ====
module

public import proofs.«01_k».proof.Proof.Mixer
public import proofs.«01_k».proof.Proof.Reals
public import proofs.«01_k».proof.Pre_finite2

@[expose] public section

set_option maxRecDepth 16384

/- The SwiGLU mixer's gradients on one row, over the extended reals, and the two forms of them. -/

noncomputable section

namespace Cert.Mixer

open Idealize.ShloMosaic

/-- An extended real that is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩
theorem IsReal.sub {x y : EReal} : IsReal x → IsReal y → IsReal (x - y) := by
  rintro ⟨a, rfl⟩ ⟨b, rfl⟩; exact ⟨a - b, (EReal.coe_sub a b).symm⟩
theorem IsReal.mul {x y : EReal} : IsReal x → IsReal y → IsReal (x * y) := by
  rintro ⟨a, rfl⟩ ⟨b, rfl⟩; exact ⟨a * b, (EReal.coe_mul a b).symm⟩
theorem IsReal.one : IsReal 1 := ⟨1, rfl⟩
theorem IsReal.logistic {x : EReal} : IsReal x → IsReal (Ideal.logistic x) := by
  rintro ⟨a, rfl⟩; exact ⟨_, Ideal.logistic_coe a⟩
theorem IsReal.sum {n : ℕ} {f : Fin n → EReal} (h : ∀ j, IsReal (f j)) : IsReal (∑ j, f j) := by
  choose r hr using h
  exact ⟨∑ j, r j, (Finset.sum_congr rfl fun j _ => hr j).trans (Scan.coe_sum r).symm⟩

theorem width_word : Ideal.ofBits FTy.f32 0x44800000#32 = ((1024 : ℝ) : EReal) := by
  simp [Ideal.ofBits, Ideal.ieee]; rw [← EReal.coe_mul]; norm_num
theorem half_word : Ideal.ofBits FTy.f32 0xBF000000#32 = ((-(1 / 2) : ℝ) : EReal) := by
  simp [Ideal.ofBits, Ideal.ieee]; rw [← EReal.coe_mul]; norm_num
theorem eps_word : ∃ e : ℝ, 0 < e ∧ Ideal.ofBits FTy.f32 0x358637BD#32 = (e : EReal) := by
  refine ⟨_, ?_, by simp [Ideal.ofBits, Ideal.ieee]; rfl⟩
  norm_num

/-- A factor that is a real number, not negative, may be drawn out of a sum, and any real factor out of a double. -/
theorem scale_add {c : ℝ} (hc : 0 ≤ c) (x y : EReal) : (c : EReal) * (x + y) = c * x + c * y :=
  EReal.left_distrib_of_nonneg_of_ne_top (by exact_mod_cast hc) (EReal.coe_ne_top c) x y
theorem scale_sum {c : ℝ} (hc : 0 ≤ c) {n : ℕ} (f : Fin n → EReal) : (c : EReal) * ∑ j, f j = ∑ j, (c : EReal) * f j :=
  map_sum (⟨⟨fun x => (c : EReal) * x, mul_zero _⟩, scale_add hc⟩ : EReal →+ EReal) f Finset.univ
theorem double (x : EReal) : x + x = x * ((2 : ℝ) : EReal) := by
  induction x with
  | bot => rw [EReal.bot_mul_coe_of_pos (by norm_num)]; rfl
  | top => rw [EReal.top_mul_coe_of_pos (by norm_num)]; rfl
  | coe a => rw [← EReal.coe_add, ← EReal.coe_mul]; congr 1; ring

/-- A square is not negative, and is infinite with its root. -/
theorem square_nonneg (x : EReal) : 0 ≤ x * x := by
  induction x with
  | bot => rw [EReal.bot_mul_bot]; exact le_top
  | top => rw [EReal.top_mul_top]; exact le_top
  | coe a => exact_mod_cast mul_self_nonneg a
theorem square_top {x : EReal} (h : ¬IsReal x) : x * x = ⊤ := by
  induction x with
  | bot => exact EReal.bot_mul_bot
  | top => exact EReal.top_mul_top
  | coe a => exact absurd ⟨a, rfl⟩ h

/-- The mean square of a row, kept off zero. -/
def mean (x : Fin 1024 → EReal) : EReal :=
  Ideal.div (∑ j, x j * x j) (Ideal.ofBits FTy.f32 0x44800000#32) + Ideal.ofBits FTy.f32 0x358637BD#32

theorem div_width (x : EReal) : Ideal.div x (Ideal.ofBits FTy.f32 0x44800000#32) = x * ((1 / 1024 : ℝ) : EReal) := by
  rw [width_word, Ideal.div_coe (by norm_num)]

/-- Of a row of real numbers the mean is a positive real and the root is the reciprocal of its square root. -/
theorem root_of (x : Fin 1024 → EReal) (h : ∀ j, IsReal (x j)) :
    ∃ v : ℝ, 0 < v ∧ mean x = (v : EReal) ∧ root x = (((Real.sqrt v)⁻¹ : ℝ) : EReal) := by
  choose r hr using h
  obtain ⟨e, he, hw⟩ := eps_word
  have hm : mean x = (((∑ j, r j * r j) * (1 / 1024) + e : ℝ) : EReal) := by
    unfold mean
    rw [div_width, hw, show (∑ j, x j * x j) = ((∑ j, r j * r j : ℝ) : EReal) from
      (Finset.sum_congr rfl fun j _ => by rw [hr j, ← EReal.coe_mul]).trans (Scan.coe_sum _).symm, ← EReal.coe_mul, ← EReal.coe_add]
  have hp : 0 < (∑ j, r j * r j) * (1 / 1024) + e :=
    add_pos_of_nonneg_of_pos (mul_nonneg (Finset.sum_nonneg fun j _ => mul_self_nonneg _) (by norm_num)) he
  refine ⟨_, hp, hm, ?_⟩
  show Ideal.rsqrt (mean x) = _
  rw [hm, Ideal.rsqrt_coe, if_neg (not_lt.mpr hp.le), if_neg hp.ne']

/-- Of a row with an infinite entry the mean is infinite and the root zero. -/
theorem root_zero (x : Fin 1024 → EReal) (h : ¬∀ j, IsReal (x j)) : mean x = ⊤ ∧ root x = 0 := by
  obtain ⟨j, hj⟩ := not_forall.mp h
  have hs : (∑ j, x j * x j) = ⊤ := by
    rw [← Finset.add_sum_erase _ _ (Finset.mem_univ j), square_top hj]
    exact EReal.top_add_of_ne_bot (ne_bot_of_le_ne_bot (by simp) (Finset.sum_nonneg fun l _ => square_nonneg (x l)))
  obtain ⟨e, -, hw⟩ := eps_word
  have hm : mean x = ⊤ := by
    unfold mean
    rw [div_width, hs, hw, EReal.top_mul_coe_of_pos (by norm_num)]
    rfl
  refine ⟨hm, ?_⟩
  show Ideal.rsqrt (mean x) = _
  rw [hm]
  rfl

/-- The gradient with respect to the activation. -/
def back (dy : Fin 1024 → EReal) (wd : Fin 2816 → Fin 1024 → EReal) (f : Fin 2816) : EReal := ∑ q, dy q * wd f q

/-- The gradient with respect to the gate, from that with respect to the activation: silu's slope in closed form, and term by term. -/
def slope (gate up d : EReal) : EReal := d * up * (Ideal.logistic gate * (1 + gate * (1 - Ideal.logistic gate)))
def slopeBy (gate up d : EReal) : EReal :=
  d * up * Ideal.logistic gate + gate * (d * up) * (Ideal.logistic gate * (1 - Ideal.logistic gate))

theorem slope_eq {gate up d : EReal} (hu : IsReal up) (hd : IsReal d) : slopeBy gate up d = slope gate up d := by
  unfold slope slopeBy
  induction gate with
  | bot =>
    have h : Ideal.logistic ⊥ = 0 := by
      unfold Ideal.logistic
      rw [EReal.neg_bot, show Ideal.exp ⊤ = ⊤ from rfl, show (1 : EReal) + ⊤ = ⊤ from EReal.coe_add_top 1]
      simp [Ideal.div]
    rw [h]
    simp
  | top =>
    have h : Ideal.logistic ⊤ = 1 := by
      unfold Ideal.logistic
      rw [EReal.neg_top, show Ideal.exp ⊥ = 0 from rfl, add_zero]
      simp [Ideal.div]
    have h' : (1 : EReal) - 1 = 0 := by rw [← EReal.coe_one, ← EReal.coe_sub, sub_self, EReal.coe_zero]
    rw [h, h']
    simp
  | coe a =>
    obtain ⟨s, hs⟩ := IsReal.logistic ⟨a, rfl⟩
    obtain ⟨b, rfl⟩ := hu
    obtain ⟨c, rfl⟩ := hd
    rw [hs]
    exact_mod_cast (by ring : c * b * s + a * (c * b) * (s * (1 - s)) = c * b * (s * (1 + a * (1 - s))))

/-- The gradient with respect to up. -/
def lift (gate d : EReal) : EReal := d * (gate * Ideal.logistic gate)

section Row
variable (x dy g : Fin 1024 → EReal) (wg wu : Fin 1024 → Fin 2816 → EReal) (wd : Fin 2816 → Fin 1024 → EReal)

def dgate (f : Fin 2816) : EReal := slope (proj x g wg f) (proj x g wu f) (back dy wd f)
def dup (f : Fin 2816) : EReal := lift (proj x g wg f) (back dy wd f)

/-- The gradient with respect to the normed row. -/
def dnorm (k : Fin 1024) : EReal := ∑ f, dup x dy g wg wd f * wu k f + ∑ f, dgate x dy g wg wu wd f * wg k f

/-- A row's share of the gradient with respect to the gain. -/
def dgain (k : Fin 1024) : EReal := dnorm x dy g wg wu wd k * x k * root x

end Row

/-- The gradient with respect to the row, from that with respect to the normed row: in closed form, and term by term. -/
def dx (x dy g d : Fin 1024 → EReal) (q : Fin 1024) : EReal :=
  dy q + (root x * (d q * g q)
    - x q * (root x * root x * root x) * Ideal.div (∑ j, d j * g j * x j) (Ideal.ofBits FTy.f32 0x44800000#32))

def pull (x g d : Fin 1024 → EReal) : EReal :=
  Ideal.div ((∑ j, x j * (d j * g j)) * (Ideal.ofBits FTy.f32 0xBF000000#32 * Ideal.div (root x) (mean x))) (Ideal.ofBits FTy.f32 0x44800000#32)

def dxBy (x dy g d : Fin 1024 → EReal) (q : Fin 1024) : EReal :=
  dy q + d q * g q * root x + x q * pull x g d + pull x g d * x q

theorem dx_eq (x dy g d : Fin 1024 → EReal) (q : Fin 1024) : dxBy x dy g d q = dx x dy g d q := by
  have hs : (∑ j, x j * (d j * g j)) = ∑ j, d j * g j * x j := Finset.sum_congr rfl fun j _ => mul_comm _ _
  unfold dxBy dx pull
  rw [hs]
  generalize (∑ j, d j * g j * x j) = S
  by_cases hx : ∀ j, IsReal (x j)
  · obtain ⟨v, hv, hm, hr⟩ := root_of x hx
    obtain ⟨a, ha⟩ := hx q
    rw [hm, hr, ha, half_word, div_width, div_width, Ideal.div_coe hv.ne']
    have hw : (Real.sqrt v)⁻¹ * (1 / v) = (Real.sqrt v)⁻¹ * (Real.sqrt v)⁻¹ * (Real.sqrt v)⁻¹ := by
      have := Real.mul_self_sqrt hv.le
      rw [show 1 / v = (Real.sqrt v)⁻¹ * (Real.sqrt v)⁻¹ by rw [← mul_inv, this, one_div], mul_assoc]
    generalize (Real.sqrt v)⁻¹ = r at hw ⊢
    have h1 : S * (((-(1 / 2) : ℝ) : EReal) * ((r : EReal) * ((1 / v : ℝ) : EReal))) * ((1 / 1024 : ℝ) : EReal) * (a : EReal)
        = S * ((-(1 / 2) * (r * (1 / v)) * (1 / 1024) * a : ℝ) : EReal) := by
      simp only [EReal.coe_mul]; ac_rfl
    have h2 : (a : EReal) * ((r : EReal) * r * r) * (S * ((1 / 1024 : ℝ) : EReal)) = S * ((a * (r * r * r) * (1 / 1024) : ℝ) : EReal) := by
      simp only [EReal.coe_mul]; ac_rfl
    rw [mul_comm (a : EReal) (S * _ * _), h1, h2, add_assoc, double, mul_assoc S, ← EReal.coe_mul, sub_eq_add_neg, ← mul_neg, ← EReal.coe_neg,
      ← add_assoc, mul_comm (r : EReal)]
    congr 4
    linear_combination (-(a / 1024)) * hw
  · obtain ⟨hm, hr⟩ := root_zero x hx
    rw [hm, hr, show Ideal.div 0 ⊤ = 0 by simp [Ideal.div], mul_zero, mul_zero, div_width, zero_mul]
    simp

section Closed
variable (x dy g : Fin 1024 → EReal) (wu : Fin 1024 → Fin 2816 → EReal) (wd : Fin 2816 → Fin 1024 → EReal)
variable (hy : ∀ j, IsReal (dy j)) (hg : ∀ j, IsReal (g j)) (hwu : ∀ k f, IsReal (wu k f)) (hwd : ∀ f q, IsReal (wd f q))
include hg in
theorem norm_real (k : Fin 1024) : IsReal (norm x g k) := by
  by_cases hx : ∀ j, IsReal (x j)
  · obtain ⟨v, -, -, hr⟩ := root_of x hx
    exact ((hx k).mul ⟨_, hr⟩).mul (hg k)
  · refine ⟨0, ?_⟩
    unfold norm
    rw [(root_zero x hx).2, mul_zero, zero_mul]
    rfl
include hg hwu in
theorem proj_real (f : Fin 2816) : IsReal (proj x g wu f) := IsReal.sum fun k => (norm_real x g hg k).mul (hwu k f)
include hy hwd in
theorem back_real (f : Fin 2816) : IsReal (back dy wd f) := IsReal.sum fun q => (hy q).mul (hwd f q)
end Closed

/-- The two halves of the 2816 columns. -/
def lo (f : Fin 1408) : Fin 2816 := ⟨f.val, by omega⟩
def hi (f : Fin 1408) : Fin 2816 := ⟨1408 + f.val, by omega⟩

theorem sum_halves (F : Fin 2816 → EReal) : ∑ f, F f = ∑ f, F (lo f) + ∑ f, F (hi f) :=
  Fin.sum_univ_add (a := 1408) (b := 1408) F

theorem halves (A B : Fin 2816 → EReal) :
    (((0 + ∑ f, B (lo f)) + ∑ f, A (lo f)) + ∑ f, B (hi f)) + ∑ f, A (hi f) = ∑ f, A f + ∑ f, B f := by
  rw [sum_halves A, sum_halves B, zero_add]
  abel

/-- A column is of the first half or of the second. -/
theorem half_cases (f : Fin 2816) : (∃ h, f = lo h) ∨ ∃ h, f = hi h := by
  by_cases h : f.val < 1408
  · exact Or.inl ⟨⟨f.val, h⟩, rfl⟩
  · exact Or.inr ⟨⟨f.val - 1408, by omega⟩, Fin.ext (by show f.val = 1408 + (f.val - 1408); omega)⟩

/-- Sixteen blocks of 256 rows. -/
theorem sum_blocks (F : Fin 4096 → EReal) :
    ∑ r, F r = ∑ t : Fin 16, ∑ p : Fin 256, F ⟨256 * t.val + p.val, by omega⟩ := by
  refine ((finProdFinEquiv (m := 16) (n := 256)).sum_comp F).symm.trans (Eq.trans ?_
    (Fintype.sum_prod_type fun z : Fin 16 × Fin 256 => F ⟨256 * z.1.val + z.2.val, by omega⟩))
  refine Finset.sum_congr rfl fun z _ => congrArg F (Fin.ext ?_)
  show z.2.val + 256 * z.1.val = 256 * z.1.val + z.2.val
  omega

end Cert.Mixer

namespace Cert.Pre_finite2

open Idealize.ShloMosaic

theorem facts : Facts where
  bcast_S_S4096x1024 := by decide
  bcast_S_S1x1024 := by decide
  bitsLt_bf16_f32 := by decide
  bcast_S_S1024x2816 := by decide
  bcast_S_S2816x1024 := by decide

section
variable [Facts] (x0 x1 : FVec Ideal S4096x1024 .f32) (x2 : FVec Ideal S1x1024 .f32)
  (x3 x4 : FVec Ideal S1024x2816 .bf16) (x5 : FVec Ideal S2816x1024 .bf16)

theorem real0 (h : (fn x0 x1 x2 x3 x4 x5).1 = fun _ => 1#1) (i) : Mixer.IsReal (x1 i) := ⟨_, Scan.real_of _ (congrFun h i)⟩
theorem real1 (h : (fn x0 x1 x2 x3 x4 x5).2.1 = fun _ => 1#1) (i) : Mixer.IsReal (x2 i) := ⟨_, Scan.real_of _ (congrFun h i)⟩
theorem real2 (h : (fn x0 x1 x2 x3 x4 x5).2.2.1 = fun _ => 1#1) (i) : Mixer.IsReal (x4 i) := ⟨_, Scan.real_of _ (congrFun h i)⟩
theorem real3 (h : (fn x0 x1 x2 x3 x4 x5).2.2.2 = fun _ => 1#1) (i) : Mixer.IsReal (x5 i) := ⟨_, Scan.real_of _ (congrFun h i)⟩

end

end Cert.Pre_finite2

end
-- ==== Proof.KFfnPieces.lean ====
module

public import proofs.«01_k».proof.Defs
public import proofs.«01_k».proof.Proof.Gen.Kernel2Ideal.Value
public import Idealize.ShloMosaic.Lib.Pointwise
public import Idealize.ShloMosaic.Lib.ValueIdx
public import Idealize.ShloMosaic.Lib.Pipeline.ValueKit.Tiles

@[expose] public section

set_option maxRecDepth 16384

/- The SwiGLU mixer's backward call: what each point stores. -/

noncomputable section

namespace Cert.Kernel2Ideal.FfnBwd

open Cert.Kernel2Ideal Cert.Kernel2Ideal.Gen Cert.Kernel2Ideal.Value
open Idealize.ShloMosaic Idealize.ShloMosaic.TcCoe Idealize.ShloMosaic.Tactic Idealize.SL.Sem

theorem hz : (![0, 0] : Fin 2 → Nat) = fun _ => 0 := funext fun a => by fin_cases a <;> rfl

section Stored
variable {F : FTy → Type} [FloatOps F]

/-- The halves of the weights a point loads. -/
def dlo (w : Vec F S2816x1024 .bf16) : Vec F S1408x1024 .bf16 :=
  View.ld (S := S2816x1024) w (Rect.unit (s := S2816x1024) ![0, 0] S1408x1024.size inb_S2816x1024_S1408x1024_0_0)
def dhi (w : Vec F S2816x1024 .bf16) : Vec F S1408x1024 .bf16 :=
  View.ld (S := S2816x1024) w (Rect.unit (s := S2816x1024) ![1408, 0] S1408x1024.size inb_S2816x1024_S1408x1024_1408_0)
def clo (w : Vec F S1024x2816 .bf16) : Vec F S1024x1408 .bf16 :=
  View.ld (S := S1024x2816) w (Rect.unit (s := S1024x2816) ![0, 0] S1024x1408.size inb_S1024x2816_S1024x1408_0_0)
def chi (w : Vec F S1024x2816 .bf16) : Vec F S1024x1408 .bf16 :=
  View.ld (S := S1024x2816) w (Rect.unit (s := S1024x2816) ![0, 1408] S1024x1408.size inb_S1024x2816_S1024x1408_0_1408)

variable (x0 x1 : Vec F S256x1024 .f32) (x2 x3 : Vec F S256x2816 .bf16) (x4 : Vec F S1x1024 .f32)
  (x5 x6 : Vec F S1024x2816 .bf16) (x7 : Vec F S2816x1024 .bf16)

def grad : FVec F S256x1024 .f32 :=
  k0_pay29 (k0_pay7 x2) (k0_pay8 x3) (k0_pay11 x1) k0_pay12 (k0_pay18 x1 x2 x3 (dlo x7)) (k0_pay19 x1 x2 (dlo x7)) (clo x5) (clo x6) (dhi x7) (chi x5) (chi x6)

def grad' : FVec F S256x1024 .f32 :=
  k0_pay31 (k0_pay7 x2) (k0_pay8 x3) (k0_pay11 x1) k0_pay12 (k0_pay18 x1 x2 x3 (dlo x7)) (k0_pay19 x1 x2 (dlo x7)) (clo x5) (clo x6) (dhi x7) (chi x5) (chi x6) x4

def grad'' : FVec F S256x1024 .f32 :=
  k0_pay32 (k0_pay7 x2) (k0_pay8 x3) (k0_pay9 x0) (k0_pay11 x1) k0_pay12 (k0_pay18 x1 x2 x3 (dlo x7)) (k0_pay19 x1 x2 (dlo x7)) (clo x5) (clo x6) (dhi x7) (chi x5) (chi x6) x4

/-- What a point stores in each of its results' blocks. -/
def s8 : Vec F S256x1024 .f32 := k0_pay2 x0 x1 (k0_pay9 x0) (grad' x1 x2 x3 x4 x5 x6 x7) (grad'' x0 x1 x2 x3 x4 x5 x6 x7)
def s9 : Vec F S256x1024 .bf16 := k0_pay10 x0 x4
def s10 : Vec F S256x2816 .bf16 := k0_pay3 (k0_pay21 (k0_pay14 x3) (k0_pay16 x2)) (k0_pay30 (k0_pay7 x2) (k0_pay8 x3))
def s11 : Vec F S256x2816 .bf16 := k0_pay4 (k0_pay18 x1 x2 x3 (dlo x7)) (k0_pay27 (k0_pay7 x2) (k0_pay8 x3) (k0_pay11 x1) (dhi x7))
def s12 : Vec F S256x2816 .bf16 := k0_pay5 (k0_pay20 (k0_pay19 x1 x2 (dlo x7))) (k0_pay28 (k0_pay7 x2) (k0_pay11 x1) (dhi x7))
def s13 : Vec F S1x1024 .f32 := k0_pay1 x0 (k0_pay9 x0) (grad x1 x2 x3 x5 x6 x7)
def t13 (z : Vec F S1x1024 .f32) : Vec F S1x1024 .f32 := k0_pay6 x0 (k0_pay9 x0) (grad x1 x2 x3 x5 x6 x7) z

-- Any memrefs a point may run on.
variable (c : Dev nD) (i : grid0.Coords)
  (a1 : Memref sig .tc .vmem S256x1024 .f32) (h1 : a1.IsWhole)
  (a2 : Memref sig .tc .vmem S256x1024 .f32) (h2 : a2.IsWhole)
  (a3 : Memref sig .tc .vmem S256x2816 .bf16) (h3 : a3.IsWhole)
  (a4 : Memref sig .tc .vmem S256x2816 .bf16) (h4 : a4.IsWhole)
  (a5 : Memref sig .tc .vmem S1x1024 .f32) (h5 : a5.IsWhole)
  (a6 : Memref sig .tc .vmem S1024x2816 .bf16) (h6 : a6.IsWhole)
  (a7 : Memref sig .tc .vmem S1024x2816 .bf16) (h7 : a7.IsWhole)
  (a8 : Memref sig .tc .vmem S2816x1024 .bf16) (h8 : a8.IsWhole)
  (a9 : Memref sig .tc .vmem S256x1024 .f32) (h9 : a9.IsWhole)
  (a10 : Memref sig .tc .vmem S256x1024 .bf16) (h10 : a10.IsWhole)
  (a11 : Memref sig .tc .vmem S256x2816 .bf16) (h11 : a11.IsWhole)
  (a12 : Memref sig .tc .vmem S256x2816 .bf16) (h12 : a12.IsWhole)
  (a13 : Memref sig .tc .vmem S256x2816 .bf16) (h13 : a13.IsWhole)
  (a14 : Memref sig .tc .vmem S1x1024 .f32) (h14 : a14.IsWhole)

theorem pieceA8 (hc0 : cond0_0 i) (hc1 : ¬cond0_1 i) :
    out0_A_8 c i a1 h1 a2 h2 a3 h3 a4 h4 a5 h5 a6 h6 a7 h7 a8 h8 a9 h9 a10 h10 a11 h11 a12 h12 a13 h13 a14 h14 hc0 hc1 x0 x1 x2 x3 x4 x5 x6 x7 = s8 x0 x1 x2 x3 x4 x5 x6 x7 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s8 grad' grad'' dlo dhi clo chi
  rfl

theorem pieceA9 (hc0 : cond0_0 i) (hc1 : ¬cond0_1 i) :
    out0_A_9 c i a1 h1 a2 h2 a3 h3 a4 h4 a5 h5 a6 h6 a7 h7 a8 h8 a9 h9 a10 h10 a11 h11 a12 h12 a13 h13 a14 h14 hc0 hc1 x0 x1 x2 x3 x4 x5 x6 x7 = s9 x0 x4 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  rfl

theorem pieceA10 (hc0 : cond0_0 i) (hc1 : ¬cond0_1 i) :
    out0_A_10 c i a1 h1 a2 h2 a3 h3 a4 h4 a5 h5 a6 h6 a7 h7 a8 h8 a9 h9 a10 h10 a11 h11 a12 h12 a13 h13 a14 h14 hc0 hc1 x0 x1 x2 x3 x4 x5 x6 x7 = s10 x2 x3 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s10
  rfl

theorem pieceA11 (hc0 : cond0_0 i) (hc1 : ¬cond0_1 i) :
    out0_A_11 c i a1 h1 a2 h2 a3 h3 a4 h4 a5 h5 a6 h6 a7 h7 a8 h8 a9 h9 a10 h10 a11 h11 a12 h12 a13 h13 a14 h14 hc0 hc1 x0 x1 x2 x3 x4 x5 x6 x7 = s11 x1 x2 x3 x7 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s11 dlo dhi
  rfl

theorem pieceA12 (hc0 : cond0_0 i) (hc1 : ¬cond0_1 i) :
    out0_A_12 c i a1 h1 a2 h2 a3 h3 a4 h4 a5 h5 a6 h6 a7 h7 a8 h8 a9 h9 a10 h10 a11 h11 a12 h12 a13 h13 a14 h14 hc0 hc1 x0 x1 x2 x3 x4 x5 x6 x7 = s12 x1 x2 x7 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s12 dlo dhi
  rfl

theorem pieceA13 (hc0 : cond0_0 i) (hc1 : ¬cond0_1 i) :
    out0_A_13 c i a1 h1 a2 h2 a3 h3 a4 h4 a5 h5 a6 h6 a7 h7 a8 h8 a9 h9 a10 h10 a11 h11 a12 h12 a13 h13 a14 h14 hc0 hc1 x0 x1 x2 x3 x4 x5 x6 x7 = s13 x0 x1 x2 x3 x5 x6 x7 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s13 grad dlo dhi clo chi
  rfl

theorem pieceB8 (hc0 : ¬cond0_0 i) (hc1 : cond0_1 i) (z : Vec F S1x1024 .f32) :
    out0_B_8 c i a1 h1 a2 h2 a3 h3 a4 h4 a5 h5 a6 h6 a7 h7 a8 h8 a9 h9 a10 h10 a11 h11 a12 h12 a13 h13 a14 h14 hc0 hc1 x0 x1 x2 x3 x4 x5 x6 x7 z = s8 x0 x1 x2 x3 x4 x5 x6 x7 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc0 hc1 x0 x1 x2 x3 x4 x5 x6 x7 z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s8 grad' grad'' dlo dhi clo chi
  rfl

theorem pieceB9 (hc0 : ¬cond0_0 i) (hc1 : cond0_1 i) (z : Vec F S1x1024 .f32) :
    out0_B_9 c i a1 h1 a2 h2 a3 h3 a4 h4 a5 h5 a6 h6 a7 h7 a8 h8 a9 h9 a10 h10 a11 h11 a12 h12 a13 h13 a14 h14 hc0 hc1 x0 x1 x2 x3 x4 x5 x6 x7 z = s9 x0 x4 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc0 hc1 x0 x1 x2 x3 x4 x5 x6 x7 z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  rfl

theorem pieceB10 (hc0 : ¬cond0_0 i) (hc1 : cond0_1 i) (z : Vec F S1x1024 .f32) :
    out0_B_10 c i a1 h1 a2 h2 a3 h3 a4 h4 a5 h5 a6 h6 a7 h7 a8 h8 a9 h9 a10 h10 a11 h11 a12 h12 a13 h13 a14 h14 hc0 hc1 x0 x1 x2 x3 x4 x5 x6 x7 z = s10 x2 x3 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc0 hc1 x0 x1 x2 x3 x4 x5 x6 x7 z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s10
  rfl

theorem pieceB11 (hc0 : ¬cond0_0 i) (hc1 : cond0_1 i) (z : Vec F S1x1024 .f32) :
    out0_B_11 c i a1 h1 a2 h2 a3 h3 a4 h4 a5 h5 a6 h6 a7 h7 a8 h8 a9 h9 a10 h10 a11 h11 a12 h12 a13 h13 a14 h14 hc0 hc1 x0 x1 x2 x3 x4 x5 x6 x7 z = s11 x1 x2 x3 x7 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc0 hc1 x0 x1 x2 x3 x4 x5 x6 x7 z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s11 dlo dhi
  rfl

theorem pieceB12 (hc0 : ¬cond0_0 i) (hc1 : cond0_1 i) (z : Vec F S1x1024 .f32) :
    out0_B_12 c i a1 h1 a2 h2 a3 h3 a4 h4 a5 h5 a6 h6 a7 h7 a8 h8 a9 h9 a10 h10 a11 h11 a12 h12 a13 h13 a14 h14 hc0 hc1 x0 x1 x2 x3 x4 x5 x6 x7 z = s12 x1 x2 x7 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc0 hc1 x0 x1 x2 x3 x4 x5 x6 x7 z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S256x1024) hz, View.ld_unit_zero (S := S256x2816) hz, View.ld_unit_zero (S := S1x1024) hz, View.ld_unit_zero (S := S1024x2816) hz, View.ld_unit_zero (S := S2816x1024) hz]
  unfold s12 dlo dhi
  rfl

theorem pieceB13 (hc0 : ¬cond0_0 i) (hc1 : cond0_1 i) (z : Vec F S1x1024 .f32) :
    out0_B_13 c i a1 h1 a2 h2 a3 h3 a4 h4 a5 h5 a6 h6 a7 h7 a8 h8 a9 h9 a10 h10 a11 h11 a12 h12 a13 h13 a14 h14 hc0 hc1 x0 x1 x2 x3 x4 x5 x6 x7 z = t13 x0 x1 x2 x3 x5 x6 x7 z := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc0 hc1 x0 x1 x2 x3 x4 x5 x6 x7 z)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h14.read_unread, View.ld_unit_zero (S := S256x1024) hz, View.ld_unit_zero (S := S256x2816) hz, View.ld_unit_zero (S := S1x1024) hz, View.ld_unit_zero (S := S1024x2816) hz, View.ld_unit_zero (S := S2816x1024) hz]
  unfold t13 grad dlo dhi clo chi
  rfl

end Stored

end Cert.Kernel2Ideal.FfnBwd

end
-- ==== Proof.KFfnBwd.lean ====
module

public import proofs.«01_k».proof.Defs
public import proofs.«01_k».proof.Proof.Gen.Kernel2Ideal.Value
public import proofs.«01_k».proof.Proof.MixerBwd
public import proofs.«01_k».proof.Proof.KFfnPieces
public import Idealize.ShloMosaic.Lib.Pointwise
public import Idealize.ShloMosaic.Lib.Tactic.CleanTypes
public import Idealize.ShloMosaic.Lib.ValueIdx
public import Idealize.ShloMosaic.Lib.Pipeline.ValueKit.Tiles

@[expose] public section

set_option maxRecDepth 16384

/- The SwiGLU mixer's backward call: its results row by row. -/

noncomputable section

namespace Cert.Kernel2Ideal.FfnBwd

open Cert.Kernel2Ideal Cert.Kernel2Ideal.Gen Cert.Kernel2Ideal.Value
open Idealize.ShloMosaic Idealize.ShloMosaic.TcCoe Idealize.ShloMosaic.Tactic Idealize.SL.Sem

section Halves
variable (w : Vec Ideal S2816x1024 .bf16) (u : Vec Ideal S1024x2816 .bf16)

theorem dlo_at (f : Fin 1408) (q : Fin 1024) : dlo w (ix2 f q) = w (ix2 (Mixer.lo f) q) :=
  View.ld_unit_apply_of w _ _ _ _ _ fun a => match a with
    | ⟨0, _⟩ => by show f.val = 0 + f.val; omega
    | ⟨1, _⟩ => by show q.val = 0 + q.val; omega
theorem dhi_at (f : Fin 1408) (q : Fin 1024) : dhi w (ix2 f q) = w (ix2 (Mixer.hi f) q) :=
  View.ld_unit_apply_of w _ _ _ _ _ fun a => match a with
    | ⟨0, _⟩ => by show 1408 + f.val = 1408 + f.val; omega
    | ⟨1, _⟩ => by show q.val = 0 + q.val; omega
theorem clo_at (k : Fin 1024) (f : Fin 1408) : clo u (ix2 k f) = u (ix2 k (Mixer.lo f)) :=
  View.ld_unit_apply_of u _ _ _ _ _ fun a => match a with
    | ⟨0, _⟩ => by show k.val = 0 + k.val; omega
    | ⟨1, _⟩ => by show f.val = 0 + f.val; omega
theorem chi_at (k : Fin 1024) (f : Fin 1408) : chi u (ix2 k f) = u (ix2 k (Mixer.hi f)) :=
  View.ld_unit_apply_of u _ _ _ _ _ fun a => match a with
    | ⟨0, _⟩ => by show k.val = 0 + k.val; omega
    | ⟨1, _⟩ => by show 1408 + f.val = 1408 + f.val; omega

end Halves

section Payloads
variable (x0 x1 : Vec Ideal S256x1024 .f32) (x2 x3 : Vec Ideal S256x2816 .bf16) (x4 : Vec Ideal S1x1024 .f32)
  (x5 x6 : Vec Ideal S1024x2816 .bf16) (x7 : Vec Ideal S2816x1024 .bf16)

theorem root_at (p : Fin 256) : (k0_pay9 x0) (ix2 p 0) = Mixer.root (fun j => x0 (ix2 p j)) := by
  unfold Mixer.root
  pointwise! [k0_pay9]

theorem norm_at (p : Fin 256) (k : Fin 1024) :
    (s9 x0 x4) (ix2 p k) = Mixer.norm (fun j => x0 (ix2 p j)) (fun j => x4 (ix2 0 j)) k := by
  unfold Mixer.norm Mixer.root
  pointwise! [s9, k0_pay10, k0_pay9]

theorem gate_lo (p : Fin 256) (f : Fin 1408) : (k0_pay13 x2) (ix2 p f) = x2 (ix2 p (Mixer.lo f)) := by
  unfold Mixer.lo
  pointwise! [k0_pay13, k0_pay7]
theorem up_lo (p : Fin 256) (f : Fin 1408) : (k0_pay14 x3) (ix2 p f) = x3 (ix2 p (Mixer.lo f)) := by
  unfold Mixer.lo
  pointwise! [k0_pay14, k0_pay8]
theorem gate_hi (p : Fin 256) (f : Fin 1408) : (k0_pay22 (k0_pay7 x2)) (ix2 p f) = x2 (ix2 p (Mixer.hi f)) := by
  unfold Mixer.hi
  pointwise! [k0_pay22, k0_pay7]
theorem up_hi (p : Fin 256) (f : Fin 1408) : (k0_pay23 (k0_pay8 x3)) (ix2 p f) = x3 (ix2 p (Mixer.hi f)) := by
  unfold Mixer.hi
  pointwise! [k0_pay23, k0_pay8]

/-- Row `p` of the gradient's block, and the weights' rows, as functions. -/
def dn (w : Vec Ideal S2816x1024 .bf16) : Fin 2816 → Fin 1024 → EReal := fun f q => w (ix2 f q)

theorem back_lo (p : Fin 256) (f : Fin 1408) :
    (k0_pay17 x1 (dlo x7)) (ix2 p f) = Mixer.back (fun q => x1 (ix2 p q)) (dn x7) (Mixer.lo f) := by
  refine Eq.trans (b := ∑ q : Fin 1024, x1 (ix2 p q) * dlo x7 (ix2 f q)) (by pointwise! [k0_pay17, k0_pay11]) ?_
  exact Finset.sum_congr rfl fun q _ => Ideal.mul_congr rfl (dlo_at x7 f q)
theorem back_hi (p : Fin 256) (f : Fin 1408) :
    (k0_pay26 (k0_pay11 x1) (dhi x7)) (ix2 p f) = Mixer.back (fun q => x1 (ix2 p q)) (dn x7) (Mixer.hi f) := by
  refine Eq.trans (b := ∑ q : Fin 1024, x1 (ix2 p q) * dhi x7 (ix2 f q)) (by pointwise! [k0_pay26, k0_pay11]) ?_
  exact Finset.sum_congr rfl fun q _ => Ideal.mul_congr rfl (dhi_at x7 f q)

theorem dgate_lo (p : Fin 256) (f : Fin 1408) :
    (k0_pay18 x1 x2 x3 (dlo x7)) (ix2 p f)
      = Mixer.slope (x2 (ix2 p (Mixer.lo f))) (x3 (ix2 p (Mixer.lo f))) (Mixer.back (fun q => x1 (ix2 p q)) (dn x7) (Mixer.lo f)) := by
  rw [← back_lo, ← gate_lo x2 p f, ← up_lo x3 p f]
  unfold Mixer.slope
  pointwise! [k0_pay18, k0_pay15]
theorem dgate_hi (p : Fin 256) (f : Fin 1408) :
    (k0_pay27 (k0_pay7 x2) (k0_pay8 x3) (k0_pay11 x1) (dhi x7)) (ix2 p f)
      = Mixer.slope (x2 (ix2 p (Mixer.hi f))) (x3 (ix2 p (Mixer.hi f))) (Mixer.back (fun q => x1 (ix2 p q)) (dn x7) (Mixer.hi f)) := by
  rw [← back_hi, ← gate_hi x2 p f, ← up_hi x3 p f]
  unfold Mixer.slope
  pointwise! [k0_pay27, k0_pay24]
theorem dup_lo (p : Fin 256) (f : Fin 1408) :
    (k0_pay19 x1 x2 (dlo x7)) (ix2 p f)
      = Mixer.lift (x2 (ix2 p (Mixer.lo f))) (Mixer.back (fun q => x1 (ix2 p q)) (dn x7) (Mixer.lo f)) := by
  rw [← back_lo, ← gate_lo x2 p f]
  unfold Mixer.lift
  pointwise! [k0_pay19, k0_pay16, k0_pay15]
theorem dup_hi (p : Fin 256) (f : Fin 1408) :
    (k0_pay28 (k0_pay7 x2) (k0_pay11 x1) (dhi x7)) (ix2 p f)
      = Mixer.lift (x2 (ix2 p (Mixer.hi f))) (Mixer.back (fun q => x1 (ix2 p q)) (dn x7) (Mixer.hi f)) := by
  rw [← back_hi, ← gate_hi x2 p f]
  unfold Mixer.lift
  pointwise! [k0_pay28, k0_pay25, k0_pay24]

theorem sums_at (v3 v5 : FVec Ideal S256x2816 .bf16) (v20 : FVec Ideal S256x1024 .bf16) (v21 : FVec Ideal S256x1024 .f32)
    (v38 : FVec Ideal S256x1408 .bf16) (v39 : FVec Ideal S256x1408 .f32) (v41 v44 : Vec Ideal S1024x1408 .bf16)
    (v55 : Vec Ideal S1408x1024 .bf16) (v68 v71 : Vec Ideal S1024x1408 .bf16) (p : Fin 256) (k : Fin 1024) :
    (k0_pay29 v3 v5 v20 v21 v38 v39 v41 v44 v55 v68 v71) (ix2 p k)
      = (((v21 (ix2 p k) + ∑ f : Fin 1408, v38 (ix2 p f) * v41 (ix2 k f)) + ∑ f : Fin 1408, v39 (ix2 p f) * v44 (ix2 k f))
          + ∑ f : Fin 1408, (k0_pay27 v3 v5 v20 v55) (ix2 p f) * v68 (ix2 k f))
          + ∑ f : Fin 1408, (k0_pay28 v3 v20 v55) (ix2 p f) * v71 (ix2 k f) := by
  pointwise! [k0_pay29, k0_pay20]

theorem zero_at (p : Fin 256) (k : Fin 1024) : (k0_pay12 : FVec Ideal S256x1024 .f32) (ix2 p k) = 0 := by
  pointwise! [k0_pay12]

/-- The two ways the gradient at the norm is stored again are that gradient, times the gain, and times the root. -/
theorem grad'_at (p : Fin 256) (k : Fin 1024) :
    (grad' x1 x2 x3 x4 x5 x6 x7) (ix2 p k) = (grad x1 x2 x3 x5 x6 x7) (ix2 p k) * x4 (ix2 0 k) := by
  unfold grad' grad
  generalize k0_pay7 x2 = v3
  generalize k0_pay8 x3 = v5
  generalize k0_pay11 x1 = v20
  generalize k0_pay12 (F := Ideal) = v21
  generalize k0_pay18 x1 x2 x3 (dlo x7) = v38
  generalize k0_pay19 x1 x2 (dlo x7) = v39
  pointwise! [k0_pay31]
theorem grad''_at (p : Fin 256) (k : Fin 1024) :
    (grad'' x0 x1 x2 x3 x4 x5 x6 x7) (ix2 p k)
      = (k0_pay9 x0) (ix2 p 0) * ((grad x1 x2 x3 x5 x6 x7) (ix2 p k) * x4 (ix2 0 k)) := by
  unfold grad'' grad
  generalize k0_pay7 x2 = v3
  generalize k0_pay8 x3 = v5
  generalize k0_pay11 x1 = v20
  generalize k0_pay12 (F := Ideal) = v21
  generalize k0_pay18 x1 x2 x3 (dlo x7) = v38
  generalize k0_pay19 x1 x2 (dlo x7) = v39
  generalize k0_pay9 x0 = v14
  pointwise! [k0_pay32, k0_pay31]

theorem s8_at (v14 : FVec Ideal S256x1 .f32) (v78 v80 : FVec Ideal S256x1024 .f32) (p : Fin 256) (q : Fin 1024) :
    (k0_pay2 x0 x1 v14 v78 v80) (ix2 p q)
      = x1 (ix2 p q) + (v80 (ix2 p q) - x0 (ix2 p q) * (v14 (ix2 p 0) * v14 (ix2 p 0) * v14 (ix2 p 0))
          * Ideal.div (∑ j : Fin 1024, v78 (ix2 p j) * x0 (ix2 p j)) (Ideal.ofBits .f32 0x44800000#32)) := by
  pointwise! [k0_pay2]

theorem s13_at (v14 : FVec Ideal S256x1 .f32) (v73 : FVec Ideal S256x1024 .f32) (k : Fin 1024) :
    (k0_pay1 x0 v14 v73) (ix2 0 k) = ∑ p : Fin 256, v73 (ix2 p k) * x0 (ix2 p k) * v14 (ix2 p 0) := by
  pointwise! [k0_pay1]

theorem t13_at (v14 : FVec Ideal S256x1 .f32) (v73 : FVec Ideal S256x1024 .f32) (z : Vec Ideal S1x1024 .f32) (k : Fin 1024) :
    (k0_pay6 x0 v14 v73 z) (ix2 0 k) = z (ix2 0 k) + ∑ p : Fin 256, v73 (ix2 p k) * x0 (ix2 p k) * v14 (ix2 p 0) := by
  refine Eq.trans (b := z (ix2 0 k) + k0_pay1 x0 v14 v73 (ix2 0 k)) (by pointwise! [k0_pay6]) ?_
  rw [s13_at]

theorem act_lo (v48 : FVec Ideal S256x1408 .bf16) (v75 : FVec Ideal S256x1408 .bf16) (p : Fin 256) (f : Fin 1408) :
    (k0_pay3 v48 v75) (ix2 p (Mixer.lo f)) = v48 (ix2 p f) := by
  unfold Mixer.lo
  pointwise! [k0_pay3]
theorem act_hi (v48 : FVec Ideal S256x1408 .bf16) (v75 : FVec Ideal S256x1408 .bf16) (p : Fin 256) (f : Fin 1408) :
    (k0_pay3 v48 v75) (ix2 p (Mixer.hi f)) = v75 (ix2 p f) := by
  unfold Mixer.hi
  pointwise! [k0_pay3]

/-- A matrix of weights as a function. -/
def wide (w : Vec Ideal S1024x2816 .bf16) : Fin 1024 → Fin 2816 → EReal := fun k f => w (ix2 k f)

section Rows
variable (p : Fin 256) (x g : Fin 1024 → EReal)

/-- Where row `p`'s gate and up are those of the row `x`. -/
def Has : Prop := (∀ f, x2 (ix2 p f) = Mixer.proj x g (wide x5) f) ∧ ∀ f, x3 (ix2 p f) = Mixer.proj x g (wide x6) f

variable (h : Has x2 x3 x5 x6 p x g)
include h

theorem grad_at (k : Fin 1024) :
    (grad x1 x2 x3 x5 x6 x7) (ix2 p k) = Mixer.dnorm x (fun q => x1 (ix2 p q)) g (wide x5) (wide x6) (dn x7) k := by
  unfold grad
  rw [sums_at, zero_at]
  refine Eq.trans ?_ (Mixer.halves (fun f => Mixer.dup x (fun q => x1 (ix2 p q)) g (wide x5) (dn x7) f * wide x6 k f)
    (fun f => Mixer.dgate x (fun q => x1 (ix2 p q)) g (wide x5) (wide x6) (dn x7) f * wide x5 k f))
  unfold Mixer.dup Mixer.dgate
  refine congrArg₂ (· + ·) (congrArg₂ (· + ·) (congrArg₂ (· + ·) (congrArg _ ?_) ?_) ?_) ?_
  · exact Finset.sum_congr rfl fun f _ => Ideal.mul_congr ((dgate_lo x1 x2 x3 x7 p f).trans (by rw [h.1, h.2])) (clo_at x5 k f)
  · exact Finset.sum_congr rfl fun f _ => Ideal.mul_congr ((dup_lo x1 x2 x7 p f).trans (by rw [h.1])) (clo_at x6 k f)
  · exact Finset.sum_congr rfl fun f _ => Ideal.mul_congr ((dgate_hi x1 x2 x3 x7 p f).trans (by rw [h.1, h.2])) (chi_at x5 k f)
  · exact Finset.sum_congr rfl fun f _ => Ideal.mul_congr ((dup_hi x1 x2 x7 p f).trans (by rw [h.1])) (chi_at x6 k f)

theorem row10 (f : Fin 2816) : (s10 x2 x3) (ix2 p f) = Mixer.act (Mixer.proj x g (wide x5) f) (Mixer.proj x g (wide x6) f) := by
  rw [← h.1, ← h.2]
  unfold s10
  obtain ⟨e, rfl⟩ | ⟨e, rfl⟩ := Mixer.half_cases f
  · rw [act_lo, ← gate_lo x2 p e, ← up_lo x3 p e]
    unfold Mixer.act
    pointwise! [k0_pay21, k0_pay16, k0_pay15]
  · rw [act_hi, ← gate_hi x2 p e, ← up_hi x3 p e]
    unfold Mixer.act
    pointwise! [k0_pay30, k0_pay25, k0_pay24]

theorem row11 (f : Fin 2816) :
    (s11 x1 x2 x3 x7) (ix2 p f) = Mixer.dgate x (fun q => x1 (ix2 p q)) g (wide x5) (wide x6) (dn x7) f := by
  unfold s11 Mixer.dgate
  rw [← h.1, ← h.2]
  obtain ⟨e, rfl⟩ | ⟨e, rfl⟩ := Mixer.half_cases f
  · exact (act_lo _ _ p e).trans (dgate_lo x1 x2 x3 x7 p e)
  · exact (act_hi _ _ p e).trans (dgate_hi x1 x2 x3 x7 p e)

theorem row12 (f : Fin 2816) :
    (s12 x1 x2 x7) (ix2 p f) = Mixer.dup x (fun q => x1 (ix2 p q)) g (wide x5) (dn x7) f := by
  unfold s12 Mixer.dup
  rw [← h.1]
  obtain ⟨e, rfl⟩ | ⟨e, rfl⟩ := Mixer.half_cases f
  · exact (act_lo _ _ p e).trans (dup_lo x1 x2 x7 p e)
  · exact (act_hi _ _ p e).trans (dup_hi x1 x2 x7 p e)

end Rows

theorem row8 (p : Fin 256) (h : Has x2 x3 x5 x6 p (fun j => x0 (ix2 p j)) (fun j => x4 (ix2 0 j))) (q : Fin 1024) :
    (s8 x0 x1 x2 x3 x4 x5 x6 x7) (ix2 p q)
      = Mixer.dx (fun j => x0 (ix2 p j)) (fun q => x1 (ix2 p q)) (fun j => x4 (ix2 0 j))
          (Mixer.dnorm (fun j => x0 (ix2 p j)) (fun q => x1 (ix2 p q)) (fun j => x4 (ix2 0 j)) (wide x5) (wide x6) (dn x7)) q := by
  unfold s8
  rw [s8_at, root_at, grad''_at, root_at, grad_at x1 x2 x3 x5 x6 x7 p _ _ h]
  unfold Mixer.dx
  refine congrArg _ (congrArg _ (congrArg _ (congrArg (Ideal.div · _) (Finset.sum_congr rfl fun j _ => Ideal.mul_congr ?_ rfl))))
  rw [grad'_at, grad_at x1 x2 x3 x5 x6 x7 p _ _ h]

/-- A row's share of the gradient with respect to the gain. -/
theorem row13 (p : Fin 256) (g : Fin 1024 → EReal) (h : Has x2 x3 x5 x6 p (fun j => x0 (ix2 p j)) g) (k : Fin 1024) :
    (grad x1 x2 x3 x5 x6 x7) (ix2 p k) * x0 (ix2 p k) * (k0_pay9 x0) (ix2 p 0)
      = Mixer.dgain (fun j => x0 (ix2 p j)) (fun q => x1 (ix2 p q)) g (wide x5) (wide x6) (dn x7) k := by
  rw [root_at, grad_at x1 x2 x3 x5 x6 x7 p _ _ h]
  rfl

end Payloads

section Terms
variable (x : FVec Ideal S4096x1024 .f32) (g : FVec Ideal S1x1024 .f32)

/-- What the calls before this one compute of the arguments: the RMS norm and a projection. -/
def normed : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)

def projected (w : FVec Ideal S1024x2816 .bf16) : FVec Ideal S4096x2816 .f32 :=
  Host.dotGeneral dot_S4096x1024_S1024x2816_S4096x2816_1_0_0_1_n_n none (normed x g) (extf .f32 w bitsLt_bf16_f32)

theorem normed_at (r : Fin 4096) (k : Fin 1024) :
    normed x g (ix2 r k) = Mixer.norm (fun j => x (ix2 r j)) (fun j => g (ix2 0 j)) k := by
  unfold Mixer.norm Mixer.root
  pointwise! [normed]

theorem projected_at (w : FVec Ideal S1024x2816 .bf16) (r : Fin 4096) (f : Fin 2816) :
    projected x g w (ix2 r f) = Mixer.proj (fun j => x (ix2 r j)) (fun j => g (ix2 0 j)) (fun k f => w (ix2 k f)) f := by
  refine Eq.trans (b := ∑ k : Fin 1024, normed x g (ix2 r k) * w (ix2 k f)) (by pointwise! [projected]) ?_
  exact Finset.sum_congr rfl fun k _ => Ideal.mul_congr (normed_at x g r k) rfl

end Terms

end Cert.Kernel2Ideal.FfnBwd

end
-- ==== Proof.KFfnOut.lean ====
module

public import proofs.«01_k».proof.Proof.KFfnBwd

@[expose] public section

set_option maxRecDepth 16384

/- The SwiGLU mixer's backward call: its six results, entry by entry, in terms of the arguments. -/

noncomputable section

namespace Cert.Kernel2Ideal.FfnBwd

open Cert.Kernel2Ideal Cert.Kernel2Ideal.Gen Cert.Kernel2Ideal.Value
open Idealize.ShloMosaic Idealize.ShloMosaic.TcCoe Idealize.ShloMosaic.Tactic Idealize.SL.Sem

variable (m : (ℓ : Loc nD τ sig) → Buf (Elt Ideal) ℓ)

/-- The arguments: the rows, their gradient, the gain and the weights. -/
def H (c : Dev nD) : Vec Ideal S4096x1024 .f32 := m ((c : Thread nD τ).loc main_arg0)
def D (c : Dev nD) : Vec Ideal S4096x1024 .f32 := m ((c : Thread nD τ).loc main_arg1)
def G (c : Dev nD) : Vec Ideal S1x1024 .f32 := m ((c : Thread nD τ).loc main_arg2)
def Wg (c : Dev nD) : Vec Ideal S1024x2816 .bf16 := m ((c : Thread nD τ).loc main_arg3)
def Wu (c : Dev nD) : Vec Ideal S1024x2816 .bf16 := m ((c : Thread nD τ).loc main_arg4)
def Wd (c : Dev nD) : Vec Ideal S2816x1024 .bf16 := m ((c : Thread nD τ).loc main_arg5)

theorem gates (c : Dev nD) : V m c main_v14 = truncf .bf16 (projected (H m c) (G m c) (Wg m c)) bitsLt_bf16_f32 := by
  unfold_abbrev_sides
  after_results
  rfl
theorem ups (c : Dev nD) : V m c main_v17 = truncf .bf16 (projected (H m c) (G m c) (Wu m c)) bitsLt_bf16_f32 := by
  unfold_abbrev_sides
  after_results
  rfl

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = t.val ∧ win0_8.index t (1 : Fin 2) = 0 :=
  (by decide +kernel : ∀ t : Fin grid0.N, _)
theorem at9 : ∀ t : Fin cfg0.N, win0_9.index t (0 : Fin 2) = t.val ∧ win0_9.index t (1 : Fin 2) = 0 :=
  (by decide +kernel : ∀ t : Fin grid0.N, _)
theorem at10 : ∀ t : Fin cfg0.N, win0_10.index t (0 : Fin 2) = t.val ∧ win0_10.index t (1 : Fin 2) = 0 :=
  (by decide +kernel : ∀ t : Fin grid0.N, _)
theorem at11 : ∀ t : Fin cfg0.N, win0_11.index t (0 : Fin 2) = t.val ∧ win0_11.index t (1 : Fin 2) = 0 :=
  (by decide +kernel : ∀ t : Fin grid0.N, _)
theorem at12 : ∀ t : Fin cfg0.N, win0_12.index t (0 : Fin 2) = t.val ∧ win0_12.index t (1 : Fin 2) = 0 :=
  (by decide +kernel : ∀ t : Fin grid0.N, _)
theorem at13 : ∀ t : Fin cfg0.N, win0_13.index t (0 : Fin 2) = 0 ∧ win0_13.index t (1 : Fin 2) = 0 :=
  (by decide +kernel : ∀ t : Fin grid0.N, _)

/- The blocks of rows that a point reads. -/
theorem x0_at (c : Dev nD) (t : Fin cfg0.N) (p : Fin 256) (k : Fin 1024) (h : 256 * t.val + p.val < 4096) :
    (iblk m c 0 t : Vec Ideal S256x1024 .f32) (ix2 p k) = H m c (ix2 ⟨256 * t.val + p.val, h⟩ k) := by
  unfold iblk
  rw [View.read_apply]
  show V m c main_arg0 _ = _
  rw [V_main_arg0]
  refine congrArg _ (funext fun a => Fin.ext ?_)
  match a with
  | ⟨0, _⟩ => show win0_0.index t 0 * 256 + 1 * p.val = 256 * t.val + p.val; rw [(at0 t).1]; omega
  | ⟨1, _⟩ => show win0_0.index t 1 * 1024 + 1 * k.val = k.val; rw [(at0 t).2]; omega

theorem x1_at (c : Dev nD) (t : Fin cfg0.N) (p : Fin 256) (k : Fin 1024) (h : 256 * t.val + p.val < 4096) :
    (iblk m c 1 t : Vec Ideal S256x1024 .f32) (ix2 p k) = D m c (ix2 ⟨256 * t.val + p.val, h⟩ k) := by
  unfold iblk
  rw [View.read_apply]
  show V m c main_arg1 _ = _
  rw [V_main_arg1]
  refine congrArg _ (funext fun a => Fin.ext ?_)
  match a with
  | ⟨0, _⟩ => show win0_1.index t 0 * 256 + 1 * p.val = 256 * t.val + p.val; rw [(at1 t).1]; omega
  | ⟨1, _⟩ => show win0_1.index t 1 * 1024 + 1 * k.val = k.val; rw [(at1 t).2]; omega

theorem x2_at (c : Dev nD) (t : Fin cfg0.N) (p : Fin 256) (k : Fin 2816) (h : 256 * t.val + p.val < 4096) :
    (iblk m c 2 t : Vec Ideal S256x2816 .bf16) (ix2 p k) = projected (H m c) (G m c) (Wg m c) (ix2 ⟨256 * t.val + p.val, h⟩ k) := by
  unfold iblk
  rw [View.read_apply]
  show V m c main_v14 _ = _
  rw [gates]
  refine congrArg _ (funext fun a => Fin.ext ?_)
  match a with
  | ⟨0, _⟩ => show win0_2.index t 0 * 256 + 1 * p.val = 256 * t.val + p.val; rw [(at2 t).1]; omega
  | ⟨1, _⟩ => show win0_2.index t 1 * 2816 + 1 * k.val = k.val; rw [(at2 t).2]; omega

theorem x3_at (c : Dev nD) (t : Fin cfg0.N) (p : Fin 256) (k : Fin 2816) (h : 256 * t.val + p.val < 4096) :
    (iblk m c 3 t : Vec Ideal S256x2816 .bf16) (ix2 p k) = projected (H m c) (G m c) (Wu m c) (ix2 ⟨256 * t.val + p.val, h⟩ k) := by
  unfold iblk
  rw [View.read_apply]
  show V m c main_v17 _ = _
  rw [ups]
  refine congrArg _ (funext fun a => Fin.ext ?_)
  match a with
  | ⟨0, _⟩ => show win0_3.index t 0 * 256 + 1 * p.val = 256 * t.val + p.val; rw [(at3 t).1]; omega
  | ⟨1, _⟩ => show win0_3.index t 1 * 2816 + 1 * k.val = k.val; rw [(at3 t).2]; omega

/- The other blocks are the whole arguments. -/
theorem x4_eq (c : Dev nD) (t : Fin cfg0.N) : iblk m c 4 t = G m c := by
  funext i
  unfold G iblk
  rw [View.read_apply]
  show V m c main_arg2 _ = m (c.tc.loc main_arg2) _
  rw [V_main_arg2]
  refine congrArg _ (funext fun a => Fin.ext ?_)
  match a with
  | ⟨0, _⟩ => show win0_4.index t 0 * 1 + 1 * (i 0).val = (i 0).val; rw [(at4 t).1]; omega
  | ⟨1, _⟩ => show win0_4.index t 1 * 1024 + 1 * (i 1).val = (i 1).val; rw [(at4 t).2]; omega

theorem x5_eq (c : Dev nD) (t : Fin cfg0.N) : iblk m c 5 t = Wg m c := by
  funext i
  unfold Wg iblk
  rw [View.read_apply]
  show V m c main_arg3 _ = m (c.tc.loc main_arg3) _
  rw [V_main_arg3]
  refine congrArg _ (funext fun a => Fin.ext ?_)
  match a with
  | ⟨0, _⟩ => show win0_5.index t 0 * 1024 + 1 * (i 0).val = (i 0).val; rw [(at5 t).1]; omega
  | ⟨1, _⟩ => show win0_5.index t 1 * 2816 + 1 * (i 1).val = (i 1).val; rw [(at5 t).2]; omega

theorem x6_eq (c : Dev nD) (t : Fin cfg0.N) : iblk m c 6 t = Wu m c := by
  funext i
  unfold Wu iblk
  rw [View.read_apply]
  show V m c main_arg4 _ = m (c.tc.loc main_arg4) _
  rw [V_main_arg4]
  refine congrArg _ (funext fun a => Fin.ext ?_)
  match a with
  | ⟨0, _⟩ => show win0_6.index t 0 * 1024 + 1 * (i 0).val = (i 0).val; rw [(at6 t).1]; omega
  | ⟨1, _⟩ => show win0_6.index t 1 * 2816 + 1 * (i 1).val = (i 1).val; rw [(at6 t).2]; omega

theorem x7_eq (c : Dev nD) (t : Fin cfg0.N) : iblk m c 7 t = Wd m c := by
  funext i
  unfold Wd iblk
  rw [View.read_apply]
  show V m c main_arg5 _ = m (c.tc.loc main_arg5) _
  rw [V_main_arg5]
  refine congrArg _ (funext fun a => Fin.ext ?_)
  match a with
  | ⟨0, _⟩ => show win0_7.index t 0 * 2816 + 1 * (i 0).val = (i 0).val; rw [(at7 t).1]; omega
  | ⟨1, _⟩ => show win0_7.index t 1 * 1024 + 1 * (i 1).val = (i 1).val; rw [(at7 t).2]; omega

/-- A row of the first argument and of its gradient, and the gain as a function. -/
def row (c : Dev nD) (r : Fin 4096) : Fin 1024 → EReal := fun j => H m c (ix2 r j)
def drow (c : Dev nD) (r : Fin 4096) : Fin 1024 → EReal := fun j => D m c (ix2 r j)
def gain (c : Dev nD) : Fin 1024 → EReal := fun j => G m c (ix2 0 j)

theorem lt_N (t : Fin cfg0.N) : t.val < 16 := lt_of_lt_of_eq t.isLt N_0

/-- A row number is a block's number and a row of the block. -/
theorem split (r : Fin 4096) : ∃ (t : Fin cfg0.N) (p : Fin 256) (h : 256 * t.val + p.val < 4096), r = ⟨256 * t.val + p.val, h⟩ :=
  ⟨⟨r.val / 256, by rw [show cfg0.N = 16 from N_0]; omega⟩, ⟨r.val % 256, by omega⟩, by dsimp only; omega, Fin.ext (by dsimp only; omega)⟩

section Block
variable (c : Dev nD) (t : Fin cfg0.N) (p : Fin 256) (h : 256 * t.val + p.val < 4096)

theorem rows_eq : (fun j => (iblk m c 0 t : Vec Ideal S256x1024 .f32) (ix2 p j)) = row m c ⟨256 * t.val + p.val, h⟩ :=
  funext fun j => x0_at m c t p j h
theorem drows_eq : (fun j => (iblk m c 1 t : Vec Ideal S256x1024 .f32) (ix2 p j)) = drow m c ⟨256 * t.val + p.val, h⟩ :=
  funext fun j => x1_at m c t p j h

theorem has : Has (iblk m c 2 t) (iblk m c 3 t) (Wg m c) (Wu m c) p (row m c ⟨256 * t.val + p.val, h⟩) (gain m c) :=
  ⟨fun f => (x2_at m c t p f h).trans (projected_at _ _ _ _ _), fun f => (x3_at m c t p f h).trans (projected_at _ _ _ _ _)⟩

end Block

theorem zero_of (t : Fin cfg0.N) (h : t.val % 16 = 0) : ¬1 ≤ t.val := by have := lt_N t; omega
theorem pos_of (t : Fin cfg0.N) (h : ¬t.val % 16 = 0) : 1 ≤ t.val := by omega

theorem block8 (c : Dev nD) (t : Fin cfg0.N) :
    (dats m 0 c).flushed 8 t = (cfg0.win 8).cut (grid0.coords t) (s8 (iblk m c 0 t) (iblk m c 1 t) (iblk m c 2 t) (iblk m c 3 t) (G m c) (Wg m c) (Wu m c) (Wd m c)) := by
  by_cases h0 : t.val % 16 = 0
  · refine (flushed8_A m c t h0 (zero_of t h0)).trans ?_
    rw [pieceA8, x4_eq, x5_eq, x6_eq, x7_eq]
  · refine (flushed8_B m c t h0 (pos_of t h0)).trans ?_
    rw [pieceB8, x4_eq, x5_eq, x6_eq, x7_eq]

theorem result8 (c : Dev nD) (r : Fin 4096) (q : Fin 1024) :
    ((dats m 0 c).arrAt 8 cfg0.N : Vec Ideal S4096x1024 .f32) (ix2 r q)
      = Mixer.dx (row m c r) (drow m c r) (gain m c) (Mixer.dnorm (row m c r) (drow m c r) (gain m c) (wide (Wg m c)) (wide (Wu m c)) (dn (Wd m c))) q := by
  obtain ⟨t, p, hr, rfl⟩ := split r
  have h := congrFun ((blocks8 m c t (flush0_8 t)).trans (block8 m c t)) (ix2 p q)
  refine Eq.trans (congrArg ((dats m 0 c).arrAt 8 cfg0.N) (funext fun ax => Fin.ext ?_)) (h.trans ?_)
  · symm
    match ax with
    | ⟨0, _⟩ => show win0_8.index t 0 * 256 + 1 * p.val = 256 * t.val + p.val; rw [(at8 t).1]; omega
    | ⟨1, _⟩ => show win0_8.index t 1 * 1024 + 1 * q.val = q.val; rw [(at8 t).2]; omega
  · show (s8 (iblk m c 0 t) (iblk m c 1 t) (iblk m c 2 t) (iblk m c 3 t) (G m c) (Wg m c) (Wu m c) (Wd m c)) (ix2 p q) = _
    rw [← rows_eq m c t p hr, ← drows_eq m c t p hr]
    refine row8 (iblk m c 0 t) (iblk m c 1 t) (iblk m c 2 t) (iblk m c 3 t) (G m c) (Wg m c) (Wu m c) (Wd m c) p ?_ q
    rw [rows_eq m c t p hr]
    exact has m c t p hr

theorem block9 (c : Dev nD) (t : Fin cfg0.N) :
    (dats m 0 c).flushed 9 t = (cfg0.win 9).cut (grid0.coords t) (s9 (iblk m c 0 t) (G m c)) := by
  by_cases h0 : t.val % 16 = 0
  · refine (flushed9_A m c t h0 (zero_of t h0)).trans ?_
    rw [pieceA9, x4_eq]
  · refine (flushed9_B m c t h0 (pos_of t h0)).trans ?_
    rw [pieceB9, x4_eq]

theorem result9 (c : Dev nD) (r : Fin 4096) (q : Fin 1024) :
    ((dats m 0 c).arrAt 9 cfg0.N : Vec Ideal S4096x1024 .bf16) (ix2 r q)
      = Mixer.norm (row m c r) (gain m c) q := by
  obtain ⟨t, p, hr, rfl⟩ := split r
  have h := congrFun ((blocks9 m c t (flush0_9 t)).trans (block9 m c t)) (ix2 p q)
  refine Eq.trans (congrArg ((dats m 0 c).arrAt 9 cfg0.N) (funext fun ax => Fin.ext ?_)) (h.trans ?_)
  · symm
    match ax with
    | ⟨0, _⟩ => show win0_9.index t 0 * 256 + 1 * p.val = 256 * t.val + p.val; rw [(at9 t).1]; omega
    | ⟨1, _⟩ => show win0_9.index t 1 * 1024 + 1 * q.val = q.val; rw [(at9 t).2]; omega
  · show (s9 (iblk m c 0 t) (G m c)) (ix2 p q) = _
    rw [← rows_eq m c t p hr]
    exact norm_at (iblk m c 0 t) (G m c) p q

theorem block10 (c : Dev nD) (t : Fin cfg0.N) :
    (dats m 0 c).flushed 10 t = (cfg0.win 10).cut (grid0.coords t) (s10 (iblk m c 2 t) (iblk m c 3 t)) := by
  by_cases h0 : t.val % 16 = 0
  · refine (flushed10_A m c t h0 (zero_of t h0)).trans ?_
    rw [pieceA10]
  · refine (flushed10_B m c t h0 (pos_of t h0)).trans ?_
    rw [pieceB10]

theorem result10 (c : Dev nD) (r : Fin 4096) (q : Fin 2816) :
    ((dats m 0 c).arrAt 10 cfg0.N : Vec Ideal S4096x2816 .bf16) (ix2 r q)
      = Mixer.act (Mixer.proj (row m c r) (gain m c) (wide (Wg m c)) q) (Mixer.proj (row m c r) (gain m c) (wide (Wu m c)) q) := by
  obtain ⟨t, p, hr, rfl⟩ := split r
  have h := congrFun ((blocks10 m c t (flush0_10 t)).trans (block10 m c t)) (ix2 p q)
  refine Eq.trans (congrArg ((dats m 0 c).arrAt 10 cfg0.N) (funext fun ax => Fin.ext ?_)) (h.trans ?_)
  · symm
    match ax with
    | ⟨0, _⟩ => show win0_10.index t 0 * 256 + 1 * p.val = 256 * t.val + p.val; rw [(at10 t).1]; omega
    | ⟨1, _⟩ => show win0_10.index t 1 * 2816 + 1 * q.val = q.val; rw [(at10 t).2]; omega
  · show (s10 (iblk m c 2 t) (iblk m c 3 t)) (ix2 p q) = _
    exact row10 (iblk m c 2 t) (iblk m c 3 t) (Wg m c) (Wu m c) p _ _ (has m c t p hr) q

theorem block11 (c : Dev nD) (t : Fin cfg0.N) :
    (dats m 0 c).flushed 11 t = (cfg0.win 11).cut (grid0.coords t) (s11 (iblk m c 1 t) (iblk m c 2 t) (iblk m c 3 t) (Wd m c)) := by
  by_cases h0 : t.val % 16 = 0
  · refine (flushed11_A m c t h0 (zero_of t h0)).trans ?_
    rw [pieceA11, x7_eq]
  · refine (flushed11_B m c t h0 (pos_of t h0)).trans ?_
    rw [pieceB11, x7_eq]

theorem result11 (c : Dev nD) (r : Fin 4096) (q : Fin 2816) :
    ((dats m 0 c).arrAt 11 cfg0.N : Vec Ideal S4096x2816 .bf16) (ix2 r q)
      = Mixer.dgate (row m c r) (drow m c r) (gain m c) (wide (Wg m c)) (wide (Wu m c)) (dn (Wd m c)) q := by
  obtain ⟨t, p, hr, rfl⟩ := split r
  have h := congrFun ((blocks11 m c t (flush0_11 t)).trans (block11 m c t)) (ix2 p q)
  refine Eq.trans (congrArg ((dats m 0 c).arrAt 11 cfg0.N) (funext fun ax => Fin.ext ?_)) (h.trans ?_)
  · symm
    match ax with
    | ⟨0, _⟩ => show win0_11.index t 0 * 256 + 1 * p.val = 256 * t.val + p.val; rw [(at11 t).1]; omega
    | ⟨1, _⟩ => show win0_11.index t 1 * 2816 + 1 * q.val = q.val; rw [(at11 t).2]; omega
  · show (s11 (iblk m c 1 t) (iblk m c 2 t) (iblk m c 3 t) (Wd m c)) (ix2 p q) = _
    rw [← drows_eq m c t p hr]
    exact row11 (iblk m c 1 t) (iblk m c 2 t) (iblk m c 3 t) (Wg m c) (Wu m c) (Wd m c) p _ _ (has m c t p hr) q

theorem block12 (c : Dev nD) (t : Fin cfg0.N) :
    (dats m 0 c).flushed 12 t = (cfg0.win 12).cut (grid0.coords t) (s12 (iblk m c 1 t) (iblk m c 2 t) (Wd m c)) := by
  by_cases h0 : t.val % 16 = 0
  · refine (flushed12_A m c t h0 (zero_of t h0)).trans ?_
    rw [pieceA12, x7_eq]
  · refine (flushed12_B m c t h0 (pos_of t h0)).trans ?_
    rw [pieceB12, x7_eq]

theorem result12 (c : Dev nD) (r : Fin 4096) (q : Fin 2816) :
    ((dats m 0 c).arrAt 12 cfg0.N : Vec Ideal S4096x2816 .bf16) (ix2 r q)
      = Mixer.dup (row m c r) (drow m c r) (gain m c) (wide (Wg m c)) (dn (Wd m c)) q := by
  obtain ⟨t, p, hr, rfl⟩ := split r
  have h := congrFun ((blocks12 m c t (flush0_12 t)).trans (block12 m c t)) (ix2 p q)
  refine Eq.trans (congrArg ((dats m 0 c).arrAt 12 cfg0.N) (funext fun ax => Fin.ext ?_)) (h.trans ?_)
  · symm
    match ax with
    | ⟨0, _⟩ => show win0_12.index t 0 * 256 + 1 * p.val = 256 * t.val + p.val; rw [(at12 t).1]; omega
    | ⟨1, _⟩ => show win0_12.index t 1 * 2816 + 1 * q.val = q.val; rw [(at12 t).2]; omega
  · show (s12 (iblk m c 1 t) (iblk m c 2 t) (Wd m c)) (ix2 p q) = _
    rw [← drows_eq m c t p hr]
    exact row12 (iblk m c 1 t) (iblk m c 2 t) (iblk m c 3 t) (Wg m c) (Wu m c) (Wd m c) p _ _ (has m c t p hr) q

/-- A row's share of the gradient with respect to the gain, and a block's. -/
def share (c : Dev nD) (k : Fin 1024) (r : Fin 4096) : EReal :=
  Mixer.dgain (row m c r) (drow m c r) (gain m c) (wide (Wg m c)) (wide (Wu m c)) (dn (Wd m c)) k
def shares (c : Dev nD) (k : Fin 1024) (t : ℕ) : EReal :=
  ∑ p : Fin 256, if h : 256 * t + p.val < 4096 then share m c k ⟨256 * t + p.val, h⟩ else 0

theorem shares_at (c : Dev nD) (t : Fin cfg0.N) (k : Fin 1024) :
    (∑ p : Fin 256, (grad (iblk m c 1 t) (iblk m c 2 t) (iblk m c 3 t) (Wg m c) (Wu m c) (Wd m c)) (ix2 p k)
        * (iblk m c 0 t : Vec Ideal S256x1024 .f32) (ix2 p k) * (k0_pay9 (iblk m c 0 t : Vec Ideal S256x1024 .f32)) (ix2 p 0))
      = shares m c k t.val := by
  refine Finset.sum_congr rfl fun p _ => ?_
  have hr : 256 * t.val + p.val < 4096 := by have := lt_N t; omega
  rw [dif_pos hr]
  unfold share
  rw [← rows_eq m c t p hr, ← drows_eq m c t p hr]
  refine row13 (iblk m c 0 t) (iblk m c 1 t) (iblk m c 2 t) (iblk m c 3 t) (Wg m c) (Wu m c) (Wd m c) p _ ?_ k
  rw [rows_eq m c t p hr]
  exact has m c t p hr

/-- After a point, the running sum of the gain's gradient is that of the blocks so far. -/
theorem running (c : Dev nD) (k : Fin 1024) : ∀ (n : ℕ) (h : n < cfg0.N),
    (outsAt0 m c n h).2.2.2.2.2 (ix2 0 k) = ∑ t ∈ Finset.range (n + 1), shares m c k t
  | 0, h => by
    rw [outsAt0_A m c ⟨0, h⟩ (Nat.zero_mod _) (by dsimp only; omega)]
    dsimp only
    rw [pieceA13, x5_eq, x6_eq, x7_eq, Finset.sum_range_one]
    exact (s13_at (iblk m c 0 ⟨0, h⟩) _ _ k).trans (shares_at m c ⟨0, h⟩ k)
  | n + 1, h => by
    have hN : n + 1 < 16 := lt_N ⟨n + 1, h⟩
    rw [outsAt0_B m c ⟨n + 1, h⟩ (by dsimp only; omega) (by dsimp only; omega)]
    dsimp only
    rw [pieceB13, x5_eq, x6_eq, x7_eq, Finset.sum_range_succ]
    refine (t13_at (iblk m c 0 ⟨n + 1, h⟩) _ _ _ k).trans ?_
    exact congrArg₂ (· + ·) (running c k n (Nat.lt_of_succ_lt h)) (shares_at m c ⟨n + 1, h⟩ k)

theorem last_only : ∀ t t' : Fin cfg0.N, (cfg0.win 13).flush t = true → (cfg0.win 13).flush t' = true → t ≠ t' →
    Disjoint ((cfg0.win 13).blk t).view.set ((cfg0.win 13).blk t').view.set := fun t t' h h' hne =>
  absurd (Fin.ext (by have := (flush0_13 t).mp h; have := (flush0_13 t').mp h'; have := lt_N t; have := lt_N t'; omega)) hne

theorem result13 (c : Dev nD) (k : Fin 1024) :
    ((dats m 0 c).arrAt 13 cfg0.N : Vec Ideal S1x1024 .f32) (ix2 0 k) = ∑ r : Fin 4096, share m c k r := by
  have hN : 15 < cfg0.N := by rw [show cfg0.N = 16 from N_0]; omega
  have h := congrFun (((dats m 0 c).read_blk_arrAt_eq_flushed 13 last_only cfg0.N ⟨15, hN⟩ hN ((flush0_13 ⟨15, hN⟩).mpr rfl)).trans
    (flushed13 m c ⟨15, hN⟩)) (ix2 0 k)
  refine Eq.trans (congrArg ((dats m 0 c).arrAt 13 cfg0.N) (funext fun ax => Fin.ext ?_)) (h.trans ?_)
  · symm
    match ax with
    | ⟨0, _⟩ => show win0_13.index ⟨15, hN⟩ 0 * 1 + 1 * 0 = 0; rw [(at13 ⟨15, hN⟩).1]
    | ⟨1, _⟩ => show win0_13.index ⟨15, hN⟩ 1 * 1024 + 1 * k.val = k.val; rw [(at13 ⟨15, hN⟩).2]; omega
  · refine (running m c k 15 hN).trans ?_
    rw [Mixer.sum_blocks, Finset.sum_range]
    refine Finset.sum_congr rfl fun t _ => Finset.sum_congr rfl fun p _ => ?_
    exact dif_pos _

end Cert.Kernel2Ideal.FfnBwd

end
-- ==== Proof.FfnBwd.lean ====
module

public import proofs.«01_k».proof.Proof.KFfnOut
public import proofs.«01_k».proof.Proof.Gen.Reference2Ideal.Run
public import Idealize.ShloMosaic.Lib.Quiescent
public import Idealize.ShloMosaic.Adequacy
public import Idealize.ShloMosaic.Init

@[expose] public section

set_option maxRecDepth 16384

/- The SwiGLU mixer's backward call and its reference: where the cotangent of silu of the gate is real their six results are the same. -/

noncomputable section

namespace Cert.Reference2Ideal.FfnBwd

open Cert.Reference2Ideal Cert.Reference2Ideal.Gen
open Idealize.ShloMosaic Idealize.ShloMosaic.TcCoe Idealize.ShloMosaic.Tactic Idealize.SL.Sem Idealize.ShloMosaic.StableHlo

/-- Matrices of weights as functions. -/
def wide (w : FVec Ideal S1024x2816 .bf16) : Fin 1024 → Fin 2816 → EReal := fun k f => w (ix2 k f)
def tall (w : FVec Ideal S2816x1024 .bf16) : Fin 2816 → Fin 1024 → EReal := fun f q => w (ix2 f q)

section Terms
variable (x dy : FVec Ideal S4096x1024 .f32) (g : FVec Ideal S1x1024 .f32) (wg wu : FVec Ideal S1024x2816 .bf16) (wd : FVec Ideal S2816x1024 .bf16)

/-- The reference's stages, forward. -/
def means : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def roots : FVec Ideal S4096x1024 .f32 :=
  broadcastInDim S4096x1024 ![0, 1] bcast_S4096x1_S4096x1024_0_1 (Host.rsqrt (means x))
def gains : FVec Ideal S4096x1024 .f32 :=
  broadcastInDim S4096x1024 ![0, 1] bcast_S1x1024_S4096x1024_0_1 g
def normed : FVec Ideal S4096x1024 .f32 := mulf (mulf x (roots x)) (gains g)
def projected (w : FVec Ideal S1024x2816 .bf16) : FVec Ideal S4096x2816 .f32 :=
  Host.dotGeneral dot_S4096x1024_S1024x2816_S4096x2816_1_0_0_1_n_n none (normed x g) (extf .f32 w bitsLt_bf16_f32)
def ones : FVec Ideal S4096x2816 .f32 := broadcastInDim S4096x2816 ![] bcast_S_S4096x2816 (constant S_ .f32 0x3F800000#32)
def sigmoid (z : FVec Ideal S4096x2816 .f32) : FVec Ideal S4096x2816 .f32 :=
  Host.divf ones (addf ones (Host.exp (Host.negf z)))
def activation (a b : FVec Ideal S4096x2816 .f32) : FVec Ideal S4096x2816 .f32 := mulf (mulf a (sigmoid a)) b

/-- The gradient with respect to the activation, as the reference computes it for its results and for the backward pass. -/
def backT : FVec Ideal S4096x2816 .f32 :=
  Host.dotGeneral dot_S4096x1024_S1024x2816_S4096x2816_1_0_0_1_n_n none dy (transpose S1024x2816 [1, 0] (extf .f32 wd bitsLt_bf16_f32) transposes_S2816x1024_S1024x2816_1_0)
def backV : FVec Ideal S4096x2816 .f32 :=
  Host.dotGeneral dot_S4096x1024_S2816x1024_S4096x2816_1_1_0_0_n_n none (shapeCast _ dy shapeCasts_S4096x1024_S4096x1024) (extf .f32 wd bitsLt_bf16_f32)

/-- The gradient with respect to the gate, from the gate, up and that with respect to the activation. -/
def gateGrad (a b d : FVec Ideal S4096x2816 .f32) : FVec Ideal S4096x2816 .f32 :=
  addf (mulf (mulf d b) (sigmoid a)) (mulf (mulf a (mulf d b)) (mulf (sigmoid a) (subf ones (sigmoid a))))

/-- The gradient with respect to the normed rows. -/
def normGrad : FVec Ideal S4096x1024 .f32 :=
  addf (Host.dotGeneral dot_S4096x2816_S1024x2816_S4096x1024_1_1_0_0_n_n none (activation (projected x g wg) (backV dy wd)) (extf .f32 wu bitsLt_bf16_f32)) (Host.dotGeneral dot_S4096x2816_S1024x2816_S4096x1024_1_1_0_0_n_n none (gateGrad (projected x g wg) (projected x g wu) (backV dy wd)) (extf .f32 wg bitsLt_bf16_f32))

/-- The gradients with respect to the gain and to the rows, from that with respect to the normed rows. -/
def gainGrad (d : FVec Ideal S4096x1024 .f32) : FVec Ideal S1x1024 .f32 :=
  shapeCast _ (Host.reduceAdd (mulf (mulf x (roots x)) d) (constant S_ .f32 0x00000000#32) reducesTo_S4096x1024_S1024_d0 h_S_) shapeCasts_S1024_S1x1024
def pulls (d : FVec Ideal S4096x1024 .f32) : FVec Ideal S4096x1 .f32 :=
  Host.divf (mulf (shapeCast _ (Host.reduceAdd (mulf x (mulf d (gains g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (means x)) (means x)))) (broadcastInDim S4096x1 ![] bcast_S_S4096x1 (constant S_ .f32 0x44800000#32))
def pulled (d : FVec Ideal S4096x1024 .f32) : FVec Ideal S4096x1024 .f32 :=
  broadcastInDim S4096x1024 ![0] bcast_S4096_S4096x1024_0 (Host.reduceAdd (pulls x g d) (constant S_ .f32 0x00000000#32) reducesTo_S4096x1_S4096_d1 h_S_)
def rowGrad (d : FVec Ideal S4096x1024 .f32) : FVec Ideal S4096x1024 .f32 :=
  addf (addf (addf dy (mulf (mulf d (gains g)) (roots x))) (mulf x (pulled x g d))) (mulf (pulled x g d) x)

theorem means_at (r : Fin 4096) : means x (ix2 r 0) = Mixer.mean (fun j => x (ix2 r j)) := by
  unfold Mixer.mean
  pointwise! [means]
theorem roots_at (r : Fin 4096) (k : Fin 1024) : roots x (ix2 r k) = Mixer.root (fun j => x (ix2 r j)) := by
  refine Eq.trans (b := Ideal.rsqrt (means x (ix2 r 0))) (by pointwise! [roots]) ?_
  rw [means_at]
  rfl
theorem gains_at (r : Fin 4096) (k : Fin 1024) : gains g (ix2 r k) = g (ix2 0 k) := by
  pointwise! [gains]
theorem normed_at (r : Fin 4096) (k : Fin 1024) :
    normed x g (ix2 r k) = Mixer.norm (fun j => x (ix2 r j)) (fun j => g (ix2 0 j)) k := by
  refine Eq.trans (b := x (ix2 r k) * roots x (ix2 r k) * gains g (ix2 r k)) (by pointwise! [normed]) ?_
  rw [roots_at, gains_at]
  rfl
theorem projected_at (w : FVec Ideal S1024x2816 .bf16) (r : Fin 4096) (f : Fin 2816) :
    projected x g w (ix2 r f) = Mixer.proj (fun j => x (ix2 r j)) (fun j => g (ix2 0 j)) (wide w) f := by
  refine Eq.trans (b := ∑ k : Fin 1024, normed x g (ix2 r k) * w (ix2 k f)) (by pointwise! [projected]) ?_
  exact Finset.sum_congr rfl fun k _ => Ideal.mul_congr (normed_at x g r k) rfl
theorem sigmoid_at (z : FVec Ideal S4096x2816 .f32) (r : Fin 4096) (f : Fin 2816) :
    sigmoid z (ix2 r f) = Ideal.logistic (z (ix2 r f)) := by
  unfold Ideal.logistic
  pointwise! [sigmoid, ones]
theorem activation_at (a b : FVec Ideal S4096x2816 .f32) (r : Fin 4096) (f : Fin 2816) :
    activation a b (ix2 r f) = Mixer.act (a (ix2 r f)) (b (ix2 r f)) := by
  refine Eq.trans (b := a (ix2 r f) * sigmoid a (ix2 r f) * b (ix2 r f)) (by pointwise! [activation]) ?_
  rw [sigmoid_at]
  rfl
theorem backT_at (r : Fin 4096) (f : Fin 2816) : backT dy wd (ix2 r f) = Mixer.back (fun j => dy (ix2 r j)) (tall wd) f := by
  unfold Mixer.back tall
  pointwise! [backT]
theorem backV_at (r : Fin 4096) (f : Fin 2816) : backV dy wd (ix2 r f) = Mixer.back (fun j => dy (ix2 r j)) (tall wd) f := by
  unfold Mixer.back tall
  pointwise! [backV]
theorem gateGrad_at (a b d : FVec Ideal S4096x2816 .f32) (r : Fin 4096) (f : Fin 2816) :
    gateGrad a b d (ix2 r f) = Mixer.slopeBy (a (ix2 r f)) (b (ix2 r f)) (d (ix2 r f)) := by
  refine Eq.trans (b := d (ix2 r f) * b (ix2 r f) * sigmoid a (ix2 r f)
    + a (ix2 r f) * (d (ix2 r f) * b (ix2 r f)) * (sigmoid a (ix2 r f) * (1 - sigmoid a (ix2 r f)))) (by pointwise! [gateGrad, ones]) ?_
  rw [sigmoid_at]
  rfl

section Real
variable (r : Fin 4096) (hdy : ∀ j, Mixer.IsReal (dy (ix2 r j))) (hg : ∀ j, Mixer.IsReal (g (ix2 0 j)))
  (hwu : ∀ k f, Mixer.IsReal (wide wu k f)) (hwd : ∀ f q, Mixer.IsReal (tall wd f q))
include hdy hg hwu hwd

theorem dgate_at (d : FVec Ideal S4096x2816 .f32) (hd : ∀ f, d (ix2 r f) = Mixer.back (fun j => dy (ix2 r j)) (tall wd) f) (f : Fin 2816) :
    gateGrad (projected x g wg) (projected x g wu) d (ix2 r f)
      = Mixer.dgate (fun j => x (ix2 r j)) (fun j => dy (ix2 r j)) (fun j => g (ix2 0 j)) (wide wg) (wide wu) (tall wd) f := by
  rw [gateGrad_at, projected_at, projected_at, hd]
  exact Mixer.slope_eq (Mixer.proj_real _ _ _ hg hwu f) (Mixer.back_real _ _ hdy hwd f)

theorem normGrad_at (k : Fin 1024) :
    normGrad x dy g wg wu wd (ix2 r k)
      = Mixer.dnorm (fun j => x (ix2 r j)) (fun j => dy (ix2 r j)) (fun j => g (ix2 0 j)) (wide wg) (wide wu) (tall wd) k := by
  refine Eq.trans (b := ∑ f : Fin 2816, activation (projected x g wg) (backV dy wd) (ix2 r f) * wu (ix2 k f)
    + ∑ f : Fin 2816, gateGrad (projected x g wg) (projected x g wu) (backV dy wd) (ix2 r f) * wg (ix2 k f)) (by pointwise! [normGrad]) ?_
  refine congrArg₂ (· + ·) (Finset.sum_congr rfl fun f _ => Ideal.mul_congr ?_ rfl) (Finset.sum_congr rfl fun f _ => Ideal.mul_congr ?_ rfl)
  · rw [activation_at, projected_at, backV_at]
    exact mul_comm _ _
  · exact dgate_at x dy g wg wu wd r hdy hg hwu hwd _ (backV_at dy wd r) f

end Real

theorem gainGrad_at (d : FVec Ideal S4096x1024 .f32) (k : Fin 1024) :
    gainGrad x d (ix2 0 k) = ∑ r : Fin 4096, x (ix2 r k) * Mixer.root (fun j => x (ix2 r j)) * d (ix2 r k) := by
  refine Eq.trans (b := ∑ r : Fin 4096, x (ix2 r k) * roots x (ix2 r k) * d (ix2 r k)) (by pointwise! [gainGrad]) ?_
  exact Finset.sum_congr rfl fun r _ => by rw [roots_at]

theorem pulls_at (d : FVec Ideal S4096x1024 .f32) (r : Fin 4096) :
    pulls x g d (ix2 r 0) = Mixer.pull (fun j => x (ix2 r j)) (fun j => g (ix2 0 j)) (fun j => d (ix2 r j)) := by
  refine Eq.trans (b := Ideal.div ((∑ j : Fin 1024, x (ix2 r j) * (d (ix2 r j) * gains g (ix2 r j)))
    * (Ideal.ofBits FTy.f32 0xBF000000#32 * Ideal.div (Ideal.rsqrt (means x (ix2 r 0))) (means x (ix2 r 0)))) (Ideal.ofBits FTy.f32 0x44800000#32))
    (by pointwise! [pulls]) ?_
  rw [means_at]
  refine congrArg (Ideal.div · _) (Ideal.mul_congr (Finset.sum_congr rfl fun j _ => ?_) rfl)
  rw [gains_at]

theorem pulled_at (d : FVec Ideal S4096x1024 .f32) (r : Fin 4096) (q : Fin 1024) :
    pulled x g d (ix2 r q) = Mixer.pull (fun j => x (ix2 r j)) (fun j => g (ix2 0 j)) (fun j => d (ix2 r j)) := by
  refine Eq.trans (b := ∑ j : Fin 1, pulls x g d (ix2 r j)) (by pointwise! [pulled]) ?_
  rw [Fin.sum_univ_one]
  exact pulls_at x g d r

theorem rowGrad_at (d : FVec Ideal S4096x1024 .f32) (r : Fin 4096) (q : Fin 1024) :
    rowGrad x dy g d (ix2 r q)
      = Mixer.dxBy (fun j => x (ix2 r j)) (fun j => dy (ix2 r j)) (fun j => g (ix2 0 j)) (fun j => d (ix2 r j)) q := by
  refine Eq.trans (b := dy (ix2 r q) + d (ix2 r q) * gains g (ix2 r q) * roots x (ix2 r q) + x (ix2 r q) * pulled x g d (ix2 r q)
    + pulled x g d (ix2 r q) * x (ix2 r q)) (by pointwise! [rowGrad]) ?_
  rw [gains_at, roots_at, pulled_at]
  rfl

end Terms

section Results
variable (m : (ℓ : Loc nD τ sig) → Buf (Elt Ideal) ℓ) (c : Dev nD)

abbrev A0 : FVec Ideal S4096x1024 .f32 := m ((c.tc : Thread nD τ).loc main_arg0)
abbrev A1 : FVec Ideal S4096x1024 .f32 := m ((c.tc : Thread nD τ).loc main_arg1)
abbrev A2 : FVec Ideal S1x1024 .f32 := m ((c.tc : Thread nD τ).loc main_arg2)
abbrev A3 : FVec Ideal S1024x2816 .bf16 := m ((c.tc : Thread nD τ).loc main_arg3)
abbrev A4 : FVec Ideal S1024x2816 .bf16 := m ((c.tc : Thread nD τ).loc main_arg4)
abbrev A5 : FVec Ideal S2816x1024 .bf16 := m ((c.tc : Thread nD τ).loc main_arg5)

theorem out0_eq : Value.res_main_v72 m c
    = rowGrad (A0 m c) (A1 m c) (A2 m c) (normGrad (A0 m c) (A1 m c) (A2 m c) (A3 m c) (A4 m c) (A5 m c)) := rfl
theorem out3_eq : Value.res_main_v75 m c
    = truncf .bf16 (gateGrad (projected (A0 m c) (A2 m c) (A3 m c)) (projected (A0 m c) (A2 m c) (A4 m c)) (backT (A1 m c) (A5 m c))) bitsLt_bf16_f32 := rfl
theorem out5_eq : Value.res_main_v55 m c
    = gainGrad (A0 m c) (normGrad (A0 m c) (A1 m c) (A2 m c) (A3 m c) (A4 m c) (A5 m c)) := rfl

end Results

theorem quiet : Cert.quiescent_Reference2Ideal (hReference2Ideal := Gen.facts) :=
  fun m ρ _ => (θ_run defs _ _).mono
    (fun r h => ⟨fun c => (h c).2.2.2.2.2.2, Idealize.ShloMosaic.sem_eq_zero_of_no_sems (by decide) r.2⟩) (Value.run m ρ)

end Cert.Reference2Ideal.FfnBwd

namespace Cert.FfnBwd

open Idealize.ShloMosaic Idealize.ShloMosaic.TcCoe Idealize.SL.Sem
open Cert.Kernel2Ideal.Gen (dats)
open Cert.Kernel2Ideal.FfnBwd (H D G Wg Wu Wd)

attribute [local instance] Cert.Pre_finite2.facts

/-- Where the rows' cotangent, the gain and the weights but the gate's are real numbers. -/
structure Finite (m : (ℓ : Loc Cert.Kernel2Ideal.nD Cert.Kernel2Ideal.τ Cert.Kernel2Ideal.sig) → Buf (Elt Ideal) ℓ)
    (c : Dev Cert.Kernel2Ideal.nD) : Prop where
  rows : ∀ i, Mixer.IsReal (D m c i)
  gain : ∀ i, Mixer.IsReal (G m c i)
  up : ∀ i, Mixer.IsReal (Wu m c i)
  down : ∀ i, Mixer.IsReal (Wd m c i)

theorem finite_of (m : (ℓ : Loc Cert.Kernel2Ideal.nD Cert.Kernel2Ideal.τ Cert.Kernel2Ideal.sig) → Buf (Elt Ideal) ℓ)
    (c : Dev Cert.Kernel2Ideal.nD) (h : Cert.Pre_Kernel2Ideal_finite2 (hPre_finite2 := Cert.Pre_finite2.facts) m) : Finite m c :=
  ⟨fun i => Cert.Pre_finite2.real0 _ _ _ _ _ _ (h c).1 i,
    fun i => Cert.Pre_finite2.real1 _ _ _ _ _ _ (h c).2.1 i,
    fun i => Cert.Pre_finite2.real2 _ _ _ _ _ _ (h c).2.2.1 i,
    fun i => Cert.Pre_finite2.real3 _ _ _ _ _ _ (h c).2.2.2 i⟩

section Equal
open Cert.Reference2Ideal.FfnBwd
variable (m : (ℓ : Loc Cert.Kernel2Ideal.nD Cert.Kernel2Ideal.τ Cert.Kernel2Ideal.sig) → Buf (Elt Ideal) ℓ)
  (c : Dev Cert.Kernel2Ideal.nD) (hf : Finite m c)
include hf

theorem norm_eq (r : Fin 4096) (k : Fin 1024) :
    normGrad (H m c) (D m c) (G m c) (Wg m c) (Wu m c) (Wd m c) (ix2 r k)
      = Mixer.dnorm (Cert.Kernel2Ideal.FfnBwd.row m c r) (Cert.Kernel2Ideal.FfnBwd.drow m c r) (Cert.Kernel2Ideal.FfnBwd.gain m c)
          (wide (Wg m c)) (wide (Wu m c)) (tall (Wd m c)) k :=
  normGrad_at _ _ _ _ _ _ r (fun _ => hf.rows _) (fun _ => hf.gain _) (fun _ _ => hf.up _) (fun _ _ => hf.down _) k

theorem first (r : Fin 4096) (q : Fin 1024) :
    rowGrad (H m c) (D m c) (G m c) (normGrad (H m c) (D m c) (G m c) (Wg m c) (Wu m c) (Wd m c)) (ix2 r q)
      = ((dats m 0 c).arrAt 8 Cert.Kernel2Ideal.cfg0.N : Vec Ideal Cert.Kernel2Ideal.S4096x1024 .f32) (ix2 r q) := by
  refine (rowGrad_at _ _ _ _ r q).trans (Eq.trans ?_ (Cert.Kernel2Ideal.FfnBwd.result8 m c r q).symm)
  rw [funext fun k => norm_eq m c hf r k]
  exact Mixer.dx_eq _ _ _ _ q

theorem fourth (r : Fin 4096) (f : Fin 2816) :
    gateGrad (projected (H m c) (G m c) (Wg m c)) (projected (H m c) (G m c) (Wu m c)) (backT (D m c) (Wd m c)) (ix2 r f)
      = ((dats m 0 c).arrAt 11 Cert.Kernel2Ideal.cfg0.N : Vec Ideal Cert.Kernel2Ideal.S4096x2816 .bf16) (ix2 r f) :=
  (dgate_at _ _ _ _ _ _ r (fun _ => hf.rows _) (fun _ => hf.gain _) (fun _ _ => hf.up _) (fun _ _ => hf.down _)
    _ (backT_at _ _ r) f).trans (Cert.Kernel2Ideal.FfnBwd.result11 m c r f).symm

theorem sixth (k : Fin 1024) :
    gainGrad (H m c) (normGrad (H m c) (D m c) (G m c) (Wg m c) (Wu m c) (Wd m c)) (ix2 0 k)
      = ((dats m 0 c).arrAt 13 Cert.Kernel2Ideal.cfg0.N : Vec Ideal Cert.Kernel2Ideal.S1x1024 .f32) (ix2 0 k) := by
  refine (gainGrad_at _ _ k).trans (Eq.trans (Finset.sum_congr rfl fun r _ => ?_) (Cert.Kernel2Ideal.FfnBwd.result13 m c k).symm)
  rw [norm_eq m c hf r k]
  exact (mul_comm _ _).trans (mul_assoc _ _ _).symm

end Equal

set_option maxHeartbeats 4000000 in
/-- The call's six results are the reference's. -/
theorem values : Cert.algebraic_Kernel2Ideal_Reference2Ideal_pre_finite2 (hKernel2Ideal := Cert.Kernel2Ideal.Gen.facts)
    (hReference2Ideal := Cert.Reference2Ideal.Gen.facts) (hPre_finite2 := Cert.Pre_finite2.facts) := by
  intro m ρ m' ρ' hpre hag
  refine ⟨fun c => (dats m 0 c).arrAt 8 Cert.Kernel2Ideal.cfg0.N, fun c => (dats m 0 c).arrAt 9 Cert.Kernel2Ideal.cfg0.N,
    fun c => (dats m 0 c).arrAt 10 Cert.Kernel2Ideal.cfg0.N, fun c => (dats m 0 c).arrAt 11 Cert.Kernel2Ideal.cfg0.N,
    fun c => (dats m 0 c).arrAt 12 Cert.Kernel2Ideal.cfg0.N, fun c => (dats m 0 c).arrAt 13 Cert.Kernel2Ideal.cfg0.N,
    Cert.Kernel2Ideal.Value.run_blocks m ρ, ?_⟩
  refine (θ_run Cert.Reference2Ideal.defs _ _).mono (fun r h c => ?_) (Cert.Reference2Ideal.Value.run m' ρ')
  obtain ⟨g0, g1, g2, g3, g4, g5⟩ := hag c
  obtain ⟨h0, h1, h2, h3, h4, h5, hk⟩ := h c
  have hf := finite_of m c hpre
  refine ⟨h0.trans ?_, h1.trans ?_, h2.trans ?_, h3.trans ?_, h4.trans ?_, h5.trans ?_, hk⟩
  · rw [Cert.Reference2Ideal.FfnBwd.out0_eq]
    unfold Cert.Reference2Ideal.FfnBwd.A0 Cert.Reference2Ideal.FfnBwd.A1 Cert.Reference2Ideal.FfnBwd.A2 Cert.Reference2Ideal.FfnBwd.A3 Cert.Reference2Ideal.FfnBwd.A4 Cert.Reference2Ideal.FfnBwd.A5
    rw [g0, g1, g2, g3, g4, g5]
    funext i
    obtain ⟨p, q, rfl⟩ : ∃ (p : Fin 4096) (q : Fin 1024), i = ix2 p q := ⟨i 0, i 1, eq_ix2 i⟩
    exact first m c hf p q
  · rw [g0, g2]
    funext i
    obtain ⟨p, q, rfl⟩ : ∃ (p : Fin 4096) (q : Fin 1024), i = ix2 p q := ⟨i 0, i 1, eq_ix2 i⟩
    exact (Cert.Reference2Ideal.FfnBwd.normed_at _ _ p q).trans (Cert.Kernel2Ideal.FfnBwd.result9 m c p q).symm
  · rw [g0, g2, g3, g4]
    funext i
    obtain ⟨p, q, rfl⟩ : ∃ (p : Fin 4096) (q : Fin 2816), i = ix2 p q := ⟨i 0, i 1, eq_ix2 i⟩
    refine (Cert.Reference2Ideal.FfnBwd.activation_at (Cert.Reference2Ideal.FfnBwd.projected (H m c) (G m c) (Wg m c))
      (Cert.Reference2Ideal.FfnBwd.projected (H m c) (G m c) (Wu m c)) p q).trans ?_
    rw [Cert.Reference2Ideal.FfnBwd.projected_at, Cert.Reference2Ideal.FfnBwd.projected_at]
    exact (Cert.Kernel2Ideal.FfnBwd.result10 m c p q).symm
  · rw [Cert.Reference2Ideal.FfnBwd.out3_eq]
    unfold Cert.Reference2Ideal.FfnBwd.A0 Cert.Reference2Ideal.FfnBwd.A1 Cert.Reference2Ideal.FfnBwd.A2 Cert.Reference2Ideal.FfnBwd.A3 Cert.Reference2Ideal.FfnBwd.A4 Cert.Reference2Ideal.FfnBwd.A5
    rw [g0, g1, g2, g3, g4, g5]
    funext i
    obtain ⟨p, q, rfl⟩ : ∃ (p : Fin 4096) (q : Fin 2816), i = ix2 p q := ⟨i 0, i 1, eq_ix2 i⟩
    exact fourth m c hf p q
  · rw [g0, g1, g2, g3, g5]
    funext i
    obtain ⟨p, q, rfl⟩ : ∃ (p : Fin 4096) (q : Fin 2816), i = ix2 p q := ⟨i 0, i 1, eq_ix2 i⟩
    refine (Cert.Reference2Ideal.FfnBwd.activation_at (Cert.Reference2Ideal.FfnBwd.projected (H m c) (G m c) (Wg m c))
      (Cert.Reference2Ideal.FfnBwd.backT (D m c) (Wd m c)) p q).trans ?_
    rw [Cert.Reference2Ideal.FfnBwd.projected_at, Cert.Reference2Ideal.FfnBwd.backT_at]
    exact (mul_comm _ _).trans (Cert.Kernel2Ideal.FfnBwd.result12 m c p q).symm
  · rw [Cert.Reference2Ideal.FfnBwd.out5_eq]
    unfold Cert.Reference2Ideal.FfnBwd.A0 Cert.Reference2Ideal.FfnBwd.A1 Cert.Reference2Ideal.FfnBwd.A2 Cert.Reference2Ideal.FfnBwd.A3 Cert.Reference2Ideal.FfnBwd.A4 Cert.Reference2Ideal.FfnBwd.A5
    rw [g0, g1, g2, g3, g4, g5]
    funext i
    obtain ⟨q, rfl⟩ : ∃ q : Fin 1024, i = ix2 0 q := ⟨i 1, by rw [eq_ix2 i]; exact congrArg (ix2 · _) (Fin.eq_zero (i 0))⟩
    exact sixth m c hf q

end Cert.FfnBwd

end
-- ==== Proof.Halves.lean ====
module

public import proofs.«01_k».proof.Proof.Reals

@[expose] public section

/- Sums cut in two halves. -/

namespace Cert.Halves

/-- A sum over 4096 is the sum over its two halves. -/
theorem rows (f : Fin 4096 → EReal) :
    (∑ j : Fin 2048, f ⟨2048 * 0 + j.val, by omega⟩) + (∑ j : Fin 2048, f ⟨2048 * 1 + j.val, by omega⟩) = ∑ j, f j := by
  have e := Fin.sum_univ_add (a := 2048) (b := 2048) f
  refine Eq.trans ?_ e.symm
  refine congrArg₂ (· + ·) (Finset.sum_congr rfl fun j _ => congrArg f (Fin.ext ?_)) (Finset.sum_congr rfl fun j _ => congrArg f (Fin.ext ?_))
  · show 2048 * 0 + j.val = j.val; omega
  · show 2048 * 1 + j.val = 2048 + j.val; omega

end Cert.Halves
-- ==== Proof.GateW.lean ====
module

public import proofs.«01_k».proof.Defs
public import proofs.«01_k».proof.Proof.Gen.Kernel3Ideal.Value
public import proofs.«01_k».proof.Proof.Gen.Reference3Ideal.Run
public import proofs.«01_k».proof.Proof.Halves
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The gradient of the gate's weights: two products over half of the rows each, added in a scratch array. -/

noncomputable section

namespace Cert.Kernel3Ideal.GateW

open Cert.Kernel3Ideal Cert.Kernel3Ideal.Gen Cert.Kernel3Ideal.Value
open Idealize.ShloMosaic Idealize.ShloMosaic.TcCoe Idealize.ShloMosaic.Tactic Idealize.SL.Sem

theorem hz : (![0, 0] : Fin 2 → Nat) = fun _ => 0 := funext fun a => by fin_cases a <;> rfl

section Pieces
variable {F : FTy → Type} [FloatOps F]

/-- The first half's point leaves the product of its two blocks in the scratch array. -/
theorem first (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .bf16) (h5 : a5.IsWhole)
    (a6 : Memref sig .tc .vmem S1024x1408 .f32) (h6 : a6.IsWhole) (hc0 : cond0_0 i) (hc1 : ¬cond0_1 i) (hc2 : ¬cond0_2 i)
    (x : Vec F S2048x1024 .bf16) (y : Vec F S2048x1408 .bf16) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1024) hz, View.ld_unit_zero (S := S2048x1408) hz]

/-- The second half's point leaves in the result's block the scratch's contents plus the product of its two blocks. -/
theorem second (c : Dev nD) (i : grid0.Coords) (a3 : Memref sig .tc .vmem S2048x1024 .bf16) (h3 : a3.IsWhole)
    (a4 : Memref sig .tc .vmem S2048x1408 .bf16) (h4 : a4.IsWhole) (a5 : Memref sig .tc .vmem S1024x1408 .bf16) (h5 : a5.IsWhole)
    (a6 : Memref sig .tc .vmem S1024x1408 .f32) (h6 : a6.IsWhole) (hc0 : ¬cond0_0 i) (hc1 : cond0_1 i) (hc2 : cond0_2 i)
    (x : Vec F S2048x1024 .bf16) (y : Vec F S2048x1408 .bf16) (z : Vec F S1024x1408 .f32) :
    out0_B_2 c i a3 h3 a4 h4 a5 h5 a6 h6 hc0 hc1 hc2 x y z = k0_pay4 (k0_pay3 x y z) := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz, View.readCov_unit_zero (S := S1024x1408) _ hz]
  simp only [View.readAt_eq_ld, h3.read_unread, h4.read_unread, h6.read_unread, View.ld_unit_zero (S := S2048x1024) hz, View.ld_unit_zero (S := S2048x1408) hz, View.ld_unit_zero (S := S1024x1408) hz]

end Pieces

/-- One block's product at an index. -/
theorem prod_at (x : Vec Ideal S2048x1024 .bf16) (y : Vec Ideal S2048x1408 .bf16) (p : Fin 1024) (q : Fin 1408) :
    (k0_pay2 x y) (ix2 p q) = ∑ j : Fin 2048, x (ix2 j p) * y (ix2 j q) := by
  pointwise! [k0_pay2, k0_pay1]

/-- The sum of the scratch and the second block's product at an index. -/
theorem total_at (x : Vec Ideal S2048x1024 .bf16) (y : Vec Ideal S2048x1408 .bf16) (z : Vec Ideal S1024x1408 .f32) (p : Fin 1024) (q : Fin 1408) :
    (k0_pay4 (k0_pay3 x y z)) (ix2 p q) = z (ix2 p q) + ∑ j : Fin 2048, x (ix2 j p) * y (ix2 j q) := by
  pointwise! [k0_pay4, k0_pay3, k0_pay1]

variable (m : (ℓ : Loc nD τ sig) → Buf (Elt Ideal) ℓ)

/-- The two arguments, and the blocks of them that point `t` reads. -/
def A (c : Dev nD) : Vec Ideal S4096x1024 .bf16 := m ((c : Thread nD τ).loc main_arg0)
def B (c : Dev nD) : Vec Ideal S4096x2816 .bf16 := m ((c : Thread nD τ).loc main_arg1)
def X (c : Dev nD) (t : Fin cfg0.N) : Vec Ideal S2048x1024 .bf16 := iblk m c 0 t
def Y (c : Dev nD) (t : Fin cfg0.N) : Vec Ideal S2048x1408 .bf16 := iblk m c 1 t

theorem at0 : ∀ t : Fin cfg0.N, win0_0.index t (0 : Fin 2) = t.val % 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = t.val / 2 :=
  (by decide +kernel : ∀ t : Fin grid0.N, _)

theorem X_at (c : Dev nD) (t : Fin cfg0.N) (j : Fin 2048) (p : Fin 1024) (h : 2048 * (t.val % 2) + j.val < 4096) :
    X m c t (ix2 j p) = A m c (ix2 ⟨2048 * (t.val % 2) + j.val, h⟩ p) := by
  unfold X A iblk
  rw [View.read_apply]
  show V m c main_arg0 _ = m (c.tc.loc main_arg0) _
  rw [V_main_arg0]
  congr 1
  funext a
  apply Fin.ext
  match a with
  | ⟨0, _⟩ => show win0_0.index t 0 * 2048 + 1 * j.val = 2048 * (t.val % 2) + j.val; rw [(at0 t).1]; omega
  | ⟨1, _⟩ => show win0_0.index t 1 * 1024 + 1 * p.val = p.val; rw [(at0 t).2]; omega

theorem Y_at (c : Dev nD) (t : Fin cfg0.N) (j : Fin 2048) (q : Fin 1408) (h : 2048 * (t.val % 2) + j.val < 4096)
    (h' : 1408 * (t.val / 2) + q.val < 2816) :
    Y m c t (ix2 j q) = B m c (ix2 ⟨2048 * (t.val % 2) + j.val, h⟩ ⟨1408 * (t.val / 2) + q.val, h'⟩) := by
  unfold Y B iblk
  rw [View.read_apply]
  show V m c main_arg1 _ = m (c.tc.loc main_arg1) _
  rw [V_main_arg1]
  congr 1
  funext a
  apply Fin.ext
  match a with
  | ⟨0, _⟩ => show win0_1.index t 0 * 2048 + 1 * j.val = 2048 * (t.val % 2) + j.val; rw [(at1 t).1]; omega
  | ⟨1, _⟩ => show win0_1.index t 1 * 1408 + 1 * q.val = 1408 * (t.val / 2) + q.val; rw [(at1 t).2]; omega

/-- The result's block after a second half's point: the sum of the two halves' products. -/
theorem block_at (c : Dev nD) (n : ℕ) (h : n < cfg0.N) (hn : n % 2 = 1) (p : Fin 1024) (q : Fin 1408) :
    (outsAt0 m c n h).1 (ix2 p q)
      = (∑ j : Fin 2048, X m c ⟨n - 1, by omega⟩ (ix2 j p) * Y m c ⟨n - 1, by omega⟩ (ix2 j q))
        + ∑ j : Fin 2048, X m c ⟨n, h⟩ (ix2 j p) * Y m c ⟨n, h⟩ (ix2 j q) := by
  have h0 : (n - 1) % 2 = 0 := by omega
  rw [outsAt0_B m c ⟨n, h⟩ (by dsimp only; omega) hn hn]
  dsimp only
  rw [outsAt0_A m c ⟨n - 1, by omega⟩ h0 (by dsimp only; omega) (by dsimp only; omega)]
  dsimp only
  rw [second, first]
  exact (total_at (X m c ⟨n, h⟩) (Y m c ⟨n, h⟩) _ p q).trans (congrArg (· + _) (prod_at _ _ p q))

/-- The result, element by element: the sum over all rows. -/
theorem result_at (c : Dev nD) (p : Fin 1024) (q : Fin 2816) :
    G2 m c (ix2 p q) = ∑ j : Fin 4096, A m c (ix2 j p) * B m c (ix2 j q) := by
  have hN : cfg0.N = 4 := N_0
  have hr : run2Of (ix2 p q) = q.val / 1408 := by
    show 2 * (p.val / 1024 - 0) + 1 * (q.val / 1408 - 0) = _; omega
  have hp : pt2Of (ix2 p q) < cfg0.N := by
    show 2 * run2Of (ix2 p q) + 1 < _; rw [hr, hN]; omega
  have hl : loc2Of (ix2 p q) = ix2 (⟨p.val, p.isLt⟩ : Fin 1024) (⟨q.val % 1408, by omega⟩ : Fin 1408) := by
    funext a; apply Fin.ext
    match a with
    | ⟨0, _⟩ => show p.val % 1024 = p.val; omega
    | ⟨1, _⟩ => rfl
  unfold G2
  rw [dif_pos hp, ← outsAt0_sweep m c _ hp, hl, block_at m c _ hp (by show (2 * run2Of (ix2 p q) + 1) % 2 = 1; omega)]
  refine Eq.trans ?_ (Cert.Halves.rows fun j => A m c (ix2 j p) * B m c (ix2 j q))
  have e0 : (pt2Of (ix2 p q) - 1) % 2 = 0 := by show (2 * run2Of (ix2 p q) + 1 - 1) % 2 = 0; omega
  have e1 : pt2Of (ix2 p q) % 2 = 1 := by show (2 * run2Of (ix2 p q) + 1) % 2 = 1; omega
  have d0 : (pt2Of (ix2 p q) - 1) / 2 = q.val / 1408 := by rw [← hr]; show (2 * run2Of (ix2 p q) + 1 - 1) / 2 = _; omega
  have d1 : pt2Of (ix2 p q) / 2 = q.val / 1408 := by rw [← hr]; show (2 * run2Of (ix2 p q) + 1) / 2 = _; omega
  refine congrArg₂ (· + ·) (Finset.sum_congr rfl fun j _ => ?_) (Finset.sum_congr rfl fun j _ => ?_)
  · refine Ideal.mul_congr ((X_at m c _ j _ (by dsimp only; omega)).trans (congrArg (A m c) ?_)) ((Y_at m c _ j _ (by dsimp only; omega) (by dsimp only; omega)).trans (congrArg (B m c) ?_))
    · funext a; apply Fin.ext
      match a with
      | ⟨0, _⟩ => show 2048 * ((pt2Of (ix2 p q) - 1) % 2) + j.val = 2048 * 0 + j.val; rw [e0]
      | ⟨1, _⟩ => rfl
    · funext a; apply Fin.ext
      match a with
      | ⟨0, _⟩ => show 2048 * ((pt2Of (ix2 p q) - 1) % 2) + j.val = 2048 * 0 + j.val; rw [e0]
      | ⟨1, _⟩ => show 1408 * ((pt2Of (ix2 p q) - 1) / 2) + q.val % 1408 = q.val; rw [d0]; omega
  · refine Ideal.mul_congr ((X_at m c _ j _ (by dsimp only; omega)).trans (congrArg (A m c) ?_)) ((Y_at m c _ j _ (by dsimp only; omega) (by dsimp only; omega)).trans (congrArg (B m c) ?_))
    · funext a; apply Fin.ext
      match a with
      | ⟨0, _⟩ => show 2048 * (pt2Of (ix2 p q) % 2) + j.val = 2048 * 1 + j.val; rw [e1]
      | ⟨1, _⟩ => rfl
    · funext a; apply Fin.ext
      match a with
      | ⟨0, _⟩ => show 2048 * (pt2Of (ix2 p q) % 2) + j.val = 2048 * 1 + j.val; rw [e1]
      | ⟨1, _⟩ => show 1408 * (pt2Of (ix2 p q) / 2) + q.val % 1408 = q.val; rw [d1]; omega

end Cert.Kernel3Ideal.GateW

namespace Cert.Reference3Ideal.GateW

open Cert.Reference3Ideal Cert.Reference3Ideal.Gen
open Idealize.ShloMosaic Idealize.ShloMosaic.TcCoe Idealize.ShloMosaic.Tactic Idealize.SL.Sem

/-- The reference's gradient at an index: the derivative of a product with respect to its second factor. -/
theorem grad_at (x : FVec Ideal S4096x1024 .bf16) (y : FVec Ideal S4096x2816 .bf16) (p : Fin 1024) (q : Fin 2816) :
    (truncf (F := Ideal) .bf16 (transpose S1024x2816 [1, 0] (Host.dotGeneral dot_S4096x2816_S4096x1024_S2816x1024_0_0_1_1_n_n none (extf .f32 y bitsLt_bf16_f32) (extf .f32 x bitsLt_bf16_f32)) transposes_S2816x1024_S1024x2816_1_0) bitsLt_bf16_f32 : FVec Ideal S1024x2816 .bf16) (ix2 p q)
      = ∑ j : Fin 4096, y (ix2 j q) * x (ix2 j p) := by
  pointwise!

theorem quiet : Cert.quiescent_Reference3Ideal (hReference3Ideal := Gen.facts) :=
  fun m ρ _ => (θ_run defs _ _).mono
    (fun r h => ⟨fun c => (h c).2, Idealize.ShloMosaic.sem_eq_zero_of_no_sems (by decide) r.2⟩) (Value.run m ρ)

end Cert.Reference3Ideal.GateW

namespace Cert.GateW

open Idealize.ShloMosaic Idealize.ShloMosaic.TcCoe Idealize.SL.Sem

/-- The call's result is the gradient of the product with respect to the weights. -/
theorem values : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Value.G2 m c, Cert.Kernel3Ideal.Value.run m ρ, ?_⟩
  refine (θ_run Cert.Reference3Ideal.defs _ _).mono (fun r h c => ?_) (Cert.Reference3Ideal.Value.run m' ρ')
  refine ⟨(h c).1.trans ?_, (h c).2⟩
  rw [(hag c).1, (hag c).2]
  funext i
  obtain ⟨p, q, rfl⟩ : ∃ (p : Fin 1024) (q : Fin 2816), i = ix2 p q := ⟨i 0, i 1, eq_ix2 i⟩
  refine (Cert.Reference3Ideal.GateW.grad_at _ _ p q).trans ((Finset.sum_congr rfl fun j _ => ?_).trans (Cert.Kernel3Ideal.GateW.result_at m c p q).symm)
  exact mul_comm _ _

end Cert.GateW

end
-- ==== Proof.DownW.lean ====
module

public import proofs.«01_k».proof.Defs
public import proofs.«01_k».proof.Proof.Gen.Kernel4Ideal.Value
public import proofs.«01_k».proof.Proof.Gen.Reference4Ideal.Run
public import proofs.«01_k».proof.Proof.Halves
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The gradient of the second layer's weights: two products over half of the rows each, added in a scratch array. -/

noncomputable section

namespace Cert.Kernel4Ideal.DownW

open Cert.Kernel4Ideal Cert.Kernel4Ideal.Gen Cert.Kernel4Ideal.Value
open Idealize.ShloMosaic Idealize.ShloMosaic.TcCoe Idealize.ShloMosaic.Tactic Idealize.SL.Sem

theorem hz : (![0, 0] : Fin 2 → Nat) = fun _ => 0 := funext fun a => by fin_cases a <;> rfl

section Pieces
variable {F : FTy → Type} [FloatOps F]

/-- The first half's point leaves the product of its two blocks in the scratch array. -/
theorem first (c : Dev nD) (i : grid0.Coords) (a3 : Memref sig .tc .vmem S2048x1408 .bf16) (h3 : a3.IsWhole)
    (a4 : Memref sig .tc .vmem S2048x1024 .f32) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i) (hc2 : ¬cond0_2 i)
    (x : Vec F S2048x1408 .bf16) (y : Vec F S2048x1024 .f32) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1408) hz, View.ld_unit_zero (S := S2048x1024) hz]

/-- The second half's point leaves in the result's block the scratch's contents plus the product of its two blocks. -/
theorem second (c : Dev nD) (i : grid0.Coords) (a3 : Memref sig .tc .vmem S2048x1408 .bf16) (h3 : a3.IsWhole)
    (a4 : Memref sig .tc .vmem S2048x1024 .f32) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i) (hc2 : cond0_2 i)
    (x : Vec F S2048x1408 .bf16) (y : Vec F S2048x1024 .f32) (z : Vec F S1408x1024 .f32) :
    out0_B_2 c i a3 h3 a4 h4 a5 h5 a6 h6 hc0 hc1 hc2 x y z = k0_pay4 (k0_pay3 x y z) := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz, View.readCov_unit_zero (S := S1408x1024) _ hz]
  simp only [View.readAt_eq_ld, h3.read_unread, h4.read_unread, h6.read_unread, View.ld_unit_zero (S := S2048x1408) hz, View.ld_unit_zero (S := S2048x1024) hz, View.ld_unit_zero (S := S1408x1024) hz]

end Pieces

/-- One block's product at an index. -/
theorem prod_at (x : Vec Ideal S2048x1408 .bf16) (y : Vec Ideal S2048x1024 .f32) (p : Fin 1408) (q : Fin 1024) :
    (k0_pay2 x y) (ix2 p q) = ∑ j : Fin 2048, x (ix2 j p) * y (ix2 j q) := by
  pointwise! [k0_pay2, k0_pay1]

/-- The sum of the scratch and the second block's product at an index. -/
theorem total_at (x : Vec Ideal S2048x1408 .bf16) (y : Vec Ideal S2048x1024 .f32) (z : Vec Ideal S1408x1024 .f32) (p : Fin 1408) (q : Fin 1024) :
    (k0_pay4 (k0_pay3 x y z)) (ix2 p q) = z (ix2 p q) + ∑ j : Fin 2048, x (ix2 j p) * y (ix2 j q) := by
  pointwise! [k0_pay4, k0_pay3, k0_pay1]

variable (m : (ℓ : Loc nD τ sig) → Buf (Elt Ideal) ℓ)

/-- The two arguments, and the blocks of them that point `t` reads. -/
def A (c : Dev nD) : Vec Ideal S4096x2816 .bf16 := m ((c : Thread nD τ).loc main_arg0)
def B (c : Dev nD) : Vec Ideal S4096x1024 .f32 := m ((c : Thread nD τ).loc main_arg1)
def X (c : Dev nD) (t : Fin cfg0.N) : Vec Ideal S2048x1408 .bf16 := iblk m c 0 t
def Y (c : Dev nD) (t : Fin cfg0.N) : Vec Ideal S2048x1024 .f32 := iblk m c 1 t

theorem at0 : ∀ t : Fin cfg0.N, win0_0.index t (0 : Fin 2) = t.val % 2 ∧ win0_0.index t (1 : Fin 2) = t.val / 2 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)

theorem X_at (c : Dev nD) (t : Fin cfg0.N) (j : Fin 2048) (p : Fin 1408) (h : 2048 * (t.val % 2) + j.val < 4096)
    (h' : 1408 * (t.val / 2) + p.val < 2816) :
    X m c t (ix2 j p) = A m c (ix2 ⟨2048 * (t.val % 2) + j.val, h⟩ ⟨1408 * (t.val / 2) + p.val, h'⟩) := by
  unfold X A iblk
  rw [View.read_apply]
  show V m c main_arg0 _ = m (c.tc.loc main_arg0) _
  rw [V_main_arg0]
  congr 1
  funext a
  apply Fin.ext
  match a with
  | ⟨0, _⟩ => show win0_0.index t 0 * 2048 + 1 * j.val = 2048 * (t.val % 2) + j.val; rw [(at0 t).1]; omega
  | ⟨1, _⟩ => show win0_0.index t 1 * 1408 + 1 * p.val = 1408 * (t.val / 2) + p.val; rw [(at0 t).2]; omega

theorem Y_at (c : Dev nD) (t : Fin cfg0.N) (j : Fin 2048) (q : Fin 1024) (h : 2048 * (t.val % 2) + j.val < 4096) :
    Y m c t (ix2 j q) = B m c (ix2 ⟨2048 * (t.val % 2) + j.val, h⟩ q) := by
  unfold Y B iblk
  rw [View.read_apply]
  show V m c main_arg1 _ = m (c.tc.loc main_arg1) _
  rw [V_main_arg1]
  congr 1
  funext a
  apply Fin.ext
  match a with
  | ⟨0, _⟩ => show win0_1.index t 0 * 2048 + 1 * j.val = 2048 * (t.val % 2) + j.val; rw [(at1 t).1]; omega
  | ⟨1, _⟩ => show win0_1.index t 1 * 1024 + 1 * q.val = q.val; rw [(at1 t).2]; omega

/-- The result's block after a second half's point: the sum of the two halves' products. -/
theorem block_at (c : Dev nD) (n : ℕ) (h : n < cfg0.N) (hn : n % 2 = 1) (p : Fin 1408) (q : Fin 1024) :
    (outsAt0 m c n h).1 (ix2 p q)
      = (∑ j : Fin 2048, X m c ⟨n - 1, by omega⟩ (ix2 j p) * Y m c ⟨n - 1, by omega⟩ (ix2 j q))
        + ∑ j : Fin 2048, X m c ⟨n, h⟩ (ix2 j p) * Y m c ⟨n, h⟩ (ix2 j q) := by
  have h0 : (n - 1) % 2 = 0 := by omega
  rw [outsAt0_B m c ⟨n, h⟩ (by dsimp only; omega) hn hn]
  dsimp only
  rw [outsAt0_A m c ⟨n - 1, by omega⟩ h0 (by dsimp only; omega) (by dsimp only; omega)]
  dsimp only
  rw [second, first]
  exact (total_at (X m c ⟨n, h⟩) (Y m c ⟨n, h⟩) _ p q).trans (congrArg (· + _) (prod_at _ _ p q))

/-- The result, element by element: the sum over all rows. -/
theorem result_at (c : Dev nD) (p : Fin 2816) (q : Fin 1024) :
    G2 m c (ix2 p q) = ∑ j : Fin 4096, A m c (ix2 j p) * B m c (ix2 j q) := by
  have hN : cfg0.N = 4 := N_0
  have hr : run2Of (ix2 p q) = p.val / 1408 := by
    show 1 * (p.val / 1408 - 0) + 1 * (q.val / 1024 - 0) = _; omega
  have hp : pt2Of (ix2 p q) < cfg0.N := by
    show 2 * run2Of (ix2 p q) + 1 < _; rw [hr, hN]; omega
  have hl : loc2Of (ix2 p q) = ix2 (⟨p.val % 1408, by omega⟩ : Fin 1408) (⟨q.val, q.isLt⟩ : Fin 1024) := by
    funext a; apply Fin.ext
    match a with
    | ⟨0, _⟩ => rfl
    | ⟨1, _⟩ => show q.val % 1024 = q.val; omega
  unfold G2
  rw [dif_pos hp, ← outsAt0_sweep m c _ hp, hl, block_at m c _ hp (by show (2 * run2Of (ix2 p q) + 1) % 2 = 1; omega)]
  refine Eq.trans ?_ (Cert.Halves.rows fun j => A m c (ix2 j p) * B m c (ix2 j q))
  have e0 : (pt2Of (ix2 p q) - 1) % 2 = 0 := by show (2 * run2Of (ix2 p q) + 1 - 1) % 2 = 0; omega
  have e1 : pt2Of (ix2 p q) % 2 = 1 := by show (2 * run2Of (ix2 p q) + 1) % 2 = 1; omega
  have d0 : (pt2Of (ix2 p q) - 1) / 2 = p.val / 1408 := by rw [← hr]; show (2 * run2Of (ix2 p q) + 1 - 1) / 2 = _; omega
  have d1 : pt2Of (ix2 p q) / 2 = p.val / 1408 := by rw [← hr]; show (2 * run2Of (ix2 p q) + 1) / 2 = _; omega
  refine congrArg₂ (· + ·) (Finset.sum_congr rfl fun j _ => ?_) (Finset.sum_congr rfl fun j _ => ?_)
  · refine Ideal.mul_congr ((X_at m c _ j _ (by dsimp only; omega) (by dsimp only; omega)).trans (congrArg (A m c) ?_)) ((Y_at m c _ j _ (by dsimp only; omega)).trans (congrArg (B m c) ?_))
    · funext a; apply Fin.ext
      match a with
      | ⟨0, _⟩ => show 2048 * ((pt2Of (ix2 p q) - 1) % 2) + j.val = 2048 * 0 + j.val; rw [e0]
      | ⟨1, _⟩ => show 1408 * ((pt2Of (ix2 p q) - 1) / 2) + p.val % 1408 = p.val; rw [d0]; omega
    · funext a; apply Fin.ext
      match a with
      | ⟨0, _⟩ => show 2048 * ((pt2Of (ix2 p q) - 1) % 2) + j.val = 2048 * 0 + j.val; rw [e0]
      | ⟨1, _⟩ => rfl
  · refine Ideal.mul_congr ((X_at m c _ j _ (by dsimp only; omega) (by dsimp only; omega)).trans (congrArg (A m c) ?_)) ((Y_at m c _ j _ (by dsimp only; omega)).trans (congrArg (B m c) ?_))
    · funext a; apply Fin.ext
      match a with
      | ⟨0, _⟩ => show 2048 * (pt2Of (ix2 p q) % 2) + j.val = 2048 * 1 + j.val; rw [e1]
      | ⟨1, _⟩ => show 1408 * (pt2Of (ix2 p q) / 2) + p.val % 1408 = p.val; rw [d1]; omega
    · funext a; apply Fin.ext
      match a with
      | ⟨0, _⟩ => show 2048 * (pt2Of (ix2 p q) % 2) + j.val = 2048 * 1 + j.val; rw [e1]
      | ⟨1, _⟩ => rfl

end Cert.Kernel4Ideal.DownW

namespace Cert.Reference4Ideal.DownW

open Cert.Reference4Ideal Cert.Reference4Ideal.Gen
open Idealize.ShloMosaic Idealize.ShloMosaic.TcCoe Idealize.ShloMosaic.Tactic Idealize.SL.Sem

/-- The reference's gradient at an index: the derivative of a product with respect to its second factor. -/
theorem grad_at (x : FVec Ideal S4096x2816 .bf16) (y : FVec Ideal S4096x1024 .f32) (p : Fin 2816) (q : Fin 1024) :
    (truncf (F := Ideal) .bf16 (transpose S2816x1024 [1, 0] (Host.dotGeneral dot_S4096x1024_S4096x2816_S1024x2816_0_0_1_1_n_n none y (extf .f32 x bitsLt_bf16_f32)) transposes_S1024x2816_S2816x1024_1_0) bitsLt_bf16_f32 : FVec Ideal S2816x1024 .bf16) (ix2 p q)
      = ∑ j : Fin 4096, y (ix2 j q) * x (ix2 j p) := by
  pointwise!

theorem quiet : Cert.quiescent_Reference4Ideal (hReference4Ideal := Gen.facts) :=
  fun m ρ _ => (θ_run defs _ _).mono
    (fun r h => ⟨fun c => (h c).2, Idealize.ShloMosaic.sem_eq_zero_of_no_sems (by decide) r.2⟩) (Value.run m ρ)

end Cert.Reference4Ideal.DownW

namespace Cert.DownW

open Idealize.ShloMosaic Idealize.ShloMosaic.TcCoe Idealize.SL.Sem

/-- The call's result is the gradient of the product with respect to the weights. -/
theorem values : Cert.algebraic_Kernel4Ideal_Reference4Ideal (hKernel4Ideal := Cert.Kernel4Ideal.Gen.facts)
    (hReference4Ideal := Cert.Reference4Ideal.Gen.facts) := by
  intro m ρ m' ρ' _ hag
  refine ⟨fun c => Cert.Kernel4Ideal.Value.G2 m c, Cert.Kernel4Ideal.Value.run m ρ, ?_⟩
  refine (θ_run Cert.Reference4Ideal.defs _ _).mono (fun r h c => ?_) (Cert.Reference4Ideal.Value.run m' ρ')
  refine ⟨(h c).1.trans ?_, (h c).2⟩
  rw [(hag c).1, (hag c).2]
  funext i
  obtain ⟨p, q, rfl⟩ : ∃ (p : Fin 2816) (q : Fin 1024), i = ix2 p q := ⟨i 0, i 1, eq_ix2 i⟩
  refine (Cert.Reference4Ideal.DownW.grad_at _ _ p q).trans ((Finset.sum_congr rfl fun j _ => ?_).trans (Cert.Kernel4Ideal.DownW.result_at m c p q).symm)
  exact mul_comm _ _

end Cert.DownW

end
-- ==== Proof.SquareW.lean ====
module

public import proofs.«01_k».proof.Defs
public import proofs.«01_k».proof.Proof.Gen.Kernel5Ideal.Value
public import proofs.«01_k».proof.Proof.Gen.Reference5Ideal.Run
public import proofs.«01_k».proof.Proof.Halves
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The gradient of weights of 1024 by 1024: two products over half of the rows each, added in a scratch array. -/

noncomputable section

namespace Cert.Kernel5Ideal.SquareW

open Cert.Kernel5Ideal Cert.Kernel5Ideal.Gen Cert.Kernel5Ideal.Value
open Idealize.ShloMosaic Idealize.ShloMosaic.TcCoe Idealize.ShloMosaic.Tactic Idealize.SL.Sem

theorem hz : (![0, 0] : Fin 2 → Nat) = fun _ => 0 := funext fun a => by fin_cases a <;> rfl

section Pieces
variable {F : FTy → Type} [FloatOps F]

/-- The first half's point leaves the product of its two blocks in the scratch array. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x : Vec F S2048x1024 .bf16) (y : Vec F S2048x1024 .bf16) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1024) hz]

/-- The second half's point leaves in the result's block the scratch's contents plus the product of its two blocks. -/
theorem second (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : cond0_2 i)
    (x : Vec F S2048x1024 .bf16) (y : Vec F S2048x1024 .bf16) (z : Vec F S1024x1024 .f32) :
    out0_B_2 c i a3 h3 a4 h4 a5 h5 a6 h6 hc0 hc1 hc2 x y z = k0_pay4 (k0_pay3 x y z) := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]

end Pieces

/-- One block's product at an index. -/
theorem prod_at (x : Vec Ideal S2048x1024 .bf16) (y : Vec Ideal S2048x1024 .bf16) (p : Fin 1024) (q : Fin 1024) :
    (k0_pay2 x y) (ix2 p q) = ∑ j : Fin 2048, x (ix2 j p) * y (ix2 j q) := by
  pointwise! [k0_pay2, k0_pay1]

/-- The sum of the scratch and the second block's product at an index. -/
theorem total_at (x : Vec Ideal S2048x1024 .bf16) (y : Vec Ideal S2048x1024 .bf16) (z : Vec Ideal S1024x1024 .f32) (p : Fin 1024) (q : Fin 1024) :
    (k0_pay4 (k0_pay3 x y z)) (ix2 p q) = z (ix2 p q) + ∑ j : Fin 2048, x (ix2 j p) * y (ix2 j q) := by
  pointwise! [k0_pay4, k0_pay3, k0_pay1]

variable (m : (ℓ : Loc nD τ sig) → Buf (Elt Ideal) ℓ)

/-- The two arguments, and the blocks of them that point `t` reads. -/
def A (c : Dev nD) : Vec Ideal S4096x1024 .bf16 := m ((c : Thread nD τ).loc main_arg0)
def B (c : Dev nD) : Vec Ideal S4096x1024 .bf16 := m ((c : Thread nD τ).loc main_arg1)
def X (c : Dev nD) (t : Fin cfg0.N) : Vec Ideal S2048x1024 .bf16 := iblk m c 0 t
def Y (c : Dev nD) (t : Fin cfg0.N) : Vec Ideal S2048x1024 .bf16 := iblk m c 1 t

theorem at0 : ∀ t : Fin cfg0.N, win0_0.index t (0 : Fin 2) = t.val % 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)

theorem X_at (c : Dev nD) (t : Fin cfg0.N) (j : Fin 2048) (p : Fin 1024) (h : 2048 * (t.val % 2) + j.val < 4096) :
    X m c t (ix2 j p) = A m c (ix2 ⟨2048 * (t.val % 2) + j.val, h⟩ p) := by
  unfold X A iblk
  rw [View.read_apply]
  show V m c main_arg0 _ = m (c.tc.loc main_arg0) _
  rw [V_main_arg0]
  congr 1
  funext a
  apply Fin.ext
  match a with
  | ⟨0, _⟩ => show win0_0.index t 0 * 2048 + 1 * j.val = 2048 * (t.val % 2) + j.val; rw [(at0 t).1]; omega
  | ⟨1, _⟩ => show win0_0.index t 1 * 1024 + 1 * p.val = p.val; rw [(at0 t).2]; omega

theorem Y_at (c : Dev nD) (t : Fin cfg0.N) (j : Fin 2048) (q : Fin 1024) (h : 2048 * (t.val % 2) + j.val < 4096) :
    Y m c t (ix2 j q) = B m c (ix2 ⟨2048 * (t.val % 2) + j.val, h⟩ q) := by
  unfold Y B iblk
  rw [View.read_apply]
  show V m c main_arg1 _ = m (c.tc.loc main_arg1) _
  rw [V_main_arg1]
  congr 1
  funext a
  apply Fin.ext
  match a with
  | ⟨0, _⟩ => show win0_1.index t 0 * 2048 + 1 * j.val = 2048 * (t.val % 2) + j.val; rw [(at1 t).1]; omega
  | ⟨1, _⟩ => show win0_1.index t 1 * 1024 + 1 * q.val = q.val; rw [(at1 t).2]; omega

/-- The result's block after a second half's point: the sum of the two halves' products. -/
theorem block_at (c : Dev nD) (n : ℕ) (h : n < cfg0.N) (hn : n % 2 = 1) (p : Fin 1024) (q : Fin 1024) :
    (outsAt0 m c n h).1 (ix2 p q)
      = (∑ j : Fin 2048, X m c ⟨n - 1, by omega⟩ (ix2 j p) * Y m c ⟨n - 1, by omega⟩ (ix2 j q))
        + ∑ j : Fin 2048, X m c ⟨n, h⟩ (ix2 j p) * Y m c ⟨n, h⟩ (ix2 j q) := by
  have h0 : (n - 1) % 2 = 0 := by omega
  rw [outsAt0_B m c ⟨n, h⟩ (by dsimp only; omega) hn hn]
  dsimp only
  rw [outsAt0_A m c ⟨n - 1, by omega⟩ h0 (by dsimp only; omega) (by dsimp only; omega)]
  dsimp only
  rw [second, first]
  exact (total_at (X m c ⟨n, h⟩) (Y m c ⟨n, h⟩) _ p q).trans (congrArg (· + _) (prod_at _ _ p q))

/-- The result, element by element: the sum over all rows. -/
theorem result_at (c : Dev nD) (p : Fin 1024) (q : Fin 1024) :
    G2 m c (ix2 p q) = ∑ j : Fin 4096, A m c (ix2 j p) * B m c (ix2 j q) := by
  have hN : cfg0.N = 2 := N_0
  have hr : run2Of (ix2 p q) = 0 := by
    show 1 * (p.val / 1024 - 0) + 1 * (q.val / 1024 - 0) = _; omega
  have hp : pt2Of (ix2 p q) < cfg0.N := by
    show 2 * run2Of (ix2 p q) + 1 < _; rw [hr, hN]; omega
  have hl : loc2Of (ix2 p q) = ix2 (⟨p.val, p.isLt⟩ : Fin 1024) (⟨q.val, q.isLt⟩ : Fin 1024) := by
    funext a; apply Fin.ext
    match a with
    | ⟨0, _⟩ => show p.val % 1024 = p.val; omega
    | ⟨1, _⟩ => show q.val % 1024 = q.val; omega
  unfold G2
  rw [dif_pos hp, ← outsAt0_sweep m c _ hp, hl, block_at m c _ hp (by show (2 * run2Of (ix2 p q) + 1) % 2 = 1; omega)]
  refine Eq.trans ?_ (Cert.Halves.rows fun j => A m c (ix2 j p) * B m c (ix2 j q))
  have e0 : (pt2Of (ix2 p q) - 1) % 2 = 0 := by show (2 * run2Of (ix2 p q) + 1 - 1) % 2 = 0; omega
  have e1 : pt2Of (ix2 p q) % 2 = 1 := by show (2 * run2Of (ix2 p q) + 1) % 2 = 1; omega
  refine congrArg₂ (· + ·) (Finset.sum_congr rfl fun j _ => ?_) (Finset.sum_congr rfl fun j _ => ?_)
  · refine Ideal.mul_congr ((X_at m c _ j _ (by dsimp only; omega)).trans (congrArg (A m c) ?_)) ((Y_at m c _ j _ (by dsimp only; omega)).trans (congrArg (B m c) ?_))
    all_goals
      funext a; apply Fin.ext
      match a with
      | ⟨0, _⟩ => show 2048 * ((pt2Of (ix2 p q) - 1) % 2) + j.val = 2048 * 0 + j.val; rw [e0]
      | ⟨1, _⟩ => rfl
  · refine Ideal.mul_congr ((X_at m c _ j _ (by dsimp only; omega)).trans (congrArg (A m c) ?_)) ((Y_at m c _ j _ (by dsimp only; omega)).trans (congrArg (B m c) ?_))
    all_goals
      funext a; apply Fin.ext
      match a with
      | ⟨0, _⟩ => show 2048 * (pt2Of (ix2 p q) % 2) + j.val = 2048 * 1 + j.val; rw [e1]
      | ⟨1, _⟩ => rfl

end Cert.Kernel5Ideal.SquareW

namespace Cert.Reference5Ideal.SquareW

open Cert.Reference5Ideal Cert.Reference5Ideal.Gen
open Idealize.ShloMosaic Idealize.ShloMosaic.TcCoe Idealize.ShloMosaic.Tactic Idealize.SL.Sem

/-- The reference's gradient at an index: the derivative of a product with respect to its second factor. -/
theorem grad_at (x : FVec Ideal S4096x1024 .bf16) (y : FVec Ideal S4096x1024 .bf16) (p : Fin 1024) (q : Fin 1024) :
    (truncf (F := Ideal) .bf16 (transpose S1024x1024 [1, 0] (Host.dotGeneral dot_S4096x1024_S4096x1024_S1024x1024_0_0_1_1_n_n none (extf .f32 y bitsLt_bf16_f32) (extf .f32 x bitsLt_bf16_f32)) transposes_S1024x1024_S1024x1024_1_0) bitsLt_bf16_f32 : FVec Ideal S1024x1024 .bf16) (ix2 p q)
      = ∑ j : Fin 4096, y (ix2 j q) * x (ix2 j p) := by
  pointwise!

theorem quiet : Cert.quiescent_Reference5Ideal (hReference5Ideal := Gen.facts) :=
  fun m ρ _ => (θ_run defs _ _).mono
    (fun r h => ⟨fun c => (h c).2, Idealize.ShloMosaic.sem_eq_zero_of_no_sems (by decide) r.2⟩) (Value.run m ρ)

end Cert.Reference5Ideal.SquareW

namespace Cert.SquareW

open Idealize.ShloMosaic Idealize.ShloMosaic.TcCoe Idealize.SL.Sem

/-- The call's result is the gradient of the product with respect to the weights. -/
theorem values : Cert.algebraic_Kernel5Ideal_Reference5Ideal (hKernel5Ideal := Cert.Kernel5Ideal.Gen.facts)
    (hReference5Ideal := Cert.Reference5Ideal.Gen.facts) := by
  intro m ρ m' ρ' _ hag
  refine ⟨fun c => Cert.Kernel5Ideal.Value.G2 m c, Cert.Kernel5Ideal.Value.run m ρ, ?_⟩
  refine (θ_run Cert.Reference5Ideal.defs _ _).mono (fun r h c => ?_) (Cert.Reference5Ideal.Value.run m' ρ')
  refine ⟨(h c).1.trans ?_, (h c).2⟩
  rw [(hag c).1, (hag c).2]
  funext i
  obtain ⟨p, q, rfl⟩ : ∃ (p : Fin 1024) (q : Fin 1024), i = ix2 p q := ⟨i 0, i 1, eq_ix2 i⟩
  refine (Cert.Reference5Ideal.SquareW.grad_at _ _ p q).trans ((Finset.sum_congr rfl fun j _ => ?_).trans (Cert.Kernel5Ideal.SquareW.result_at m c p q).symm)
  exact mul_comm _ _

end Cert.SquareW

end
-- ==== Proof.Ffn.lean ====
module

public import proofs.«01_k».proof.Defs
public import proofs.«01_k».proof.Proof.Gen.Kernel6Ideal.Value
public import proofs.«01_k».proof.Proof.Gen.Reference6Ideal.Run
public import proofs.«01_k».proof.Proof.Mixer
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The SwiGLU mixer forward: sixteen blocks of 256 rows, each row's three results those of the reference. -/

noncomputable section

namespace Cert.Kernel6Ideal.Ffn

open Cert.Kernel6Ideal Cert.Kernel6Ideal.Gen Cert.Kernel6Ideal.Value
open Idealize.ShloMosaic Idealize.ShloMosaic.TcCoe Idealize.ShloMosaic.Tactic Idealize.SL.Sem

theorem hz : (![0, 0] : Fin 2 → Nat) = fun _ => 0 := funext fun a => by fin_cases a <;> rfl

section Payloads
variable (x : Vec Ideal S256x1024 .f32) (g : Vec Ideal S1x1024 .f32) (wg wu : Vec Ideal S1024x2816 .bf16) (wd : Vec Ideal S2816x1024 .bf16)

theorem norm_at (p : Fin 256) (k : Fin 1024) :
    (k0_pay1 x g) (ix2 p k) = Mixer.norm (fun j => x (ix2 p j)) (fun j => g (ix2 0 j)) k := by
  unfold Mixer.norm Mixer.root
  pointwise! [k0_pay1]

theorem gate_at (p : Fin 256) (f : Fin 2816) :
    (k0_pay2 x g wg) (ix2 p f) = Mixer.proj (fun j => x (ix2 p j)) (fun j => g (ix2 0 j)) (fun k f => wg (ix2 k f)) f := by
  refine Eq.trans (b := ∑ k : Fin 1024, k0_pay1 x g (ix2 p k) * wg (ix2 k f)) (by pointwise! [k0_pay2]) ?_
  exact Finset.sum_congr rfl fun k _ => Ideal.mul_congr (norm_at x g p k) rfl

theorem up_at (p : Fin 256) (f : Fin 2816) :
    (k0_pay3 x g wu) (ix2 p f) = Mixer.proj (fun j => x (ix2 p j)) (fun j => g (ix2 0 j)) (fun k f => wu (ix2 k f)) f :=
  gate_at x g wu p f

theorem row_at (p : Fin 256) (q : Fin 1024) :
    (k0_pay4 x g wg wu wd) (ix2 p q)
      = Mixer.out (fun j => x (ix2 p j)) (fun j => g (ix2 0 j)) (fun k f => wg (ix2 k f)) (fun k f => wu (ix2 k f)) (fun f q => wd (ix2 f q)) q := by
  refine Eq.trans (b := x (ix2 p q) + ∑ f : Fin 2816, Mixer.act (k0_pay2 x g wg (ix2 p f)) (k0_pay3 x g wu (ix2 p f)) * wd (ix2 f q))
    (by unfold Mixer.act; pointwise! [k0_pay4]) ?_
  refine congrArg _ (Finset.sum_congr rfl fun f _ => ?_)
  rw [gate_at, up_at]

end Payloads

section Pieces
variable {F : FTy → Type} [FloatOps F]

theorem piece5 (x : Vec F S256x1024 .f32) (g : Vec F S1x1024 .f32) (wg wu : Vec F S1024x2816 .bf16) (wd : Vec F S2816x1024 .bf16) :
    out0_5 x g wg wu wd = k0_pay4 x g wg wu wd := by
  unfold out0_5
  rw [View.canon_unit_zero hz]
  simp only [View.ld_unit_zero (S := S256x1024) hz, View.ld_unit_zero (S := S1x1024) hz, View.ld_unit_zero (S := S1024x2816) hz, View.ld_unit_zero (S := S2816x1024) hz]

theorem piece6 (x : Vec F S256x1024 .f32) (g : Vec F S1x1024 .f32) (wg wu : Vec F S1024x2816 .bf16) (wd : Vec F S2816x1024 .bf16) :
    out0_6 x g wg wu wd = k0_pay5 x g wg := by
  unfold out0_6
  rw [View.canon_unit_zero hz]
  simp only [View.ld_unit_zero (S := S256x1024) hz, View.ld_unit_zero (S := S1x1024) hz, View.ld_unit_zero (S := S1024x2816) hz]

theorem piece7 (x : Vec F S256x1024 .f32) (g : Vec F S1x1024 .f32) (wg wu : Vec F S1024x2816 .bf16) (wd : Vec F S2816x1024 .bf16) :
    out0_7 x g wg wu wd = k0_pay6 x g wu := by
  unfold out0_7
  rw [View.canon_unit_zero hz]
  simp only [View.ld_unit_zero (S := S256x1024) hz, View.ld_unit_zero (S := S1x1024) hz, View.ld_unit_zero (S := S1024x2816) hz]

end Pieces

variable (m : (ℓ : Loc nD τ sig) → Buf (Elt Ideal) ℓ)

/-- The arguments. -/
def H (c : Dev nD) : Vec Ideal S4096x1024 .f32 := m ((c : Thread nD τ).loc main_arg0)
def G (c : Dev nD) : Vec Ideal S1x1024 .f32 := m ((c : Thread nD τ).loc main_arg1)
def Wg (c : Dev nD) : Vec Ideal S1024x2816 .bf16 := m ((c : Thread nD τ).loc main_arg2)
def Wu (c : Dev nD) : Vec Ideal S1024x2816 .bf16 := m ((c : Thread nD τ).loc main_arg3)
def Wd (c : Dev nD) : Vec Ideal S2816x1024 .bf16 := m ((c : Thread nD τ).loc main_arg4)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)

/-- The block of rows that point `t` reads. -/
def X (c : Dev nD) (t : Fin cfg0.N) : Vec Ideal S256x1024 .f32 := iblk m c 0 t

theorem X_at (c : Dev nD) (t : Fin cfg0.N) (p : Fin 256) (k : Fin 1024) (h : 256 * t.val + p.val < 4096) :
    X m c t (ix2 p k) = H m c (ix2 ⟨256 * t.val + p.val, h⟩ k) := by
  unfold X H iblk
  rw [View.read_apply]
  show V m c main_arg0 _ = m (c.tc.loc main_arg0) _
  rw [V_main_arg0]
  congr 1
  funext a
  apply Fin.ext
  match a with
  | ⟨0, _⟩ => show win0_0.index t 0 * 256 + 1 * p.val = 256 * t.val + p.val; rw [(at0 t).1]; omega
  | ⟨1, _⟩ => show win0_0.index t 1 * 1024 + 1 * k.val = k.val; rw [(at0 t).2]; omega

/-- The other blocks are the whole arguments. -/
theorem gain_eq (c : Dev nD) (t : Fin cfg0.N) : iblk m c 1 t = G m c := by
  funext i
  unfold G iblk
  rw [View.read_apply]
  show V m c main_arg1 _ = m (c.tc.loc main_arg1) _
  rw [V_main_arg1]
  congr 1
  funext a
  apply Fin.ext
  match a with
  | ⟨0, _⟩ => show win0_1.index t 0 * 1 + 1 * (i 0).val = (i 0).val; rw [(at1 t).1]; omega
  | ⟨1, _⟩ => show win0_1.index t 1 * 1024 + 1 * (i 1).val = (i 1).val; rw [(at1 t).2]; omega

theorem wg_eq (c : Dev nD) (t : Fin cfg0.N) : iblk m c 2 t = Wg m c := by
  funext i
  unfold Wg iblk
  rw [View.read_apply]
  show V m c main_arg2 _ = m (c.tc.loc main_arg2) _
  rw [V_main_arg2]
  congr 1
  funext a
  apply Fin.ext
  match a with
  | ⟨0, _⟩ => show win0_2.index t 0 * 1024 + 1 * (i 0).val = (i 0).val; rw [(at2 t).1]; omega
  | ⟨1, _⟩ => show win0_2.index t 1 * 2816 + 1 * (i 1).val = (i 1).val; rw [(at2 t).2]; omega

theorem wu_eq (c : Dev nD) (t : Fin cfg0.N) : iblk m c 3 t = Wu m c := by
  funext i
  unfold Wu iblk
  rw [View.read_apply]
  show V m c main_arg3 _ = m (c.tc.loc main_arg3) _
  rw [V_main_arg3]
  congr 1
  funext a
  apply Fin.ext
  match a with
  | ⟨0, _⟩ => show win0_3.index t 0 * 1024 + 1 * (i 0).val = (i 0).val; rw [(at3 t).1]; omega
  | ⟨1, _⟩ => show win0_3.index t 1 * 2816 + 1 * (i 1).val = (i 1).val; rw [(at3 t).2]; omega

theorem wd_eq (c : Dev nD) (t : Fin cfg0.N) : iblk m c 4 t = Wd m c := by
  funext i
  unfold Wd iblk
  rw [View.read_apply]
  show V m c main_arg4 _ = m (c.tc.loc main_arg4) _
  rw [V_main_arg4]
  congr 1
  funext a
  apply Fin.ext
  match a with
  | ⟨0, _⟩ => show win0_4.index t 0 * 2816 + 1 * (i 0).val = (i 0).val; rw [(at4 t).1]; omega
  | ⟨1, _⟩ => show win0_4.index t 1 * 1024 + 1 * (i 1).val = (i 1).val; rw [(at4 t).2]; omega

/-- A row of the first argument, and the weights as functions. -/
def row (c : Dev nD) (r : Fin 4096) : Fin 1024 → EReal := fun j => H m c (ix2 r j)
def gain (c : Dev nD) : Fin 1024 → EReal := fun j => G m c (ix2 0 j)
def up (w : Vec Ideal S1024x2816 .bf16) : Fin 1024 → Fin 2816 → EReal := fun k f => w (ix2 k f)
def down (w : Vec Ideal S2816x1024 .bf16) : Fin 2816 → Fin 1024 → EReal := fun f q => w (ix2 f q)

theorem lt_N (t : Fin cfg0.N) : t.val < 16 := lt_of_lt_of_eq t.isLt N_0

/-- A row number is a block's number and a row of the block. -/
theorem split (r : Fin 4096) : ∃ (t : Fin cfg0.N) (p : Fin 256) (h : 256 * t.val + p.val < 4096), r = ⟨256 * t.val + p.val, h⟩ :=
  ⟨⟨r.val / 256, by rw [show cfg0.N = 16 from N_0]; omega⟩, ⟨r.val % 256, by omega⟩, by dsimp only; omega, Fin.ext (by dsimp only; omega)⟩

theorem rows_eq (c : Dev nD) (t : Fin cfg0.N) (p : Fin 256) (h : 256 * t.val + p.val < 4096) :
    (fun j => X m c t (ix2 p j)) = row m c ⟨256 * t.val + p.val, h⟩ :=
  funext fun j => X_at m c t p j h

theorem first_at (c : Dev nD) (r : Fin 4096) (q : Fin 1024) :
    ((dats m 0 c).arrAt 5 cfg0.N : Vec Ideal S4096x1024 .f32) (ix2 r q)
      = Mixer.out (row m c r) (gain m c) (up (Wg m c)) (up (Wu m c)) (down (Wd m c)) q := by
  obtain ⟨t, p, hr, rfl⟩ := split r
  have h := congrFun ((blocks5 m c t (flush0_5 t)).trans (flushed5 m c t)) (ix2 p q)
  rw [piece5, gain_eq, wg_eq, wu_eq, wd_eq] at h
  refine Eq.trans (congrArg ((dats m 0 c).arrAt 5 cfg0.N) (funext fun ax => Fin.ext ?_)) (h.trans ?_)
  · symm
    match ax with
    | ⟨0, _⟩ => show win0_5.index t 0 * 256 + 1 * p.val = 256 * t.val + p.val; rw [(at5 t).1]; omega
    | ⟨1, _⟩ => show win0_5.index t 1 * 1024 + 1 * q.val = q.val; rw [(at5 t).2]; omega
  · refine (row_at (X m c t) _ _ _ _ p q).trans ?_
    rw [rows_eq m c t p hr]
    rfl

theorem second_at (c : Dev nD) (r : Fin 4096) (f : Fin 2816) :
    ((dats m 0 c).arrAt 6 cfg0.N : Vec Ideal S4096x2816 .bf16) (ix2 r f)
      = Mixer.proj (row m c r) (gain m c) (up (Wg m c)) f := by
  obtain ⟨t, p, hr, rfl⟩ := split r
  have h := congrFun ((blocks6 m c t (flush0_6 t)).trans (flushed6 m c t)) (ix2 p f)
  rw [piece6, gain_eq, wg_eq] at h
  refine Eq.trans (congrArg ((dats m 0 c).arrAt 6 cfg0.N) (funext fun ax => Fin.ext ?_)) (h.trans ?_)
  · symm
    match ax with
    | ⟨0, _⟩ => show win0_6.index t 0 * 256 + 1 * p.val = 256 * t.val + p.val; rw [(at6 t).1]; omega
    | ⟨1, _⟩ => show win0_6.index t 1 * 2816 + 1 * f.val = f.val; rw [(at6 t).2]; omega
  · refine (gate_at (X m c t) _ _ p f).trans ?_
    rw [rows_eq m c t p hr]
    rfl

theorem third_at (c : Dev nD) (r : Fin 4096) (f : Fin 2816) :
    ((dats m 0 c).arrAt 7 cfg0.N : Vec Ideal S4096x2816 .bf16) (ix2 r f)
      = Mixer.proj (row m c r) (gain m c) (up (Wu m c)) f := by
  obtain ⟨t, p, hr, rfl⟩ := split r
  have h := congrFun ((blocks7 m c t (flush0_7 t)).trans (flushed7 m c t)) (ix2 p f)
  rw [piece7, gain_eq, wu_eq] at h
  refine Eq.trans (congrArg ((dats m 0 c).arrAt 7 cfg0.N) (funext fun ax => Fin.ext ?_)) (h.trans ?_)
  · symm
    match ax with
    | ⟨0, _⟩ => show win0_7.index t 0 * 256 + 1 * p.val = 256 * t.val + p.val; rw [(at7 t).1]; omega
    | ⟨1, _⟩ => show win0_7.index t 1 * 2816 + 1 * f.val = f.val; rw [(at7 t).2]; omega
  · refine (up_at (X m c t) _ _ p f).trans ?_
    rw [rows_eq m c t p hr]
    rfl

end Cert.Kernel6Ideal.Ffn

namespace Cert.Reference6Ideal.Ffn

open Cert.Reference6Ideal Cert.Reference6Ideal.Gen
open Idealize.ShloMosaic Idealize.ShloMosaic.TcCoe Idealize.ShloMosaic.Tactic Idealize.SL.Sem Idealize.ShloMosaic.StableHlo

section Terms
variable (x : FVec Ideal S4096x1024 .f32) (g : FVec Ideal S1x1024 .f32) (wg wu : FVec Ideal S1024x2816 .bf16) (wd : FVec Ideal S2816x1024 .bf16)

/-- The reference's stages: the RMS norm, a projection, the rows after the mixer. -/
def normed : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)

def projected (w : FVec Ideal S1024x2816 .bf16) : FVec Ideal S4096x2816 .f32 :=
  Host.dotGeneral dot_S4096x1024_S1024x2816_S4096x2816_1_0_0_1_n_n none (normed x g) (extf .f32 w bitsLt_bf16_f32)

def mixed : FVec Ideal S4096x1024 .f32 :=
  addf x (Host.dotGeneral dot_S4096x2816_S2816x1024_S4096x1024_1_0_0_1_n_n none (mulf (mulf (projected x g wg) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (projected x g wg)))))) (projected x g wu)) (extf .f32 wd bitsLt_bf16_f32))

theorem normed_at (r : Fin 4096) (k : Fin 1024) :
    normed x g (ix2 r k) = Mixer.norm (fun j => x (ix2 r j)) (fun j => g (ix2 0 j)) k := by
  unfold Mixer.norm Mixer.root
  pointwise! [normed]

theorem projected_at (w : FVec Ideal S1024x2816 .bf16) (r : Fin 4096) (f : Fin 2816) :
    projected x g w (ix2 r f) = Mixer.proj (fun j => x (ix2 r j)) (fun j => g (ix2 0 j)) (fun k f => w (ix2 k f)) f := by
  refine Eq.trans (b := ∑ k : Fin 1024, normed x g (ix2 r k) * w (ix2 k f)) (by pointwise! [projected]) ?_
  exact Finset.sum_congr rfl fun k _ => Ideal.mul_congr (normed_at x g r k) rfl

theorem mixed_at (r : Fin 4096) (q : Fin 1024) :
    mixed x g wg wu wd (ix2 r q)
      = Mixer.out (fun j => x (ix2 r j)) (fun j => g (ix2 0 j)) (fun k f => wg (ix2 k f)) (fun k f => wu (ix2 k f)) (fun f q => wd (ix2 f q)) q := by
  refine Eq.trans (b := x (ix2 r q) + ∑ f : Fin 2816, Mixer.act (projected x g wg (ix2 r f)) (projected x g wu (ix2 r f)) * wd (ix2 f q))
    (by unfold Mixer.act Ideal.logistic; pointwise! [mixed]) ?_
  refine congrArg _ (Finset.sum_congr rfl fun f _ => ?_)
  rw [projected_at, projected_at]

end Terms

theorem quiet : Cert.quiescent_Reference6Ideal (hReference6Ideal := Gen.facts) :=
  fun m ρ _ => (θ_run defs _ _).mono
    (fun r h => ⟨fun c => (h c).2.2.2, Idealize.ShloMosaic.sem_eq_zero_of_no_sems (by decide) r.2⟩) (Value.run m ρ)

end Cert.Reference6Ideal.Ffn

namespace Cert.Ffn

open Idealize.ShloMosaic Idealize.ShloMosaic.TcCoe Idealize.SL.Sem
open Cert.Kernel6Ideal.Gen (dats)

/-- The call's three results are the reference's. -/
theorem values : Cert.algebraic_Kernel6Ideal_Reference6Ideal (hKernel6Ideal := Cert.Kernel6Ideal.Gen.facts)
    (hReference6Ideal := Cert.Reference6Ideal.Gen.facts) := by
  intro m ρ m' ρ' _ hag
  refine ⟨fun c => (dats m 0 c).arrAt 5 Cert.Kernel6Ideal.cfg0.N, fun c => (dats m 0 c).arrAt 6 Cert.Kernel6Ideal.cfg0.N,
    fun c => (dats m 0 c).arrAt 7 Cert.Kernel6Ideal.cfg0.N, Cert.Kernel6Ideal.Value.run_blocks m ρ, ?_⟩
  refine (θ_run Cert.Reference6Ideal.defs _ _).mono (fun r h c => ?_) (Cert.Reference6Ideal.Value.run m' ρ')
  obtain ⟨g0, g1, g2, g3, g4⟩ := hag c
  obtain ⟨h0, h1, h2, hk⟩ := h c
  refine ⟨h0.trans ?_, h1.trans ?_, h2.trans ?_, hk⟩
  · rw [g0, g1, g2, g3, g4]
    funext i
    obtain ⟨p, q, rfl⟩ : ∃ (p : Fin 4096) (q : Fin 1024), i = ix2 p q := ⟨i 0, i 1, eq_ix2 i⟩
    exact (Cert.Reference6Ideal.Ffn.mixed_at _ _ _ _ _ p q).trans (Cert.Kernel6Ideal.Ffn.first_at m c p q).symm
  · rw [g0, g1, g2]
    funext i
    obtain ⟨p, q, rfl⟩ : ∃ (p : Fin 4096) (q : Fin 2816), i = ix2 p q := ⟨i 0, i 1, eq_ix2 i⟩
    exact (Cert.Reference6Ideal.Ffn.projected_at _ _ _ p q).trans (Cert.Kernel6Ideal.Ffn.second_at m c p q).symm
  · rw [g0, g1, g3]
    funext i
    obtain ⟨p, q, rfl⟩ : ∃ (p : Fin 4096) (q : Fin 2816), i = ix2 p q := ⟨i 0, i 1, eq_ix2 i⟩
    exact (Cert.Reference6Ideal.Ffn.projected_at _ _ _ p q).trans (Cert.Kernel6Ideal.Ffn.third_at m c p q).symm

end Cert.Ffn

end
-- ==== Proof.OutW.lean ====
module

public import proofs.«01_k».proof.Defs
public import proofs.«01_k».proof.Proof.Gen.Kernel7Ideal.Value
public import proofs.«01_k».proof.Proof.Gen.Reference7Ideal.Run
public import proofs.«01_k».proof.Proof.Halves
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The gradient of weights of 1024 by 1024 from a cotangent in float32: two products over half of the rows each, added in a scratch array. -/

noncomputable section

namespace Cert.Kernel7Ideal.OutW

open Cert.Kernel7Ideal Cert.Kernel7Ideal.Gen Cert.Kernel7Ideal.Value
open Idealize.ShloMosaic Idealize.ShloMosaic.TcCoe Idealize.ShloMosaic.Tactic Idealize.SL.Sem

theorem hz : (![0, 0] : Fin 2 → Nat) = fun _ => 0 := funext fun a => by fin_cases a <;> rfl

section Pieces
variable {F : FTy → Type} [FloatOps F]

/-- The first half's point leaves the product of its two blocks in the scratch array. -/
theorem first (c : Dev nD) (i : grid0.Coords) (a3 : Memref sig .tc .vmem S2048x1024 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i) (hc2 : ¬cond0_2 i)
    (x : Vec F S2048x1024 .bf16) (y : Vec F S2048x1024 .f32) :
    sout0_A_0 c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  rw [View.canon_unit_zero hz]
  simp only [View.readAt_eq_ld, h3.read_unread, h4.read_unread, View.ld_unit_zero (S := S2048x1024) hz]

/-- The second half's point leaves in the result's block the scratch's contents plus the product of its two blocks. -/
theorem second (c : Dev nD) (i : grid0.Coords) (a3 : Memref sig .tc .vmem S2048x1024 .bf16) (h3 : a3.IsWhole)
    (a4 : Memref sig .tc .vmem S2048x1024 .f32) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i) (hc2 : cond0_2 i)
    (x : Vec F S2048x1024 .bf16) (y : Vec F S2048x1024 .f32) (z : Vec F S1024x1024 .f32) :
    out0_B_2 c i a3 h3 a4 h4 a5 h5 a6 h6 hc0 hc1 hc2 x y z = k0_pay4 (k0_pay3 x y z) := by
  unfold out0_B_2
  rw [View.read_writes_eq_canon _ _ _ (cover0_B_2 c i a3 h3 a4 h4 a5 h5 a6 h6 hc0 hc1 hc2 x y z)]
  unfold kernelRun0_B
  dsimp only
  sl_unfold_words
  rw [View.canon_unit_zero hz, View.readCov_unit_zero (S := S1024x1024) _ hz]
  simp only [View.readAt_eq_ld, h3.read_unread, h4.read_unread, h6.read_unread, View.ld_unit_zero (S := S2048x1024) hz, View.ld_unit_zero (S := S1024x1024) hz]

end Pieces

/-- One block's product at an index. -/
theorem prod_at (x : Vec Ideal S2048x1024 .bf16) (y : Vec Ideal S2048x1024 .f32) (p : Fin 1024) (q : Fin 1024) :
    (k0_pay2 x y) (ix2 p q) = ∑ j : Fin 2048, x (ix2 j p) * y (ix2 j q) := by
  pointwise! [k0_pay2, k0_pay1]

/-- The sum of the scratch and the second block's product at an index. -/
theorem total_at (x : Vec Ideal S2048x1024 .bf16) (y : Vec Ideal S2048x1024 .f32) (z : Vec Ideal S1024x1024 .f32) (p : Fin 1024) (q : Fin 1024) :
    (k0_pay4 (k0_pay3 x y z)) (ix2 p q) = z (ix2 p q) + ∑ j : Fin 2048, x (ix2 j p) * y (ix2 j q) := by
  pointwise! [k0_pay4, k0_pay3, k0_pay1]

variable (m : (ℓ : Loc nD τ sig) → Buf (Elt Ideal) ℓ)

/-- The two arguments, and the blocks of them that point `t` reads. -/
def A (c : Dev nD) : Vec Ideal S4096x1024 .bf16 := m ((c : Thread nD τ).loc main_arg0)
def B (c : Dev nD) : Vec Ideal S4096x1024 .f32 := m ((c : Thread nD τ).loc main_arg1)
def X (c : Dev nD) (t : Fin cfg0.N) : Vec Ideal S2048x1024 .bf16 := iblk m c 0 t
def Y (c : Dev nD) (t : Fin cfg0.N) : Vec Ideal S2048x1024 .f32 := iblk m c 1 t

theorem at0 : ∀ t : Fin cfg0.N, win0_0.index t (0 : Fin 2) = t.val % 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)

theorem X_at (c : Dev nD) (t : Fin cfg0.N) (j : Fin 2048) (p : Fin 1024) (h : 2048 * (t.val % 2) + j.val < 4096) :
    X m c t (ix2 j p) = A m c (ix2 ⟨2048 * (t.val % 2) + j.val, h⟩ p) := by
  unfold X A iblk
  rw [View.read_apply]
  show V m c main_arg0 _ = m (c.tc.loc main_arg0) _
  rw [V_main_arg0]
  congr 1
  funext a
  apply Fin.ext
  match a with
  | ⟨0, _⟩ => show win0_0.index t 0 * 2048 + 1 * j.val = 2048 * (t.val % 2) + j.val; rw [(at0 t).1]; omega
  | ⟨1, _⟩ => show win0_0.index t 1 * 1024 + 1 * p.val = p.val; rw [(at0 t).2]; omega

theorem Y_at (c : Dev nD) (t : Fin cfg0.N) (j : Fin 2048) (q : Fin 1024) (h : 2048 * (t.val % 2) + j.val < 4096) :
    Y m c t (ix2 j q) = B m c (ix2 ⟨2048 * (t.val % 2) + j.val, h⟩ q) := by
  unfold Y B iblk
  rw [View.read_apply]
  show V m c main_arg1 _ = m (c.tc.loc main_arg1) _
  rw [V_main_arg1]
  congr 1
  funext a
  apply Fin.ext
  match a with
  | ⟨0, _⟩ => show win0_1.index t 0 * 2048 + 1 * j.val = 2048 * (t.val % 2) + j.val; rw [(at1 t).1]; omega
  | ⟨1, _⟩ => show win0_1.index t 1 * 1024 + 1 * q.val = q.val; rw [(at1 t).2]; omega

/-- The result's block after a second half's point: the sum of the two halves' products. -/
theorem block_at (c : Dev nD) (n : ℕ) (h : n < cfg0.N) (hn : n % 2 = 1) (p : Fin 1024) (q : Fin 1024) :
    (outsAt0 m c n h).1 (ix2 p q)
      = (∑ j : Fin 2048, X m c ⟨n - 1, by omega⟩ (ix2 j p) * Y m c ⟨n - 1, by omega⟩ (ix2 j q))
        + ∑ j : Fin 2048, X m c ⟨n, h⟩ (ix2 j p) * Y m c ⟨n, h⟩ (ix2 j q) := by
  have h0 : (n - 1) % 2 = 0 := by omega
  rw [outsAt0_B m c ⟨n, h⟩ (by dsimp only; omega) hn hn]
  dsimp only
  rw [outsAt0_A m c ⟨n - 1, by omega⟩ h0 (by dsimp only; omega) (by dsimp only; omega)]
  dsimp only
  rw [second, first]
  exact (total_at (X m c ⟨n, h⟩) (Y m c ⟨n, h⟩) _ p q).trans (congrArg (· + _) (prod_at _ _ p q))

/-- The result, element by element: the sum over all rows. -/
theorem result_at (c : Dev nD) (p : Fin 1024) (q : Fin 1024) :
    G2 m c (ix2 p q) = ∑ j : Fin 4096, A m c (ix2 j p) * B m c (ix2 j q) := by
  have hN : cfg0.N = 2 := N_0
  have hr : run2Of (ix2 p q) = 0 := by
    show 1 * (p.val / 1024 - 0) + 1 * (q.val / 1024 - 0) = _; omega
  have hp : pt2Of (ix2 p q) < cfg0.N := by
    show 2 * run2Of (ix2 p q) + 1 < _; rw [hr, hN]; omega
  have hl : loc2Of (ix2 p q) = ix2 (⟨p.val, p.isLt⟩ : Fin 1024) (⟨q.val, q.isLt⟩ : Fin 1024) := by
    funext a; apply Fin.ext
    match a with
    | ⟨0, _⟩ => show p.val % 1024 = p.val; omega
    | ⟨1, _⟩ => show q.val % 1024 = q.val; omega
  unfold G2
  rw [dif_pos hp, ← outsAt0_sweep m c _ hp, hl, block_at m c _ hp (by show (2 * run2Of (ix2 p q) + 1) % 2 = 1; omega)]
  refine Eq.trans ?_ (Cert.Halves.rows fun j => A m c (ix2 j p) * B m c (ix2 j q))
  have e0 : (pt2Of (ix2 p q) - 1) % 2 = 0 := by show (2 * run2Of (ix2 p q) + 1 - 1) % 2 = 0; omega
  have e1 : pt2Of (ix2 p q) % 2 = 1 := by show (2 * run2Of (ix2 p q) + 1) % 2 = 1; omega
  refine congrArg₂ (· + ·) (Finset.sum_congr rfl fun j _ => ?_) (Finset.sum_congr rfl fun j _ => ?_)
  · refine Ideal.mul_congr ((X_at m c _ j _ (by dsimp only; omega)).trans (congrArg (A m c) ?_)) ((Y_at m c _ j _ (by dsimp only; omega)).trans (congrArg (B m c) ?_))
    all_goals
      funext a; apply Fin.ext
      match a with
      | ⟨0, _⟩ => show 2048 * ((pt2Of (ix2 p q) - 1) % 2) + j.val = 2048 * 0 + j.val; rw [e0]
      | ⟨1, _⟩ => rfl
  · refine Ideal.mul_congr ((X_at m c _ j _ (by dsimp only; omega)).trans (congrArg (A m c) ?_)) ((Y_at m c _ j _ (by dsimp only; omega)).trans (congrArg (B m c) ?_))
    all_goals
      funext a; apply Fin.ext
      match a with
      | ⟨0, _⟩ => show 2048 * (pt2Of (ix2 p q) % 2) + j.val = 2048 * 1 + j.val; rw [e1]
      | ⟨1, _⟩ => rfl

end Cert.Kernel7Ideal.OutW

namespace Cert.Reference7Ideal.OutW

open Cert.Reference7Ideal Cert.Reference7Ideal.Gen
open Idealize.ShloMosaic Idealize.ShloMosaic.TcCoe Idealize.ShloMosaic.Tactic Idealize.SL.Sem

/-- The reference's gradient at an index: the derivative of a product with respect to its second factor. -/
theorem grad_at (x : FVec Ideal S4096x1024 .bf16) (y : FVec Ideal S4096x1024 .f32) (p : Fin 1024) (q : Fin 1024) :
    (truncf (F := Ideal) .bf16 (transpose S1024x1024 [1, 0] (Host.dotGeneral dot_S4096x1024_S4096x1024_S1024x1024_0_0_1_1_n_n none y (extf .f32 x bitsLt_bf16_f32)) transposes_S1024x1024_S1024x1024_1_0) bitsLt_bf16_f32 : FVec Ideal S1024x1024 .bf16) (ix2 p q)
      = ∑ j : Fin 4096, y (ix2 j q) * x (ix2 j p) := by
  pointwise!

theorem quiet : Cert.quiescent_Reference7Ideal (hReference7Ideal := Gen.facts) :=
  fun m ρ _ => (θ_run defs _ _).mono
    (fun r h => ⟨fun c => (h c).2, Idealize.ShloMosaic.sem_eq_zero_of_no_sems (by decide) r.2⟩) (Value.run m ρ)

end Cert.Reference7Ideal.OutW

namespace Cert.OutW

open Idealize.ShloMosaic Idealize.ShloMosaic.TcCoe Idealize.SL.Sem

/-- The call's result is the gradient of the product with respect to the weights. -/
theorem values : Cert.algebraic_Kernel7Ideal_Reference7Ideal (hKernel7Ideal := Cert.Kernel7Ideal.Gen.facts)
    (hReference7Ideal := Cert.Reference7Ideal.Gen.facts) := by
  intro m ρ m' ρ' _ hag
  refine ⟨fun c => Cert.Kernel7Ideal.Value.G2 m c, Cert.Kernel7Ideal.Value.run m ρ, ?_⟩
  refine (θ_run Cert.Reference7Ideal.defs _ _).mono (fun r h c => ?_) (Cert.Reference7Ideal.Value.run m' ρ')
  refine ⟨(h c).1.trans ?_, (h c).2⟩
  rw [(hag c).1, (hag c).2]
  funext i
  obtain ⟨p, q, rfl⟩ : ∃ (p : Fin 1024) (q : Fin 1024), i = ix2 p q := ⟨i 0, i 1, eq_ix2 i⟩
  refine (Cert.Reference7Ideal.OutW.grad_at _ _ p q).trans ((Finset.sum_congr rfl fun j _ => ?_).trans (Cert.Kernel7Ideal.OutW.result_at m c p q).symm)
  exact mul_comm _ _

end Cert.OutW

end
-- ==== Proof.Attn.lean ====
module

public import proofs.«01_k».proof.Proof.MixerBwd
public import proofs.«01_k».proof.Pre_finite8

@[expose] public section

set_option maxRecDepth 16384

/- The cross-attention's gradients on one row, over the extended reals, and the two forms of the softmax's gradient on real entries. -/

noncomputable section

namespace Cert.Attn

open Idealize.ShloMosaic
open Cert.Mixer (IsReal)

section Head
variable (q d : Fin 256 → EReal) (K V : Fin 256 → Fin 256 → EReal)

/-- The scores of a row of one head, the greatest of them, and the softmax. -/
def score (j : Fin 256) : EReal := (∑ i, q i * K j i) * Ideal.ofBits FTy.f32 0x3D800000#32
def top : EReal := Finset.univ.fold max (Ideal.ofBits FTy.f32 0xFF800000#32) fun j => score q K j
def wt (j : Fin 256) : EReal := Ideal.exp (score q K j - top q K)
def den : EReal := ∑ j, wt q K j
def prob (j : Fin 256) : EReal := Ideal.div (wt q K j) (den q K)
/-- The head's output. -/
def mix (i : Fin 256) : EReal := ∑ j, prob q K j * V j i
/-- The gradients with respect to the probabilities and to the scores: in closed form, and term by term. -/
def dprob (j : Fin 256) : EReal := ∑ i, d i * V j i
def dscore (j : Fin 256) : EReal :=
  prob q K j * (dprob d V j - ∑ l, dprob d V l * prob q K l) * Ideal.ofBits FTy.f32 0x3D800000#32
def dscoreBy (j : Fin 256) : EReal :=
  (Ideal.div (dprob d V j) (den q K) + -(∑ l, dprob d V l * Ideal.div 1 (den q K * den q K) * wt q K l)) * wt q K j
    * Ideal.ofBits FTy.f32 0x3D800000#32
/-- The gradient with respect to the head's query. -/
def dquer (i : Fin 256) : EReal := ∑ j, dscore q d K V j * K j i

theorem bottom_word : Ideal.ofBits FTy.f32 0xFF800000#32 = ⊥ := by simp [Ideal.ofBits, Ideal.ieee]
theorem scale_word : ∃ s : ℝ, Ideal.ofBits FTy.f32 0x3D800000#32 = (s : EReal) :=
  ⟨_, by simp [Ideal.ofBits, Ideal.ieee]; rfl⟩

theorem top_max : max (Ideal.ofBits FTy.f32 0xFF800000#32) (top q K) = top q K := by
  rw [bottom_word]
  exact max_eq_right bot_le

variable (hq : ∀ i, IsReal (q i)) (hK : ∀ j i, IsReal (K j i))

section
include hq hK
theorem score_real (j : Fin 256) : IsReal (score q K j) :=
  (IsReal.sum fun i => (hq i).mul (hK j i)).mul scale_word

theorem top_real : IsReal (top q K) := by
  obtain ⟨j, -, hj⟩ := Finset.exists_max_image (Finset.univ : Finset (Fin 256)) (fun j => score q K j) ⟨0, Finset.mem_univ _⟩
  have h : top q K = score q K j := le_antisymm
    ((Finset.fold_max_le _).mpr ⟨by rw [bottom_word]; exact bot_le, fun l _ => hj l (Finset.mem_univ _)⟩)
    ((Finset.le_fold_max _).mpr (Or.inr ⟨j, Finset.mem_univ _, le_rfl⟩))
  rw [h]
  exact score_real q K hq hK j

/-- The softmax's terms are positive reals. -/
theorem wt_of : ∃ w : Fin 256 → ℝ, ∃ s : ℝ, (∀ j, 0 < w j) ∧ 0 < s ∧ (∀ j, wt q K j = (w j : EReal)) ∧ den q K = (s : EReal) := by
  choose a ha using score_real q K hq hK
  obtain ⟨t, ht⟩ := top_real q K hq hK
  have hw : ∀ j, wt q K j = ((Real.exp (a j - t) : ℝ) : EReal) := fun j => by
    unfold wt
    rw [ha, ht, ← EReal.coe_sub, Ideal.exp_coe]
  refine ⟨fun j => Real.exp (a j - t), ∑ j, Real.exp (a j - t), fun j => Real.exp_pos _,
    Finset.sum_pos (fun j _ => Real.exp_pos _) ⟨0, Finset.mem_univ _⟩, hw, ?_⟩
  exact (Finset.sum_congr rfl fun j _ => hw j).trans (Scan.coe_sum _).symm

theorem dscore_eq (j : Fin 256) : dscoreBy q d K V j = dscore q d K V j := by
  obtain ⟨w, s, hp, hs, hw, hden⟩ := wt_of q K hq hK
  obtain ⟨e, he⟩ := scale_word
  have hi : 0 ≤ 1 / s := (one_div_pos.mpr hs).le
  have h1 : (∑ l, dprob d V l * Ideal.div 1 (den q K * den q K) * wt q K l)
      = ((1 / s : ℝ) : EReal) * ∑ l, dprob d V l * prob q K l := by
    rw [Mixer.scale_sum hi]
    refine Finset.sum_congr rfl fun l _ => ?_
    unfold prob
    rw [hw, hden, ← EReal.coe_mul s s, Ideal.div_coe (mul_ne_zero hs.ne' hs.ne'), Ideal.div_coe hs.ne', one_mul,
      show 1 / (s * s) = 1 / s * (1 / s) by rw [one_div_mul_one_div], EReal.coe_mul]
    ac_rfl
  unfold dscoreBy dscore
  rw [h1]
  generalize (∑ l, dprob d V l * prob q K l) = S
  unfold prob
  rw [hw, hden, he, Ideal.div_coe hs.ne', Ideal.div_coe hs.ne', mul_comm (dprob d V j), ← mul_neg, ← Mixer.scale_add hi, ← sub_eq_add_neg]
  ac_rfl

end
end Head

/-- The columns of a head. -/
def lane (h : Fin 4) (d : Fin 256) : Fin 1024 := ⟨256 * h.val + d.val, by omega⟩

theorem lane_cases (j : Fin 1024) : ∃ h d, j = lane h d :=
  ⟨⟨j.val / 256, by omega⟩, ⟨j.val % 256, by omega⟩, Fin.ext (by show j.val = 256 * (j.val / 256) + j.val % 256; omega)⟩

/-- The keys and the values of a head, in one array. -/
def key (h : Fin 4) : Fin 8 := ⟨h.val, by omega⟩
def val (h : Fin 4) : Fin 8 := ⟨4 + h.val, by omega⟩

theorem slot_cases (s : Fin 8) : (∃ h, s = key h) ∨ ∃ h, s = val h := by
  by_cases hs : s.val < 4
  · exact Or.inl ⟨⟨s.val, hs⟩, rfl⟩
  · exact Or.inr ⟨⟨s.val - 4, by omega⟩, Fin.ext (by show s.val = 4 + (s.val - 4); omega)⟩

section Row
variable (x dy g : Fin 1024 → EReal) (wq wo : Fin 1024 → Fin 1024 → EReal) (kv : Fin 8 → Fin 256 → Fin 256 → EReal)

/-- The row's queries, and the gradient with respect to the heads' outputs. -/
def quer (j : Fin 1024) : EReal := ∑ k, Mixer.norm x g k * wq k j
def dout (j : Fin 1024) : EReal := ∑ k, dy k * wo j k

def querH (h : Fin 4) : Fin 256 → EReal := fun d => quer x g wq (lane h d)
def doutH (h : Fin 4) : Fin 256 → EReal := fun d => dout dy wo (lane h d)

/-- A row's share of the gradients with respect to a head's keys and values. -/
def dkey (h : Fin 4) (j i : Fin 256) : EReal :=
  dscore (querH x g wq h) (doutH dy wo h) (kv (key h)) (kv (val h)) j * querH x g wq h i
def dval (h : Fin 4) (j i : Fin 256) : EReal := prob (querH x g wq h) (kv (key h)) j * doutH dy wo h i

/-- The heads' outputs and the gradient with respect to the queries, over all the columns. -/
def heads (j : Fin 1024) : EReal :=
  mix (querH x g wq ⟨j.val / 256, by omega⟩) (kv (key ⟨j.val / 256, by omega⟩)) (kv (val ⟨j.val / 256, by omega⟩)) ⟨j.val % 256, by omega⟩
def dquers (j : Fin 1024) : EReal :=
  dquer (querH x g wq ⟨j.val / 256, by omega⟩) (doutH dy wo ⟨j.val / 256, by omega⟩)
    (kv (key ⟨j.val / 256, by omega⟩)) (kv (val ⟨j.val / 256, by omega⟩)) ⟨j.val % 256, by omega⟩

theorem heads_lane (h : Fin 4) (i : Fin 256) :
    heads x g wq kv (lane h i) = mix (querH x g wq h) (kv (key h)) (kv (val h)) i := by
  have h1 : (⟨(lane h i).val / 256, by omega⟩ : Fin 4) = h := Fin.ext (by show (256 * h.val + i.val) / 256 = h.val; omega)
  have h2 : (⟨(lane h i).val % 256, by omega⟩ : Fin 256) = i := Fin.ext (by show (256 * h.val + i.val) % 256 = i.val; omega)
  unfold heads
  rw [h1, h2]
theorem dquers_lane (h : Fin 4) (i : Fin 256) :
    dquers x dy g wq wo kv (lane h i) = dquer (querH x g wq h) (doutH dy wo h) (kv (key h)) (kv (val h)) i := by
  have h1 : (⟨(lane h i).val / 256, by omega⟩ : Fin 4) = h := Fin.ext (by show (256 * h.val + i.val) / 256 = h.val; omega)
  have h2 : (⟨(lane h i).val % 256, by omega⟩ : Fin 256) = i := Fin.ext (by show (256 * h.val + i.val) % 256 = i.val; omega)
  unfold dquers
  rw [h1, h2]

/-- The gradient with respect to the normed row, and a row's share of that with respect to the gain. -/
def dnorm (k : Fin 1024) : EReal := ∑ j, dquers x dy g wq wo kv j * wq k j
def dgain (k : Fin 1024) : EReal := dnorm x dy g wq wo kv k * x k * Mixer.root x

variable (hg : ∀ j, IsReal (g j)) (hq : ∀ k j, IsReal (wq k j)) (hk : ∀ h j i, IsReal (kv (key h) j i))

section
include hg hq
theorem quer_real (j : Fin 1024) : IsReal (quer x g wq j) := IsReal.sum fun k => (Mixer.norm_real x g hg k).mul (hq k j)
end
include hg hq hk
theorem dscores_eq (h : Fin 4) (j : Fin 256) :
    dscoreBy (querH x g wq h) (doutH dy wo h) (kv (key h)) (kv (val h)) j
      = dscore (querH x g wq h) (doutH dy wo h) (kv (key h)) (kv (val h)) j :=
  dscore_eq _ _ _ _ (fun _ => quer_real x g wq hg hq _) (hk h) j

end Row

/-- Eight blocks of 512 rows. -/
theorem sum_blocks (F : Fin 4096 → EReal) :
    ∑ r, F r = ∑ t : Fin 8, ∑ p : Fin 512, F ⟨512 * t.val + p.val, by omega⟩ := by
  refine ((finProdFinEquiv (m := 8) (n := 512)).sum_comp F).symm.trans (Eq.trans ?_
    (Fintype.sum_prod_type fun z : Fin 8 × Fin 512 => F ⟨512 * z.1.val + z.2.val, by omega⟩))
  refine Finset.sum_congr rfl fun z _ => congrArg F (Fin.ext ?_)
  show z.2.val + 512 * z.1.val = 512 * z.1.val + z.2.val
  omega

end Cert.Attn

namespace Cert.Pre_finite8

open Idealize.ShloMosaic

theorem facts : Facts where
  slices_S8x256x256_S4x256x256_0_0_0 := by decide
  bcast_S_S1x1024 := by decide
  bitsLt_bf16_f32 := by decide
  bcast_S_S1024x1024 := by decide
  bcast_S_S4x256x256 := by decide

section
variable [Facts] (x0 x1 : FVec Ideal S4096x1024 .f32) (x2 : FVec Ideal S1x1024 .f32)
  (x3 : FVec Ideal S1024x1024 .bf16) (x4 : FVec Ideal S8x256x256 .bf16) (x5 : FVec Ideal S1024x1024 .bf16)

theorem real0 (h : (fn x0 x1 x2 x3 x4 x5).1 = fun _ => 1#1) (i) : Mixer.IsReal (x2 i) := ⟨_, Scan.real_of _ (congrFun h i)⟩
theorem real1 (h : (fn x0 x1 x2 x3 x4 x5).2.1 = fun _ => 1#1) (i) : Mixer.IsReal (x3 i) := ⟨_, Scan.real_of _ (congrFun h i)⟩
theorem real2 (h : (fn x0 x1 x2 x3 x4 x5).2.2 = fun _ => 1#1) (k : Fin 4) (j i : Fin 256) : Mixer.IsReal (x4 (ix3 (Attn.key k) j i)) := by
  have e : extractStridedSlice S4x256x256 ![0, 0, 0] x4 Facts.slices_S8x256x256_S4x256x256_0_0_0 (ix3 k j i) = x4 (ix3 (Attn.key k) j i) := by
    pointwise!
  rw [← e]
  exact ⟨_, Scan.real_of _ (congrFun h (ix3 k j i))⟩

end

end Cert.Pre_finite8

end
-- ==== Proof.KXattnPieces.lean ====
module

public import proofs.«01_k».proof.Defs
public import proofs.«01_k».proof.Proof.Gen.Kernel8Ideal.Value
public import Idealize.ShloMosaic.Lib.Pointwise
public import Idealize.ShloMosaic.Lib.ValueIdx
public import Idealize.ShloMosaic.Lib.Pipeline.ValueKit.Tiles

@[expose] public section

set_option maxRecDepth 16384

/- The cross-attention's backward call: what each point stores. -/

noncomputable section

namespace Cert.Kernel8Ideal.XattnBwd

open Cert.Kernel8Ideal Cert.Kernel8Ideal.Gen Cert.Kernel8Ideal.Value
open Idealize.ShloMosaic Idealize.ShloMosaic.TcCoe Idealize.ShloMosaic.Tactic Idealize.SL.Sem

theorem hz3 : (![0, 0, 0] : Fin 3 → Nat) = fun _ => 0 := funext fun a => by fin_cases a <;> rfl
theorem hz : (![0, 0] : Fin 2 → Nat) = fun _ => 0 := funext fun a => by fin_cases a <;> rfl

section Stored
variable {F : FTy → Type} [FloatOps F]

/-- The keys and values of a head that a point loads. -/
def l0 (w : Vec F S8x256x256 .bf16) : Vec F S1x256x256 .bf16 :=
  View.ld (S := S8x256x256) w (Rect.unit (s := S8x256x256) ![0, 0, 0] S1x256x256.size inb_S8x256x256_S1x256x256_0_0_0)
def l1 (w : Vec F S8x256x256 .bf16) : Vec F S1x256x256 .bf16 :=
  View.ld (S := S8x256x256) w (Rect.unit (s := S8x256x256) ![1, 0, 0] S1x256x256.size inb_S8x256x256_S1x256x256_1_0_0)
def l2 (w : Vec F S8x256x256 .bf16) : Vec F S1x256x256 .bf16 :=
  View.ld (S := S8x256x256) w (Rect.unit (s := S8x256x256) ![2, 0, 0] S1x256x256.size inb_S8x256x256_S1x256x256_2_0_0)
def l3 (w : Vec F S8x256x256 .bf16) : Vec F S1x256x256 .bf16 :=
  View.ld (S := S8x256x256) w (Rect.unit (s := S8x256x256) ![3, 0, 0] S1x256x256.size inb_S8x256x256_S1x256x256_3_0_0)
def l4 (w : Vec F S8x256x256 .bf16) : Vec F S1x256x256 .bf16 :=
  View.ld (S := S8x256x256) w (Rect.unit (s := S8x256x256) ![4, 0, 0] S1x256x256.size inb_S8x256x256_S1x256x256_4_0_0)
def l5 (w : Vec F S8x256x256 .bf16) : Vec F S1x256x256 .bf16 :=
  View.ld (S := S8x256x256) w (Rect.unit (s := S8x256x256) ![5, 0, 0] S1x256x256.size inb_S8x256x256_S1x256x256_5_0_0)
def l6 (w : Vec F S8x256x256 .bf16) : Vec F S1x256x256 .bf16 :=
  View.ld (S := S8x256x256) w (Rect.unit (s := S8x256x256) ![6, 0, 0] S1x256x256.size inb_S8x256x256_S1x256x256_6_0_0)
def l7 (w : Vec F S8x256x256 .bf16) : Vec F S1x256x256 .bf16 :=
  View.ld (S := S8x256x256) w (Rect.unit (s := S8x256x256) ![7, 0, 0] S1x256x256.size inb_S8x256x256_S1x256x256_7_0_0)

variable (x0 x1 : Vec F S512x1024 .f32) (x2 : Vec F S1x1024 .f32) (x3 : Vec F S1024x1024 .bf16) (x4 : Vec F S8x256x256 .bf16)
  (x5 : Vec F S1024x1024 .bf16)

/-- The queries and the gradient with respect to the heads' outputs, and what each head makes of them. -/
def v18 : FVec F S512x1024 .bf16 := k0_pay5 x0 x2 x3
def v22 : FVec F S512x1024 .bf16 := k0_pay6 x1 x5
def v43 : FVec F S512x256 .bf16 := k0_pay14 (k0_pay8 (l4 x4)) (k0_pay11 x0 x2 x3 (l0 x4)) (k0_pay12 x0 x2 x3 (l0 x4))
def v45 : FVec F S256x256 .f32 := k0_pay15 (k0_pay10 x1 x5) (k0_pay11 x0 x2 x3 (l0 x4)) (k0_pay12 x0 x2 x3 (l0 x4))
def v57 : FVec F S512x256 .bf16 := k0_pay17 (k0_pay7 (l0 x4)) (k0_pay8 (l4 x4)) (k0_pay10 x1 x5) (k0_pay11 x0 x2 x3 (l0 x4)) (k0_pay12 x0 x2 x3 (l0 x4))
def v59 : FVec F S256x256 .f32 := k0_pay18 (k0_pay8 (l4 x4)) (k0_pay9 x0 x2 x3) (k0_pay10 x1 x5) (k0_pay11 x0 x2 x3 (l0 x4)) (k0_pay12 x0 x2 x3 (l0 x4))
def v80 : FVec F S512x256 .bf16 := k0_pay26 (k0_pay20 (l5 x4)) (k0_pay23 (v18 x0 x2 x3) (l1 x4)) (k0_pay24 (v18 x0 x2 x3) (l1 x4))
def v82 : FVec F S256x256 .f32 := k0_pay27 (k0_pay22 (v22 x1 x5)) (k0_pay23 (v18 x0 x2 x3) (l1 x4)) (k0_pay24 (v18 x0 x2 x3) (l1 x4))
def v94 : FVec F S512x256 .bf16 := k0_pay29 (k0_pay19 (l1 x4)) (k0_pay20 (l5 x4)) (k0_pay22 (v22 x1 x5)) (k0_pay23 (v18 x0 x2 x3) (l1 x4)) (k0_pay24 (v18 x0 x2 x3) (l1 x4))
def v96 : FVec F S256x256 .f32 := k0_pay30 (k0_pay20 (l5 x4)) (k0_pay21 (v18 x0 x2 x3)) (k0_pay22 (v22 x1 x5)) (k0_pay23 (v18 x0 x2 x3) (l1 x4)) (k0_pay24 (v18 x0 x2 x3) (l1 x4))
def v117 : FVec F S512x256 .bf16 := k0_pay36 (v18 x0 x2 x3) (l2 x4) (l6 x4)
def v119 : FVec F S256x256 .f32 := k0_pay38 (k0_pay34 (v22 x1 x5)) (k0_pay37 (v18 x0 x2 x3) (l2 x4))
def v131 : FVec F S512x256 .bf16 := k0_pay40 (k0_pay31 (l2 x4)) (k0_pay32 (l6 x4)) (k0_pay34 (v22 x1 x5)) (k0_pay35 (v18 x0 x2 x3) (l2 x4))
def v133 : FVec F S256x256 .f32 := k0_pay41 (k0_pay32 (l6 x4)) (k0_pay33 (v18 x0 x2 x3)) (k0_pay34 (v22 x1 x5)) (k0_pay35 (v18 x0 x2 x3) (l2 x4))
def v154 : FVec F S512x256 .bf16 := k0_pay47 (v18 x0 x2 x3) (l3 x4) (l7 x4)
def v156 : FVec F S256x256 .f32 := k0_pay48 (v18 x0 x2 x3) (v22 x1 x5) (l3 x4)

/-- What a point stores in each of its results' blocks. -/
def s6 : Vec F S512x1024 .f32 := k0_pay55 x0 x1 (k0_pay3 x0) (v57 x0 x1 x2 x3 x4 x5) (v94 x0 x1 x2 x3 x4 x5) (v131 x0 x1 x2 x3 x4 x5) (k0_pay42 (l3 x4)) (k0_pay46 (v18 x0 x2 x3) (l3 x4)) (k0_pay49 (v22 x1 x5) (l7 x4)) (k0_pay50 (v18 x0 x2 x3) (v22 x1 x5) (l3 x4) (l7 x4)) x2 x3
def s7 : Vec F S512x1024 .bf16 := k0_pay4 x0 x2
def s8 : Vec F S512x1024 .bf16 := k0_pay52 (v57 x0 x1 x2 x3 x4 x5) (v94 x0 x1 x2 x3 x4 x5) (v131 x0 x1 x2 x3 x4 x5) (k0_pay42 (l3 x4)) (k0_pay46 (v18 x0 x2 x3) (l3 x4)) (k0_pay49 (v22 x1 x5) (l7 x4)) (k0_pay50 (v18 x0 x2 x3) (v22 x1 x5) (l3 x4) (l7 x4))
def s9 : Vec F S512x1024 .bf16 := k0_pay56 (v43 x0 x2 x3 x4) (v80 x0 x2 x3 x4) (v117 x0 x2 x3 x4) (v154 x0 x2 x3 x4)
def s10 : Vec F S8x256x256 .f32 := k0_pay57 (v45 x0 x1 x2 x3 x4 x5) (v59 x0 x1 x2 x3 x4 x5) (v82 x0 x1 x2 x3 x4 x5) (v96 x0 x1 x2 x3 x4 x5) (v119 x0 x1 x2 x3 x4 x5) (v133 x0 x1 x2 x3 x4 x5) (k0_pay44 (v18 x0 x2 x3)) (k0_pay46 (v18 x0 x2 x3) (l3 x4)) (v156 x0 x1 x2 x3 x4 x5) (k0_pay49 (v22 x1 x5) (l7 x4)) (k0_pay50 (v18 x0 x2 x3) (v22 x1 x5) (l3 x4) (l7 x4))
def s11 : Vec F S1x1024 .f32 := k0_pay54 x0 (k0_pay3 x0) (v57 x0 x1 x2 x3 x4 x5) (v94 x0 x1 x2 x3 x4 x5) (v131 x0 x1 x2 x3 x4 x5) (k0_pay42 (l3 x4)) (k0_pay46 (v18 x0 x2 x3) (l3 x4)) (k0_pay49 (v22 x1 x5) (l7 x4)) (k0_pay50 (v18 x0 x2 x3) (v22 x1 x5) (l3 x4) (l7 x4)) x3
def t10 (z : Vec F S8x256x256 .f32) : Vec F S8x256x256 .f32 := k0_pay1 (s10 x0 x1 x2 x3 x4 x5) z
def t11 (z : Vec F S1x1024 .f32) : Vec F S1x1024 .f32 := k0_pay2 (s11 x0 x1 x2 x3 x4 x5) z

-- Any memrefs a point may run on.
variable (c : Dev nD) (i : grid0.Coords)
  (a1 : Memref sig .tc .vmem S512x1024 .f32) (h1 : a1.IsWhole)
  (a2 : Memref sig .tc .vmem S512x1024 .f32) (h2 : a2.IsWhole)
  (a3 : Memref sig .tc .vmem S1x1024 .f32) (h3 : a3.IsWhole)
  (a4 : Memref sig .tc .vmem S1024x1024 .bf16) (h4 : a4.IsWhole)
  (a5 : Memref sig .tc .vmem S8x256x256 .bf16) (h5 : a5.IsWhole)
  (a6 : Memref sig .tc .vmem S1024x1024 .bf16) (h6 : a6.IsWhole)
  (a7 : Memref sig .tc .vmem S512x1024 .f32) (h7 : a7.IsWhole)
  (a8 : Memref sig .tc .vmem S512x1024 .bf16) (h8 : a8.IsWhole)
  (a9 : Memref sig .tc .vmem S512x1024 .bf16) (h9 : a9.IsWhole)
  (a10 : Memref sig .tc .vmem S512x1024 .bf16) (h10 : a10.IsWhole)
  (a11 : Memref sig .tc .vmem S8x256x256 .f32) (h11 : a11.IsWhole)
  (a12 : Memref sig .tc .vmem S1x1024 .f32) (h12 : a12.IsWhole)

theorem pieceA6 (hc0 : cond0_0 i) (hc1 : ¬cond0_1 i) (hc2 : cond0_2 i) (hc3 : ¬cond0_3 i) :
    out0_A_6 c i a1 h1 a2 h2 a3 h3 a4 h4 a5 h5 a6 h6 a7 h7 a8 h8 a9 h9 a10 h10 a11 h11 a12 h12 hc0 hc1 hc2 hc3 x0 x1 x2 x3 x4 x5 = s6 x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceA7 (hc0 : cond0_0 i) (hc1 : ¬cond0_1 i) (hc2 : cond0_2 i) (hc3 : ¬cond0_3 i) :
    out0_A_7 c i a1 h1 a2 h2 a3 h3 a4 h4 a5 h5 a6 h6 a7 h7 a8 h8 a9 h9 a10 h10 a11 h11 a12 h12 hc0 hc1 hc2 hc3 x0 x1 x2 x3 x4 x5 = s7 x0 x2 := by
  unfold out0_A_7
  rw [View.read_writes_eq_canon _ _ _ (cover0_A_7 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceA8 (hc0 : cond0_0 i) (hc1 : ¬cond0_1 i) (hc2 : cond0_2 i) (hc3 : ¬cond0_3 i) :
    out0_A_8 c i a1 h1 a2 h2 a3 h3 a4 h4 a5 h5 a6 h6 a7 h7 a8 h8 a9 h9 a10 h10 a11 h11 a12 h12 hc0 hc1 hc2 hc3 x0 x1 x2 x3 x4 x5 = s8 x0 x1 x2 x3 x4 x5 := by
  unfold out0_A_8
  rw [View.read_writes_eq_canon _ _ _ (cover0_A_8 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceA9 (hc0 : cond0_0 i) (hc1 : ¬cond0_1 i) (hc2 : cond0_2 i) (hc3 : ¬cond0_3 i) :
    out0_A_9 c i a1 h1 a2 h2 a3 h3 a4 h4 a5 h5 a6 h6 a7 h7 a8 h8 a9 h9 a10 h10 a11 h11 a12 h12 hc0 hc1 hc2 hc3 x0 x1 x2 x3 x4 x5 = s9 x0 x2 x3 x4 := by
  unfold out0_A_9
  rw [View.read_writes_eq_canon _ _ _ (cover0_A_9 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceA10 (hc0 : cond0_0 i) (hc1 : ¬cond0_1 i) (hc2 : cond0_2 i) (hc3 : ¬cond0_3 i) :
    out0_A_10 c i a1 h1 a2 h2 a3 h3 a4 h4 a5 h5 a6 h6 a7 h7 a8 h8 a9 h9 a10 h10 a11 h11 a12 h12 hc0 hc1 hc2 hc3 x0 x1 x2 x3 x4 x5 = s10 x0 x1 x2 x3 x4 x5 := by
  unfold out0_A_10
  rw [View.read_writes_eq_canon _ _ _ (cover0_A_10 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero hz3]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceA11 (hc0 : cond0_0 i) (hc1 : ¬cond0_1 i) (hc2 : cond0_2 i) (hc3 : ¬cond0_3 i) :
    out0_A_11 c i a1 h1 a2 h2 a3 h3 a4 h4 a5 h5 a6 h6 a7 h7 a8 h8 a9 h9 a10 h10 a11 h11 a12 h12 hc0 hc1 hc2 hc3 x0 x1 x2 x3 x4 x5 = s11 x0 x1 x2 x3 x4 x5 := by
  unfold out0_A_11
  rw [View.read_writes_eq_canon _ _ _ (cover0_A_11 c i a1 h1 a2 h2 a3 h3 a4 h4 a5 h5 a6 h6 a7 h7 a8 h8 a9 h9 a10 h10 a11 h11 a12 h12 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceB6 (hc0 : ¬cond0_0 i) (hc1 : cond0_1 i) (hc2 : ¬cond0_2 i) (hc3 : cond0_3 i) (z10 : Vec F S8x256x256 .f32) (z11 : Vec F S1x1024 .f32) :
    out0_B_6 c i a1 h1 a2 h2 a3 h3 a4 h4 a5 h5 a6 h6 a7 h7 a8 h8 a9 h9 a10 h10 a11 h11 a12 h12 hc0 hc1 hc2 hc3 x0 x1 x2 x3 x4 x5 z10 z11 = s6 x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 a11 h11 a12 h12 hc0 hc1 hc2 hc3 x0 x1 x2 x3 x4 x5 z10 z11)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceB7 (hc0 : ¬cond0_0 i) (hc1 : cond0_1 i) (hc2 : ¬cond0_2 i) (hc3 : cond0_3 i) (z10 : Vec F S8x256x256 .f32) (z11 : Vec F S1x1024 .f32) :
    out0_B_7 c i a1 h1 a2 h2 a3 h3 a4 h4 a5 h5 a6 h6 a7 h7 a8 h8 a9 h9 a10 h10 a11 h11 a12 h12 hc0 hc1 hc2 hc3 x0 x1 x2 x3 x4 x5 z10 z11 = s7 x0 x2 := by
  unfold out0_B_7
  rw [View.read_writes_eq_canon _ _ _ (cover0_B_7 c i a1 h1 a2 h2 a3 h3 a4 h4 a5 h5 a6 h6 a7 h7 a8 h8 a9 h9 a10 h10 a11 h11 a12 h12 hc0 hc1 hc2 hc3 x0 x1 x2 x3 x4 x5 z10 z11)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceB8 (hc0 : ¬cond0_0 i) (hc1 : cond0_1 i) (hc2 : ¬cond0_2 i) (hc3 : cond0_3 i) (z10 : Vec F S8x256x256 .f32) (z11 : Vec F S1x1024 .f32) :
    out0_B_8 c i a1 h1 a2 h2 a3 h3 a4 h4 a5 h5 a6 h6 a7 h7 a8 h8 a9 h9 a10 h10 a11 h11 a12 h12 hc0 hc1 hc2 hc3 x0 x1 x2 x3 x4 x5 z10 z11 = s8 x0 x1 x2 x3 x4 x5 := by
  unfold out0_B_8
  rw [View.read_writes_eq_canon _ _ _ (cover0_B_8 c i a1 h1 a2 h2 a3 h3 a4 h4 a5 h5 a6 h6 a7 h7 a8 h8 a9 h9 a10 h10 a11 h11 a12 h12 hc0 hc1 hc2 hc3 x0 x1 x2 x3 x4 x5 z10 z11)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceB9 (hc0 : ¬cond0_0 i) (hc1 : cond0_1 i) (hc2 : ¬cond0_2 i) (hc3 : cond0_3 i) (z10 : Vec F S8x256x256 .f32) (z11 : Vec F S1x1024 .f32) :
    out0_B_9 c i a1 h1 a2 h2 a3 h3 a4 h4 a5 h5 a6 h6 a7 h7 a8 h8 a9 h9 a10 h10 a11 h11 a12 h12 hc0 hc1 hc2 hc3 x0 x1 x2 x3 x4 x5 z10 z11 = s9 x0 x2 x3 x4 := by
  unfold out0_B_9
  rw [View.read_writes_eq_canon _ _ _ (cover0_B_9 c i a1 h1 a2 h2 a3 h3 a4 h4 a5 h5 a6 h6 a7 h7 a8 h8 a9 h9 a10 h10 a11 h11 a12 h12 hc0 hc1 hc2 hc3 x0 x1 x2 x3 x4 x5 z10 z11)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S512x1024) hz, View.ld_unit_zero (S := S1x1024) hz, View.ld_unit_zero (S := S1024x1024) hz]
  rfl

theorem pieceB10 (hc0 : ¬cond0_0 i) (hc1 : cond0_1 i) (hc2 : ¬cond0_2 i) (hc3 : cond0_3 i) (z10 : Vec F S8x256x256 .f32) (z11 : Vec F S1x1024 .f32) :
    out0_B_10 c i a1 h1 a2 h2 a3 h3 a4 h4 a5 h5 a6 h6 a7 h7 a8 h8 a9 h9 a10 h10 a11 h11 a12 h12 hc0 hc1 hc2 hc3 x0 x1 x2 x3 x4 x5 z10 z11 = t10 x0 x1 x2 x3 x4 x5 z10 := by
  unfold out0_B_10
  rw [View.read_writes_eq_canon _ _ _ (cover0_B_10 c i a1 h1 a2 h2 a3 h3 a4 h4 a5 h5 a6 h6 a7 h7 a8 h8 a9 h9 a10 h10 a11 h11 a12 h12 hc0 hc1 hc2 hc3 x0 x1 x2 x3 x4 x5 z10 z11)]
  unfold kernelRun0_B
  dsimp only
  sl_unfold_words
  rw [View.canon_unit_zero hz3]
  simp only [View.readAt_eq_ld, h1.read_unread, h2.read_unread, h3.read_unread, h4.read_unread, h5.read_unread, h6.read_unread, h11.read_unread, View.ld_unit_zero (S := S512x1024) hz, View.ld_unit_zero (S := S1x1024) hz, View.ld_unit_zero (S := S1024x1024) hz, View.ld_unit_zero (S := S8x256x256) hz3]
  rfl

theorem pieceB11 (hc0 : ¬cond0_0 i) (hc1 : cond0_1 i) (hc2 : ¬cond0_2 i) (hc3 : cond0_3 i) (z10 : Vec F S8x256x256 .f32) (z11 : Vec F S1x1024 .f32) :
    out0_B_11 c i a1 h1 a2 h2 a3 h3 a4 h4 a5 h5 a6 h6 a7 h7 a8 h8 a9 h9 a10 h10 a11 h11 a12 h12 hc0 hc1 hc2 hc3 x0 x1 x2 x3 x4 x5 z10 z11 = t11 x0 x1 x2 x3 x4 x5 z11 := by
  unfold out0_B_11
  rw [View.read_writes_eq_canon _ _ _ (cover0_B_11 c i a1 h1 a2 h2 a3 h3 a4 h4 a5 h5 a6 h6 a7 h7 a8 h8 a9 h9 a10 h10 a11 h11 a12 h12 hc0 hc1 hc2 hc3 x0 x1 x2 x3 x4 x5 z10 z11)]
  unfold kernelRun0_B
  dsimp only
  sl_unfold_words
  rw [View.canon_unit_zero hz]
  simp only [View.readAt_eq_ld, h1.read_unread, h2.read_unread, h3.read_unread, h4.read_unread, h5.read_unread, h6.read_unread, h12.read_unread, View.ld_unit_zero (S := S512x1024) hz, View.ld_unit_zero (S := S1x1024) hz, View.ld_unit_zero (S := S1024x1024) hz]
  rfl

end Stored

end Cert.Kernel8Ideal.XattnBwd

end
-- ==== Proof.KXattn.lean ====
module

public import proofs.«01_k».proof.Proof.Attn
public import proofs.«01_k».proof.Proof.KXattnPieces
public import Idealize.ShloMosaic.Lib.Tactic.CleanTypes

@[expose] public section

set_option maxRecDepth 16384

/- The cross-attention's backward call: its results row by row. -/

noncomputable section

namespace Cert.Kernel8Ideal.XattnBwd

open Cert.Kernel8Ideal Cert.Kernel8Ideal.Gen Cert.Kernel8Ideal.Value
open Idealize.ShloMosaic Idealize.ShloMosaic.TcCoe Idealize.ShloMosaic.Tactic Idealize.SL.Sem

section Forms
variable {F : FTy → Type} [FloatOps F]

/-- One head of a block of rows, from its queries, the gradient of its output, its keys and its values. -/
def scores (q : FVec F S512x256 .bf16) (k : FVec F S256x256 .bf16) : FVec F S512x256 .f32 :=
  mulf (matmul dot_S512x256_S256x256_S512x256_1_1_0_0_n_n none q k (constant S512x256 .f32 0x00000000#32)) (broadcast S512x256 (Scalar.ofBits .f32 0x3D800000#32))
def tops (q : FVec F S512x256 .bf16) (k : FVec F S256x256 .bf16) : FVec F S512x256 .f32 :=
  broadcastTo S512x256 (shapeCast S512x1 (multiReduction .maximumf [1] S512 (scores q k) 0xFF800000#32 reduces_S512x256_S512 (.inl rfl) rfl) shapeCasts_S512_S512x1) broadcasts_S512x1_S512x256
def wts (q : FVec F S512x256 .bf16) (k : FVec F S256x256 .bf16) : FVec F S512x256 .f32 := exp (subf (scores q k) (tops q k))
def sums (a : FVec F S512x256 .f32) : FVec F S512x256 .f32 :=
  broadcastTo S512x256 (shapeCast S512x1 (multiReduction .add [1] S512 a 0x00000000#32 reduces_S512x256_S512 (.inl rfl) rfl) shapeCasts_S512_S512x1) broadcasts_S512x1_S512x256
def probs (q : FVec F S512x256 .bf16) (k : FVec F S256x256 .bf16) : FVec F S512x256 .f32 := divf (wts q k) (sums (wts q k))
def mixes (q : FVec F S512x256 .bf16) (k v : FVec F S256x256 .bf16) : FVec F S512x256 .bf16 :=
  truncf .bf16 (matmul dot_S512x256_S256x256_S512x256_1_0_0_1_n_n none (truncf .bf16 (probs q k) bitsLt_bf16_f32) v (constant S512x256 .f32 0x00000000#32)) bitsLt_bf16_f32
def dvals (q d : FVec F S512x256 .bf16) (k : FVec F S256x256 .bf16) : FVec F S256x256 .f32 :=
  matmul dot_S512x256_S512x256_S256x256_0_0_1_1_n_n none (truncf .bf16 (probs q k) bitsLt_bf16_f32) d (constant S256x256 .f32 0x00000000#32)
def dprobs (d : FVec F S512x256 .bf16) (v : FVec F S256x256 .bf16) : FVec F S512x256 .f32 :=
  matmul dot_S512x256_S256x256_S512x256_1_1_0_0_n_n none d v (constant S512x256 .f32 0x00000000#32)
def dscores (q d : FVec F S512x256 .bf16) (k v : FVec F S256x256 .bf16) : FVec F S512x256 .f32 :=
  mulf (mulf (probs q k) (subf (dprobs d v) (sums (mulf (dprobs d v) (probs q k))))) (broadcast S512x256 (Scalar.ofBits .f32 0x3D800000#32))
def dquers (q d : FVec F S512x256 .bf16) (k v : FVec F S256x256 .bf16) : FVec F S512x256 .bf16 :=
  truncf .bf16 (matmul dot_S512x256_S256x256_S512x256_1_0_0_1_n_n none (truncf .bf16 (dscores q d k v) bitsLt_bf16_f32) k (constant S512x256 .f32 0x00000000#32)) bitsLt_bf16_f32
def dkeys (q d : FVec F S512x256 .bf16) (k v : FVec F S256x256 .bf16) : FVec F S256x256 .f32 :=
  matmul dot_S512x256_S512x256_S256x256_0_0_1_1_n_n none (truncf .bf16 (dscores q d k v) bitsLt_bf16_f32) q (constant S256x256 .f32 0x00000000#32)

/-- What the call makes of the heads: the gradient at the norm, the gain's share, the rows, and the keys' and values'. -/
def normG (a b c d : FVec F S512x256 .bf16) (w : Vec F S1024x1024 .bf16) : FVec F S512x1024 .f32 :=
  matmul dot_S512x1024_S1024x1024_S512x1024_1_1_0_0_n_n none (k0_pay56 a b c d) w (constant S512x1024 .f32 0x00000000#32)
def gainG (x : Vec F S512x1024 .f32) (r : FVec F S512x1 .f32) (n : FVec F S512x1024 .f32) : FVec F S1x1024 .f32 :=
  shapeCast S1x1024 (multiReduction .add [0] S1024 (mulf (mulf n x) (broadcastTo S512x1024 r broadcasts_S512x1_S512x1024)) 0x00000000#32 reduces_S512x1024_S1024 (.inl rfl) rfl) shapeCasts_S1024_S1x1024
def rowG (x y : Vec F S512x1024 .f32) (r : FVec F S512x1 .f32) (n : FVec F S512x1024 .f32) (g : Vec F S1x1024 .f32) : FVec F S512x1024 .f32 :=
  addf y (subf (mulf (broadcastTo S512x1024 r broadcasts_S512x1_S512x1024) (mulf n (broadcastTo S512x1024 g broadcasts_S1x1024_S512x1024))) (mulf (mulf x (broadcastTo S512x1024 (mulf (mulf r r) r) broadcasts_S512x1_S512x1024)) (broadcastTo S512x1024 (divf (shapeCast S512x1 (multiReduction .add [1] S512 (mulf (mulf n (broadcastTo S512x1024 g broadcasts_S1x1024_S512x1024)) x) 0x00000000#32 reduces_S512x1024_S512 (.inl rfl) rfl) shapeCasts_S512_S512x1) (broadcast S512x1 (Scalar.ofBits .f32 0x44800000#32))) broadcasts_S512x1_S512x1024)))
def stack (a b c d e f g h : FVec F S256x256 .f32) : FVec F S8x256x256 .f32 :=
  concatenate S8x256x256 0 [⟨S1x256x256, shapeCast S1x256x256 a shapeCasts_S256x256_S1x256x256⟩, ⟨S1x256x256, shapeCast S1x256x256 b shapeCasts_S256x256_S1x256x256⟩, ⟨S1x256x256, shapeCast S1x256x256 c shapeCasts_S256x256_S1x256x256⟩, ⟨S1x256x256, shapeCast S1x256x256 d shapeCasts_S256x256_S1x256x256⟩, ⟨S1x256x256, shapeCast S1x256x256 e shapeCasts_S256x256_S1x256x256⟩, ⟨S1x256x256, shapeCast S1x256x256 f shapeCasts_S256x256_S1x256x256⟩, ⟨S1x256x256, shapeCast S1x256x256 g shapeCasts_S256x256_S1x256x256⟩, ⟨S1x256x256, shapeCast S1x256x256 h shapeCasts_S256x256_S1x256x256⟩] concatenates_S1x256x256_S1x256x256_S1x256x256_S1x256x256_S1x256x256_S1x256x256_S1x256x256_S1x256x256_S8x256x256_d0

variable (x0 x1 : Vec F S512x1024 .f32) (x2 : Vec F S1x1024 .f32) (x3 : Vec F S1024x1024 .bf16) (x4 : Vec F S8x256x256 .bf16)
  (x5 : Vec F S1024x1024 .bf16)

/-- The heads' keys, values, queries and gradients. -/
def K : Fin 4 → FVec F S256x256 .bf16
  | ⟨0, _⟩ => k0_pay7 (l0 x4)
  | ⟨1, _⟩ => k0_pay19 (l1 x4)
  | ⟨2, _⟩ => k0_pay31 (l2 x4)
  | ⟨3, _⟩ => k0_pay42 (l3 x4)
def W : Fin 4 → FVec F S256x256 .bf16
  | ⟨0, _⟩ => k0_pay8 (l4 x4)
  | ⟨1, _⟩ => k0_pay20 (l5 x4)
  | ⟨2, _⟩ => k0_pay32 (l6 x4)
  | ⟨3, _⟩ => k0_pay43 (l7 x4)
def Q : Fin 4 → FVec F S512x256 .bf16
  | ⟨0, _⟩ => k0_pay9 x0 x2 x3
  | ⟨1, _⟩ => k0_pay21 (v18 x0 x2 x3)
  | ⟨2, _⟩ => k0_pay33 (v18 x0 x2 x3)
  | ⟨3, _⟩ => k0_pay44 (v18 x0 x2 x3)
def D : Fin 4 → FVec F S512x256 .bf16
  | ⟨0, _⟩ => k0_pay10 x1 x5
  | ⟨1, _⟩ => k0_pay22 (v22 x1 x5)
  | ⟨2, _⟩ => k0_pay34 (v22 x1 x5)
  | ⟨3, _⟩ => k0_pay45 (v22 x1 x5)

def mixH (h : Fin 4) : FVec F S512x256 .bf16 := mixes (Q x0 x2 x3 h) (K x4 h) (W x4 h)
def dquerH (h : Fin 4) : FVec F S512x256 .bf16 := dquers (Q x0 x2 x3 h) (D x1 x5 h) (K x4 h) (W x4 h)
def dkeyH (h : Fin 4) : FVec F S256x256 .f32 := dkeys (Q x0 x2 x3 h) (D x1 x5 h) (K x4 h) (W x4 h)
def dvalH (h : Fin 4) : FVec F S256x256 .f32 := dvals (Q x0 x2 x3 h) (D x1 x5 h) (K x4 h)

theorem v43_eq : v43 x0 x2 x3 x4 = mixH x0 x2 x3 x4 0 := rfl
theorem v80_eq : v80 x0 x2 x3 x4 = mixH x0 x2 x3 x4 1 := rfl
theorem v117_eq : v117 x0 x2 x3 x4 = mixH x0 x2 x3 x4 2 := rfl
theorem v154_eq : v154 x0 x2 x3 x4 = mixH x0 x2 x3 x4 3 := rfl
theorem v57_eq : v57 x0 x1 x2 x3 x4 x5 = dquerH x0 x1 x2 x3 x4 x5 0 := rfl
theorem v94_eq : v94 x0 x1 x2 x3 x4 x5 = dquerH x0 x1 x2 x3 x4 x5 1 := rfl
theorem v131_eq : v131 x0 x1 x2 x3 x4 x5 = dquerH x0 x1 x2 x3 x4 x5 2 := rfl
theorem v59_eq : v59 x0 x1 x2 x3 x4 x5 = dkeyH x0 x1 x2 x3 x4 x5 0 := rfl
theorem v96_eq : v96 x0 x1 x2 x3 x4 x5 = dkeyH x0 x1 x2 x3 x4 x5 1 := rfl
theorem v133_eq : v133 x0 x1 x2 x3 x4 x5 = dkeyH x0 x1 x2 x3 x4 x5 2 := rfl
theorem v45_eq : v45 x0 x1 x2 x3 x4 x5 = dvalH x0 x1 x2 x3 x4 x5 0 := rfl
theorem v82_eq : v82 x0 x1 x2 x3 x4 x5 = dvalH x0 x1 x2 x3 x4 x5 1 := rfl
theorem v119_eq : v119 x0 x1 x2 x3 x4 x5 = dvalH x0 x1 x2 x3 x4 x5 2 := rfl
theorem v156_eq : v156 x0 x1 x2 x3 x4 x5 = dvalH x0 x1 x2 x3 x4 x5 3 := rfl

def gradN : FVec F S512x1024 .f32 := normG (dquerH x0 x1 x2 x3 x4 x5 0) (dquerH x0 x1 x2 x3 x4 x5 1) (dquerH x0 x1 x2 x3 x4 x5 2) (dquerH x0 x1 x2 x3 x4 x5 3) x3

theorem s6_eq : s6 x0 x1 x2 x3 x4 x5 = rowG x0 x1 (k0_pay3 x0) (gradN x0 x1 x2 x3 x4 x5) x2 := rfl
theorem s8_eq : s8 x0 x1 x2 x3 x4 x5 = k0_pay56 (dquerH x0 x1 x2 x3 x4 x5 0) (dquerH x0 x1 x2 x3 x4 x5 1) (dquerH x0 x1 x2 x3 x4 x5 2) (dquerH x0 x1 x2 x3 x4 x5 3) := rfl
theorem s9_eq : s9 x0 x2 x3 x4 = k0_pay56 (mixH x0 x2 x3 x4 0) (mixH x0 x2 x3 x4 1) (mixH x0 x2 x3 x4 2) (mixH x0 x2 x3 x4 3) := rfl
theorem s10_eq : s10 x0 x1 x2 x3 x4 x5 = stack (dkeyH x0 x1 x2 x3 x4 x5 0) (dkeyH x0 x1 x2 x3 x4 x5 1) (dkeyH x0 x1 x2 x3 x4 x5 2) (dkeyH x0 x1 x2 x3 x4 x5 3) (dvalH x0 x1 x2 x3 x4 x5 0) (dvalH x0 x1 x2 x3 x4 x5 1) (dvalH x0 x1 x2 x3 x4 x5 2) (dvalH x0 x1 x2 x3 x4 x5 3) := rfl
theorem s11_eq : s11 x0 x1 x2 x3 x4 x5 = gainG x0 (k0_pay3 x0) (gradN x0 x1 x2 x3 x4 x5) := rfl

end Forms

section Heads
variable (q d : FVec Ideal S512x256 .bf16) (k v : FVec Ideal S256x256 .bf16) (p : Fin 512) (qr dr : Fin 256 → EReal) (km vm : Fin 256 → Fin 256 → EReal)

theorem sums_at (a : FVec Ideal S512x256 .f32) (j : Fin 256) : sums a (ix2 p j) = ∑ l : Fin 256, a (ix2 p l) := by
  pointwise! [sums]

section
variable (hq : ∀ i, q (ix2 p i) = qr i) (hk : ∀ j i, k (ix2 j i) = km j i)
include hq hk
theorem scores_at (j : Fin 256) : scores q k (ix2 p j) = Attn.score qr km j := by
  refine Eq.trans (b := (∑ i : Fin 256, q (ix2 p i) * k (ix2 j i)) * Ideal.ofBits FTy.f32 0x3D800000#32) (by pointwise! [scores]) ?_
  exact Ideal.mul_congr (Finset.sum_congr rfl fun i _ => Ideal.mul_congr (hq i) (hk j i)) rfl
theorem tops_at (j : Fin 256) : tops q k (ix2 p j) = Attn.top qr km := by
  refine Eq.trans (b := Finset.univ.fold max (Ideal.ofBits FTy.f32 0xFF800000#32) fun l : Fin 256 => scores q k (ix2 p l)) (by pointwise! [tops]) ?_
  unfold Attn.top
  exact Finset.fold_congr fun l _ => scores_at q k p qr km hq hk l
theorem wts_at (j : Fin 256) : wts q k (ix2 p j) = Attn.wt qr km j := by
  refine Eq.trans (b := Ideal.exp (scores q k (ix2 p j) - tops q k (ix2 p j))) (by pointwise! [wts]) ?_
  rw [scores_at q k p qr km hq hk, tops_at q k p qr km hq hk]
  rfl
theorem probs_at (j : Fin 256) : probs q k (ix2 p j) = Attn.prob qr km j := by
  refine Eq.trans (b := Ideal.div (wts q k (ix2 p j)) (sums (wts q k) (ix2 p j))) (by pointwise! [probs]) ?_
  rw [sums_at, wts_at q k p qr km hq hk]
  exact congrArg _ (Finset.sum_congr rfl fun l _ => wts_at q k p qr km hq hk l)
theorem mixes_at (hv : ∀ j i, v (ix2 j i) = vm j i) (i : Fin 256) : mixes q k v (ix2 p i) = Attn.mix qr km vm i := by
  refine Eq.trans (b := ∑ j : Fin 256, probs q k (ix2 p j) * v (ix2 j i)) (by pointwise! [mixes]) ?_
  exact Finset.sum_congr rfl fun j _ => Ideal.mul_congr (probs_at q k p qr km hq hk j) (hv j i)
end

section
variable (hd : ∀ i, d (ix2 p i) = dr i) (hv : ∀ j i, v (ix2 j i) = vm j i)
include hd hv
theorem dprobs_at (j : Fin 256) : dprobs d v (ix2 p j) = Attn.dprob dr vm j := by
  refine Eq.trans (b := ∑ i : Fin 256, d (ix2 p i) * v (ix2 j i)) (by pointwise! [dprobs]) ?_
  exact Finset.sum_congr rfl fun i _ => Ideal.mul_congr (hd i) (hv j i)
variable (hq : ∀ i, q (ix2 p i) = qr i) (hk : ∀ j i, k (ix2 j i) = km j i)
include hq hk
theorem dscores_at (j : Fin 256) : dscores q d k v (ix2 p j) = Attn.dscore qr dr km vm j := by
  refine Eq.trans (b := probs q k (ix2 p j) * (dprobs d v (ix2 p j) - sums (mulf (dprobs d v) (probs q k)) (ix2 p j)) * Ideal.ofBits FTy.f32 0x3D800000#32)
    (by pointwise! [dscores]) ?_
  rw [sums_at, probs_at q k p qr km hq hk, dprobs_at d v p dr vm hd hv]
  unfold Attn.dscore
  refine Ideal.mul_congr (Ideal.mul_congr rfl (congrArg _ (Finset.sum_congr rfl fun l _ => ?_))) rfl
  refine Eq.trans (b := dprobs d v (ix2 p l) * probs q k (ix2 p l)) (by pointwise!) ?_
  rw [probs_at q k p qr km hq hk, dprobs_at d v p dr vm hd hv]
theorem dquers_at (i : Fin 256) : dquers q d k v (ix2 p i) = Attn.dquer qr dr km vm i := by
  refine Eq.trans (b := ∑ j : Fin 256, dscores q d k v (ix2 p j) * k (ix2 j i)) (by pointwise! [dquers]) ?_
  exact Finset.sum_congr rfl fun j _ => Ideal.mul_congr (dscores_at q d k v p qr dr km vm hd hv hq hk j) (hk j i)
end

theorem dvals_at (j i : Fin 256) : dvals q d k (ix2 j i) = ∑ p : Fin 512, probs q k (ix2 p j) * d (ix2 p i) := by
  pointwise! [dvals]
theorem dkeys_at (j i : Fin 256) : dkeys q d k v (ix2 j i) = ∑ p : Fin 512, dscores q d k v (ix2 p j) * q (ix2 p i) := by
  pointwise! [dkeys]

end Heads

/-- Arrays as functions. -/
def mat (w : Vec Ideal S1024x1024 .bf16) : Fin 1024 → Fin 1024 → EReal := fun k j => w (ix2 k j)
def mem (w : Vec Ideal S8x256x256 .bf16) : Fin 8 → Fin 256 → Fin 256 → EReal := fun s j i => w (ix3 s j i)

section Payloads
variable (x0 x1 : Vec Ideal S512x1024 .f32) (x2 : Vec Ideal S1x1024 .f32) (x3 : Vec Ideal S1024x1024 .bf16) (x4 : Vec Ideal S8x256x256 .bf16)
  (x5 : Vec Ideal S1024x1024 .bf16)

theorem l0_at (j i : Fin 256) : l0 x4 (ix3 0 j i) = x4 (ix3 0 j i) :=
  View.ld_unit_apply_of x4 _ _ _ _ _ fun a => match a with
    | ⟨0, _⟩ => by show 0 = 0 + 0; omega
    | ⟨1, _⟩ => by show j.val = 0 + j.val; omega
    | ⟨2, _⟩ => by show i.val = 0 + i.val; omega
theorem l1_at (j i : Fin 256) : l1 x4 (ix3 0 j i) = x4 (ix3 1 j i) :=
  View.ld_unit_apply_of x4 _ _ _ _ _ fun a => match a with
    | ⟨0, _⟩ => by show 1 = 1 + 0; omega
    | ⟨1, _⟩ => by show j.val = 0 + j.val; omega
    | ⟨2, _⟩ => by show i.val = 0 + i.val; omega
theorem l2_at (j i : Fin 256) : l2 x4 (ix3 0 j i) = x4 (ix3 2 j i) :=
  View.ld_unit_apply_of x4 _ _ _ _ _ fun a => match a with
    | ⟨0, _⟩ => by show 2 = 2 + 0; omega
    | ⟨1, _⟩ => by show j.val = 0 + j.val; omega
    | ⟨2, _⟩ => by show i.val = 0 + i.val; omega
theorem l3_at (j i : Fin 256) : l3 x4 (ix3 0 j i) = x4 (ix3 3 j i) :=
  View.ld_unit_apply_of x4 _ _ _ _ _ fun a => match a with
    | ⟨0, _⟩ => by show 3 = 3 + 0; omega
    | ⟨1, _⟩ => by show j.val = 0 + j.val; omega
    | ⟨2, _⟩ => by show i.val = 0 + i.val; omega
theorem l4_at (j i : Fin 256) : l4 x4 (ix3 0 j i) = x4 (ix3 4 j i) :=
  View.ld_unit_apply_of x4 _ _ _ _ _ fun a => match a with
    | ⟨0, _⟩ => by show 4 = 4 + 0; omega
    | ⟨1, _⟩ => by show j.val = 0 + j.val; omega
    | ⟨2, _⟩ => by show i.val = 0 + i.val; omega
theorem l5_at (j i : Fin 256) : l5 x4 (ix3 0 j i) = x4 (ix3 5 j i) :=
  View.ld_unit_apply_of x4 _ _ _ _ _ fun a => match a with
    | ⟨0, _⟩ => by show 5 = 5 + 0; omega
    | ⟨1, _⟩ => by show j.val = 0 + j.val; omega
    | ⟨2, _⟩ => by show i.val = 0 + i.val; omega
theorem l6_at (j i : Fin 256) : l6 x4 (ix3 0 j i) = x4 (ix3 6 j i) :=
  View.ld_unit_apply_of x4 _ _ _ _ _ fun a => match a with
    | ⟨0, _⟩ => by show 6 = 6 + 0; omega
    | ⟨1, _⟩ => by show j.val = 0 + j.val; omega
    | ⟨2, _⟩ => by show i.val = 0 + i.val; omega
theorem l7_at (j i : Fin 256) : l7 x4 (ix3 0 j i) = x4 (ix3 7 j i) :=
  View.ld_unit_apply_of x4 _ _ _ _ _ fun a => match a with
    | ⟨0, _⟩ => by show 7 = 7 + 0; omega
    | ⟨1, _⟩ => by show j.val = 0 + j.val; omega
    | ⟨2, _⟩ => by show i.val = 0 + i.val; omega
theorem K_at (h : Fin 4) (j i : Fin 256) : K x4 h (ix2 j i) = mem x4 (Attn.key h) j i :=
  match h with
  | ⟨0, _⟩ => Eq.trans (b := l0 x4 (ix3 0 j i)) (by show k0_pay7 (l0 x4) (ix2 j i) = _; pointwise! [k0_pay7]) (l0_at x4 j i)
  | ⟨1, _⟩ => Eq.trans (b := l1 x4 (ix3 0 j i)) (by show k0_pay19 (l1 x4) (ix2 j i) = _; pointwise! [k0_pay19]) (l1_at x4 j i)
  | ⟨2, _⟩ => Eq.trans (b := l2 x4 (ix3 0 j i)) (by show k0_pay31 (l2 x4) (ix2 j i) = _; pointwise! [k0_pay31]) (l2_at x4 j i)
  | ⟨3, _⟩ => Eq.trans (b := l3 x4 (ix3 0 j i)) (by show k0_pay42 (l3 x4) (ix2 j i) = _; pointwise! [k0_pay42]) (l3_at x4 j i)
theorem W_at (h : Fin 4) (j i : Fin 256) : W x4 h (ix2 j i) = mem x4 (Attn.val h) j i :=
  match h with
  | ⟨0, _⟩ => Eq.trans (b := l4 x4 (ix3 0 j i)) (by show k0_pay8 (l4 x4) (ix2 j i) = _; pointwise! [k0_pay8]) (l4_at x4 j i)
  | ⟨1, _⟩ => Eq.trans (b := l5 x4 (ix3 0 j i)) (by show k0_pay20 (l5 x4) (ix2 j i) = _; pointwise! [k0_pay20]) (l5_at x4 j i)
  | ⟨2, _⟩ => Eq.trans (b := l6 x4 (ix3 0 j i)) (by show k0_pay32 (l6 x4) (ix2 j i) = _; pointwise! [k0_pay32]) (l6_at x4 j i)
  | ⟨3, _⟩ => Eq.trans (b := l7 x4 (ix3 0 j i)) (by show k0_pay43 (l7 x4) (ix2 j i) = _; pointwise! [k0_pay43]) (l7_at x4 j i)

theorem root_at (p : Fin 512) : (k0_pay3 x0) (ix2 p 0) = Mixer.root (fun j => x0 (ix2 p j)) := by
  unfold Mixer.root
  pointwise! [k0_pay3]
theorem norm_at (p : Fin 512) (k : Fin 1024) :
    (s7 x0 x2) (ix2 p k) = Mixer.norm (fun j => x0 (ix2 p j)) (fun j => x2 (ix2 0 j)) k := by
  unfold Mixer.norm Mixer.root
  pointwise! [s7, k0_pay4, k0_pay3]
theorem quer_at (p : Fin 512) (j : Fin 1024) :
    (v18 x0 x2 x3) (ix2 p j) = Attn.quer (fun j => x0 (ix2 p j)) (fun j => x2 (ix2 0 j)) (mat x3) j := by
  refine Eq.trans (b := ∑ k : Fin 1024, k0_pay4 x0 x2 (ix2 p k) * x3 (ix2 k j)) (by pointwise! [v18, k0_pay5]) ?_
  exact Finset.sum_congr rfl fun k _ => Ideal.mul_congr (norm_at x0 x2 p k) rfl
theorem dout_at (p : Fin 512) (j : Fin 1024) :
    (v22 x1 x5) (ix2 p j) = Attn.dout (fun j => x1 (ix2 p j)) (mat x5) j := by
  unfold Attn.dout mat
  pointwise! [v22, k0_pay6]
theorem Q_at (h : Fin 4) (p : Fin 512) (i : Fin 256) : Q x0 x2 x3 h (ix2 p i) = Attn.querH (fun j => x0 (ix2 p j)) (fun j => x2 (ix2 0 j)) (mat x3) h i :=
  match h with
  | ⟨0, h'⟩ => Eq.trans (b := v18 x0 x2 x3 (ix2 p (Attn.lane ⟨0, h'⟩ i))) (by show k0_pay9 x0 x2 x3 (ix2 p i) = _; unfold Attn.lane; pointwise! [k0_pay9, v18]) (quer_at x0 x2 x3 p _)
  | ⟨1, h'⟩ => Eq.trans (b := v18 x0 x2 x3 (ix2 p (Attn.lane ⟨1, h'⟩ i))) (by show k0_pay21 (v18 x0 x2 x3) (ix2 p i) = _; unfold Attn.lane; pointwise! [k0_pay21]) (quer_at x0 x2 x3 p _)
  | ⟨2, h'⟩ => Eq.trans (b := v18 x0 x2 x3 (ix2 p (Attn.lane ⟨2, h'⟩ i))) (by show k0_pay33 (v18 x0 x2 x3) (ix2 p i) = _; unfold Attn.lane; pointwise! [k0_pay33]) (quer_at x0 x2 x3 p _)
  | ⟨3, h'⟩ => Eq.trans (b := v18 x0 x2 x3 (ix2 p (Attn.lane ⟨3, h'⟩ i))) (by show k0_pay44 (v18 x0 x2 x3) (ix2 p i) = _; unfold Attn.lane; pointwise! [k0_pay44]) (quer_at x0 x2 x3 p _)
theorem D_at (h : Fin 4) (p : Fin 512) (i : Fin 256) : D x1 x5 h (ix2 p i) = Attn.doutH (fun j => x1 (ix2 p j)) (mat x5) h i :=
  match h with
  | ⟨0, h'⟩ => Eq.trans (b := v22 x1 x5 (ix2 p (Attn.lane ⟨0, h'⟩ i))) (by show k0_pay10 x1 x5 (ix2 p i) = _; unfold Attn.lane; pointwise! [k0_pay10, v22]) (dout_at x1 x5 p _)
  | ⟨1, h'⟩ => Eq.trans (b := v22 x1 x5 (ix2 p (Attn.lane ⟨1, h'⟩ i))) (by show k0_pay22 (v22 x1 x5) (ix2 p i) = _; unfold Attn.lane; pointwise! [k0_pay22]) (dout_at x1 x5 p _)
  | ⟨2, h'⟩ => Eq.trans (b := v22 x1 x5 (ix2 p (Attn.lane ⟨2, h'⟩ i))) (by show k0_pay34 (v22 x1 x5) (ix2 p i) = _; unfold Attn.lane; pointwise! [k0_pay34]) (dout_at x1 x5 p _)
  | ⟨3, h'⟩ => Eq.trans (b := v22 x1 x5 (ix2 p (Attn.lane ⟨3, h'⟩ i))) (by show k0_pay45 (v22 x1 x5) (ix2 p i) = _; unfold Attn.lane; pointwise! [k0_pay45]) (dout_at x1 x5 p _)

theorem cat_at (a : Fin 4 → FVec Ideal S512x256 .bf16) (h : Fin 4) (p : Fin 512) (i : Fin 256) :
    k0_pay56 (a 0) (a 1) (a 2) (a 3) (ix2 p (Attn.lane h i)) = a h (ix2 p i) := by
  unfold Attn.lane
  generalize e0 : a 0 = a0
  generalize e1 : a 1 = a1
  generalize e2 : a 2 = a2
  generalize e3 : a 3 = a3
  match h with
  | ⟨0, _⟩ => exact Eq.trans (b := a0 (ix2 p i)) (by pointwise! [k0_pay56]) (congrFun e0.symm _)
  | ⟨1, _⟩ => exact Eq.trans (b := a1 (ix2 p i)) (by pointwise! [k0_pay56]) (congrFun e1.symm _)
  | ⟨2, _⟩ =>
    refine Eq.trans (b := a2 (ix2 p i)) ?_ (congrFun e2.symm _)
    pointwise! [k0_pay56]
    have hi := i.isLt
    rw [dif_neg (by omega), dif_neg (by omega), dif_pos (by omega)]
    exact congrArg (fun l => a2 (ix2 p l)) (Fin.ext (by show 512 + i.val - 256 - 256 = i.val; omega))
  | ⟨3, _⟩ => exact Eq.trans (b := a3 (ix2 p i)) (by pointwise! [k0_pay56]) (congrFun e3.symm _)

theorem stack_key (a b : Fin 4 → FVec Ideal S256x256 .f32) (h : Fin 4) (j i : Fin 256) :
    stack (a 0) (a 1) (a 2) (a 3) (b 0) (b 1) (b 2) (b 3) (ix3 (Attn.key h) j i) = a h (ix2 j i) := by
  unfold Attn.key
  generalize e0 : a 0 = a0
  generalize e1 : a 1 = a1
  generalize e2 : a 2 = a2
  generalize e3 : a 3 = a3
  match h with
  | ⟨0, _⟩ => exact Eq.trans (b := a0 (ix2 j i)) (by pointwise! [stack]) (congrFun e0.symm _)
  | ⟨1, _⟩ => exact Eq.trans (b := a1 (ix2 j i)) (by pointwise! [stack]) (congrFun e1.symm _)
  | ⟨2, _⟩ => exact Eq.trans (b := a2 (ix2 j i)) (by pointwise! [stack]) (congrFun e2.symm _)
  | ⟨3, _⟩ => exact Eq.trans (b := a3 (ix2 j i)) (by pointwise! [stack]) (congrFun e3.symm _)
theorem stack_val (a b : Fin 4 → FVec Ideal S256x256 .f32) (h : Fin 4) (j i : Fin 256) :
    stack (a 0) (a 1) (a 2) (a 3) (b 0) (b 1) (b 2) (b 3) (ix3 (Attn.val h) j i) = b h (ix2 j i) := by
  unfold Attn.val
  generalize e0 : b 0 = b0
  generalize e1 : b 1 = b1
  generalize e2 : b 2 = b2
  generalize e3 : b 3 = b3
  match h with
  | ⟨0, _⟩ => exact Eq.trans (b := b0 (ix2 j i)) (by pointwise! [stack]) (congrFun e0.symm _)
  | ⟨1, _⟩ => exact Eq.trans (b := b1 (ix2 j i)) (by pointwise! [stack]) (congrFun e1.symm _)
  | ⟨2, _⟩ => exact Eq.trans (b := b2 (ix2 j i)) (by pointwise! [stack]) (congrFun e2.symm _)
  | ⟨3, _⟩ => exact Eq.trans (b := b3 (ix2 j i)) (by pointwise! [stack]) (congrFun e3.symm _)

theorem gainG_at (r : FVec Ideal S512x1 .f32) (n : FVec Ideal S512x1024 .f32) (k : Fin 1024) :
    gainG x0 r n (ix2 0 k) = ∑ p : Fin 512, n (ix2 p k) * x0 (ix2 p k) * r (ix2 p 0) := by
  pointwise! [gainG]
theorem rowG_at (r : FVec Ideal S512x1 .f32) (n : FVec Ideal S512x1024 .f32) (p : Fin 512) (k : Fin 1024) :
    rowG x0 x1 r n x2 (ix2 p k)
      = x1 (ix2 p k) + (r (ix2 p 0) * (n (ix2 p k) * x2 (ix2 0 k)) - x0 (ix2 p k) * (r (ix2 p 0) * r (ix2 p 0) * r (ix2 p 0))
          * Ideal.div (∑ j : Fin 1024, n (ix2 p j) * x2 (ix2 0 j) * x0 (ix2 p j)) (Ideal.ofBits .f32 0x44800000#32)) := by
  pointwise! [rowG]
theorem t10_at (z : Vec Ideal S8x256x256 .f32) (s : Fin 8) (j i : Fin 256) :
    t10 x0 x1 x2 x3 x4 x5 z (ix3 s j i) = z (ix3 s j i) + s10 x0 x1 x2 x3 x4 x5 (ix3 s j i) := by
  unfold t10
  generalize s10 x0 x1 x2 x3 x4 x5 = w
  pointwise! [k0_pay1]
theorem t11_at (z : Vec Ideal S1x1024 .f32) (k : Fin 1024) :
    t11 x0 x1 x2 x3 x4 x5 z (ix2 0 k) = z (ix2 0 k) + s11 x0 x1 x2 x3 x4 x5 (ix2 0 k) := by
  unfold t11
  generalize s11 x0 x1 x2 x3 x4 x5 = w
  pointwise! [k0_pay2]

section Rows
variable (p : Fin 512)

/-- Row `p` of the block, its gradient, and the gain. -/
def xr : Fin 1024 → EReal := fun j => x0 (ix2 p j)
def gr : Fin 1024 → EReal := fun j => x2 (ix2 0 j)

theorem row8 (j : Fin 1024) :
    s8 x0 x1 x2 x3 x4 x5 (ix2 p j) = Attn.dquers (xr x0 p) (xr x1 p) (gr x2) (mat x3) (mat x5) (mem x4) j := by
  obtain ⟨h, i, rfl⟩ := Attn.lane_cases j
  rw [s8_eq, Attn.dquers_lane]
  refine (cat_at (dquerH x0 x1 x2 x3 x4 x5) h p i).trans ?_
  exact dquers_at _ _ _ _ p _ _ _ _ (D_at x1 x5 h p) (W_at x4 h) (Q_at x0 x2 x3 h p) (K_at x4 h) i

theorem row9 (j : Fin 1024) :
    s9 x0 x2 x3 x4 (ix2 p j) = Attn.heads (xr x0 p) (gr x2) (mat x3) (mem x4) j := by
  obtain ⟨h, i, rfl⟩ := Attn.lane_cases j
  rw [s9_eq, Attn.heads_lane]
  refine (cat_at (mixH x0 x2 x3 x4) h p i).trans ?_
  exact mixes_at _ _ _ p _ _ _ (Q_at x0 x2 x3 h p) (K_at x4 h) (W_at x4 h) i

theorem gradN_at (k : Fin 1024) :
    gradN x0 x1 x2 x3 x4 x5 (ix2 p k) = Attn.dnorm (xr x0 p) (xr x1 p) (gr x2) (mat x3) (mat x5) (mem x4) k := by
  refine Eq.trans (b := ∑ j : Fin 1024, s8 x0 x1 x2 x3 x4 x5 (ix2 p j) * x3 (ix2 k j)) ?_
    (Finset.sum_congr rfl fun j _ => Ideal.mul_congr (row8 x0 x1 x2 x3 x4 x5 p j) rfl)
  unfold gradN normG
  rw [← s8_eq]
  generalize s8 x0 x1 x2 x3 x4 x5 = w
  pointwise!

theorem row6 (k : Fin 1024) :
    s6 x0 x1 x2 x3 x4 x5 (ix2 p k)
      = Mixer.dx (xr x0 p) (xr x1 p) (gr x2) (Attn.dnorm (xr x0 p) (xr x1 p) (gr x2) (mat x3) (mat x5) (mem x4)) k := by
  rw [s6_eq, rowG_at, root_at, gradN_at]
  unfold Mixer.dx
  refine congrArg _ (congrArg _ (congrArg _ (congrArg (Ideal.div · _) (Finset.sum_congr rfl fun j _ => ?_))))
  rw [gradN_at]
  rfl

end Rows

theorem row11 (k : Fin 1024) :
    s11 x0 x1 x2 x3 x4 x5 (ix2 0 k)
      = ∑ p : Fin 512, Attn.dgain (xr x0 p) (xr x1 p) (gr x2) (mat x3) (mat x5) (mem x4) k := by
  rw [s11_eq, gainG_at]
  refine Finset.sum_congr rfl fun p _ => ?_
  rw [gradN_at, root_at]
  rfl

/-- A row's share of the gradient with respect to a key's or a value's entry. -/
theorem row10_key (h : Fin 4) (j i : Fin 256) :
    s10 x0 x1 x2 x3 x4 x5 (ix3 (Attn.key h) j i)
      = ∑ p : Fin 512, Attn.dkey (xr x0 p) (xr x1 p) (gr x2) (mat x3) (mat x5) (mem x4) h j i := by
  rw [s10_eq]
  refine (stack_key (dkeyH x0 x1 x2 x3 x4 x5) (dvalH x0 x1 x2 x3 x4 x5) h j i).trans ((dkeys_at _ _ _ _ j i).trans ?_)
  exact Finset.sum_congr rfl fun p _ => Ideal.mul_congr
    (dscores_at _ _ _ _ p _ _ _ _ (D_at x1 x5 h p) (W_at x4 h) (Q_at x0 x2 x3 h p) (K_at x4 h) j) (Q_at x0 x2 x3 h p i)
theorem row10_val (h : Fin 4) (j i : Fin 256) :
    s10 x0 x1 x2 x3 x4 x5 (ix3 (Attn.val h) j i)
      = ∑ p : Fin 512, Attn.dval (xr x0 p) (xr x1 p) (gr x2) (mat x3) (mat x5) (mem x4) h j i := by
  rw [s10_eq]
  refine (stack_val (dkeyH x0 x1 x2 x3 x4 x5) (dvalH x0 x1 x2 x3 x4 x5) h j i).trans ((dvals_at _ _ _ j i).trans ?_)
  exact Finset.sum_congr rfl fun p _ => Ideal.mul_congr
    (probs_at _ _ p _ _ (Q_at x0 x2 x3 h p) (K_at x4 h) j) (D_at x1 x5 h p i)

end Payloads

end Cert.Kernel8Ideal.XattnBwd

end
-- ==== Proof.KXattnOut.lean ====
module

public import proofs.«01_k».proof.Proof.KXattn

@[expose] public section

set_option maxRecDepth 16384

/- The cross-attention's backward call: its six results, entry by entry, in terms of the arguments. -/

noncomputable section

namespace Cert.Kernel8Ideal.XattnBwd

open Cert.Kernel8Ideal Cert.Kernel8Ideal.Gen Cert.Kernel8Ideal.Value
open Idealize.ShloMosaic Idealize.ShloMosaic.TcCoe Idealize.ShloMosaic.Tactic Idealize.SL.Sem

variable (m : (ℓ : Loc nD τ sig) → Buf (Elt Ideal) ℓ)

/-- The arguments: the rows, the gradient of the call's output, the gain, the queries' weights, the memory's keys and values, and the output's weights. -/
def A0 (c : Dev nD) : Vec Ideal S4096x1024 .f32 := m ((c : Thread nD τ).loc main_arg0)
def A1 (c : Dev nD) : Vec Ideal S4096x1024 .f32 := m ((c : Thread nD τ).loc main_arg1)
def A2 (c : Dev nD) : Vec Ideal S1x1024 .f32 := m ((c : Thread nD τ).loc main_arg2)
def A3 (c : Dev nD) : Vec Ideal S1024x1024 .bf16 := m ((c : Thread nD τ).loc main_arg3)
def A4 (c : Dev nD) : Vec Ideal S8x256x256 .bf16 := m ((c : Thread nD τ).loc main_arg4)
def A5 (c : Dev nD) : Vec Ideal S1024x1024 .bf16 := m ((c : Thread nD τ).loc main_arg5)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)
theorem at8 : ∀ t : Fin cfg0.N, win0_8.index t (0 : Fin 2) = t.val ∧ win0_8.index t (1 : Fin 2) = 0 :=
  (by decide +kernel : ∀ t : Fin grid0.N, _)
theorem at9 : ∀ t : Fin cfg0.N, win0_9.index t (0 : Fin 2) = t.val ∧ win0_9.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at11 : ∀ t : Fin cfg0.N, win0_11.index t (0 : Fin 2) = 0 ∧ win0_11.index t (1 : Fin 2) = 0 :=
  (by decide +kernel : ∀ t : Fin grid0.N, _)
theorem at4 : ∀ t : Fin cfg0.N, win0_4.index t (0 : Fin 3) = 0 ∧ win0_4.index t (1 : Fin 3) = 0 ∧ win0_4.index t (2 : Fin 3) = 0 :=
  (by decide +kernel : ∀ t : Fin grid0.N, _)
theorem at10 : ∀ t : Fin cfg0.N, win0_10.index t (0 : Fin 3) = 0 ∧ win0_10.index t (1 : Fin 3) = 0 ∧ win0_10.index t (2 : Fin 3) = 0 :=
  (by decide +kernel : ∀ t : Fin grid0.N, _)

/- The blocks of rows that a point reads. -/
theorem x0_at (c : Dev nD) (t : Fin cfg0.N) (p : Fin 512) (k : Fin 1024) (h : 512 * t.val + p.val < 4096) :
    (iblk m c 0 t : Vec Ideal S512x1024 .f32) (ix2 p k) = A0 m c (ix2 ⟨512 * t.val + p.val, h⟩ k) := by
  unfold iblk
  rw [View.read_apply]
  show V m c main_arg0 _ = _
  rw [V_main_arg0]
  refine congrArg _ (funext fun a => Fin.ext ?_)
  match a with
  | ⟨0, _⟩ => show win0_0.index t 0 * 512 + 1 * p.val = 512 * t.val + p.val; rw [(at0 t).1]; omega
  | ⟨1, _⟩ => show win0_0.index t 1 * 1024 + 1 * k.val = k.val; rw [(at0 t).2]; omega

theorem x1_at (c : Dev nD) (t : Fin cfg0.N) (p : Fin 512) (k : Fin 1024) (h : 512 * t.val + p.val < 4096) :
    (iblk m c 1 t : Vec Ideal S512x1024 .f32) (ix2 p k) = A1 m c (ix2 ⟨512 * t.val + p.val, h⟩ k) := by
  unfold iblk
  rw [View.read_apply]
  show V m c main_arg1 _ = _
  rw [V_main_arg1]
  refine congrArg _ (funext fun a => Fin.ext ?_)
  match a with
  | ⟨0, _⟩ => show win0_1.index t 0 * 512 + 1 * p.val = 512 * t.val + p.val; rw [(at1 t).1]; omega
  | ⟨1, _⟩ => show win0_1.index t 1 * 1024 + 1 * k.val = k.val; rw [(at1 t).2]; omega

/- The other blocks are the whole arguments. -/
theorem x2_eq (c : Dev nD) (t : Fin cfg0.N) : iblk m c 2 t = A2 m c := by
  funext i
  unfold A2 iblk
  rw [View.read_apply]
  show V m c main_arg2 _ = m (c.tc.loc main_arg2) _
  rw [V_main_arg2]
  refine congrArg _ (funext fun a => Fin.ext ?_)
  match a with
  | ⟨0, _⟩ => show win0_2.index t 0 * 1 + 1 * (i 0).val = (i 0).val; rw [(at2 t).1]; omega
  | ⟨1, _⟩ => show win0_2.index t 1 * 1024 + 1 * (i 1).val = (i 1).val; rw [(at2 t).2]; omega

theorem x3_eq (c : Dev nD) (t : Fin cfg0.N) : iblk m c 3 t = A3 m c := by
  funext i
  unfold A3 iblk
  rw [View.read_apply]
  show V m c main_arg3 _ = m (c.tc.loc main_arg3) _
  rw [V_main_arg3]
  refine congrArg _ (funext fun a => Fin.ext ?_)
  match a with
  | ⟨0, _⟩ => show win0_3.index t 0 * 1024 + 1 * (i 0).val = (i 0).val; rw [(at3 t).1]; omega
  | ⟨1, _⟩ => show win0_3.index t 1 * 1024 + 1 * (i 1).val = (i 1).val; rw [(at3 t).2]; omega

theorem x4_eq (c : Dev nD) (t : Fin cfg0.N) : iblk m c 4 t = A4 m c := by
  funext i
  unfold A4 iblk
  rw [View.read_apply]
  show V m c main_arg4 _ = m (c.tc.loc main_arg4) _
  rw [V_main_arg4]
  refine congrArg _ (funext fun a => Fin.ext ?_)
  match a with
  | ⟨0, _⟩ => show win0_4.index t 0 * 8 + 1 * (i 0).val = (i 0).val; rw [(at4 t).1]; omega
  | ⟨1, _⟩ => show win0_4.index t 1 * 256 + 1 * (i 1).val = (i 1).val; rw [(at4 t).2.1]; omega
  | ⟨2, _⟩ => show win0_4.index t 2 * 256 + 1 * (i 2).val = (i 2).val; rw [(at4 t).2.2]; omega

theorem x5_eq (c : Dev nD) (t : Fin cfg0.N) : iblk m c 5 t = A5 m c := by
  funext i
  unfold A5 iblk
  rw [View.read_apply]
  show V m c main_arg5 _ = m (c.tc.loc main_arg5) _
  rw [V_main_arg5]
  refine congrArg _ (funext fun a => Fin.ext ?_)
  match a with
  | ⟨0, _⟩ => show win0_5.index t 0 * 1024 + 1 * (i 0).val = (i 0).val; rw [(at5 t).1]; omega
  | ⟨1, _⟩ => show win0_5.index t 1 * 1024 + 1 * (i 1).val = (i 1).val; rw [(at5 t).2]; omega

/-- A row of the first argument and of its gradient, and the gain as a function. -/
def row (c : Dev nD) (r : Fin 4096) : Fin 1024 → EReal := fun j => A0 m c (ix2 r j)
def drow (c : Dev nD) (r : Fin 4096) : Fin 1024 → EReal := fun j => A1 m c (ix2 r j)

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

section Block
variable (c : Dev nD) (t : Fin cfg0.N) (p : Fin 512) (h : 512 * t.val + p.val < 4096)

theorem rows_eq : xr (iblk m c 0 t) p = row m c ⟨512 * t.val + p.val, h⟩ :=
  funext fun j => x0_at m c t p j h
theorem drows_eq : xr (iblk m c 1 t) p = drow m c ⟨512 * t.val + p.val, h⟩ :=
  funext fun j => x1_at m c t p j h

end Block

theorem zero_of (t : Fin cfg0.N) (h : t.val % 8 = 0) : ¬1 ≤ t.val := by have := lt_N t; omega
theorem pos_of (t : Fin cfg0.N) (h : ¬t.val % 8 = 0) : 1 ≤ t.val := by omega

theorem block6 (c : Dev nD) (t : Fin cfg0.N) :
    (dats m 0 c).flushed 6 t = (cfg0.win 6).cut (grid0.coords t) (s6 (iblk m c 0 t) (iblk m c 1 t) (A2 m c) (A3 m c) (A4 m c) (A5 m c)) := by
  by_cases h0 : t.val % 8 = 0
  · refine (flushed6_A m c t h0 (zero_of t h0) h0 (zero_of t h0)).trans ?_
    rw [pieceA6, x2_eq, x3_eq, x4_eq, x5_eq]
  · refine (flushed6_B m c t h0 (pos_of t h0) h0 (pos_of t h0)).trans ?_
    rw [pieceB6, x2_eq, x3_eq, x4_eq, x5_eq]

theorem result6 (c : Dev nD) (r : Fin 4096) (q : Fin 1024) :
    ((dats m 0 c).arrAt 6 cfg0.N : Vec Ideal S4096x1024 .f32) (ix2 r q)
      = Mixer.dx (row m c r) (drow m c r) (gr (A2 m c)) (Attn.dnorm (row m c r) (drow m c r) (gr (A2 m c)) (mat (A3 m c)) (mat (A5 m c)) (mem (A4 m c))) q := by
  obtain ⟨t, p, hr, rfl⟩ := split r
  have h := congrFun ((blocks6 m c t (flush0_6 t)).trans (block6 m c t)) (ix2 p q)
  refine Eq.trans (congrArg ((dats m 0 c).arrAt 6 cfg0.N) (funext fun ax => Fin.ext ?_)) (h.trans ?_)
  · symm
    match ax with
    | ⟨0, _⟩ => show win0_6.index t 0 * 512 + 1 * p.val = 512 * t.val + p.val; rw [(at6 t).1]; omega
    | ⟨1, _⟩ => show win0_6.index t 1 * 1024 + 1 * q.val = q.val; rw [(at6 t).2]; omega
  · show (s6 (iblk m c 0 t) (iblk m c 1 t) (A2 m c) (A3 m c) (A4 m c) (A5 m c)) (ix2 p q) = _
    rw [← rows_eq m c t p hr, ← drows_eq m c t p hr]
    exact row6 (iblk m c 0 t) (iblk m c 1 t) (A2 m c) (A3 m c) (A4 m c) (A5 m c) p q

theorem block7 (c : Dev nD) (t : Fin cfg0.N) :
    (dats m 0 c).flushed 7 t = (cfg0.win 7).cut (grid0.coords t) (s7 (iblk m c 0 t) (A2 m c)) := by
  by_cases h0 : t.val % 8 = 0
  · refine (flushed7_A m c t h0 (zero_of t h0) h0 (zero_of t h0)).trans ?_
    rw [pieceA7, x2_eq]
  · refine (flushed7_B m c t h0 (pos_of t h0) h0 (pos_of t h0)).trans ?_
    rw [pieceB7, x2_eq]

theorem result7 (c : Dev nD) (r : Fin 4096) (q : Fin 1024) :
    ((dats m 0 c).arrAt 7 cfg0.N : Vec Ideal S4096x1024 .bf16) (ix2 r q)
      = Mixer.norm (row m c r) (gr (A2 m c)) q := by
  obtain ⟨t, p, hr, rfl⟩ := split r
  have h := congrFun ((blocks7 m c t (flush0_7 t)).trans (block7 m c t)) (ix2 p q)
  refine Eq.trans (congrArg ((dats m 0 c).arrAt 7 cfg0.N) (funext fun ax => Fin.ext ?_)) (h.trans ?_)
  · symm
    match ax with
    | ⟨0, _⟩ => show win0_7.index t 0 * 512 + 1 * p.val = 512 * t.val + p.val; rw [(at7 t).1]; omega
    | ⟨1, _⟩ => show win0_7.index t 1 * 1024 + 1 * q.val = q.val; rw [(at7 t).2]; omega
  · show (s7 (iblk m c 0 t) (A2 m c)) (ix2 p q) = _
    rw [← rows_eq m c t p hr]
    exact norm_at (iblk m c 0 t) (A2 m c) p q

theorem block8 (c : Dev nD) (t : Fin cfg0.N) :
    (dats m 0 c).flushed 8 t = (cfg0.win 8).cut (grid0.coords t) (s8 (iblk m c 0 t) (iblk m c 1 t) (A2 m c) (A3 m c) (A4 m c) (A5 m c)) := by
  by_cases h0 : t.val % 8 = 0
  · refine (flushed8_A m c t h0 (zero_of t h0) h0 (zero_of t h0)).trans ?_
    rw [pieceA8, x2_eq, x3_eq, x4_eq, x5_eq]
  · refine (flushed8_B m c t h0 (pos_of t h0) h0 (pos_of t h0)).trans ?_
    rw [pieceB8, x2_eq, x3_eq, x4_eq, x5_eq]

theorem result8 (c : Dev nD) (r : Fin 4096) (q : Fin 1024) :
    ((dats m 0 c).arrAt 8 cfg0.N : Vec Ideal S4096x1024 .bf16) (ix2 r q)
      = Attn.dquers (row m c r) (drow m c r) (gr (A2 m c)) (mat (A3 m c)) (mat (A5 m c)) (mem (A4 m c)) q := by
  obtain ⟨t, p, hr, rfl⟩ := split r
  have h := congrFun ((blocks8 m c t (flush0_8 t)).trans (block8 m c t)) (ix2 p q)
  refine Eq.trans (congrArg ((dats m 0 c).arrAt 8 cfg0.N) (funext fun ax => Fin.ext ?_)) (h.trans ?_)
  · symm
    match ax with
    | ⟨0, _⟩ => show win0_8.index t 0 * 512 + 1 * p.val = 512 * t.val + p.val; rw [(at8 t).1]; omega
    | ⟨1, _⟩ => show win0_8.index t 1 * 1024 + 1 * q.val = q.val; rw [(at8 t).2]; omega
  · show (s8 (iblk m c 0 t) (iblk m c 1 t) (A2 m c) (A3 m c) (A4 m c) (A5 m c)) (ix2 p q) = _
    rw [← rows_eq m c t p hr, ← drows_eq m c t p hr]
    exact row8 (iblk m c 0 t) (iblk m c 1 t) (A2 m c) (A3 m c) (A4 m c) (A5 m c) p q

theorem block9 (c : Dev nD) (t : Fin cfg0.N) :
    (dats m 0 c).flushed 9 t = (cfg0.win 9).cut (grid0.coords t) (s9 (iblk m c 0 t) (A2 m c) (A3 m c) (A4 m c)) := by
  by_cases h0 : t.val % 8 = 0
  · refine (flushed9_A m c t h0 (zero_of t h0) h0 (zero_of t h0)).trans ?_
    rw [pieceA9, x2_eq, x3_eq, x4_eq]
  · refine (flushed9_B m c t h0 (pos_of t h0) h0 (pos_of t h0)).trans ?_
    rw [pieceB9, x2_eq, x3_eq, x4_eq]

theorem result9 (c : Dev nD) (r : Fin 4096) (q : Fin 1024) :
    ((dats m 0 c).arrAt 9 cfg0.N : Vec Ideal S4096x1024 .bf16) (ix2 r q)
      = Attn.heads (row m c r) (gr (A2 m c)) (mat (A3 m c)) (mem (A4 m c)) q := by
  obtain ⟨t, p, hr, rfl⟩ := split r
  have h := congrFun ((blocks9 m c t (flush0_9 t)).trans (block9 m c t)) (ix2 p q)
  refine Eq.trans (congrArg ((dats m 0 c).arrAt 9 cfg0.N) (funext fun ax => Fin.ext ?_)) (h.trans ?_)
  · symm
    match ax with
    | ⟨0, _⟩ => show win0_9.index t 0 * 512 + 1 * p.val = 512 * t.val + p.val; rw [(at9 t).1]; omega
    | ⟨1, _⟩ => show win0_9.index t 1 * 1024 + 1 * q.val = q.val; rw [(at9 t).2]; omega
  · show (s9 (iblk m c 0 t) (A2 m c) (A3 m c) (A4 m c)) (ix2 p q) = _
    rw [← rows_eq m c t p hr]
    exact row9 (iblk m c 0 t) (A2 m c) (A3 m c) (A4 m c) p q

/-- A block's part of a sum over the rows. -/
def part (f : Fin 4096 → EReal) (t : ℕ) : EReal :=
  ∑ p : Fin 512, if h : 512 * t + p.val < 4096 then f ⟨512 * t + p.val, h⟩ else 0

theorem part_of (f : Fin 4096 → EReal) (t : Fin cfg0.N) (w : Fin 512 → EReal)
    (hw : ∀ (p : Fin 512) (h : 512 * t.val + p.val < 4096), w p = f ⟨512 * t.val + p.val, h⟩) : ∑ p, w p = part f t.val := by
  refine Finset.sum_congr rfl fun p _ => ?_
  have hr : 512 * t.val + p.val < 4096 := by have := lt_N t; omega
  rw [dif_pos hr]
  exact hw p hr

theorem parts (f : Fin 4096 → EReal) : ∑ t ∈ Finset.range 8, part f t = ∑ r, f r := by
  rw [Attn.sum_blocks, Finset.sum_range]
  exact Finset.sum_congr rfl fun t _ => Finset.sum_congr rfl fun p _ => dif_pos _

theorem parts_to (t : Fin cfg0.N) (ht : t.val = 7) (f : Fin 4096 → EReal) : ∑ l ∈ Finset.range (t.val + 1), part f l = ∑ r, f r := by
  rw [ht]
  exact parts f

/-- A row's shares of the gradients with respect to the gain, the keys and the values. -/
def shareG (c : Dev nD) (k : Fin 1024) (r : Fin 4096) : EReal := Attn.dgain (row m c r) (drow m c r) (gr (A2 m c)) (mat (A3 m c)) (mat (A5 m c)) (mem (A4 m c)) k
def shareK (c : Dev nD) (h : Fin 4) (j i : Fin 256) (r : Fin 4096) : EReal := Attn.dkey (row m c r) (drow m c r) (gr (A2 m c)) (mat (A3 m c)) (mat (A5 m c)) (mem (A4 m c)) h j i
def shareV (c : Dev nD) (h : Fin 4) (j i : Fin 256) (r : Fin 4096) : EReal := Attn.dval (row m c r) (drow m c r) (gr (A2 m c)) (mat (A3 m c)) (mat (A5 m c)) (mem (A4 m c)) h j i

section Shares
variable (c : Dev nD) (t : Fin cfg0.N)
theorem partG (k : Fin 1024) : s11 (iblk m c 0 t) (iblk m c 1 t) (A2 m c) (A3 m c) (A4 m c) (A5 m c) (ix2 0 k) = part (shareG m c k) t.val :=
  (row11 (iblk m c 0 t) (iblk m c 1 t) (A2 m c) (A3 m c) (A4 m c) (A5 m c) k).trans (part_of _ t _ fun p hr => by
    unfold shareG
    rw [← rows_eq m c t p hr, ← drows_eq m c t p hr])
theorem partK (h : Fin 4) (j i : Fin 256) : s10 (iblk m c 0 t) (iblk m c 1 t) (A2 m c) (A3 m c) (A4 m c) (A5 m c) (ix3 (Attn.key h) j i) = part (shareK m c h j i) t.val :=
  (row10_key (iblk m c 0 t) (iblk m c 1 t) (A2 m c) (A3 m c) (A4 m c) (A5 m c) h j i).trans (part_of _ t _ fun p hr => by
    unfold shareK
    rw [← rows_eq m c t p hr, ← drows_eq m c t p hr])
theorem partV (h : Fin 4) (j i : Fin 256) : s10 (iblk m c 0 t) (iblk m c 1 t) (A2 m c) (A3 m c) (A4 m c) (A5 m c) (ix3 (Attn.val h) j i) = part (shareV m c h j i) t.val :=
  (row10_val (iblk m c 0 t) (iblk m c 1 t) (A2 m c) (A3 m c) (A4 m c) (A5 m c) h j i).trans (part_of _ t _ fun p hr => by
    unfold shareV
    rw [← rows_eq m c t p hr, ← drows_eq m c t p hr])
end Shares

/-- After a point, a running sum is that of the blocks so far. -/
theorem runningM (c : Dev nD) (s : Fin 8) (j i : Fin 256) (f : Fin 4096 → EReal)
    (hf : ∀ t : Fin cfg0.N, s10 (iblk m c 0 t) (iblk m c 1 t) (A2 m c) (A3 m c) (A4 m c) (A5 m c) (ix3 s j i) = part f t.val) : ∀ (n : ℕ) (h : n < cfg0.N),
    (outsAt0 m c n h).2.2.2.2.1 (ix3 s j i) = ∑ t ∈ Finset.range (n + 1), part f t
  | 0, h => by
    rw [outsAt0_A m c ⟨0, h⟩ (Nat.zero_mod _) (by dsimp only; omega) (Nat.zero_mod _) (by dsimp only; omega)]
    dsimp only
    rw [pieceA10, x2_eq, x3_eq, x4_eq, x5_eq, Finset.sum_range_one]
    exact hf ⟨0, h⟩
  | n + 1, h => by
    have hN : n + 1 < 8 := lt_N ⟨n + 1, h⟩
    rw [outsAt0_B m c ⟨n + 1, h⟩ (by dsimp only; omega) (by dsimp only; omega) (by dsimp only; omega) (by dsimp only; omega)]
    dsimp only
    rw [pieceB10, x2_eq, x3_eq, x4_eq, x5_eq, Finset.sum_range_succ]
    refine (t10_at (iblk m c 0 ⟨n + 1, h⟩) _ _ _ _ _ _ s j i).trans ?_
    exact congrArg₂ (· + ·) (runningM c s j i f hf n (Nat.lt_of_succ_lt h)) (hf ⟨n + 1, h⟩)

theorem last_only10 : ∀ t t' : Fin cfg0.N, (cfg0.win 10).flush t = true → (cfg0.win 10).flush t' = true → t ≠ t' →
    Disjoint ((cfg0.win 10).blk t).view.set ((cfg0.win 10).blk t').view.set := fun t t' h h' hne =>
  absurd (Fin.ext (by have := (flush0_10 t).mp h; have := (flush0_10 t').mp h'; have := lt_N t; have := lt_N t'; omega)) hne

/-- After a point, a running sum is that of the blocks so far. -/
theorem runningG (c : Dev nD) (k : Fin 1024) (f : Fin 4096 → EReal)
    (hf : ∀ t : Fin cfg0.N, s11 (iblk m c 0 t) (iblk m c 1 t) (A2 m c) (A3 m c) (A4 m c) (A5 m c) (ix2 0 k) = part f t.val) : ∀ (n : ℕ) (h : n < cfg0.N),
    (outsAt0 m c n h).2.2.2.2.2 (ix2 0 k) = ∑ t ∈ Finset.range (n + 1), part f t
  | 0, h => by
    rw [outsAt0_A m c ⟨0, h⟩ (Nat.zero_mod _) (by dsimp only; omega) (Nat.zero_mod _) (by dsimp only; omega)]
    dsimp only
    rw [pieceA11, x2_eq, x3_eq, x4_eq, x5_eq, Finset.sum_range_one]
    exact hf ⟨0, h⟩
  | n + 1, h => by
    have hN : n + 1 < 8 := lt_N ⟨n + 1, h⟩
    rw [outsAt0_B m c ⟨n + 1, h⟩ (by dsimp only; omega) (by dsimp only; omega) (by dsimp only; omega) (by dsimp only; omega)]
    dsimp only
    rw [pieceB11, x2_eq, x3_eq, x4_eq, x5_eq, Finset.sum_range_succ]
    refine (t11_at (iblk m c 0 ⟨n + 1, h⟩) _ _ _ _ _ _ k).trans ?_
    exact congrArg₂ (· + ·) (runningG c k f hf n (Nat.lt_of_succ_lt h)) (hf ⟨n + 1, h⟩)

theorem last_only11 : ∀ t t' : Fin cfg0.N, (cfg0.win 11).flush t = true → (cfg0.win 11).flush t' = true → t ≠ t' →
    Disjoint ((cfg0.win 11).blk t).view.set ((cfg0.win 11).blk t').view.set := fun t t' h h' hne =>
  absurd (Fin.ext (by have := (flush0_11 t).mp h; have := (flush0_11 t').mp h'; have := lt_N t; have := lt_N t'; omega)) hne

theorem whole10 (c : Dev nD) (t : Fin cfg0.N) (s : Fin 8) (j i : Fin 256) :
    (dats m 0 c).flushed 10 t (ix3 s j i) = (outsAt0 m c t.val t.isLt).2.2.2.2.1 (ix3 s j i) := congrFun (flushed10 m c t) _
theorem whole11 (c : Dev nD) (t : Fin cfg0.N) (k : Fin 1024) :
    (dats m 0 c).flushed 11 t (ix2 0 k) = (outsAt0 m c t.val t.isLt).2.2.2.2.2 (ix2 0 k) := congrFun (flushed11 m c t) _

theorem summed10 (c : Dev nD) (s : Fin 8) (j i : Fin 256) (f : Fin 4096 → EReal)
    (hf : ∀ t : Fin cfg0.N, s10 (iblk m c 0 t) (iblk m c 1 t) (A2 m c) (A3 m c) (A4 m c) (A5 m c) (ix3 s j i) = part f t.val) :
    ((dats m 0 c).arrAt 10 cfg0.N : Vec Ideal S8x256x256 .f32) (ix3 s j i) = ∑ r, f r := by
  obtain ⟨t, ht⟩ : ∃ t : Fin cfg0.N, t.val = 7 := ⟨⟨7, by rw [show cfg0.N = 8 from N_0]; omega⟩, rfl⟩
  have h := (congrFun ((dats m 0 c).read_blk_arrAt_eq_flushed 10 last_only10 cfg0.N t t.isLt ((flush0_10 t).mpr (by rw [ht]))) (ix3 s j i)).trans
    ((whole10 m c t s j i).trans ((runningM m c s j i f hf t.val t.isLt).trans (parts_to t ht f)))
  refine Eq.trans (congrArg ((dats m 0 c).arrAt 10 cfg0.N) (funext fun ax => Fin.ext ?_)) h
  symm
  match ax with
  | ⟨0, _⟩ => show win0_10.index t 0 * 8 + 1 * s.val = s.val; rw [(at10 t).1]; omega
  | ⟨1, _⟩ => show win0_10.index t 1 * 256 + 1 * j.val = j.val; rw [(at10 t).2.1]; omega
  | ⟨2, _⟩ => show win0_10.index t 2 * 256 + 1 * i.val = i.val; rw [(at10 t).2.2]; omega

theorem result10_key (c : Dev nD) (h : Fin 4) (j i : Fin 256) :
    ((dats m 0 c).arrAt 10 cfg0.N : Vec Ideal S8x256x256 .f32) (ix3 (Attn.key h) j i) = ∑ r, shareK m c h j i r :=
  summed10 m c _ j i _ fun t => partK m c t h j i
theorem result10_val (c : Dev nD) (h : Fin 4) (j i : Fin 256) :
    ((dats m 0 c).arrAt 10 cfg0.N : Vec Ideal S8x256x256 .f32) (ix3 (Attn.val h) j i) = ∑ r, shareV m c h j i r :=
  summed10 m c _ j i _ fun t => partV m c t h j i

theorem result11 (c : Dev nD) (k : Fin 1024) :
    ((dats m 0 c).arrAt 11 cfg0.N : Vec Ideal S1x1024 .f32) (ix2 0 k) = ∑ r, shareG m c k r := by
  obtain ⟨t, ht⟩ : ∃ t : Fin cfg0.N, t.val = 7 := ⟨⟨7, by rw [show cfg0.N = 8 from N_0]; omega⟩, rfl⟩
  have h := (congrFun ((dats m 0 c).read_blk_arrAt_eq_flushed 11 last_only11 cfg0.N t t.isLt ((flush0_11 t).mpr (by rw [ht]))) (ix2 0 k)).trans
    ((whole11 m c t k).trans ((runningG m c k (shareG m c k) (fun t => partG m c t k) t.val t.isLt).trans (parts_to t ht (shareG m c k))))
  refine Eq.trans (congrArg ((dats m 0 c).arrAt 11 cfg0.N) (funext fun ax => Fin.ext ?_)) h
  symm
  match ax with
  | ⟨0, _⟩ => show win0_11.index t 0 * 1 + 1 * 0 = 0; rw [(at11 t).1]
  | ⟨1, _⟩ => show win0_11.index t 1 * 1024 + 1 * k.val = k.val; rw [(at11 t).2]; omega

end Cert.Kernel8Ideal.XattnBwd

end
-- ==== Proof.XattnBwd.lean ====
module

public import proofs.«01_k».proof.Proof.KXattnOut
public import proofs.«01_k».proof.Proof.Gen.Reference8Ideal.Run
public import Idealize.ShloMosaic.Lib.Quiescent
public import Idealize.ShloMosaic.Adequacy
public import Idealize.ShloMosaic.Init

@[expose] public section

set_option maxRecDepth 16384

/- The cross-attention's backward call and its reference: where the scores are real numbers their six results are the same. -/

noncomputable section

namespace Cert.Reference8Ideal.XattnBwd

open Cert.Reference8Ideal Cert.Reference8Ideal.Gen
open Idealize.ShloMosaic Idealize.ShloMosaic.TcCoe Idealize.ShloMosaic.Tactic Idealize.SL.Sem Idealize.ShloMosaic.StableHlo

/-- Arrays as functions. -/
def mat (w : FVec Ideal S1024x1024 .bf16) : Fin 1024 → Fin 1024 → EReal := fun k j => w (ix2 k j)
def mem (w : FVec Ideal S8x256x256 .bf16) : Fin 8 → Fin 256 → Fin 256 → EReal := fun s j i => w (ix3 s j i)
def vec (g : FVec Ideal S1x1024 .f32) : Fin 1024 → EReal := fun j => g (ix2 0 j)
def row (x : FVec Ideal S4096x1024 .f32) (r : Fin 4096) : Fin 1024 → EReal := fun j => x (ix2 r j)

section Terms
variable (x dy : FVec Ideal S4096x1024 .f32) (g : FVec Ideal S1x1024 .f32) (wq : FVec Ideal S1024x1024 .bf16) (kv : FVec Ideal S8x256x256 .bf16)
  (wo : FVec Ideal S1024x1024 .bf16)

/-- The reference's stages, forward. -/
def means : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
def roots : FVec Ideal S4096x1024 .f32 :=
  broadcastInDim S4096x1024 ![0, 1] bcast_S4096x1_S4096x1024_0_1 (Host.rsqrt (means x))
def gains : FVec Ideal S4096x1024 .f32 :=
  broadcastInDim S4096x1024 ![0, 1] bcast_S1x1024_S4096x1024_0_1 g
def normed : FVec Ideal S4096x1024 .f32 := mulf (mulf x (roots x)) (gains g)
def byHead (z : FVec Ideal S4096x1024 .f32) : FVec Ideal S4096x4x256 .f32 := shapeCast _ z shapeCasts_S4096x1024_S4096x4x256
def flat (z : FVec Ideal S4096x4x256 .f32) : FVec Ideal S4096x1024 .f32 := shapeCast _ z shapeCasts_S4096x4x256_S4096x1024
def quers : FVec Ideal S4096x4x256 .f32 :=
  byHead (Host.dotGeneral dot_S4096x1024_S1024x1024_S4096x1024_1_0_0_1_n_n none (normed x g) (extf .f32 wq bitsLt_bf16_f32))
def keys : FVec Ideal S4x256x256 .f32 := extractStridedSlice S4x256x256 ![0, 0, 0] (extf .f32 kv bitsLt_bf16_f32) slices_S8x256x256_S4x256x256_0_0_0
def vals : FVec Ideal S4x256x256 .f32 := extractStridedSlice S4x256x256 ![4, 0, 0] (extf .f32 kv bitsLt_bf16_f32) slices_S8x256x256_S4x256x256_4_0_0
def scale : FVec Ideal S4x4096x256 .f32 := broadcastInDim S4x4096x256 ![] bcast_S_S4x4096x256 (constant S_ .f32 0x3D800000#32)
def scores : FVec Ideal S4x4096x256 .f32 :=
  mulf (Host.dotGeneral dot_S4096x4x256_S4x256x256_S4x4096x256_2_2_0_1_1_0 none (quers x g wq) (keys kv)) scale

/-- A row's greatest entry and its sum, with and without a trailing axis of one. -/
def greatest (s : FVec Ideal S4x4096x256 .f32) : FVec Ideal S4x4096 .f32 :=
  Host.reduce FloatOps.maximumf s (constant S_ .f32 0xFF800000#32) reducesTo_S4x4096x256_S4x4096_d2 h_S_
def totals (w : FVec Ideal S4x4096x256 .f32) : FVec Ideal S4x4096 .f32 :=
  Host.reduceAdd w (constant S_ .f32 0x00000000#32) reducesTo_S4x4096x256_S4x4096_d2 h_S_
def column (z : FVec Ideal S4x4096 .f32) : FVec Ideal S4x4096x1 .f32 := shapeCast S4x4096x1 z shapeCasts_S4x4096_S4x4096x1
def single (z : FVec Ideal S4x4096x1 .f32) : FVec Ideal S4x4096 .f32 :=
  Host.reduceAdd z (constant S_ .f32 0x00000000#32) reducesTo_S4x4096x1_S4x4096_d2 h_S_
def inverse (z : FVec Ideal S4x4096x1 .f32) : FVec Ideal S4x4096x1 .f32 :=
  Host.divf (broadcastInDim S4x4096x1 ![] bcast_S_S4x4096x1 (constant S_ .f32 0x3F800000#32)) (mulf z z)

/-- The softmax of an array of scores. -/
def tops (s : FVec Ideal S4x4096x256 .f32) : FVec Ideal S4x4096 .f32 :=
  maximumf (broadcastInDim S4x4096 ![] bcast_S_S4x4096 (constant S_ .f32 0xFF800000#32)) (greatest s)
def wts (s : FVec Ideal S4x4096x256 .f32) : FVec Ideal S4x4096x256 .f32 :=
  Host.exp (subf s (broadcastInDim S4x4096x256 ![0, 1, 2] bcast_S4x4096x1_S4x4096x256_0_1_2 (broadcastInDim S4x4096x1 ![0, 1] bcast_S4x4096_S4x4096x1_0_1 (tops s))))
def dens (w : FVec Ideal S4x4096x256 .f32) : FVec Ideal S4x4096x1 .f32 :=
  broadcastInDim S4x4096x1 ![0, 1] bcast_S4x4096_S4x4096x1_0_1 (totals w)
def spread (z : FVec Ideal S4x4096x1 .f32) : FVec Ideal S4x4096x256 .f32 := broadcastInDim S4x4096x256 ![0, 1, 2] bcast_S4x4096x1_S4x4096x256_0_1_2 z
def probs (w : FVec Ideal S4x4096x256 .f32) : FVec Ideal S4x4096x256 .f32 := Host.divf w (spread (dens w))

/-- Its gradient, from the terms and the gradient with respect to the probabilities. -/
def pullS (p w : FVec Ideal S4x4096x256 .f32) : FVec Ideal S4x4096 .f32 :=
  single (Host.negf (column (totals (mulf (mulf p (spread (inverse (dens w)))) w))))
def dscores (p w : FVec Ideal S4x4096x256 .f32) : FVec Ideal S4x4096x256 .f32 :=
  mulf (mulf (addf (Host.divf p (spread (dens w))) (broadcastInDim S4x4096x256 ![0, 1] bcast_S4x4096_S4x4096x256_0_1 (pullS p w))) w) scale

/-- The gradients with respect to the heads' outputs and to the probabilities. -/
def douts : FVec Ideal S4x256x4096 .f32 :=
  transpose S4x256x4096 [1, 2, 0] (byHead (Host.dotGeneral dot_S4096x1024_S1024x1024_S4096x1024_1_1_0_0_n_n none (shapeCast _ dy shapeCasts_S4096x1024_S4096x1024) (extf .f32 wo bitsLt_bf16_f32))) transposes_S4096x4x256_S4x256x4096_1_2_0
def dprobs : FVec Ideal S4x4096x256 .f32 :=
  Host.dotGeneral dot_S4x256x4096_S4x256x256_S4x4096x256_1_2_2_1_0_0 none (douts dy wo) (vals kv)

/-- The results' stages, from the probabilities or the scores' gradient. -/
def headsOf (p : FVec Ideal S4x4096x256 .f32) : FVec Ideal S4096x1024 .f32 :=
  flat (transpose S4096x4x256 [2, 0, 1] (Host.dotGeneral dot_S4x256x256_S4x4096x256_S4x256x4096_1_2_2_1_0_0 none (vals kv) p) transposes_S4x256x4096_S4096x4x256_2_0_1)
def dquersOf (s : FVec Ideal S4x4096x256 .f32) : FVec Ideal S4096x1024 .f32 :=
  flat (transpose S4096x4x256 [1, 0, 2] (Host.dotGeneral dot_S4x4096x256_S4x256x256_S4x4096x256_2_1_1_2_0_0 none s (keys kv)) transposes_S4x4096x256_S4096x4x256_1_0_2)
def dvalsOf (d : FVec Ideal S4x256x4096 .f32) (p : FVec Ideal S4x4096x256 .f32) : FVec Ideal S4x256x256 .f32 :=
  transpose S4x256x256 [0, 2, 1] (Host.dotGeneral dot_S4x256x4096_S4x4096x256_S4x256x256_2_1_1_2_0_0 none d p) transposes_S4x256x256_S4x256x256_0_2_1
def dkeysOf (s : FVec Ideal S4x4096x256 .f32) (q : FVec Ideal S4096x4x256 .f32) : FVec Ideal S4x256x256 .f32 :=
  Host.dotGeneral dot_S4x4096x256_S4096x4x256_S4x256x256_1_0_2_2_0_1 none s q
def joined (v k : FVec Ideal S4x256x256 .f32) : FVec Ideal S8x256x256 .f32 :=
  addf (pad S8x256x256 ![4, 0, 0] ![0, 0, 0] ![0, 0, 0] v (constant S_ .f32 0x00000000#32) pads_S4x256x256_S8x256x256_400_000_000 h_S_) (pad S8x256x256 ![0, 0, 0] ![4, 0, 0] ![0, 0, 0] k (constant S_ .f32 0x00000000#32) pads_S4x256x256_S8x256x256_040_000_000 h_S_)
def normGrad (q : FVec Ideal S4096x1024 .f32) : FVec Ideal S4096x1024 .f32 :=
  Host.dotGeneral dot_S4096x1024_S1024x1024_S4096x1024_1_1_0_0_n_n none q (extf .f32 wq bitsLt_bf16_f32)

/-- The gradients with respect to the gain and to the rows, from that with respect to the normed rows. -/
def gainGrad (d : FVec Ideal S4096x1024 .f32) : FVec Ideal S1x1024 .f32 :=
  shapeCast _ (Host.reduceAdd (mulf (mulf x (roots x)) d) (constant S_ .f32 0x00000000#32) reducesTo_S4096x1024_S1024_d0 h_S_) shapeCasts_S1024_S1x1024
def pulls (d : FVec Ideal S4096x1024 .f32) : FVec Ideal S4096x1 .f32 :=
  Host.divf (mulf (shapeCast _ (Host.reduceAdd (mulf x (mulf d (gains g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (means x)) (means x)))) (broadcastInDim S4096x1 ![] bcast_S_S4096x1 (constant S_ .f32 0x44800000#32))
def pulled (d : FVec Ideal S4096x1024 .f32) : FVec Ideal S4096x1024 .f32 :=
  broadcastInDim S4096x1024 ![0] bcast_S4096_S4096x1024_0 (Host.reduceAdd (pulls x g d) (constant S_ .f32 0x00000000#32) reducesTo_S4096x1_S4096_d1 h_S_)
def rowGrad (d : FVec Ideal S4096x1024 .f32) : FVec Ideal S4096x1024 .f32 :=
  addf dy (addf (addf (mulf (mulf d (gains g)) (roots x)) (mulf x (pulled x g d))) (mulf (pulled x g d) x))

theorem means_at (r : Fin 4096) : means x (ix2 r 0) = Mixer.mean (row x r) := by
  unfold Mixer.mean row
  pointwise! [means]
theorem roots_at (r : Fin 4096) (k : Fin 1024) : roots x (ix2 r k) = Mixer.root (row x r) := by
  refine Eq.trans (b := Ideal.rsqrt (means x (ix2 r 0))) (by pointwise! [roots]) ?_
  rw [means_at]
  rfl
theorem gains_at (r : Fin 4096) (k : Fin 1024) : gains g (ix2 r k) = vec g k := by
  unfold vec
  pointwise! [gains]
theorem normed_at (r : Fin 4096) (k : Fin 1024) : normed x g (ix2 r k) = Mixer.norm (row x r) (vec g) k := by
  refine Eq.trans (b := x (ix2 r k) * roots x (ix2 r k) * gains g (ix2 r k)) (by pointwise! [normed]) ?_
  rw [roots_at, gains_at]
  rfl
theorem byHead_at (z : FVec Ideal S4096x1024 .f32) (r : Fin 4096) (h : Fin 4) (i : Fin 256) :
    byHead z (ix3 r h i) = z (ix2 r (Attn.lane h i)) := by
  unfold Attn.lane
  pointwise! [byHead]
theorem flat_at (z : FVec Ideal S4096x4x256 .f32) (r : Fin 4096) (h : Fin 4) (i : Fin 256) :
    flat z (ix2 r (Attn.lane h i)) = z (ix3 r h i) := by
  unfold Attn.lane
  pointwise! [flat]
theorem quers_at (r : Fin 4096) (h : Fin 4) (i : Fin 256) :
    quers x g wq (ix3 r h i) = Attn.querH (row x r) (vec g) (mat wq) h i := by
  unfold quers
  rw [byHead_at]
  refine Eq.trans (b := ∑ k : Fin 1024, normed x g (ix2 r k) * wq (ix2 k (Attn.lane h i))) (by pointwise!) ?_
  exact Finset.sum_congr rfl fun k _ => Ideal.mul_congr (normed_at x g r k) rfl
theorem keys_at (h : Fin 4) (j i : Fin 256) : keys kv (ix3 h j i) = mem kv (Attn.key h) j i := by
  unfold mem Attn.key
  pointwise! [keys]
theorem vals_at (h : Fin 4) (j i : Fin 256) : vals kv (ix3 h j i) = mem kv (Attn.val h) j i := by
  unfold mem Attn.val
  pointwise! [vals]
theorem scores_at (r : Fin 4096) (h : Fin 4) (j : Fin 256) :
    scores x g wq kv (ix3 h r j) = Attn.score (Attn.querH (row x r) (vec g) (mat wq) h) (mem kv (Attn.key h)) j := by
  refine Eq.trans (b := (∑ i : Fin 256, quers x g wq (ix3 r h i) * keys kv (ix3 h j i)) * Ideal.ofBits FTy.f32 0x3D800000#32)
    (by pointwise! [scores, scale]) ?_
  exact Ideal.mul_congr (Finset.sum_congr rfl fun i _ => Ideal.mul_congr (quers_at x g wq r h i) (keys_at kv h j i)) rfl

section Softmax
variable (s p w : FVec Ideal S4x4096x256 .f32) (r : Fin 4096) (h : Fin 4) (q d : Fin 256 → EReal) (K V : Fin 256 → Fin 256 → EReal)

theorem greatest_at : greatest s (ix2 h r) = Finset.univ.fold max (Ideal.ofBits FTy.f32 0xFF800000#32) fun l : Fin 256 => s (ix3 h r l) := by
  pointwise! [greatest]
theorem max_at (z : FVec Ideal S4x4096 .f32) :
    maximumf (broadcastInDim S4x4096 ![] bcast_S_S4x4096 (constant S_ .f32 0xFF800000#32)) z (ix2 h r) = max (Ideal.ofBits FTy.f32 0xFF800000#32) (z (ix2 h r)) := by
  pointwise!
theorem tops_max : tops s (ix2 h r) = max (Ideal.ofBits FTy.f32 0xFF800000#32) (greatest s (ix2 h r)) := max_at r h (greatest s)
theorem totals_at : totals w (ix2 h r) = ∑ l : Fin 256, w (ix3 h r l) := by
  pointwise! [totals]
theorem column_at (z : FVec Ideal S4x4096 .f32) : column z (ix3 h r 0) = z (ix2 h r) := by
  pointwise! [column]
theorem single_at (z : FVec Ideal S4x4096x1 .f32) : single z (ix2 h r) = ∑ l : Fin 1, z (ix3 h r l) := by
  pointwise! [single]
theorem neg_at (z : FVec Ideal S4x4096x1 .f32) : Host.negf z (ix3 h r 0) = -z (ix3 h r 0) := by
  pointwise!
theorem inverse_at (z : FVec Ideal S4x4096x1 .f32) : inverse z (ix3 h r 0) = Ideal.div 1 (z (ix3 h r 0) * z (ix3 h r 0)) := by
  pointwise! [inverse]
theorem dens_at : dens w (ix3 h r 0) = ∑ l : Fin 256, w (ix3 h r l) := by
  refine Eq.trans (b := totals w (ix2 h r)) (by pointwise! [dens]) ?_
  exact totals_at w r h
theorem spread_at (z : FVec Ideal S4x4096x1 .f32) (j : Fin 256) : spread z (ix3 h r j) = z (ix3 h r 0) := by
  pointwise! [spread]

section
variable (hs : ∀ j, s (ix3 h r j) = Attn.score q K j)
include hs
theorem greatest_eq : greatest s (ix2 h r) = Attn.top q K := by
  rw [greatest_at]
  unfold Attn.top
  exact Finset.fold_congr fun l _ => hs l
theorem tops_at : tops s (ix2 h r) = Attn.top q K := by
  rw [tops_max, greatest_eq s r h q K hs]
  exact Attn.top_max q K
theorem wts_at (j : Fin 256) : wts s (ix3 h r j) = Attn.wt q K j := by
  refine Eq.trans (b := Ideal.exp (s (ix3 h r j) - tops s (ix2 h r))) (by unfold wts; generalize tops s = z; pointwise!) ?_
  rw [tops_at s r h q K hs, hs]
  rfl
end

section
variable (hw : ∀ j, w (ix3 h r j) = Attn.wt q K j)
include hw
theorem den_at : dens w (ix3 h r 0) = Attn.den q K :=
  (dens_at w r h).trans (Finset.sum_congr rfl fun l _ => hw l)
theorem probs_at (j : Fin 256) : probs w (ix3 h r j) = Attn.prob q K j := by
  refine Eq.trans (b := Ideal.div (w (ix3 h r j)) (spread (dens w) (ix3 h r j))) (by unfold probs; generalize spread (dens w) = y; pointwise!) ?_
  rw [spread_at, den_at w r h q K hw, hw]
  rfl
variable (hp : ∀ j, p (ix3 h r j) = Attn.dprob d V j)
include hp
theorem pullS_at : pullS p w (ix2 h r)
    = -(∑ l, Attn.dprob d V l * Ideal.div 1 (Attn.den q K * Attn.den q K) * Attn.wt q K l) := by
  unfold pullS
  rw [single_at, Fin.sum_univ_one, neg_at, column_at, totals_at]
  refine congrArg Neg.neg (Finset.sum_congr rfl fun l _ => ?_)
  refine Eq.trans (b := p (ix3 h r l) * spread (inverse (dens w)) (ix3 h r l) * w (ix3 h r l)) (by generalize spread (inverse (dens w)) = y; pointwise!) ?_
  rw [spread_at, inverse_at, den_at w r h q K hw, hp, hw]
theorem dscores_at (j : Fin 256) : dscores p w (ix3 h r j) = Attn.dscoreBy q d K V j := by
  refine Eq.trans (b := (Ideal.div (p (ix3 h r j)) (spread (dens w) (ix3 h r j)) + pullS p w (ix2 h r)) * w (ix3 h r j) * Ideal.ofBits FTy.f32 0x3D800000#32)
    (by unfold dscores; generalize spread (dens w) = y; generalize pullS p w = z; pointwise! [scale]) ?_
  rw [spread_at, den_at w r h q K hw, pullS_at p w r h q d K V hw hp, hw, hp]
  rfl
end
end Softmax

theorem douts_at (r : Fin 4096) (h : Fin 4) (i : Fin 256) : douts dy wo (ix3 h i r) = Attn.doutH (row dy r) (mat wo) h i := by
  unfold douts
  generalize e : Host.dotGeneral dot_S4096x1024_S1024x1024_S4096x1024_1_1_0_0_n_n none (shapeCast _ dy shapeCasts_S4096x1024_S4096x1024) (extf .f32 wo bitsLt_bf16_f32) = z
  refine Eq.trans (b := byHead z (ix3 r h i)) (by generalize byHead z = y; pointwise!) ?_
  rw [byHead_at, ← e]
  unfold Attn.doutH Attn.dout row mat
  pointwise!
theorem dprobs_at (r : Fin 4096) (h : Fin 4) (j : Fin 256) :
    dprobs dy kv wo (ix3 h r j) = Attn.dprob (Attn.doutH (row dy r) (mat wo) h) (mem kv (Attn.val h)) j := by
  refine Eq.trans (b := ∑ i : Fin 256, douts dy wo (ix3 h i r) * vals kv (ix3 h j i)) (by pointwise! [dprobs]) ?_
  exact Finset.sum_congr rfl fun i _ => Ideal.mul_congr (douts_at dy wo r h i) (vals_at kv h j i)
theorem headsOf_at (p : FVec Ideal S4x4096x256 .f32) (r : Fin 4096) (h : Fin 4) (i : Fin 256) :
    headsOf kv p (ix2 r (Attn.lane h i)) = ∑ j : Fin 256, p (ix3 h r j) * mem kv (Attn.val h) j i := by
  unfold headsOf
  rw [flat_at]
  refine Eq.trans (b := ∑ j : Fin 256, vals kv (ix3 h j i) * p (ix3 h r j)) (by pointwise!) ?_
  exact Finset.sum_congr rfl fun j _ => (mul_comm _ _).trans (Ideal.mul_congr rfl (vals_at kv h j i))
theorem dquersOf_at (s : FVec Ideal S4x4096x256 .f32) (r : Fin 4096) (h : Fin 4) (i : Fin 256) :
    dquersOf kv s (ix2 r (Attn.lane h i)) = ∑ j : Fin 256, s (ix3 h r j) * mem kv (Attn.key h) j i := by
  unfold dquersOf
  rw [flat_at]
  refine Eq.trans (b := ∑ j : Fin 256, s (ix3 h r j) * keys kv (ix3 h j i)) (by pointwise!) ?_
  exact Finset.sum_congr rfl fun j _ => Ideal.mul_congr rfl (keys_at kv h j i)
theorem dvalsOf_at (d : FVec Ideal S4x256x4096 .f32) (p : FVec Ideal S4x4096x256 .f32) (h : Fin 4) (j i : Fin 256) :
    dvalsOf d p (ix3 h j i) = ∑ r : Fin 4096, d (ix3 h i r) * p (ix3 h r j) := by
  pointwise! [dvalsOf]
theorem dkeysOf_at (s : FVec Ideal S4x4096x256 .f32) (q : FVec Ideal S4096x4x256 .f32) (h : Fin 4) (j i : Fin 256) :
    dkeysOf s q (ix3 h j i) = ∑ r : Fin 4096, s (ix3 h r j) * q (ix3 r h i) := by
  pointwise! [dkeysOf]
theorem joined_key (v k : FVec Ideal S4x256x256 .f32) (h : Fin 4) (j i : Fin 256) : joined v k (ix3 (Attn.key h) j i) = k (ix3 h j i) := by
  unfold Attn.key
  match h with
  | ⟨0, _⟩ => pointwise! [joined]
  | ⟨1, _⟩ => pointwise! [joined]
  | ⟨2, _⟩ => pointwise! [joined]
  | ⟨3, _⟩ => pointwise! [joined]
theorem joined_val (v k : FVec Ideal S4x256x256 .f32) (h : Fin 4) (j i : Fin 256) : joined v k (ix3 (Attn.val h) j i) = v (ix3 h j i) := by
  unfold Attn.val
  match h with
  | ⟨0, _⟩ => pointwise! [joined]
  | ⟨1, _⟩ => pointwise! [joined]
  | ⟨2, _⟩ => pointwise! [joined]
  | ⟨3, _⟩ => pointwise! [joined]
theorem normGrad_at (q : FVec Ideal S4096x1024 .f32) (r : Fin 4096) (k : Fin 1024) :
    normGrad wq q (ix2 r k) = ∑ j : Fin 1024, q (ix2 r j) * mat wq k j := by
  unfold mat
  pointwise! [normGrad]

theorem gainGrad_at (d : FVec Ideal S4096x1024 .f32) (k : Fin 1024) :
    gainGrad x d (ix2 0 k) = ∑ r : Fin 4096, x (ix2 r k) * Mixer.root (row x r) * d (ix2 r k) := by
  refine Eq.trans (b := ∑ r : Fin 4096, x (ix2 r k) * roots x (ix2 r k) * d (ix2 r k)) (by pointwise! [gainGrad]) ?_
  exact Finset.sum_congr rfl fun r _ => by rw [roots_at]

theorem pulls_at (d : FVec Ideal S4096x1024 .f32) (r : Fin 4096) :
    pulls x g d (ix2 r 0) = Mixer.pull (row x r) (vec g) (row d r) := by
  refine Eq.trans (b := Ideal.div ((∑ j : Fin 1024, x (ix2 r j) * (d (ix2 r j) * gains g (ix2 r j)))
    * (Ideal.ofBits FTy.f32 0xBF000000#32 * Ideal.div (Ideal.rsqrt (means x (ix2 r 0))) (means x (ix2 r 0)))) (Ideal.ofBits FTy.f32 0x44800000#32))
    (by pointwise! [pulls]) ?_
  rw [means_at]
  refine congrArg (Ideal.div · _) (Ideal.mul_congr (Finset.sum_congr rfl fun j _ => ?_) rfl)
  rw [gains_at]
  rfl

theorem pulled_at (d : FVec Ideal S4096x1024 .f32) (r : Fin 4096) (q : Fin 1024) :
    pulled x g d (ix2 r q) = Mixer.pull (row x r) (vec g) (row d r) := by
  refine Eq.trans (b := ∑ j : Fin 1, pulls x g d (ix2 r j)) (by pointwise! [pulled]) ?_
  rw [Fin.sum_univ_one]
  exact pulls_at x g d r

theorem rowGrad_at (d : FVec Ideal S4096x1024 .f32) (r : Fin 4096) (q : Fin 1024) :
    rowGrad x dy g d (ix2 r q) = Mixer.dxBy (row x r) (row dy r) (vec g) (row d r) q := by
  refine Eq.trans (b := dy (ix2 r q) + (d (ix2 r q) * gains g (ix2 r q) * roots x (ix2 r q) + x (ix2 r q) * pulled x g d (ix2 r q)
    + pulled x g d (ix2 r q) * x (ix2 r q))) (by pointwise! [rowGrad]) ?_
  rw [gains_at, roots_at, pulled_at, ← add_assoc, ← add_assoc]
  rfl

/-- The stages of the arguments. -/
def weights : FVec Ideal S4x4096x256 .f32 := wts (scores x g wq kv)
def slopes : FVec Ideal S4x4096x256 .f32 := dscores (dprobs dy kv wo) (weights x g wq kv)

theorem weights_at (r : Fin 4096) (h : Fin 4) (j : Fin 256) :
    weights x g wq kv (ix3 h r j) = Attn.wt (Attn.querH (row x r) (vec g) (mat wq) h) (mem kv (Attn.key h)) j :=
  wts_at _ r h _ _ (scores_at x g wq kv r h) j
theorem prob_at (r : Fin 4096) (h : Fin 4) (j : Fin 256) :
    probs (weights x g wq kv) (ix3 h r j) = Attn.prob (Attn.querH (row x r) (vec g) (mat wq) h) (mem kv (Attn.key h)) j :=
  probs_at _ r h _ _ (weights_at x g wq kv r h) j
theorem heads_at (r : Fin 4096) (j : Fin 1024) :
    headsOf kv (probs (weights x g wq kv)) (ix2 r j) = Attn.heads (row x r) (vec g) (mat wq) (mem kv) j := by
  obtain ⟨h, i, rfl⟩ := Attn.lane_cases j
  rw [headsOf_at, Attn.heads_lane]
  exact Finset.sum_congr rfl fun l _ => Ideal.mul_congr (prob_at x g wq kv r h l) rfl

section Real
variable (r : Fin 4096) (hg : ∀ j, Mixer.IsReal (vec g j)) (hq : ∀ k j, Mixer.IsReal (mat wq k j))
  (hk : ∀ h j i, Mixer.IsReal (mem kv (Attn.key h) j i))
include hg hq hk

theorem slopes_at (h : Fin 4) (j : Fin 256) :
    slopes x dy g wq kv wo (ix3 h r j)
      = Attn.dscore (Attn.querH (row x r) (vec g) (mat wq) h) (Attn.doutH (row dy r) (mat wo) h) (mem kv (Attn.key h)) (mem kv (Attn.val h)) j :=
  (dscores_at _ _ r h _ _ _ _ (weights_at x g wq kv r h) (dprobs_at dy kv wo r h) j).trans
    (Attn.dscores_eq _ _ _ _ _ _ hg hq hk h j)
theorem dquers_at (j : Fin 1024) :
    dquersOf kv (slopes x dy g wq kv wo) (ix2 r j) = Attn.dquers (row x r) (row dy r) (vec g) (mat wq) (mat wo) (mem kv) j := by
  obtain ⟨h, i, rfl⟩ := Attn.lane_cases j
  rw [dquersOf_at, Attn.dquers_lane]
  exact Finset.sum_congr rfl fun l _ => Ideal.mul_congr (slopes_at x dy g wq kv wo r hg hq hk h l) rfl
theorem dnorm_at (k : Fin 1024) :
    normGrad wq (dquersOf kv (slopes x dy g wq kv wo)) (ix2 r k)
      = Attn.dnorm (row x r) (row dy r) (vec g) (mat wq) (mat wo) (mem kv) k := by
  rw [normGrad_at]
  exact Finset.sum_congr rfl fun j _ => Ideal.mul_congr (dquers_at x dy g wq kv wo r hg hq hk j) rfl
theorem drows_at (k : Fin 1024) :
    rowGrad x dy g (normGrad wq (dquersOf kv (slopes x dy g wq kv wo))) (ix2 r k)
      = Mixer.dx (row x r) (row dy r) (vec g) (Attn.dnorm (row x r) (row dy r) (vec g) (mat wq) (mat wo) (mem kv)) k := by
  refine (rowGrad_at _ _ _ _ r k).trans ?_
  rw [show row (normGrad wq (dquersOf kv (slopes x dy g wq kv wo))) r = Attn.dnorm (row x r) (row dy r) (vec g) (mat wq) (mat wo) (mem kv) from
    funext fun j => dnorm_at x dy g wq kv wo r hg hq hk j]
  exact Mixer.dx_eq _ _ _ _ k
end Real

end Terms

section Results
variable (m : (ℓ : Loc nD τ sig) → Buf (Elt Ideal) ℓ) (c : Dev nD)

abbrev A0 : FVec Ideal S4096x1024 .f32 := m ((c.tc : Thread nD τ).loc main_arg0)
abbrev A1 : FVec Ideal S4096x1024 .f32 := m ((c.tc : Thread nD τ).loc main_arg1)
abbrev A2 : FVec Ideal S1x1024 .f32 := m ((c.tc : Thread nD τ).loc main_arg2)
abbrev A3 : FVec Ideal S1024x1024 .bf16 := m ((c.tc : Thread nD τ).loc main_arg3)
abbrev A4 : FVec Ideal S8x256x256 .bf16 := m ((c.tc : Thread nD τ).loc main_arg4)
abbrev A5 : FVec Ideal S1024x1024 .bf16 := m ((c.tc : Thread nD τ).loc main_arg5)

theorem out0_eq : Value.res_main_v106 m c
    = rowGrad (A0 m c) (A1 m c) (A2 m c) (normGrad (A3 m c) (dquersOf (A4 m c) (slopes (A0 m c) (A1 m c) (A2 m c) (A3 m c) (A4 m c) (A5 m c)))) := rfl
theorem out2_eq : Value.res_main_v108 m c
    = truncf .bf16 (dquersOf (A4 m c) (slopes (A0 m c) (A1 m c) (A2 m c) (A3 m c) (A4 m c) (A5 m c))) bitsLt_bf16_f32 := rfl
theorem out3_eq : Value.res_main_v109 m c
    = truncf .bf16 (headsOf (A4 m c) (probs (weights (A0 m c) (A2 m c) (A3 m c) (A4 m c)))) bitsLt_bf16_f32 := rfl
theorem out4_eq : Value.res_main_v84 m c
    = joined (dvalsOf (douts (A1 m c) (A5 m c)) (probs (weights (A0 m c) (A2 m c) (A3 m c) (A4 m c))))
        (dkeysOf (slopes (A0 m c) (A1 m c) (A2 m c) (A3 m c) (A4 m c) (A5 m c)) (quers (A0 m c) (A2 m c) (A3 m c))) := rfl
theorem out5_eq : Value.res_main_v89 m c
    = gainGrad (A0 m c) (normGrad (A3 m c) (dquersOf (A4 m c) (slopes (A0 m c) (A1 m c) (A2 m c) (A3 m c) (A4 m c) (A5 m c)))) := rfl

end Results

theorem quiet : Cert.quiescent_Reference8Ideal (hReference8Ideal := Gen.facts) :=
  fun m ρ _ => (θ_run defs _ _).mono
    (fun r h => ⟨fun c => (h c).2.2.2.2.2.2, Idealize.ShloMosaic.sem_eq_zero_of_no_sems (by decide) r.2⟩) (Value.run m ρ)

end Cert.Reference8Ideal.XattnBwd

namespace Cert.XattnBwd

open Idealize.ShloMosaic Idealize.ShloMosaic.TcCoe Idealize.SL.Sem
open Cert.Kernel8Ideal.Gen (dats)
open Cert.Kernel8Ideal.XattnBwd (A0 A1 A2 A3 A4 A5)

attribute [local instance] Cert.Pre_finite8.facts

/-- Where the gain, the weights of the queries and the keys are real numbers. -/
structure Finite (m : (ℓ : Loc Cert.Kernel8Ideal.nD Cert.Kernel8Ideal.τ Cert.Kernel8Ideal.sig) → Buf (Elt Ideal) ℓ)
    (c : Dev Cert.Kernel8Ideal.nD) : Prop where
  gain : ∀ i, Mixer.IsReal (A2 m c i)
  quer : ∀ i, Mixer.IsReal (A3 m c i)
  keys : ∀ k j i, Mixer.IsReal (A4 m c (ix3 (Attn.key k) j i))

theorem finite_of (m : (ℓ : Loc Cert.Kernel8Ideal.nD Cert.Kernel8Ideal.τ Cert.Kernel8Ideal.sig) → Buf (Elt Ideal) ℓ)
    (c : Dev Cert.Kernel8Ideal.nD) (h : Cert.Pre_Kernel8Ideal_finite8 (hPre_finite8 := Cert.Pre_finite8.facts) m) : Finite m c :=
  ⟨fun i => Cert.Pre_finite8.real0 _ _ _ _ _ _ (h c).1 i,
    fun i => Cert.Pre_finite8.real1 _ _ _ _ _ _ (h c).2.1 i,
    fun k j i => Cert.Pre_finite8.real2 _ _ _ _ _ _ (h c).2.2 k j i⟩

section Equal
open Cert.Reference8Ideal.XattnBwd hiding A0 A1 A2 A3 A4 A5
variable (m : (ℓ : Loc Cert.Kernel8Ideal.nD Cert.Kernel8Ideal.τ Cert.Kernel8Ideal.sig) → Buf (Elt Ideal) ℓ)
  (c : Dev Cert.Kernel8Ideal.nD)

theorem second (r : Fin 4096) (k : Fin 1024) :
    normed (A0 m c) (A2 m c) (ix2 r k)
      = ((dats m 0 c).arrAt 7 Cert.Kernel8Ideal.cfg0.N : Vec Ideal Cert.Kernel8Ideal.S4096x1024 .bf16) (ix2 r k) :=
  (normed_at _ _ r k).trans (Cert.Kernel8Ideal.XattnBwd.result7 m c r k).symm
theorem fourth (r : Fin 4096) (k : Fin 1024) :
    headsOf (A4 m c) (probs (weights (A0 m c) (A2 m c) (A3 m c) (A4 m c))) (ix2 r k)
      = ((dats m 0 c).arrAt 9 Cert.Kernel8Ideal.cfg0.N : Vec Ideal Cert.Kernel8Ideal.S4096x1024 .bf16) (ix2 r k) :=
  (heads_at _ _ _ _ r k).trans (Cert.Kernel8Ideal.XattnBwd.result9 m c r k).symm

variable (hf : Finite m c)
include hf

theorem first (r : Fin 4096) (k : Fin 1024) :
    rowGrad (A0 m c) (A1 m c) (A2 m c) (normGrad (A3 m c) (dquersOf (A4 m c) (slopes (A0 m c) (A1 m c) (A2 m c) (A3 m c) (A4 m c) (A5 m c)))) (ix2 r k)
      = ((dats m 0 c).arrAt 6 Cert.Kernel8Ideal.cfg0.N : Vec Ideal Cert.Kernel8Ideal.S4096x1024 .f32) (ix2 r k) :=
  (drows_at _ _ _ _ _ _ r (fun _ => hf.gain _) (fun _ _ => hf.quer _) (fun _ _ _ => hf.keys _ _ _) k).trans
    (Cert.Kernel8Ideal.XattnBwd.result6 m c r k).symm
theorem third (r : Fin 4096) (k : Fin 1024) :
    dquersOf (A4 m c) (slopes (A0 m c) (A1 m c) (A2 m c) (A3 m c) (A4 m c) (A5 m c)) (ix2 r k)
      = ((dats m 0 c).arrAt 8 Cert.Kernel8Ideal.cfg0.N : Vec Ideal Cert.Kernel8Ideal.S4096x1024 .bf16) (ix2 r k) :=
  (dquers_at _ _ _ _ _ _ r (fun _ => hf.gain _) (fun _ _ => hf.quer _) (fun _ _ _ => hf.keys _ _ _) k).trans
    (Cert.Kernel8Ideal.XattnBwd.result8 m c r k).symm
theorem fifth (s : Fin 8) (j i : Fin 256) :
    joined (dvalsOf (douts (A1 m c) (A5 m c)) (probs (weights (A0 m c) (A2 m c) (A3 m c) (A4 m c))))
        (dkeysOf (slopes (A0 m c) (A1 m c) (A2 m c) (A3 m c) (A4 m c) (A5 m c)) (quers (A0 m c) (A2 m c) (A3 m c))) (ix3 s j i)
      = ((dats m 0 c).arrAt 10 Cert.Kernel8Ideal.cfg0.N : Vec Ideal Cert.Kernel8Ideal.S8x256x256 .f32) (ix3 s j i) := by
  obtain ⟨h, rfl⟩ | ⟨h, rfl⟩ := Attn.slot_cases s
  · refine (joined_key _ _ h j i).trans ((dkeysOf_at _ _ h j i).trans (Eq.trans (Finset.sum_congr rfl fun r _ => ?_)
      (Cert.Kernel8Ideal.XattnBwd.result10_key m c h j i).symm))
    exact Ideal.mul_congr (slopes_at _ _ _ _ _ _ r (fun _ => hf.gain _) (fun _ _ => hf.quer _) (fun _ _ _ => hf.keys _ _ _) h j) (quers_at _ _ _ r h i)
  · refine (joined_val _ _ h j i).trans ((dvalsOf_at _ _ h j i).trans (Eq.trans (Finset.sum_congr rfl fun r _ => ?_)
      (Cert.Kernel8Ideal.XattnBwd.result10_val m c h j i).symm))
    exact (mul_comm _ _).trans (Ideal.mul_congr (prob_at _ _ _ _ r h j) (douts_at _ _ r h i))
theorem sixth (k : Fin 1024) :
    gainGrad (A0 m c) (normGrad (A3 m c) (dquersOf (A4 m c) (slopes (A0 m c) (A1 m c) (A2 m c) (A3 m c) (A4 m c) (A5 m c)))) (ix2 0 k)
      = ((dats m 0 c).arrAt 11 Cert.Kernel8Ideal.cfg0.N : Vec Ideal Cert.Kernel8Ideal.S1x1024 .f32) (ix2 0 k) := by
  refine (gainGrad_at _ _ k).trans (Eq.trans (Finset.sum_congr rfl fun r _ => ?_) (Cert.Kernel8Ideal.XattnBwd.result11 m c k).symm)
  rw [dnorm_at (A0 m c) (A1 m c) (A2 m c) (A3 m c) (A4 m c) (A5 m c) r (fun _ => hf.gain _) (fun _ _ => hf.quer _) (fun _ _ _ => hf.keys _ _ _) k]
  exact (mul_comm _ _).trans (mul_assoc _ _ _).symm

end Equal

set_option maxHeartbeats 4000000 in
/-- The call's six results are the reference's. -/
theorem values : Cert.algebraic_Kernel8Ideal_Reference8Ideal_pre_finite8 (hKernel8Ideal := Cert.Kernel8Ideal.Gen.facts)
    (hReference8Ideal := Cert.Reference8Ideal.Gen.facts) (hPre_finite8 := Cert.Pre_finite8.facts) := by
  intro m ρ m' ρ' hpre hag
  refine ⟨fun c => (dats m 0 c).arrAt 6 Cert.Kernel8Ideal.cfg0.N,
    fun c => (dats m 0 c).arrAt 7 Cert.Kernel8Ideal.cfg0.N,
    fun c => (dats m 0 c).arrAt 8 Cert.Kernel8Ideal.cfg0.N,
    fun c => (dats m 0 c).arrAt 9 Cert.Kernel8Ideal.cfg0.N,
    fun c => (dats m 0 c).arrAt 10 Cert.Kernel8Ideal.cfg0.N,
    fun c => (dats m 0 c).arrAt 11 Cert.Kernel8Ideal.cfg0.N,
    Cert.Kernel8Ideal.Value.run_blocks m ρ, ?_⟩
  refine (θ_run Cert.Reference8Ideal.defs _ _).mono (fun r h c => ?_) (Cert.Reference8Ideal.Value.run m' ρ')
  obtain ⟨g0, g1, g2, g3, g4, g5⟩ := hag c
  obtain ⟨h0, h1, h2, h3, h4, h5, hk⟩ := h c
  have hf := finite_of m c hpre
  refine ⟨h0.trans ?_, h1.trans ?_, h2.trans ?_, h3.trans ?_, h4.trans ?_, h5.trans ?_, hk⟩
  · rw [Cert.Reference8Ideal.XattnBwd.out0_eq]
    unfold Cert.Reference8Ideal.XattnBwd.A0 Cert.Reference8Ideal.XattnBwd.A1 Cert.Reference8Ideal.XattnBwd.A2 Cert.Reference8Ideal.XattnBwd.A3 Cert.Reference8Ideal.XattnBwd.A4 Cert.Reference8Ideal.XattnBwd.A5
    rw [g0, g1, g2, g3, g4, g5]
    funext i
    obtain ⟨p, q, rfl⟩ : ∃ (p : Fin 4096) (q : Fin 1024), i = ix2 p q := ⟨i 0, i 1, eq_ix2 i⟩
    exact first m c hf p q
  · rw [g0, g2]
    funext i
    obtain ⟨p, q, rfl⟩ : ∃ (p : Fin 4096) (q : Fin 1024), i = ix2 p q := ⟨i 0, i 1, eq_ix2 i⟩
    exact second m c p q
  · rw [Cert.Reference8Ideal.XattnBwd.out2_eq]
    unfold Cert.Reference8Ideal.XattnBwd.A0 Cert.Reference8Ideal.XattnBwd.A1 Cert.Reference8Ideal.XattnBwd.A2 Cert.Reference8Ideal.XattnBwd.A3 Cert.Reference8Ideal.XattnBwd.A4 Cert.Reference8Ideal.XattnBwd.A5
    rw [g0, g1, g2, g3, g4, g5]
    funext i
    obtain ⟨p, q, rfl⟩ : ∃ (p : Fin 4096) (q : Fin 1024), i = ix2 p q := ⟨i 0, i 1, eq_ix2 i⟩
    exact third m c hf p q
  · rw [Cert.Reference8Ideal.XattnBwd.out3_eq]
    unfold Cert.Reference8Ideal.XattnBwd.A0 Cert.Reference8Ideal.XattnBwd.A2 Cert.Reference8Ideal.XattnBwd.A3 Cert.Reference8Ideal.XattnBwd.A4
    rw [g0, g2, g3, g4]
    funext i
    obtain ⟨p, q, rfl⟩ : ∃ (p : Fin 4096) (q : Fin 1024), i = ix2 p q := ⟨i 0, i 1, eq_ix2 i⟩
    exact fourth m c p q
  · rw [Cert.Reference8Ideal.XattnBwd.out4_eq]
    unfold Cert.Reference8Ideal.XattnBwd.A0 Cert.Reference8Ideal.XattnBwd.A1 Cert.Reference8Ideal.XattnBwd.A2 Cert.Reference8Ideal.XattnBwd.A3 Cert.Reference8Ideal.XattnBwd.A4 Cert.Reference8Ideal.XattnBwd.A5
    rw [g0, g1, g2, g3, g4, g5]
    funext i
    obtain ⟨s, p, q, rfl⟩ : ∃ (s : Fin 8) (p q : Fin 256), i = ix3 s p q := ⟨i 0, i 1, i 2, eq_ix3 i⟩
    exact fifth m c hf s p q
  · rw [Cert.Reference8Ideal.XattnBwd.out5_eq]
    unfold Cert.Reference8Ideal.XattnBwd.A0 Cert.Reference8Ideal.XattnBwd.A1 Cert.Reference8Ideal.XattnBwd.A2 Cert.Reference8Ideal.XattnBwd.A3 Cert.Reference8Ideal.XattnBwd.A4 Cert.Reference8Ideal.XattnBwd.A5
    rw [g0, g1, g2, g3, g4, g5]
    funext i
    obtain ⟨q, rfl⟩ : ∃ q : Fin 1024, i = ix2 0 q := ⟨i 1, by rw [eq_ix2 i]; exact congrArg (ix2 · _) (Fin.eq_zero (i 0))⟩
    exact sixth m c hf q

end Cert.XattnBwd

end
-- ==== Proof.Xattn.lean ====
module

public import proofs.«01_k».proof.Proof.XattnBwd
public import proofs.«01_k».proof.Proof.Gen.Kernel9Ideal.Value
public import proofs.«01_k».proof.Proof.Gen.Reference9Ideal.Run
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The memory cross-attention forward: eight blocks of 512 rows, each row its input plus the heads' outputs projected. -/

noncomputable section

namespace Cert.Kernel9Ideal.Xattn

open Cert.Kernel9Ideal Cert.Kernel9Ideal.Gen Cert.Kernel9Ideal.Value
open Idealize.ShloMosaic Idealize.ShloMosaic.TcCoe Idealize.ShloMosaic.Tactic Idealize.SL.Sem
open Cert.Kernel8Ideal.XattnBwd (hz s9 row9 mat mem xr gr)

/-- A block's rows plus their heads' outputs `h`, projected. -/
def wide {F : FTy → Type} [FloatOps F] (x : Vec F S512x1024 .f32) (h : FVec F S512x1024 .bf16) (w : Vec F S1024x1024 .bf16) : Vec F S512x1024 .f32 :=
  addf x (matmul dot_S512x1024_S1024x1024_S512x1024_1_0_0_1_n_n none h w (constant S512x1024 .f32 0x00000000#32))

theorem wide_at (x : Vec Ideal S512x1024 .f32) (h : FVec Ideal S512x1024 .bf16) (w : Vec Ideal S1024x1024 .bf16) (p : Fin 512) (q : Fin 1024) :
    wide x h w (ix2 p q) = x (ix2 p q) + ∑ j : Fin 1024, h (ix2 p j) * w (ix2 j q) := by
  pointwise! [wide]

theorem piece5 {F : FTy → Type} [FloatOps F] (x0 : Vec F S512x1024 .f32) (x1 : Vec F S1x1024 .f32) (x2 : Vec F S1024x1024 .bf16) (x3 : Vec F S8x256x256 .bf16) (x4 : Vec F S1024x1024 .bf16) :
    out0_5 x0 x1 x2 x3 x4 = wide x0 (s9 x0 x1 x2 x3) x4 := by
  unfold out0_5 k0_pay7
  rw [View.canon_unit_zero hz]
  simp only [View.ld_unit_zero (S := S512x1024) hz, View.ld_unit_zero (S := S1x1024) hz, View.ld_unit_zero (S := S1024x1024) hz]
  rfl

variable (m : (ℓ : Loc nD τ sig) → Buf (Elt Ideal) ℓ)

/-- The arguments. -/
def A0 (c : Dev nD) : Vec Ideal S4096x1024 .f32 := m ((c : Thread nD τ).loc main_arg0)
def A1 (c : Dev nD) : Vec Ideal S1x1024 .f32 := m ((c : Thread nD τ).loc main_arg1)
def A2 (c : Dev nD) : Vec Ideal S1024x1024 .bf16 := m ((c : Thread nD τ).loc main_arg2)
def A3 (c : Dev nD) : Vec Ideal S8x256x256 .bf16 := m ((c : Thread nD τ).loc main_arg3)
def A4 (c : Dev nD) : Vec Ideal S1024x1024 .bf16 := m ((c : Thread nD τ).loc main_arg4)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 3) = 0 ∧ win0_3.index t (1 : Fin 3) = 0 ∧ win0_3.index t (2 : Fin 3) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)

/-- The block of rows that point `t` reads; the other blocks are the whole arguments. -/
theorem x0_at (c : Dev nD) (t : Fin cfg0.N) (p : Fin 512) (k : Fin 1024) (h : 512 * t.val + p.val < 4096) :
    (iblk m c 0 t : Vec Ideal S512x1024 .f32) (ix2 p k) = A0 m c (ix2 ⟨512 * t.val + p.val, h⟩ k) := by
  unfold A0 iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(at0 t).1]; omega
  | ⟨1, _⟩ => show win0_0.index t 1 * 1024 + 1 * k.val = k.val; rw [(at0 t).2]; omega

theorem x1_eq (c : Dev nD) (t : Fin cfg0.N) : iblk m c 1 t = A1 m c := by
  funext i
  unfold A1 iblk
  rw [View.read_apply]
  show V m c main_arg1 _ = m (c.tc.loc main_arg1) _
  rw [V_main_arg1]
  congr 1
  funext a
  apply Fin.ext
  match a with
  | ⟨0, _⟩ => show win0_1.index t 0 * 1 + 1 * (i 0).val = (i 0).val; rw [(at1 t).1]; omega
  | ⟨1, _⟩ => show win0_1.index t 1 * 1024 + 1 * (i 1).val = (i 1).val; rw [(at1 t).2]; omega

theorem x2_eq (c : Dev nD) (t : Fin cfg0.N) : iblk m c 2 t = A2 m c := by
  funext i
  unfold A2 iblk
  rw [View.read_apply]
  show V m c main_arg2 _ = m (c.tc.loc main_arg2) _
  rw [V_main_arg2]
  congr 1
  funext a
  apply Fin.ext
  match a with
  | ⟨0, _⟩ => show win0_2.index t 0 * 1024 + 1 * (i 0).val = (i 0).val; rw [(at2 t).1]; omega
  | ⟨1, _⟩ => show win0_2.index t 1 * 1024 + 1 * (i 1).val = (i 1).val; rw [(at2 t).2]; omega

theorem x3_eq (c : Dev nD) (t : Fin cfg0.N) : iblk m c 3 t = A3 m c := by
  funext i
  unfold A3 iblk
  rw [View.read_apply]
  show V m c main_arg3 _ = m (c.tc.loc main_arg3) _
  rw [V_main_arg3]
  congr 1
  funext a
  apply Fin.ext
  match a with
  | ⟨0, _⟩ => show win0_3.index t 0 * 8 + 1 * (i 0).val = (i 0).val; rw [(at3 t).1]; omega
  | ⟨1, _⟩ => show win0_3.index t 1 * 256 + 1 * (i 1).val = (i 1).val; rw [(at3 t).2.1]; omega
  | ⟨2, _⟩ => show win0_3.index t 2 * 256 + 1 * (i 2).val = (i 2).val; rw [(at3 t).2.2]; omega

theorem x4_eq (c : Dev nD) (t : Fin cfg0.N) : iblk m c 4 t = A4 m c := by
  funext i
  unfold A4 iblk
  rw [View.read_apply]
  show V m c main_arg4 _ = m (c.tc.loc main_arg4) _
  rw [V_main_arg4]
  congr 1
  funext a
  apply Fin.ext
  match a with
  | ⟨0, _⟩ => show win0_4.index t 0 * 1024 + 1 * (i 0).val = (i 0).val; rw [(at4 t).1]; omega
  | ⟨1, _⟩ => show win0_4.index t 1 * 1024 + 1 * (i 1).val = (i 1).val; rw [(at4 t).2]; omega

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

def row (c : Dev nD) (r : Fin 4096) : Fin 1024 → EReal := fun j => A0 m c (ix2 r j)

theorem rows_eq (c : Dev nD) (t : Fin cfg0.N) (p : Fin 512) (h : 512 * t.val + p.val < 4096) :
    xr (iblk m c 0 t) p = row m c ⟨512 * t.val + p.val, h⟩ :=
  funext fun j => x0_at m c t p j h

theorem result (c : Dev nD) (r : Fin 4096) (q : Fin 1024) :
    ((dats m 0 c).arrAt 5 cfg0.N : Vec Ideal S4096x1024 .f32) (ix2 r q)
      = row m c r q + ∑ j, Attn.heads (row m c r) (gr (A1 m c)) (mat (A2 m c)) (mem (A3 m c)) j * mat (A4 m c) j q := by
  obtain ⟨t, p, hr, rfl⟩ := split r
  have h := congrFun ((blocks5 m c t (flush0_5 t)).trans (flushed5 m c t)) (ix2 p q)
  rw [piece5, x1_eq, x2_eq, x3_eq, x4_eq] at h
  refine Eq.trans (congrArg ((dats m 0 c).arrAt 5 cfg0.N) (funext fun ax => Fin.ext ?_)) (h.trans ?_)
  · symm
    match ax with
    | ⟨0, _⟩ => show win0_5.index t 0 * 512 + 1 * p.val = 512 * t.val + p.val; rw [(at5 t).1]; omega
    | ⟨1, _⟩ => show win0_5.index t 1 * 1024 + 1 * q.val = q.val; rw [(at5 t).2]; omega
  · refine (wide_at (iblk m c 0 t) (s9 (iblk m c 0 t) (A1 m c) (A2 m c) (A3 m c)) (A4 m c) p q).trans ?_
    rw [← rows_eq m c t p hr]
    exact congrArg _ (Finset.sum_congr rfl fun j _ => Ideal.mul_congr (row9 (iblk m c 0 t) (A1 m c) (A2 m c) (A3 m c) p j) rfl)

end Cert.Kernel9Ideal.Xattn

namespace Cert.Reference9Ideal.Xattn

open Cert.Reference9Ideal Cert.Reference9Ideal.Gen
open Idealize.ShloMosaic Idealize.ShloMosaic.TcCoe Idealize.ShloMosaic.Tactic Idealize.SL.Sem Idealize.ShloMosaic.StableHlo
open Cert.Reference8Ideal.XattnBwd (mat mem vec row headsOf probs weights heads_at)

/-- The rows plus the heads' outputs `h`, projected. -/
def projected (x h : FVec Ideal S4096x1024 .f32) (w : FVec Ideal S1024x1024 .bf16) : FVec Ideal S4096x1024 .f32 :=
  addf x (Host.dotGeneral dot_S4096x1024_S1024x1024_S4096x1024_1_0_0_1_n_n none h (extf .f32 w bitsLt_bf16_f32))

theorem projected_at (x h : FVec Ideal S4096x1024 .f32) (w : FVec Ideal S1024x1024 .bf16) (r : Fin 4096) (q : Fin 1024) :
    projected x h w (ix2 r q) = x (ix2 r q) + ∑ j : Fin 1024, h (ix2 r j) * w (ix2 j q) := by
  pointwise! [projected]

theorem out_at (x : FVec Ideal S4096x1024 .f32) (g : FVec Ideal S1x1024 .f32) (wq : FVec Ideal S1024x1024 .bf16) (kv : FVec Ideal S8x256x256 .bf16) (wo : FVec Ideal S1024x1024 .bf16) (r : Fin 4096) (q : Fin 1024) :
    projected x (headsOf kv (probs (weights x g wq kv))) wo (ix2 r q)
      = row x r q + ∑ j, Attn.heads (row x r) (vec g) (mat wq) (mem kv) j * mat wo j q :=
  (projected_at x _ wo r q).trans (congrArg _ (Finset.sum_congr rfl fun j _ => Ideal.mul_congr (heads_at x g wq kv r j) rfl))

section Results
variable (m : (ℓ : Loc nD τ sig) → Buf (Elt Ideal) ℓ) (c : Dev nD)
/-- The arguments. -/
def A0 : FVec Ideal S4096x1024 .f32 := m ((c : Thread nD τ).loc main_arg0)
def A1 : FVec Ideal S1x1024 .f32 := m ((c : Thread nD τ).loc main_arg1)
def A2 : FVec Ideal S1024x1024 .bf16 := m ((c : Thread nD τ).loc main_arg2)
def A3 : FVec Ideal S8x256x256 .bf16 := m ((c : Thread nD τ).loc main_arg3)
def A4 : FVec Ideal S1024x1024 .bf16 := m ((c : Thread nD τ).loc main_arg4)

theorem out_eq : Value.res_main_v37 m c = projected (A0 m c) (headsOf (A3 m c) (probs (weights (A0 m c) (A1 m c) (A2 m c) (A3 m c)))) (A4 m c) := rfl

end Results

theorem quiet : Cert.quiescent_Reference9Ideal (hReference9Ideal := Gen.facts) :=
  fun m ρ _ => (θ_run defs _ _).mono
    (fun r h => ⟨fun c => (h c).2, Idealize.ShloMosaic.sem_eq_zero_of_no_sems (by decide) r.2⟩) (Value.run m ρ)

end Cert.Reference9Ideal.Xattn

namespace Cert.Xattn

open Idealize.ShloMosaic Idealize.ShloMosaic.TcCoe Idealize.SL.Sem
open Cert.Kernel9Ideal.Gen (dats)

/-- The call's result is the reference's. -/
theorem values : Cert.algebraic_Kernel9Ideal_Reference9Ideal (hKernel9Ideal := Cert.Kernel9Ideal.Gen.facts)
    (hReference9Ideal := Cert.Reference9Ideal.Gen.facts) := by
  intro m ρ m' ρ' _ hag
  refine ⟨fun c => (dats m 0 c).arrAt 5 Cert.Kernel9Ideal.cfg0.N, Cert.Kernel9Ideal.Value.run_blocks m ρ, ?_⟩
  refine (θ_run Cert.Reference9Ideal.defs _ _).mono (fun r h c => ?_) (Cert.Reference9Ideal.Value.run m' ρ')
  obtain ⟨g0, g1, g2, g3, g4⟩ := hag c
  obtain ⟨h0, hk⟩ := h c
  refine ⟨h0.trans ?_, hk⟩
  rw [Cert.Reference9Ideal.Xattn.out_eq]
  unfold Cert.Reference9Ideal.Xattn.A0 Cert.Reference9Ideal.Xattn.A1 Cert.Reference9Ideal.Xattn.A2 Cert.Reference9Ideal.Xattn.A3 Cert.Reference9Ideal.Xattn.A4
  rw [g0, g1, g2, g3, g4]
  funext i
  obtain ⟨p, q, rfl⟩ : ∃ (p : Fin 4096) (q : Fin 1024), i = ix2 p q := ⟨i 0, i 1, eq_ix2 i⟩
  exact (Cert.Reference9Ideal.Xattn.out_at _ _ _ _ _ p q).trans (Cert.Kernel9Ideal.Xattn.result m c p q).symm

end Cert.Xattn

end
-- ==== Proof.MixIn.lean ====
module

public import proofs.«01_k».proof.Proof.XattnBwd
public import proofs.«01_k».proof.Proof.Gen.Kernel10Ideal.Value
public import proofs.«01_k».proof.Proof.Gen.Reference10Ideal.Run
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The projection into the mixers: eight blocks of 512 normed rows, the two halves of their projection. -/

noncomputable section

/-- A column of the left half and one of the right half. -/
def Cert.MixIn.left (f : Fin 512) : Fin 1024 := ⟨f.val, by omega⟩
def Cert.MixIn.right (f : Fin 512) : Fin 1024 := ⟨512 + f.val, by omega⟩

namespace Cert.Kernel10Ideal.MixIn

open Cert.Kernel10Ideal Cert.Kernel10Ideal.Gen Cert.Kernel10Ideal.Value
open Idealize.ShloMosaic Idealize.ShloMosaic.TcCoe Idealize.ShloMosaic.Tactic Idealize.SL.Sem
open Cert.Kernel8Ideal.XattnBwd (hz s7 norm_at mat xr gr)
open Cert.MixIn (left right)

section Payloads
variable (x : Vec Ideal S512x1024 .f32) (g : Vec Ideal S1x1024 .f32) (w : Vec Ideal S1024x1024 .bf16)

/-- The normed rows `h`, projected. -/
def wide (h : FVec Ideal S512x1024 .bf16) (w : FVec Ideal S1024x1024 .bf16) : FVec Ideal S512x1024 .f32 :=
  matmul dot_S512x1024_S1024x1024_S512x1024_1_0_0_1_n_n none h w (constant S512x1024 .f32 0x00000000#32)

theorem wide_at (h : FVec Ideal S512x1024 .bf16) (p : Fin 512) (j : Fin 1024) :
    wide h w (ix2 p j) = ∑ k : Fin 1024, h (ix2 p k) * w (ix2 k j) := by
  pointwise! [wide]

theorem wide_eq : k0_pay1 x g w = wide (s7 x g) w := rfl

theorem quer_at (p : Fin 512) (j : Fin 1024) : k0_pay1 x g w (ix2 p j) = Attn.quer (xr x p) (gr g) (mat w) j := by
  rw [wide_eq]
  exact (wide_at w (s7 x g) p j).trans (Finset.sum_congr rfl fun k _ => Ideal.mul_congr (norm_at x g p k) rfl)

theorem left_at (p : Fin 512) (f : Fin 512) : k0_pay2 x g w (ix2 p f) = Attn.quer (xr x p) (gr g) (mat w) (left f) := by
  refine Eq.trans (b := k0_pay1 x g w (ix2 p (left f))) ?_ (quer_at x g w p (left f))
  unfold k0_pay2 left
  generalize k0_pay1 x g w = z
  pointwise!

theorem right_at (p : Fin 512) (f : Fin 512) : k0_pay3 x g w (ix2 p f) = Attn.quer (xr x p) (gr g) (mat w) (right f) := by
  refine Eq.trans (b := k0_pay1 x g w (ix2 p (right f))) ?_ (quer_at x g w p (right f))
  unfold k0_pay3 right
  generalize k0_pay1 x g w = z
  pointwise!

end Payloads

section Pieces
variable {F : FTy → Type} [FloatOps F] (x0 : Vec F S512x1024 .f32) (x1 : Vec F S1x1024 .f32) (x2 : Vec F S1024x1024 .bf16)

theorem piece3 : out0_3 x0 x1 x2 = k0_pay2 x0 x1 x2 := by
  unfold out0_3
  rw [View.canon_unit_zero hz]
  simp only [View.ld_unit_zero (S := S512x1024) hz, View.ld_unit_zero (S := S1x1024) hz, View.ld_unit_zero (S := S1024x1024) hz]

theorem piece4 : out0_4 x0 x1 x2 = k0_pay3 x0 x1 x2 := by
  unfold out0_4
  rw [View.canon_unit_zero hz]
  simp only [View.ld_unit_zero (S := S512x1024) hz, View.ld_unit_zero (S := S1x1024) hz, View.ld_unit_zero (S := S1024x1024) hz]

end Pieces

variable (m : (ℓ : Loc nD τ sig) → Buf (Elt Ideal) ℓ)

/-- The arguments. -/
def A0 (c : Dev nD) : Vec Ideal S4096x1024 .f32 := m ((c : Thread nD τ).loc main_arg0)
def A1 (c : Dev nD) : Vec Ideal S1x1024 .f32 := m ((c : Thread nD τ).loc main_arg1)
def A2 (c : Dev nD) : Vec Ideal S1024x1024 .bf16 := m ((c : Thread nD τ).loc main_arg2)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)

/-- The block of rows that point `t` reads; the other blocks are the whole arguments. -/
theorem x0_at (c : Dev nD) (t : Fin cfg0.N) (p : Fin 512) (k : Fin 1024) (h : 512 * t.val + p.val < 4096) :
    (iblk m c 0 t : Vec Ideal S512x1024 .f32) (ix2 p k) = A0 m c (ix2 ⟨512 * t.val + p.val, h⟩ k) := by
  unfold A0 iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(at0 t).1]; omega
  | ⟨1, _⟩ => show win0_0.index t 1 * 1024 + 1 * k.val = k.val; rw [(at0 t).2]; omega

theorem x1_eq (c : Dev nD) (t : Fin cfg0.N) : iblk m c 1 t = A1 m c := by
  funext i
  unfold A1 iblk
  rw [View.read_apply]
  show V m c main_arg1 _ = m (c.tc.loc main_arg1) _
  rw [V_main_arg1]
  congr 1
  funext a
  apply Fin.ext
  match a with
  | ⟨0, _⟩ => show win0_1.index t 0 * 1 + 1 * (i 0).val = (i 0).val; rw [(at1 t).1]; omega
  | ⟨1, _⟩ => show win0_1.index t 1 * 1024 + 1 * (i 1).val = (i 1).val; rw [(at1 t).2]; omega

theorem x2_eq (c : Dev nD) (t : Fin cfg0.N) : iblk m c 2 t = A2 m c := by
  funext i
  unfold A2 iblk
  rw [View.read_apply]
  show V m c main_arg2 _ = m (c.tc.loc main_arg2) _
  rw [V_main_arg2]
  congr 1
  funext a
  apply Fin.ext
  match a with
  | ⟨0, _⟩ => show win0_2.index t 0 * 1024 + 1 * (i 0).val = (i 0).val; rw [(at2 t).1]; omega
  | ⟨1, _⟩ => show win0_2.index t 1 * 1024 + 1 * (i 1).val = (i 1).val; rw [(at2 t).2]; omega

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

def row (c : Dev nD) (r : Fin 4096) : Fin 1024 → EReal := fun j => A0 m c (ix2 r j)

theorem rows_eq (c : Dev nD) (t : Fin cfg0.N) (p : Fin 512) (h : 512 * t.val + p.val < 4096) :
    xr (iblk m c 0 t) p = row m c ⟨512 * t.val + p.val, h⟩ :=
  funext fun j => x0_at m c t p j h

theorem result3 (c : Dev nD) (r : Fin 4096) (f : Fin 512) :
    ((dats m 0 c).arrAt 3 cfg0.N : Vec Ideal S4096x512 .f32) (ix2 r f)
      = Attn.quer (row m c r) (gr (A1 m c)) (mat (A2 m c)) (left f) := by
  obtain ⟨t, p, hr, rfl⟩ := split r
  have h := congrFun ((blocks3 m c t (flush0_3 t)).trans (flushed3 m c t)) (ix2 p f)
  rw [piece3, x1_eq, x2_eq] at h
  refine Eq.trans (congrArg ((dats m 0 c).arrAt 3 cfg0.N) (funext fun ax => Fin.ext ?_)) (h.trans ?_)
  · symm
    match ax with
    | ⟨0, _⟩ => show win0_3.index t 0 * 512 + 1 * p.val = 512 * t.val + p.val; rw [(at3 t).1]; omega
    | ⟨1, _⟩ => show win0_3.index t 1 * 512 + 1 * f.val = f.val; rw [(at3 t).2]; omega
  · rw [← rows_eq m c t p hr]
    exact left_at (iblk m c 0 t) (A1 m c) (A2 m c) p f

theorem result4 (c : Dev nD) (r : Fin 4096) (f : Fin 512) :
    ((dats m 0 c).arrAt 4 cfg0.N : Vec Ideal S4096x512 .f32) (ix2 r f)
      = Attn.quer (row m c r) (gr (A1 m c)) (mat (A2 m c)) (right f) := by
  obtain ⟨t, p, hr, rfl⟩ := split r
  have h := congrFun ((blocks4 m c t (flush0_4 t)).trans (flushed4 m c t)) (ix2 p f)
  rw [piece4, x1_eq, x2_eq] at h
  refine Eq.trans (congrArg ((dats m 0 c).arrAt 4 cfg0.N) (funext fun ax => Fin.ext ?_)) (h.trans ?_)
  · symm
    match ax with
    | ⟨0, _⟩ => show win0_4.index t 0 * 512 + 1 * p.val = 512 * t.val + p.val; rw [(at4 t).1]; omega
    | ⟨1, _⟩ => show win0_4.index t 1 * 512 + 1 * f.val = f.val; rw [(at4 t).2]; omega
  · rw [← rows_eq m c t p hr]
    exact right_at (iblk m c 0 t) (A1 m c) (A2 m c) p f

end Cert.Kernel10Ideal.MixIn

namespace Cert.Reference10Ideal.MixIn

open Cert.Reference10Ideal Cert.Reference10Ideal.Gen
open Idealize.ShloMosaic Idealize.ShloMosaic.TcCoe Idealize.ShloMosaic.Tactic Idealize.SL.Sem Idealize.ShloMosaic.StableHlo
open Cert.Reference8Ideal.XattnBwd (mat vec row normed normed_at)
open Cert.MixIn (left right)

section Terms
variable (x : FVec Ideal S4096x1024 .f32) (g : FVec Ideal S1x1024 .f32) (w : FVec Ideal S1024x1024 .bf16)

/-- The normed rows `h` projected, and the halves of the projection. -/
def projected (h : FVec Ideal S4096x1024 .f32) (w : FVec Ideal S1024x1024 .bf16) : FVec Ideal S4096x1024 .f32 :=
  Host.dotGeneral dot_S4096x1024_S1024x1024_S4096x1024_1_0_0_1_n_n none h (extf .f32 w bitsLt_bf16_f32)
def leftOf (z : FVec Ideal S4096x1024 .f32) : FVec Ideal S4096x512 .f32 := extractStridedSlice S4096x512 ![0, 0] z slices_S4096x1024_S4096x512_0_0
def rightOf (z : FVec Ideal S4096x1024 .f32) : FVec Ideal S4096x512 .f32 := extractStridedSlice S4096x512 ![0, 512] z slices_S4096x1024_S4096x512_0_512

theorem projected_at (h : FVec Ideal S4096x1024 .f32) (r : Fin 4096) (j : Fin 1024) :
    projected h w (ix2 r j) = ∑ k : Fin 1024, h (ix2 r k) * w (ix2 k j) := by
  pointwise! [projected]

theorem quer_at (r : Fin 4096) (j : Fin 1024) : projected (normed x g) w (ix2 r j) = Attn.quer (row x r) (vec g) (mat w) j :=
  (projected_at w (normed x g) r j).trans (Finset.sum_congr rfl fun k _ => Ideal.mul_congr (normed_at x g r k) rfl)

theorem leftOf_at (z : FVec Ideal S4096x1024 .f32) (r : Fin 4096) (f : Fin 512) : leftOf z (ix2 r f) = z (ix2 r (left f)) := by
  unfold left
  pointwise! [leftOf]

theorem rightOf_at (z : FVec Ideal S4096x1024 .f32) (r : Fin 4096) (f : Fin 512) : rightOf z (ix2 r f) = z (ix2 r (right f)) := by
  unfold right
  pointwise! [rightOf]

theorem left_at (r : Fin 4096) (f : Fin 512) : leftOf (projected (normed x g) w) (ix2 r f) = Attn.quer (row x r) (vec g) (mat w) (left f) :=
  (leftOf_at _ r f).trans (quer_at x g w r _)

theorem right_at (r : Fin 4096) (f : Fin 512) : rightOf (projected (normed x g) w) (ix2 r f) = Attn.quer (row x r) (vec g) (mat w) (right f) :=
  (rightOf_at _ r f).trans (quer_at x g w r _)

end Terms

theorem quiet : Cert.quiescent_Reference10Ideal (hReference10Ideal := Gen.facts) :=
  fun m ρ _ => (θ_run defs _ _).mono
    (fun r h => ⟨fun c => (h c).2.2, Idealize.ShloMosaic.sem_eq_zero_of_no_sems (by decide) r.2⟩) (Value.run m ρ)

end Cert.Reference10Ideal.MixIn

namespace Cert.MixIn

open Idealize.ShloMosaic Idealize.ShloMosaic.TcCoe Idealize.SL.Sem
open Cert.Kernel10Ideal.Gen (dats)

/-- The call's two results are the reference's. -/
theorem values : Cert.algebraic_Kernel10Ideal_Reference10Ideal (hKernel10Ideal := Cert.Kernel10Ideal.Gen.facts)
    (hReference10Ideal := Cert.Reference10Ideal.Gen.facts) := by
  intro m ρ m' ρ' _ hag
  refine ⟨fun c => (dats m 0 c).arrAt 3 Cert.Kernel10Ideal.cfg0.N, fun c => (dats m 0 c).arrAt 4 Cert.Kernel10Ideal.cfg0.N,
    Cert.Kernel10Ideal.Value.run_blocks m ρ, ?_⟩
  refine (θ_run Cert.Reference10Ideal.defs _ _).mono (fun r h c => ?_) (Cert.Reference10Ideal.Value.run m' ρ')
  obtain ⟨g0, g1, g2⟩ := hag c
  obtain ⟨h0, h1, hk⟩ := h c
  refine ⟨h0.trans ?_, h1.trans ?_, hk⟩
  · rw [g0, g1, g2]
    funext i
    obtain ⟨p, q, rfl⟩ : ∃ (p : Fin 4096) (q : Fin 512), i = ix2 p q := ⟨i 0, i 1, eq_ix2 i⟩
    exact (Cert.Reference10Ideal.MixIn.left_at _ _ _ p q).trans (Cert.Kernel10Ideal.MixIn.result3 m c p q).symm
  · rw [g0, g1, g2]
    funext i
    obtain ⟨p, q, rfl⟩ : ∃ (p : Fin 4096) (q : Fin 512), i = ix2 p q := ⟨i 0, i 1, eq_ix2 i⟩
    exact (Cert.Reference10Ideal.MixIn.right_at _ _ _ p q).trans (Cert.Kernel10Ideal.MixIn.result4 m c p q).symm

end Cert.MixIn

end
-- ==== Proof.MixInBwd.lean ====
module

public import proofs.«01_k».proof.Proof.MixIn
public import proofs.«01_k».proof.Proof.Gen.Kernel11Ideal.Value
public import proofs.«01_k».proof.Proof.Gen.Reference11Ideal.Run
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The projection into the mixers backward: eight blocks of 512 rows, the gain's gradient summed over the blocks. -/

noncomputable section

namespace Cert.MixInBwd

open Idealize.ShloMosaic
open Cert.MixIn (left right)

theorem halves (j : Fin 1024) : (∃ f, j = left f) ∨ ∃ f, j = right f := by
  by_cases h : j.val < 512
  · exact .inl ⟨⟨j.val, h⟩, rfl⟩
  · exact .inr ⟨⟨j.val - 512, by omega⟩, Fin.ext (by unfold right; dsimp only; omega)⟩

/-- Two half rows side by side, and the gradient with respect to a normed row that they give. -/
def join (a b : Fin 512 → EReal) (j : Fin 1024) : EReal := if h : j.val < 512 then a ⟨j.val, h⟩ else b ⟨j.val - 512, by omega⟩
def dnorm (a b : Fin 512 → EReal) (w : Fin 1024 → Fin 1024 → EReal) (k : Fin 1024) : EReal := ∑ j, join a b j * w k j

theorem join_left (a b : Fin 512 → EReal) (f : Fin 512) : join a b (left f) = a f := dif_pos (show f.val < 512 from f.isLt)
theorem join_right (a b : Fin 512 → EReal) (f : Fin 512) : join a b (right f) = b f := by
  refine (dif_neg (show ¬512 + f.val < 512 by omega)).trans (congrArg b (Fin.ext ?_))
  show 512 + f.val - 512 = f.val
  omega

end Cert.MixInBwd

namespace Cert.Kernel11Ideal.MixInBwd

open Cert.Kernel11Ideal Cert.Kernel11Ideal.Gen Cert.Kernel11Ideal.Value
open Idealize.ShloMosaic Idealize.ShloMosaic.TcCoe Idealize.ShloMosaic.Tactic Idealize.SL.Sem
open Cert.Kernel8Ideal.XattnBwd (hz norm_at root_at mat xr gr rowG rowG_at gainG gainG_at part parts)
open Cert.MixIn (left right)
open Cert.MixInBwd (join dnorm halves join_left join_right)

section Stored
variable {F : FTy → Type} [FloatOps F]
variable (x0 : Vec F S512x1024 .f32) (x1 x2 : Vec F S512x512 .f32) (x3 : Vec F S512x1024 .f32) (x4 : Vec F S1x1024 .f32) (x5 : Vec F S1024x1024 .bf16)

/-- What a point stores: the rows, the normed rows, the joined halves, its share of the gain's gradient, the sum so far. -/
def s6 : Vec F S512x1024 .f32 := rowG x0 x3 (Cert.Kernel8Ideal.Gen.k0_pay3 x0) (k0_pay8 x1 x2 x5) x4
def s7 : Vec F S512x1024 .bf16 := Cert.Kernel8Ideal.XattnBwd.s7 x0 x4
def s8 : Vec F S512x1024 .bf16 := k0_pay5 x1 x2
def s9 : Vec F S1x1024 .f32 := gainG x0 (Cert.Kernel8Ideal.Gen.k0_pay3 x0) (k0_pay8 x1 x2 x5)
def t9 (z : Vec F S1x1024 .f32) : Vec F S1x1024 .f32 := addf (shapeCast S1x1024 z shapeCasts_S1x1024_S1x1024) (s9 x0 x1 x2 x5)

-- Any memrefs a point may run on.
variable (c : Dev nD) (i : grid0.Coords)
  (a1 : Memref sig .tc .vmem S512x1024 .f32) (h1 : a1.IsWhole)
  (a2 : Memref sig .tc .vmem S512x512 .f32) (h2 : a2.IsWhole)
  (a3 : Memref sig .tc .vmem S512x512 .f32) (h3 : a3.IsWhole)
  (a4 : Memref sig .tc .vmem S512x1024 .f32) (h4 : a4.IsWhole)
  (a5 : Memref sig .tc .vmem S1x1024 .f32) (h5 : a5.IsWhole)
  (a6 : Memref sig .tc .vmem S1024x1024 .bf16) (h6 : a6.IsWhole)
  (a7 : Memref sig .tc .vmem S512x1024 .f32) (h7 : a7.IsWhole)
  (a8 : Memref sig .tc .vmem S512x1024 .bf16) (h8 : a8.IsWhole)
  (a9 : Memref sig .tc .vmem S512x1024 .bf16) (h9 : a9.IsWhole)
  (a10 : Memref sig .tc .vmem S1x1024 .f32) (h10 : a10.IsWhole)

theorem pieceA6 (hc0 : cond0_0 i) (hc1 : ¬cond0_1 i) :
    out0_A_6 c i a1 h1 a2 h2 a3 h3 a4 h4 a5 h5 a6 h6 a7 h7 a8 h8 a9 h9 a10 h10 hc0 hc1 x0 x1 x2 x3 x4 x5 = s6 x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceA7 (hc0 : cond0_0 i) (hc1 : ¬cond0_1 i) :
    out0_A_7 c i a1 h1 a2 h2 a3 h3 a4 h4 a5 h5 a6 h6 a7 h7 a8 h8 a9 h9 a10 h10 hc0 hc1 x0 x1 x2 x3 x4 x5 = s7 x0 x4 := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceA8 (hc0 : cond0_0 i) (hc1 : ¬cond0_1 i) :
    out0_A_8 c i a1 h1 a2 h2 a3 h3 a4 h4 a5 h5 a6 h6 a7 h7 a8 h8 a9 h9 a10 h10 hc0 hc1 x0 x1 x2 x3 x4 x5 = s8 x1 x2 := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceA9 (hc0 : cond0_0 i) (hc1 : ¬cond0_1 i) :
    out0_A_9 c i a1 h1 a2 h2 a3 h3 a4 h4 a5 h5 a6 h6 a7 h7 a8 h8 a9 h9 a10 h10 hc0 hc1 x0 x1 x2 x3 x4 x5 = s9 x0 x1 x2 x5 := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceB6 (hc0 : ¬cond0_0 i) (hc1 : cond0_1 i) (z : Vec F S1x1024 .f32) :
    out0_B_6 c i a1 h1 a2 h2 a3 h3 a4 h4 a5 h5 a6 h6 a7 h7 a8 h8 a9 h9 a10 h10 hc0 hc1 x0 x1 x2 x3 x4 x5 z = s6 x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x5 z)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceB7 (hc0 : ¬cond0_0 i) (hc1 : cond0_1 i) (z : Vec F S1x1024 .f32) :
    out0_B_7 c i a1 h1 a2 h2 a3 h3 a4 h4 a5 h5 a6 h6 a7 h7 a8 h8 a9 h9 a10 h10 hc0 hc1 x0 x1 x2 x3 x4 x5 z = s7 x0 x4 := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 z)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceB8 (hc0 : ¬cond0_0 i) (hc1 : cond0_1 i) (z : Vec F S1x1024 .f32) :
    out0_B_8 c i a1 h1 a2 h2 a3 h3 a4 h4 a5 h5 a6 h6 a7 h7 a8 h8 a9 h9 a10 h10 hc0 hc1 x0 x1 x2 x3 x4 x5 z = s8 x1 x2 := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 z)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

theorem pieceB9 (hc0 : ¬cond0_0 i) (hc1 : cond0_1 i) (z : Vec F S1x1024 .f32) :
    out0_B_9 c i a1 h1 a2 h2 a3 h3 a4 h4 a5 h5 a6 h6 a7 h7 a8 h8 a9 h9 a10 h10 hc0 hc1 x0 x1 x2 x3 x4 x5 z = t9 x0 x1 x2 x5 z := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 z)]
  unfold kernelRun0_B
  dsimp only
  sl_unfold_words
  rw [View.canon_unit_zero hz]
  simp only [View.readAt_eq_ld, h1.read_unread, h2.read_unread, h3.read_unread, h4.read_unread, h5.read_unread, h6.read_unread, h10.read_unread, View.ld_unit_zero (S := S512x1024) hz, View.ld_unit_zero (S := S512x512) hz, View.ld_unit_zero (S := S1x1024) hz, View.ld_unit_zero (S := S1024x1024) hz]
  rfl

end Stored

section Entries
variable (x0 : Vec Ideal S512x1024 .f32) (x1 x2 : Vec Ideal S512x512 .f32) (x3 : Vec Ideal S512x1024 .f32) (x4 : Vec Ideal S1x1024 .f32) (x5 : Vec Ideal S1024x1024 .bf16)

/-- Row `p` of half a block. -/
def hr (x : Vec Ideal S512x512 .f32) (p : Fin 512) : Fin 512 → EReal := fun f => x (ix2 p f)

theorem row8 (p : Fin 512) (j : Fin 1024) : s8 x1 x2 (ix2 p j) = join (hr x1 p) (hr x2 p) j := by
  rcases halves j with ⟨f, rfl⟩ | ⟨f, rfl⟩
  · rw [join_left]
    unfold left s8 hr
    pointwise! [k0_pay5]
  · rw [join_right]
    unfold right s8 hr
    pointwise! [k0_pay5]

theorem gradN_at (p : Fin 512) (k : Fin 1024) : k0_pay8 x1 x2 x5 (ix2 p k) = dnorm (hr x1 p) (hr x2 p) (mat x5) k := by
  refine Eq.trans (b := ∑ j : Fin 1024, s8 x1 x2 (ix2 p j) * x5 (ix2 k j)) ?_
    (Finset.sum_congr rfl fun j _ => Ideal.mul_congr (row8 x1 x2 p j) rfl)
  unfold k0_pay8 s8
  generalize k0_pay5 x1 x2 = z
  pointwise!

theorem row6 (p : Fin 512) (k : Fin 1024) :
    s6 x0 x1 x2 x3 x4 x5 (ix2 p k) = Mixer.dx (xr x0 p) (xr x3 p) (gr x4) (dnorm (hr x1 p) (hr x2 p) (mat x5)) k := by
  refine (rowG_at x0 x3 x4 (Cert.Kernel8Ideal.Gen.k0_pay3 x0) (k0_pay8 x1 x2 x5) p k).trans ?_
  rw [root_at, gradN_at]
  unfold Mixer.dx
  refine congrArg _ (congrArg _ (congrArg _ (congrArg (Ideal.div · _) (Finset.sum_congr rfl fun j _ => ?_))))
  rw [gradN_at]
  rfl

/-- A row's share of the gain's gradient. -/
def dgain (x : Fin 1024 → EReal) (a b : Fin 512 → EReal) (w : Fin 1024 → Fin 1024 → EReal) (k : Fin 1024) : EReal :=
  dnorm a b w k * x k * Mixer.root x

theorem row9 (k : Fin 1024) :
    s9 x0 x1 x2 x5 (ix2 0 k) = ∑ p, dgain (xr x0 p) (hr x1 p) (hr x2 p) (mat x5) k := by
  refine (gainG_at x0 (Cert.Kernel8Ideal.Gen.k0_pay3 x0) (k0_pay8 x1 x2 x5) k).trans (Finset.sum_congr rfl fun p _ => ?_)
  rw [root_at, gradN_at]
  rfl

theorem t9_at (z : Vec Ideal S1x1024 .f32) (k : Fin 1024) :
    t9 x0 x1 x2 x5 z (ix2 0 k) = z (ix2 0 k) + s9 x0 x1 x2 x5 (ix2 0 k) := by
  unfold t9
  generalize s9 x0 x1 x2 x5 = w
  pointwise!

end Entries

variable (m : (ℓ : Loc nD τ sig) → Buf (Elt Ideal) ℓ)

/-- The arguments. -/
def A0 (c : Dev nD) : Vec Ideal S4096x1024 .f32 := m ((c : Thread nD τ).loc main_arg0)
def A1 (c : Dev nD) : Vec Ideal S4096x512 .f32 := m ((c : Thread nD τ).loc main_arg1)
def A2 (c : Dev nD) : Vec Ideal S4096x512 .f32 := m ((c : Thread nD τ).loc main_arg2)
def A3 (c : Dev nD) : Vec Ideal S4096x1024 .f32 := m ((c : Thread nD τ).loc main_arg3)
def A4 (c : Dev nD) : Vec Ideal S1x1024 .f32 := m ((c : Thread nD τ).loc main_arg4)
def A5 (c : Dev nD) : Vec Ideal S1024x1024 .bf16 := m ((c : Thread nD τ).loc main_arg5)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)
theorem at8 : ∀ t : Fin cfg0.N, win0_8.index t (0 : Fin 2) = t.val ∧ win0_8.index t (1 : Fin 2) = 0 :=
  (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)

/-- The blocks of rows that point `t` reads; the other blocks are the whole arguments. -/
theorem x0_at (c : Dev nD) (t : Fin cfg0.N) (p : Fin 512) (k : Fin 1024) (h : 512 * t.val + p.val < 4096) :
    (iblk m c 0 t : Vec Ideal S512x1024 .f32) (ix2 p k) = A0 m c (ix2 ⟨512 * t.val + p.val, h⟩ k) := by
  unfold A0 iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(at0 t).1]; omega
  | ⟨1, _⟩ => show win0_0.index t 1 * 1024 + 1 * k.val = k.val; rw [(at0 t).2]; omega

theorem x1_at (c : Dev nD) (t : Fin cfg0.N) (p : Fin 512) (k : Fin 512) (h : 512 * t.val + p.val < 4096) :
    (iblk m c 1 t : Vec Ideal S512x512 .f32) (ix2 p k) = A1 m c (ix2 ⟨512 * t.val + p.val, h⟩ k) := by
  unfold A1 iblk
  rw [View.read_apply]
  show V m c main_arg1 _ = m (c.tc.loc main_arg1) _
  rw [V_main_arg1]
  congr 1
  funext a
  apply Fin.ext
  match a with
  | ⟨0, _⟩ => show win0_1.index t 0 * 512 + 1 * p.val = 512 * t.val + p.val; rw [(at1 t).1]; omega
  | ⟨1, _⟩ => show win0_1.index t 1 * 512 + 1 * k.val = k.val; rw [(at1 t).2]; omega

theorem x2_at (c : Dev nD) (t : Fin cfg0.N) (p : Fin 512) (k : Fin 512) (h : 512 * t.val + p.val < 4096) :
    (iblk m c 2 t : Vec Ideal S512x512 .f32) (ix2 p k) = A2 m c (ix2 ⟨512 * t.val + p.val, h⟩ k) := by
  unfold A2 iblk
  rw [View.read_apply]
  show V m c main_arg2 _ = m (c.tc.loc main_arg2) _
  rw [V_main_arg2]
  congr 1
  funext a
  apply Fin.ext
  match a with
  | ⟨0, _⟩ => show win0_2.index t 0 * 512 + 1 * p.val = 512 * t.val + p.val; rw [(at2 t).1]; omega
  | ⟨1, _⟩ => show win0_2.index t 1 * 512 + 1 * k.val = k.val; rw [(at2 t).2]; omega

theorem x3_at (c : Dev nD) (t : Fin cfg0.N) (p : Fin 512) (k : Fin 1024) (h : 512 * t.val + p.val < 4096) :
    (iblk m c 3 t : Vec Ideal S512x1024 .f32) (ix2 p k) = A3 m c (ix2 ⟨512 * t.val + p.val, h⟩ k) := by
  unfold A3 iblk
  rw [View.read_apply]
  show V m c main_arg3 _ = m (c.tc.loc main_arg3) _
  rw [V_main_arg3]
  congr 1
  funext a
  apply Fin.ext
  match a with
  | ⟨0, _⟩ => show win0_3.index t 0 * 512 + 1 * p.val = 512 * t.val + p.val; rw [(at3 t).1]; omega
  | ⟨1, _⟩ => show win0_3.index t 1 * 1024 + 1 * k.val = k.val; rw [(at3 t).2]; omega

theorem x4_eq (c : Dev nD) (t : Fin cfg0.N) : iblk m c 4 t = A4 m c := by
  funext i
  unfold A4 iblk
  rw [View.read_apply]
  show V m c main_arg4 _ = m (c.tc.loc main_arg4) _
  rw [V_main_arg4]
  congr 1
  funext a
  apply Fin.ext
  match a with
  | ⟨0, _⟩ => show win0_4.index t 0 * 1 + 1 * (i 0).val = (i 0).val; rw [(at4 t).1]; omega
  | ⟨1, _⟩ => show win0_4.index t 1 * 1024 + 1 * (i 1).val = (i 1).val; rw [(at4 t).2]; omega

theorem x5_eq (c : Dev nD) (t : Fin cfg0.N) : iblk m c 5 t = A5 m c := by
  funext i
  unfold A5 iblk
  rw [View.read_apply]
  show V m c main_arg5 _ = m (c.tc.loc main_arg5) _
  rw [V_main_arg5]
  congr 1
  funext a
  apply Fin.ext
  match a with
  | ⟨0, _⟩ => show win0_5.index t 0 * 1024 + 1 * (i 0).val = (i 0).val; rw [(at5 t).1]; omega
  | ⟨1, _⟩ => show win0_5.index t 1 * 1024 + 1 * (i 1).val = (i 1).val; rw [(at5 t).2]; omega

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

def row (x : Vec Ideal S4096x1024 .f32) (r : Fin 4096) : Fin 1024 → EReal := fun j => x (ix2 r j)
def half (x : Vec Ideal S4096x512 .f32) (r : Fin 4096) : Fin 512 → EReal := fun f => x (ix2 r f)

section Blocks
variable (c : Dev nD) (t : Fin cfg0.N) (p : Fin 512) (h : 512 * t.val + p.val < 4096)
theorem rows0 : xr (iblk m c 0 t) p = row (A0 m c) ⟨512 * t.val + p.val, h⟩ := funext fun j => x0_at m c t p j h
theorem rows1 : hr (iblk m c 1 t) p = half (A1 m c) ⟨512 * t.val + p.val, h⟩ := funext fun j => x1_at m c t p j h
theorem rows2 : hr (iblk m c 2 t) p = half (A2 m c) ⟨512 * t.val + p.val, h⟩ := funext fun j => x2_at m c t p j h
theorem rows3 : xr (iblk m c 3 t) p = row (A3 m c) ⟨512 * t.val + p.val, h⟩ := funext fun j => x3_at m c t p j h
end Blocks

theorem zero_of (t : Fin cfg0.N) (h : t.val % 8 = 0) : ¬1 ≤ t.val := by have := lt_N t; omega
theorem pos_of (t : Fin cfg0.N) (h : ¬t.val % 8 = 0) : 1 ≤ t.val := by omega

theorem block6 (c : Dev nD) (t : Fin cfg0.N) :
    (dats m 0 c).flushed 6 t = (cfg0.win 6).cut (grid0.coords t) (s6 (iblk m c 0 t) (iblk m c 1 t) (iblk m c 2 t) (iblk m c 3 t) (A4 m c) (A5 m c)) := by
  by_cases h0 : t.val % 8 = 0
  · refine (flushed6_A m c t h0 (zero_of t h0)).trans ?_
    rw [pieceA6, x4_eq, x5_eq]
  · refine (flushed6_B m c t h0 (pos_of t h0)).trans ?_
    rw [pieceB6, x4_eq, x5_eq]

theorem result6 (c : Dev nD) (r : Fin 4096) (q : Fin 1024) :
    ((dats m 0 c).arrAt 6 cfg0.N : Vec Ideal S4096x1024 .f32) (ix2 r q)
      = Mixer.dx (row (A0 m c) r) (row (A3 m c) r) (gr (A4 m c)) (dnorm (half (A1 m c) r) (half (A2 m c) r) (mat (A5 m c))) q := by
  obtain ⟨t, p, hr, rfl⟩ := split r
  have h := congrFun ((blocks6 m c t (flush0_6 t)).trans (block6 m c t)) (ix2 p q)
  refine Eq.trans (congrArg ((dats m 0 c).arrAt 6 cfg0.N) (funext fun ax => Fin.ext ?_)) (h.trans ?_)
  · symm
    match ax with
    | ⟨0, _⟩ => show win0_6.index t 0 * 512 + 1 * p.val = 512 * t.val + p.val; rw [(at6 t).1]; omega
    | ⟨1, _⟩ => show win0_6.index t 1 * 1024 + 1 * q.val = q.val; rw [(at6 t).2]; omega
  · rw [← rows0 m c t p hr, ← rows1 m c t p hr, ← rows2 m c t p hr, ← rows3 m c t p hr]
    exact row6 (iblk m c 0 t) (iblk m c 1 t) (iblk m c 2 t) (iblk m c 3 t) (A4 m c) (A5 m c) p q

theorem block7 (c : Dev nD) (t : Fin cfg0.N) :
    (dats m 0 c).flushed 7 t = (cfg0.win 7).cut (grid0.coords t) (s7 (iblk m c 0 t) (A4 m c)) := by
  by_cases h0 : t.val % 8 = 0
  · refine (flushed7_A m c t h0 (zero_of t h0)).trans ?_
    rw [pieceA7, x4_eq]
  · refine (flushed7_B m c t h0 (pos_of t h0)).trans ?_
    rw [pieceB7, x4_eq]

theorem result7 (c : Dev nD) (r : Fin 4096) (q : Fin 1024) :
    ((dats m 0 c).arrAt 7 cfg0.N : Vec Ideal S4096x1024 .bf16) (ix2 r q)
      = Mixer.norm (row (A0 m c) r) (gr (A4 m c)) q := by
  obtain ⟨t, p, hr, rfl⟩ := split r
  have h := congrFun ((blocks7 m c t (flush0_7 t)).trans (block7 m c t)) (ix2 p q)
  refine Eq.trans (congrArg ((dats m 0 c).arrAt 7 cfg0.N) (funext fun ax => Fin.ext ?_)) (h.trans ?_)
  · symm
    match ax with
    | ⟨0, _⟩ => show win0_7.index t 0 * 512 + 1 * p.val = 512 * t.val + p.val; rw [(at7 t).1]; omega
    | ⟨1, _⟩ => show win0_7.index t 1 * 1024 + 1 * q.val = q.val; rw [(at7 t).2]; omega
  · rw [← rows0 m c t p hr]
    exact norm_at (iblk m c 0 t) (A4 m c) p q

theorem block8 (c : Dev nD) (t : Fin cfg0.N) :
    (dats m 0 c).flushed 8 t = (cfg0.win 8).cut (grid0.coords t) (s8 (iblk m c 1 t) (iblk m c 2 t)) := by
  by_cases h0 : t.val % 8 = 0
  · refine (flushed8_A m c t h0 (zero_of t h0)).trans ?_
    rw [pieceA8]
  · refine (flushed8_B m c t h0 (pos_of t h0)).trans ?_
    rw [pieceB8]

theorem result8 (c : Dev nD) (r : Fin 4096) (q : Fin 1024) :
    ((dats m 0 c).arrAt 8 cfg0.N : Vec Ideal S4096x1024 .bf16) (ix2 r q)
      = join (half (A1 m c) r) (half (A2 m c) r) q := by
  obtain ⟨t, p, hr, rfl⟩ := split r
  have h := congrFun ((blocks8 m c t (flush0_8 t)).trans (block8 m c t)) (ix2 p q)
  refine Eq.trans (congrArg ((dats m 0 c).arrAt 8 cfg0.N) (funext fun ax => Fin.ext ?_)) (h.trans ?_)
  · symm
    match ax with
    | ⟨0, _⟩ => show win0_8.index t 0 * 512 + 1 * p.val = 512 * t.val + p.val; rw [(at8 t).1]; omega
    | ⟨1, _⟩ => show win0_8.index t 1 * 1024 + 1 * q.val = q.val; rw [(at8 t).2]; omega
  · rw [← rows1 m c t p hr, ← rows2 m c t p hr]
    exact row8 (iblk m c 1 t) (iblk m c 2 t) p q

/-- A row's share of the gradient with respect to the gain. -/
def share (c : Dev nD) (k : Fin 1024) (r : Fin 4096) : EReal := dgain (row (A0 m c) r) (half (A1 m c) r) (half (A2 m c) r) (mat (A5 m c)) k

theorem part_of (f : Fin 4096 → EReal) (t : Fin cfg0.N) (w : Fin 512 → EReal)
    (hw : ∀ (p : Fin 512) (h : 512 * t.val + p.val < 4096), w p = f ⟨512 * t.val + p.val, h⟩) : ∑ p, w p = part f t.val := by
  refine Finset.sum_congr rfl fun p _ => ?_
  have hr : 512 * t.val + p.val < 4096 := by have := lt_N t; omega
  rw [dif_pos hr]
  exact hw p hr

theorem parts_to (t : Fin cfg0.N) (ht : t.val = 7) (f : Fin 4096 → EReal) : ∑ l ∈ Finset.range (t.val + 1), part f l = ∑ r, f r := by
  rw [ht]
  exact parts f

theorem part9 (c : Dev nD) (t : Fin cfg0.N) (k : Fin 1024) :
    s9 (iblk m c 0 t) (iblk m c 1 t) (iblk m c 2 t) (A5 m c) (ix2 0 k) = part (share m c k) t.val :=
  (row9 (iblk m c 0 t) (iblk m c 1 t) (iblk m c 2 t) (A5 m c) k).trans (part_of _ t _ fun p hr => by
    rw [rows0 m c t p hr, rows1 m c t p hr, rows2 m c t p hr]
    rfl)

/-- After a point, the running sum is that of the blocks so far. -/
theorem running (c : Dev nD) (k : Fin 1024) : ∀ (n : ℕ) (h : n < cfg0.N),
    (outsAt0 m c n h).2.2.2 (ix2 0 k) = ∑ t ∈ Finset.range (n + 1), part (share m c k) t
  | 0, h => by
    rw [outsAt0_A m c ⟨0, h⟩ (Nat.zero_mod _) (by dsimp only; omega)]
    dsimp only
    rw [pieceA9, x5_eq, Finset.sum_range_one]
    exact part9 m c ⟨0, h⟩ k
  | n + 1, h => by
    have hN : n + 1 < 8 := lt_N ⟨n + 1, h⟩
    rw [outsAt0_B m c ⟨n + 1, h⟩ (by dsimp only; omega) (by dsimp only; omega)]
    dsimp only
    rw [pieceB9, x5_eq, Finset.sum_range_succ]
    refine (t9_at (iblk m c 0 ⟨n + 1, h⟩) _ _ _ _ k).trans ?_
    exact congrArg₂ (· + ·) (running c k n (Nat.lt_of_succ_lt h)) (part9 m c ⟨n + 1, h⟩ k)

theorem last_only : ∀ t t' : Fin cfg0.N, (cfg0.win 9).flush t = true → (cfg0.win 9).flush t' = true → t ≠ t' →
    Disjoint ((cfg0.win 9).blk t).view.set ((cfg0.win 9).blk t').view.set := fun t t' h h' hne =>
  absurd (Fin.ext (by have := (flush0_9 t).mp h; have := (flush0_9 t').mp h'; have := lt_N t; have := lt_N t'; omega)) hne

theorem whole9 (c : Dev nD) (t : Fin cfg0.N) (k : Fin 1024) :
    (dats m 0 c).flushed 9 t (ix2 0 k) = (outsAt0 m c t.val t.isLt).2.2.2 (ix2 0 k) := congrFun (flushed9 m c t) _

theorem result9 (c : Dev nD) (k : Fin 1024) :
    ((dats m 0 c).arrAt 9 cfg0.N : Vec Ideal S1x1024 .f32) (ix2 0 k) = ∑ r, share m c k r := by
  obtain ⟨t, ht⟩ : ∃ t : Fin cfg0.N, t.val = 7 := ⟨⟨7, by rw [show cfg0.N = 8 from N_0]; omega⟩, rfl⟩
  have h := (congrFun ((dats m 0 c).read_blk_arrAt_eq_flushed 9 last_only cfg0.N t t.isLt ((flush0_9 t).mpr (by rw [ht]))) (ix2 0 k)).trans
    ((whole9 m c t k).trans ((running m c k t.val t.isLt).trans (parts_to t ht (share m c k))))
  refine Eq.trans (congrArg ((dats m 0 c).arrAt 9 cfg0.N) (funext fun ax => Fin.ext ?_)) h
  symm
  match ax with
  | ⟨0, _⟩ => show win0_9.index t 0 * 1 + 1 * 0 = 0; rw [(at9 t).1]
  | ⟨1, _⟩ => show win0_9.index t 1 * 1024 + 1 * k.val = k.val; rw [(at9 t).2]; omega

end Cert.Kernel11Ideal.MixInBwd

namespace Cert.Reference11Ideal.MixInBwd

open Cert.Reference11Ideal Cert.Reference11Ideal.Gen
open Idealize.ShloMosaic Idealize.ShloMosaic.TcCoe Idealize.ShloMosaic.Tactic Idealize.SL.Sem Idealize.ShloMosaic.StableHlo
open Cert.Reference8Ideal.XattnBwd (mat vec row normed normed_at normGrad normGrad_at gainGrad gainGrad_at rowGrad rowGrad_at)
open Cert.MixIn (left right)
open Cert.MixInBwd (join dnorm halves join_left join_right)

section Terms
variable (x dy : FVec Ideal S4096x1024 .f32) (a b : FVec Ideal S4096x512 .f32) (g : FVec Ideal S1x1024 .f32) (w : FVec Ideal S1024x1024 .bf16)

/-- The halves side by side. -/
def both : FVec Ideal S4096x1024 .f32 :=
  concatenate S4096x1024 1 [⟨S4096x512, a⟩, ⟨S4096x512, b⟩] concatenates_S4096x512_S4096x512_S4096x1024_d1
def half (x : FVec Ideal S4096x512 .f32) (r : Fin 4096) : Fin 512 → EReal := fun f => x (ix2 r f)

theorem both_at (r : Fin 4096) (j : Fin 1024) : both a b (ix2 r j) = join (half a r) (half b r) j := by
  rcases halves j with ⟨f, rfl⟩ | ⟨f, rfl⟩
  · rw [join_left]
    unfold left half
    pointwise! [both]
  · rw [join_right]
    unfold right half
    pointwise! [both]

theorem gradN_at (r : Fin 4096) (k : Fin 1024) : normGrad w (both a b) (ix2 r k) = dnorm (half a r) (half b r) (mat w) k :=
  (normGrad_at w (both a b) r k).trans (Finset.sum_congr rfl fun j _ => Ideal.mul_congr (both_at a b r j) rfl)

theorem rows_at (r : Fin 4096) (q : Fin 1024) :
    rowGrad x dy g (normGrad w (both a b)) (ix2 r q) = Mixer.dx (row x r) (row dy r) (vec g) (dnorm (half a r) (half b r) (mat w)) q := by
  rw [rowGrad_at, Mixer.dx_eq, show row (normGrad w (both a b)) r = dnorm (half a r) (half b r) (mat w) from funext fun k => gradN_at a b w r k]

theorem gain_at (k : Fin 1024) :
    gainGrad x (normGrad w (both a b)) (ix2 0 k) = ∑ r, dnorm (half a r) (half b r) (mat w) k * row x r k * Mixer.root (row x r) := by
  refine (gainGrad_at x (normGrad w (both a b)) k).trans (Finset.sum_congr rfl fun r _ => ?_)
  rw [gradN_at, mul_assoc (dnorm _ _ _ _), mul_comm]
  rfl

theorem normedRows_at (r : Fin 4096) (k : Fin 1024) :
    truncf .bf16 (normed x g) bitsLt_bf16_f32 (ix2 r k) = Mixer.norm (row x r) (vec g) k := normed_at x g r k

theorem joined_at (r : Fin 4096) (j : Fin 1024) :
    truncf .bf16 (both a b) bitsLt_bf16_f32 (ix2 r j) = join (half a r) (half b r) j := both_at a b r j

end Terms

theorem rows_eq (m : (ℓ : Loc nD τ sig) → Buf (Elt Ideal) ℓ) (c : Dev nD) : Value.res_main_v38 m c
    = rowGrad (m ((c.tc : Thread nD τ).loc main_arg0)) (m ((c.tc : Thread nD τ).loc main_arg3)) (m ((c.tc : Thread nD τ).loc main_arg4))
      (normGrad (m ((c.tc : Thread nD τ).loc main_arg5)) (both (m ((c.tc : Thread nD τ).loc main_arg1)) (m ((c.tc : Thread nD τ).loc main_arg2)))) := rfl

theorem quiet : Cert.quiescent_Reference11Ideal (hReference11Ideal := Gen.facts) :=
  fun m ρ _ => (θ_run defs _ _).mono
    (fun r h => ⟨fun c => (h c).2.2.2.2, Idealize.ShloMosaic.sem_eq_zero_of_no_sems (by decide) r.2⟩) (Value.run m ρ)

end Cert.Reference11Ideal.MixInBwd

namespace Cert.MixInBwd

open Idealize.ShloMosaic Idealize.ShloMosaic.TcCoe Idealize.SL.Sem
open Cert.Kernel11Ideal.Gen (dats)

/-- The call's four results are the reference's. -/
theorem values : Cert.algebraic_Kernel11Ideal_Reference11Ideal (hKernel11Ideal := Cert.Kernel11Ideal.Gen.facts)
    (hReference11Ideal := Cert.Reference11Ideal.Gen.facts) := by
  intro m ρ m' ρ' _ hag
  refine ⟨fun c => (dats m 0 c).arrAt 6 Cert.Kernel11Ideal.cfg0.N, fun c => (dats m 0 c).arrAt 7 Cert.Kernel11Ideal.cfg0.N,
    fun c => (dats m 0 c).arrAt 8 Cert.Kernel11Ideal.cfg0.N, fun c => (dats m 0 c).arrAt 9 Cert.Kernel11Ideal.cfg0.N,
    Cert.Kernel11Ideal.Value.run_blocks m ρ, ?_⟩
  refine (θ_run Cert.Reference11Ideal.defs _ _).mono (fun r h c => ?_) (Cert.Reference11Ideal.Value.run m' ρ')
  obtain ⟨g0, g1, g2, g3, g4, g5⟩ := hag c
  obtain ⟨h0, h1, h2, h3, hk⟩ := h c
  refine ⟨h0.trans ?_, h1.trans ?_, h2.trans ?_, h3.trans ?_, hk⟩
  · rw [Cert.Reference11Ideal.MixInBwd.rows_eq, g0, g1, g2, g3, g4, g5]
    funext i
    obtain ⟨p, q, rfl⟩ : ∃ (p : Fin 4096) (q : Fin 1024), i = ix2 p q := ⟨i 0, i 1, eq_ix2 i⟩
    exact (Cert.Reference11Ideal.MixInBwd.rows_at _ _ _ _ _ _ p q).trans (Cert.Kernel11Ideal.MixInBwd.result6 m c p q).symm
  · rw [g0, g4]
    funext i
    obtain ⟨p, q, rfl⟩ : ∃ (p : Fin 4096) (q : Fin 1024), i = ix2 p q := ⟨i 0, i 1, eq_ix2 i⟩
    exact (Cert.Reference11Ideal.MixInBwd.normedRows_at _ _ p q).trans (Cert.Kernel11Ideal.MixInBwd.result7 m c p q).symm
  · rw [g1, g2]
    funext i
    obtain ⟨p, q, rfl⟩ : ∃ (p : Fin 4096) (q : Fin 1024), i = ix2 p q := ⟨i 0, i 1, eq_ix2 i⟩
    exact (Cert.Reference11Ideal.MixInBwd.joined_at _ _ p q).trans (Cert.Kernel11Ideal.MixInBwd.result8 m c p q).symm
  · rw [g0, g1, g2, g5]
    funext i
    obtain ⟨p, q, rfl⟩ : ∃ (p : Fin 1) (q : Fin 1024), i = ix2 p q := ⟨i 0, i 1, eq_ix2 i⟩
    obtain rfl : p = 0 := Subsingleton.elim _ _
    exact (Cert.Reference11Ideal.MixInBwd.gain_at _ _ _ _ q).trans (Cert.Kernel11Ideal.MixInBwd.result9 m c q).symm

end Cert.MixInBwd

end
-- ==== Proof.Loss.lean ====
module

public import proofs.«01_k».proof.Proof.MixInBwd
public import proofs.«01_k».proof.Proof.Gen.Kernel12Ideal.Value
public import proofs.«01_k».proof.Proof.Gen.Reference12Ideal.Run
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The loss: eight blocks of 512 rows, the gain's gradient and the loss summed over the blocks. -/

noncomputable section

namespace Cert.Loss

open Idealize.ShloMosaic
open Cert.Mixer (div_width scale_add)

/-- Of a row: its error, the gradient with respect to the normed row, the loss, the gain's gradient. -/
def err (x t g : Fin 1024 → EReal) (k : Fin 1024) : EReal := Mixer.norm x g k - t k
def slopeOf (x t g : Fin 1024 → EReal) (k : Fin 1024) : EReal := Ideal.div (err x t g k) (Ideal.ofBits FTy.f32 0x44800000#32)
def loss (x t g : Fin 1024 → EReal) : EReal :=
  Ideal.ofBits FTy.f32 0x3F000000#32 * Ideal.div (∑ k, err x t g k * err x t g k) (Ideal.ofBits FTy.f32 0x44800000#32)
def dgain (x t g : Fin 1024 → EReal) (k : Fin 1024) : EReal := slopeOf x t g k * x k * Mixer.root x

theorem half_word : Ideal.ofBits FTy.f32 0x3F000000#32 = ((1 / 2 : ℝ) : EReal) := by
  simp [Ideal.ofBits, Ideal.ieee]; rw [← EReal.coe_mul]; norm_num
theorem one_word : Ideal.ofBits FTy.f32 0x3F800000#32 = ((1 : ℝ) : EReal) := by
  simp [Ideal.ofBits, Ideal.ieee]; try (rw [← EReal.coe_mul]; norm_num)
theorem two_word : Ideal.ofBits FTy.f32 0x40000000#32 = ((2 : ℝ) : EReal) := by
  simp [Ideal.ofBits, Ideal.ieee]; try (rw [← EReal.coe_mul]; norm_num)

theorem slope_by (e : EReal) :
    Ideal.div (Ideal.ofBits FTy.f32 0x3F000000#32 * Ideal.ofBits FTy.f32 0x3F800000#32) (Ideal.ofBits FTy.f32 0x44800000#32)
      * (Ideal.ofBits FTy.f32 0x40000000#32 * e) = Ideal.div e (Ideal.ofBits FTy.f32 0x44800000#32) := by
  rw [div_width, div_width, half_word, one_word, two_word, ← mul_assoc, ← EReal.coe_mul, ← EReal.coe_mul, ← EReal.coe_mul, mul_comm]
  norm_num

/-- Half of a sum is the sum of the halves. -/
theorem half_sum {ι : Type} (s : Finset ι) (f : ι → EReal) :
    Ideal.ofBits FTy.f32 0x3F000000#32 * ∑ i ∈ s, f i = ∑ i ∈ s, Ideal.ofBits FTy.f32 0x3F000000#32 * f i := by
  classical
  rw [half_word]
  induction s using Finset.induction_on with
  | empty => simp
  | insert a s ha ih => rw [Finset.sum_insert ha, Finset.sum_insert ha, scale_add (by norm_num), ih]

end Cert.Loss

namespace Cert.Kernel12Ideal.Loss

open Cert.Kernel12Ideal Cert.Kernel12Ideal.Gen Cert.Kernel12Ideal.Value
open Idealize.ShloMosaic Idealize.ShloMosaic.TcCoe Idealize.ShloMosaic.Tactic Idealize.SL.Sem
open Cert.Kernel8Ideal.XattnBwd (hz root_at xr gr gainG gainG_at part parts)
open Cert.Loss (err slopeOf loss dgain half_sum)

section Stored
variable {F : FTy → Type} [FloatOps F]
variable (x0 x1 : Vec F S512x1024 .f32) (x2 : Vec F S1x1024 .f32)

/-- What a point stores: the rows' gradient, its shares of the gain's gradient and of the loss, the sums so far. -/
def s3 : Vec F S512x1024 .f32 := k0_pay1 (k0_pay11 x0 x1 x2 x2) (k0_pay12 x0) (k0_pay13 x0 x1 x2 x2)
def s4 : Vec F S1x1024 .f32 := gainG x0 (Cert.Kernel8Ideal.Gen.k0_pay3 x0) (k0_pay9 x0 x1 x2)
def s5 : Vec F S8x128 .f32 := k0_pay3 (k0_pay8 x0 x1 x2)
def t4 (z : Vec F S1x1024 .f32) : Vec F S1x1024 .f32 := addf (shapeCast S1x1024 z shapeCasts_S1x1024_S1x1024) (s4 x0 x1 x2)
def t5 (z : Vec F S8x128 .f32) : Vec F S8x128 .f32 := addf (shapeCast S8x128 z shapeCasts_S8x128_S8x128) (s5 x0 x1 x2)

-- Any memrefs a point may run on.
variable (c : Dev nD) (i : grid0.Coords)
  (a1 : Memref sig .tc .vmem S512x1024 .f32) (h1 : a1.IsWhole) (a2 : Memref sig .tc .vmem S512x1024 .f32) (h2 : a2.IsWhole)
  (a3 : Memref sig .tc .vmem S1x1024 .f32) (h3 : a3.IsWhole) (a4 : Memref sig .tc .vmem S512x1024 .f32) (h4 : a4.IsWhole)
  (a5 : Memref sig .tc .vmem S1x1024 .f32) (h5 : a5.IsWhole) (a6 : Memref sig .tc .vmem S8x128 .f32) (h6 : a6.IsWhole)

theorem pieceA3 (hc0 : cond0_0 i) (hc1 : ¬cond0_1 i) (hc2 : cond0_2 i) (hc3 : ¬cond0_3 i) :
    out0_A_3 c i a1 h1 a2 h2 a3 h3 a4 h4 a5 h5 a6 h6 hc0 hc1 hc2 hc3 x0 x1 x2 = s3 x0 x1 x2 := by
  unfold out0_A_3
  rw [View.read_writes_eq_canon _ _ _ (cover0_A_3 c i a1 h1 a2 h2 a3 h3 a4 h4 a5 h5 a6 h6 hc0 hc1 hc2 hc3 x0 x1 x2)]
  unfold kernelRun0_A
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]
  rfl

theorem pieceA4 (hc0 : cond0_0 i) (hc1 : ¬cond0_1 i) (hc2 : cond0_2 i) (hc3 : ¬cond0_3 i) :
    out0_A_4 c i a1 h1 a2 h2 a3 h3 a4 h4 a5 h5 a6 h6 hc0 hc1 hc2 hc3 x0 x1 x2 = s4 x0 x1 x2 := by
  unfold out0_A_4
  rw [View.read_writes_eq_canon _ _ _ (cover0_A_4 c i a1 h1 a2 h2 a3 h3 a4 h4 a5 h5 a6 h6 hc0 hc1 hc2 hc3 x0 x1 x2)]
  unfold kernelRun0_A
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]
  rfl

theorem pieceA5 (hc0 : cond0_0 i) (hc1 : ¬cond0_1 i) (hc2 : cond0_2 i) (hc3 : ¬cond0_3 i) :
    out0_A_5 c i a1 h1 a2 h2 a3 h3 a4 h4 a5 h5 a6 h6 hc0 hc1 hc2 hc3 x0 x1 x2 = s5 x0 x1 x2 := by
  unfold out0_A_5
  rw [View.read_writes_eq_canon _ _ _ (cover0_A_5 c i a1 h1 a2 h2 a3 h3 a4 h4 a5 h5 a6 h6 hc0 hc1 hc2 hc3 x0 x1 x2)]
  unfold kernelRun0_A
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]
  rfl

theorem pieceB3 (hc0 : ¬cond0_0 i) (hc1 : cond0_1 i) (hc2 : ¬cond0_2 i) (hc3 : cond0_3 i) (z4 : Vec F S1x1024 .f32) (z5 : Vec F S8x128 .f32) :
    out0_B_3 c i a1 h1 a2 h2 a3 h3 a4 h4 a5 h5 a6 h6 hc0 hc1 hc2 hc3 x0 x1 x2 z4 z5 = s3 x0 x1 x2 := by
  unfold out0_B_3
  rw [View.read_writes_eq_canon _ _ _ (cover0_B_3 c i a1 h1 a2 h2 a3 h3 a4 h4 a5 h5 a6 h6 hc0 hc1 hc2 hc3 x0 x1 x2 z4 z5)]
  unfold kernelRun0_B
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]
  rfl

theorem pieceB4 (hc0 : ¬cond0_0 i) (hc1 : cond0_1 i) (hc2 : ¬cond0_2 i) (hc3 : cond0_3 i) (z4 : Vec F S1x1024 .f32) (z5 : Vec F S8x128 .f32) :
    out0_B_4 c i a1 h1 a2 h2 a3 h3 a4 h4 a5 h5 a6 h6 hc0 hc1 hc2 hc3 x0 x1 x2 z4 z5 = t4 x0 x1 x2 z4 := by
  unfold out0_B_4
  rw [View.read_writes_eq_canon _ _ _ (cover0_B_4 c i a1 h1 a2 h2 a3 h3 a4 h4 a5 h5 a6 h6 hc0 hc1 hc2 hc3 x0 x1 x2 z4 z5)]
  unfold kernelRun0_B
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]
  rfl

theorem pieceB5 (hc0 : ¬cond0_0 i) (hc1 : cond0_1 i) (hc2 : ¬cond0_2 i) (hc3 : cond0_3 i) (z4 : Vec F S1x1024 .f32) (z5 : Vec F S8x128 .f32) :
    out0_B_5 c i a1 h1 a2 h2 a3 h3 a4 h4 a5 h5 a6 h6 hc0 hc1 hc2 hc3 x0 x1 x2 z4 z5 = t5 x0 x1 x2 z5 := by
  unfold out0_B_5
  rw [View.read_writes_eq_canon _ _ _ (cover0_B_5 c i a1 h1 a2 h2 a3 h3 a4 h4 a5 h5 a6 h6 hc0 hc1 hc2 hc3 x0 x1 x2 z4 z5)]
  unfold kernelRun0_B
  dsimp only
  sl_unfold_words
  rw [View.canon_unit_zero hz]
  simp only [View.readAt_eq_ld, h1.read_unread, h2.read_unread, h3.read_unread, h5.read_unread, h6.read_unread, View.ld_unit_zero (S := S512x1024) hz, View.ld_unit_zero (S := S1x1024) hz, View.ld_unit_zero (S := S8x128) hz]
  rfl

end Stored

section Entries
variable (x0 x1 : Vec Ideal S512x1024 .f32) (x2 : Vec Ideal S1x1024 .f32)

theorem err_at (p : Fin 512) (k : Fin 1024) : k0_pay7 x0 x1 x2 (ix2 p k) = err (xr x0 p) (xr x1 p) (gr x2) k := by
  unfold err Mixer.norm Mixer.root xr gr
  pointwise! [k0_pay7, k0_pay6]

theorem slope_at (p : Fin 512) (k : Fin 1024) : k0_pay9 x0 x1 x2 (ix2 p k) = slopeOf (xr x0 p) (xr x1 p) (gr x2) k := by
  unfold slopeOf
  rw [← err_at]
  unfold k0_pay9
  generalize k0_pay7 x0 x1 x2 = e
  pointwise!

/-- The rows' gradient, from that with respect to the normed rows. -/
def ownG (x : FVec Ideal S512x1024 .f32) (r : FVec Ideal S512x1 .f32) (n : FVec Ideal S512x1024 .f32) (g : FVec Ideal S1x1024 .f32) : FVec Ideal S512x1024 .f32 :=
  subf (mulf (broadcastTo S512x1024 r broadcasts_S512x1_S512x1024) (mulf n (broadcastTo S512x1024 g broadcasts_S1x1024_S512x1024)))
    (mulf (mulf x (broadcastTo S512x1024 (mulf (mulf r r) r) broadcasts_S512x1_S512x1024))
      (broadcastTo S512x1024 (divf (shapeCast S512x1 (multiReduction .add [1] S512 (mulf (mulf n (broadcastTo S512x1024 g broadcasts_S1x1024_S512x1024)) x) 0x00000000#32 reduces_S512x1024_S512 (.inl rfl) rfl) shapeCasts_S512_S512x1) (broadcast S512x1 (Scalar.ofBits .f32 0x44800000#32))) broadcasts_S512x1_S512x1024))

theorem ownG_at (x : FVec Ideal S512x1024 .f32) (r : FVec Ideal S512x1 .f32) (n : FVec Ideal S512x1024 .f32) (g : FVec Ideal S1x1024 .f32) (p : Fin 512) (k : Fin 1024) :
    ownG x r n g (ix2 p k) = r (ix2 p 0) * (n (ix2 p k) * g (ix2 0 k)) - x (ix2 p k) * (r (ix2 p 0) * r (ix2 p 0) * r (ix2 p 0))
      * Ideal.div (∑ j : Fin 1024, n (ix2 p j) * g (ix2 0 j) * x (ix2 p j)) (Ideal.ofBits .f32 0x44800000#32) := by
  pointwise! [ownG]

theorem s3_eq : s3 x0 x1 x2 = ownG x0 (Cert.Kernel8Ideal.Gen.k0_pay3 x0) (k0_pay9 x0 x1 x2) (shapeCast S1x1024 x2 shapeCasts_S1x1024_S1x1024) := by
  unfold s3 ownG k0_pay1 k0_pay11 k0_pay12 k0_pay13 k0_pay10
  rfl

theorem row3 (p : Fin 512) (k : Fin 1024) :
    s3 x0 x1 x2 (ix2 p k) = Mixer.dx (xr x0 p) (fun _ => 0) (gr x2) (slopeOf (xr x0 p) (xr x1 p) (gr x2)) k := by
  have hg : ∀ j : Fin 1024, shapeCast S1x1024 x2 shapeCasts_S1x1024_S1x1024 (ix2 0 j) = x2 (ix2 0 j) := fun j => by pointwise!
  rw [s3_eq, ownG_at, root_at, slope_at, hg]
  unfold Mixer.dx
  refine Eq.trans (congrArg _ (congrArg _ (congrArg (Ideal.div · _) (Finset.sum_congr rfl fun j _ => ?_)))) (zero_add _).symm
  rw [slope_at, hg]
  rfl

theorem row4 (k : Fin 1024) : s4 x0 x1 x2 (ix2 0 k) = ∑ p, dgain (xr x0 p) (xr x1 p) (gr x2) k := by
  refine (gainG_at x0 (Cert.Kernel8Ideal.Gen.k0_pay3 x0) (k0_pay9 x0 x1 x2) k).trans (Finset.sum_congr rfl fun p _ => ?_)
  rw [root_at, slope_at]
  rfl

theorem row5 (a : Fin 8) (b : Fin 128) : s5 x0 x1 x2 (ix2 a b) = ∑ p, loss (xr x0 p) (xr x1 p) (gr x2) := by
  refine Eq.trans (b := Ideal.ofBits FTy.f32 0x3F000000#32 * ∑ p : Fin 512, Ideal.div (∑ k : Fin 1024, k0_pay7 x0 x1 x2 (ix2 p k) * k0_pay7 x0 x1 x2 (ix2 p k)) (Ideal.ofBits FTy.f32 0x44800000#32)) ?_ ?_
  · unfold s5 k0_pay8
    generalize k0_pay7 x0 x1 x2 = e
    pointwise! [k0_pay3]
  · rw [half_sum]
    refine Finset.sum_congr rfl fun p _ => congrArg _ (congrArg (Ideal.div · _) (Finset.sum_congr rfl fun k _ => ?_))
    rw [err_at]

theorem t4_at (z : Vec Ideal S1x1024 .f32) (k : Fin 1024) : t4 x0 x1 x2 z (ix2 0 k) = z (ix2 0 k) + s4 x0 x1 x2 (ix2 0 k) := by
  unfold t4
  generalize s4 x0 x1 x2 = w
  pointwise!
theorem t5_at (z : Vec Ideal S8x128 .f32) (a : Fin 8) (b : Fin 128) : t5 x0 x1 x2 z (ix2 a b) = z (ix2 a b) + s5 x0 x1 x2 (ix2 a b) := by
  unfold t5
  generalize s5 x0 x1 x2 = w
  pointwise!

end Entries

variable (m : (ℓ : Loc nD τ sig) → Buf (Elt Ideal) ℓ)

/-- The arguments, and the target and the gain in the shapes the call takes them in. -/
def A0 (c : Dev nD) : Vec Ideal S4096x1024 .f32 := m ((c : Thread nD τ).loc main_arg0)
abbrev A1 (c : Dev nD) : Vec Ideal S1x4096x1024 .f32 := m ((c : Thread nD τ).loc main_arg1)
abbrev A2 (c : Dev nD) : Vec Ideal S1024 .f32 := m ((c : Thread nD τ).loc main_arg2)
def T (c : Dev nD) : Vec Ideal S4096x1024 .f32 := V m c main_v0
def G (c : Dev nD) : Vec Ideal S1x1024 .f32 := V m c main_v1

theorem T_at (c : Dev nD) (r : Fin 4096) (k : Fin 1024) : (V m c main_v0 (ix2 r k) : EReal) = A1 m c (ix3 0 r k) := by
  unfold_abbrev_sides
  after_results
  clean_types
  pointwise
  try rfl
theorem G_at (c : Dev nD) (k : Fin 1024) : (V m c main_v1 (ix2 0 k) : EReal) = A2 m c (ix1 k) := by
  unfold_abbrev_sides
  after_results
  clean_types
  pointwise
  try rfl

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = 0 ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)

/-- The blocks of rows that point `t` reads; the gain's block is the whole gain. -/
theorem x0_at (c : Dev nD) (t : Fin cfg0.N) (p : Fin 512) (k : Fin 1024) (h : 512 * t.val + p.val < 4096) :
    (iblk m c 0 t : Vec Ideal S512x1024 .f32) (ix2 p k) = A0 m c (ix2 ⟨512 * t.val + p.val, h⟩ k) := by
  unfold A0 iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(at0 t).1]; omega
  | ⟨1, _⟩ => show win0_0.index t 1 * 1024 + 1 * k.val = k.val; rw [(at0 t).2]; omega

theorem x1_at (c : Dev nD) (t : Fin cfg0.N) (p : Fin 512) (k : Fin 1024) (h : 512 * t.val + p.val < 4096) :
    (iblk m c 1 t : Vec Ideal S512x1024 .f32) (ix2 p k) = T m c (ix2 ⟨512 * t.val + p.val, h⟩ k) := by
  unfold T iblk
  rw [View.read_apply]
  show V m c main_v0 _ = V m c main_v0 _
  congr 1
  funext a
  apply Fin.ext
  match a with
  | ⟨0, _⟩ => show win0_1.index t 0 * 512 + 1 * p.val = 512 * t.val + p.val; rw [(at1 t).1]; omega
  | ⟨1, _⟩ => show win0_1.index t 1 * 1024 + 1 * k.val = k.val; rw [(at1 t).2]; omega

theorem x2_eq (c : Dev nD) (t : Fin cfg0.N) : iblk m c 2 t = G m c := by
  funext i
  unfold G iblk
  rw [View.read_apply]
  show V m c main_v1 _ = V m c main_v1 _
  congr 1
  funext a
  apply Fin.ext
  match a with
  | ⟨0, _⟩ => show win0_2.index t 0 * 1 + 1 * (i 0).val = (i 0).val; rw [(at2 t).1]; omega
  | ⟨1, _⟩ => show win0_2.index t 1 * 1024 + 1 * (i 1).val = (i 1).val; rw [(at2 t).2]; omega

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

def row (x : Vec Ideal S4096x1024 .f32) (r : Fin 4096) : Fin 1024 → EReal := fun j => x (ix2 r j)

section Blocks
variable (c : Dev nD) (t : Fin cfg0.N) (p : Fin 512) (h : 512 * t.val + p.val < 4096)
theorem rows0 : xr (iblk m c 0 t) p = row (A0 m c) ⟨512 * t.val + p.val, h⟩ := funext fun j => x0_at m c t p j h
theorem rows1 : xr (iblk m c 1 t) p = row (T m c) ⟨512 * t.val + p.val, h⟩ := funext fun j => x1_at m c t p j h
end Blocks

theorem zero_of (t : Fin cfg0.N) (h : t.val % 8 = 0) : ¬1 ≤ t.val := by have := lt_N t; omega
theorem pos_of (t : Fin cfg0.N) (h : ¬t.val % 8 = 0) : 1 ≤ t.val := by omega

theorem block3 (c : Dev nD) (t : Fin cfg0.N) :
    (dats m 0 c).flushed 3 t = (cfg0.win 3).cut (grid0.coords t) (s3 (iblk m c 0 t) (iblk m c 1 t) (G m c)) := by
  by_cases h0 : t.val % 8 = 0
  · refine (flushed3_A m c t h0 (zero_of t h0) h0 (zero_of t h0)).trans ?_
    rw [pieceA3, x2_eq]
  · refine (flushed3_B m c t h0 (pos_of t h0) h0 (pos_of t h0)).trans ?_
    rw [pieceB3, x2_eq]

theorem result3 (c : Dev nD) (r : Fin 4096) (q : Fin 1024) :
    ((dats m 0 c).arrAt 3 cfg0.N : Vec Ideal S4096x1024 .f32) (ix2 r q)
      = Mixer.dx (row (A0 m c) r) (fun _ => 0) (gr (G m c)) (slopeOf (row (A0 m c) r) (row (T m c) r) (gr (G m c))) q := by
  obtain ⟨t, p, hr, rfl⟩ := split r
  have h := congrFun ((blocks3 m c t (flush0_3 t)).trans (block3 m c t)) (ix2 p q)
  refine Eq.trans (congrArg ((dats m 0 c).arrAt 3 cfg0.N) (funext fun ax => Fin.ext ?_)) (h.trans ?_)
  · symm
    match ax with
    | ⟨0, _⟩ => show win0_3.index t 0 * 512 + 1 * p.val = 512 * t.val + p.val; rw [(at3 t).1]; omega
    | ⟨1, _⟩ => show win0_3.index t 1 * 1024 + 1 * q.val = q.val; rw [(at3 t).2]; omega
  · rw [← rows0 m c t p hr, ← rows1 m c t p hr]
    exact row3 (iblk m c 0 t) (iblk m c 1 t) (G m c) p q

/-- A row's shares of the gradient with respect to the gain and of the loss. -/
def shareG (c : Dev nD) (k : Fin 1024) (r : Fin 4096) : EReal := dgain (row (A0 m c) r) (row (T m c) r) (gr (G m c)) k
def shareL (c : Dev nD) (r : Fin 4096) : EReal := loss (row (A0 m c) r) (row (T m c) r) (gr (G m c))

theorem part_of (f : Fin 4096 → EReal) (t : Fin cfg0.N) (w : Fin 512 → EReal)
    (hw : ∀ (p : Fin 512) (h : 512 * t.val + p.val < 4096), w p = f ⟨512 * t.val + p.val, h⟩) : ∑ p, w p = part f t.val := by
  refine Finset.sum_congr rfl fun p _ => ?_
  have hr : 512 * t.val + p.val < 4096 := by have := lt_N t; omega
  rw [dif_pos hr]
  exact hw p hr

theorem parts_to (t : Fin cfg0.N) (ht : t.val = 7) (f : Fin 4096 → EReal) : ∑ l ∈ Finset.range (t.val + 1), part f l = ∑ r, f r := by
  rw [ht]
  exact parts f

theorem part4 (c : Dev nD) (t : Fin cfg0.N) (k : Fin 1024) :
    s4 (iblk m c 0 t) (iblk m c 1 t) (G m c) (ix2 0 k) = part (shareG m c k) t.val :=
  (row4 (iblk m c 0 t) (iblk m c 1 t) (G m c) k).trans (part_of _ t _ fun p hr => by
    rw [rows0 m c t p hr, rows1 m c t p hr]
    rfl)
theorem part5 (c : Dev nD) (t : Fin cfg0.N) (a : Fin 8) (b : Fin 128) :
    s5 (iblk m c 0 t) (iblk m c 1 t) (G m c) (ix2 a b) = part (shareL m c) t.val :=
  (row5 (iblk m c 0 t) (iblk m c 1 t) (G m c) a b).trans (part_of _ t _ fun p hr => by
    rw [rows0 m c t p hr, rows1 m c t p hr]
    rfl)

/-- After a point, the running sums are those of the blocks so far. -/
theorem running (c : Dev nD) (k : Fin 1024) (a : Fin 8) (b : Fin 128) : ∀ (n : ℕ) (h : n < cfg0.N),
    (outsAt0 m c n h).2.1 (ix2 0 k) = ∑ t ∈ Finset.range (n + 1), part (shareG m c k) t
      ∧ (outsAt0 m c n h).2.2 (ix2 a b) = ∑ t ∈ Finset.range (n + 1), part (shareL m c) t
  | 0, h => by
    rw [outsAt0_A m c ⟨0, h⟩ (Nat.zero_mod _) (by dsimp only; omega) (Nat.zero_mod _) (by dsimp only; omega)]
    dsimp only
    rw [pieceA4, pieceA5, x2_eq, Finset.sum_range_one, Finset.sum_range_one]
    exact ⟨part4 m c ⟨0, h⟩ k, part5 m c ⟨0, h⟩ a b⟩
  | n + 1, h => by
    have hN : n + 1 < 8 := lt_N ⟨n + 1, h⟩
    rw [outsAt0_B m c ⟨n + 1, h⟩ (by dsimp only; omega) (by dsimp only; omega) (by dsimp only; omega) (by dsimp only; omega)]
    dsimp only
    rw [pieceB4, pieceB5, x2_eq]
    obtain ⟨i4, i5⟩ := running c k a b n (Nat.lt_of_succ_lt h)
    exact ⟨((t4_at (iblk m c 0 ⟨n + 1, h⟩) _ _ _ k).trans (congrArg₂ (· + ·) i4 (part4 m c ⟨n + 1, h⟩ k))).trans (Finset.sum_range_succ _ _).symm,
      ((t5_at (iblk m c 0 ⟨n + 1, h⟩) _ _ _ a b).trans (congrArg₂ (· + ·) i5 (part5 m c ⟨n + 1, h⟩ a b))).trans (Finset.sum_range_succ _ _).symm⟩

theorem last_only4 : ∀ t t' : Fin cfg0.N, (cfg0.win 4).flush t = true → (cfg0.win 4).flush t' = true → t ≠ t' →
    Disjoint ((cfg0.win 4).blk t).view.set ((cfg0.win 4).blk t').view.set := fun t t' h h' hne =>
  absurd (Fin.ext (by have := (flush0_4 t).mp h; have := (flush0_4 t').mp h'; have := lt_N t; have := lt_N t'; omega)) hne

theorem whole4 (c : Dev nD) (t : Fin cfg0.N) (k : Fin 1024) :
    (dats m 0 c).flushed 4 t (ix2 0 k) = (outsAt0 m c t.val t.isLt).2.1 (ix2 0 k) := congrFun (flushed4 m c t) _

theorem result4 (c : Dev nD) (k : Fin 1024) :
    ((dats m 0 c).arrAt 4 cfg0.N : Vec Ideal S1x1024 .f32) (ix2 0 k) = ∑ r, shareG m c k r := by
  obtain ⟨t, ht⟩ : ∃ t : Fin cfg0.N, t.val = 7 := ⟨⟨7, by rw [show cfg0.N = 8 from N_0]; omega⟩, rfl⟩
  have h := (congrFun ((dats m 0 c).read_blk_arrAt_eq_flushed 4 last_only4 cfg0.N t t.isLt ((flush0_4 t).mpr (by rw [ht]))) (ix2 0 k)).trans
    ((whole4 m c t k).trans ((running m c k 0 0 t.val t.isLt).1.trans (parts_to t ht (shareG m c k))))
  refine Eq.trans (congrArg ((dats m 0 c).arrAt 4 cfg0.N) (funext fun ax => Fin.ext ?_)) h
  symm
  match ax with
  | ⟨0, _⟩ => show win0_4.index t 0 * 1 + 1 * 0 = 0; rw [(at4 t).1]
  | ⟨1, _⟩ => show win0_4.index t 1 * 1024 + 1 * k.val = k.val; rw [(at4 t).2]; omega

theorem last_only5 : ∀ t t' : Fin cfg0.N, (cfg0.win 5).flush t = true → (cfg0.win 5).flush t' = true → t ≠ t' →
    Disjoint ((cfg0.win 5).blk t).view.set ((cfg0.win 5).blk t').view.set := fun t t' h h' hne =>
  absurd (Fin.ext (by have := (flush0_5 t).mp h; have := (flush0_5 t').mp h'; have := lt_N t; have := lt_N t'; omega)) hne

theorem whole5 (c : Dev nD) (t : Fin cfg0.N) (a : Fin 8) (b : Fin 128) :
    (dats m 0 c).flushed 5 t (ix2 a b) = (outsAt0 m c t.val t.isLt).2.2 (ix2 a b) := congrFun (flushed5 m c t) _

theorem result5 (c : Dev nD) (a : Fin 8) (b : Fin 128) :
    ((dats m 0 c).arrAt 5 cfg0.N : Vec Ideal S8x128 .f32) (ix2 a b) = ∑ r, shareL m c r := by
  obtain ⟨t, ht⟩ : ∃ t : Fin cfg0.N, t.val = 7 := ⟨⟨7, by rw [show cfg0.N = 8 from N_0]; omega⟩, rfl⟩
  have h := (congrFun ((dats m 0 c).read_blk_arrAt_eq_flushed 5 last_only5 cfg0.N t t.isLt ((flush0_5 t).mpr (by rw [ht]))) (ix2 a b)).trans
    ((whole5 m c t a b).trans ((running m c 0 a b t.val t.isLt).2.trans (parts_to t ht (shareL m c))))
  refine Eq.trans (congrArg ((dats m 0 c).arrAt 5 cfg0.N) (funext fun ax => Fin.ext ?_)) h
  symm
  match ax with
  | ⟨0, _⟩ => show win0_5.index t 0 * 8 + 1 * a.val = a.val; rw [(at5 t).1]; omega
  | ⟨1, _⟩ => show win0_5.index t 1 * 128 + 1 * b.val = b.val; rw [(at5 t).2]; omega

end Cert.Kernel12Ideal.Loss

namespace Cert.Reference12Ideal.Loss

open Cert.Reference12Ideal Cert.Reference12Ideal.Gen
open Idealize.ShloMosaic Idealize.ShloMosaic.TcCoe Idealize.ShloMosaic.Tactic Idealize.SL.Sem Idealize.ShloMosaic.StableHlo
open Cert.Reference8Ideal.XattnBwd (vec row gains gains_at roots roots_at normed normed_at gainGrad gainGrad_at pulled pulled_at)
open Cert.Loss (err slopeOf loss dgain slope_by half_sum)

section Terms
variable (x : FVec Ideal S4096x1024 .f32) (t : FVec Ideal S1x4096x1024 .f32) (g : FVec Ideal S1024 .f32)

/-- The reference's stages. -/
def gain : FVec Ideal S1x1024 .f32 := broadcastInDim S1x1024 ![1] bcast_S1024_S1x1024_1 g
def target : FVec Ideal S4096x1024 .f32 := shapeCast _ t shapeCasts_S1x4096x1024_S4096x1024
def errs : FVec Ideal S4096x1024 .f32 := subf (normed x (gain g)) (target t)
def slopes : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) (errs x t g))
def ownGrad (d : FVec Ideal S4096x1024 .f32) : FVec Ideal S4096x1024 .f32 :=
  addf (addf (mulf (mulf d (gains (gain g))) (roots x)) (mulf x (pulled x (gain g) d))) (mulf (pulled x (gain g) d) x)
def total : FVec Ideal S8x128 .f32 :=
  broadcastInDim S8x128 ![] bcast_S_S8x128 (mulf (constant S_ .f32 0x3F000000#32) (Host.reduceAdd (Host.divf (Host.reduceAdd (mulf (errs x t g) (errs x t g)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem gain_at (k : Fin 1024) : gain g (ix2 0 k) = g (ix1 k) := by pointwise! [gain]
theorem target_at (r : Fin 4096) (k : Fin 1024) : target t (ix2 r k) = t (ix3 0 r k) := by pointwise! [target]

theorem errs_at (r : Fin 4096) (k : Fin 1024) : errs x t g (ix2 r k) = err (row x r) (row (target t) r) (vec (gain g)) k := by
  refine Eq.trans (b := normed x (gain g) (ix2 r k) - target t (ix2 r k)) (by unfold errs; generalize normed x (gain g) = a; generalize target t = b; pointwise!) ?_
  rw [normed_at]
  rfl

theorem slopes_at (r : Fin 4096) (k : Fin 1024) : slopes x t g (ix2 r k) = slopeOf (row x r) (row (target t) r) (vec (gain g)) k := by
  unfold slopeOf
  rw [← errs_at, ← slope_by]
  unfold slopes
  generalize errs x t g = e
  pointwise!

theorem rows_at (r : Fin 4096) (q : Fin 1024) :
    ownGrad x g (slopes x t g) (ix2 r q)
      = Mixer.dx (row x r) (fun _ => 0) (vec (gain g)) (slopeOf (row x r) (row (target t) r) (vec (gain g))) q := by
  rw [← Mixer.dx_eq, ← show row (slopes x t g) r = slopeOf (row x r) (row (target t) r) (vec (gain g)) from funext fun k => slopes_at x t g r k]
  generalize slopes x t g = d
  refine Eq.trans (b := d (ix2 r q) * gains (gain g) (ix2 r q) * roots x (ix2 r q) + x (ix2 r q) * pulled x (gain g) d (ix2 r q)
    + pulled x (gain g) d (ix2 r q) * x (ix2 r q)) (by unfold ownGrad; generalize gains (gain g) = a; generalize roots x = b; generalize pulled x (gain g) d = e; pointwise!) ?_
  rw [gains_at, roots_at, pulled_at]
  unfold Mixer.dxBy
  rw [zero_add]
  rfl

theorem gainGrad_of (k : Fin 1024) :
    gainGrad x (slopes x t g) (ix2 0 k) = ∑ r, dgain (row x r) (row (target t) r) (vec (gain g)) k := by
  refine (gainGrad_at x (slopes x t g) k).trans (Finset.sum_congr rfl fun r _ => ?_)
  rw [slopes_at]
  unfold dgain
  rw [mul_assoc (slopeOf _ _ _ _), mul_comm]
  rfl

theorem total_at (a : Fin 8) (b : Fin 128) : total x t g (ix2 a b) = ∑ r, loss (row x r) (row (target t) r) (vec (gain g)) := by
  refine Eq.trans (b := Ideal.ofBits FTy.f32 0x3F000000#32 * ∑ r : Fin 4096, Ideal.div (∑ k : Fin 1024, errs x t g (ix2 r k) * errs x t g (ix2 r k)) (Ideal.ofBits FTy.f32 0x44800000#32)) ?_ ?_
  · unfold total
    generalize errs x t g = e
    pointwise!
  · rw [half_sum]
    refine Finset.sum_congr rfl fun r _ => congrArg _ (congrArg (Ideal.div · _) (Finset.sum_congr rfl fun k _ => ?_))
    rw [errs_at]

end Terms

theorem rows_eq (m : (ℓ : Loc nD τ sig) → Buf (Elt Ideal) ℓ) (c : Dev nD) : Value.res_main_v50 m c
    = ownGrad (m ((c.tc : Thread nD τ).loc main_arg0)) (m ((c.tc : Thread nD τ).loc main_arg2))
      (slopes (m ((c.tc : Thread nD τ).loc main_arg0)) (m ((c.tc : Thread nD τ).loc main_arg1)) (m ((c.tc : Thread nD τ).loc main_arg2))) := rfl

theorem quiet : Cert.quiescent_Reference12Ideal (hReference12Ideal := Gen.facts) :=
  fun m ρ _ => (θ_run defs _ _).mono
    (fun r h => ⟨fun c => (h c).2.2.2, Idealize.ShloMosaic.sem_eq_zero_of_no_sems (by decide) r.2⟩) (Value.run m ρ)

end Cert.Reference12Ideal.Loss

namespace Cert.Loss

open Idealize.ShloMosaic Idealize.ShloMosaic.TcCoe Idealize.SL.Sem
open Cert.Kernel12Ideal.Gen (dats)
open Cert.Kernel12Ideal.Loss (A0 A1 A2 T G T_at G_at)
open Cert.Reference12Ideal.Loss (target target_at gain gain_at)

section Same
variable (m : (ℓ : Loc Cert.Kernel12Ideal.nD Cert.Kernel12Ideal.τ Cert.Kernel12Ideal.sig) → Buf (Elt Ideal) ℓ) (c : Dev Cert.Kernel12Ideal.nD)
theorem target_eq (r : Fin 4096) : Cert.Kernel12Ideal.Loss.row (T m c) r = Cert.Reference8Ideal.XattnBwd.row (target (A1 m c)) r :=
  funext fun k => (T_at m c r k).trans (target_at (A1 m c) r k).symm
theorem gain_eq : Cert.Kernel8Ideal.XattnBwd.gr (G m c) = Cert.Reference8Ideal.XattnBwd.vec (gain (A2 m c)) :=
  funext fun k => (G_at m c k).trans (gain_at (A2 m c) k).symm
theorem sumG_eq (k : Fin 1024) : ∑ r, Cert.Kernel12Ideal.Loss.shareG m c k r
    = ∑ r, dgain (Cert.Reference8Ideal.XattnBwd.row (A0 m c) r) (Cert.Reference8Ideal.XattnBwd.row (target (A1 m c)) r) (Cert.Reference8Ideal.XattnBwd.vec (gain (A2 m c))) k :=
  Finset.sum_congr rfl fun r _ => by
    unfold Cert.Kernel12Ideal.Loss.shareG
    rw [target_eq, gain_eq]
    rfl
theorem sumL_eq : ∑ r, Cert.Kernel12Ideal.Loss.shareL m c r
    = ∑ r, loss (Cert.Reference8Ideal.XattnBwd.row (A0 m c) r) (Cert.Reference8Ideal.XattnBwd.row (target (A1 m c)) r) (Cert.Reference8Ideal.XattnBwd.vec (gain (A2 m c))) :=
  Finset.sum_congr rfl fun r _ => by
    unfold Cert.Kernel12Ideal.Loss.shareL
    rw [target_eq, gain_eq]
    rfl
end Same

/-- The call's three results are the reference's. -/
theorem values : Cert.algebraic_Kernel12Ideal_Reference12Ideal (hKernel12Ideal := Cert.Kernel12Ideal.Gen.facts)
    (hReference12Ideal := Cert.Reference12Ideal.Gen.facts) := by
  intro m ρ m' ρ' _ hag
  refine ⟨fun c => (dats m 0 c).arrAt 3 Cert.Kernel12Ideal.cfg0.N, fun c => (dats m 0 c).arrAt 4 Cert.Kernel12Ideal.cfg0.N,
    fun c => (dats m 0 c).arrAt 5 Cert.Kernel12Ideal.cfg0.N, Cert.Kernel12Ideal.Value.run_blocks m ρ, ?_⟩
  refine (θ_run Cert.Reference12Ideal.defs _ _).mono (fun r h c => ?_) (Cert.Reference12Ideal.Value.run m' ρ')
  obtain ⟨g0, g1, g2⟩ := hag c
  obtain ⟨h0, h1, h2, hk⟩ := h c
  refine ⟨h0.trans ?_, h1.trans ?_, h2.trans ?_, hk⟩
  · rw [Cert.Reference12Ideal.Loss.rows_eq, g0, g1, g2]
    funext i
    obtain ⟨p, q, rfl⟩ : ∃ (p : Fin 4096) (q : Fin 1024), i = ix2 p q := ⟨i 0, i 1, eq_ix2 i⟩
    refine (Cert.Reference12Ideal.Loss.rows_at _ _ _ p q).trans ((Cert.Kernel12Ideal.Loss.result3 m c p q).trans ?_).symm
    rw [target_eq, gain_eq]
    rfl
  · rw [g0, g1, g2]
    funext i
    obtain ⟨p, q, rfl⟩ : ∃ (p : Fin 1) (q : Fin 1024), i = ix2 p q := ⟨i 0, i 1, eq_ix2 i⟩
    obtain rfl : p = 0 := Subsingleton.elim _ _
    exact (Cert.Reference12Ideal.Loss.gainGrad_of _ _ _ q).trans ((Cert.Kernel12Ideal.Loss.result4 m c q).trans (sumG_eq m c q)).symm
  · rw [g0, g1, g2]
    funext i
    obtain ⟨p, q, rfl⟩ : ∃ (p : Fin 8) (q : Fin 128), i = ix2 p q := ⟨i 0, i 1, eq_ix2 i⟩
    exact (Cert.Reference12Ideal.Loss.total_at _ _ _ p q).trans ((Cert.Kernel12Ideal.Loss.result5 m c p q).trans (sumL_eq m c)).symm

end Cert.Loss

end
-- ==== Proof.MixOut.lean ====
module

public import proofs.«01_k».proof.Proof.MixInBwd
public import proofs.«01_k».proof.Proof.Gen.Kernel13Ideal.Value
public import proofs.«01_k».proof.Proof.Gen.Reference13Ideal.Run
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The projection out of the mixers: eight blocks of 512 rows, the two mixers' normed outputs side by side. -/

noncomputable section

namespace Cert.MixOut

open Idealize.ShloMosaic
open Cert.MixInBwd (join)

/-- Of half a row: the reciprocal root, the norm; and the row that the mixers' outputs give. -/
def root (x : Fin 512 → EReal) : EReal :=
  Ideal.rsqrt (Ideal.div (∑ j, x j * x j) (Ideal.ofBits FTy.f32 0x44000000#32) + Ideal.ofBits FTy.f32 0x358637BD#32)
def normOf (x g : Fin 512 → EReal) (k : Fin 512) : EReal := x k * root x * g k
def mixed (h : Fin 1024 → EReal) (a b ga gb : Fin 512 → EReal) (w : Fin 1024 → Fin 1024 → EReal) (q : Fin 1024) : EReal :=
  h q + ∑ j, join (normOf a ga) (normOf b gb) j * w j q

end Cert.MixOut

namespace Cert.Kernel13Ideal.MixOut

open Cert.Kernel13Ideal Cert.Kernel13Ideal.Gen Cert.Kernel13Ideal.Value
open Idealize.ShloMosaic Idealize.ShloMosaic.TcCoe Idealize.ShloMosaic.Tactic Idealize.SL.Sem
open Cert.Kernel8Ideal.XattnBwd (hz mat xr)
open Cert.Kernel10Ideal.MixIn (wide wide_at)
open Cert.Kernel11Ideal.MixInBwd (hr s8 row8)
open Cert.MixOut (root normOf mixed)
open Cert.MixInBwd (join)

def gh (g : FVec Ideal S1x512 .f32) : Fin 512 → EReal := fun k => g (ix2 0 k)

/-- The normed half rows. -/
def normG {F : FTy → Type} [FloatOps F] (x : FVec F S512x512 .f32) (g : FVec F S1x512 .f32) : FVec F S512x512 .f32 :=
  mulf (mulf x (broadcastTo S512x512 (rsqrt (addf (divf (shapeCast S512x1 (multiReduction .add [1] S512 (mulf x x) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512)) (broadcastTo S512x512 g broadcasts_S1x512_S512x512)

section Payloads
variable (x0 : FVec Ideal S512x1024 .f32) (x1 x2 : FVec Ideal S512x512 .f32) (x3 x4 : FVec Ideal S1x512 .f32) (x5 : FVec Ideal S1024x1024 .bf16)

theorem normG_at (p k : Fin 512) : normG x1 x3 (ix2 p k) = normOf (hr x1 p) (gh x3) k := by
  unfold normOf root hr gh
  pointwise! [normG]

theorem pay_eq : k0_pay1 (F := Ideal) x0 x1 x2 x3 x4 x5 = addf x0 (wide (s8 (normG x1 x3) (normG x2 x4)) x5) := rfl

theorem normed_row (p : Fin 512) : hr (normG x1 x3) p = normOf (hr x1 p) (gh x3) := funext fun k => normG_at x1 x3 p k

theorem row6 (p : Fin 512) (q : Fin 1024) :
    k0_pay1 (F := Ideal) x0 x1 x2 x3 x4 x5 (ix2 p q) = mixed (xr x0 p) (hr x1 p) (hr x2 p) (gh x3) (gh x4) (mat x5) q := by
  refine Eq.trans (b := x0 (ix2 p q) + wide (s8 (normG x1 x3) (normG x2 x4)) x5 (ix2 p q)) ?_ ?_
  · rw [pay_eq]
    generalize wide (s8 (normG x1 x3) (normG x2 x4)) x5 = z
    pointwise!
  · refine congrArg (x0 (ix2 p q) + ·) ((wide_at x5 _ p q).trans (Finset.sum_congr rfl fun j _ => Ideal.mul_congr ?_ rfl))
    rw [row8, normed_row, normed_row]

end Payloads

theorem piece6 {F : FTy → Type} [FloatOps F] (x0 : Vec F S512x1024 .f32) (x1 x2 : Vec F S512x512 .f32) (x3 x4 : Vec F S1x512 .f32) (x5 : Vec F S1024x1024 .bf16) :
    out0_6 x0 x1 x2 x3 x4 x5 = k0_pay1 x0 x1 x2 x3 x4 x5 := by
  unfold out0_6
  rw [View.canon_unit_zero hz]
  simp only [View.ld_unit_zero (S := S512x1024) hz, View.ld_unit_zero (S := S512x512) hz, View.ld_unit_zero (S := S1x512) hz, View.ld_unit_zero (S := S1024x1024) hz]

variable (m : (ℓ : Loc nD τ sig) → Buf (Elt Ideal) ℓ)

/-- The arguments. -/
def A0 (c : Dev nD) : Vec Ideal S4096x1024 .f32 := m ((c : Thread nD τ).loc main_arg0)
def A1 (c : Dev nD) : Vec Ideal S4096x512 .f32 := m ((c : Thread nD τ).loc main_arg1)
def A2 (c : Dev nD) : Vec Ideal S4096x512 .f32 := m ((c : Thread nD τ).loc main_arg2)
def A3 (c : Dev nD) : Vec Ideal S1x512 .f32 := m ((c : Thread nD τ).loc main_arg3)
def A4 (c : Dev nD) : Vec Ideal S1x512 .f32 := m ((c : Thread nD τ).loc main_arg4)
def A5 (c : Dev nD) : Vec Ideal S1024x1024 .bf16 := m ((c : Thread nD τ).loc main_arg5)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)

/-- The blocks of rows that point `t` reads; the other blocks are the whole arguments. -/
theorem x0_at (c : Dev nD) (t : Fin cfg0.N) (p : Fin 512) (k : Fin 1024) (h : 512 * t.val + p.val < 4096) :
    (iblk m c 0 t : Vec Ideal S512x1024 .f32) (ix2 p k) = A0 m c (ix2 ⟨512 * t.val + p.val, h⟩ k) := by
  unfold A0 iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(at0 t).1]; omega
  | ⟨1, _⟩ => show win0_0.index t 1 * 1024 + 1 * k.val = k.val; rw [(at0 t).2]; omega

theorem x1_at (c : Dev nD) (t : Fin cfg0.N) (p : Fin 512) (k : Fin 512) (h : 512 * t.val + p.val < 4096) :
    (iblk m c 1 t : Vec Ideal S512x512 .f32) (ix2 p k) = A1 m c (ix2 ⟨512 * t.val + p.val, h⟩ k) := by
  unfold A1 iblk
  rw [View.read_apply]
  show V m c main_arg1 _ = m (c.tc.loc main_arg1) _
  rw [V_main_arg1]
  congr 1
  funext a
  apply Fin.ext
  match a with
  | ⟨0, _⟩ => show win0_1.index t 0 * 512 + 1 * p.val = 512 * t.val + p.val; rw [(at1 t).1]; omega
  | ⟨1, _⟩ => show win0_1.index t 1 * 512 + 1 * k.val = k.val; rw [(at1 t).2]; omega

theorem x2_at (c : Dev nD) (t : Fin cfg0.N) (p : Fin 512) (k : Fin 512) (h : 512 * t.val + p.val < 4096) :
    (iblk m c 2 t : Vec Ideal S512x512 .f32) (ix2 p k) = A2 m c (ix2 ⟨512 * t.val + p.val, h⟩ k) := by
  unfold A2 iblk
  rw [View.read_apply]
  show V m c main_arg2 _ = m (c.tc.loc main_arg2) _
  rw [V_main_arg2]
  congr 1
  funext a
  apply Fin.ext
  match a with
  | ⟨0, _⟩ => show win0_2.index t 0 * 512 + 1 * p.val = 512 * t.val + p.val; rw [(at2 t).1]; omega
  | ⟨1, _⟩ => show win0_2.index t 1 * 512 + 1 * k.val = k.val; rw [(at2 t).2]; omega

theorem x3_eq (c : Dev nD) (t : Fin cfg0.N) : iblk m c 3 t = A3 m c := by
  funext i
  unfold A3 iblk
  rw [View.read_apply]
  show V m c main_arg3 _ = m (c.tc.loc main_arg3) _
  rw [V_main_arg3]
  congr 1
  funext a
  apply Fin.ext
  match a with
  | ⟨0, _⟩ => show win0_3.index t 0 * 1 + 1 * (i 0).val = (i 0).val; rw [(at3 t).1]; omega
  | ⟨1, _⟩ => show win0_3.index t 1 * 512 + 1 * (i 1).val = (i 1).val; rw [(at3 t).2]; omega

theorem x4_eq (c : Dev nD) (t : Fin cfg0.N) : iblk m c 4 t = A4 m c := by
  funext i
  unfold A4 iblk
  rw [View.read_apply]
  show V m c main_arg4 _ = m (c.tc.loc main_arg4) _
  rw [V_main_arg4]
  congr 1
  funext a
  apply Fin.ext
  match a with
  | ⟨0, _⟩ => show win0_4.index t 0 * 1 + 1 * (i 0).val = (i 0).val; rw [(at4 t).1]; omega
  | ⟨1, _⟩ => show win0_4.index t 1 * 512 + 1 * (i 1).val = (i 1).val; rw [(at4 t).2]; omega

theorem x5_eq (c : Dev nD) (t : Fin cfg0.N) : iblk m c 5 t = A5 m c := by
  funext i
  unfold A5 iblk
  rw [View.read_apply]
  show V m c main_arg5 _ = m (c.tc.loc main_arg5) _
  rw [V_main_arg5]
  congr 1
  funext a
  apply Fin.ext
  match a with
  | ⟨0, _⟩ => show win0_5.index t 0 * 1024 + 1 * (i 0).val = (i 0).val; rw [(at5 t).1]; omega
  | ⟨1, _⟩ => show win0_5.index t 1 * 1024 + 1 * (i 1).val = (i 1).val; rw [(at5 t).2]; omega

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

def row (x : Vec Ideal S4096x1024 .f32) (r : Fin 4096) : Fin 1024 → EReal := fun j => x (ix2 r j)
def half (x : Vec Ideal S4096x512 .f32) (r : Fin 4096) : Fin 512 → EReal := fun j => x (ix2 r j)

section Blocks
variable (c : Dev nD) (t : Fin cfg0.N) (p : Fin 512) (h : 512 * t.val + p.val < 4096)
theorem rows0 : xr (iblk m c 0 t) p = row (A0 m c) ⟨512 * t.val + p.val, h⟩ := funext fun j => x0_at m c t p j h
theorem rows1 : hr (iblk m c 1 t) p = half (A1 m c) ⟨512 * t.val + p.val, h⟩ := funext fun j => x1_at m c t p j h
theorem rows2 : hr (iblk m c 2 t) p = half (A2 m c) ⟨512 * t.val + p.val, h⟩ := funext fun j => x2_at m c t p j h
end Blocks

theorem result (c : Dev nD) (r : Fin 4096) (q : Fin 1024) :
    ((dats m 0 c).arrAt 6 cfg0.N : Vec Ideal S4096x1024 .f32) (ix2 r q)
      = mixed (row (A0 m c) r) (half (A1 m c) r) (half (A2 m c) r) (gh (A3 m c)) (gh (A4 m c)) (mat (A5 m c)) q := by
  obtain ⟨t, p, hr, rfl⟩ := split r
  have h := congrFun ((blocks6 m c t (flush0_6 t)).trans (flushed6 m c t)) (ix2 p q)
  rw [piece6, x3_eq, x4_eq, x5_eq] at h
  refine Eq.trans (congrArg ((dats m 0 c).arrAt 6 cfg0.N) (funext fun ax => Fin.ext ?_)) (h.trans ?_)
  · symm
    match ax with
    | ⟨0, _⟩ => show win0_6.index t 0 * 512 + 1 * p.val = 512 * t.val + p.val; rw [(at6 t).1]; omega
    | ⟨1, _⟩ => show win0_6.index t 1 * 1024 + 1 * q.val = q.val; rw [(at6 t).2]; omega
  · rw [← rows0 m c t p hr, ← rows1 m c t p hr, ← rows2 m c t p hr]
    exact row6 (iblk m c 0 t) (iblk m c 1 t) (iblk m c 2 t) (A3 m c) (A4 m c) (A5 m c) p q

end Cert.Kernel13Ideal.MixOut

namespace Cert.Reference13Ideal.MixOut

open Cert.Reference13Ideal Cert.Reference13Ideal.Gen
open Idealize.ShloMosaic Idealize.ShloMosaic.TcCoe Idealize.ShloMosaic.Tactic Idealize.SL.Sem Idealize.ShloMosaic.StableHlo
open Cert.Reference8Ideal.XattnBwd (mat row)
open Cert.Reference10Ideal.MixIn (projected projected_at)
open Cert.Reference11Ideal.MixInBwd (both both_at half)
open Cert.MixOut (root normOf mixed)

section Terms
variable (h : FVec Ideal S4096x1024 .f32) (a b : FVec Ideal S4096x512 .f32) (ga gb : FVec Ideal S1x512 .f32) (w : FVec Ideal S1024x1024 .bf16)

/-- The reference's stages. -/
def halfNormed (x : FVec Ideal S4096x512 .f32) (g : FVec Ideal S1x512 .f32) : FVec Ideal S4096x512 .f32 :=
  mulf (mulf x (broadcastInDim S4096x512 ![0, 1] bcast_S4096x1_S4096x512_0_1 (Host.rsqrt (addf (Host.divf (broadcastInDim S4096x1 ![0] bcast_S4096_S4096x1_0 (Host.reduceAdd (mulf x x) (constant S_ .f32 0x00000000#32) reducesTo_S4096x512_S4096_d1 h_S_))
    (broadcastInDim S4096x1 ![] bcast_S_S4096x1 (constant S_ .f32 0x44000000#32))) (broadcastInDim S4096x1 ![] bcast_S_S4096x1 (constant S_ .f32 0x358637BD#32)))))) (broadcastInDim S4096x512 ![0, 1] bcast_S1x512_S4096x512_0_1 g)
def out : FVec Ideal S4096x1024 .f32 := addf h (projected (both (halfNormed a ga) (halfNormed b gb)) w)
def gh (g : FVec Ideal S1x512 .f32) : Fin 512 → EReal := fun k => g (ix2 0 k)

theorem halfNormed_at (r : Fin 4096) (k : Fin 512) : halfNormed a ga (ix2 r k) = normOf (half a r) (gh ga) k := by
  unfold normOf root half gh
  pointwise! [halfNormed]

theorem normed_row (r : Fin 4096) : half (halfNormed a ga) r = normOf (half a r) (gh ga) := funext fun k => halfNormed_at a ga r k

theorem out_at (r : Fin 4096) (q : Fin 1024) :
    out h a b ga gb w (ix2 r q) = mixed (row h r) (half a r) (half b r) (gh ga) (gh gb) (mat w) q := by
  refine Eq.trans (b := h (ix2 r q) + projected (both (halfNormed a ga) (halfNormed b gb)) w (ix2 r q)) ?_ ?_
  · unfold out
    generalize projected (both (halfNormed a ga) (halfNormed b gb)) w = z
    pointwise!
  · refine congrArg (h (ix2 r q) + ·) ((projected_at w _ r q).trans (Finset.sum_congr rfl fun j _ => Ideal.mul_congr ?_ rfl))
    rw [both_at, normed_row, normed_row]

end Terms

theorem quiet : Cert.quiescent_Reference13Ideal (hReference13Ideal := Gen.facts) :=
  fun m ρ _ => (θ_run defs _ _).mono
    (fun r h => ⟨fun c => (h c).2, Idealize.ShloMosaic.sem_eq_zero_of_no_sems (by decide) r.2⟩) (Value.run m ρ)

end Cert.Reference13Ideal.MixOut

namespace Cert.MixOut

open Idealize.ShloMosaic Idealize.ShloMosaic.TcCoe Idealize.SL.Sem
open Cert.Kernel13Ideal.Gen (dats)

/-- The call's result is the reference's. -/
theorem values : Cert.algebraic_Kernel13Ideal_Reference13Ideal (hKernel13Ideal := Cert.Kernel13Ideal.Gen.facts)
    (hReference13Ideal := Cert.Reference13Ideal.Gen.facts) := by
  intro m ρ m' ρ' _ hag
  refine ⟨fun c => (dats m 0 c).arrAt 6 Cert.Kernel13Ideal.cfg0.N, Cert.Kernel13Ideal.Value.run_blocks m ρ, ?_⟩
  refine (θ_run Cert.Reference13Ideal.defs _ _).mono (fun r h c => ?_) (Cert.Reference13Ideal.Value.run m' ρ')
  obtain ⟨g0, g1, g2, g3, g4, g5⟩ := hag c
  obtain ⟨h0, hk⟩ := h c
  refine ⟨h0.trans ?_, hk⟩
  rw [g0, g1, g2, g3, g4, g5]
  funext i
  obtain ⟨p, q, rfl⟩ : ∃ (p : Fin 4096) (q : Fin 1024), i = ix2 p q := ⟨i 0, i 1, eq_ix2 i⟩
  exact (Cert.Reference13Ideal.MixOut.out_at _ _ _ _ _ _ p q).trans (Cert.Kernel13Ideal.MixOut.result m c p q).symm

end Cert.MixOut

end
-- ==== Proof.MixOutBwd.lean ====
module

public import proofs.«01_k».proof.Proof.MixOut
public import proofs.«01_k».proof.Proof.Gen.Kernel14Ideal.Value
public import proofs.«01_k».proof.Proof.Gen.Reference14Ideal.Run
public import Idealize.ShloMosaic.Lib.Pointwise
public import Idealize.ShloMosaic.Lib.ValueIdx
public import Idealize.ShloMosaic.Lib.Quiescent
public import Idealize.ShloMosaic.Adequacy
public import Idealize.ShloMosaic.Init

@[expose] public section

set_option maxRecDepth 16384

/- The gradient of the projection out of the mixers: eight blocks of 512 rows, the two gains' gradients summed over the blocks. -/

noncomputable section

namespace Cert.MixOutBwd

open Idealize.ShloMosaic
open Cert.Mixer (div_width double)
open Cert.MixIn (left right)
open Cert.MixInBwd (join join_left join_right)
open Cert.MixOut (root)

/-- Of half a row: its mean, its gradient in closed form and term by term, the gain's gradient; `d` is the gradient
    with respect to the normed half row, the left or the right part of a gradient that the weights give. -/
def mean (x : Fin 512 → EReal) : EReal :=
  Ideal.div (∑ j, x j * x j) (Ideal.ofBits FTy.f32 0x44000000#32) + Ideal.ofBits FTy.f32 0x358637BD#32
def dx (x g d : Fin 512 → EReal) (q : Fin 512) : EReal :=
  root x * (d q * g q) - x q * (root x * root x * root x) * Ideal.div (∑ j, d j * g j * x j) (Ideal.ofBits FTy.f32 0x44000000#32)
def pull (x g d : Fin 512 → EReal) : EReal :=
  Ideal.div ((∑ j, x j * (d j * g j)) * (Ideal.ofBits FTy.f32 0xBF000000#32 * Ideal.div (root x) (mean x))) (Ideal.ofBits FTy.f32 0x44000000#32)
def dxBy (x g d : Fin 512 → EReal) (q : Fin 512) : EReal := d q * g q * root x + x q * pull x g d + pull x g d * x q
def dgain (x d : Fin 512 → EReal) (k : Fin 512) : EReal := d k * x k * root x
def leftOf (dy : Fin 1024 → EReal) (w : Fin 1024 → Fin 1024 → EReal) (f : Fin 512) : EReal := ∑ j, dy j * w (left f) j
def rightOf (dy : Fin 1024 → EReal) (w : Fin 1024 → Fin 1024 → EReal) (f : Fin 512) : EReal := ∑ j, dy j * w (right f) j

theorem div_half (x : EReal) : Ideal.div x (Ideal.ofBits FTy.f32 0x44000000#32) = x * ((1 / 512 : ℝ) : EReal) := by
  rw [show Ideal.ofBits FTy.f32 0x44000000#32 = ((512 : ℝ) : EReal) by simp [Ideal.ofBits, Ideal.ieee]; rw [← EReal.coe_mul]; norm_num,
    Ideal.div_coe (by norm_num)]

/-- The mean of a half row laid out twice is that of the half row. -/
theorem div_twice (x : EReal) : Ideal.div (x + x) (Ideal.ofBits FTy.f32 0x44800000#32) = Ideal.div x (Ideal.ofBits FTy.f32 0x44000000#32) := by
  rw [div_width, div_half, double, mul_assoc, ← EReal.coe_mul]
  norm_num

theorem pull_twice (x y : EReal) :
    Ideal.div ((x + x) * y) (Ideal.ofBits FTy.f32 0x44800000#32) = Ideal.div (x * y) (Ideal.ofBits FTy.f32 0x44000000#32) := by
  rw [double, mul_right_comm, ← double, div_twice]

theorem sum_twice (f : Fin 1024 → EReal) : ∑ j, f j = ∑ j, f (left j) + ∑ j, f (right j) := Fin.sum_univ_add (a := 512) (b := 512) f

theorem mean_twice (x : Fin 512 → EReal) : Mixer.mean (join x x) = mean x := by
  unfold Mixer.mean mean
  rw [sum_twice]
  simp only [join_left, join_right]
  rw [div_twice]
theorem root_twice (x : Fin 512 → EReal) : Mixer.root (join x x) = root x := congrArg Ideal.rsqrt (mean_twice x)

/-- The two gradients agree: as those of the half row laid out twice do. -/
theorem dx_eq (x g d : Fin 512 → EReal) (q : Fin 512) : dxBy x g d q = dx x g d q := by
  have h := Mixer.dx_eq (join x x) (fun _ => 0) (join g g) (join d d) (left q)
  unfold Mixer.dxBy Mixer.dx Mixer.pull at h
  rw [mean_twice, root_twice, sum_twice, sum_twice] at h
  simp only [join_left, join_right, zero_add] at h
  rw [div_twice, pull_twice] at h
  exact h

end Cert.MixOutBwd

namespace Cert.Kernel14Ideal.MixOutBwd

open Cert.Kernel14Ideal Cert.Kernel14Ideal.Gen Cert.Kernel14Ideal.Value
open Idealize.ShloMosaic Idealize.ShloMosaic.TcCoe Idealize.ShloMosaic.Tactic Idealize.SL.Sem
open Cert.Kernel8Ideal.XattnBwd (hz mat xr part parts)
open Cert.Kernel11Ideal.MixInBwd (hr row8)
open Cert.Kernel13Ideal.MixOut (gh normG normed_row)
open Cert.MixOut (root normOf)
open Cert.MixOutBwd (dx dgain leftOf rightOf)
open Cert.MixIn (left right)
open Cert.MixInBwd (join)

section Stored
variable {F : FTy → Type} [FloatOps F]

/-- The half rows' gradient and the gain's, from that with respect to the normed half rows. -/
def ownG (x : FVec F S512x512 .f32) (g : FVec F S1x512 .f32) (n : FVec F S512x512 .f32) : FVec F S512x512 .f32 :=
  k0_pay11 x (k0_pay4 x) (mulf n (broadcastTo S512x512 g broadcasts_S1x512_S512x512))
    (mulf (broadcastTo S512x512 (k0_pay4 x) broadcasts_S512x1_S512x512) (mulf n (broadcastTo S512x512 g broadcasts_S1x512_S512x512)))
def gainG (x n : FVec F S512x512 .f32) : FVec F S1x512 .f32 := k0_pay12 x (k0_pay4 x) n

variable (x0 x1 : Vec F S512x512 .f32) (x2 : Vec F S512x1024 .f32) (x3 x4 : Vec F S1x512 .f32) (x5 : Vec F S1024x1024 .bf16)

/-- What a point stores: the half rows' gradients, the joined normed halves, its shares of the gains' gradients, the sums so far. -/
def s6 : Vec F S512x512 .f32 := ownG x0 x3 (k0_pay8 x2 x5)
def s7 : Vec F S512x512 .f32 := ownG x1 x4 (k0_pay13 (k0_pay3 x2 x5))
def s8 : Vec F S512x1024 .bf16 := Cert.Kernel11Ideal.MixInBwd.s8 (normG x0 x3) (normG x1 x4)
def s9 : Vec F S1x512 .f32 := gainG x0 (k0_pay8 x2 x5)
def s10 : Vec F S1x512 .f32 := gainG x1 (k0_pay13 (k0_pay3 x2 x5))
def plus (z s : Vec F S1x512 .f32) : Vec F S1x512 .f32 := addf (shapeCast S1x512 z shapeCasts_S1x512_S1x512) s

-- Any memrefs a point may run on.
variable (c : Dev nD) (i : grid0.Coords)
  (a1 : Memref sig .tc .vmem S512x512 .f32) (h1 : a1.IsWhole) (a2 : Memref sig .tc .vmem S512x512 .f32) (h2 : a2.IsWhole)
  (a3 : Memref sig .tc .vmem S512x1024 .f32) (h3 : a3.IsWhole) (a4 : Memref sig .tc .vmem S1x512 .f32) (h4 : a4.IsWhole)
  (a5 : Memref sig .tc .vmem S1x512 .f32) (h5 : a5.IsWhole) (a6 : Memref sig .tc .vmem S1024x1024 .bf16) (h6 : a6.IsWhole)
  (a7 : Memref sig .tc .vmem S512x512 .f32) (h7 : a7.IsWhole) (a8 : Memref sig .tc .vmem S512x512 .f32) (h8 : a8.IsWhole)
  (a9 : Memref sig .tc .vmem S512x1024 .bf16) (h9 : a9.IsWhole) (a10 : Memref sig .tc .vmem S1x512 .f32) (h10 : a10.IsWhole)
  (a11 : Memref sig .tc .vmem S1x512 .f32) (h11 : a11.IsWhole)

theorem pieceA6 (hc0 : cond0_0 i) (hc1 : ¬cond0_1 i) (hc2 : cond0_2 i) (hc3 : ¬cond0_3 i) :
    out0_A_6 c i a1 h1 a2 h2 a3 h3 a4 h4 a5 h5 a6 h6 a7 h7 a8 h8 a9 h9 a10 h10 a11 h11 hc0 hc1 hc2 hc3 x0 x1 x2 x3 x4 x5 = s6 x0 x2 x3 x5 := by
  unfold out0_A_6
  rw [View.read_writes_eq_canon _ _ _ (cover0_A_6 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceA7 (hc0 : cond0_0 i) (hc1 : ¬cond0_1 i) (hc2 : cond0_2 i) (hc3 : ¬cond0_3 i) :
    out0_A_7 c i a1 h1 a2 h2 a3 h3 a4 h4 a5 h5 a6 h6 a7 h7 a8 h8 a9 h9 a10 h10 a11 h11 hc0 hc1 hc2 hc3 x0 x1 x2 x3 x4 x5 = s7 x1 x2 x4 x5 := by
  unfold out0_A_7
  rw [View.read_writes_eq_canon _ _ _ (cover0_A_7 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceA8 (hc0 : cond0_0 i) (hc1 : ¬cond0_1 i) (hc2 : cond0_2 i) (hc3 : ¬cond0_3 i) :
    out0_A_8 c i a1 h1 a2 h2 a3 h3 a4 h4 a5 h5 a6 h6 a7 h7 a8 h8 a9 h9 a10 h10 a11 h11 hc0 hc1 hc2 hc3 x0 x1 x2 x3 x4 x5 = s8 x0 x1 x3 x4 := by
  unfold out0_A_8
  rw [View.read_writes_eq_canon _ _ _ (cover0_A_8 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceA9 (hc0 : cond0_0 i) (hc1 : ¬cond0_1 i) (hc2 : cond0_2 i) (hc3 : ¬cond0_3 i) :
    out0_A_9 c i a1 h1 a2 h2 a3 h3 a4 h4 a5 h5 a6 h6 a7 h7 a8 h8 a9 h9 a10 h10 a11 h11 hc0 hc1 hc2 hc3 x0 x1 x2 x3 x4 x5 = s9 x0 x2 x5 := by
  unfold out0_A_9
  rw [View.read_writes_eq_canon _ _ _ (cover0_A_9 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceA10 (hc0 : cond0_0 i) (hc1 : ¬cond0_1 i) (hc2 : cond0_2 i) (hc3 : ¬cond0_3 i) :
    out0_A_10 c i a1 h1 a2 h2 a3 h3 a4 h4 a5 h5 a6 h6 a7 h7 a8 h8 a9 h9 a10 h10 a11 h11 hc0 hc1 hc2 hc3 x0 x1 x2 x3 x4 x5 = s10 x1 x2 x5 := by
  unfold out0_A_10
  rw [View.read_writes_eq_canon _ _ _ (cover0_A_10 c i a1 h1 a2 h2 a3 h3 a4 h4 a5 h5 a6 h6 a7 h7 a8 h8 a9 h9 a10 h10 a11 h11 hc0 hc1 hc2 hc3 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceB6 (hc0 : ¬cond0_0 i) (hc1 : cond0_1 i) (hc2 : ¬cond0_2 i) (hc3 : cond0_3 i) (z9 z10 : Vec F S1x512 .f32) :
    out0_B_6 c i a1 h1 a2 h2 a3 h3 a4 h4 a5 h5 a6 h6 a7 h7 a8 h8 a9 h9 a10 h10 a11 h11 hc0 hc1 hc2 hc3 x0 x1 x2 x3 x4 x5 z9 z10 = s6 x0 x2 x3 x5 := by
  unfold out0_B_6
  rw [View.read_writes_eq_canon _ _ _ (cover0_B_6 c i a1 h1 a2 h2 a3 h3 a4 h4 a5 h5 a6 h6 a7 h7 a8 h8 a9 h9 a10 h10 a11 h11 hc0 hc1 hc2 hc3 x0 x1 x2 x3 x4 x5 z9 z10)]
  unfold kernelRun0_B
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceB7 (hc0 : ¬cond0_0 i) (hc1 : cond0_1 i) (hc2 : ¬cond0_2 i) (hc3 : cond0_3 i) (z9 z10 : Vec F S1x512 .f32) :
    out0_B_7 c i a1 h1 a2 h2 a3 h3 a4 h4 a5 h5 a6 h6 a7 h7 a8 h8 a9 h9 a10 h10 a11 h11 hc0 hc1 hc2 hc3 x0 x1 x2 x3 x4 x5 z9 z10 = s7 x1 x2 x4 x5 := by
  unfold out0_B_7
  rw [View.read_writes_eq_canon _ _ _ (cover0_B_7 c i a1 h1 a2 h2 a3 h3 a4 h4 a5 h5 a6 h6 a7 h7 a8 h8 a9 h9 a10 h10 a11 h11 hc0 hc1 hc2 hc3 x0 x1 x2 x3 x4 x5 z9 z10)]
  unfold kernelRun0_B
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceB8 (hc0 : ¬cond0_0 i) (hc1 : cond0_1 i) (hc2 : ¬cond0_2 i) (hc3 : cond0_3 i) (z9 z10 : Vec F S1x512 .f32) :
    out0_B_8 c i a1 h1 a2 h2 a3 h3 a4 h4 a5 h5 a6 h6 a7 h7 a8 h8 a9 h9 a10 h10 a11 h11 hc0 hc1 hc2 hc3 x0 x1 x2 x3 x4 x5 z9 z10 = s8 x0 x1 x3 x4 := by
  unfold out0_B_8
  rw [View.read_writes_eq_canon _ _ _ (cover0_B_8 c i a1 h1 a2 h2 a3 h3 a4 h4 a5 h5 a6 h6 a7 h7 a8 h8 a9 h9 a10 h10 a11 h11 hc0 hc1 hc2 hc3 x0 x1 x2 x3 x4 x5 z9 z10)]
  unfold kernelRun0_B
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceB9 (hc0 : ¬cond0_0 i) (hc1 : cond0_1 i) (hc2 : ¬cond0_2 i) (hc3 : cond0_3 i) (z9 z10 : Vec F S1x512 .f32) :
    out0_B_9 c i a1 h1 a2 h2 a3 h3 a4 h4 a5 h5 a6 h6 a7 h7 a8 h8 a9 h9 a10 h10 a11 h11 hc0 hc1 hc2 hc3 x0 x1 x2 x3 x4 x5 z9 z10 = plus z9 (s9 x0 x2 x5) := by
  unfold out0_B_9
  rw [View.read_writes_eq_canon _ _ _ (cover0_B_9 c i a1 h1 a2 h2 a3 h3 a4 h4 a5 h5 a6 h6 a7 h7 a8 h8 a9 h9 a10 h10 a11 h11 hc0 hc1 hc2 hc3 x0 x1 x2 x3 x4 x5 z9 z10)]
  unfold kernelRun0_B
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

theorem pieceB10 (hc0 : ¬cond0_0 i) (hc1 : cond0_1 i) (hc2 : ¬cond0_2 i) (hc3 : cond0_3 i) (z9 z10 : Vec F S1x512 .f32) :
    out0_B_10 c i a1 h1 a2 h2 a3 h3 a4 h4 a5 h5 a6 h6 a7 h7 a8 h8 a9 h9 a10 h10 a11 h11 hc0 hc1 hc2 hc3 x0 x1 x2 x3 x4 x5 z9 z10 = plus z10 (s10 x1 x2 x5) := by
  unfold out0_B_10
  rw [View.read_writes_eq_canon _ _ _ (cover0_B_10 c i a1 h1 a2 h2 a3 h3 a4 h4 a5 h5 a6 h6 a7 h7 a8 h8 a9 h9 a10 h10 a11 h11 hc0 hc1 hc2 hc3 x0 x1 x2 x3 x4 x5 z9 z10)]
  unfold kernelRun0_B
  dsimp only
  sl_unfold_words
  rw [View.canon_unit_zero hz]
  simp only [View.readAt_eq_ld, h1.read_unread, h2.read_unread, h3.read_unread, h4.read_unread, h5.read_unread, h6.read_unread, h10.read_unread, h11.read_unread, View.ld_unit_zero (S := S512x512) hz, View.ld_unit_zero (S := S512x1024) hz, View.ld_unit_zero (S := S1x512) hz, View.ld_unit_zero (S := S1024x1024) hz]
  rfl

end Stored

section Entries
variable (x0 x1 : Vec Ideal S512x512 .f32) (x2 : Vec Ideal S512x1024 .f32) (x3 x4 : Vec Ideal S1x512 .f32) (x5 : Vec Ideal S1024x1024 .bf16)

theorem root_at (x : FVec Ideal S512x512 .f32) (p : Fin 512) : k0_pay4 (F := Ideal) x (ix2 p 0) = root (hr x p) := by
  unfold root hr
  pointwise! [k0_pay4]

theorem ownG_at (x : FVec Ideal S512x512 .f32) (g : FVec Ideal S1x512 .f32) (n : FVec Ideal S512x512 .f32) (p k : Fin 512) :
    ownG x g n (ix2 p k) = dx (hr x p) (gh g) (hr n p) k := by
  unfold dx
  rw [← root_at]
  unfold ownG hr gh
  generalize k0_pay4 (F := Ideal) x = r
  pointwise! [k0_pay11]

theorem gainG_at (x n : FVec Ideal S512x512 .f32) (k : Fin 512) : gainG x n (ix2 0 k) = ∑ p, dgain (hr x p) (hr n p) k := by
  refine Eq.trans (b := ∑ p : Fin 512, n (ix2 p k) * x (ix2 p k) * k0_pay4 (F := Ideal) x (ix2 p 0)) ?_ (Finset.sum_congr rfl fun p _ => ?_)
  · unfold gainG
    generalize k0_pay4 (F := Ideal) x = r
    pointwise! [k0_pay12]
  · rw [root_at]
    rfl

theorem both_at (p : Fin 512) (k : Fin 1024) : k0_pay3 (F := Ideal) x2 x5 (ix2 p k) = ∑ j, xr x2 p j * mat x5 k j := by
  unfold xr mat
  pointwise! [k0_pay3]
theorem left_at (p : Fin 512) : hr (k0_pay8 x2 x5) p = leftOf (xr x2 p) (mat x5) := funext fun f => by
  refine Eq.trans (b := k0_pay3 (F := Ideal) x2 x5 (ix2 p (left f))) ?_ (both_at x2 x5 p (left f))
  unfold hr k0_pay8 left
  generalize k0_pay3 (F := Ideal) x2 x5 = z
  pointwise!
theorem right_at (p : Fin 512) : hr (k0_pay13 (k0_pay3 x2 x5)) p = rightOf (xr x2 p) (mat x5) := funext fun f => by
  refine Eq.trans (b := k0_pay3 (F := Ideal) x2 x5 (ix2 p (right f))) ?_ (both_at x2 x5 p (right f))
  unfold hr k0_pay13 right
  generalize k0_pay3 (F := Ideal) x2 x5 = z
  pointwise!

theorem row6 (p k : Fin 512) : s6 x0 x2 x3 x5 (ix2 p k) = dx (hr x0 p) (gh x3) (leftOf (xr x2 p) (mat x5)) k :=
  (ownG_at x0 x3 (k0_pay8 x2 x5) p k).trans (by rw [left_at])
theorem row7 (p k : Fin 512) : s7 x1 x2 x4 x5 (ix2 p k) = dx (hr x1 p) (gh x4) (rightOf (xr x2 p) (mat x5)) k :=
  (ownG_at x1 x4 (k0_pay13 (k0_pay3 x2 x5)) p k).trans (by rw [right_at])
theorem mixed_at (p : Fin 512) (j : Fin 1024) : s8 x0 x1 x3 x4 (ix2 p j) = join (normOf (hr x0 p) (gh x3)) (normOf (hr x1 p) (gh x4)) j := by
  refine (row8 (normG (F := Ideal) x0 x3) (normG (F := Ideal) x1 x4) p j).trans ?_
  rw [normed_row, normed_row]
theorem row9 (k : Fin 512) : s9 x0 x2 x5 (ix2 0 k) = ∑ p, dgain (hr x0 p) (leftOf (xr x2 p) (mat x5)) k :=
  (gainG_at x0 (k0_pay8 x2 x5) k).trans (Finset.sum_congr rfl fun p _ => by rw [left_at])
theorem row10 (k : Fin 512) : s10 x1 x2 x5 (ix2 0 k) = ∑ p, dgain (hr x1 p) (rightOf (xr x2 p) (mat x5)) k :=
  (gainG_at x1 (k0_pay13 (k0_pay3 x2 x5)) k).trans (Finset.sum_congr rfl fun p _ => by rw [right_at])
theorem plus_at (z s : Vec Ideal S1x512 .f32) (k : Fin 512) : plus z s (ix2 0 k) = z (ix2 0 k) + s (ix2 0 k) := by pointwise! [plus]

end Entries

variable (m : (ℓ : Loc nD τ sig) → Buf (Elt Ideal) ℓ)

/-- The arguments. -/
def A0 (c : Dev nD) : Vec Ideal S4096x512 .f32 := m ((c : Thread nD τ).loc main_arg0)
def A1 (c : Dev nD) : Vec Ideal S4096x512 .f32 := m ((c : Thread nD τ).loc main_arg1)
def A2 (c : Dev nD) : Vec Ideal S4096x1024 .f32 := m ((c : Thread nD τ).loc main_arg2)
def A3 (c : Dev nD) : Vec Ideal S1x512 .f32 := m ((c : Thread nD τ).loc main_arg3)
def A4 (c : Dev nD) : Vec Ideal S1x512 .f32 := m ((c : Thread nD τ).loc main_arg4)
def A5 (c : Dev nD) : Vec Ideal S1024x1024 .bf16 := m ((c : Thread nD τ).loc main_arg5)

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = t.val ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = 0 ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)
theorem at8 : ∀ t : Fin cfg0.N, win0_8.index t (0 : Fin 2) = t.val ∧ win0_8.index t (1 : Fin 2) = 0 :=
  (by decide +kernel : ∀ t : Fin grid0.N, _)
theorem at9 : ∀ t : Fin cfg0.N, win0_9.index t (0 : Fin 2) = 0 ∧ win0_9.index t (1 : Fin 2) = 0 :=
  (by decide +kernel : ∀ t : Fin grid0.N, _)
theorem at10 : ∀ t : Fin cfg0.N, win0_10.index t (0 : Fin 2) = 0 ∧ win0_10.index t (1 : Fin 2) = 0 :=
  (by decide +kernel : ∀ t : Fin grid0.N, _)

/-- The blocks of rows that point `t` reads; the other blocks are the whole arguments. -/
theorem x0_at (c : Dev nD) (t : Fin cfg0.N) (p : Fin 512) (k : Fin 512) (h : 512 * t.val + p.val < 4096) :
    (iblk m c 0 t : Vec Ideal S512x512 .f32) (ix2 p k) = A0 m c (ix2 ⟨512 * t.val + p.val, h⟩ k) := by
  unfold A0 iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(at0 t).1]; omega
  | ⟨1, _⟩ => show win0_0.index t 1 * 512 + 1 * k.val = k.val; rw [(at0 t).2]; omega

theorem x1_at (c : Dev nD) (t : Fin cfg0.N) (p : Fin 512) (k : Fin 512) (h : 512 * t.val + p.val < 4096) :
    (iblk m c 1 t : Vec Ideal S512x512 .f32) (ix2 p k) = A1 m c (ix2 ⟨512 * t.val + p.val, h⟩ k) := by
  unfold A1 iblk
  rw [View.read_apply]
  show V m c main_arg1 _ = m (c.tc.loc main_arg1) _
  rw [V_main_arg1]
  congr 1
  funext a
  apply Fin.ext
  match a with
  | ⟨0, _⟩ => show win0_1.index t 0 * 512 + 1 * p.val = 512 * t.val + p.val; rw [(at1 t).1]; omega
  | ⟨1, _⟩ => show win0_1.index t 1 * 512 + 1 * k.val = k.val; rw [(at1 t).2]; omega

theorem x2_at (c : Dev nD) (t : Fin cfg0.N) (p : Fin 512) (k : Fin 1024) (h : 512 * t.val + p.val < 4096) :
    (iblk m c 2 t : Vec Ideal S512x1024 .f32) (ix2 p k) = A2 m c (ix2 ⟨512 * t.val + p.val, h⟩ k) := by
  unfold A2 iblk
  rw [View.read_apply]
  show V m c main_arg2 _ = m (c.tc.loc main_arg2) _
  rw [V_main_arg2]
  congr 1
  funext a
  apply Fin.ext
  match a with
  | ⟨0, _⟩ => show win0_2.index t 0 * 512 + 1 * p.val = 512 * t.val + p.val; rw [(at2 t).1]; omega
  | ⟨1, _⟩ => show win0_2.index t 1 * 1024 + 1 * k.val = k.val; rw [(at2 t).2]; omega

theorem x3_eq (c : Dev nD) (t : Fin cfg0.N) : iblk m c 3 t = A3 m c := by
  funext i
  unfold A3 iblk
  rw [View.read_apply]
  show V m c main_arg3 _ = m (c.tc.loc main_arg3) _
  rw [V_main_arg3]
  congr 1
  funext a
  apply Fin.ext
  match a with
  | ⟨0, _⟩ => show win0_3.index t 0 * 1 + 1 * (i 0).val = (i 0).val; rw [(at3 t).1]; omega
  | ⟨1, _⟩ => show win0_3.index t 1 * 512 + 1 * (i 1).val = (i 1).val; rw [(at3 t).2]; omega

theorem x4_eq (c : Dev nD) (t : Fin cfg0.N) : iblk m c 4 t = A4 m c := by
  funext i
  unfold A4 iblk
  rw [View.read_apply]
  show V m c main_arg4 _ = m (c.tc.loc main_arg4) _
  rw [V_main_arg4]
  congr 1
  funext a
  apply Fin.ext
  match a with
  | ⟨0, _⟩ => show win0_4.index t 0 * 1 + 1 * (i 0).val = (i 0).val; rw [(at4 t).1]; omega
  | ⟨1, _⟩ => show win0_4.index t 1 * 512 + 1 * (i 1).val = (i 1).val; rw [(at4 t).2]; omega

theorem x5_eq (c : Dev nD) (t : Fin cfg0.N) : iblk m c 5 t = A5 m c := by
  funext i
  unfold A5 iblk
  rw [View.read_apply]
  show V m c main_arg5 _ = m (c.tc.loc main_arg5) _
  rw [V_main_arg5]
  congr 1
  funext a
  apply Fin.ext
  match a with
  | ⟨0, _⟩ => show win0_5.index t 0 * 1024 + 1 * (i 0).val = (i 0).val; rw [(at5 t).1]; omega
  | ⟨1, _⟩ => show win0_5.index t 1 * 1024 + 1 * (i 1).val = (i 1).val; rw [(at5 t).2]; omega

theorem lt_N (t : Fin cfg0.N) : t.val < 8 := lt_of_lt_of_eq t.isLt N_0

/-- A row number is a block's number and a row of the block. -/
theorem split (r : Fin 4096) : ∃ (t : Fin cfg0.N) (p : Fin 512) (h : 512 * t.val + p.val < 4096), r = ⟨512 * t.val + p.val, h⟩ :=
  ⟨⟨r.val / 512, by rw [show cfg0.N = 8 from N_0]; omega⟩, ⟨r.val % 512, by omega⟩, by dsimp only; omega, Fin.ext (by dsimp only; omega)⟩

def row (x : Vec Ideal S4096x1024 .f32) (r : Fin 4096) : Fin 1024 → EReal := fun j => x (ix2 r j)
def half (x : Vec Ideal S4096x512 .f32) (r : Fin 4096) : Fin 512 → EReal := fun j => x (ix2 r j)

section Blocks
variable (c : Dev nD) (t : Fin cfg0.N) (p : Fin 512) (h : 512 * t.val + p.val < 4096)
theorem rows0 : hr (iblk m c 0 t) p = half (A0 m c) ⟨512 * t.val + p.val, h⟩ := funext fun j => x0_at m c t p j h
theorem rows1 : hr (iblk m c 1 t) p = half (A1 m c) ⟨512 * t.val + p.val, h⟩ := funext fun j => x1_at m c t p j h
theorem rows2 : xr (iblk m c 2 t) p = row (A2 m c) ⟨512 * t.val + p.val, h⟩ := funext fun j => x2_at m c t p j h
end Blocks

theorem zero_of (t : Fin cfg0.N) (h : t.val % 8 = 0) : ¬1 ≤ t.val := by have := lt_N t; omega
theorem pos_of (t : Fin cfg0.N) (h : ¬t.val % 8 = 0) : 1 ≤ t.val := by omega

theorem block6 (c : Dev nD) (t : Fin cfg0.N) :
    (dats m 0 c).flushed 6 t = (cfg0.win 6).cut (grid0.coords t) (s6 (iblk m c 0 t) (iblk m c 2 t) (A3 m c) (A5 m c)) := by
  by_cases h0 : t.val % 8 = 0
  · refine (flushed6_A m c t h0 (zero_of t h0) h0 (zero_of t h0)).trans ?_
    rw [pieceA6, x3_eq, x5_eq]
  · refine (flushed6_B m c t h0 (pos_of t h0) h0 (pos_of t h0)).trans ?_
    rw [pieceB6, x3_eq, x5_eq]

theorem result6 (c : Dev nD) (r : Fin 4096) (q : Fin 512) :
    ((dats m 0 c).arrAt 6 cfg0.N : Vec Ideal S4096x512 .f32) (ix2 r q)
      = dx (half (A0 m c) r) (gh (A3 m c)) (leftOf (row (A2 m c) r) (mat (A5 m c))) q := by
  obtain ⟨t, p, hr, rfl⟩ := split r
  have h := congrFun ((blocks6 m c t (flush0_6 t)).trans (block6 m c t)) (ix2 p q)
  refine Eq.trans (congrArg ((dats m 0 c).arrAt 6 cfg0.N) (funext fun ax => Fin.ext ?_)) (h.trans ?_)
  · symm
    match ax with
    | ⟨0, _⟩ => show win0_6.index t 0 * 512 + 1 * p.val = 512 * t.val + p.val; rw [(at6 t).1]; omega
    | ⟨1, _⟩ => show win0_6.index t 1 * 512 + 1 * q.val = q.val; rw [(at6 t).2]; omega
  · rw [← rows0 m c t p hr, ← rows2 m c t p hr]
    exact row6 (iblk m c 0 t) (iblk m c 2 t) (A3 m c) (A5 m c) p q

theorem block7 (c : Dev nD) (t : Fin cfg0.N) :
    (dats m 0 c).flushed 7 t = (cfg0.win 7).cut (grid0.coords t) (s7 (iblk m c 1 t) (iblk m c 2 t) (A4 m c) (A5 m c)) := by
  by_cases h0 : t.val % 8 = 0
  · refine (flushed7_A m c t h0 (zero_of t h0) h0 (zero_of t h0)).trans ?_
    rw [pieceA7, x4_eq, x5_eq]
  · refine (flushed7_B m c t h0 (pos_of t h0) h0 (pos_of t h0)).trans ?_
    rw [pieceB7, x4_eq, x5_eq]

theorem result7 (c : Dev nD) (r : Fin 4096) (q : Fin 512) :
    ((dats m 0 c).arrAt 7 cfg0.N : Vec Ideal S4096x512 .f32) (ix2 r q)
      = dx (half (A1 m c) r) (gh (A4 m c)) (rightOf (row (A2 m c) r) (mat (A5 m c))) q := by
  obtain ⟨t, p, hr, rfl⟩ := split r
  have h := congrFun ((blocks7 m c t (flush0_7 t)).trans (block7 m c t)) (ix2 p q)
  refine Eq.trans (congrArg ((dats m 0 c).arrAt 7 cfg0.N) (funext fun ax => Fin.ext ?_)) (h.trans ?_)
  · symm
    match ax with
    | ⟨0, _⟩ => show win0_7.index t 0 * 512 + 1 * p.val = 512 * t.val + p.val; rw [(at7 t).1]; omega
    | ⟨1, _⟩ => show win0_7.index t 1 * 512 + 1 * q.val = q.val; rw [(at7 t).2]; omega
  · rw [← rows1 m c t p hr, ← rows2 m c t p hr]
    exact row7 (iblk m c 1 t) (iblk m c 2 t) (A4 m c) (A5 m c) p q

theorem block8 (c : Dev nD) (t : Fin cfg0.N) :
    (dats m 0 c).flushed 8 t = (cfg0.win 8).cut (grid0.coords t) (s8 (iblk m c 0 t) (iblk m c 1 t) (A3 m c) (A4 m c)) := by
  by_cases h0 : t.val % 8 = 0
  · refine (flushed8_A m c t h0 (zero_of t h0) h0 (zero_of t h0)).trans ?_
    rw [pieceA8, x3_eq, x4_eq]
  · refine (flushed8_B m c t h0 (pos_of t h0) h0 (pos_of t h0)).trans ?_
    rw [pieceB8, x3_eq, x4_eq]

theorem result8 (c : Dev nD) (r : Fin 4096) (q : Fin 1024) :
    ((dats m 0 c).arrAt 8 cfg0.N : Vec Ideal S4096x1024 .bf16) (ix2 r q)
      = join (normOf (half (A0 m c) r) (gh (A3 m c))) (normOf (half (A1 m c) r) (gh (A4 m c))) q := by
  obtain ⟨t, p, hr, rfl⟩ := split r
  have h := congrFun ((blocks8 m c t (flush0_8 t)).trans (block8 m c t)) (ix2 p q)
  refine Eq.trans (congrArg ((dats m 0 c).arrAt 8 cfg0.N) (funext fun ax => Fin.ext ?_)) (h.trans ?_)
  · symm
    match ax with
    | ⟨0, _⟩ => show win0_8.index t 0 * 512 + 1 * p.val = 512 * t.val + p.val; rw [(at8 t).1]; omega
    | ⟨1, _⟩ => show win0_8.index t 1 * 1024 + 1 * q.val = q.val; rw [(at8 t).2]; omega
  · rw [← rows0 m c t p hr, ← rows1 m c t p hr]
    exact mixed_at (iblk m c 0 t) (iblk m c 1 t) (A3 m c) (A4 m c) p q

/-- A row's shares of the gradients with respect to the gains. -/
def shareA (c : Dev nD) (k : Fin 512) (r : Fin 4096) : EReal := dgain (half (A0 m c) r) (leftOf (row (A2 m c) r) (mat (A5 m c))) k
def shareS (c : Dev nD) (k : Fin 512) (r : Fin 4096) : EReal := dgain (half (A1 m c) r) (rightOf (row (A2 m c) r) (mat (A5 m c))) k

theorem part_of (f : Fin 4096 → EReal) (t : Fin cfg0.N) (w : Fin 512 → EReal)
    (hw : ∀ (p : Fin 512) (h : 512 * t.val + p.val < 4096), w p = f ⟨512 * t.val + p.val, h⟩) : ∑ p, w p = part f t.val := by
  refine Finset.sum_congr rfl fun p _ => ?_
  have hr : 512 * t.val + p.val < 4096 := by have := lt_N t; omega
  rw [dif_pos hr]
  exact hw p hr

theorem parts_to (t : Fin cfg0.N) (ht : t.val = 7) (f : Fin 4096 → EReal) : ∑ l ∈ Finset.range (t.val + 1), part f l = ∑ r, f r := by
  rw [ht]
  exact parts f

theorem part9 (c : Dev nD) (t : Fin cfg0.N) (k : Fin 512) :
    s9 (iblk m c 0 t) (iblk m c 2 t) (A5 m c) (ix2 0 k) = part (shareA m c k) t.val :=
  (row9 (iblk m c 0 t) (iblk m c 2 t) (A5 m c) k).trans (part_of _ t _ fun p hr => by
    rw [rows0 m c t p hr, rows2 m c t p hr]
    rfl)
theorem part10 (c : Dev nD) (t : Fin cfg0.N) (k : Fin 512) :
    s10 (iblk m c 1 t) (iblk m c 2 t) (A5 m c) (ix2 0 k) = part (shareS m c k) t.val :=
  (row10 (iblk m c 1 t) (iblk m c 2 t) (A5 m c) k).trans (part_of _ t _ fun p hr => by
    rw [rows1 m c t p hr, rows2 m c t p hr]
    rfl)

/-- After a point, the running sums are those of the blocks so far. -/
theorem running (c : Dev nD) (k : Fin 512) : ∀ (n : ℕ) (h : n < cfg0.N),
    (outsAt0 m c n h).2.2.2.1 (ix2 0 k) = ∑ t ∈ Finset.range (n + 1), part (shareA m c k) t
      ∧ (outsAt0 m c n h).2.2.2.2 (ix2 0 k) = ∑ t ∈ Finset.range (n + 1), part (shareS m c k) t
  | 0, h => by
    rw [outsAt0_A m c ⟨0, h⟩ (Nat.zero_mod _) (by dsimp only; omega) (Nat.zero_mod _) (by dsimp only; omega)]
    dsimp only
    rw [pieceA9, pieceA10, x5_eq, Finset.sum_range_one, Finset.sum_range_one]
    exact ⟨part9 m c ⟨0, h⟩ k, part10 m c ⟨0, h⟩ k⟩
  | n + 1, h => by
    have hN : n + 1 < 8 := lt_N ⟨n + 1, h⟩
    rw [outsAt0_B m c ⟨n + 1, h⟩ (by dsimp only; omega) (by dsimp only; omega) (by dsimp only; omega) (by dsimp only; omega)]
    dsimp only
    rw [pieceB9, pieceB10, x5_eq]
    obtain ⟨i9, i10⟩ := running c k n (Nat.lt_of_succ_lt h)
    exact ⟨((plus_at _ _ k).trans (congrArg₂ (· + ·) i9 (part9 m c ⟨n + 1, h⟩ k))).trans (Finset.sum_range_succ _ _).symm,
      ((plus_at _ _ k).trans (congrArg₂ (· + ·) i10 (part10 m c ⟨n + 1, h⟩ k))).trans (Finset.sum_range_succ _ _).symm⟩

theorem last_only9 : ∀ t t' : Fin cfg0.N, (cfg0.win 9).flush t = true → (cfg0.win 9).flush t' = true → t ≠ t' →
    Disjoint ((cfg0.win 9).blk t).view.set ((cfg0.win 9).blk t').view.set := fun t t' h h' hne =>
  absurd (Fin.ext (by have := (flush0_9 t).mp h; have := (flush0_9 t').mp h'; have := lt_N t; have := lt_N t'; omega)) hne

theorem whole9 (c : Dev nD) (t : Fin cfg0.N) (k : Fin 512) :
    (dats m 0 c).flushed 9 t (ix2 0 k) = (outsAt0 m c t.val t.isLt).2.2.2.1 (ix2 0 k) := congrFun (flushed9 m c t) _

theorem result9 (c : Dev nD) (k : Fin 512) :
    ((dats m 0 c).arrAt 9 cfg0.N : Vec Ideal S1x512 .f32) (ix2 0 k) = ∑ r, shareA m c k r := by
  obtain ⟨t, ht⟩ : ∃ t : Fin cfg0.N, t.val = 7 := ⟨⟨7, by rw [show cfg0.N = 8 from N_0]; omega⟩, rfl⟩
  have h := (congrFun ((dats m 0 c).read_blk_arrAt_eq_flushed 9 last_only9 cfg0.N t t.isLt ((flush0_9 t).mpr (by rw [ht]))) (ix2 0 k)).trans
    ((whole9 m c t k).trans ((running m c k t.val t.isLt).1.trans (parts_to t ht (shareA m c k))))
  refine Eq.trans (congrArg ((dats m 0 c).arrAt 9 cfg0.N) (funext fun ax => Fin.ext ?_)) h
  symm
  match ax with
  | ⟨0, _⟩ => show win0_9.index t 0 * 1 + 1 * 0 = 0; rw [(at9 t).1]
  | ⟨1, _⟩ => show win0_9.index t 1 * 512 + 1 * k.val = k.val; rw [(at9 t).2]; omega

theorem last_only10 : ∀ t t' : Fin cfg0.N, (cfg0.win 10).flush t = true → (cfg0.win 10).flush t' = true → t ≠ t' →
    Disjoint ((cfg0.win 10).blk t).view.set ((cfg0.win 10).blk t').view.set := fun t t' h h' hne =>
  absurd (Fin.ext (by have := (flush0_10 t).mp h; have := (flush0_10 t').mp h'; have := lt_N t; have := lt_N t'; omega)) hne

theorem whole10 (c : Dev nD) (t : Fin cfg0.N) (k : Fin 512) :
    (dats m 0 c).flushed 10 t (ix2 0 k) = (outsAt0 m c t.val t.isLt).2.2.2.2 (ix2 0 k) := congrFun (flushed10 m c t) _

theorem result10 (c : Dev nD) (k : Fin 512) :
    ((dats m 0 c).arrAt 10 cfg0.N : Vec Ideal S1x512 .f32) (ix2 0 k) = ∑ r, shareS m c k r := by
  obtain ⟨t, ht⟩ : ∃ t : Fin cfg0.N, t.val = 7 := ⟨⟨7, by rw [show cfg0.N = 8 from N_0]; omega⟩, rfl⟩
  have h := (congrFun ((dats m 0 c).read_blk_arrAt_eq_flushed 10 last_only10 cfg0.N t t.isLt ((flush0_10 t).mpr (by rw [ht]))) (ix2 0 k)).trans
    ((whole10 m c t k).trans ((running m c k t.val t.isLt).2.trans (parts_to t ht (shareS m c k))))
  refine Eq.trans (congrArg ((dats m 0 c).arrAt 10 cfg0.N) (funext fun ax => Fin.ext ?_)) h
  symm
  match ax with
  | ⟨0, _⟩ => show win0_10.index t 0 * 1 + 1 * 0 = 0; rw [(at10 t).1]
  | ⟨1, _⟩ => show win0_10.index t 1 * 512 + 1 * k.val = k.val; rw [(at10 t).2]; omega

end Cert.Kernel14Ideal.MixOutBwd

namespace Cert.Reference14Ideal.MixOutBwd

open Cert.Reference14Ideal Cert.Reference14Ideal.Gen
open Idealize.ShloMosaic Idealize.ShloMosaic.TcCoe Idealize.ShloMosaic.Tactic Idealize.SL.Sem Idealize.ShloMosaic.StableHlo
open Cert.Reference8Ideal.XattnBwd (mat row normGrad normGrad_at)
open Cert.Reference10Ideal.MixIn (leftOf leftOf_at rightOf rightOf_at)
open Cert.Reference11Ideal.MixInBwd (both both_at half)
open Cert.Reference13Ideal.MixOut (halfNormed normed_row gh)
open Cert.MixOut (root normOf)
open Cert.MixOutBwd (mean dx dxBy dx_eq pull dgain)
open Cert.MixInBwd (join)

section Terms
variable (x d : FVec Ideal S4096x512 .f32) (g : FVec Ideal S1x512 .f32)

/-- The reference's stages. -/
def means : FVec Ideal S4096x1 .f32 :=
  addf (Host.divf (broadcastInDim S4096x1 ![0] bcast_S4096_S4096x1_0 (Host.reduceAdd (mulf x x) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32))
def roots : FVec Ideal S4096x512 .f32 := broadcastInDim S4096x512 ![0, 1] bcast_S4096x1_S4096x512_0_1 (Host.rsqrt (means x))
def gains : FVec Ideal S4096x512 .f32 := broadcastInDim S4096x512 ![0, 1] bcast_S1x512_S4096x512_0_1 g
def pulls : FVec Ideal S4096x1 .f32 :=
  Host.divf (mulf (shapeCast _ (Host.reduceAdd (mulf x (mulf d (gains g))) (constant S_ .f32 0x00000000#32) reducesTo_S4096x512_S4096_d1 h_S_) shapeCasts_S4096_S4096x1)
    (mulf (broadcastInDim S4096x1 ![] bcast_S_S4096x1 (constant S_ .f32 0xBF000000#32)) (Host.divf (Host.rsqrt (means x)) (means x)))) (broadcastInDim S4096x1 ![] bcast_S_S4096x1 (constant S_ .f32 0x44000000#32))
def pulled : FVec Ideal S4096x512 .f32 :=
  broadcastInDim S4096x512 ![0] bcast_S4096_S4096x512_0 (Host.reduceAdd (pulls x d g) (constant S_ .f32 0x00000000#32) reducesTo_S4096x1_S4096_d1 h_S_)
def ownGrad : FVec Ideal S4096x512 .f32 := addf (addf (mulf (mulf d (gains g)) (roots x)) (mulf x (pulled x d g))) (mulf (pulled x d g) x)
def gainGrad : FVec Ideal S1x512 .f32 :=
  shapeCast _ (Host.reduceAdd (mulf (mulf x (roots x)) d) (constant S_ .f32 0x00000000#32) reducesTo_S4096x512_S512_d0 h_S_) shapeCasts_S512_S1x512

theorem means_at (r : Fin 4096) : means x (ix2 r 0) = mean (half x r) := by
  unfold mean half
  pointwise! [means]
theorem roots_at (r : Fin 4096) (k : Fin 512) : roots x (ix2 r k) = root (half x r) := by
  refine Eq.trans (b := Ideal.rsqrt (means x (ix2 r 0))) (by unfold roots; generalize means x = z; pointwise!) ?_
  rw [means_at]
  rfl
theorem gains_at (r : Fin 4096) (k : Fin 512) : gains g (ix2 r k) = gh g k := by
  unfold gh
  pointwise! [gains]
theorem pulls_at (r : Fin 4096) : pulls x d g (ix2 r 0) = pull (half x r) (gh g) (half d r) := by
  refine Eq.trans (b := Ideal.div ((∑ j : Fin 512, x (ix2 r j) * (d (ix2 r j) * gains g (ix2 r j)))
    * (Ideal.ofBits FTy.f32 0xBF000000#32 * Ideal.div (Ideal.rsqrt (means x (ix2 r 0))) (means x (ix2 r 0)))) (Ideal.ofBits FTy.f32 0x44000000#32))
    (by unfold pulls; generalize means x = z; generalize gains g = y; pointwise!) ?_
  rw [means_at]
  refine congrArg (Ideal.div · _) (Ideal.mul_congr (Finset.sum_congr rfl fun j _ => ?_) rfl)
  rw [gains_at]
  rfl
theorem pulled_at (r : Fin 4096) (q : Fin 512) : pulled x d g (ix2 r q) = pull (half x r) (gh g) (half d r) := by
  refine Eq.trans (b := ∑ j : Fin 1, pulls x d g (ix2 r j)) (by unfold pulled; generalize pulls x d g = z; pointwise!) ?_
  rw [Fin.sum_univ_one]
  exact pulls_at x d g r

theorem ownGrad_at (r : Fin 4096) (q : Fin 512) : ownGrad x d g (ix2 r q) = dx (half x r) (gh g) (half d r) q := by
  rw [← dx_eq]
  refine Eq.trans (b := d (ix2 r q) * gains g (ix2 r q) * roots x (ix2 r q) + x (ix2 r q) * pulled x d g (ix2 r q) + pulled x d g (ix2 r q) * x (ix2 r q))
    (by unfold ownGrad; generalize gains g = a; generalize roots x = b; generalize pulled x d g = e; pointwise!) ?_
  rw [gains_at, roots_at, pulled_at]
  rfl

theorem gainGrad_at (k : Fin 512) : gainGrad x d (ix2 0 k) = ∑ r, dgain (half x r) (half d r) k := by
  refine Eq.trans (b := ∑ r : Fin 4096, x (ix2 r k) * roots x (ix2 r k) * d (ix2 r k)) (by unfold gainGrad; generalize roots x = z; pointwise!) ?_
  refine Finset.sum_congr rfl fun r _ => ?_
  rw [roots_at]
  unfold dgain
  rw [mul_assoc (half d r k), mul_comm]
  rfl

variable (a b : FVec Ideal S4096x512 .f32) (dy : FVec Ideal S4096x1024 .f32) (ga gb : FVec Ideal S1x512 .f32) (w : FVec Ideal S1024x1024 .bf16)

def mixed : FVec Ideal S4096x1024 .bf16 := truncf .bf16 (both (halfNormed a ga) (halfNormed b gb)) bitsLt_bf16_f32

theorem left_row (r : Fin 4096) : half (leftOf (normGrad w dy)) r = Cert.MixOutBwd.leftOf (row dy r) (mat w) :=
  funext fun f => (leftOf_at _ r f).trans (normGrad_at w dy r _)
theorem right_row (r : Fin 4096) : half (rightOf (normGrad w dy)) r = Cert.MixOutBwd.rightOf (row dy r) (mat w) :=
  funext fun f => (rightOf_at _ r f).trans (normGrad_at w dy r _)
theorem mixed_at (r : Fin 4096) (j : Fin 1024) : mixed a b ga gb (ix2 r j) = join (normOf (half a r) (gh ga)) (normOf (half b r) (gh gb)) j := by
  refine Eq.trans (b := both (halfNormed a ga) (halfNormed b gb) (ix2 r j)) (by unfold mixed; generalize both (halfNormed a ga) (halfNormed b gb) = z; pointwise!) ?_
  rw [both_at, normed_row, normed_row]

end Terms

theorem left_eq (m : (ℓ : Loc nD τ sig) → Buf (Elt Ideal) ℓ) (c : Dev nD) : Value.res_main_v73 m c
    = ownGrad (m ((c.tc : Thread nD τ).loc main_arg0)) (leftOf (normGrad (m ((c.tc : Thread nD τ).loc main_arg5)) (m ((c.tc : Thread nD τ).loc main_arg2)))) (m ((c.tc : Thread nD τ).loc main_arg3)) := rfl
theorem right_eq (m : (ℓ : Loc nD τ sig) → Buf (Elt Ideal) ℓ) (c : Dev nD) : Value.res_main_v54 m c
    = ownGrad (m ((c.tc : Thread nD τ).loc main_arg1)) (rightOf (normGrad (m ((c.tc : Thread nD τ).loc main_arg5)) (m ((c.tc : Thread nD τ).loc main_arg2)))) (m ((c.tc : Thread nD τ).loc main_arg4)) := rfl

theorem quiet : Cert.quiescent_Reference14Ideal (hReference14Ideal := Gen.facts) :=
  fun m ρ _ => (θ_run defs _ _).mono
    (fun r h => ⟨fun c => (h c).2.2.2.2.2, Idealize.ShloMosaic.sem_eq_zero_of_no_sems (by decide) r.2⟩) (Value.run m ρ)

end Cert.Reference14Ideal.MixOutBwd

namespace Cert.MixOutBwd

open Idealize.ShloMosaic Idealize.ShloMosaic.TcCoe Idealize.SL.Sem
open Cert.Kernel14Ideal.Gen (dats)
open Cert.Reference14Ideal.MixOutBwd (left_eq right_eq ownGrad_at gainGrad_at mixed_at left_row right_row)
open Cert.Kernel14Ideal.MixOutBwd (A0 A1 A2 A5 shareA shareS)
open Cert.Reference8Ideal.XattnBwd (normGrad)

section Same
variable (m : (ℓ : Loc Cert.Kernel14Ideal.nD Cert.Kernel14Ideal.τ Cert.Kernel14Ideal.sig) → Buf (Elt Ideal) ℓ) (c : Dev Cert.Kernel14Ideal.nD)
theorem sumA_eq (k : Fin 512) : Cert.Reference14Ideal.MixOutBwd.gainGrad (A0 m c) (Cert.Reference10Ideal.MixIn.leftOf (normGrad (A5 m c) (A2 m c))) (ix2 0 k) = ∑ r, shareA m c k r :=
  (gainGrad_at _ _ k).trans (Finset.sum_congr rfl fun r _ => by
    rw [left_row]
    rfl)
theorem sumS_eq (k : Fin 512) : Cert.Reference14Ideal.MixOutBwd.gainGrad (A1 m c) (Cert.Reference10Ideal.MixIn.rightOf (normGrad (A5 m c) (A2 m c))) (ix2 0 k) = ∑ r, shareS m c k r :=
  (gainGrad_at _ _ k).trans (Finset.sum_congr rfl fun r _ => by
    rw [right_row]
    rfl)
end Same

/-- The call's five results are the reference's. -/
theorem values : Cert.algebraic_Kernel14Ideal_Reference14Ideal (hKernel14Ideal := Cert.Kernel14Ideal.Gen.facts)
    (hReference14Ideal := Cert.Reference14Ideal.Gen.facts) := by
  intro m ρ m' ρ' _ hag
  refine ⟨fun c => (dats m 0 c).arrAt 6 Cert.Kernel14Ideal.cfg0.N, fun c => (dats m 0 c).arrAt 7 Cert.Kernel14Ideal.cfg0.N,
    fun c => (dats m 0 c).arrAt 8 Cert.Kernel14Ideal.cfg0.N, fun c => (dats m 0 c).arrAt 9 Cert.Kernel14Ideal.cfg0.N,
    fun c => (dats m 0 c).arrAt 10 Cert.Kernel14Ideal.cfg0.N, Cert.Kernel14Ideal.Value.run_blocks m ρ, ?_⟩
  refine (θ_run Cert.Reference14Ideal.defs _ _).mono (fun r h c => ?_) (Cert.Reference14Ideal.Value.run m' ρ')
  obtain ⟨g0, g1, g2, g3, g4, g5⟩ := hag c
  obtain ⟨h0, h1, h2, h3, h4, hk⟩ := h c
  refine ⟨h0.trans ?_, h1.trans ?_, h2.trans ?_, h3.trans ?_, h4.trans ?_, hk⟩
  · rw [left_eq, g0, g2, g3, g5]
    funext i
    obtain ⟨p, q, rfl⟩ : ∃ (p : Fin 4096) (q : Fin 512), i = ix2 p q := ⟨i 0, i 1, eq_ix2 i⟩
    refine (ownGrad_at _ _ _ p q).trans ((Cert.Kernel14Ideal.MixOutBwd.result6 m c p q).trans ?_).symm
    rw [left_row]
    rfl
  · rw [right_eq, g1, g2, g4, g5]
    funext i
    obtain ⟨p, q, rfl⟩ : ∃ (p : Fin 4096) (q : Fin 512), i = ix2 p q := ⟨i 0, i 1, eq_ix2 i⟩
    refine (ownGrad_at _ _ _ p q).trans ((Cert.Kernel14Ideal.MixOutBwd.result7 m c p q).trans ?_).symm
    rw [right_row]
    rfl
  · rw [g0, g1, g3, g4]
    funext i
    obtain ⟨p, q, rfl⟩ : ∃ (p : Fin 4096) (q : Fin 1024), i = ix2 p q := ⟨i 0, i 1, eq_ix2 i⟩
    exact (mixed_at _ _ _ _ p q).trans (Cert.Kernel14Ideal.MixOutBwd.result8 m c p q).symm
  · rw [g0, g2, g5]
    funext i
    obtain ⟨p, q, rfl⟩ : ∃ (p : Fin 1) (q : Fin 512), i = ix2 p q := ⟨i 0, i 1, eq_ix2 i⟩
    obtain rfl : p = 0 := Subsingleton.elim _ _
    exact (sumA_eq m c q).trans (Cert.Kernel14Ideal.MixOutBwd.result9 m c q).symm
  · rw [g1, g2, g5]
    funext i
    obtain ⟨p, q, rfl⟩ : ∃ (p : Fin 1) (q : Fin 512), i = ix2 p q := ⟨i 0, i 1, eq_ix2 i⟩
    obtain rfl : p = 0 := Subsingleton.elim _ _
    exact (sumS_eq m c q).trans (Cert.Kernel14Ideal.MixOutBwd.result10 m c q).symm

end Cert.MixOutBwd

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RStepRun
public import proofs.«01_k».proof.Proof.KFrame
public import proofs.«01_k».proof.Proof.Same
public import proofs.«01_k».proof.Proof.KValue
public import proofs.«01_k».proof.Proof.Final
public import proofs.«01_k».proof.Proof.FfnBwd
public import proofs.«01_k».proof.Proof.Gen.Kernel2.Frame
public import proofs.«01_k».proof.Proof.Gen.Kernel2Ideal.Frame
public import proofs.«01_k».proof.Proof.GateW
public import proofs.«01_k».proof.Proof.Gen.Kernel3.Frame
public import proofs.«01_k».proof.Proof.Gen.Kernel3Ideal.Frame
public import proofs.«01_k».proof.Proof.DownW
public import proofs.«01_k».proof.Proof.Gen.Kernel4.Frame
public import proofs.«01_k».proof.Proof.Gen.Kernel4Ideal.Frame
public import proofs.«01_k».proof.Proof.SquareW
public import proofs.«01_k».proof.Proof.Gen.Kernel5.Frame
public import proofs.«01_k».proof.Proof.Gen.Kernel5Ideal.Frame
public import proofs.«01_k».proof.Proof.Ffn
public import proofs.«01_k».proof.Proof.Gen.Kernel6.Frame
public import proofs.«01_k».proof.Proof.Gen.Kernel6Ideal.Frame
public import proofs.«01_k».proof.Proof.OutW
public import proofs.«01_k».proof.Proof.Gen.Kernel7.Frame
public import proofs.«01_k».proof.Proof.Gen.Kernel7Ideal.Frame
public import proofs.«01_k».proof.Proof.XattnBwd
public import proofs.«01_k».proof.Proof.Gen.Kernel8.Frame
public import proofs.«01_k».proof.Proof.Gen.Kernel8Ideal.Frame
public import proofs.«01_k».proof.Proof.Xattn
public import proofs.«01_k».proof.Proof.Gen.Kernel9.Frame
public import proofs.«01_k».proof.Proof.Gen.Kernel9Ideal.Frame
public import proofs.«01_k».proof.Proof.MixIn
public import proofs.«01_k».proof.Proof.Gen.Kernel10.Frame
public import proofs.«01_k».proof.Proof.Gen.Kernel10Ideal.Frame
public import proofs.«01_k».proof.Proof.MixInBwd
public import proofs.«01_k».proof.Proof.Gen.Kernel11.Frame
public import proofs.«01_k».proof.Proof.Gen.Kernel11Ideal.Frame
public import proofs.«01_k».proof.Proof.Loss
public import proofs.«01_k».proof.Proof.Gen.Kernel12.Frame
public import proofs.«01_k».proof.Proof.Gen.Kernel12Ideal.Frame
public import proofs.«01_k».proof.Proof.MixOut
public import proofs.«01_k».proof.Proof.Gen.Kernel13.Frame
public import proofs.«01_k».proof.Proof.Gen.Kernel13Ideal.Frame
public import proofs.«01_k».proof.Proof.MixOutBwd
public import proofs.«01_k».proof.Proof.Gen.Kernel14.Frame
public import proofs.«01_k».proof.Proof.Gen.Kernel14Ideal.Frame
public import Idealize.ShloMosaic.Lib.Quiescent
public import Idealize.ShloMosaic.Adequacy
public import Idealize.ShloMosaic.Init

@[expose] public section

/- The claim: the three programs run and leave their arguments and semaphores as they were, and the
   kernel's two results are the reference's, element by element, over the extended reals. -/

noncomputable section

namespace Cert.Proof

open Idealize.ShloMosaic Idealize.SL.Sem

attribute [local instance] Cert.Pre_finite.facts

/-- The precondition makes every entry of the six arguments the results read a real number. -/
theorem finite_of (m : (ℓ : Loc Cert.KernelIdeal.nD Cert.KernelIdeal.τ Cert.KernelIdeal.sig) → Buf (Elt Ideal) ℓ)
    (c : Dev Cert.KernelIdeal.nD)
    (h : Cert.Pre_KernelIdeal_finite (hPre_finite := Cert.Pre_finite.facts) m) :
    Cert.KernelIdeal.Scan.Finite m c :=
  ⟨fun i => Cert.Pre_finite.real0 _ _ _ _ _ _ _ _ (h c).1 i,
    fun i => Cert.Pre_finite.real1 _ _ _ _ _ _ _ _ (h c).2.1 i,
    fun i => Cert.Pre_finite.real2 _ _ _ _ _ _ _ _ (h c).2.2.1 i,
    fun i => Cert.Pre_finite.real3 _ _ _ _ _ _ _ _ (h c).2.2.2.1 i,
    fun i => Cert.Pre_finite.real6 _ _ _ _ _ _ _ _ (h c).2.2.2.2.1 i,
    fun i => Cert.Pre_finite.real7 _ _ _ _ _ _ _ _ (h c).2.2.2.2.2 i⟩

theorem reference_quiet : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run m ρ)

open Cert.KernelIdeal.Scan in
theorem first_eq (m : (ℓ : Loc Cert.KernelIdeal.nD Cert.KernelIdeal.τ Cert.KernelIdeal.sig) → Buf (Elt Ideal) ℓ)
    (c : Dev Cert.KernelIdeal.nD) (hf : Finite m c) :
    Cert.ReferenceIdeal.RStep.R_main_v31 (Cert.ReferenceIdeal.Scan.refIter (X0 m c) (X1 m c) (X2 m c) (X3 m c) (X6 m c) (X7 m c) 4096)
      = (dats m 0 c).arrAt 5 Cert.KernelIdeal.cfg0.N :=
  funext fun i => by
    obtain ⟨q, r, l, rfl⟩ : ∃ (q : Fin 16) (r : Fin 4096) (l : Fin 128), i = ix3 q r l := ⟨i 0, i 1, i 2, eq_ix3 i⟩
    exact (results_at m c hf q r l).1

open Cert.KernelIdeal.Scan in
theorem second_eq (m : (ℓ : Loc Cert.KernelIdeal.nD Cert.KernelIdeal.τ Cert.KernelIdeal.sig) → Buf (Elt Ideal) ℓ)
    (c : Dev Cert.KernelIdeal.nD) (hf : Finite m c) :
    Cert.ReferenceIdeal.RStep.R_main_v35 (Cert.ReferenceIdeal.Scan.refIter (X0 m c) (X1 m c) (X2 m c) (X3 m c) (X6 m c) (X7 m c) 4096)
      = (dats m 0 c).arrAt 6 Cert.KernelIdeal.cfg0.N :=
  funext fun i => by
    obtain ⟨q, r, l, rfl⟩ : ∃ (q : Fin 16) (r : Fin 4096) (l : Fin 128), i = ix3 q r l := ⟨i 0, i 1, i 2, eq_ix3 i⟩
    exact (results_at m c hf q r l).2

open Cert.KernelIdeal.Scan in
theorem values : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m ρ m' ρ' hpre hag
  refine ⟨fun c => (dats m 0 c).arrAt 5 Cert.KernelIdeal.cfg0.N, fun c => (dats m 0 c).arrAt 6 Cert.KernelIdeal.cfg0.N,
    run_blocks m ρ, ?_⟩
  refine (θ_run Cert.ReferenceIdeal.defs _ _).mono (fun r h c => ?_)
    (Cert.ReferenceIdeal.RStepRun.run_iter m' ρ'
      (fun c => Cert.ReferenceIdeal.Scan.refIter (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)))
      (fun _ => rfl) (fun _ _ => rfl))
  obtain ⟨g0, g1, g2, g3, -, -, g6, g7⟩ := hag c
  obtain ⟨h0, h1, hk⟩ := h c
  refine ⟨h0.trans ?_, h1.trans ?_, hk⟩
  · rw [g0, g1, g2, g3, g6, g7]
    exact first_eq m c (finite_of m c hpre)
  · rw [g0, g1, g2, g3, g6, g7]
    exact second_eq m c (finite_of m c hpre)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite.facts, Cert.Pre_finite2.facts, Cert.Pre_finite8.facts,
    kernel_quiet,
    fun m ρ _ => Cert.KernelIdeal.Scan.frame m ρ,
    fun m ρ _ => Cert.KernelIdeal.Scan.frame m ρ,
    reference_quiet,
    fun m ρ _ => reference_quiet m ρ trivial,
    fun m ρ _ => Cert.Kernel2.Gen.frame m ρ,
    fun m ρ _ => Cert.Kernel2Ideal.Gen.frame m ρ,
    fun m ρ _ => Cert.Kernel2Ideal.Gen.frame m ρ,
    Cert.Reference2Ideal.FfnBwd.quiet,
    fun m ρ _ => Cert.Reference2Ideal.FfnBwd.quiet m ρ trivial,
    fun m ρ _ => Cert.Kernel3.Gen.frame m ρ,
    fun m ρ _ => Cert.Kernel3Ideal.Gen.frame m ρ,
    Cert.Reference3Ideal.GateW.quiet,
    fun m ρ _ => Cert.Kernel4.Gen.frame m ρ,
    fun m ρ _ => Cert.Kernel4Ideal.Gen.frame m ρ,
    Cert.Reference4Ideal.DownW.quiet,
    fun m ρ _ => Cert.Kernel5.Gen.frame m ρ,
    fun m ρ _ => Cert.Kernel5Ideal.Gen.frame m ρ,
    Cert.Reference5Ideal.SquareW.quiet,
    fun m ρ _ => Cert.Kernel6.Gen.frame m ρ,
    fun m ρ _ => Cert.Kernel6Ideal.Gen.frame m ρ,
    Cert.Reference6Ideal.Ffn.quiet,
    fun m ρ _ => Cert.Kernel7.Gen.frame m ρ,
    fun m ρ _ => Cert.Kernel7Ideal.Gen.frame m ρ,
    Cert.Reference7Ideal.OutW.quiet,
    fun m ρ _ => Cert.Kernel8.Gen.frame m ρ,
    fun m ρ _ => Cert.Kernel8Ideal.Gen.frame m ρ,
    fun m ρ _ => Cert.Kernel8Ideal.Gen.frame m ρ,
    Cert.Reference8Ideal.XattnBwd.quiet,
    fun m ρ _ => Cert.Reference8Ideal.XattnBwd.quiet m ρ trivial,
    fun m ρ _ => Cert.Kernel9.Gen.frame m ρ,
    fun m ρ _ => Cert.Kernel9Ideal.Gen.frame m ρ,
    Cert.Reference9Ideal.Xattn.quiet,
    fun m ρ _ => Cert.Kernel10.Gen.frame m ρ,
    fun m ρ _ => Cert.Kernel10Ideal.Gen.frame m ρ,
    Cert.Reference10Ideal.MixIn.quiet,
    fun m ρ _ => Cert.Kernel11.Gen.frame m ρ,
    fun m ρ _ => Cert.Kernel11Ideal.Gen.frame m ρ,
    Cert.Reference11Ideal.MixInBwd.quiet,
    fun m ρ _ => Cert.Kernel12.Gen.frame m ρ,
    fun m ρ _ => Cert.Kernel12Ideal.Gen.frame m ρ,
    Cert.Reference12Ideal.Loss.quiet,
    fun m ρ _ => Cert.Kernel13.Gen.frame m ρ,
    fun m ρ _ => Cert.Kernel13Ideal.Gen.frame m ρ,
    Cert.Reference13Ideal.MixOut.quiet,
    fun m ρ _ => Cert.Kernel14.Gen.frame m ρ,
    fun m ρ _ => Cert.Kernel14Ideal.Gen.frame m ρ,
    Cert.Reference14Ideal.MixOutBwd.quiet,
    trivial,
    values,
    trivial,
    Cert.FfnBwd.values,
    trivial,
    Cert.GateW.values,
    trivial,
    Cert.DownW.values,
    trivial,
    Cert.SquareW.values,
    trivial,
    Cert.Ffn.values,
    trivial,
    Cert.OutW.values,
    trivial,
    Cert.XattnBwd.values,
    trivial,
    Cert.Xattn.values,
    trivial,
    Cert.MixIn.values,
    trivial,
    Cert.MixInBwd.values,
    trivial,
    Cert.Loss.values,
    trivial,
    Cert.MixOut.values,
    trivial,
    Cert.MixOutBwd.values⟩

end Cert.Proof

end
